-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)) (v3 : (c : Dev Cert.KernelIdeal.nD) → Buf (Elt Ideal) ((c.tc : Thread Cert.KernelIdeal.nD Cert.KernelIdeal.τ).loc Cert.KernelIdeal.main_v42)) (v4 : (c : Dev Cert.KernelIdeal.nD) → Buf (Elt Ideal) ((c.tc : Thread Cert.KernelIdeal.nD Cert.KernelIdeal.τ).loc Cert.KernelIdeal.main_v43)) (v5 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_v43) = v4 c
          ∧ r.2.mem ((c.tc : Thread Cert.KernelIdeal.nD Cert.KernelIdeal.τ).loc Cert.KernelIdeal.main_v44) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v63) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v29)) (v4 : (c : Dev Cert.Kernel2Ideal.nD) → Buf (Elt Ideal) ((c.tc : Thread Cert.Kernel2Ideal.nD Cert.Kernel2Ideal.τ).loc Cert.Kernel2Ideal.main_v30)) (v5 : (c : Dev Cert.Kernel2Ideal.nD) → Buf (Elt Ideal) ((c.tc : Thread Cert.Kernel2Ideal.nD Cert.Kernel2Ideal.τ).loc Cert.Kernel2Ideal.main_v32)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_v29) = v3 c
          ∧ r.2.mem ((c.tc : Thread Cert.Kernel2Ideal.nD Cert.Kernel2Ideal.τ).loc Cert.Kernel2Ideal.main_v30) = v4 c
          ∧ r.2.mem ((c.tc : Thread Cert.Kernel2Ideal.nD Cert.Kernel2Ideal.τ).loc Cert.Kernel2Ideal.main_v32) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_v95) = v1 c
          ∧ r.2.mem ((c.tc : Thread Cert.Reference2Ideal.nD Cert.Reference2Ideal.τ).loc Cert.Reference2Ideal.main_v97) = v2 c
          ∧ r.2.mem ((c.tc : Thread Cert.Reference2Ideal.nD Cert.Reference2Ideal.τ).loc Cert.Reference2Ideal.main_v92) = v3 c
          ∧ r.2.mem ((c.tc : Thread Cert.Reference2Ideal.nD Cert.Reference2Ideal.τ).loc Cert.Reference2Ideal.main_v72) = v4 c
          ∧ r.2.mem ((c.tc : Thread Cert.Reference2Ideal.nD Cert.Reference2Ideal.τ).loc Cert.Reference2Ideal.main_v60) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v83_0)) (v1 : (c : Dev Cert.Kernel3Ideal.nD) → Buf (Elt Ideal) ((c.tc : Thread Cert.Kernel3Ideal.nD Cert.Kernel3Ideal.τ).loc Cert.Kernel3Ideal.main_v86)) (v2 : (c : Dev Cert.Kernel3Ideal.nD) → Buf (Elt Ideal) ((c.tc : Thread Cert.Kernel3Ideal.nD Cert.Kernel3Ideal.τ).loc Cert.Kernel3Ideal.main_v88)) (v3 : (c : Dev Cert.Kernel3Ideal.nD) → Buf (Elt Ideal) ((c.tc : Thread Cert.Kernel3Ideal.nD Cert.Kernel3Ideal.τ).loc Cert.Kernel3Ideal.main_v90)) (v4 : (c : Dev Cert.Kernel3Ideal.nD) → Buf (Elt Ideal) ((c.tc : Thread Cert.Kernel3Ideal.nD Cert.Kernel3Ideal.τ).loc Cert.Kernel3Ideal.main_v92)) (v5 : (c : Dev Cert.Kernel3Ideal.nD) → Buf (Elt Ideal) ((c.tc : Thread Cert.Kernel3Ideal.nD Cert.Kernel3Ideal.τ).loc Cert.Kernel3Ideal.main_v93)) (v6 : (c : Dev Cert.Kernel3Ideal.nD) → Buf (Elt Ideal) ((c.tc : Thread Cert.Kernel3Ideal.nD Cert.Kernel3Ideal.τ).loc Cert.Kernel3Ideal.main_v83_2)) (v7 : (c : Dev Cert.Kernel3Ideal.nD) → Buf (Elt Ideal) ((c.tc : Thread Cert.Kernel3Ideal.nD Cert.Kernel3Ideal.τ).loc Cert.Kernel3Ideal.main_v94)) (v8 : (c : Dev Cert.Kernel3Ideal.nD) → Buf (Elt Ideal) ((c.tc : Thread Cert.Kernel3Ideal.nD Cert.Kernel3Ideal.τ).loc Cert.Kernel3Ideal.main_v95)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v83_0) = v0 c
          ∧ r.2.mem ((c.tc : Thread Cert.Kernel3Ideal.nD Cert.Kernel3Ideal.τ).loc Cert.Kernel3Ideal.main_v86) = v1 c
          ∧ r.2.mem ((c.tc : Thread Cert.Kernel3Ideal.nD Cert.Kernel3Ideal.τ).loc Cert.Kernel3Ideal.main_v88) = v2 c
          ∧ r.2.mem ((c.tc : Thread Cert.Kernel3Ideal.nD Cert.Kernel3Ideal.τ).loc Cert.Kernel3Ideal.main_v90) = v3 c
          ∧ r.2.mem ((c.tc : Thread Cert.Kernel3Ideal.nD Cert.Kernel3Ideal.τ).loc Cert.Kernel3Ideal.main_v92) = v4 c
          ∧ r.2.mem ((c.tc : Thread Cert.Kernel3Ideal.nD Cert.Kernel3Ideal.τ).loc Cert.Kernel3Ideal.main_v93) = v5 c
          ∧ r.2.mem ((c.tc : Thread Cert.Kernel3Ideal.nD Cert.Kernel3Ideal.τ).loc Cert.Kernel3Ideal.main_v83_2) = v6 c
          ∧ r.2.mem ((c.tc : Thread Cert.Kernel3Ideal.nD Cert.Kernel3Ideal.τ).loc Cert.Kernel3Ideal.main_v94) = v7 c
          ∧ r.2.mem ((c.tc : Thread Cert.Kernel3Ideal.nD Cert.Kernel3Ideal.τ).loc Cert.Kernel3Ideal.main_v95) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v213) = v0 c
          ∧ r.2.mem ((c.tc : Thread Cert.Reference3Ideal.nD Cert.Reference3Ideal.τ).loc Cert.Reference3Ideal.main_v179) = v1 c
          ∧ r.2.mem ((c.tc : Thread Cert.Reference3Ideal.nD Cert.Reference3Ideal.τ).loc Cert.Reference3Ideal.main_v172) = v2 c
          ∧ r.2.mem ((c.tc : Thread Cert.Reference3Ideal.nD Cert.Reference3Ideal.τ).loc Cert.Reference3Ideal.main_v145) = v3 c
          ∧ r.2.mem ((c.tc : Thread Cert.Reference3Ideal.nD Cert.Reference3Ideal.τ).loc Cert.Reference3Ideal.main_v139) = v4 c
          ∧ r.2.mem ((c.tc : Thread Cert.Reference3Ideal.nD Cert.Reference3Ideal.τ).loc Cert.Reference3Ideal.main_v130) = v5 c
          ∧ r.2.mem ((c.tc : Thread Cert.Reference3Ideal.nD Cert.Reference3Ideal.τ).loc Cert.Reference3Ideal.main_v214) = v6 c
          ∧ r.2.mem ((c.tc : Thread Cert.Reference3Ideal.nD Cert.Reference3Ideal.τ).loc Cert.Reference3Ideal.main_v190) = v7 c
          ∧ r.2.mem ((c.tc : Thread Cert.Reference3Ideal.nD Cert.Reference3Ideal.τ).loc Cert.Reference3Ideal.main_v196) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)) (v4 : (c : Dev Cert.Kernel5Ideal.nD) → Buf (Elt Ideal) ((c.tc : Thread Cert.Kernel5Ideal.nD Cert.Kernel5Ideal.τ).loc Cert.Kernel5Ideal.main_v6_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_v6_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v98) = v0 c
          ∧ r.2.mem ((c.tc : Thread Cert.Reference5Ideal.nD Cert.Reference5Ideal.τ).loc Cert.Reference5Ideal.main_v100) = v1 c
          ∧ r.2.mem ((c.tc : Thread Cert.Reference5Ideal.nD Cert.Reference5Ideal.τ).loc Cert.Reference5Ideal.main_v102) = v2 c
          ∧ r.2.mem ((c.tc : Thread Cert.Reference5Ideal.nD Cert.Reference5Ideal.τ).loc Cert.Reference5Ideal.main_v103) = v3 c
          ∧ r.2.mem ((c.tc : Thread Cert.Reference5Ideal.nD Cert.Reference5Ideal.τ).loc Cert.Reference5Ideal.main_v104) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S_ : Shape := ⟨0, ![]⟩

class Facts : Prop where
  bcast_S_S2x4096x1024 : S_.BroadcastsInDim S2x4096x1024 (![] : Fin 0 → Fin S2x4096x1024.rank)
  bcast_S_S2x6144 : S_.BroadcastsInDim S2x6144 (![] : Fin 0 → Fin S2x6144.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S2x4096x1024 .f32) (main_arg1 : FVec F S2x4096x1024 .f32) (main_arg2 : FVec F S2x6144 .f32) (main_arg3 : FVec F S1024x4096 .f32) (main_arg4 : FVec F S4096x1024 .f32) (main_arg5 : FVec F S2x4096x1024 .f32) : IVec S2x4096x1024 1 × IVec S2x4096x1024 1 × IVec S2x6144 1 × IVec S1024x4096 1 × IVec S4096x1024 1 × IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x4096x1024 .f32 := Host.absf main_arg1
  let main_cst_0 : FVec F S_ .f32 := constant S_ .f32 0x7F800000#32
  let main_v4 : FVec F S2x4096x1024 .f32 := broadcastInDim S2x4096x1024 ![] bcast_S_S2x4096x1024 main_cst_0
  let main_v5 : IVec S2x4096x1024 1 := cmpf .olt main_v3 main_v4
  let main_v6 : FVec F S2x6144 .f32 := Host.absf main_arg2
  let main_cst_1 : FVec F S_ .f32 := constant S_ .f32 0x7F800000#32
  let main_v7 : FVec F S2x6144 .f32 := broadcastInDim S2x6144 ![] bcast_S_S2x6144 main_cst_1
  let main_v8 : IVec S2x6144 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S2x4096x1024 .f32 := Host.absf main_arg5
  let main_cst_4 : FVec F S_ .f32 := constant S_ .f32 0x7F800000#32
  let main_v16 : FVec F S2x4096x1024 .f32 := broadcastInDim S2x4096x1024 ![] bcast_S_S2x4096x1024 main_cst_4
  let main_v17 : IVec S2x4096x1024 1 := cmpf .olt main_v15 main_v16
  (main_v2, main_v5, main_v8, main_v11, main_v14, main_v17)
-- ==== Pre_finite2.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  bcast_S_S2x6144 : S_.BroadcastsInDim S2x6144 (![] : Fin 0 → Fin S2x6144.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S2x4096x1024 .f32) (main_arg1 : FVec F S2x6144 .f32) (main_arg2 : FVec F S1024x4096 .f32) (main_arg3 : FVec F S4096x1024 .f32) (main_arg4 : FVec F S1024 .f32) (main_arg5 : FVec F S2x4096x1024 .f32) : IVec S2x4096x1024 1 × IVec S2x6144 1 × IVec S1024x4096 1 × IVec S4096x1024 1 × IVec S1024 1 × IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x6144 .f32 := Host.absf main_arg1
  let main_cst_0 : FVec F S_ .f32 := constant S_ .f32 0x7F800000#32
  let main_v4 : FVec F S2x6144 .f32 := broadcastInDim S2x6144 ![] bcast_S_S2x6144 main_cst_0
  let main_v5 : IVec S2x6144 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S2x4096x1024 .f32 := Host.absf main_arg5
  let main_cst_4 : FVec F S_ .f32 := constant S_ .f32 0x7F800000#32
  let main_v16 : FVec F S2x4096x1024 .f32 := broadcastInDim S2x4096x1024 ![] bcast_S_S2x4096x1024 main_cst_4
  let main_v17 : IVec S2x4096x1024 1 := cmpf .olt main_v15 main_v16
  (main_v2, main_v5, main_v8, main_v11, main_v14, main_v17)
-- ==== Pre_finite3.lean ====
abbrev S2x4096x1024 : Shape := ⟨3, ![2, 4096, 1024]⟩
abbrev S2x6144 : Shape := ⟨2, ![2, 6144]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S_ : Shape := ⟨0, ![]⟩

class Facts : Prop where
  bcast_S_S2x4096x1024 : S_.BroadcastsInDim S2x4096x1024 (![] : Fin 0 → Fin S2x4096x1024.rank)
  bcast_S_S2x6144 : S_.BroadcastsInDim S2x6144 (![] : Fin 0 → Fin S2x6144.rank)
  bcast_S_S1024x2560 : S_.BroadcastsInDim S1024x2560 (![] : Fin 0 → Fin S1024x2560.rank)
  bcast_S_S31x512 : S_.BroadcastsInDim S31x512 (![] : Fin 0 → Fin S31x512.rank)
  bcast_S_S512 : S_.BroadcastsInDim S512 (![] : Fin 0 → Fin S512.rank)
  bcast_S_S3x512 : S_.BroadcastsInDim S3x512 (![] : Fin 0 → Fin S3x512.rank)
  bcast_S_S1024x1024 : S_.BroadcastsInDim S1024x1024 (![] : Fin 0 → Fin S1024x1024.rank)

variable [Facts]

def fn_part1 {F : FTy → Type} [FloatOps F] (main_arg6 : FVec F S512 .f32) (main_arg7 : FVec F S3x512 .f32) (main_arg8 : FVec F S1024x1024 .f32) (main_arg9 : FVec F S2x4096x1024 .f32) (main_v2 : IVec S2x4096x1024 1) (main_v5 : IVec S2x6144 1) (main_v8 : IVec S1024x2560 1) (main_v11 : IVec S31x512 1) (main_v14 : IVec S512 1) (main_v17 : IVec S512 1) : IVec S2x4096x1024 1 × IVec S2x6144 1 × IVec S1024x2560 1 × IVec S31x512 1 × IVec S512 1 × IVec S512 1 × IVec S512 1 × IVec S3x512 1 × IVec S1024x1024 1 × IVec S2x4096x1024 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S3x512 .f32 := Host.absf main_arg7
  let main_cst_6 : FVec F S_ .f32 := constant S_ .f32 0x7F800000#32
  let main_v22 : FVec F S3x512 .f32 := broadcastInDim S3x512 ![] bcast_S_S3x512 main_cst_6
  let main_v23 : IVec S3x512 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S2x4096x1024 .f32 := Host.absf main_arg9
  let main_cst_8 : FVec F S_ .f32 := constant S_ .f32 0x7F800000#32
  let main_v28 : FVec F S2x4096x1024 .f32 := broadcastInDim S2x4096x1024 ![] bcast_S_S2x4096x1024 main_cst_8
  let main_v29 : IVec S2x4096x1024 1 := cmpf .olt main_v27 main_v28
  (main_v2, main_v5, main_v8, main_v11, main_v14, main_v17, main_v20, main_v23, main_v26, main_v29)

def fn {F : FTy → Type} [FloatOps F] (main_arg0 : FVec F S2x4096x1024 .f32) (main_arg1 : FVec F S2x6144 .f32) (main_arg2 : FVec F S1024x2560 .f32) (main_arg3 : FVec F S31x512 .f32) (main_arg4 : FVec F S512 .f32) (main_arg5 : FVec F S512 .f32) (main_arg6 : FVec F S512 .f32) (main_arg7 : FVec F S3x512 .f32) (main_arg8 : FVec F S1024x1024 .f32) (main_arg9 : FVec F S2x4096x1024 .f32) : IVec S2x4096x1024 1 × IVec S2x6144 1 × IVec S1024x2560 1 × IVec S31x512 1 × IVec S512 1 × IVec S512 1 × IVec S512 1 × IVec S3x512 1 × IVec S1024x1024 1 × IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x6144 .f32 := Host.absf main_arg1
  let main_cst_0 : FVec F S_ .f32 := constant S_ .f32 0x7F800000#32
  let main_v4 : FVec F S2x6144 .f32 := broadcastInDim S2x6144 ![] bcast_S_S2x6144 main_cst_0
  let main_v5 : IVec S2x6144 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  let main_v9 : FVec F S31x512 .f32 := Host.absf main_arg3
  let main_cst_2 : FVec F S_ .f32 := constant S_ .f32 0x7F800000#32
  let main_v10 : FVec F S31x512 .f32 := broadcastInDim S31x512 ![] bcast_S_S31x512 main_cst_2
  let main_v11 : IVec S31x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_arg9 main_v2 main_v5 main_v8 main_v11 main_v14 main_v17
-- ==== Kernel.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S2x1024 : Shape := ⟨2, ![2, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S2x4096x4096 : Shape := ⟨3, ![2, 4096, 4096]⟩
abbrev S8192x1024 : Shape := ⟨2, ![8192, 1024]⟩
abbrev S8192x4096 : Shape := ⟨2, ![8192, 4096]⟩
abbrev S2x1x6144 : Shape := ⟨3, ![2, 1, 6144]⟩
abbrev S2x8x1024 : Shape := ⟨3, ![2, 8, 1024]⟩
abbrev S512x1024 : Shape := ⟨2, ![512, 1024]⟩
abbrev S512x4096 : Shape := ⟨2, ![512, 4096]⟩
abbrev S1x1x6144 : Shape := ⟨3, ![1, 1, 6144]⟩
abbrev S1x8x1024 : Shape := ⟨3, ![1, 8, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S32x8x1024 : Shape := ⟨3, ![32, 8, 1024]⟩
abbrev S8x1024 : Shape := ⟨2, ![8, 1024]⟩

abbrev nBuf : Space → Nat
  | .hbm => 63
  | .vmem => 26
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x6144, .f32⟩
  | .hbm, ⟨3, _⟩ => ⟨S1024x4096, .f32⟩
  | .hbm, ⟨4, _⟩ => ⟨S4096x1024, .f32⟩
  | .hbm, ⟨5, _⟩ => ⟨S2x4096x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x1024, .f32⟩
  | .hbm, ⟨26, _⟩ => ⟨S2x4096x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x4096x1024, .f32⟩
  | .hbm, ⟨32, _⟩ => ⟨S2x4096x1024, .f32⟩
  | .hbm, ⟨33, _⟩ => ⟨S2x1x1024, .f32⟩
  | .hbm, ⟨34, _⟩ => ⟨S2x4096x1024, .f32⟩
  | .hbm, ⟨35, _⟩ => ⟨S2x4096x1024, .f32⟩
  | .hbm, ⟨36, _⟩ => ⟨S2x4096x4096, .f32⟩
  | .hbm, ⟨37, _⟩ => ⟨S2x1x1024, .f32⟩
  | .hbm, ⟨38, _⟩ => ⟨S2x4096x1024, .f32⟩
  | .hbm, ⟨39, _⟩ => ⟨S2x4096x1024, .f32⟩
  | .hbm, ⟨40, _⟩ => ⟨S8192x1024, .f32⟩
  | .hbm, ⟨41, _⟩ => ⟨S8192x1024, .bf16⟩
  | .hbm, ⟨42, _⟩ => ⟨S8192x4096, .f32⟩
  | .hbm, ⟨43, _⟩ => ⟨S8192x4096, .bf16⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S2x1x6144, .f32⟩
  | .hbm, ⟨49, _⟩ => ⟨S1024x4096, .bf16⟩
  | .hbm, ⟨50, _⟩ => ⟨S4096x1024, .bf16⟩
  | .hbm, ⟨51, _⟩ => ⟨S8192x4096, .bf16⟩
  | .hbm, ⟨52, _⟩ => ⟨S8192x1024, .f32⟩
  | .hbm, ⟨53, _⟩ => ⟨S8192x1024, .bf16⟩
  | .hbm, ⟨54, _⟩ => ⟨S2x8x1024, .f32⟩
  | .hbm, ⟨55, _⟩ => ⟨S2x8x1024, .f32⟩
  | .hbm, ⟨56, _⟩ => ⟨S2x8x1024, .f32⟩
  | .hbm, ⟨57, _⟩ => ⟨S_, .f32⟩
  | .hbm, ⟨58, _⟩ => ⟨S2x1024, .f32⟩
  | .hbm, ⟨59, _⟩ => ⟨S_, .f32⟩
  | .hbm, ⟨60, _⟩ => ⟨S2x1024, .f32⟩
  | .hbm, ⟨61, _⟩ => ⟨S_, .f32⟩
  | .hbm, ⟨62, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1x6144, .f32⟩
  | .local _ .vmem, ⟨11, _⟩ => ⟨S1x1x6144, .f32⟩
  | .local _ .vmem, ⟨12, _⟩ => ⟨S1024x4096, .bf16⟩
  | .local _ .vmem, ⟨13, _⟩ => ⟨S4096x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x8x1024, .f32⟩
  | .local _ .vmem, ⟨21, _⟩ => ⟨S1x8x1024, .f32⟩
  | .local _ .vmem, ⟨22, _⟩ => ⟨S1x8x1024, .f32⟩
  | .local _ .vmem, ⟨23, _⟩ => ⟨S1x8x1024, .f32⟩
  | .local _ .vmem, ⟨24, _⟩ => ⟨S1x8x1024, .f32⟩
  | .local _ .vmem, ⟨25, _⟩ => ⟨S1x8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev main_v41_2 : Ref sig .tc := ⟨.hbm, 53, rfl⟩
abbrev main_v41_3 : Ref sig .tc := ⟨.hbm, 54, rfl⟩
abbrev main_v41_4 : Ref sig .tc := ⟨.hbm, 55, rfl⟩
abbrev main_v41_5 : Ref sig .tc := ⟨.hbm, 56, rfl⟩
abbrev main_cst_3 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v254 : BitVec 32 := Scalar.extui v10
  let c0_i32_149 : BitVec 32 := 0#32
  let v255 : BitVec 1 := Scalar.cmpi .ne v254 c0_i32_149
  v255

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v256 : BitVec 1 := Scalar.xori v10 v_true
  let v257 : BitVec 32 := Scalar.extui v256
  let c0_i32_150 : BitVec 32 := 0#32
  let v258 : BitVec 1 := Scalar.cmpi .ne v257 c0_i32_150
  v258

def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v259 : BitVec 32 := Scalar.extui v10
  let c0_i32_151 : BitVec 32 := 0#32
  let v260 : BitVec 1 := Scalar.cmpi .ne v259 c0_i32_151
  v260

def k0_cond4 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_152 : BitVec 1 := 1#1
  let v261 : BitVec 1 := Scalar.xori v10 true_152
  let v262 : BitVec 32 := Scalar.extui v261
  let c0_i32_153 : BitVec 32 := 0#32
  let v263 : BitVec 1 := Scalar.cmpi .ne v262 c0_i32_153
  v263

def k0_cond5 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v264 : BitVec 32 := Scalar.extui v10
  let c0_i32_154 : BitVec 32 := 0#32
  let v265 : BitVec 1 := Scalar.cmpi .ne v264 c0_i32_154
  v265

def k0_cond6 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_155 : BitVec 1 := 1#1
  let v266 : BitVec 1 := Scalar.xori v10 true_155
  let v267 : BitVec 32 := Scalar.extui v266
  let c0_i32_156 : BitVec 32 := 0#32
  let v268 : BitVec 1 := Scalar.cmpi .ne v267 c0_i32_156
  v268

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S2x1024 : Shape := ⟨2, ![2, 1024]⟩
abbrev S_ : Shape := ⟨0, ![]⟩
abbrev S2x4096x4096 : Shape := ⟨3, ![2, 4096, 4096]⟩
abbrev S2x1x1024 : Shape := ⟨3, ![2, 1, 1024]⟩
abbrev S2x4096 : Shape := ⟨2, ![2, 4096]⟩
abbrev S2x4096x1 : Shape := ⟨3, ![2, 4096, 1]⟩
abbrev S8192x4096 : Shape := ⟨2, ![8192, 4096]⟩
abbrev S8192x1024 : Shape := ⟨2, ![8192, 1024]⟩

abbrev nBuf : Space → Nat
  | .hbm => 117
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x6144, .f32⟩
  | .hbm, ⟨3, _⟩ => ⟨S1024x4096, .f32⟩
  | .hbm, ⟨4, _⟩ => ⟨S4096x1024, .f32⟩
  | .hbm, ⟨5, _⟩ => ⟨S2x4096x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S2x4096x4096, .f32⟩
  | .hbm, ⟨14, _⟩ => ⟨S2x1x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S2x1x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x4096x1024, .f32⟩
  | .hbm, ⟨40, _⟩ => ⟨S2x4096x1024, .f32⟩
  | .hbm, ⟨41, _⟩ => ⟨S2x1x1024, .f32⟩
  | .hbm, ⟨42, _⟩ => ⟨S2x4096x1024, .f32⟩
  | .hbm, ⟨43, _⟩ => ⟨S2x4096x1024, .f32⟩
  | .hbm, ⟨44, _⟩ => ⟨S2x4096x4096, .f32⟩
  | .hbm, ⟨45, _⟩ => ⟨S2x4096x4096, .f32⟩
  | .hbm, ⟨46, _⟩ => ⟨S_, .f32⟩
  | .hbm, ⟨47, _⟩ => ⟨S2x4096x4096, .f32⟩
  | .hbm, ⟨48, _⟩ => ⟨S2x4096x4096, .f32⟩
  | .hbm, ⟨49, _⟩ => ⟨S_, .f32⟩
  | .hbm, ⟨50, _⟩ => ⟨S2x4096x4096, .f32⟩
  | .hbm, ⟨51, _⟩ => ⟨S2x4096x4096, .i1⟩
  | .hbm, ⟨52, _⟩ => ⟨S_, .f32⟩
  | .hbm, ⟨53, _⟩ => ⟨S2x4096x4096, .f32⟩
  | .hbm, ⟨54, _⟩ => ⟨S2x4096x4096, .f32⟩
  | .hbm, ⟨55, _⟩ => ⟨S_, .f32⟩
  | .hbm, ⟨56, _⟩ => ⟨S2x4096x4096, .f32⟩
  | .hbm, ⟨57, _⟩ => ⟨S2x4096x4096, .f32⟩
  | .hbm, ⟨58, _⟩ => ⟨S2x4096x1024, .f32⟩
  | .hbm, ⟨59, _⟩ => ⟨S2x1x1024, .f32⟩
  | .hbm, ⟨60, _⟩ => ⟨S2x4096x1024, .f32⟩
  | .hbm, ⟨61, _⟩ => ⟨S2x4096x1024, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S2x4096x1024, .f32⟩
  | .hbm, ⟨67, _⟩ => ⟨S2x4096x4096, .f32⟩
  | .hbm, ⟨68, _⟩ => ⟨S2x4096x4096, .f32⟩
  | .hbm, ⟨69, _⟩ => ⟨S_, .f32⟩
  | .hbm, ⟨70, _⟩ => ⟨S2x4096x4096, .f32⟩
  | .hbm, ⟨71, _⟩ => ⟨S2x4096x4096, .f32⟩
  | .hbm, ⟨72, _⟩ => ⟨S2x4096x1024, .f32⟩
  | .hbm, ⟨73, _⟩ => ⟨S_, .f32⟩
  | .hbm, ⟨74, _⟩ => ⟨S2x1024, .f32⟩
  | .hbm, ⟨75, _⟩ => ⟨S2x1x1024, .f32⟩
  | .hbm, ⟨76, _⟩ => ⟨S_, .f32⟩
  | .hbm, ⟨77, _⟩ => ⟨S2x1024, .f32⟩
  | .hbm, ⟨78, _⟩ => ⟨S2x4096x1024, .f32⟩
  | .hbm, ⟨79, _⟩ => ⟨S_, .f32⟩
  | .hbm, ⟨80, _⟩ => ⟨S2x1024, .f32⟩
  | .hbm, ⟨81, _⟩ => ⟨S2x1x1024, .f32⟩
  | .hbm, ⟨82, _⟩ => ⟨S2x4096x1024, .f32⟩
  | .hbm, ⟨83, _⟩ => ⟨S2x4096x1024, .f32⟩
  | .hbm, ⟨84, _⟩ => ⟨S_, .f32⟩
  | .hbm, ⟨85, _⟩ => ⟨S2x1024, .f32⟩
  | .hbm, ⟨86, _⟩ => ⟨S2x4096x1024, .f32⟩
  | .hbm, ⟨87, _⟩ => ⟨S_, .f32⟩
  | .hbm, ⟨88, _⟩ => ⟨S2x4096, .f32⟩
  | .hbm, ⟨89, _⟩ => ⟨S2x4096x1, .f32⟩
  | .hbm, ⟨90, _⟩ => ⟨S2x4096x1024, .f32⟩
  | .hbm, ⟨91, _⟩ => ⟨S2x4096x1024, .f32⟩
  | .hbm, ⟨92, _⟩ => ⟨S2x4096x1024, .f32⟩
  | .hbm, ⟨93, _⟩ => ⟨S2x4096x1, .f32⟩
  | .hbm, ⟨94, _⟩ => ⟨S_, .f32⟩
  | .hbm, ⟨95, _⟩ => ⟨S2x4096x1, .f32⟩
  | .hbm, ⟨96, _⟩ => ⟨S2x4096x1, .f32⟩
  | .hbm, ⟨97, _⟩ => ⟨S_, .f32⟩
  | .hbm, ⟨98, _⟩ => ⟨S2x4096, .f32⟩
  | .hbm, ⟨99, _⟩ => ⟨S2x4096x1024, .f32⟩
  | .hbm, ⟨100, _⟩ => ⟨S2x4096x1024, .f32⟩
  | .hbm, ⟨101, _⟩ => ⟨S2x4096x1024, .f32⟩
  | .hbm, ⟨102, _⟩ => ⟨S2x4096x1024, .f32⟩
  | .hbm, ⟨103, _⟩ => ⟨S2x4096x1024, .f32⟩
  | .hbm, ⟨104, _⟩ => ⟨S2x4096x1024, .f32⟩
  | .hbm, ⟨105, _⟩ => ⟨S2x4096x1024, .f32⟩
  | .hbm, ⟨106, _⟩ => ⟨S2x4096x1024, .f32⟩
  | .hbm, ⟨107, _⟩ => ⟨S_, .f32⟩
  | .hbm, ⟨108, _⟩ => ⟨S2x1024, .f32⟩
  | .hbm, ⟨109, _⟩ => ⟨S2x1x1024, .f32⟩
  | .hbm, ⟨110, _⟩ => ⟨S_, .f32⟩
  | .hbm, ⟨111, _⟩ => ⟨S2x1024, .f32⟩
  | .hbm, ⟨112, _⟩ => ⟨S8192x4096, .f32⟩
  | .hbm, ⟨113, _⟩ => ⟨S8192x4096, .bf16⟩
  | .hbm, ⟨114, _⟩ => ⟨S8192x1024, .f32⟩
  | .hbm, ⟨115, _⟩ => ⟨S8192x1024, .f32⟩
  | .hbm, ⟨116, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Kernel2.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S2x1024 : Shape := ⟨2, ![2, 1024]⟩
abbrev S2x1x1024 : Shape := ⟨3, ![2, 1, 1024]⟩
abbrev S8192x1024 : Shape := ⟨2, ![8192, 1024]⟩
abbrev S2x1x6144 : Shape := ⟨3, ![2, 1, 6144]⟩
abbrev S1x1024 : Shape := ⟨2, ![1, 1024]⟩
abbrev S8192x4096 : Shape := ⟨2, ![8192, 4096]⟩
abbrev S2x8x1024 : Shape := ⟨3, ![2, 8, 1024]⟩
abbrev S8x1024 : Shape := ⟨2, ![8, 1024]⟩
abbrev S512x1024 : Shape := ⟨2, ![512, 1024]⟩
abbrev S1x1x6144 : Shape := ⟨3, ![1, 1, 6144]⟩
abbrev S512x4096 : Shape := ⟨2, ![512, 4096]⟩
abbrev S1x8x1024 : Shape := ⟨3, ![1, 8, 1024]⟩
abbrev S1x1x1024 : Shape := ⟨3, ![1, 1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 52
  | .vmem => 21
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S2x1024, .f32⟩
  | .hbm, ⟨20, _⟩ => ⟨S2x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x4096x1024, .f32⟩
  | .hbm, ⟨26, _⟩ => ⟨S2x4096x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S8192x1024, .f32⟩
  | .hbm, ⟨31, _⟩ => ⟨S8192x1024, .bf16⟩
  | .hbm, ⟨32, _⟩ => ⟨S8192x1024, .f32⟩
  | .hbm, ⟨33, _⟩ => ⟨S8192x1024, .f32⟩
  | .hbm, ⟨34, _⟩ => ⟨S2x1x6144, .f32⟩
  | .hbm, ⟨35, _⟩ => ⟨S1x1024, .f32⟩
  | .hbm, ⟨36, _⟩ => ⟨S1024x4096, .bf16⟩
  | .hbm, ⟨37, _⟩ => ⟨S4096x1024, .bf16⟩
  | .hbm, ⟨38, _⟩ => ⟨S8192x4096, .bf16⟩
  | .hbm, ⟨39, _⟩ => ⟨S8192x1024, .f32⟩
  | .hbm, ⟨40, _⟩ => ⟨S8192x1024, .bf16⟩
  | .hbm, ⟨41, _⟩ => ⟨S2x8x1024, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S2x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x8x1024, .f32⟩
  | .local _ .vmem, ⟨18, _⟩ => ⟨S1x8x1024, .f32⟩
  | .local _ .vmem, ⟨19, _⟩ => ⟨S8x1024, .f32⟩
  | .local _ .vmem, ⟨20, _⟩ => ⟨S8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_v28_3 : Ref sig .tc := ⟨.hbm, 41, rfl⟩
abbrev main_v28_4 : Ref sig .tc := ⟨.hbm, 42, rfl⟩
abbrev main_v28_5 : Ref sig .tc := ⟨.hbm, 43, rfl⟩
abbrev main_cst_3 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v213 : BitVec 1 := Scalar.cmpi .eq c8_i32 c0_i32
  let c1_i32 : BitVec 32 := 1#32
  let v214 : BitVec 32 := Scalar.select v213 c1_i32 c8_i32
  let v215 : BitVec 32 := Scalar.remsi arg0 v214
  let c0_i32_111 : BitVec 32 := 0#32
  let v217 : BitVec 1 := Scalar.cmpi .slt v215 c0_i32_111
  let c0_i32_112 : BitVec 32 := 0#32
  let v218 : BitVec 1 := Scalar.cmpi .slt v214 c0_i32_112
  let v219 : BitVec 1 := Scalar.xori v217 v218
  let c0_i32_110 : BitVec 32 := 0#32
  let v216 : BitVec 1 := Scalar.cmpi .ne v215 c0_i32_110
  let v220 : BitVec 1 := Scalar.andi v219 v216
  let v221 : BitVec 32 := Scalar.addi v215 v214
  let v222 : BitVec 32 := Scalar.select v220 v221 v215
  let c0_i32_113 : BitVec 32 := 0#32
  let v223 : BitVec 1 := Scalar.cmpi .eq v222 c0_i32_113
  let v224 : BitVec 32 := Scalar.extui v223
  let c0_i32_114 : BitVec 32 := 0#32
  let v225 : BitVec 1 := Scalar.cmpi .ne v224 c0_i32_114
  v225

def k0_cond2 (i : grid0.Coords) : BitVec 1 :=
  let arg0 : BitVec 32 := BitVec.ofNat 32 (i 0).val
  let c8_i32 : BitVec 32 := 8#32
  let c0_i32 : BitVec 32 := 0#32
  let v213 : BitVec 1 := Scalar.cmpi .eq c8_i32 c0_i32
  let c1_i32 : BitVec 32 := 1#32
  let v214 : BitVec 32 := Scalar.select v213 c1_i32 c8_i32
  let v215 : BitVec 32 := Scalar.remsi arg0 v214
  let c0_i32_111 : BitVec 32 := 0#32
  let v217 : BitVec 1 := Scalar.cmpi .slt v215 c0_i32_111
  let c0_i32_112 : BitVec 32 := 0#32
  let v218 : BitVec 1 := Scalar.cmpi .slt v214 c0_i32_112
  let v219 : BitVec 1 := Scalar.xori v217 v218
  let c0_i32_110 : BitVec 32 := 0#32
  let v216 : BitVec 1 := Scalar.cmpi .ne v215 c0_i32_110
  let v220 : BitVec 1 := Scalar.andi v219 v216
  let v221 : BitVec 32 := Scalar.addi v215 v214
  let v222 : BitVec 32 := Scalar.select v220 v221 v215
  let c0_i32_113 : BitVec 32 := 0#32
  let v223 : BitVec 1 := Scalar.cmpi .eq v222 c0_i32_113
  let v_true : BitVec 1 := 1#1
  let v226 : BitVec 1 := Scalar.xori v223 v_true
  let v227 : BitVec 32 := Scalar.extui v226
  let c0_i32_115 : BitVec 32 := 0#32
  let v228 : BitVec 1 := Scalar.cmpi .ne v227 c0_i32_115
  v228

def k0_cond3 (i : grid0.Coords) : BitVec 1 :=
  let arg0 : BitVec 32 := BitVec.ofNat 32 (i 0).val
  let c0_i32_116 : BitVec 32 := 0#32
  let v229 : BitVec 1 := Scalar.cmpi .eq arg0 c0_i32_116
  let v230 : BitVec 32 := Scalar.extui v229
  let c0_i32_117 : BitVec 32 := 0#32
  let v231 : BitVec 1 := Scalar.cmpi .ne v230 c0_i32_117
  v231

def k0_cond4 (i : grid0.Coords) : BitVec 1 :=
  let arg0 : BitVec 32 := BitVec.ofNat 32 (i 0).val
  let c0_i32_116 : BitVec 32 := 0#32
  let v229 : BitVec 1 := Scalar.cmpi .eq arg0 c0_i32_116
  let true_118 : BitVec 1 := 1#1
  let v232 : BitVec 1 := Scalar.xori v229 true_118
  let v233 : BitVec 32 := Scalar.extui v232
  let c0_i32_119 : BitVec 32 := 0#32
  let v234 : BitVec 1 := Scalar.cmpi .ne v233 c0_i32_119
  v234

def k0_cond5 (i : grid0.Coords) : BitVec 1 :=
  let arg0 : BitVec 32 := BitVec.ofNat 32 (i 0).val
  let c0_i32_120 : BitVec 32 := 0#32
  let v235 : BitVec 1 := Scalar.cmpi .eq arg0 c0_i32_120
  let v236 : BitVec 32 := Scalar.extui v235
  let c0_i32_121 : BitVec 32 := 0#32
  let v237 : BitVec 1 := Scalar.cmpi .ne v236 c0_i32_121
  v237

def k0_cond6 (i : grid0.Coords) : BitVec 1 :=
  let arg0 : BitVec 32 := BitVec.ofNat 32 (i 0).val
  let c0_i32_120 : BitVec 32 := 0#32
  let v235 : BitVec 1 := Scalar.cmpi .eq arg0 c0_i32_120
  let true_122 : BitVec 1 := 1#1
  let v238 : BitVec 1 := Scalar.xori v235 true_122
  let v239 : BitVec 32 := Scalar.extui v238
  let c0_i32_123 : BitVec 32 := 0#32
  let v240 : BitVec 1 := Scalar.cmpi .ne v239 c0_i32_123
  v240

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S1024 : Shape := ⟨1, ![1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x4096 : Shape := ⟨3, ![2, 4096, 4096]⟩
abbrev S1x1x1024 : Shape := ⟨3, ![1, 1, 1024]⟩
abbrev S8192x4096 : Shape := ⟨2, ![8192, 4096]⟩
abbrev S8192x1024 : Shape := ⟨2, ![8192, 1024]⟩

abbrev nBuf : Space → Nat
  | .hbm => 131
  | .vmem => 0
  | .smem => 0
  | _ => 0

abbrev hbmTy0_0 (i : Nat) : BufTy := match i % 128 with
  | 0 => ⟨S2x4096x1024, .f32⟩
  | 1 => ⟨S2x6144, .f32⟩
  | 2 => ⟨S1024x4096, .f32⟩
  | 3 => ⟨S4096x1024, .f32⟩
  | 4 => ⟨S1024, .f32⟩
  | 5 => ⟨S2x4096x1024, .f32⟩
  | 6 => ⟨S2x1024, .f32⟩
  | 7 => ⟨S2x1024, .f32⟩
  | 8 => ⟨S2x1024, .f32⟩
  | 9 => ⟨S2x1024, .f32⟩
  | 10 => ⟨S2x1024, .f32⟩
  | 11 => ⟨S2x1024, .f32⟩
  | 12 => ⟨S2x4096x1024, .f32⟩
  | 13 => ⟨S_, .f32⟩
  | 14 => ⟨S2x4096, .f32⟩
  | 15 => ⟨S2x4096x1, .f32⟩
  | 16 => ⟨S_, .f32⟩
  | 17 => ⟨S2x4096x1, .f32⟩
  | 18 => ⟨S2x4096x1, .f32⟩
  | 19 => ⟨S_, .f32⟩
  | 20 => ⟨S2x4096x1, .f32⟩
  | 21 => ⟨S2x4096x1, .f32⟩
  | 22 => ⟨S2x4096x1, .f32⟩
  | 23 => ⟨S2x4096x1024, .f32⟩
  | 24 => ⟨S2x4096x1024, .f32⟩
  | 25 => ⟨S2x1x1024, .f32⟩
  | 26 => ⟨S_, .f32⟩
  | 27 => ⟨S2x1x1024, .f32⟩
  | 28 => ⟨S2x1x1024, .f32⟩
  | 29 => ⟨S2x4096x1024, .f32⟩
  | 30 => ⟨S2x4096x1024, .f32⟩
  | 31 => ⟨S2x1x1024, .f32⟩
  | 32 => ⟨S2x4096x1024, .f32⟩
  | 33 => ⟨S2x4096x1024, .f32⟩
  | 34 => ⟨S2x4096x4096, .f32⟩
  | 35 => ⟨S_, .f32⟩
  | 36 => ⟨S2x4096x4096, .f32⟩
  | 37 => ⟨S2x4096x4096, .f32⟩
  | 38 => ⟨S2x4096x4096, .f32⟩
  | 39 => ⟨S_, .f32⟩
  | 40 => ⟨S2x4096x1024, .f32⟩
  | 41 => ⟨S_, .f32⟩
  | 42 => ⟨S2x4096x1024, .f32⟩
  | 43 => ⟨S2x4096x1024, .f32⟩
  | 44 => ⟨S2x4096x1024, .f32⟩
  | 45 => ⟨S2x1x1024, .f32⟩
  | 46 => ⟨S2x4096x1024, .f32⟩
  | 47 => ⟨S2x4096x1024, .f32⟩
  | 48 => ⟨S2x4096x1024, .f32⟩
  | 49 => ⟨S2x4096x1024, .f32⟩
  | 50 => ⟨S2x4096x1024, .f32⟩
  | 51 => ⟨S_, .f32⟩
  | 52 => ⟨S2x4096, .f32⟩
  | 53 => ⟨S2x4096x1, .f32⟩
  | 54 => ⟨S_, .f32⟩
  | 55 => ⟨S2x4096x1, .f32⟩
  | 56 => ⟨S2x4096x1, .f32⟩
  | 57 => ⟨S_, .f32⟩
  | 58 => ⟨S2x4096x1, .f32⟩
  | 59 => ⟨S2x4096x1, .f32⟩
  | 60 => ⟨S2x4096x1, .f32⟩
  | 61 => ⟨S2x4096x1, .f32⟩
  | 62 => ⟨S_, .f32⟩
  | 63 => ⟨S2x4096x1, .f32⟩
  | 64 => ⟨S2x4096x1, .f32⟩
  | 65 => ⟨S2x4096x1024, .f32⟩
  | 66 => ⟨S2x4096x1024, .f32⟩
  | 67 => ⟨S1x1x1024, .f32⟩
  | 68 => ⟨S2x4096x1024, .f32⟩
  | 69 => ⟨S2x4096x1024, .f32⟩
  | 70 => ⟨S2x4096x1024, .f32⟩
  | 71 => ⟨S2x4096x1024, .f32⟩
  | 72 => ⟨S_, .f32⟩
  | 73 => ⟨S2x4096x1024, .f32⟩
  | 74 => ⟨S2x4096x1024, .f32⟩
  | 75 => ⟨S_, .f32⟩
  | 76 => ⟨S2x4096, .f32⟩
  | 77 => ⟨S_, .f32⟩
  | 78 => ⟨S2x4096, .f32⟩
  | 79 => ⟨S2x4096, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S2x4096, .f32⟩
  | 88 => ⟨S_, .f32⟩
  | 89 => ⟨S2x4096, .f32⟩
  | 90 => ⟨S2x4096, .f32⟩
  | 91 => ⟨S2x4096x1024, .f32⟩
  | 92 => ⟨S2x4096x1024, .f32⟩
  | 93 => ⟨S2x4096x1024, .f32⟩
  | 94 => ⟨S_, .f32⟩
  | 95 => ⟨S1024, .f32⟩
  | 96 => ⟨S1x1x1024, .f32⟩
  | 97 => ⟨S2x4096x1024, .f32⟩
  | 98 => ⟨S2x4096x1024, .f32⟩
  | 99 => ⟨S_, .f32⟩
  | 100 => ⟨S1024, .f32⟩
  | 101 => ⟨S2x4096x1024, .f32⟩
  | 102 => ⟨S_, .f32⟩
  | 103 => ⟨S2x4096, .f32⟩
  | 104 => ⟨S2x4096x1, .f32⟩
  | 105 => ⟨S2x4096x1024, .f32⟩
  | 106 => ⟨S2x4096x1024, .f32⟩
  | 107 => ⟨S2x4096x1, .f32⟩
  | 108 => ⟨S_, .f32⟩
  | 109 => ⟨S2x4096x1, .f32⟩
  | 110 => ⟨S2x4096x1, .f32⟩
  | 111 => ⟨S_, .f32⟩
  | 112 => ⟨S2x4096, .f32⟩
  | 113 => ⟨S2x4096x1024, .f32⟩
  | 114 => ⟨S2x4096x1024, .f32⟩
  | 115 => ⟨S2x4096x1024, .f32⟩
  | 116 => ⟨S2x4096x1024, .f32⟩
  | 117 => ⟨S2x4096x1024, .f32⟩
  | 118 => ⟨S2x4096x1024, .f32⟩
  | 119 => ⟨S2x4096x1024, .f32⟩
  | 120 => ⟨S2x4096x1024, .f32⟩
  | 121 => ⟨S_, .f32⟩
  | 122 => ⟨S2x1024, .f32⟩
  | 123 => ⟨S2x1x1024, .f32⟩
  | 124 => ⟨S_, .f32⟩
  | 125 => ⟨S2x1024, .f32⟩
  | 126 => ⟨S8192x4096, .f32⟩
  | 127 => ⟨S8192x4096, .bf16⟩
  | _ => ⟨S2x4096x1024, .f32⟩

abbrev hbmTy0_1 (i : Nat) : BufTy := match i % 128 with
  | 0 => ⟨S8192x1024, .f32⟩
  | 1 => ⟨S8192x1024, .f32⟩
  | 2 => ⟨S8192x1024, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_cst_14 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_20 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_22 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]
-- ==== Kernel3.lean ====
abbrev S2x4096x1024 : Shape := ⟨3, ![2, 4096, 1024]⟩
abbrev S2x6144 : Shape := ⟨2, ![2, 6144]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x2560 : Shape := ⟨3, ![2, 4096, 2560]⟩
abbrev S2x4096x512 : Shape := ⟨3, ![2, 4096, 512]⟩
abbrev S31x4096x4096 : Shape := ⟨3, ![31, 4096, 4096]⟩
abbrev S31x1x4096x4096x1 : Shape := ⟨5, ![31, 1, 4096, 4096, 1]⟩
abbrev S1x2x1x4096x512 : Shape := ⟨5, ![1, 2, 1, 4096, 512]⟩
abbrev S31x2x4096x4096x512 : Shape := ⟨5, ![31, 2, 4096, 4096, 512]⟩
abbrev S31x2x4096x512 : Shape := ⟨4, ![31, 2, 4096, 512]⟩
abbrev S31x1x1x512 : Shape := ⟨4, ![31, 1, 1, 512]⟩
abbrev S1x1x512 : Shape := ⟨3, ![1, 1, 512]⟩
abbrev S3x4096x4096 : Shape := ⟨3, ![3, 4096, 4096]⟩
abbrev S3x1x4096x4096x1 : Shape := ⟨5, ![3, 1, 4096, 4096, 1]⟩
abbrev S3x2x4096x4096x512 : Shape := ⟨5, ![3, 2, 4096, 4096, 512]⟩
abbrev S3x2x4096x512 : Shape := ⟨4, ![3, 2, 4096, 512]⟩
abbrev S3x1x1x512 : Shape := ⟨4, ![3, 1, 1, 512]⟩
abbrev S8192x1024 : Shape := ⟨2, ![8192, 1024]⟩
abbrev S8192x512 : Shape := ⟨2, ![8192, 512]⟩
abbrev S8192x2560 : Shape := ⟨2, ![8192, 2560]⟩
abbrev S1x512 : Shape := ⟨2, ![1, 512]⟩
abbrev S2x1x6144 : Shape := ⟨3, ![2, 1, 6144]⟩
abbrev S296x512 : Shape := ⟨2, ![296, 512]⟩
abbrev S2x8x1024 : Shape := ⟨3, ![2, 8, 1024]⟩
abbrev S256x1024 : Shape := ⟨2, ![256, 1024]⟩
abbrev S256x512 : Shape := ⟨2, ![256, 512]⟩
abbrev S256x2560 : Shape := ⟨2, ![256, 2560]⟩
abbrev S1x1x6144 : Shape := ⟨3, ![1, 1, 6144]⟩
abbrev S1x8x1024 : Shape := ⟨3, ![1, 8, 1024]⟩
abbrev S4x8x296x128 : Shape := ⟨4, ![4, 8, 296, 128]⟩
abbrev S264x512 : Shape := ⟨2, ![264, 512]⟩
abbrev S32x512 : Shape := ⟨2, ![32, 512]⟩
abbrev S8x512 : Shape := ⟨2, ![8, 512]⟩
abbrev S256x256 : Shape := ⟨2, ![256, 256]⟩
abbrev S256 : Shape := ⟨1, ![256]⟩
abbrev S256x1 : Shape := ⟨2, ![256, 1]⟩
abbrev S32x8x512 : Shape := ⟨3, ![32, 8, 512]⟩
abbrev S288x128 : Shape := ⟨2, ![288, 128]⟩
abbrev S1x1x288x128 : Shape := ⟨4, ![1, 1, 288, 128]⟩
abbrev S32x128 : Shape := ⟨2, ![32, 128]⟩
abbrev S1x1x32x128 : Shape := ⟨4, ![1, 1, 32, 128]⟩
abbrev S1x128 : Shape := ⟨2, ![1, 128]⟩
abbrev S4x8x128 : Shape := ⟨3, ![4, 8, 128]⟩
abbrev S8x128 : Shape := ⟨2, ![8, 128]⟩
abbrev S32x8x1024 : Shape := ⟨3, ![32, 8, 1024]⟩
abbrev S8x1024 : Shape := ⟨2, ![8, 1024]⟩
abbrev S1x1x1024 : Shape := ⟨3, ![1, 1, 1024]⟩
abbrev S1x1024 : Shape := ⟨2, ![1, 1024]⟩
abbrev S37x8x512 : Shape := ⟨3, ![37, 8, 512]⟩
abbrev S37x512 : Shape := ⟨2, ![37, 512]⟩

abbrev nBuf : Space → Nat
  | .hbm => 135
  | .vmem => 40
  | .smem => 0
  | _ => 0

abbrev hbmTy0_0 (i : Nat) : BufTy := match i % 128 with
  | 0 => ⟨S2x4096x1024, .f32⟩
  | 1 => ⟨S2x6144, .f32⟩
  | 2 => ⟨S1024x2560, .f32⟩
  | 3 => ⟨S31x512, .f32⟩
  | 4 => ⟨S512, .f32⟩
  | 5 => ⟨S512, .f32⟩
  | 6 => ⟨S512, .f32⟩
  | 7 => ⟨S3x512, .f32⟩
  | 8 => ⟨S1024x1024, .f32⟩
  | 9 => ⟨S2x4096x1024, .f32⟩
  | 10 => ⟨S2x1024, .f32⟩
  | 11 => ⟨S2x1024, .f32⟩
  | 12 => ⟨S2x1024, .f32⟩
  | 13 => ⟨S2x4096x1024, .f32⟩
  | 14 => ⟨S_, .f32⟩
  | 15 => ⟨S2x4096, .f32⟩
  | 16 => ⟨S2x4096x1, .f32⟩
  | 17 => ⟨S_, .f32⟩
  | 18 => ⟨S2x4096x1, .f32⟩
  | 19 => ⟨S2x4096x1, .f32⟩
  | 20 => ⟨S_, .f32⟩
  | 21 => ⟨S2x4096x1, .f32⟩
  | 22 => ⟨S2x4096x1, .f32⟩
  | 23 => ⟨S2x4096x1, .f32⟩
  | 24 => ⟨S2x4096x1024, .f32⟩
  | 25 => ⟨S2x4096x1024, .f32⟩
  | 26 => ⟨S2x1x1024, .f32⟩
  | 27 => ⟨S_, .f32⟩
  | 28 => ⟨S2x1x1024, .f32⟩
  | 29 => ⟨S2x1x1024, .f32⟩
  | 30 => ⟨S2x4096x1024, .f32⟩
  | 31 => ⟨S2x4096x1024, .f32⟩
  | 32 => ⟨S2x1x1024, .f32⟩
  | 33 => ⟨S2x4096x1024, .f32⟩
  | 34 => ⟨S2x4096x1024, .f32⟩
  | 35 => ⟨S2x4096x2560, .f32⟩
  | 36 => ⟨S2x4096x512, .f32⟩
  | 37 => ⟨S2x4096x512, .f32⟩
  | 38 => ⟨S2x4096x512, .f32⟩
  | 39 => ⟨S2x4096x512, .f32⟩
  | 40 => ⟨S2x4096x512, .f32⟩
  | 41 => ⟨S2x4096x512, .f32⟩
  | 42 => ⟨S2x4096x512, .f32⟩
  | 43 => ⟨S_, .f32⟩
  | 44 => ⟨S2x4096x512, .f32⟩
  | 45 => ⟨S2x4096x512, .f32⟩
  | 46 => ⟨S_, .f32⟩
  | 47 => ⟨S2x4096x512, .f32⟩
  | 48 => ⟨S2x4096x512, .f32⟩
  | 49 => ⟨S2x4096x512, .f32⟩
  | 50 => ⟨S31x4096x4096, .i32⟩
  | 51 => ⟨S31x4096x4096, .i32⟩
  | 52 => ⟨S31x4096x4096, .i32⟩
  | 53 => ⟨S31x4096x4096, .i32⟩
  | 54 => ⟨S_, .i32⟩
  | 55 => ⟨S31x4096x4096, .i32⟩
  | 56 => ⟨S31x4096x4096, .i32⟩
  | 57 => ⟨S31x4096x4096, .i1⟩
  | 58 => ⟨S31x1x4096x4096x1, .i1⟩
  | 59 => ⟨S1x2x1x4096x512, .f32⟩
  | 60 => ⟨S_, .f32⟩
  | 61 => ⟨S_, .f32⟩
  | 62 => ⟨S31x2x4096x4096x512, .i1⟩
  | 63 => ⟨S31x2x4096x4096x512, .f32⟩
  | 64 => ⟨S31x2x4096x4096x512, .f32⟩
  | 65 => ⟨S31x2x4096x4096x512, .f32⟩
  | 66 => ⟨S_, .f32⟩
  | 67 => ⟨S31x2x4096x512, .f32⟩
  | 68 => ⟨S31x1x1x512, .f32⟩
  | 69 => ⟨S31x2x4096x512, .f32⟩
  | 70 => ⟨S31x2x4096x512, .f32⟩
  | 71 => ⟨S_, .f32⟩
  | 72 => ⟨S2x4096x512, .f32⟩
  | 73 => ⟨S1x1x512, .f32⟩
  | 74 => ⟨S2x4096x512, .f32⟩
  | 75 => ⟨S2x4096x512, .f32⟩
  | 76 => ⟨S2x4096x512, .f32⟩
  | 77 => ⟨S3x4096x4096, .i32⟩
  | 78 => ⟨S3x4096x4096, .i32⟩
  | 79 => ⟨S3x4096x4096, .i32⟩
  | 80 => ⟨S3x4096x4096, .i32⟩
  | 81 => ⟨S_, .i32⟩
  | 82 => ⟨S3x4096x4096, .i32⟩
  | 83 => ⟨S3x4096x4096, .i32⟩
  | 84 => ⟨S3x4096x4096, .i1⟩
  | 85 => ⟨S3x1x4096x4096x1, .i1⟩
  | 86 => ⟨S1x2x1x4096x512, .f32⟩
  | 87 => ⟨S_, .f32⟩
  | 88 => ⟨S_, .f32⟩
  | 89 => ⟨S3x2x4096x4096x512, .i1⟩
  | 90 => ⟨S3x2x4096x4096x512, .f32⟩
  | 91 => ⟨S3x2x4096x4096x512, .f32⟩
  | 92 => ⟨S3x2x4096x4096x512, .f32⟩
  | 93 => ⟨S_, .f32⟩
  | 94 => ⟨S3x2x4096x512, .f32⟩
  | 95 => ⟨S3x1x1x512, .f32⟩
  | 96 => ⟨S3x2x4096x512, .f32⟩
  | 97 => ⟨S3x2x4096x512, .f32⟩
  | 98 => ⟨S_, .f32⟩
  | 99 => ⟨S2x4096x512, .f32⟩
  | 100 => ⟨S2x1x1024, .f32⟩
  | 101 => ⟨S2x4096x1024, .f32⟩
  | 102 => ⟨S2x4096x1024, .f32⟩
  | 103 => ⟨S8192x1024, .f32⟩
  | 104 => ⟨S8192x1024, .bf16⟩
  | 105 => ⟨S1024x1024, .bf16⟩
  | 106 => ⟨S8192x512, .f32⟩
  | 107 => ⟨S8192x512, .f32⟩
  | 108 => ⟨S8192x2560, .f32⟩
  | 109 => ⟨S1x512, .f32⟩
  | 110 => ⟨S1x512, .f32⟩
  | 111 => ⟨S1024x2560, .bf16⟩
  | 112 => ⟨S8192x1024, .f32⟩
  | 113 => ⟨S8192x1024, .f32⟩
  | 114 => ⟨S2x1x6144, .f32⟩
  | 115 => ⟨S8192x2560, .bf16⟩
  | 116 => ⟨S296x512, .f32⟩
  | 117 => ⟨S8192x1024, .f32⟩
  | 118 => ⟨S2x8x1024, .f32⟩
  | 119 => ⟨S2x8x1024, .f32⟩
  | 120 => ⟨S37x8x512, .f32⟩
  | 121 => ⟨S_, .f32⟩
  | 122 => ⟨S37x512, .f32⟩
  | 123 => ⟨S31x512, .f32⟩
  | 124 => ⟨S1x512, .f32⟩
  | 125 => ⟨S512, .f32⟩
  | 126 => ⟨S1x512, .f32⟩
  | 127 => ⟨S512, .f32⟩
  | _ => ⟨S2x4096x1024, .f32⟩

abbrev hbmTy0_1 (i : Nat) : BufTy := match i % 128 with
  | 0 => ⟨S1x512, .f32⟩
  | 1 => ⟨S512, .f32⟩
  | 2 => ⟨S3x512, .f32⟩
  | 3 => ⟨S_, .f32⟩
  | 4 => ⟨S2x1024, .f32⟩
  | 5 => ⟨S_, .f32⟩
  | 6 => ⟨S2x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x2560, .f32⟩
  | .local _ .vmem, ⟨9, _⟩ => ⟨S256x2560, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S3x512, .f32⟩
  | .local _ .vmem, ⟨14, _⟩ => ⟨S1024x2560, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1x6144, .f32⟩
  | .local _ .vmem, ⟨20, _⟩ => ⟨S1x1x6144, .f32⟩
  | .local _ .vmem, ⟨21, _⟩ => ⟨S256x2560, .bf16⟩
  | .local _ .vmem, ⟨22, _⟩ => ⟨S256x2560, .bf16⟩
  | .local _ .vmem, ⟨23, _⟩ => ⟨S296x512, .f32⟩
  | .local _ .vmem, ⟨24, _⟩ => ⟨S256x1024, .f32⟩
  | .local _ .vmem, ⟨25, _⟩ => ⟨S256x1024, .f32⟩
  | .local _ .vmem, ⟨26, _⟩ => ⟨S1x8x1024, .f32⟩
  | .local _ .vmem, ⟨27, _⟩ => ⟨S1x8x1024, .f32⟩
  | .local _ .vmem, ⟨28, _⟩ => ⟨S1x8x1024, .f32⟩
  | .local _ .vmem, ⟨29, _⟩ => ⟨S1x8x1024, .f32⟩
  | .local _ .vmem, ⟨30, _⟩ => ⟨S296x512, .f32⟩
  | .local _ .vmem, ⟨31, _⟩ => ⟨S4x8x296x128, .f32⟩
  | .local _ .vmem, ⟨32, _⟩ => ⟨S256x512, .f32⟩
  | .local _ .vmem, ⟨33, _⟩ => ⟨S256x512, .f32⟩
  | .local _ .vmem, ⟨34, _⟩ => ⟨S264x512, .f32⟩
  | .local _ .vmem, ⟨35, _⟩ => ⟨S256x2560, .bf16⟩
  | .local _ .vmem, ⟨36, _⟩ => ⟨S256x1024, .f32⟩
  | .local _ .vmem, ⟨37, _⟩ => ⟨S256x1024, .f32⟩
  | .local _ .vmem, ⟨38, _⟩ => ⟨S32x512, .f32⟩
  | .local _ .vmem, ⟨39, _⟩ => ⟨S8x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83_0 : Ref sig .tc := ⟨.hbm, 115, rfl⟩
abbrev main_v83_1 : Ref sig .tc := ⟨.hbm, 116, rfl⟩
abbrev main_v83_2 : Ref sig .tc := ⟨.hbm, 117, rfl⟩
abbrev main_v83_3 : Ref sig .tc := ⟨.hbm, 118, rfl⟩
abbrev main_v83_4 : Ref sig .tc := ⟨.hbm, 119, rfl⟩
abbrev main_v84 : Ref sig .tc := ⟨.hbm, 120, rfl⟩
abbrev main_cst_12 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_13 : Ref sig .tc := ⟨.hbm, 131, rfl⟩
abbrev main_v94 : Ref sig .tc := ⟨.hbm, 132, rfl⟩
abbrev main_cst_14 : Ref sig .tc := ⟨.hbm, 133, rfl⟩
abbrev main_v95 : Ref sig .tc := ⟨.hbm, 134, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32_6 : BitVec 32 := 32#32
  let v17 : BitVec 1 := Scalar.cmpi .slt arg0 c32_i32_6
  let v18 : BitVec 32 := Scalar.extui v17
  let c0_i32_7 : BitVec 32 := 0#32
  let v19 : BitVec 1 := Scalar.cmpi .ne v18 c0_i32_7
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c32_i32_8 : BitVec 32 := 32#32
  let v20 : BitVec 1 := Scalar.cmpi .eq arg0 c32_i32_8
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let c31_i32 : BitVec 32 := 31#32
  let c0_i32 : BitVec 32 := 0#32
  let c0_i32_0 : BitVec 32 := 0#32
  ![c31_i32.toNat, c0_i32.toNat]

def cc0_transform_1 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_19 (i : grid0.Coords) : Fin 3 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x6144 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S296x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S2x4096x1024 : Shape := ⟨3, ![2, 4096, 1024]⟩
abbrev S2x6144 : Shape := ⟨2, ![2, 6144]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S2x1024 : Shape := ⟨2, ![2, 1024]⟩
abbrev S_ : Shape := ⟨0, ![]⟩
abbrev S2x4096x2560 : Shape := ⟨3, ![2, 4096, 2560]⟩
abbrev S2x4096 : Shape := ⟨2, ![2, 4096]⟩
abbrev S2x4096x1 : Shape := ⟨3, ![2, 4096, 1]⟩
abbrev S2x1x1024 : Shape := ⟨3, ![2, 1, 1024]⟩
abbrev S2x4096x512 : Shape := ⟨3, ![2, 4096, 512]⟩
abbrev S31x4096x4096 : Shape := ⟨3, ![31, 4096, 4096]⟩
abbrev S31x1x4096x4096x1 : Shape := ⟨5, ![31, 1, 4096, 4096, 1]⟩
abbrev S1x2x1x4096x512 : Shape := ⟨5, ![1, 2, 1, 4096, 512]⟩
abbrev S31x2x4096x4096x512 : Shape := ⟨5, ![31, 2, 4096, 4096, 512]⟩
abbrev S31x2x4096x512 : Shape := ⟨4, ![31, 2, 4096, 512]⟩
abbrev S31x1x1x512 : Shape := ⟨4, ![31, 1, 1, 512]⟩
abbrev S1x1x512 : Shape := ⟨3, ![1, 1, 512]⟩
abbrev S3x4096x4096 : Shape := ⟨3, ![3, 4096, 4096]⟩
abbrev S3x1x4096x4096x1 : Shape := ⟨5, ![3, 1, 4096, 4096, 1]⟩
abbrev S3x2x4096x4096x512 : Shape := ⟨5, ![3, 2, 4096, 4096, 512]⟩
abbrev S3x2x4096x512 : Shape := ⟨4, ![3, 2, 4096, 512]⟩
abbrev S3x1x1x512 : Shape := ⟨4, ![3, 1, 1, 512]⟩
abbrev S8192x2560 : Shape := ⟨2, ![8192, 2560]⟩
abbrev S8192x1024 : Shape := ⟨2, ![8192, 1024]⟩

abbrev nBuf : Space → Nat
  | .hbm => 312
  | .vmem => 0
  | .smem => 0
  | _ => 0

abbrev hbmTy0_0 (i : Nat) : BufTy := match i % 128 with
  | 0 => ⟨S2x4096x1024, .f32⟩
  | 1 => ⟨S2x6144, .f32⟩
  | 2 => ⟨S1024x2560, .f32⟩
  | 3 => ⟨S31x512, .f32⟩
  | 4 => ⟨S512, .f32⟩
  | 5 => ⟨S512, .f32⟩
  | 6 => ⟨S512, .f32⟩
  | 7 => ⟨S3x512, .f32⟩
  | 8 => ⟨S1024x1024, .f32⟩
  | 9 => ⟨S2x4096x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S_, .f32⟩
  | 17 => ⟨S2x4096x2560, .f32⟩
  | 18 => ⟨S2x4096x1024, .f32⟩
  | 19 => ⟨S_, .f32⟩
  | 20 => ⟨S2x4096, .f32⟩
  | 21 => ⟨S2x4096x1, .f32⟩
  | 22 => ⟨S_, .f32⟩
  | 23 => ⟨S2x4096x1, .f32⟩
  | 24 => ⟨S2x4096x1, .f32⟩
  | 25 => ⟨S_, .f32⟩
  | 26 => ⟨S2x4096x1, .f32⟩
  | 27 => ⟨S2x4096x1, .f32⟩
  | 28 => ⟨S2x4096x1, .f32⟩
  | 29 => ⟨S2x4096x1, .f32⟩
  | 30 => ⟨S_, .f32⟩
  | 31 => ⟨S2x4096x1, .f32⟩
  | 32 => ⟨S2x4096x1, .f32⟩
  | 33 => ⟨S2x4096x1024, .f32⟩
  | 34 => ⟨S2x4096x1024, .f32⟩
  | 35 => ⟨S2x1x1024, .f32⟩
  | 36 => ⟨S_, .f32⟩
  | 37 => ⟨S2x1x1024, .f32⟩
  | 38 => ⟨S2x1x1024, .f32⟩
  | 39 => ⟨S2x4096x1024, .f32⟩
  | 40 => ⟨S2x4096x1024, .f32⟩
  | 41 => ⟨S2x1x1024, .f32⟩
  | 42 => ⟨S2x4096x1024, .f32⟩
  | 43 => ⟨S2x4096x1024, .f32⟩
  | 44 => ⟨S2x4096x2560, .f32⟩
  | 45 => ⟨S2x4096x2560, .f32⟩
  | 46 => ⟨S2x4096x512, .f32⟩
  | 47 => ⟨S2x4096x512, .f32⟩
  | 48 => ⟨S2x4096x512, .f32⟩
  | 49 => ⟨S2x4096x512, .f32⟩
  | 50 => ⟨S2x4096x512, .f32⟩
  | 51 => ⟨S2x4096x512, .f32⟩
  | 52 => ⟨S2x4096x512, .f32⟩
  | 53 => ⟨S_, .f32⟩
  | 54 => ⟨S2x4096x512, .f32⟩
  | 55 => ⟨S2x4096x512, .f32⟩
  | 56 => ⟨S_, .f32⟩
  | 57 => ⟨S2x4096x512, .f32⟩
  | 58 => ⟨S2x4096x512, .f32⟩
  | 59 => ⟨S_, .f32⟩
  | 60 => ⟨S2x4096x512, .f32⟩
  | 61 => ⟨S2x4096x512, .f32⟩
  | 62 => ⟨S2x4096x512, .f32⟩
  | 63 => ⟨S2x4096x512, .f32⟩
  | 64 => ⟨S31x4096x4096, .i32⟩
  | 65 => ⟨S31x4096x4096, .i32⟩
  | 66 => ⟨S31x4096x4096, .i32⟩
  | 67 => ⟨S31x4096x4096, .i32⟩
  | 68 => ⟨S_, .i32⟩
  | 69 => ⟨S31x4096x4096, .i32⟩
  | 70 => ⟨S31x4096x4096, .i32⟩
  | 71 => ⟨S31x4096x4096, .i1⟩
  | 72 => ⟨S31x1x4096x4096x1, .i1⟩
  | 73 => ⟨S1x2x1x4096x512, .f32⟩
  | 74 => ⟨S_, .f32⟩
  | 75 => ⟨S_, .f32⟩
  | 76 => ⟨S31x2x4096x4096x512, .i1⟩
  | 77 => ⟨S31x2x4096x4096x512, .f32⟩
  | 78 => ⟨S31x2x4096x4096x512, .f32⟩
  | 79 => ⟨S31x2x4096x4096x512, .f32⟩
  | 80 => ⟨S_, .f32⟩
  | 81 => ⟨S31x2x4096x4096x512, .f32⟩
  | 82 => ⟨S_, .f32⟩
  | 83 => ⟨S31x2x4096x512, .f32⟩
  | 84 => ⟨S31x1x1x512, .f32⟩
  | 85 => ⟨S31x2x4096x512, .f32⟩
  | 86 => ⟨S31x2x4096x512, .f32⟩
  | 87 => ⟨S_, .f32⟩
  | 88 => ⟨S2x4096x512, .f32⟩
  | 89 => ⟨S1x1x512, .f32⟩
  | 90 => ⟨S2x4096x512, .f32⟩
  | 91 => ⟨S2x4096x512, .f32⟩
  | 92 => ⟨S_, .f32⟩
  | 93 => ⟨S2x4096, .f32⟩
  | 94 => ⟨S2x4096x1, .f32⟩
  | 95 => ⟨S_, .f32⟩
  | 96 => ⟨S2x4096x1, .f32⟩
  | 97 => ⟨S2x4096x1, .f32⟩
  | 98 => ⟨S2x4096x512, .f32⟩
  | 99 => ⟨S2x4096x512, .f32⟩
  | 100 => ⟨S2x4096x512, .f32⟩
  | 101 => ⟨S_, .f32⟩
  | 102 => ⟨S2x4096x512, .f32⟩
  | 103 => ⟨S2x4096x512, .f32⟩
  | 104 => ⟨S_, .f32⟩
  | 105 => ⟨S2x4096, .f32⟩
  | 106 => ⟨S2x4096x1, .f32⟩
  | 107 => ⟨S_, .f32⟩
  | 108 => ⟨S2x4096x1, .f32⟩
  | 109 => ⟨S2x4096x1, .f32⟩
  | 110 => ⟨S2x4096x512, .f32⟩
  | 111 => ⟨S2x4096x512, .f32⟩
  | 112 => ⟨S_, .f32⟩
  | 113 => ⟨S2x4096x1, .f32⟩
  | 114 => ⟨S2x4096x1, .f32⟩
  | 115 => ⟨S2x4096x1, .f32⟩
  | 116 => ⟨S2x4096x1, .f32⟩
  | 117 => ⟨S_, .f32⟩
  | 118 => ⟨S2x4096x1, .f32⟩
  | 119 => ⟨S2x4096x1, .f32⟩
  | 120 => ⟨S2x4096x512, .f32⟩
  | 121 => ⟨S2x4096x512, .f32⟩
  | 122 => ⟨S1x1x512, .f32⟩
  | 123 => ⟨S2x4096x512, .f32⟩
  | 124 => ⟨S2x4096x512, .f32⟩
  | 125 => ⟨S1x1x512, .f32⟩
  | 126 => ⟨S2x4096x512, .f32⟩
  | 127 => ⟨S2x4096x512, .f32⟩
  | _ => ⟨S2x4096x1024, .f32⟩

abbrev hbmTy0_1 (i : Nat) : BufTy := match i % 128 with
  | 0 => ⟨S2x4096x512, .f32⟩
  | 1 => ⟨S2x4096x512, .f32⟩
  | 2 => ⟨S_, .f32⟩
  | 3 => ⟨S2x4096x512, .f32⟩
  | 4 => ⟨S2x4096x512, .f32⟩
  | 5 => ⟨S_, .f32⟩
  | 6 => ⟨S2x4096x512, .f32⟩
  | 7 => ⟨S2x4096x512, .f32⟩
  | 8 => ⟨S_, .f32⟩
  | 9 => ⟨S2x4096x512, .f32⟩
  | 10 => ⟨S2x4096x512, .f32⟩
  | 11 => ⟨S2x4096x512, .f32⟩
  | 12 => ⟨S2x4096x512, .f32⟩
  | 13 => ⟨S2x4096x512, .f32⟩
  | 14 => ⟨S3x4096x4096, .i32⟩
  | 15 => ⟨S3x4096x4096, .i32⟩
  | 16 => ⟨S3x4096x4096, .i32⟩
  | 17 => ⟨S3x4096x4096, .i32⟩
  | 18 => ⟨S_, .i32⟩
  | 19 => ⟨S3x4096x4096, .i32⟩
  | 20 => ⟨S3x4096x4096, .i32⟩
  | 21 => ⟨S3x4096x4096, .i1⟩
  | 22 => ⟨S3x1x4096x4096x1, .i1⟩
  | 23 => ⟨S1x2x1x4096x512, .f32⟩
  | 24 => ⟨S_, .f32⟩
  | 25 => ⟨S_, .f32⟩
  | 26 => ⟨S3x2x4096x4096x512, .i1⟩
  | 27 => ⟨S3x2x4096x4096x512, .f32⟩
  | 28 => ⟨S3x2x4096x4096x512, .f32⟩
  | 29 => ⟨S3x2x4096x4096x512, .f32⟩
  | 30 => ⟨S_, .f32⟩
  | 31 => ⟨S3x2x4096x4096x512, .f32⟩
  | 32 => ⟨S_, .f32⟩
  | 33 => ⟨S3x2x4096x512, .f32⟩
  | 34 => ⟨S3x1x1x512, .f32⟩
  | 35 => ⟨S3x2x4096x512, .f32⟩
  | 36 => ⟨S3x2x4096x512, .f32⟩
  | 37 => ⟨S_, .f32⟩
  | 38 => ⟨S2x4096x512, .f32⟩
  | 39 => ⟨S2x4096x512, .f32⟩
  | 40 => ⟨S2x4096x1024, .f32⟩
  | 41 => ⟨S2x4096x1024, .f32⟩
  | 42 => ⟨S2x1x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S2x4096x1024, .f32⟩
  | 48 => ⟨S2x4096x1024, .f32⟩
  | 49 => ⟨S2x4096x1024, .f32⟩
  | 50 => ⟨S2x4096x512, .f32⟩
  | 51 => ⟨S2x4096x512, .f32⟩
  | 52 => ⟨S2x4096x512, .f32⟩
  | 53 => ⟨S2x4096x512, .f32⟩
  | 54 => ⟨S3x2x4096x512, .f32⟩
  | 55 => ⟨S3x2x4096x512, .f32⟩
  | 56 => ⟨S3x2x4096x512, .f32⟩
  | 57 => ⟨S3x2x4096x512, .f32⟩
  | 58 => ⟨S_, .f32⟩
  | 59 => ⟨S3x512, .f32⟩
  | 60 => ⟨S3x1x1x512, .f32⟩
  | 61 => ⟨S_, .f32⟩
  | 62 => ⟨S3x512, .f32⟩
  | 63 => ⟨S3x2x4096x4096x512, .f32⟩
  | 64 => ⟨S_, .f32⟩
  | 65 => ⟨S3x2x4096x4096x512, .f32⟩
  | 66 => ⟨S3x2x4096x4096x512, .f32⟩
  | 67 => ⟨S_, .f32⟩
  | 68 => ⟨S2x4096x512, .f32⟩
  | 69 => ⟨S1x2x1x4096x512, .f32⟩
  | 70 => ⟨S_, .f32⟩
  | 71 => ⟨S2x4096x512, .f32⟩
  | 72 => ⟨S2x4096x512, .f32⟩
  | 73 => ⟨S2x4096x512, .f32⟩
  | 74 => ⟨S2x4096x512, .f32⟩
  | 75 => ⟨S2x4096x512, .f32⟩
  | 76 => ⟨S2x4096x512, .f32⟩
  | 77 => ⟨S2x4096x512, .f32⟩
  | 78 => ⟨S_, .f32⟩
  | 79 => ⟨S512, .f32⟩
  | 80 => ⟨S1x1x512, .f32⟩
  | 81 => ⟨S_, .f32⟩
  | 82 => ⟨S512, .f32⟩
  | 83 => ⟨S2x4096x512, .f32⟩
  | 84 => ⟨S_, .f32⟩
  | 85 => ⟨S512, .f32⟩
  | 86 => ⟨S1x1x512, .f32⟩
  | 87 => ⟨S2x4096x512, .f32⟩
  | 88 => ⟨S2x4096x512, .f32⟩
  | 89 => ⟨S_, .f32⟩
  | 90 => ⟨S512, .f32⟩
  | 91 => ⟨S2x4096x512, .f32⟩
  | 92 => ⟨S_, .f32⟩
  | 93 => ⟨S2x4096, .f32⟩
  | 94 => ⟨S2x4096x1, .f32⟩
  | 95 => ⟨S2x4096x512, .f32⟩
  | 96 => ⟨S2x4096x512, .f32⟩
  | 97 => ⟨S2x4096x1, .f32⟩
  | 98 => ⟨S2x4096x512, .f32⟩
  | 99 => ⟨S_, .f32⟩
  | 100 => ⟨S2x4096, .f32⟩
  | 101 => ⟨S2x4096x1, .f32⟩
  | 102 => ⟨S_, .f32⟩
  | 103 => ⟨S2x4096x1, .f32⟩
  | 104 => ⟨S2x4096x1, .f32⟩
  | 105 => ⟨S_, .f32⟩
  | 106 => ⟨S2x4096, .f32⟩
  | 107 => ⟨S2x4096x512, .f32⟩
  | 108 => ⟨S2x4096x512, .f32⟩
  | 109 => ⟨S2x4096x512, .f32⟩
  | 110 => ⟨S_, .f32⟩
  | 111 => ⟨S2x4096, .f32⟩
  | 112 => ⟨S2x4096x1, .f32⟩
  | 113 => ⟨S2x4096x512, .f32⟩
  | 114 => ⟨S2x4096x1, .f32⟩
  | 115 => ⟨S_, .f32⟩
  | 116 => ⟨S2x4096x1, .f32⟩
  | 117 => ⟨S2x4096x1, .f32⟩
  | 118 => ⟨S_, .f32⟩
  | 119 => ⟨S2x4096, .f32⟩
  | 120 => ⟨S2x4096x512, .f32⟩
  | 121 => ⟨S2x4096x512, .f32⟩
  | 122 => ⟨S_, .f32⟩
  | 123 => ⟨S512, .f32⟩
  | 124 => ⟨S1x1x512, .f32⟩
  | 125 => ⟨S_, .f32⟩
  | 126 => ⟨S512, .f32⟩
  | 127 => ⟨S31x2x4096x512, .f32⟩
  | _ => ⟨S2x4096x1024, .f32⟩

abbrev hbmTy0_2 (i : Nat) : BufTy := match i % 128 with
  | 0 => ⟨S31x2x4096x512, .f32⟩
  | 1 => ⟨S31x2x4096x512, .f32⟩
  | 2 => ⟨S31x2x4096x512, .f32⟩
  | 3 => ⟨S_, .f32⟩
  | 4 => ⟨S31x512, .f32⟩
  | 5 => ⟨S31x1x1x512, .f32⟩
  | 6 => ⟨S_, .f32⟩
  | 7 => ⟨S31x512, .f32⟩
  | 8 => ⟨S31x2x4096x4096x512, .f32⟩
  | 9 => ⟨S_, .f32⟩
  | 10 => ⟨S31x2x4096x4096x512, .f32⟩
  | 11 => ⟨S31x2x4096x4096x512, .f32⟩
  | 12 => ⟨S_, .f32⟩
  | 13 => ⟨S2x4096x512, .f32⟩
  | 14 => ⟨S1x2x1x4096x512, .f32⟩
  | 15 => ⟨S_, .f32⟩
  | 16 => ⟨S2x4096x512, .f32⟩
  | 17 => ⟨S2x4096x512, .f32⟩
  | 18 => ⟨S2x4096x512, .f32⟩
  | 19 => ⟨S2x4096x512, .f32⟩
  | 20 => ⟨S2x4096x2560, .f32⟩
  | 21 => ⟨S2x4096x1024, .f32⟩
  | 22 => ⟨S_, .f32⟩
  | 23 => ⟨S2x1024, .f32⟩
  | 24 => ⟨S2x1x1024, .f32⟩
  | 25 => ⟨S_, .f32⟩
  | 26 => ⟨S2x1024, .f32⟩
  | 27 => ⟨S2x4096x1024, .f32⟩
  | 28 => ⟨S_, .f32⟩
  | 29 => ⟨S2x1024, .f32⟩
  | 30 => ⟨S2x1x1024, .f32⟩
  | 31 => ⟨S2x4096x1024, .f32⟩
  | 32 => ⟨S2x4096x1024, .f32⟩
  | 33 => ⟨S_, .f32⟩
  | 34 => ⟨S2x1024, .f32⟩
  | 35 => ⟨S2x4096x1024, .f32⟩
  | 36 => ⟨S_, .f32⟩
  | 37 => ⟨S2x4096, .f32⟩
  | 38 => ⟨S2x4096x1, .f32⟩
  | 39 => ⟨S2x4096x1024, .f32⟩
  | 40 => ⟨S2x4096x1024, .f32⟩
  | 41 => ⟨S2x4096x1024, .f32⟩
  | 42 => ⟨S2x4096x1, .f32⟩
  | 43 => ⟨S_, .f32⟩
  | 44 => ⟨S2x4096x1, .f32⟩
  | 45 => ⟨S2x4096x1, .f32⟩
  | 46 => ⟨S_, .f32⟩
  | 47 => ⟨S2x4096, .f32⟩
  | 48 => ⟨S2x4096x1024, .f32⟩
  | 49 => ⟨S2x4096x1024, .f32⟩
  | 50 => ⟨S2x4096x1024, .f32⟩
  | 51 => ⟨S2x4096x1024, .f32⟩
  | 52 => ⟨S2x4096x1024, .f32⟩
  | 53 => ⟨S8192x2560, .f32⟩
  | 54 => ⟨S8192x2560, .bf16⟩
  | 55 => ⟨S8192x1024, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_call0_v0 : Ref sig .tc := ⟨.hbm, 75, rfl⟩
abbrev main_v54_1 : Ref sig .tc := ⟨.hbm, 76, rfl⟩
abbrev main_call0_v2 : Ref sig .tc := ⟨.hbm, 77, rfl⟩
abbrev main_call0_v3 : Ref sig .tc := ⟨.hbm, 78, rfl⟩
abbrev main_v54_0 : Ref sig .tc := ⟨.hbm, 79, rfl⟩
abbrev main_call0_cst : Ref sig .tc := ⟨.hbm, 80, rfl⟩
abbrev main_v54_2 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call1_v0 : Ref sig .tc := ⟨.hbm, 128, rfl⟩
abbrev main_call1_v1 : Ref sig .tc := ⟨.hbm, 129, rfl⟩
abbrev main_call1_cst : Ref sig .tc := ⟨.hbm, 130, rfl⟩
abbrev main_call1_v2 : Ref sig .tc := ⟨.hbm, 131, rfl⟩
abbrev main_call1_v3 : Ref sig .tc := ⟨.hbm, 132, rfl⟩
abbrev main_call1_cst_0 : Ref sig .tc := ⟨.hbm, 133, rfl⟩
abbrev main_call1_v4 : Ref sig .tc := ⟨.hbm, 134, rfl⟩
abbrev main_v92_2 : Ref sig .tc := ⟨.hbm, 135, rfl⟩
abbrev main_call1_cst_1 : Ref sig .tc := ⟨.hbm, 136, rfl⟩
abbrev main_call1_v6 : Ref sig .tc := ⟨.hbm, 137, rfl⟩
abbrev main_call1_v7 : Ref sig .tc := ⟨.hbm, 138, rfl⟩
abbrev main_v92_1 : Ref sig .tc := ⟨.hbm, 139, rfl⟩
abbrev main_v92_0 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_18 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_19 : Ref sig .tc := ⟨.hbm, 152, rfl⟩
abbrev main_call2_v0 : Ref sig .tc := ⟨.hbm, 153, rfl⟩
abbrev main_v103_1 : Ref sig .tc := ⟨.hbm, 154, rfl⟩
abbrev main_call2_v2 : Ref sig .tc := ⟨.hbm, 155, rfl⟩
abbrev main_call2_v3 : Ref sig .tc := ⟨.hbm, 156, rfl⟩
abbrev main_v103_0 : Ref sig .tc := ⟨.hbm, 157, rfl⟩
abbrev main_call2_cst : Ref sig .tc := ⟨.hbm, 158, rfl⟩
abbrev main_v103_2 : Ref sig .tc := ⟨.hbm, 159, rfl⟩
abbrev main_cst_20 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_21 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_22 : Ref sig .tc := ⟨.hbm, 186, rfl⟩
abbrev main_v128 : Ref sig .tc := ⟨.hbm, 187, rfl⟩
abbrev main_v129 : Ref sig .tc := ⟨.hbm, 188, rfl⟩
abbrev main_cst_23 : Ref sig .tc := ⟨.hbm, 189, rfl⟩
abbrev main_v130 : Ref sig .tc := ⟨.hbm, 190, rfl⟩
abbrev main_v131 : Ref sig .tc := ⟨.hbm, 191, rfl⟩
abbrev main_call3_cst : Ref sig .tc := ⟨.hbm, 192, rfl⟩
abbrev main_call3_v0 : Ref sig .tc := ⟨.hbm, 193, rfl⟩
abbrev main_call3_v1 : Ref sig .tc := ⟨.hbm, 194, rfl⟩
abbrev main_call3_cst_0 : Ref sig .tc := ⟨.hbm, 195, rfl⟩
abbrev main_call3_v2 : Ref sig .tc := ⟨.hbm, 196, rfl⟩
abbrev main_v132 : Ref sig .tc := ⟨.hbm, 197, rfl⟩
abbrev main_cst_24 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_call4_v0 : Ref sig .tc := ⟨.hbm, 202, rfl⟩
abbrev main_call4_v1 : Ref sig .tc := ⟨.hbm, 203, rfl⟩
abbrev main_call4_v2 : Ref sig .tc := ⟨.hbm, 204, rfl⟩
abbrev main_v136 : Ref sig .tc := ⟨.hbm, 205, rfl⟩
abbrev main_cst_25 : Ref sig .tc := ⟨.hbm, 206, rfl⟩
abbrev main_v137 : Ref sig .tc := ⟨.hbm, 207, rfl⟩
abbrev main_v138 : Ref sig .tc := ⟨.hbm, 208, rfl⟩
abbrev main_cst_26 : Ref sig .tc := ⟨.hbm, 209, rfl⟩
abbrev main_v139 : Ref sig .tc := ⟨.hbm, 210, rfl⟩
abbrev main_v140 : Ref sig .tc := ⟨.hbm, 211, rfl⟩
abbrev main_cst_27 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_cst_28 : Ref sig .tc := ⟨.hbm, 217, rfl⟩
abbrev main_v145 : Ref sig .tc := ⟨.hbm, 218, rfl⟩
abbrev main_v146 : Ref sig .tc := ⟨.hbm, 219, rfl⟩
abbrev main_cst_29 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_cst_30 : Ref sig .tc := ⟨.hbm, 227, rfl⟩
abbrev main_v153 : Ref sig .tc := ⟨.hbm, 228, rfl⟩
abbrev main_v154 : Ref sig .tc := ⟨.hbm, 229, rfl⟩
abbrev main_cst_31 : Ref sig .tc := ⟨.hbm, 230, rfl⟩
abbrev main_v155 : Ref sig .tc := ⟨.hbm, 231, rfl⟩
abbrev main_v156 : Ref sig .tc := ⟨.hbm, 232, rfl⟩
abbrev main_cst_32 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_cst_33 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_cst_34 : Ref sig .tc := ⟨.hbm, 243, rfl⟩
abbrev main_v165 : Ref sig .tc := ⟨.hbm, 244, rfl⟩
abbrev main_v166 : Ref sig .tc := ⟨.hbm, 245, rfl⟩
abbrev main_cst_35 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_cst_36 : Ref sig .tc := ⟨.hbm, 250, rfl⟩
abbrev main_v170 : Ref sig .tc := ⟨.hbm, 251, rfl⟩
abbrev main_v171 : Ref sig .tc := ⟨.hbm, 252, rfl⟩
abbrev main_cst_37 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_cst_38 : Ref sig .tc := ⟨.hbm, 259, rfl⟩
abbrev main_v177 : Ref sig .tc := ⟨.hbm, 260, rfl⟩
abbrev main_v178 : Ref sig .tc := ⟨.hbm, 261, rfl⟩
abbrev main_cst_39 : Ref sig .tc := ⟨.hbm, 262, rfl⟩
abbrev main_v179 : Ref sig .tc := ⟨.hbm, 263, rfl⟩
abbrev main_v180 : Ref sig .tc := ⟨.hbm, 264, rfl⟩
abbrev main_call5_cst : Ref sig .tc := ⟨.hbm, 265, rfl⟩
abbrev main_call5_v0 : Ref sig .tc := ⟨.hbm, 266, rfl⟩
abbrev main_call5_v1 : Ref sig .tc := ⟨.hbm, 267, rfl⟩
abbrev main_call5_cst_0 : Ref sig .tc := ⟨.hbm, 268, rfl⟩
abbrev main_call5_v2 : Ref sig .tc := ⟨.hbm, 269, rfl⟩
abbrev main_v181 : Ref sig .tc := ⟨.hbm, 270, rfl⟩
abbrev main_cst_40 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_cst_41 : Ref sig .tc := ⟨.hbm, 278, rfl⟩
abbrev main_v188 : Ref sig .tc := ⟨.hbm, 279, rfl⟩
abbrev main_v189 : Ref sig .tc := ⟨.hbm, 280, rfl⟩
abbrev main_cst_42 : Ref sig .tc := ⟨.hbm, 281, rfl⟩
abbrev main_v190 : Ref sig .tc := ⟨.hbm, 282, rfl⟩
abbrev main_v191 : Ref sig .tc := ⟨.hbm, 283, rfl⟩
abbrev main_cst_43 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_cst_44 : Ref sig .tc := ⟨.hbm, 289, rfl⟩
abbrev main_v196 : Ref sig .tc := ⟨.hbm, 290, rfl⟩
abbrev main_v197 : Ref sig .tc := ⟨.hbm, 291, rfl⟩
abbrev main_cst_45 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_cst_46 : Ref sig .tc := ⟨.hbm, 299, rfl⟩
abbrev main_v204 : Ref sig .tc := ⟨.hbm, 300, rfl⟩
abbrev main_v205 : Ref sig .tc := ⟨.hbm, 301, rfl⟩
abbrev main_cst_47 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x4096 : Shape := ⟨3, ![2, 4096, 4096]⟩
abbrev S8192x4096 : Shape := ⟨2, ![8192, 4096]⟩
abbrev S8192x1024 : Shape := ⟨2, ![8192, 1024]⟩
abbrev S1024x1024 : Shape := ⟨2, ![1024, 1024]⟩

abbrev nBuf : Space → Nat
  | .hbm => 39
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024x4096, .f32⟩
  | .hbm, ⟨3, _⟩ => ⟨S4096x1024, .f32⟩
  | .hbm, ⟨4, _⟩ => ⟨S2x4096x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x4096x1024, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x4096x1024, .f32⟩
  | .hbm, ⟨26, _⟩ => ⟨S2x4096x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x4096x4096, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S8192x4096, .f32⟩
  | .hbm, ⟨35, _⟩ => ⟨S8192x4096, .bf16⟩
  | .hbm, ⟨36, _⟩ => ⟨S8192x1024, .f32⟩
  | .hbm, ⟨37, _⟩ => ⟨S8192x1024, .bf16⟩
  | .hbm, ⟨38, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32 : BitVec 32 := 0#32
  let v8 : BitVec 1 := Scalar.cmpi .eq arg2 c0_i32
  let v_true : BitVec 1 := 1#1
  let v11 : BitVec 1 := Scalar.xori v8 v_true
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x4096 : Shape := ⟨3, ![2, 4096, 4096]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024x4096, .f32⟩
  | .hbm, ⟨3, _⟩ => ⟨S4096x1024, .f32⟩
  | .hbm, ⟨4, _⟩ => ⟨S2x4096x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x1x1024, .f32⟩
  | .hbm, ⟨31, _⟩ => ⟨S2x4096x1024, .f32⟩
  | .hbm, ⟨32, _⟩ => ⟨S2x4096x1024, .f32⟩
  | .hbm, ⟨33, _⟩ => ⟨S2x4096x4096, .f32⟩
  | .hbm, ⟨34, _⟩ => ⟨S_, .f32⟩
  | .hbm, ⟨35, _⟩ => ⟨S2x4096x4096, .f32⟩
  | .hbm, ⟨36, _⟩ => ⟨S2x4096x4096, .f32⟩
  | .hbm, ⟨37, _⟩ => ⟨S2x4096x4096, .f32⟩
  | .hbm, ⟨38, _⟩ => ⟨S2x4096x1024, .f32⟩
  | .hbm, ⟨39, _⟩ => ⟨S2x1x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S1024x4096, .f32⟩
  | .hbm, ⟨46, _⟩ => ⟨S4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S2x4096x1024 : Shape := ⟨3, ![2, 4096, 1024]⟩
abbrev S2x6144 : Shape := ⟨2, ![2, 6144]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S8192x1024 : Shape := ⟨2, ![8192, 1024]⟩
abbrev S2x1x6144 : Shape := ⟨3, ![2, 1, 6144]⟩
abbrev S1x512 : Shape := ⟨2, ![1, 512]⟩
abbrev S8192x2560 : Shape := ⟨2, ![8192, 2560]⟩
abbrev S8192x512 : Shape := ⟨2, ![8192, 512]⟩
abbrev S256x1024 : Shape := ⟨2, ![256, 1024]⟩
abbrev S1x1x6144 : Shape := ⟨3, ![1, 1, 6144]⟩
abbrev S512x2560 : Shape := ⟨2, ![512, 2560]⟩
abbrev S512x1024 : Shape := ⟨2, ![512, 1024]⟩
abbrev S512x512 : Shape := ⟨2, ![512, 512]⟩
abbrev S256x2560 : Shape := ⟨2, ![256, 2560]⟩
abbrev S296x512 : Shape := ⟨2, ![296, 512]⟩
abbrev S4x8x296x128 : Shape := ⟨4, ![4, 8, 296, 128]⟩
abbrev S264x512 : Shape := ⟨2, ![264, 512]⟩
abbrev S256x512 : Shape := ⟨2, ![256, 512]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S1024x256 : Shape := ⟨2, ![1024, 256]⟩
abbrev S256x256 : Shape := ⟨2, ![256, 256]⟩
abbrev S32x512 : Shape := ⟨2, ![32, 512]⟩
abbrev S288x128 : Shape := ⟨2, ![288, 128]⟩
abbrev S1x1x288x128 : Shape := ⟨4, ![1, 1, 288, 128]⟩
abbrev S32x128 : Shape := ⟨2, ![32, 128]⟩
abbrev S1x1x32x128 : Shape := ⟨4, ![1, 1, 32, 128]⟩
abbrev S1x128 : Shape := ⟨2, ![1, 128]⟩
abbrev S8x512 : Shape := ⟨2, ![8, 512]⟩

abbrev nBuf : Space → Nat
  | .hbm => 19
  | .vmem => 34
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024x2560, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S3x512, .f32⟩
  | .hbm, ⟨8, _⟩ => ⟨S8192x1024, .f32⟩
  | .hbm, ⟨9, _⟩ => ⟨S2x1x6144, .f32⟩
  | .hbm, ⟨10, _⟩ => ⟨S1024x2560, .bf16⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S8192x2560, .f32⟩
  | .hbm, ⟨15, _⟩ => ⟨S8192x1024, .bf16⟩
  | .hbm, ⟨16, _⟩ => ⟨S8192x1024, .bf16⟩
  | .hbm, ⟨17, _⟩ => ⟨S8192x512, .f32⟩
  | .hbm, ⟨18, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1x6144, .f32⟩
  | .local _ .vmem, ⟨6, _⟩ => ⟨S1x1x6144, .f32⟩
  | .local _ .vmem, ⟨7, _⟩ => ⟨S1x1x6144, .f32⟩
  | .local _ .vmem, ⟨8, _⟩ => ⟨S1x1x6144, .f32⟩
  | .local _ .vmem, ⟨9, _⟩ => ⟨S1x1x6144, .f32⟩
  | .local _ .vmem, ⟨10, _⟩ => ⟨S1024x2560, .bf16⟩
  | .local _ .vmem, ⟨11, _⟩ => ⟨S31x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S3x512, .f32⟩
  | .local _ .vmem, ⟨16, _⟩ => ⟨S512x2560, .f32⟩
  | .local _ .vmem, ⟨17, _⟩ => ⟨S512x2560, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S256x2560, .f32⟩
  | .local _ .vmem, ⟨27, _⟩ => ⟨S256x2560, .f32⟩
  | .local _ .vmem, ⟨28, _⟩ => ⟨S256x1024, .bf16⟩
  | .local _ .vmem, ⟨29, _⟩ => ⟨S256x1024, .bf16⟩
  | .local _ .vmem, ⟨30, _⟩ => ⟨S296x512, .f32⟩
  | .local _ .vmem, ⟨31, _⟩ => ⟨S4x8x296x128, .f32⟩
  | .local _ .vmem, ⟨32, _⟩ => ⟨S264x512, .f32⟩
  | .local _ .vmem, ⟨33, _⟩ => ⟨S256x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![v19.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2560 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S2x4096x1024 : Shape := ⟨3, ![2, 4096, 1024]⟩
abbrev S2x6144 : Shape := ⟨2, ![2, 6144]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x2560 : Shape := ⟨3, ![2, 4096, 2560]⟩
abbrev S2x4096x512 : Shape := ⟨3, ![2, 4096, 512]⟩
abbrev S31x4096x4096 : Shape := ⟨3, ![31, 4096, 4096]⟩
abbrev S31x1x4096x4096x1 : Shape := ⟨5, ![31, 1, 4096, 4096, 1]⟩
abbrev S1x2x1x4096x512 : Shape := ⟨5, ![1, 2, 1, 4096, 512]⟩
abbrev S31x2x4096x4096x512 : Shape := ⟨5, ![31, 2, 4096, 4096, 512]⟩
abbrev S31x2x4096x512 : Shape := ⟨4, ![31, 2, 4096, 512]⟩
abbrev S31x1x1x512 : Shape := ⟨4, ![31, 1, 1, 512]⟩
abbrev S1x1x512 : Shape := ⟨3, ![1, 1, 512]⟩
abbrev S3x4096x4096 : Shape := ⟨3, ![3, 4096, 4096]⟩
abbrev S3x1x4096x4096x1 : Shape := ⟨5, ![3, 1, 4096, 4096, 1]⟩
abbrev S3x2x4096x4096x512 : Shape := ⟨5, ![3, 2, 4096, 4096, 512]⟩
abbrev S3x2x4096x512 : Shape := ⟨4, ![3, 2, 4096, 512]⟩
abbrev S3x1x1x512 : Shape := ⟨4, ![3, 1, 1, 512]⟩
abbrev S8192x2560 : Shape := ⟨2, ![8192, 2560]⟩
abbrev S8192x1024 : Shape := ⟨2, ![8192, 1024]⟩
abbrev S8192x512 : Shape := ⟨2, ![8192, 512]⟩

abbrev nBuf : Space → Nat
  | .hbm => 148
  | .vmem => 0
  | .smem => 0
  | _ => 0

abbrev hbmTy0_0 (i : Nat) : BufTy := match i % 128 with
  | 0 => ⟨S2x4096x1024, .f32⟩
  | 1 => ⟨S2x6144, .f32⟩
  | 2 => ⟨S1024x2560, .f32⟩
  | 3 => ⟨S31x512, .f32⟩
  | 4 => ⟨S512, .f32⟩
  | 5 => ⟨S512, .f32⟩
  | 6 => ⟨S512, .f32⟩
  | 7 => ⟨S3x512, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1024, .f32⟩
  | 14 => ⟨S2x4096x1024, .f32⟩
  | 15 => ⟨S_, .f32⟩
  | 16 => ⟨S2x4096, .f32⟩
  | 17 => ⟨S2x4096x1, .f32⟩
  | 18 => ⟨S_, .f32⟩
  | 19 => ⟨S2x4096x1, .f32⟩
  | 20 => ⟨S2x4096x1, .f32⟩
  | 21 => ⟨S_, .f32⟩
  | 22 => ⟨S2x4096x1, .f32⟩
  | 23 => ⟨S2x4096x1, .f32⟩
  | 24 => ⟨S2x4096x1, .f32⟩
  | 25 => ⟨S2x4096x1024, .f32⟩
  | 26 => ⟨S2x4096x1024, .f32⟩
  | 27 => ⟨S2x1x1024, .f32⟩
  | 28 => ⟨S_, .f32⟩
  | 29 => ⟨S2x1x1024, .f32⟩
  | 30 => ⟨S2x1x1024, .f32⟩
  | 31 => ⟨S2x4096x1024, .f32⟩
  | 32 => ⟨S2x4096x1024, .f32⟩
  | 33 => ⟨S2x1x1024, .f32⟩
  | 34 => ⟨S2x4096x1024, .f32⟩
  | 35 => ⟨S2x4096x1024, .f32⟩
  | 36 => ⟨S2x4096x2560, .f32⟩
  | 37 => ⟨S2x4096x512, .f32⟩
  | 38 => ⟨S2x4096x512, .f32⟩
  | 39 => ⟨S2x4096x512, .f32⟩
  | 40 => ⟨S2x4096x512, .f32⟩
  | 41 => ⟨S2x4096x512, .f32⟩
  | 42 => ⟨S2x4096x512, .f32⟩
  | 43 => ⟨S2x4096x512, .f32⟩
  | 44 => ⟨S_, .f32⟩
  | 45 => ⟨S2x4096x512, .f32⟩
  | 46 => ⟨S2x4096x512, .f32⟩
  | 47 => ⟨S_, .f32⟩
  | 48 => ⟨S2x4096x512, .f32⟩
  | 49 => ⟨S2x4096x512, .f32⟩
  | 50 => ⟨S2x4096x512, .f32⟩
  | 51 => ⟨S31x4096x4096, .i32⟩
  | 52 => ⟨S31x4096x4096, .i32⟩
  | 53 => ⟨S31x4096x4096, .i32⟩
  | 54 => ⟨S31x4096x4096, .i32⟩
  | 55 => ⟨S_, .i32⟩
  | 56 => ⟨S31x4096x4096, .i32⟩
  | 57 => ⟨S31x4096x4096, .i32⟩
  | 58 => ⟨S31x4096x4096, .i1⟩
  | 59 => ⟨S31x1x4096x4096x1, .i1⟩
  | 60 => ⟨S1x2x1x4096x512, .f32⟩
  | 61 => ⟨S_, .f32⟩
  | 62 => ⟨S_, .f32⟩
  | 63 => ⟨S31x2x4096x4096x512, .i1⟩
  | 64 => ⟨S31x2x4096x4096x512, .f32⟩
  | 65 => ⟨S31x2x4096x4096x512, .f32⟩
  | 66 => ⟨S31x2x4096x4096x512, .f32⟩
  | 67 => ⟨S_, .f32⟩
  | 68 => ⟨S31x2x4096x512, .f32⟩
  | 69 => ⟨S31x1x1x512, .f32⟩
  | 70 => ⟨S31x2x4096x512, .f32⟩
  | 71 => ⟨S31x2x4096x512, .f32⟩
  | 72 => ⟨S_, .f32⟩
  | 73 => ⟨S2x4096x512, .f32⟩
  | 74 => ⟨S1x1x512, .f32⟩
  | 75 => ⟨S2x4096x512, .f32⟩
  | 76 => ⟨S2x4096x512, .f32⟩
  | 77 => ⟨S_, .f32⟩
  | 78 => ⟨S2x4096, .f32⟩
  | 79 => ⟨S2x4096x1, .f32⟩
  | 80 => ⟨S_, .f32⟩
  | 81 => ⟨S2x4096x1, .f32⟩
  | 82 => ⟨S2x4096x1, .f32⟩
  | 83 => ⟨S2x4096x512, .f32⟩
  | 84 => ⟨S2x4096x512, .f32⟩
  | 85 => ⟨S2x4096x512, .f32⟩
  | 86 => ⟨S_, .f32⟩
  | 87 => ⟨S2x4096, .f32⟩
  | 88 => ⟨S2x4096x1, .f32⟩
  | 89 => ⟨S_, .f32⟩
  | 90 => ⟨S2x4096x1, .f32⟩
  | 91 => ⟨S2x4096x1, .f32⟩
  | 92 => ⟨S2x4096x512, .f32⟩
  | 93 => ⟨S2x4096x512, .f32⟩
  | 94 => ⟨S_, .f32⟩
  | 95 => ⟨S2x4096x1, .f32⟩
  | 96 => ⟨S2x4096x1, .f32⟩
  | 97 => ⟨S2x4096x1, .f32⟩
  | 98 => ⟨S2x4096x512, .f32⟩
  | 99 => ⟨S2x4096x512, .f32⟩
  | 100 => ⟨S1x1x512, .f32⟩
  | 101 => ⟨S2x4096x512, .f32⟩
  | 102 => ⟨S2x4096x512, .f32⟩
  | 103 => ⟨S1x1x512, .f32⟩
  | 104 => ⟨S2x4096x512, .f32⟩
  | 105 => ⟨S2x4096x512, .f32⟩
  | 106 => ⟨S2x4096x512, .f32⟩
  | 107 => ⟨S2x4096x512, .f32⟩
  | 108 => ⟨S_, .f32⟩
  | 109 => ⟨S2x4096x512, .f32⟩
  | 110 => ⟨S2x4096x512, .f32⟩
  | 111 => ⟨S_, .f32⟩
  | 112 => ⟨S2x4096x512, .f32⟩
  | 113 => ⟨S2x4096x512, .f32⟩
  | 114 => ⟨S2x4096x512, .f32⟩
  | 115 => ⟨S2x4096x512, .f32⟩
  | 116 => ⟨S3x4096x4096, .i32⟩
  | 117 => ⟨S3x4096x4096, .i32⟩
  | 118 => ⟨S3x4096x4096, .i32⟩
  | 119 => ⟨S3x4096x4096, .i32⟩
  | 120 => ⟨S_, .i32⟩
  | 121 => ⟨S3x4096x4096, .i32⟩
  | 122 => ⟨S3x4096x4096, .i32⟩
  | 123 => ⟨S3x4096x4096, .i1⟩
  | 124 => ⟨S3x1x4096x4096x1, .i1⟩
  | 125 => ⟨S1x2x1x4096x512, .f32⟩
  | 126 => ⟨S_, .f32⟩
  | 127 => ⟨S_, .f32⟩
  | _ => ⟨S2x4096x1024, .f32⟩

abbrev hbmTy0_1 (i : Nat) : BufTy := match i % 128 with
  | 0 => ⟨S3x2x4096x4096x512, .i1⟩
  | 1 => ⟨S3x2x4096x4096x512, .f32⟩
  | 2 => ⟨S3x2x4096x4096x512, .f32⟩
  | 3 => ⟨S3x2x4096x4096x512, .f32⟩
  | 4 => ⟨S_, .f32⟩
  | 5 => ⟨S3x2x4096x512, .f32⟩
  | 6 => ⟨S3x1x1x512, .f32⟩
  | 7 => ⟨S3x2x4096x512, .f32⟩
  | 8 => ⟨S3x2x4096x512, .f32⟩
  | 9 => ⟨S_, .f32⟩
  | 10 => ⟨S2x4096x512, .f32⟩
  | 11 => ⟨S2x4096x512, .f32⟩
  | 12 => ⟨S2x4096x1024, .f32⟩
  | 13 => ⟨S8192x2560, .f32⟩
  | 14 => ⟨S8192x1024, .f32⟩
  | 15 => ⟨S8192x1024, .bf16⟩
  | 16 => ⟨S8192x1024, .f32⟩
  | 17 => ⟨S8192x1024, .bf16⟩
  | 18 => ⟨S8192x512, .f32⟩
  | 19 => ⟨S8192x512, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_13 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_14 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_v90 : Ref sig .tc := ⟨.hbm, 131, rfl⟩
abbrev main_cst_15 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_16 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]
-- ==== Kernel6.lean ====
abbrev S16x1024 : Shape := ⟨2, ![16, 1024]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1024, .f32⟩
  | .hbm, ⟨4, _⟩ => ⟨S16x1536, .f32⟩
  | .local _ .vmem, ⟨0, _⟩ => ⟨S16x1024, .f32⟩
  | .local _ .vmem, ⟨1, _⟩ => ⟨S1024x1536, .f32⟩
  | .local _ .vmem, ⟨2, _⟩ => ⟨S1x1536, .f32⟩
  | .local _ .vmem, ⟨3, _⟩ => ⟨S16x1024, .f32⟩
  | .local _ .vmem, ⟨4, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference6Ideal.lean ====
abbrev S16x1024 : Shape := ⟨2, ![16, 1024]⟩
abbrev S1024x1536 : Shape := ⟨2, ![1024, 1536]⟩
abbrev S1x1536 : Shape := ⟨2, ![1, 1536]⟩
abbrev S_ : Shape := ⟨0, ![]⟩
abbrev S16x1536 : Shape := ⟨2, ![16, 1536]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1536, .f32⟩
  | .hbm, ⟨13, _⟩ => ⟨S16x1536, .f32⟩
  | .hbm, ⟨14, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Reals.lean ====
/-
  Real numbers inside the extended reals: what the programs' scalar operations and constants are on finite operands,
  and the one-row functions that the kernel and the derivative are both compared with.
-/
module

public import Idealize.ShloMosaic.PureOps.Ideal
public import Idealize.ShloMosaic.Lib.Pointwise

@[expose] public section

noncomputable section

open Idealize.ShloMosaic

namespace Rows

/-! ## Constants -/

/-- The constant under the root of the norm. -/
def eps : ℝ := 8796093 * (1 / 8796093022208)

theorem eps_pos : 0 < eps := by unfold eps; norm_num

theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_inv_1024 : Ideal.ofBits .f32 0x3A800000#32 = ((1 / 1024 : ℝ) : EReal) := by
  simp [Ideal.ofBits, Ideal.ieee, -EReal.coe_mul]; norm_num
theorem bits_inv_2048 : Ideal.ofBits .f32 0x3A000000#32 = ((1 / 2048 : ℝ) : EReal) := by
  simp [Ideal.ofBits, Ideal.ieee, -EReal.coe_mul]; norm_num
theorem bits_eps : Ideal.ofBits .f32 0x358637BD#32 = (eps : EReal) := by
  simp [Ideal.ofBits, Ideal.ieee, -EReal.coe_mul, eps]; norm_num
theorem bits_neg_half : Ideal.ofBits .f32 0xBF000000#32 = ((-(1 / 2) : ℝ) : EReal) := by
  simp [Ideal.ofBits, Ideal.ieee, -EReal.coe_mul]; norm_num

/-! ## Finite operands -/

theorem sum_coe {ι : Type} [Fintype ι] (f : ι → ℝ) : ∑ k, ((f k : ℝ) : EReal) = ((∑ k, f k : ℝ) : EReal) := by
  classical
  refine Finset.induction_on (Finset.univ : Finset ι) (by simp) ?_
  intro a s ha ih
  rw [Finset.sum_insert ha, Finset.sum_insert ha, ih, EReal.coe_add]

theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem div_real {b : ℝ} (h : b ≠ 0) (a : ℝ) : Ideal.div (a : EReal) (b : EReal) = ((a / b : ℝ) : EReal) := by
  rw [Ideal.div_coe h, ← EReal.coe_mul, mul_one_div]

theorem div_1024 (a : ℝ) : Ideal.div (a : EReal) ((1024 : ℝ) : EReal) = ((a / 1024 : ℝ) : EReal) :=
  div_real (by norm_num) a

theorem rsqrt_real {a : ℝ} (h : 0 < a) : Ideal.rsqrt (a : EReal) = (((Real.sqrt a)⁻¹ : ℝ) : EReal) := by
  rw [Ideal.rsqrt_coe, if_neg (not_lt.2 h.le), if_neg h.ne']

/-! ## One row of the norm -/

/-- The mean square of a row, with the constant. -/
def ms {n : ℕ} (x : Fin n → ℝ) : ℝ := (∑ k, x k * x k) / 1024 + eps

theorem ms_pos {n : ℕ} (x : Fin n → ℝ) : 0 < ms x :=
  add_pos_of_nonneg_of_pos (div_nonneg (Finset.sum_nonneg fun k _ => mul_self_nonneg _) (by norm_num)) eps_pos

/-- The reciprocal root of the mean square. -/
def rs {n : ℕ} (x : Fin n → ℝ) : ℝ := (Real.sqrt (ms x))⁻¹

/-- The gradient of the normalised row `x · rs x` against `g`, as the kernels compute it. -/
def rmsGrad {n : ℕ} (x g : Fin n → ℝ) (k : Fin n) : ℝ :=
  rs x * (g k - x k * rs x * ((∑ j, g j * (x j * rs x)) / 1024))

theorem rsqrt_ms {n : ℕ} (x : Fin n → ℝ) : Ideal.rsqrt (((∑ k, x k * x k) / 1024 + eps : ℝ) : EReal) = ((rs x : ℝ) : EReal) :=
  rsqrt_real (ms_pos x)

/-- `rs x` squared is one over the mean square. -/
theorem rs_sq {n : ℕ} (x : Fin n → ℝ) : rs x * rs x = (ms x)⁻¹ := by
  unfold rs
  rw [← mul_inv, Real.mul_self_sqrt (ms_pos x).le]

/-- The same gradient by the chain rule: through the row itself, and through the root of the mean square (whose
    derivative is `-(1/2) · rs / ms` and whose argument carries `x` twice). -/
theorem rmsGrad_chain {n : ℕ} (x g : Fin n → ℝ) (k : Fin n) :
    g k * rs x + (x k * ((∑ j, x j * g j) * (-(1 / 2) * (rs x / ms x)) / 1024)
      + ((∑ j, x j * g j) * (-(1 / 2) * (rs x / ms x)) / 1024) * x k) = rmsGrad x g k := by
  unfold rmsGrad
  have h : ∑ j, g j * (x j * rs x) = (∑ j, x j * g j) * rs x := by
    rw [Finset.sum_mul]; exact Finset.sum_congr rfl fun j _ => by ring
  rw [h, div_eq_mul_inv (rs x) (ms x), ← rs_sq x]
  ring

/-! ## Sums over four pieces -/

/-- A sum over 4096 places is the sum of its four quarters. -/
theorem sum_four {M : Type} [AddCommMonoid M] (g : Fin 4096 → M) :
    ∑ k, g k = (∑ k : Fin 1024, g ⟨0 + k, by omega⟩) + (∑ k : Fin 1024, g ⟨1024 + k, by omega⟩)
      + (∑ k : Fin 1024, g ⟨2048 + k, by omega⟩) + ∑ k : Fin 1024, g ⟨3072 + k, by omega⟩ := by
  rw [show (∑ k, g k) = ∑ k : Fin (1024 + 1024 + 1024 + 1024), g ⟨k, k.2⟩ from rfl,
    Fin.sum_univ_add, Fin.sum_univ_add, Fin.sum_univ_add]
  congr 1

end Rows
-- ==== Proof.Blocks.lean ====
/-
  Blocks of finite entries: a two-axis array that holds given reals, its loads and the pieces of a block.
-/
module

public import proofs.«01_k».proof.Proof.Reals
public import Idealize.ShloMosaic.Lib.Pipeline.Value
public import Idealize.ShloMosaic.Lib.Pointwise

@[expose] public section

noncomputable section

open Idealize.ShloMosaic Idealize.ShloMosaic.TcCoe Idealize.SL.Sem

namespace Rows

/-- The entries of `v` are the reals `a`. -/
abbrev IsR {n m : ℕ} {φ : FTy} (v : FVec Ideal ⟨2, ![n, m]⟩ φ) (a : Fin n → Fin m → ℝ) : Prop :=
  ∀ r k, v (ix2 r k) = ((a r k : ℝ) : EReal)

/-- Rows against rows. -/
def mm {n p q : ℕ} (A : Fin n → Fin q → ℝ) (W : Fin p → Fin q → ℝ) (r : Fin n) (f : Fin p) : ℝ := ∑ k, A r k * W f k

section
variable {Val : EltTy → Type} {e : EltTy} {n m p q : ℕ}

/-- A load of some rows and columns. -/
theorem ld_both {X : (⟨2, ![n, m]⟩ : Shape).Idx → Val e} {a : Fin n → Fin m → Val e} (h : ∀ r k, X (ix2 r k) = a r k)
    {o o' : ℕ} (inb : ∀ i, ![o, o'] i + ![p, q] i ≤ (⟨2, ![n, m]⟩ : Shape).size i) (r : Fin p) (k : Fin q) :
    View.ld X (Rect.unit (s := ⟨2, ![n, m]⟩) ![o, o'] ![p, q] inb) (ix2 r k)
      = a ⟨o + r, by have := inb 0; simp at this; omega⟩ ⟨o' + k, by have := inb 1; simp at this; omega⟩ :=
  (congrArg X (funext fun i => Fin.ext (by match i with
    | 0 => exact congrArg (o + ·) (Nat.one_mul _)
    | 1 => exact congrArg (o' + ·) (Nat.one_mul _)))).trans (h _ _)

/-- A load of some rows, all columns. -/
theorem ld_rows {X : (⟨2, ![n, m]⟩ : Shape).Idx → Val e} {a : Fin n → Fin m → Val e} (h : ∀ r k, X (ix2 r k) = a r k)
    {o : ℕ} (inb : ∀ i, ![o, 0] i + ![p, m] i ≤ (⟨2, ![n, m]⟩ : Shape).size i) (r : Fin p) (k : Fin m) :
    View.ld X (Rect.unit (s := ⟨2, ![n, m]⟩) ![o, 0] ![p, m] inb) (ix2 r k)
      = a ⟨o + r, by have := inb 0; simp at this; omega⟩ k :=
  (ld_both h inb r k).trans (by simp only [Nat.zero_add])

/-- A load of some columns, all rows. -/
theorem ld_cols {X : (⟨2, ![n, m]⟩ : Shape).Idx → Val e} {a : Fin n → Fin m → Val e} (h : ∀ r k, X (ix2 r k) = a r k)
    {o : ℕ} (inb : ∀ i, ![0, o] i + ![n, q] i ≤ (⟨2, ![n, m]⟩ : Shape).size i) (r : Fin n) (k : Fin q) :
    View.ld X (Rect.unit (s := ⟨2, ![n, m]⟩) ![0, o] ![n, q] inb) (ix2 r k)
      = a r ⟨o + k, by have := inb 1; simp at this; omega⟩ :=
  (ld_both h inb r k).trans (by simp only [Nat.zero_add])

/-- A load of part of a one-row array of three axes. -/
theorem ld_vec {X : (⟨3, ![1, 1, m]⟩ : Shape).Idx → Val e} {a : Fin m → Val e} (h : ∀ k, X (ix3 0 0 k) = a k) {o : ℕ}
    (inb : ∀ i, ![0, 0, o] i + ![1, 1, q] i ≤ (⟨3, ![1, 1, m]⟩ : Shape).size i) (k : Fin q) :
    View.ld X (Rect.unit (s := ⟨3, ![1, 1, m]⟩) ![0, 0, o] ![1, 1, q] inb) (ix3 0 0 k)
      = a ⟨o + k, by have := inb 2; simp at this; omega⟩ :=
  (congrArg X (funext fun i => Fin.ext (by match i with
    | 0 => rfl
    | 1 => rfl
    | 2 => exact congrArg (o + ·) (Nat.one_mul _)))).trans (h _)

end

section
variable {n m p q : ℕ} {φ : FTy}

/-- A piece that holds its part of the reals `G`. -/
theorem piece {G : Fin n → Fin m → ℝ} {o o' : ℕ} (inb : ∀ i, ![o, o'] i + ![p, q] i ≤ (⟨2, ![n, m]⟩ : Shape).size i)
    {v : FVec Ideal ⟨2, ![p, q]⟩ φ}
    (h : IsR v fun r k => G ⟨o + r, by have := inb 0; simp at this; omega⟩ ⟨o' + k, by have := inb 1; simp at this; omega⟩)
    (x : (⟨2, ![p, q]⟩ : Shape).Idx) :
    v x = (fun y : (⟨2, ![n, m]⟩ : Shape).Idx => ((G (y 0) (y 1) : ℝ) : EReal))
      ((Rect.unit (s := ⟨2, ![n, m]⟩) ![o, o'] ![p, q] inb).emb x) := by
  obtain ⟨i, k, rfl⟩ : ∃ i k, x = ix2 i k := ⟨x 0, x 1, eq_ix2 x⟩
  refine (h i k).trans ?_
  dsimp only
  congr 2 <;> refine Fin.ext ?_
  · exact congrArg (o + ·) (Nat.one_mul _).symm
  · exact congrArg (o' + ·) (Nat.one_mul _).symm

/-- The same for whole rows. -/
theorem piece_rows {G : Fin n → Fin m → ℝ} {o : ℕ} (inb : ∀ i, ![o, 0] i + ![p, m] i ≤ (⟨2, ![n, m]⟩ : Shape).size i)
    {v : FVec Ideal ⟨2, ![p, m]⟩ φ} (h : IsR v fun r k => G ⟨o + r, by have := inb 0; simp at this; omega⟩ k)
    (x : (⟨2, ![p, m]⟩ : Shape).Idx) :
    v x = (fun y : (⟨2, ![n, m]⟩ : Shape).Idx => ((G (y 0) (y 1) : ℝ) : EReal))
      ((Rect.unit (s := ⟨2, ![n, m]⟩) ![o, 0] ![p, m] inb).emb x) :=
  piece inb (fun r k => (h r k).trans (by simp only [Nat.zero_add])) x

end

end Rows
-- ==== Proof.Sums.lean ====
/-
  Sums over the rows of the batches, in the order in which the kernels take them: eight partial rows, block by block.
-/
module

public import proofs.«01_k».proof.Proof.Blocks

@[expose] public section

noncomputable section

open Idealize.ShloMosaic Idealize.SL.Sem

namespace Rows

/-- The sum of the rows `q`, `q + 8`, … of a half. -/
def half8 (D : Fin 256 → Fin 1024 → ℝ) (q : Fin 8) (k : Fin 1024) : ℝ := ∑ i : Fin 32, D ⟨i * 8 + q, by omega⟩ k

/-- The rows `q`, `q + 8`, … of a block, half by half. -/
def block8 (D : Fin 512 → Fin 1024 → ℝ) (q : Fin 8) (k : Fin 1024) : ℝ :=
  half8 (fun r => D ⟨0 + r, by omega⟩) q k + half8 (fun r => D ⟨256 + r, by omega⟩) q k

/-- Row `n` of the two batches laid one after the other. -/
def flat {α : Type} (F : Fin 2 → Fin 4096 → α) (n : Fin 8192) : α := F ⟨n / 4096, by omega⟩ ⟨n % 4096, by omega⟩

/-- Row `r` of the rows of the point numbered `t`. -/
def rowN (t : ℕ) (r : Fin 512) : Fin 8192 := ⟨(t * 512 + r.val) % 8192, by omega⟩

/-- What a point adds to the sum of `F` over the rows. -/
def part (F : Fin 2 → Fin 4096 → Fin 1024 → ℝ) (t : ℕ) (q : Fin 8) (k : Fin 1024) : ℝ := block8 (fun r => flat F (rowN t r)) q k

/-- A value that starts at a batch's first point and grows by `g` at every other one is the sum of `g` so far. -/
theorem running {N : ℕ} (a : (t : ℕ) → t < N → Fin 8 → Fin 1024 → EReal) (g : ℕ → Fin 8 → Fin 1024 → ℝ)
    (hA : ∀ t h, t % 8 = 0 → ∀ q k, a t h q k = ((g t q k : ℝ) : EReal))
    (hB : ∀ t h, ¬t % 8 = 0 → ∀ O : Fin 8 → Fin 1024 → ℝ, (∀ q k, a (t - 1) (by omega) q k = ((O q k : ℝ) : EReal)) →
      ∀ q k, a t h q k = ((O q k + g t q k : ℝ) : EReal)) (t : ℕ) :
    ∀ h q k, a t h q k = ((∑ j ∈ Finset.range (t % 8 + 1), g (t / 8 * 8 + j) q k : ℝ) : EReal) := by
  induction t with
  | zero =>
    intro h q k
    rw [hA 0 h rfl q k]
    simp
  | succ t ih =>
    intro h q k
    by_cases h0 : (t + 1) % 8 = 0
    on_goal 1 =>
      rw [hA _ h h0, h0, Finset.sum_range_one]
      have : (t + 1) / 8 * 8 + 0 = t + 1 := by omega
      rw [this]
    rw [hB _ h h0 _ (fun q k => ih (by omega) q k)]
    have e1 : (t + 1) % 8 = t % 8 + 1 := by omega
    have e2 : (t + 1) / 8 = t / 8 := by omega
    have e3 : t / 8 * 8 + (t % 8 + 1) = t + 1 := by omega
    rw [Finset.sum_range_succ _ ((t + 1) % 8), e1, e2, e3]

/-- The same for a value that starts once. -/
theorem running_on {N : ℕ} (a : (t : ℕ) → t < N → Fin 8 → Fin 1024 → EReal) (g : ℕ → Fin 8 → Fin 1024 → ℝ)
    (hA : ∀ h q k, a 0 h q k = ((g 0 q k : ℝ) : EReal))
    (hB : ∀ t h, t ≠ 0 → ∀ O : Fin 8 → Fin 1024 → ℝ, (∀ q k, a (t - 1) (by omega) q k = ((O q k : ℝ) : EReal)) →
      ∀ q k, a t h q k = ((O q k + g t q k : ℝ) : EReal)) (t : ℕ) :
    ∀ h q k, a t h q k = ((∑ j ∈ Finset.range (t + 1), g j q k : ℝ) : EReal) := by
  induction t with
  | zero => intro h q k; rw [hA, Finset.sum_range_one]
  | succ t ih =>
    intro h q k
    rw [hB _ h (Nat.succ_ne_zero t) _ (fun q k => ih (by omega) q k), Finset.sum_range_succ _ (t + 1)]

theorem sum_pieces (n k : ℕ) (G : ℕ → ℝ) : ∑ t ∈ Finset.range (n * k), G t = ∑ j ∈ Finset.range n, ∑ i ∈ Finset.range k, G (j * k + i) := by
  induction n with
  | zero => simp
  | succ n ih => rw [Nat.succ_mul, Finset.sum_range_add, ih, Finset.sum_range_succ]

/-- The eight rows of a batch's sums add up to the sum over the batch. -/
theorem sum_parts (F : Fin 2 → Fin 4096 → Fin 1024 → ℝ) (b : Fin 2) (k : Fin 1024) :
    ∑ q : Fin 8, ∑ j ∈ Finset.range 8, part F (b * 8 + j) q k = ∑ t, F b t k := by
  let G : ℕ → ℝ := fun t => flat F ⟨(b * 4096 + t) % 8192, by omega⟩ k
  have e : ∀ t : Fin 4096, F b t k = G t.val := fun t => by
    have h1 : b = ⟨(b.val * 4096 + t.val) % 8192 / 4096, by omega⟩ := Fin.ext (by dsimp only; omega)
    have h2 : t = ⟨(b.val * 4096 + t.val) % 8192 % 4096, by omega⟩ := Fin.ext (by dsimp only; omega)
    exact congrFun (congrArg₂ F h1 h2) k
  have p : ∀ (q : Fin 8) (j : ℕ), part F (b * 8 + j) q k
      = ∑ s ∈ Finset.range 2, ∑ i ∈ Finset.range 32, G (j * 512 + (s * 256 + (i * 8 + q.val))) := fun q j => by
    rw [Finset.sum_range_succ, Finset.sum_range_one, ← Fin.sum_univ_eq_sum_range (fun i => G (j * 512 + (0 * 256 + (i * 8 + q.val)))) 32,
      ← Fin.sum_univ_eq_sum_range (fun i => G (j * 512 + (1 * 256 + (i * 8 + q.val)))) 32]
    refine congrArg₂ (· + ·) (Finset.sum_congr rfl fun i _ => ?_) (Finset.sum_congr rfl fun i _ => ?_)
    all_goals
      refine congrFun (congrArg (flat F) (Fin.ext ?_)) k
      show (_ * 512 + _) % 8192 = _ % 8192
      dsimp only
      congr 1
      omega
  simp only [p, e]
  rw [Fin.sum_univ_eq_sum_range (fun q => ∑ j ∈ Finset.range 8, ∑ s ∈ Finset.range 2, ∑ i ∈ Finset.range 32, G (j * 512 + (s * 256 + (i * 8 + q)))) 8,
    Fin.sum_univ_eq_sum_range G 4096, sum_pieces 8 512 G, Finset.sum_comm]
  refine Finset.sum_congr rfl fun j _ => ?_
  rw [sum_pieces 2 256 fun i => G (j * 512 + i), Finset.sum_comm]
  refine Finset.sum_congr rfl fun s _ => ?_
  rw [sum_pieces 32 8 fun i => G (j * 512 + (s * 256 + i)), Finset.sum_comm]

/-- The eight rows of the sums over all points add up to the sum over both batches. -/
theorem sum_points (F : Fin 2 → Fin 4096 → Fin 1024 → ℝ) (k : Fin 1024) :
    ∑ q : Fin 8, ∑ j ∈ Finset.range 16, part F j q k = ∑ b, ∑ t, F b t k := by
  rw [Fin.sum_univ_two, ← sum_parts F 0 k, ← sum_parts F 1 k, ← Finset.sum_add_distrib]
  refine Finset.sum_congr rfl fun q _ => ?_
  rw [show (16 : ℕ) = 8 + 8 from rfl, Finset.sum_range_add]
  refine congrArg₂ (· + ·) (Finset.sum_congr rfl fun j _ => ?_) (Finset.sum_congr rfl fun j _ => ?_)
  · exact congrArg (part F · q k) (by simp)
  · exact congrArg (part F · q k) (by simp)

/-! ## Finite entries are reals -/

theorem real_of_lt {s : Shape} (A : FVec Ideal s .f32) (hb : (⟨0, ![]⟩ : Shape).BroadcastsInDim s ![])
    (h : cmpf .olt (Host.absf A) (broadcastInDim s ![] hb (constant ⟨0, ![]⟩ .f32 0x7F800000#32)) = fun _ => 1#1) (i : s.Idx) :
    ∃ a : ℝ, A i = (a : EReal) := by
  have h1 := congrFun h i
  revert h1
  pointwise
  intro h1
  have h2 : max (A i) (-(A i)) < Ideal.ofBits .f32 0x7F800000#32 := by
    by_contra hn
    exact absurd h1 (by rw [decide_eq_false (show ¬FloatOps.absf (A i) < Ideal.ofBits .f32 0x7F800000#32 from hn)]; decide)
  have ht : A i ≠ ⊤ := ((le_max_left _ _).trans_lt (h2.trans_le le_top)).ne
  have hbt : A i ≠ ⊥ := fun e => ((le_max_right _ _).trans_lt (h2.trans_le le_top)).ne (by rw [e]; rfl)
  exact ⟨(A i).toReal, (EReal.coe_toReal ht hbt).symm⟩

theorem ext2 {n k : ℕ} {A B : (⟨2, ![n, k]⟩ : Shape).Idx → EReal} {R : Fin n → Fin k → ℝ}
    (ha : ∀ i j, A (ix2 i j) = ((R i j : ℝ) : EReal)) (hb : ∀ i j, B (ix2 i j) = ((R i j : ℝ) : EReal)) : A = B :=
  funext fun i => (congrArg A (ix2_eta i).symm).trans ((ha _ _).trans ((hb _ _).symm.trans (congrArg B (ix2_eta i))))

/-! ## A sum over the two leading axes -/

/-- The indices of a rank-3 array that drop to `k` when its two leading axes go. -/
theorem leading_fiber {a b n : ℕ} (h : (⟨3, ![a, b, n]⟩ : Shape).ReducesTo [0, 1] ⟨1, ![n]⟩) (k : Fin n)
    (i : (⟨3, ![a, b, n]⟩ : Shape).Idx) : h.drop i = ix1 k ↔ ∃ p : Fin a × Fin b, ix3 p.1 p.2 k = i := by
  constructor
  · intro e
    refine ⟨(i 0, i 1), funext fun x => Fin.ext ?_⟩
    match x with
    | ⟨0, _⟩ => rfl
    | ⟨1, _⟩ => rfl
    | ⟨2, _⟩ => exact (congrArg Fin.val (congrFun e 0)).symm
  · rintro ⟨p, rfl⟩
    funext x
    apply Fin.ext
    match x with
    | ⟨0, _⟩ => rfl

/-- The host's sum of a rank-3 array over its two leading axes. -/
theorem leading_sum {a b n : ℕ} (h : (⟨3, ![a, b, n]⟩ : Shape).ReducesTo [0, 1] ⟨1, ![n]⟩) (v : (⟨3, ![a, b, n]⟩ : Shape).Idx → EReal)
    (z : EReal) (k : Fin n) : Ideal.hostReduceAdd h v z (ix1 k) = z + ∑ i : Fin a, ∑ j : Fin b, v (ix3 i j k) := by
  refine congrArg (z + ·) ((Finset.sum_filter_eq_sum_of_fiber _ (fun p : Fin a × Fin b => ix3 p.1 p.2 k)
    (fun _ _ e => Prod.ext (congrFun e 0) (congrFun e 1)) (leading_fiber h k) v).trans ?_)
  simp only [Fintype.sum_prod_type]

end Rows
-- ==== Proof.BwdEntry.lean ====
/-
  The arrays that the backward MLP kernel is given, on finite arguments: the lines of the forward pass before it.
-/
module

public import proofs.«01_k».proof.Proof.Gen.KernelIdeal.Frame
public import proofs.«01_k».proof.Proof.Sums
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem

namespace Cert.KernelIdeal.Bwd

open Cert.KernelIdeal Cert.KernelIdeal.Gen Rows

/-- The arguments hold these reals. -/
structure ArgsAre (m : (ℓ : Loc nD τ sig) → Buf (Elt Ideal) ℓ) (c : Dev nD) (X Y : Fin 2 → Fin 4096 → Fin 1024 → ℝ)
    (MD : Fin 2 → Fin 6144 → ℝ) (W1 : Fin 1024 → Fin 4096 → ℝ) (W2 : Fin 4096 → Fin 1024 → ℝ)
    (CT : Fin 2 → Fin 4096 → Fin 1024 → ℝ) : Prop where
  a0 : ∀ b t k, (m (c, Proc.devRef .tc main_arg0) : FVec Ideal S2x4096x1024 .f32) (ix3 b t k) = ((X b t k : ℝ) : EReal)
  a1 : ∀ b t k, (m (c, Proc.devRef .tc main_arg1) : FVec Ideal S2x4096x1024 .f32) (ix3 b t k) = ((Y b t k : ℝ) : EReal)
  a2 : IsR (φ := .f32) (m (c, Proc.devRef .tc main_arg2)) MD
  a3 : IsR (φ := .f32) (m (c, Proc.devRef .tc main_arg3)) W1
  a4 : IsR (φ := .f32) (m (c, Proc.devRef .tc main_arg4)) W2
  a5 : ∀ b t k, (m (c, Proc.devRef .tc main_arg5) : FVec Ideal S2x4096x1024 .f32) (ix3 b t k) = ((CT b t k : ℝ) : EReal)

variable {m : (ℓ : Loc nD τ sig) → Buf (Elt Ideal) ℓ} {c : Dev nD} {X Y CT : Fin 2 → Fin 4096 → Fin 1024 → ℝ}
  {MD : Fin 2 → Fin 6144 → ℝ} {W1 : Fin 1024 → Fin 4096 → ℝ} {W2 : Fin 4096 → Fin 1024 → ℝ}

/-- The residual stream after the mixer. -/
def x1 (X Y : Fin 2 → Fin 4096 → Fin 1024 → ℝ) (MD : Fin 2 → Fin 6144 → ℝ) (b : Fin 2) (t : Fin 4096) (k : Fin 1024) : ℝ :=
  X b t k + MD b ⟨2048 + k, by omega⟩ * Y b t k

/-- The MLP's input. -/
def hin (X Y : Fin 2 → Fin 4096 → Fin 1024 → ℝ) (MD : Fin 2 → Fin 6144 → ℝ) (b : Fin 2) (t : Fin 4096) (k : Fin 1024) : ℝ :=
  x1 X Y MD b t k * rs (x1 X Y MD b t) * (1 + MD b ⟨4096 + k, by omega⟩) + MD b ⟨3072 + k, by omega⟩

/-- The hidden layer before its activation. -/
def zin (X Y : Fin 2 → Fin 4096 → Fin 1024 → ℝ) (MD : Fin 2 → Fin 6144 → ℝ) (W1 : Fin 1024 → Fin 4096 → ℝ) (b : Fin 2)
    (t : Fin 4096) (f : Fin 4096) : ℝ := ∑ k, hin X Y MD b t k * W1 k f

theorem v34_at (H : ArgsAre m c X Y MD W1 W2 CT) :
    IsR (φ := .f32) (V m c main_v34) (flat (x1 X Y MD)) := fun n k => by
  unfold_abbrev_sides
  after_reads_simp
  pointwise
  simp only [H.a0, H.a1, H.a2 _ _, ← EReal.coe_mul, ← EReal.coe_add]
  rfl

theorem v33_at (H : ArgsAre m c X Y MD W1 W2 CT) :
    IsR (φ := .bf16) (V m c main_v33) (flat (zin X Y MD W1)) := fun n f => by
  unfold_abbrev_sides
  after_reads_simp
  pointwise
  have e : ∀ b t k, (x1 X Y MD b t k : ℝ) = X b t k + MD b ⟨2048 + k, by omega⟩ * Y b t k := fun _ _ _ => rfl
  simp only [H.a0, H.a1, H.a2 _ _, H.a3 _ _, ← EReal.coe_mul, ← EReal.coe_add, ← e, sum_coe, bits_1024, bits_eps, div_1024,
    rsqrt_ms, ← EReal.coe_one]
  rfl

theorem v31_at (H : ArgsAre m c X Y MD W1 W2 CT) :
    IsR (φ := .bf16) (V m c main_v31) (flat fun b t k => MD b ⟨5120 + k, by omega⟩ * CT b t k) := fun n k => by
  unfold_abbrev_sides
  after_reads_simp
  pointwise
  simp only [H.a2 _ _, H.a5, ← EReal.coe_mul]
  rfl

theorem v35_at (H : ArgsAre m c X Y MD W1 W2 CT) : IsR (φ := .f32) (V m c main_v35) (flat CT) := fun n k => by
  unfold_abbrev_sides
  after_reads_simp
  pointwise
  exact H.a5 _ _ _

theorem v37_at (H : ArgsAre m c X Y MD W1 W2 CT) : IsR (φ := .bf16) (V m c main_v37) (flat Y) := fun n k => by
  unfold_abbrev_sides
  after_reads_simp
  pointwise
  exact H.a1 _ _ _

theorem v38_at (H : ArgsAre m c X Y MD W1 W2 CT) (b : Fin 2) (k : Fin 6144) :
    (V m c main_v38 : FVec Ideal S2x1x6144 .f32) (ix3 b 0 k) = ((MD b k : ℝ) : EReal) := by
  unfold_abbrev_sides
  after_reads_simp
  pointwise
  exact H.a2 _ _

theorem v39_at (H : ArgsAre m c X Y MD W1 W2 CT) : IsR (φ := .bf16) (V m c main_v39) W1 := fun k f => by
  unfold_abbrev_sides
  after_reads_simp
  pointwise
  exact H.a3 _ _

theorem v40_at (H : ArgsAre m c X Y MD W1 W2 CT) : IsR (φ := .bf16) (V m c main_v40) W2 := fun f k => by
  unfold_abbrev_sides
  after_reads_simp
  pointwise
  exact H.a4 _ _

end Cert.KernelIdeal.Bwd
-- ==== Proof.BwdPays.lean ====
/-
  What the backward MLP kernel computes from one half of a block, entry by entry, on finite operands: every value that
  the body names is stated as a real function of the real entries of what it reads.
-/
module

public import proofs.«01_k».proof.Proof.Gen.KernelIdeal.Skeleton
public import proofs.«01_k».proof.Proof.Sums
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Bwd

open Cert.KernelIdeal Cert.KernelIdeal.Gen Rows

/-- The gradient through the squared relu of some columns. -/
def chunk {n p q : ℕ} (A : Fin n → Fin q → ℝ) (W : Fin p → Fin q → ℝ) (Z : Fin n → Fin p → ℝ) (r : Fin n)
    (f : Fin p) : ℝ := mm A W r f * (2 * max (Z r f) 0)

theorem chunk_coe (a z : ℝ) : (a : EReal) * (((2 : ℝ) : EReal) * max (z : EReal) 0) = ((a * (2 * max z 0) : ℝ) : EReal) := by
  rw [← EReal.coe_zero, max_coe, ← EReal.coe_mul, ← EReal.coe_mul]

/-! ## The first half -/

section
variable {x : FVec Ideal S256x1024 .bf16} {a : Fin 256 → Fin 1024 → ℝ} {w w' w'' w3 : FVec Ideal S1024x1024 .bf16}
  {W W' W'' W3 : Fin 1024 → Fin 1024 → ℝ} {z z' : FVec Ideal S256x1024 .bf16} {Z Z' : Fin 256 → Fin 1024 → ℝ}
  {b u y : FVec Ideal S256x1024 .f32} {B U Y : Fin 256 → Fin 1024 → ℝ} {s : FVec Ideal S1x1x1024 .f32} {S : Fin 1024 → ℝ}
  {c c' : FVec Ideal S256x1 .f32} {C C' : Fin 256 → Fin 1 → ℝ}

theorem p10 (h : IsR x a) : IsR (k0_pay10 x) a := fun r k => by pointwise [k0_pay10]; exact h r k
theorem p13 (h : IsR w W) : IsR (k0_pay13 w) W := fun r k => by pointwise [k0_pay13]; exact h r k
theorem p17 (h : IsR w W) : IsR (k0_pay17 w) W := fun r k => by pointwise [k0_pay17]; exact h r k
theorem p20 (h : IsR b B) : IsR (k0_pay20 b) B := fun r k => by pointwise [k0_pay20]; exact h r k
theorem p23 (h : IsR b B) : IsR (k0_pay23 b) B := fun r k => by pointwise [k0_pay23]; exact h r k

theorem p11 (h : IsR x a) (hw : IsR w W) (hz : IsR z Z) : IsR (k0_pay11 x w z) (chunk a W Z) := fun r f => by
  pointwise [k0_pay11, k0_pay10]
  simp only [h, hw, hz, bits_two, ← EReal.coe_mul, sum_coe, chunk_coe]; rfl

theorem p14 (h : IsR x a) (hw : IsR w W) (hz : IsR z Z) :
    IsR (k0_pay14 x w (constant S256x1024 FTy.f32 0#32) z) (chunk a W Z) := fun r f => by
  pointwise [k0_pay14]
  simp only [h, hw, hz, bits_two, ← EReal.coe_mul, sum_coe, chunk_coe]; rfl

theorem p15 (h : IsR x a) (hw : IsR w W) (hz : IsR z Z) : IsR (k0_pay15 x w z) (chunk a W Z) := fun r f => by
  pointwise [k0_pay15]
  simp only [h, hw, hz, bits_two, ← EReal.coe_mul, sum_coe, chunk_coe]; rfl

theorem p18 (h : IsR x a) (hw : IsR w W) (hz : IsR z Z) :
    IsR (k0_pay18 x w (constant S256x1024 FTy.f32 0#32) z) (chunk a W Z) := fun r f => by
  pointwise [k0_pay18]
  simp only [h, hw, hz, bits_two, ← EReal.coe_mul, sum_coe, chunk_coe]; rfl

theorem p12 (h : IsR x a) (hw : IsR w W) (hz : IsR z Z) (hw' : IsR w' W') :
    IsR (k0_pay12 x w z w') (mm (chunk a W Z) W') := fun r k => by
  pointwise [k0_pay12]
  simp only [p11 h hw hz _ _, hw' _ _, ← EReal.coe_mul, sum_coe]; rfl

theorem p16 (h : IsR x a) (hb : IsR b B) (hw : IsR w W) (hz : IsR z Z) (hw' : IsR w' W') (hw'' : IsR w'' W'')
    (hz' : IsR z' Z') (hw3 : IsR w3 W3) :
    IsR (k0_pay16 x b w (constant S256x1024 FTy.f32 0#32) z w' w'' z' w3)
      (fun r k => B r k + mm (chunk a W Z) W' r k + mm (chunk a W'' Z') W3 r k) := fun r k => by
  pointwise [k0_pay16]
  simp only [p14 h hw hz _ _, p15 h hw'' hz' _ _, hb _ _, hw' _ _, hw3 _ _, ← EReal.coe_mul, sum_coe, ← EReal.coe_add]; rfl

theorem p19 (h : IsR x a) (hb : IsR b B) (hw : IsR w W) (hz : IsR z Z) (hw' : IsR w' W') :
    IsR (k0_pay19 x b w (constant S256x1024 FTy.f32 0#32) z w')
      (fun r k => B r k + mm (chunk a W Z) W' r k) := fun r k => by
  pointwise [k0_pay19]
  simp only [p18 h hw hz _ _, hb _ _, hw' _ _, ← EReal.coe_mul, sum_coe, ← EReal.coe_add]; rfl

theorem p21 (hb : IsR b B) : IsR (k0_pay21 b) (fun r _ => rs (B r)) := fun r k => by
  pointwise [k0_pay21]
  simp only [p20 hb _ _, bits_1024, bits_eps, ← EReal.coe_mul, sum_coe, div_1024, ← EReal.coe_add]
  exact rsqrt_real (ms_pos (B r))

theorem p22 (hb : IsR b B) : IsR (k0_pay22 b) (fun r k => B r k * rs (B r)) := fun r k => by
  pointwise [k0_pay22]
  simp only [p20 hb _ _, p21 hb _ _, ← EReal.coe_mul]

theorem p24 (hd : IsR (k0_pay19 x b w (constant S256x1024 FTy.f32 0#32) z w') B)
    (hs : ∀ k, s (ix3 0 0 k) = ((S k : ℝ) : EReal)) :
    IsR (k0_pay24 x b w (constant S256x1024 FTy.f32 0#32) z w' s) (fun r k => B r k * (1 + S k)) := fun r k => by
  pointwise [k0_pay24]
  simp only [hd _ _, hs, ← EReal.coe_one, ← EReal.coe_mul, ← EReal.coe_add]

theorem p25 (hd : IsR (k0_pay19 x b w (constant S256x1024 FTy.f32 0#32) z w') B)
    (hs : ∀ k, s (ix3 0 0 k) = ((S k : ℝ) : EReal)) (hu : IsR u U) :
    IsR (k0_pay25 x b w (constant S256x1024 FTy.f32 0#32) z w' u s)
      (fun r _ => ∑ k, B r k * (1 + S k) * (U r k * rs (U r))) := fun r k => by
  pointwise [k0_pay25]
  simp only [p24 hd hs _ _, p22 hu _ _, ← EReal.coe_mul, sum_coe]

theorem p26 (hc : IsR c C) (hb : IsR b B) (hu : IsR u U) (hy : IsR y Y) (hc' : IsR c' C') :
    IsR (k0_pay26 c b u y c') (fun r k => U r k + C r 0 * (Y r k - B r k * (C' r 0 / 1024))) := fun r k => by
  pointwise [k0_pay26]
  simp only [hc _ _, hb _ _, hu _ _, hy _ _, hc' _ _, bits_1024, div_1024, ← EReal.coe_mul, ← EReal.coe_add, ← EReal.coe_sub]

theorem p27 (h : IsR (k0_pay26 c b u y c') B) (hs : ∀ k, s (ix3 0 0 k) = ((S k : ℝ) : EReal)) :
    IsR (k0_pay27 c b u y c' s) (fun r k => S k * B r k) := fun r k => by
  pointwise [k0_pay27]
  simp only [h _ _, hs, ← EReal.coe_mul]

end

/-! ## The second half -/

section
variable {x : FVec Ideal S256x1024 .bf16} {a : Fin 256 → Fin 1024 → ℝ} {w w' w'' w3 : FVec Ideal S1024x1024 .bf16}
  {W W' W'' W3 : Fin 1024 → Fin 1024 → ℝ} {z z' : FVec Ideal S256x1024 .bf16} {Z Z' : Fin 256 → Fin 1024 → ℝ}
  {b u y : FVec Ideal S256x1024 .f32} {B U Y : Fin 256 → Fin 1024 → ℝ} {s : FVec Ideal S1x1x1024 .f32} {S : Fin 1024 → ℝ}

theorem p31 (h : IsR x a) : IsR (k0_pay31 x) a := fun r k => by pointwise [k0_pay31]; exact h r k
theorem p34 (h : IsR x a) : IsR (k0_pay34 x) a := fun r k => by pointwise [k0_pay34]; exact h r k
theorem p40 (h : IsR x a) : IsR (k0_pay40 x) a := fun r k => by pointwise [k0_pay40]; exact h r k
theorem p45 (h : IsR b B) : IsR (k0_pay45 b) B := fun r k => by pointwise [k0_pay45]; exact h r k

theorem p33 (h : IsR x a) (hw : IsR w W) : IsR (k0_pay33 x w) (mm a W) := fun r f => by
  pointwise [k0_pay33]
  simp only [p31 h _ _, hw _ _, ← EReal.coe_mul, sum_coe]; rfl

theorem p39 (h : IsR x a) (hw : IsR w W) : IsR (k0_pay39 x w) (mm a W) := fun r f => by
  pointwise [k0_pay39]
  simp only [h _ _, hw _ _, ← EReal.coe_mul, sum_coe]; rfl

theorem p36 (hb : IsR b (mm a W)) (hu : IsR u Z) : IsR (k0_pay36 b u k0_pay35) (chunk a W Z) := fun r f => by
  pointwise [k0_pay36, k0_pay35]
  simp only [hb _ _, hu _ _, bits_two, chunk_coe]; rfl

theorem p42 (hb : IsR b (mm a W)) (hu : IsR u Z) : IsR (k0_pay42 b u k0_pay41) (chunk a W Z) := fun r f => by
  pointwise [k0_pay42, k0_pay41]
  simp only [hb _ _, hu _ _, bits_two, chunk_coe]; rfl

theorem p37 (h : IsR x a) (hw : IsR w W) (hz : IsR z Z) : IsR (k0_pay37 x w z) (chunk a W Z) := fun r f => by
  pointwise [k0_pay37]
  simp only [h _ _, hw _ _, hz _ _, bits_two, ← EReal.coe_mul, sum_coe, chunk_coe]; rfl

theorem p43 (h : IsR x a) (hw : IsR w W) (hz : IsR z Z) : IsR (k0_pay43 x w z) (chunk a W Z) := fun r f => by
  pointwise [k0_pay43]
  simp only [h _ _, hw _ _, hz _ _, bits_two, ← EReal.coe_mul, sum_coe, chunk_coe]; rfl

theorem p38 (h : IsR x a) (hb : IsR b (mm a W)) (hu : IsR u Z) (hw' : IsR w' W') (hw'' : IsR w'' W'')
    (hz' : IsR z' Z') (hw3 : IsR w3 W3) :
    IsR (k0_pay38 x k0_pay32 b u k0_pay35 w' w'' z' w3)
      (fun r k => mm (chunk a W Z) W' r k + mm (chunk a W'' Z') W3 r k) := fun r k => by
  pointwise [k0_pay38, k0_pay32]
  simp only [p36 hb hu _ _, p37 h hw'' hz' _ _, hw' _ _, hw3 _ _, ← EReal.coe_mul, sum_coe, ← EReal.coe_add]; rfl

theorem p44 (h : IsR x a) (hy : IsR y Y) (hb : IsR b (mm a W)) (hu : IsR u Z) (hw' : IsR w' W') (hw'' : IsR w'' W'')
    (hz' : IsR z' Z') (hw3 : IsR w3 W3) :
    IsR (k0_pay44 x y b u k0_pay41 w' w'' z' w3)
      (fun r k => Y r k + mm (chunk a W Z) W' r k + mm (chunk a W'' Z') W3 r k) := fun r k => by
  pointwise [k0_pay44]
  simp only [p42 hb hu _ _, p43 h hw'' hz' _ _, hy _ _, hw' _ _, hw3 _ _, ← EReal.coe_mul, sum_coe, ← EReal.coe_add]; rfl

theorem p48 (hb : IsR b B) : IsR (k0_pay48 (k0_pay46 b) k0_pay47) (fun r _ => rs (B r)) := fun r k => by
  pointwise [k0_pay48, k0_pay46, k0_pay47]
  simp only [p45 hb _ _, bits_1024, bits_eps, ← EReal.coe_mul, sum_coe, div_1024, ← EReal.coe_add]
  exact rsqrt_real (ms_pos (B r))

theorem p49 (hb : IsR b B) : IsR (k0_pay49 (k0_pay45 b) (k0_pay46 b) k0_pay47) (fun r k => B r k * rs (B r)) :=
  fun r k => by
  pointwise [k0_pay49]
  simp only [p45 hb _ _, p48 hb _ _, ← EReal.coe_mul]

theorem p50 (hy : IsR y Y) (hb : IsR b B) (hu : IsR u U) (hs : ∀ k, s (ix3 0 0 k) = ((S k : ℝ) : EReal)) :
    IsR (k0_pay50 y (k0_pay45 b) (k0_pay46 b) k0_pay47 u s)
      (fun r k => U r k + rmsGrad (B r) (fun k => Y r k * (1 + S k)) k) := fun r k => by
  pointwise [k0_pay50]
  simp only [p49 hb _ _, p48 hb _ _, hy _ _, hu _ _, hs, ← EReal.coe_one, bits_1024, sum_coe, div_1024, ← EReal.coe_mul,
    ← EReal.coe_add, ← EReal.coe_sub]
  rfl

theorem p51 (h : IsR (k0_pay50 y (k0_pay45 b) (k0_pay46 b) k0_pay47 u s) B) {s' : FVec Ideal S1x1x1024 .f32}
    (hs : ∀ k, s' (ix3 0 0 k) = ((S k : ℝ) : EReal)) :
    IsR (k0_pay51 y (k0_pay45 b) (k0_pay46 b) k0_pay47 u s s') (fun r k => S k * B r k) := fun r k => by
  pointwise [k0_pay51]
  simp only [h _ _, hs, ← EReal.coe_mul]

theorem p54 (h : IsR (k0_pay50 y (k0_pay45 b) (k0_pay46 b) k0_pay47 u s) B) (hz : IsR z Z) :
    IsR (k0_pay54 y (k0_pay45 b) (k0_pay46 b) k0_pay47 u s z) (fun r k => B r k * Z r k) := fun r k => by
  pointwise [k0_pay54]
  simp only [h _ _, hz _ _, ← EReal.coe_mul]

end

/-! ## The sums over every eighth row -/

section
variable {b u y d : FVec Ideal S256x1024 .f32} {B U Y D : Fin 256 → Fin 1024 → ℝ} {z : FVec Ideal S256x1024 .bf16}
  {Z : Fin 256 → Fin 1024 → ℝ} {v v' : FVec Ideal S8x1024 .f32} {V V' : Fin 8 → Fin 1024 → ℝ}
  {c c' : FVec Ideal S256x1 .f32} {o : FVec Ideal S1x8x1024 .f32} {O : Fin 8 → Fin 1024 → ℝ}

theorem p28 (hb : IsR b B) : IsR (k0_pay28 b) (half8 B) := fun q k => by
  pointwise [k0_pay28]
  simp only [hb _ _, sum_coe]; rfl

theorem p52 (hb : IsR b B) : IsR (k0_pay52 b) (half8 B) := fun q k => by
  pointwise [k0_pay52]
  simp only [hb _ _, sum_coe]; rfl

theorem p29 (hb : IsR b B) (hu : IsR u U) : IsR (k0_pay29 b u) (half8 fun r k => B r k * U r k) := fun q k => by
  pointwise [k0_pay29]
  simp only [hb _ _, hu _ _, ← EReal.coe_mul, sum_coe]; rfl

theorem p53 (hy : IsR y Y) (hb : IsR b B) :
    IsR (k0_pay53 y (k0_pay45 b) (k0_pay46 b) k0_pay47) (half8 fun r k => Y r k * (B r k * rs (B r))) := fun q k => by
  pointwise [k0_pay53]
  simp only [hy _ _, p49 hb _ _, ← EReal.coe_mul, sum_coe]; rfl

theorem p30 (h : IsR (k0_pay26 c b u y c') D) (hz : IsR z Z) :
    IsR (k0_pay30 c b u y c' z) (half8 fun r k => D r k * Z r k) := fun q k => by
  pointwise [k0_pay30]
  simp only [h _ _, hz _ _, ← EReal.coe_mul, sum_coe]; rfl

theorem p4 (h : IsR v V) (h' : IsR v' V') (q : Fin 8) (k : Fin 1024) :
    k0_pay4 v v' (ix3 0 q k) = ((V q k + V' q k : ℝ) : EReal) := by
  pointwise [k0_pay4, k0_pay1]
  simp only [h _ _, h' _ _, ← EReal.coe_add]

theorem p6 (h : IsR v V) (h' : IsR v' V') (q : Fin 8) (k : Fin 1024) :
    k0_pay6 v v' (ix3 0 q k) = ((V q k + V' q k : ℝ) : EReal) := by
  pointwise [k0_pay6, k0_pay2]
  simp only [h _ _, h' _ _, ← EReal.coe_add]

theorem p8 (h : IsR v V) (hd : IsR d D) (q : Fin 8) (k : Fin 1024) :
    k0_pay8 v d (ix3 0 q k) = ((V q k + half8 D q k : ℝ) : EReal) := by
  pointwise [k0_pay8, k0_pay3]
  simp only [h _ _, hd _ _, sum_coe, ← EReal.coe_add]; rfl

theorem p5 (h : IsR v V) (h' : IsR v' V') (ho : ∀ q k, o (ix3 0 q k) = ((O q k : ℝ) : EReal)) (q : Fin 8) (k : Fin 1024) :
    k0_pay5 v v' o (ix3 0 q k) = ((O q k + (V q k + V' q k) : ℝ) : EReal) := by
  pointwise [k0_pay5, k0_pay1]
  simp only [h _ _, h' _ _, ho, ← EReal.coe_add]

theorem p7 (h : IsR v V) (h' : IsR v' V') (ho : ∀ q k, o (ix3 0 q k) = ((O q k : ℝ) : EReal)) (q : Fin 8) (k : Fin 1024) :
    k0_pay7 v v' o (ix3 0 q k) = ((O q k + (V q k + V' q k) : ℝ) : EReal) := by
  pointwise [k0_pay7, k0_pay2]
  simp only [h _ _, h' _ _, ho, ← EReal.coe_add]

theorem p9 (h : IsR v V) (hd : IsR d D) (ho : ∀ q k, o (ix3 0 q k) = ((O q k : ℝ) : EReal)) (q : Fin 8) (k : Fin 1024) :
    k0_pay9 v d o (ix3 0 q k) = ((O q k + (V q k + half8 D q k) : ℝ) : EReal) := by
  pointwise [k0_pay9, k0_pay3]
  simp only [h _ _, hd _ _, ho, sum_coe, ← EReal.coe_add]; rfl

end

end Cert.KernelIdeal.Bwd
-- ==== Proof.BwdHalf.lean ====
/-
  What the backward MLP kernel computes from one half of a block, in terms of its rows: the gradient of the hidden
  layer, of the normed input (its four column pieces joined), of the residual stream, and the three row sums.
-/
module

public import proofs.«01_k».proof.Proof.BwdPays

@[expose] public section

set_option maxRecDepth 16384

noncomputable section

open Idealize.ShloMosaic Idealize.ShloMosaic.TcCoe Idealize.SL.Sem

namespace Cert.KernelIdeal.Bwd

open Cert.KernelIdeal Cert.KernelIdeal.Gen Rows

/-! ## One row -/

/-- The gradient of the hidden layer: `dy` through the output projection and the squared relu at `z`. -/
def dzRow (dy : Fin 1024 → ℝ) (z : Fin 4096 → ℝ) (w2 : Fin 4096 → Fin 1024 → ℝ) (f : Fin 4096) : ℝ :=
  (∑ k, dy k * w2 f k) * (2 * max (z f) 0)

/-- The gradient of the MLP's input. -/
def dhRow (dz : Fin 4096 → ℝ) (w1 : Fin 1024 → Fin 4096 → ℝ) (k : Fin 1024) : ℝ := ∑ f, dz f * w1 k f

/-- The gradient of the residual stream: what arrives, and the gradient through the norm and the modulation. -/
def dxRow (ct x s : Fin 1024 → ℝ) (dh : Fin 1024 → ℝ) (k : Fin 1024) : ℝ := ct k + rmsGrad x (fun k => dh k * (1 + s k)) k

section
variable {x : FVec Ideal S256x1024 .bf16} {a : Fin 256 → Fin 1024 → ℝ} {W2 : Fin 4096 → Fin 1024 → ℝ}
  {W1 : Fin 1024 → Fin 4096 → ℝ} {Z : Fin 256 → Fin 4096 → ℝ} {u0 u1 u2 u3 v0 v1 v2 v3 : FVec Ideal S1024x1024 .bf16}
  {z0 z1 z2 z3 : FVec Ideal S256x1024 .bf16} {b t : FVec Ideal S256x1024 .f32} {B C D : Fin 256 → Fin 1024 → ℝ}
  {s g : FVec Ideal S1x1x1024 .f32} {S G : Fin 1024 → ℝ} {y : FVec Ideal S256x1024 .bf16} {Y : Fin 256 → Fin 1024 → ℝ}

/-- The four column pieces of a row's product are the product. -/
theorem dh_sum (r : Fin 256) (k : Fin 1024) :
    mm (chunk a (fun (f : Fin 1024) k => W2 ⟨0 + f, by omega⟩ k) (fun r (f : Fin 1024) => Z r ⟨0 + f, by omega⟩)) (fun k (f : Fin 1024) => W1 k ⟨0 + f, by omega⟩) r k
      + mm (chunk a (fun (f : Fin 1024) k => W2 ⟨1024 + f, by omega⟩ k) (fun r (f : Fin 1024) => Z r ⟨1024 + f, by omega⟩)) (fun k (f : Fin 1024) => W1 k ⟨1024 + f, by omega⟩) r k
      + mm (chunk a (fun (f : Fin 1024) k => W2 ⟨2048 + f, by omega⟩ k) (fun r (f : Fin 1024) => Z r ⟨2048 + f, by omega⟩)) (fun k (f : Fin 1024) => W1 k ⟨2048 + f, by omega⟩) r k
      + mm (chunk a (fun (f : Fin 1024) k => W2 ⟨3072 + f, by omega⟩ k) (fun r (f : Fin 1024) => Z r ⟨3072 + f, by omega⟩)) (fun k (f : Fin 1024) => W1 k ⟨3072 + f, by omega⟩) r k
      = dhRow (dzRow (a r) (Z r) W2) W1 k := by
  unfold dhRow
  rw [sum_four]
  rfl

variable (h : IsR x a)
  (hu0 : IsR u0 fun f k => W2 ⟨0 + f, by omega⟩ k) (hz0 : IsR z0 fun r f => Z r ⟨0 + f, by omega⟩)
  (hv0 : IsR v0 fun k f => W1 k ⟨0 + f, by omega⟩)
  (hu1 : IsR u1 fun f k => W2 ⟨1024 + f, by omega⟩ k) (hz1 : IsR z1 fun r f => Z r ⟨1024 + f, by omega⟩)
  (hv1 : IsR v1 fun k f => W1 k ⟨1024 + f, by omega⟩)
  (hu2 : IsR u2 fun f k => W2 ⟨2048 + f, by omega⟩ k) (hz2 : IsR z2 fun r f => Z r ⟨2048 + f, by omega⟩)
  (hv2 : IsR v2 fun k f => W1 k ⟨2048 + f, by omega⟩)
  (hu3 : IsR u3 fun f k => W2 ⟨3072 + f, by omega⟩ k) (hz3 : IsR z3 fun r f => Z r ⟨3072 + f, by omega⟩)
  (hv3 : IsR v3 fun k f => W1 k ⟨3072 + f, by omega⟩)

include h hu0 hz0 hv0 hu1 hz1 hv1 hu2 hz2 hv2 hu3 hz3 hv3

theorem dh_first :
    IsR (k0_pay19 (k0_pay10 x) (k0_pay16 (k0_pay10 x) (k0_pay12 x u0 z0 v0) (k0_pay13 u1) (constant S256x1024 FTy.f32 0#32)
      z1 v1 u2 z2 v2) (k0_pay17 u3) (constant S256x1024 FTy.f32 0#32) z3 v3) (fun r => dhRow (dzRow (a r) (Z r) W2) W1) :=
  fun r k => (p19 (p10 h) (p16 (p10 h) (p12 h hu0 hz0 hv0) (p13 hu1) hz1 hv1 hu2 hz2 hv2) (p17 hu3) hz3 hv3 r k).trans
    (congrArg _ (dh_sum r k))

theorem dh_second :
    IsR (k0_pay44 (k0_pay31 x) (k0_pay38 (k0_pay31 x) k0_pay32 (k0_pay33 x u0) (k0_pay34 z0) k0_pay35 v0 u1 z1 v1)
      (k0_pay39 (k0_pay31 x) u2) (k0_pay40 z2) k0_pay41 v2 u3 z3 v3) (fun r => dhRow (dzRow (a r) (Z r) W2) W1) :=
  fun r k => (p44 (p31 h) (p38 (p31 h) (p33 h hu0) (p34 hz0) hv0 hu1 hz1 hv1) (p39 (p31 h) hu2) (p40 hz2) hv2 hu3 hz3 hv3 r k).trans
    (congrArg _ (dh_sum r k))

end

section
variable {x z z' : FVec Ideal S256x1024 .bf16} {w w' : FVec Ideal S1024x1024 .bf16} {b t d : FVec Ideal S256x1024 .f32}
  {B C D E : Fin 256 → Fin 1024 → ℝ} {s g : FVec Ideal S1x1x1024 .f32} {S G : Fin 1024 → ℝ}

/-- The residual's gradient, from that of the MLP's input. -/
theorem dx_first (hd : IsR (k0_pay19 x d w (constant S256x1024 FTy.f32 0#32) z w') D) (hb : IsR b B) (ht : IsR t C)
    (hs : ∀ k, s (ix3 0 0 k) = ((S k : ℝ) : EReal)) :
    IsR (k0_pay26 (k0_pay21 b) (k0_pay22 b) (k0_pay23 t)
      (k0_pay24 x d w (constant S256x1024 FTy.f32 0#32) z w' s)
      (k0_pay25 x d w (constant S256x1024 FTy.f32 0#32) z w' b s)) (fun r => dxRow (C r) (B r) S (D r)) :=
  fun r k => (p26 (p21 hb) (p22 hb) (p23 ht) (p24 hd hs) (p25 hd hs hb) r k).trans rfl

theorem dx_second (hd : IsR d D) (hb : IsR b B) (ht : IsR t C) (hs : ∀ k, s (ix3 0 0 k) = ((S k : ℝ) : EReal)) :
    IsR (k0_pay50 d (k0_pay45 b) (k0_pay46 b) k0_pay47 t s) (fun r => dxRow (C r) (B r) S (D r)) :=
  fun r k => (p50 hd hb ht hs r k).trans rfl

end

end Cert.KernelIdeal.Bwd
-- ==== Proof.BwdBlock.lean ====
/-
  What the backward MLP kernel leaves at one grid point, on finite blocks: every row's gradients, and the three sums of
  every eighth row, alone at a batch's first point and added to what the point before left at the others.
-/
module

public import proofs.«01_k».proof.Proof.Gen.KernelIdeal.Frame
public import proofs.«01_k».proof.Proof.BwdHalf

@[expose] public section

set_option maxRecDepth 16384

noncomputable section

open Idealize.ShloMosaic Idealize.ShloMosaic.TcCoe Idealize.SL.Sem

namespace Cert.KernelIdeal.Bwd

open Cert.KernelIdeal Cert.KernelIdeal.Gen Rows

/-- The blocks of point `t` hold these reals. -/
structure BlockIs (m : (ℓ : Loc nD τ sig) → Buf (Elt Ideal) ℓ) (c : Dev nD) (t : Fin cfg0.N)
    (dy : Fin 512 → Fin 1024 → ℝ) (z : Fin 512 → Fin 4096 → ℝ) (x ct y : Fin 512 → Fin 1024 → ℝ) (md : Fin 6144 → ℝ)
    (w1 : Fin 1024 → Fin 4096 → ℝ) (w2 : Fin 4096 → Fin 1024 → ℝ) : Prop where
  h0 : IsR (φ := .bf16) (iblk m c 0 t) dy
  h1 : IsR (φ := .bf16) (iblk m c 1 t) z
  h2 : IsR (φ := .f32) (iblk m c 2 t) x
  h3 : IsR (φ := .f32) (iblk m c 3 t) ct
  h4 : IsR (φ := .bf16) (iblk m c 4 t) y
  h5 : ∀ k, (iblk m c 5 t : FVec Ideal S1x1x6144 .f32) (ix3 0 0 k) = ((md k : ℝ) : EReal)
  h6 : IsR (φ := .bf16) (iblk m c 6 t) w1
  h7 : IsR (φ := .bf16) (iblk m c 7 t) w2

variable {m : (ℓ : Loc nD τ sig) → Buf (Elt Ideal) ℓ} {c : Dev nD} {t : Fin cfg0.N}
  {dy : Fin 512 → Fin 1024 → ℝ} {z : Fin 512 → Fin 4096 → ℝ} {x ct y : Fin 512 → Fin 1024 → ℝ} {md : Fin 6144 → ℝ}
  {w1 : Fin 1024 → Fin 4096 → ℝ} {w2 : Fin 4096 → Fin 1024 → ℝ}

/-- The reals of a point's output blocks. -/
def dzB (dy : Fin 512 → Fin 1024 → ℝ) (z : Fin 512 → Fin 4096 → ℝ) (w2 : Fin 4096 → Fin 1024 → ℝ) (r : Fin 512) :
    Fin 4096 → ℝ := dzRow (dy r) (z r) w2
def dhB (dy : Fin 512 → Fin 1024 → ℝ) (z : Fin 512 → Fin 4096 → ℝ) (w1 : Fin 1024 → Fin 4096 → ℝ)
    (w2 : Fin 4096 → Fin 1024 → ℝ) (r : Fin 512) : Fin 1024 → ℝ := dhRow (dzRow (dy r) (z r) w2) w1
def dxB (dy : Fin 512 → Fin 1024 → ℝ) (z : Fin 512 → Fin 4096 → ℝ) (x ct : Fin 512 → Fin 1024 → ℝ) (md : Fin 6144 → ℝ)
    (w1 : Fin 1024 → Fin 4096 → ℝ) (w2 : Fin 4096 → Fin 1024 → ℝ) (r : Fin 512) : Fin 1024 → ℝ :=
  dxRow (ct r) (x r) (fun k => md ⟨4096 + k, by omega⟩) (dhRow (dzRow (dy r) (z r) w2) w1)

def dyB (dy : Fin 512 → Fin 1024 → ℝ) (z : Fin 512 → Fin 4096 → ℝ) (x ct : Fin 512 → Fin 1024 → ℝ) (md : Fin 6144 → ℝ)
    (w1 : Fin 1024 → Fin 4096 → ℝ) (w2 : Fin 4096 → Fin 1024 → ℝ) (r : Fin 512) (k : Fin 1024) : ℝ :=
  md ⟨2048 + k, by omega⟩ * dxB dy z x ct md w1 w2 r k

/-- The gradient of the hidden layer. -/
theorem out8 (H : BlockIs m c t dy z x ct y md w1 w2) (r : Fin 512) (f : Fin 4096) :
    (outsAt0 m c t.val t.isLt).1 (ix2 r f) = ((dzB dy z w2 r f : ℝ) : EReal) := by
  let G := fun y : (⟨2, ![512, 4096]⟩ : Shape).Idx => ((dzB dy z w2 (y 0) (y 1) : ℝ) : EReal)
  by_cases h : t.val % 8 = 0
  on_goal 1 =>
    rw [outsAt0_A m c t h (by omega) h (by omega) h (by omega)]
    dsimp only
    unfold out0_A_8
    rw [View.read_writes_eq_canon _ _ _ (fun y => cover0_A_8 (y := y) ..)]
    refine View.canon_apply_of_pieces (Val := Elt Ideal) G _ ?_ (ix2 r f) (cover0_A_8 ..)
    unfold kernelRun0_A
    dsimp only
    sl_unfold_words
  on_goal 2 =>
    rw [outsAt0_B m c t h h h h h h]
    dsimp only
    unfold out0_B_8
    rw [View.read_writes_eq_canon _ _ _ (fun y => cover0_B_8 (y := y) ..)]
    refine View.canon_apply_of_pieces (Val := Elt Ideal) G _ ?_ (ix2 r f) (cover0_B_8 ..)
    unfold kernelRun0_B
    dsimp only
    sl_unfold_words
  all_goals simp only [View.readAt_eq_ld, Memref.IsWhole.read_unread, List.forall_mem_cons]
  all_goals
    exact ⟨piece _ (p43 (p31 (ld_rows H.h0 _)) (ld_rows H.h7 _) (ld_both H.h1 _)),
      piece _ (p42 (p39 (p31 (ld_rows H.h0 _)) (ld_rows H.h7 _)) (p40 (ld_both H.h1 _))),
      piece _ (p37 (p31 (ld_rows H.h0 _)) (ld_rows H.h7 _) (ld_both H.h1 _)),
      piece _ (p36 (p33 (ld_rows H.h0 _) (ld_rows H.h7 _)) (p34 (ld_both H.h1 _))),
      piece _ (p18 (p10 (ld_rows H.h0 _)) (p17 (ld_rows H.h7 _)) (ld_both H.h1 _)),
      piece _ (p15 (p10 (ld_rows H.h0 _)) (ld_rows H.h7 _) (ld_both H.h1 _)),
      piece _ (p14 (p10 (ld_rows H.h0 _)) (p13 (ld_rows H.h7 _)) (ld_both H.h1 _)),
      piece _ (p11 (ld_rows H.h0 _) (ld_rows H.h7 _) (ld_both H.h1 _)), List.forall_mem_nil _⟩

/-- The gradient of the residual stream. -/
theorem out9 (H : BlockIs m c t dy z x ct y md w1 w2) (r : Fin 512) (f : Fin 1024) :
    (outsAt0 m c t.val t.isLt).2.1 (ix2 r f) = ((dxB dy z x ct md w1 w2 r f : ℝ) : EReal) := by
  let G := fun y : (⟨2, ![512, 1024]⟩ : Shape).Idx => ((dxB dy z x ct md w1 w2 (y 0) (y 1) : ℝ) : EReal)
  by_cases h : t.val % 8 = 0
  on_goal 1 =>
    rw [outsAt0_A m c t h (by omega) h (by omega) h (by omega)]
    dsimp only
    unfold out0_A_9
    rw [View.read_writes_eq_canon _ _ _ (fun y => cover0_A_9 (y := y) ..)]
    refine View.canon_apply_of_pieces (Val := Elt Ideal) G _ ?_ (ix2 r f) (cover0_A_9 ..)
    unfold kernelRun0_A
    dsimp only
    sl_unfold_words
  on_goal 2 =>
    rw [outsAt0_B m c t h h h h h h]
    dsimp only
    unfold out0_B_9
    rw [View.read_writes_eq_canon _ _ _ (fun y => cover0_B_9 (y := y) ..)]
    refine View.canon_apply_of_pieces (Val := Elt Ideal) G _ ?_ (ix2 r f) (cover0_B_9 ..)
    unfold kernelRun0_B
    dsimp only
    sl_unfold_words
  all_goals simp only [View.readAt_eq_ld, Memref.IsWhole.read_unread, List.forall_mem_cons]
  all_goals
    exact ⟨piece_rows _ (dx_second (dh_second (ld_rows H.h0 _) (ld_rows H.h7 _) (ld_both H.h1 _) (ld_cols H.h6 _) (ld_rows H.h7 _) (ld_both H.h1 _)
        (ld_cols H.h6 _) (ld_rows H.h7 _) (ld_both H.h1 _) (ld_cols H.h6 _) (ld_rows H.h7 _) (ld_both H.h1 _) (ld_cols H.h6 _))
        (ld_rows H.h2 _) (ld_rows H.h3 _) (ld_vec H.h5 _)),
      piece_rows _ (dx_first (dh_first (ld_rows H.h0 _) (ld_rows H.h7 _) (ld_both H.h1 _) (ld_cols H.h6 _) (ld_rows H.h7 _) (ld_both H.h1 _)
        (ld_cols H.h6 _) (ld_rows H.h7 _) (ld_both H.h1 _) (ld_cols H.h6 _) (ld_rows H.h7 _) (ld_both H.h1 _) (ld_cols H.h6 _))
        (ld_rows H.h2 _) (ld_rows H.h3 _) (ld_vec H.h5 _)), List.forall_mem_nil _⟩

/-- The gradient of the mixer's output: the residual's, times the gate. -/
theorem out10 (H : BlockIs m c t dy z x ct y md w1 w2) (r : Fin 512) (f : Fin 1024) :
    (outsAt0 m c t.val t.isLt).2.2.1 (ix2 r f) = ((dyB dy z x ct md w1 w2 r f : ℝ) : EReal) := by
  let G := fun y : (⟨2, ![512, 1024]⟩ : Shape).Idx => ((dyB dy z x ct md w1 w2 (y 0) (y 1) : ℝ) : EReal)
  by_cases h : t.val % 8 = 0
  on_goal 1 =>
    rw [outsAt0_A m c t h (by omega) h (by omega) h (by omega)]
    dsimp only
    unfold out0_A_10
    rw [View.read_writes_eq_canon _ _ _ (fun y => cover0_A_10 (y := y) ..)]
    refine View.canon_apply_of_pieces (Val := Elt Ideal) G _ ?_ (ix2 r f) (cover0_A_10 ..)
    unfold kernelRun0_A
    dsimp only
    sl_unfold_words
  on_goal 2 =>
    rw [outsAt0_B m c t h h h h h h]
    dsimp only
    unfold out0_B_10
    rw [View.read_writes_eq_canon _ _ _ (fun y => cover0_B_10 (y := y) ..)]
    refine View.canon_apply_of_pieces (Val := Elt Ideal) G _ ?_ (ix2 r f) (cover0_B_10 ..)
    unfold kernelRun0_B
    dsimp only
    sl_unfold_words
  all_goals simp only [View.readAt_eq_ld, Memref.IsWhole.read_unread, List.forall_mem_cons]
  all_goals
    exact ⟨piece_rows (G := dyB dy z x ct md w1 w2) _ (p51 (dx_second (dh_second (ld_rows H.h0 _) (ld_rows H.h7 _) (ld_both H.h1 _) (ld_cols H.h6 _) (ld_rows H.h7 _) (ld_both H.h1 _)
        (ld_cols H.h6 _) (ld_rows H.h7 _) (ld_both H.h1 _) (ld_cols H.h6 _) (ld_rows H.h7 _) (ld_both H.h1 _) (ld_cols H.h6 _))
        (ld_rows H.h2 _) (ld_rows H.h3 _) (ld_vec H.h5 _)) (ld_vec H.h5 _)),
      piece_rows (G := dyB dy z x ct md w1 w2) _ (p27 (dx_first (dh_first (ld_rows H.h0 _) (ld_rows H.h7 _) (ld_both H.h1 _) (ld_cols H.h6 _) (ld_rows H.h7 _) (ld_both H.h1 _)
        (ld_cols H.h6 _) (ld_rows H.h7 _) (ld_both H.h1 _) (ld_cols H.h6 _) (ld_rows H.h7 _) (ld_both H.h1 _) (ld_cols H.h6 _))
        (ld_rows H.h2 _) (ld_rows H.h3 _) (ld_vec H.h5 _)) (ld_vec H.h5 _)), List.forall_mem_nil _⟩

theorem zero3 : (![0, 0, 0] : Fin 3 → ℕ) = fun _ => 0 := by decide

/-- A load of the whole of an accumulator. -/
theorem ld_whole {X : FVec Ideal S1x8x1024 .f32} {O : Fin 8 → Fin 1024 → ℝ} (ho : ∀ q k, X (ix3 0 q k) = ((O q k : ℝ) : EReal))
    (inb : ∀ a, ![0, 0, 0] a + ![1, 8, 1024] a ≤ S1x8x1024.size a) (q : Fin 8) (k : Fin 1024) :
    View.ld (Val := Elt Ideal) (e' := .f32) X (Rect.unit (s := S1x8x1024) ![0, 0, 0] ![1, 8, 1024] inb) (ix3 0 q k) = ((O q k : ℝ) : EReal) :=
  (congrFun (View.ld_unit_zero (Val := Elt Ideal) (e := .f32) (S := S1x8x1024) zero3 inb X) _).trans (ho q k)

/-- The sums of the gradient of the shift. -/
theorem out11_A (H : BlockIs m c t dy z x ct y md w1 w2) (h : t.val % 8 = 0) (q : Fin 8) (f : Fin 1024) :
    (outsAt0 m c t.val t.isLt).2.2.2.1 (ix3 0 q f) = ((block8 (dhB dy z w1 w2) q f : ℝ) : EReal) := by
  rw [outsAt0_A m c t h (by omega) h (by omega) h (by omega)]
  dsimp only
  unfold out0_A_11
  rw [View.read_writes_eq_canon _ _ _ (fun y => cover0_A_11 (y := y) ..)]
  unfold kernelRun0_A
  dsimp only
  sl_unfold_words
  simp only [View.readAt_eq_ld, Memref.IsWhole.read_unread]
  rw [View.canon_unit_zero zero3]
  exact (p4 (p28 (dh_first (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _)))
    (p52 (dh_second (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _))) q f).trans rfl

theorem out11_B (H : BlockIs m c t dy z x ct y md w1 w2) (h : ¬t.val % 8 = 0) {O : Fin 8 → Fin 1024 → ℝ}
    (ho : ∀ q k, (outsAt0 m c (t.val - 1) (by omega)).2.2.2.1 (ix3 0 q k) = ((O q k : ℝ) : EReal)) (q : Fin 8) (f : Fin 1024) :
    (outsAt0 m c t.val t.isLt).2.2.2.1 (ix3 0 q f) = ((O q f + block8 (dhB dy z w1 w2) q f : ℝ) : EReal) := by
  rw [outsAt0_B m c t h h h h h h]
  dsimp only
  unfold out0_B_11
  rw [View.read_writes_eq_canon _ _ _ (fun y => cover0_B_11 (y := y) ..)]
  unfold kernelRun0_B
  dsimp only
  sl_unfold_words
  simp only [View.readAt_eq_ld, Memref.IsWhole.read_unread]
  rw [View.canon_unit_zero zero3]
  exact (p5 (p28 (dh_first (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _)))
    (p52 (dh_second (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _))) (ld_whole ho _) q f).trans rfl

/-- The sums of the gradient of the scale. -/
theorem out12_A (H : BlockIs m c t dy z x ct y md w1 w2) (h : t.val % 8 = 0) (q : Fin 8) (f : Fin 1024) :
    (outsAt0 m c t.val t.isLt).2.2.2.2.1 (ix3 0 q f) = ((block8 (fun r k => dhB dy z w1 w2 r k * (x r k * rs (x r))) q f : ℝ) : EReal) := by
  rw [outsAt0_A m c t h (by omega) h (by omega) h (by omega)]
  dsimp only
  unfold out0_A_12
  rw [View.read_writes_eq_canon _ _ _ (fun y => cover0_A_12 (y := y) ..)]
  unfold kernelRun0_A
  dsimp only
  sl_unfold_words
  simp only [View.readAt_eq_ld, Memref.IsWhole.read_unread]
  rw [View.canon_unit_zero zero3]
  exact (p6 (p29 (dh_first (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _)) (p22 (ld_rows H.h2 _)))
    (p53 (dh_second (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _)) (ld_rows H.h2 _)) q f).trans rfl

theorem out12_B (H : BlockIs m c t dy z x ct y md w1 w2) (h : ¬t.val % 8 = 0) {O : Fin 8 → Fin 1024 → ℝ}
    (ho : ∀ q k, (outsAt0 m c (t.val - 1) (by omega)).2.2.2.2.1 (ix3 0 q k) = ((O q k : ℝ) : EReal)) (q : Fin 8) (f : Fin 1024) :
    (outsAt0 m c t.val t.isLt).2.2.2.2.1 (ix3 0 q f) = ((O q f + block8 (fun r k => dhB dy z w1 w2 r k * (x r k * rs (x r))) q f : ℝ) : EReal) := by
  rw [outsAt0_B m c t h h h h h h]
  dsimp only
  unfold out0_B_12
  rw [View.read_writes_eq_canon _ _ _ (fun y => cover0_B_12 (y := y) ..)]
  unfold kernelRun0_B
  dsimp only
  sl_unfold_words
  simp only [View.readAt_eq_ld, Memref.IsWhole.read_unread]
  rw [View.canon_unit_zero zero3]
  exact (p7 (p29 (dh_first (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _)) (p22 (ld_rows H.h2 _)))
    (p53 (dh_second (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _)) (ld_rows H.h2 _)) (ld_whole ho _) q f).trans rfl

/-- The sums of the gradient of the gate. -/
theorem out13_A (H : BlockIs m c t dy z x ct y md w1 w2) (h : t.val % 8 = 0) (q : Fin 8) (f : Fin 1024) :
    (outsAt0 m c t.val t.isLt).2.2.2.2.2 (ix3 0 q f) = ((block8 (fun r k => dxB dy z x ct md w1 w2 r k * y r k) q f : ℝ) : EReal) := by
  rw [outsAt0_A m c t h (by omega) h (by omega) h (by omega)]
  dsimp only
  unfold out0_A_13
  rw [View.read_writes_eq_canon _ _ _ (fun y => cover0_A_13 (y := y) ..)]
  unfold kernelRun0_A
  dsimp only
  sl_unfold_words
  simp only [View.readAt_eq_ld, Memref.IsWhole.read_unread]
  rw [View.canon_unit_zero zero3]
  exact (p8 (p30 (dx_first (dh_first (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _))
      (ld_rows H.h2 _) (ld_rows H.h3 _) (ld_vec H.h5 _)) (ld_rows H.h4 _))
    (p54 (dx_second (dh_second (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _))
      (ld_rows H.h2 _) (ld_rows H.h3 _) (ld_vec H.h5 _)) (ld_rows H.h4 _)) q f).trans rfl

theorem out13_B (H : BlockIs m c t dy z x ct y md w1 w2) (h : ¬t.val % 8 = 0) {O : Fin 8 → Fin 1024 → ℝ}
    (ho : ∀ q k, (outsAt0 m c (t.val - 1) (by omega)).2.2.2.2.2 (ix3 0 q k) = ((O q k : ℝ) : EReal)) (q : Fin 8) (f : Fin 1024) :
    (outsAt0 m c t.val t.isLt).2.2.2.2.2 (ix3 0 q f) = ((O q f + block8 (fun r k => dxB dy z x ct md w1 w2 r k * y r k) q f : ℝ) : EReal) := by
  rw [outsAt0_B m c t h h h h h h]
  dsimp only
  unfold out0_B_13
  rw [View.read_writes_eq_canon _ _ _ (fun y => cover0_B_13 (y := y) ..)]
  unfold kernelRun0_B
  dsimp only
  sl_unfold_words
  simp only [View.readAt_eq_ld, Memref.IsWhole.read_unread]
  rw [View.canon_unit_zero zero3]
  exact (p9 (p30 (dx_first (dh_first (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _))
      (ld_rows H.h2 _) (ld_rows H.h3 _) (ld_vec H.h5 _)) (ld_rows H.h4 _))
    (p54 (dx_second (dh_second (ld_rows H.h0 _) (ld_rows H.h7 _) (ld_both H.h1 _) (ld_cols H.h6 _) (ld_rows H.h7 _) (ld_both H.h1 _)
      (ld_cols H.h6 _) (ld_rows H.h7 _) (ld_both H.h1 _) (ld_cols H.h6 _) (ld_rows H.h7 _) (ld_both H.h1 _) (ld_cols H.h6 _))
      (ld_rows H.h2 _) (ld_rows H.h3 _) (ld_vec H.h5 _)) (ld_rows H.h4 _)) (ld_whole ho _) q f).trans rfl

end Cert.KernelIdeal.Bwd
-- ==== Proof.BwdArrays.lean ====
/-
  From blocks to arrays: the blocks that every point of the backward MLP kernel reads, the running sums of the three
  accumulated outputs, and what the six output arrays hold after the run.
-/
module

public import proofs.«01_k».proof.Proof.BwdEntry
public import proofs.«01_k».proof.Proof.BwdBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Bwd

open Cert.KernelIdeal Cert.KernelIdeal.Gen Rows

variable {m : (ℓ : Loc nD τ sig) → Buf (Elt Ideal) ℓ} {c : Dev nD} {X Y CT : Fin 2 → Fin 4096 → Fin 1024 → ℝ}
  {MD : Fin 2 → Fin 6144 → ℝ} {W1 : Fin 1024 → Fin 4096 → ℝ} {W2 : Fin 4096 → Fin 1024 → ℝ}

theorem lt16 (t : Fin cfg0.N) : t.val < 16 := lt_of_lt_of_eq t.isLt N_0

/-! ## Where the blocks lie -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index5 : ∀ t : Fin cfg0.N, win0_5.index t = ![t.val / 8, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index11 : ∀ t : Fin cfg0.N, win0_11.index t = ![t.val / 8, 0, 0] := (by decide +kernel : ∀ t : Fin grid0.N, _)
theorem index12 : ∀ t : Fin cfg0.N, win0_12.index t = ![t.val / 8, 0, 0] := (by decide +kernel : ∀ t : Fin grid0.N, _)
theorem index13 : ∀ t : Fin cfg0.N, win0_13.index t = ![t.val / 8, 0, 0] := (by decide +kernel : ∀ t : Fin grid0.N, _)

/-- Row `r` of point `t`'s rows. -/
def row (t : Fin cfg0.N) (r : Fin 512) : Fin 8192 := ⟨t.val * 512 + r.val, by have := lt16 t; omega⟩

/-- The batch of point `t`'s rows. -/
def bat (t : Fin cfg0.N) : Fin 2 := ⟨t.val / 8, by have := lt16 t; omega⟩

set_option maxHeartbeats 1600000 in
/-- What the point `t` reads. -/
theorem blocks (H : ArgsAre m c X Y MD W1 W2 CT) (t : Fin cfg0.N) :
    BlockIs m c t (fun r => flat (fun b t k => MD b ⟨5120 + k, by omega⟩ * CT b t k) (row t r)) (fun r => flat (zin X Y MD W1) (row t r))
      (fun r => flat (x1 X Y MD) (row t r)) (fun r => flat CT (row t r)) (fun r => flat Y (row t r)) (MD (bat t)) W1 W2 where
  h0 r k := by
    refine Eq.trans ?_ (v31_at H (row t r) k)
    blk_ext [iblk, index0, row]
  h1 r k := by
    refine Eq.trans ?_ (v33_at H (row t r) k)
    blk_ext [iblk, index1, row]
  h2 r k := by
    refine Eq.trans ?_ (v34_at H (row t r) k)
    blk_ext [iblk, index2, row]
  h3 r k := by
    refine Eq.trans ?_ (v35_at H (row t r) k)
    blk_ext [iblk, index3, row]
  h4 r k := by
    refine Eq.trans ?_ (v37_at H (row t r) k)
    blk_ext [iblk, index4, row]
  h5 k := by
    refine Eq.trans ?_ (v38_at H (bat t) k)
    blk_ext [iblk, index5, bat]
  h6 r k := by
    refine Eq.trans ?_ (v39_at H r k)
    blk_ext [iblk, index6]
  h7 r k := by
    refine Eq.trans ?_ (v40_at H r k)
    blk_ext [iblk, index7]

/-! ## The three row-tiled outputs -/

/-- The gradients of one row of the batches. -/
def dzF (X Y : Fin 2 → Fin 4096 → Fin 1024 → ℝ) (MD : Fin 2 → Fin 6144 → ℝ) (W1 : Fin 1024 → Fin 4096 → ℝ)
    (W2 : Fin 4096 → Fin 1024 → ℝ) (CT : Fin 2 → Fin 4096 → Fin 1024 → ℝ) (b : Fin 2) (t : Fin 4096) : Fin 4096 → ℝ :=
  dzRow (fun k => MD b ⟨5120 + k, by omega⟩ * CT b t k) (zin X Y MD W1 b t) W2

def dhF (X Y : Fin 2 → Fin 4096 → Fin 1024 → ℝ) (MD : Fin 2 → Fin 6144 → ℝ) (W1 : Fin 1024 → Fin 4096 → ℝ)
    (W2 : Fin 4096 → Fin 1024 → ℝ) (CT : Fin 2 → Fin 4096 → Fin 1024 → ℝ) (b : Fin 2) (t : Fin 4096) : Fin 1024 → ℝ :=
  dhRow (dzF X Y MD W1 W2 CT b t) W1

def dxF (X Y : Fin 2 → Fin 4096 → Fin 1024 → ℝ) (MD : Fin 2 → Fin 6144 → ℝ) (W1 : Fin 1024 → Fin 4096 → ℝ)
    (W2 : Fin 4096 → Fin 1024 → ℝ) (CT : Fin 2 → Fin 4096 → Fin 1024 → ℝ) (b : Fin 2) (t : Fin 4096) : Fin 1024 → ℝ :=
  dxRow (CT b t) (x1 X Y MD b t) (fun k => MD b ⟨4096 + k, by omega⟩) (dhF X Y MD W1 W2 CT b t)

theorem bat_row (t : Fin cfg0.N) (r : Fin 512) : (⟨(row t r).val / 4096, by omega⟩ : Fin 2) = bat t :=
  Fin.ext (by have := lt16 t; show (t.val * 512 + r.val) / 4096 = t.val / 8; omega)

theorem array8 (H : ArgsAre m c X Y MD W1 W2 CT) (n : Fin 8192) (f : Fin 4096) :
    ((dats m 0 c).arrAt 8 cfg0.N : FVec Ideal S8192x4096 .bf16) (ix2 n f) = ((flat (dzF X Y MD W1 W2 CT) n f : ℝ) : EReal) := by
  refine (dats m 0 c).arrAt_forall_of_covers 8 (fun i v => v = ((flat (dzF X Y MD W1 W2 CT) (i 0) (i 1) : ℝ) : EReal)) (by decide +kernel)
    (fun t hf y => ?_) (ix2 n f)
  obtain ⟨r, k, rfl⟩ : ∃ (r : Fin 512) (k : Fin 4096), y = ix2 r k := ⟨y 0, y 1, (ix2_eta y).symm⟩
  have e0 : (win0_8.blk t).view.emb (ix2 r k) 0 = row t r := Fin.ext (by blk_simp [index8, row])
  have e1 : (win0_8.blk t).view.emb (ix2 r k) 1 = k := Fin.ext (by blk_simp [index8])
  blk_simp
  rw [after0_8, e0, e1]
  refine (out8 (blocks H t) r k).trans (congrArg _ ?_)
  rfl

theorem array9 (H : ArgsAre m c X Y MD W1 W2 CT) (n : Fin 8192) (f : Fin 1024) :
    ((dats m 0 c).arrAt 9 cfg0.N : FVec Ideal S8192x1024 .f32) (ix2 n f) = ((flat (dxF X Y MD W1 W2 CT) n f : ℝ) : EReal) := by
  refine (dats m 0 c).arrAt_forall_of_covers 9 (fun i v => v = ((flat (dxF X Y MD W1 W2 CT) (i 0) (i 1) : ℝ) : EReal)) (by decide +kernel)
    (fun t hf y => ?_) (ix2 n f)
  obtain ⟨r, k, rfl⟩ : ∃ (r : Fin 512) (k : Fin 1024), y = ix2 r k := ⟨y 0, y 1, (ix2_eta y).symm⟩
  have e0 : (win0_9.blk t).view.emb (ix2 r k) 0 = row t r := Fin.ext (by blk_simp [index9, row])
  have e1 : (win0_9.blk t).view.emb (ix2 r k) 1 = k := Fin.ext (by blk_simp [index9])
  blk_simp
  rw [after0_9, e0, e1]
  refine (out9 (blocks H t) r k).trans (congrArg _ ?_)
  rw [← bat_row t r]
  rfl

theorem array10 (H : ArgsAre m c X Y MD W1 W2 CT) (n : Fin 8192) (f : Fin 1024) :
    ((dats m 0 c).arrAt 10 cfg0.N : FVec Ideal S8192x1024 .bf16) (ix2 n f) = ((flat (fun b t (k : Fin 1024) => MD b ⟨2048 + k, by omega⟩ * dxF X Y MD W1 W2 CT b t k) n f : ℝ) : EReal) := by
  refine (dats m 0 c).arrAt_forall_of_covers 10 (fun i v => v = ((flat (fun b t (k : Fin 1024) => MD b ⟨2048 + k, by omega⟩ * dxF X Y MD W1 W2 CT b t k) (i 0) (i 1) : ℝ) : EReal)) (by decide +kernel)
    (fun t hf y => ?_) (ix2 n f)
  obtain ⟨r, k, rfl⟩ : ∃ (r : Fin 512) (k : Fin 1024), y = ix2 r k := ⟨y 0, y 1, (ix2_eta y).symm⟩
  have e0 : (win0_10.blk t).view.emb (ix2 r k) 0 = row t r := Fin.ext (by blk_simp [index10, row])
  have e1 : (win0_10.blk t).view.emb (ix2 r k) 1 = k := Fin.ext (by blk_simp [index10])
  blk_simp
  rw [after0_10, e0, e1]
  refine (out10 (blocks H t) r k).trans (congrArg _ ?_)
  rw [← bat_row t r]
  rfl

/-! ## The three running sums -/

theorem row_eq (t : Fin cfg0.N) (r : Fin 512) : row t r = rowN t.val r := by
  have := lt16 t
  exact Fin.ext (Nat.mod_eq_of_lt (by omega)).symm

theorem part_eq {F : Fin 2 → Fin 4096 → Fin 1024 → ℝ} {D : Fin 512 → Fin 1024 → ℝ} (t : Fin cfg0.N)
    (h : ∀ r k, D r k = flat F (row t r) k) (q : Fin 8) (k : Fin 1024) : block8 D q k = part F t.val q k := by
  have : D = fun r => flat F (rowN t.val r) := funext fun r => funext fun k => by rw [h, row_eq]
  rw [this]
  rfl

theorem acc11 (H : ArgsAre m c X Y MD W1 W2 CT) (t : ℕ) (h : t < cfg0.N) (q : Fin 8) (k : Fin 1024) :
    (outsAt0 m c t h).2.2.2.1 (ix3 0 q k)
      = ((∑ j ∈ Finset.range (t % 8 + 1), part (dhF X Y MD W1 W2 CT) (t / 8 * 8 + j) q k : ℝ) : EReal) :=
  running (fun t h q k => (outsAt0 m c t h).2.2.2.1 (ix3 0 q k)) _
    (fun t h h0 q k => (out11_A (blocks H ⟨t, h⟩) h0 q k).trans (congrArg _ (part_eq ⟨t, h⟩ (fun r k => by
      rfl) q k)))
    (fun t h h0 O ho q k => (out11_B (blocks H ⟨t, h⟩) h0 ho q k).trans (congrArg (fun x : ℝ => ((O q k + x : ℝ) : EReal))
      (part_eq ⟨t, h⟩ (fun r k => by rfl) q k))) t h q k

theorem array11 (H : ArgsAre m c X Y MD W1 W2 CT) (b : Fin 2) (q : Fin 8) (k : Fin 1024) :
    ((dats m 0 c).arrAt 11 cfg0.N : FVec Ideal S2x8x1024 .f32) (ix3 b q k)
      = ((∑ j ∈ Finset.range 8, part (dhF X Y MD W1 W2 CT) (b * 8 + j) q k : ℝ) : EReal) := by
  refine (dats m 0 c).arrAt_forall_of_covers 11 (fun i v => ∀ (b : ℕ) (q : Fin 8) (k : Fin 1024), (i 0).val = b → (i 1).val = q.val →
    (i 2).val = k.val → v = ((∑ j ∈ Finset.range 8, part (dhF X Y MD W1 W2 CT) (b * 8 + j) q k : ℝ) : EReal))
    (by decide +kernel) (fun t hf y => ?_) (ix3 b q k) (Memref.isWhole_whole _) b.val q k rfl rfl rfl
  obtain ⟨r, q', k', rfl⟩ : ∃ (r : Fin 1) (q : Fin 8) (k : Fin 1024), y = ix3 r q k := ⟨y 0, y 1, y 2, (ix3_eta y).symm⟩
  obtain rfl : r = 0 := Subsingleton.elim _ _
  intro b q k e0 e1 e2
  have h7 : t.val % 8 = 7 := (flush0_11 t).mp hf
  blk_simp [index11] at e0 e1 e2
  obtain rfl : q' = q := Fin.ext e1
  obtain rfl : k' = k := Fin.ext e2
  obtain rfl : t.val / 8 = b := e0
  blk_simp
  rw [after0_11]
  refine (acc11 H t.val t.isLt q' k').trans ?_
  rw [h7]

theorem acc12 (H : ArgsAre m c X Y MD W1 W2 CT) (t : ℕ) (h : t < cfg0.N) (q : Fin 8) (k : Fin 1024) :
    (outsAt0 m c t h).2.2.2.2.1 (ix3 0 q k)
      = ((∑ j ∈ Finset.range (t % 8 + 1), part (fun b t k => dhF X Y MD W1 W2 CT b t k * (x1 X Y MD b t k * rs (x1 X Y MD b t))) (t / 8 * 8 + j) q k : ℝ) : EReal) :=
  running (fun t h q k => (outsAt0 m c t h).2.2.2.2.1 (ix3 0 q k)) _
    (fun t h h0 q k => (out12_A (blocks H ⟨t, h⟩) h0 q k).trans (congrArg _ (part_eq ⟨t, h⟩ (fun r k => by
      rfl) q k)))
    (fun t h h0 O ho q k => (out12_B (blocks H ⟨t, h⟩) h0 ho q k).trans (congrArg (fun x : ℝ => ((O q k + x : ℝ) : EReal))
      (part_eq ⟨t, h⟩ (fun r k => by rfl) q k))) t h q k

theorem array12 (H : ArgsAre m c X Y MD W1 W2 CT) (b : Fin 2) (q : Fin 8) (k : Fin 1024) :
    ((dats m 0 c).arrAt 12 cfg0.N : FVec Ideal S2x8x1024 .f32) (ix3 b q k)
      = ((∑ j ∈ Finset.range 8, part (fun b t k => dhF X Y MD W1 W2 CT b t k * (x1 X Y MD b t k * rs (x1 X Y MD b t))) (b * 8 + j) q k : ℝ) : EReal) := by
  refine (dats m 0 c).arrAt_forall_of_covers 12 (fun i v => ∀ (b : ℕ) (q : Fin 8) (k : Fin 1024), (i 0).val = b → (i 1).val = q.val →
    (i 2).val = k.val → v = ((∑ j ∈ Finset.range 8, part (fun b t k => dhF X Y MD W1 W2 CT b t k * (x1 X Y MD b t k * rs (x1 X Y MD b t))) (b * 8 + j) q k : ℝ) : EReal))
    (by decide +kernel) (fun t hf y => ?_) (ix3 b q k) (Memref.isWhole_whole _) b.val q k rfl rfl rfl
  obtain ⟨r, q', k', rfl⟩ : ∃ (r : Fin 1) (q : Fin 8) (k : Fin 1024), y = ix3 r q k := ⟨y 0, y 1, y 2, (ix3_eta y).symm⟩
  obtain rfl : r = 0 := Subsingleton.elim _ _
  intro b q k e0 e1 e2
  have h7 : t.val % 8 = 7 := (flush0_12 t).mp hf
  blk_simp [index12] at e0 e1 e2
  obtain rfl : q' = q := Fin.ext e1
  obtain rfl : k' = k := Fin.ext e2
  obtain rfl : t.val / 8 = b := e0
  blk_simp
  rw [after0_12]
  refine (acc12 H t.val t.isLt q' k').trans ?_
  rw [h7]

theorem acc13 (H : ArgsAre m c X Y MD W1 W2 CT) (t : ℕ) (h : t < cfg0.N) (q : Fin 8) (k : Fin 1024) :
    (outsAt0 m c t h).2.2.2.2.2 (ix3 0 q k)
      = ((∑ j ∈ Finset.range (t % 8 + 1), part (fun b t k => dxF X Y MD W1 W2 CT b t k * Y b t k) (t / 8 * 8 + j) q k : ℝ) : EReal) :=
  running (fun t h q k => (outsAt0 m c t h).2.2.2.2.2 (ix3 0 q k)) _
    (fun t h h0 q k => (out13_A (blocks H ⟨t, h⟩) h0 q k).trans (congrArg _ (part_eq ⟨t, h⟩ (fun r k => by
      rw [dxB, ← bat_row ⟨t, h⟩ r]; rfl) q k)))
    (fun t h h0 O ho q k => (out13_B (blocks H ⟨t, h⟩) h0 ho q k).trans (congrArg (fun x : ℝ => ((O q k + x : ℝ) : EReal))
      (part_eq ⟨t, h⟩ (fun r k => by rw [dxB, ← bat_row ⟨t, h⟩ r]; rfl) q k))) t h q k

theorem array13 (H : ArgsAre m c X Y MD W1 W2 CT) (b : Fin 2) (q : Fin 8) (k : Fin 1024) :
    ((dats m 0 c).arrAt 13 cfg0.N : FVec Ideal S2x8x1024 .f32) (ix3 b q k)
      = ((∑ j ∈ Finset.range 8, part (fun b t k => dxF X Y MD W1 W2 CT b t k * Y b t k) (b * 8 + j) q k : ℝ) : EReal) := by
  refine (dats m 0 c).arrAt_forall_of_covers 13 (fun i v => ∀ (b : ℕ) (q : Fin 8) (k : Fin 1024), (i 0).val = b → (i 1).val = q.val →
    (i 2).val = k.val → v = ((∑ j ∈ Finset.range 8, part (fun b t k => dxF X Y MD W1 W2 CT b t k * Y b t k) (b * 8 + j) q k : ℝ) : EReal))
    (by decide +kernel) (fun t hf y => ?_) (ix3 b q k) (Memref.isWhole_whole _) b.val q k rfl rfl rfl
  obtain ⟨r, q', k', rfl⟩ : ∃ (r : Fin 1) (q : Fin 8) (k : Fin 1024), y = ix3 r q k := ⟨y 0, y 1, y 2, (ix3_eta y).symm⟩
  obtain rfl : r = 0 := Subsingleton.elim _ _
  intro b q k e0 e1 e2
  have h7 : t.val % 8 = 7 := (flush0_13 t).mp hf
  blk_simp [index13] at e0 e1 e2
  obtain rfl : q' = q := Fin.ext e1
  obtain rfl : k' = k := Fin.ext e2
  obtain rfl : t.val / 8 = b := e0
  blk_simp
  rw [after0_13]
  refine (acc13 H t.val t.isLt q' k').trans ?_
  rw [h7]

/-! ## The sum of the parts -/

end Cert.KernelIdeal.Bwd
-- ==== Proof.BwdRef.lean ====
/-
  What the reference of the backward MLP call computes, stage by stage, on arguments that hold reals.
-/
module

public import proofs.«01_k».proof.Proof.BwdArrays
public import proofs.«01_k».proof.Proof.Gen.ReferenceIdeal.Read
public import Idealize.ShloMosaic.Lib.Pointwise

@[expose] public section

set_option maxRecDepth 16384

noncomputable section

open Idealize.ShloMosaic Idealize.SL.Sem

namespace Cert.ReferenceIdeal.Bwd

open Cert.ReferenceIdeal Cert.ReferenceIdeal.Gen Cert.ReferenceIdeal.Read Rows Cert.KernelIdeal.Bwd

/-- The reference's arguments hold these reals. -/
structure Held (A0 A1 : FVec Ideal S2x4096x1024 .f32) (A2 : FVec Ideal S2x6144 .f32) (A3 : FVec Ideal S1024x4096 .f32)
    (A4 : FVec Ideal S4096x1024 .f32) (A5 : FVec Ideal S2x4096x1024 .f32) (X Y : Fin 2 → Fin 4096 → Fin 1024 → ℝ)
    (MD : Fin 2 → Fin 6144 → ℝ) (W1 : Fin 1024 → Fin 4096 → ℝ) (W2 : Fin 4096 → Fin 1024 → ℝ)
    (CT : Fin 2 → Fin 4096 → Fin 1024 → ℝ) : Prop where
  a0 : ∀ b t k, A0 (ix3 b t k) = ((X b t k : ℝ) : EReal)
  a1 : ∀ b t k, A1 (ix3 b t k) = ((Y b t k : ℝ) : EReal)
  a2 : IsR (φ := .f32) A2 MD
  a3 : IsR (φ := .f32) A3 W1
  a4 : IsR (φ := .f32) A4 W2
  a5 : ∀ b t k, A5 (ix3 b t k) = ((CT b t k : ℝ) : EReal)

variable {A0 A1 A5 : FVec Ideal S2x4096x1024 .f32} {A2 : FVec Ideal S2x6144 .f32} {A3 : FVec Ideal S1024x4096 .f32}
  {A4 : FVec Ideal S4096x1024 .f32} {X Y CT : Fin 2 → Fin 4096 → Fin 1024 → ℝ} {MD : Fin 2 → Fin 6144 → ℝ}
  {W1 : Fin 1024 → Fin 4096 → ℝ} {W2 : Fin 4096 → Fin 1024 → ℝ}

theorem r10 (H : Held A0 A1 A2 A3 A4 A5 X Y MD W1 W2 CT) (b : Fin 2) (t : Fin 4096) (k : Fin 1024) :
    val_main_v10 (F := Ideal) A0 A1 A2 (ix3 b t k) = ((x1 X Y MD b t k : ℝ) : EReal) := by
  pointwise [val_main_v10, val_main_v9, val_main_v8, val_main_v7, val_main_v2]
  simp only [H.a0, H.a1, H.a2 _ _, ← EReal.coe_mul, ← EReal.coe_add]
  rfl

theorem r17 (H : Held A0 A1 A2 A3 A4 A5 X Y MD W1 W2 CT) (b : Fin 2) (t : Fin 4096) :
    val_main_v17 (F := Ideal) A0 A1 A2 (ix3 b t 0) = ((ms (x1 X Y MD b t) : ℝ) : EReal) := by
  pointwise [val_main_v17, val_main_v16, val_main_v15, val_main_v14, val_main_v13, val_main_v12, val_main_v11, val_main_cst_0,
    val_main_cst_1, val_main_cst_2]
  simp only [r10 H, ← EReal.coe_mul, sum_coe, bits_1024, bits_eps, div_1024, ← EReal.coe_add]
  rfl

theorem r18 (H : Held A0 A1 A2 A3 A4 A5 X Y MD W1 W2 CT) (b : Fin 2) (t : Fin 4096) :
    val_main_v18 (F := Ideal) A0 A1 A2 (ix3 b t 0) = ((rs (x1 X Y MD b t) : ℝ) : EReal) := by
  pointwise [val_main_v18]
  rw [r17 H]
  exact rsqrt_real (ms_pos _)

theorem r23 (H : Held A0 A1 A2 A3 A4 A5 X Y MD W1 W2 CT) (b : Fin 2) (t : Fin 4096) (k : Fin 1024) :
    val_main_v23 (F := Ideal) A0 A1 A2 (ix3 b t k) = ((x1 X Y MD b t k * rs (x1 X Y MD b t) : ℝ) : EReal) := by
  pointwise [val_main_v23, val_main_v22]
  simp only [r10 H, r18 H, ← EReal.coe_mul]

theorem r26 (H : Held A0 A1 A2 A3 A4 A5 X Y MD W1 W2 CT) (b : Fin 2) (k : Fin 1024) :
    val_main_v26 (F := Ideal) A2 (ix3 b 0 k) = ((1 + MD b ⟨4096 + k, by omega⟩ : ℝ) : EReal) := by
  pointwise [val_main_v26, val_main_v25, val_main_v24, val_main_v4, val_main_cst_4]
  simp only [H.a2 _ _, ← EReal.coe_one, ← EReal.coe_add]

theorem r33 (H : Held A0 A1 A2 A3 A4 A5 X Y MD W1 W2 CT) (b : Fin 2) (t f : Fin 4096) :
    val_main_v33 (F := Ideal) A0 A1 A2 A3 (ix3 b t f) = ((zin X Y MD W1 b t f : ℝ) : EReal) := by
  pointwise [val_main_v33, val_main_v32, val_main_v31, val_main_v30, val_main_v29, val_main_v3, val_main_v28, val_main_v27, val_main_v6, val_main_cst]
  simp only [r23 H, r26 H, H.a2 _ _, H.a3 _ _, ← EReal.coe_mul, ← EReal.coe_add, sum_coe]
  rfl

theorem r50 (H : Held A0 A1 A2 A3 A4 A5 X Y MD W1 W2 CT) (b : Fin 2) (t f : Fin 4096) :
    val_main_v50 (F := Ideal) A2 A4 A5 (ix3 b t f) = ((∑ k : Fin 1024, MD b ⟨5120 + k, by omega⟩ * CT b t k * W2 f k : ℝ) : EReal) := by
  pointwise [val_main_v50, val_main_v49, val_main_v48, val_main_v47, val_main_v42, val_main_v5]
  simp only [H.a2 _ _, H.a4 _ _, H.a5, ← EReal.coe_mul, sum_coe]

theorem r53 (H : Held A0 A1 A2 A3 A4 A5 X Y MD W1 W2 CT) (b : Fin 2) (t f : Fin 4096) :
    val_main_v53 (F := Ideal) A0 A1 A2 A3 A4 A5 (ix3 b t f) = ((dzF X Y MD W1 W2 CT b t f : ℝ) : EReal) := by
  pointwise [val_main_v53, val_main_v52, val_main_v51, val_main_v40, val_main_v39, val_main_v36, val_main_v35, val_main_v34,
    val_main_call0_v0, val_main_call0_cst, val_main_cst_5, val_main_cst_7, val_main_cst_8]
  simp only [r50 H, r33 H, bits_two, ← EReal.coe_zero, max_coe, ← EReal.coe_mul, EReal.coe_lt_coe_iff]
  by_cases h : 0 < zin X Y MD W1 b t f
  on_goal 1 =>
    rw [if_pos h]
    rfl
  rw [if_neg h]
  unfold dzF dzRow
  rw [max_eq_right (not_lt.mp h), mul_zero, mul_zero]

theorem r54 (H : Held A0 A1 A2 A3 A4 A5 X Y MD W1 W2 CT) (b : Fin 2) (t : Fin 4096) (k : Fin 1024) :
    val_main_v54 (F := Ideal) A0 A1 A2 A3 A4 A5 (ix3 b t k) = ((dhF X Y MD W1 W2 CT b t k : ℝ) : EReal) := by
  pointwise [val_main_v54]
  simp only [r53 H, H.a3 _ _, ← EReal.coe_mul, sum_coe]
  rfl

theorem r57 (H : Held A0 A1 A2 A3 A4 A5 X Y MD W1 W2 CT) (b : Fin 2) (k : Fin 1024) :
    val_main_v57 (F := Ideal) A0 A1 A2 A3 A4 A5 (ix2 b k) = ((∑ t, dhF X Y MD W1 W2 CT b t k : ℝ) : EReal) := by
  pointwise [val_main_v57, val_main_v56, val_main_v55, val_main_cst_9, val_main_cst_10]
  simp only [r54 H, sum_coe, Fin.sum_univ_one]

theorem r63 (H : Held A0 A1 A2 A3 A4 A5 X Y MD W1 W2 CT) (b : Fin 2) (k : Fin 1024) :
    val_main_v63 (F := Ideal) A0 A1 A2 A3 A4 A5 (ix2 b k)
      = ((∑ t, dhF X Y MD W1 W2 CT b t k * (x1 X Y MD b t k * rs (x1 X Y MD b t)) : ℝ) : EReal) := by
  pointwise [val_main_v63, val_main_v60, val_main_v59, val_main_v58, val_main_cst_11, val_main_cst_12]
  simp only [r54 H, r23 H, ← EReal.coe_mul, sum_coe, Fin.sum_univ_one]
  exact congrArg _ (Finset.sum_congr rfl fun t _ => mul_comm _ _)

theorem r62 (H : Held A0 A1 A2 A3 A4 A5 X Y MD W1 W2 CT) (b : Fin 2) (t : Fin 4096) (k : Fin 1024) :
    val_main_v62 (F := Ideal) A0 A1 A2 A3 A4 A5 (ix3 b t k) = ((dhF X Y MD W1 W2 CT b t k * (1 + MD b ⟨4096 + k, by omega⟩) : ℝ) : EReal) := by
  pointwise [val_main_v62, val_main_v61]
  simp only [r54 H, r26 H, ← EReal.coe_mul]

theorem r78 (H : Held A0 A1 A2 A3 A4 A5 X Y MD W1 W2 CT) (b : Fin 2) (t : Fin 4096) (k : Fin 1024) :
    val_main_v78 (F := Ideal) A0 A1 A2 A3 A4 A5 (ix3 b t k) = ((dxF X Y MD W1 W2 CT b t k : ℝ) : EReal) := by
  pointwise [val_main_v78, val_main_v77, val_main_v76, val_main_v75, val_main_v74, val_main_v73, val_main_v72, val_main_v71,
    val_main_v70, val_main_v69, val_main_v68, val_main_v67, val_main_v66, val_main_v65, val_main_v64, val_main_v46, val_main_v21,
    val_main_v20, val_main_v19, val_main_cst_3, val_main_cst_13, val_main_cst_14, val_main_cst_15]
  simp only [r62 H, r10 H, r17 H, r18 H, H.a5, ← EReal.coe_mul, sum_coe, bits_1024, div_1024, bits_neg_half, Fin.sum_univ_one,
    div_real (ms_pos (x1 X Y MD b t)).ne', ← EReal.coe_add]
  refine congrArg _ ((add_assoc _ _ _).trans ((add_assoc _ _ _).trans ?_))
  exact congrArg (CT b t k + ·) (rmsGrad_chain (x1 X Y MD b t) (fun k => dhF X Y MD W1 W2 CT b t k * (1 + MD b ⟨4096 + k, by omega⟩)) k)

theorem r84 (H : Held A0 A1 A2 A3 A4 A5 X Y MD W1 W2 CT) (b : Fin 2) (k : Fin 1024) :
    val_main_v84 (F := Ideal) A0 A1 A2 A3 A4 A5 (ix2 b k) = ((∑ t, dxF X Y MD W1 W2 CT b t k * Y b t k : ℝ) : EReal) := by
  pointwise [val_main_v84, val_main_v83, val_main_v82, val_main_v81, val_main_cst_16, val_main_cst_17]
  simp only [r78 H, H.a1, ← EReal.coe_mul, sum_coe, Fin.sum_univ_one]

theorem r86 (H : Held A0 A1 A2 A3 A4 A5 X Y MD W1 W2 CT) (n : Fin 8192) (f : Fin 4096) :
    val_main_v86 (F := Ideal) A0 A1 A2 A3 A4 A5 (ix2 n f) = ((flat (dzF X Y MD W1 W2 CT) n f : ℝ) : EReal) := by
  pointwise [val_main_v86, val_main_v85]
  exact r53 H _ _ _

theorem r87 (H : Held A0 A1 A2 A3 A4 A5 X Y MD W1 W2 CT) (n : Fin 8192) (k : Fin 1024) :
    val_main_v87 (F := Ideal) A0 A1 A2 A3 A4 A5 (ix2 n k) = ((flat (dxF X Y MD W1 W2 CT) n k : ℝ) : EReal) := by
  pointwise [val_main_v87]
  exact r78 H _ _ _

theorem r89 (H : Held A0 A1 A2 A3 A4 A5 X Y MD W1 W2 CT) (n : Fin 8192) (k : Fin 1024) :
    val_main_v89 (F := Ideal) A0 A1 A2 A3 A4 A5 (ix2 n k)
      = ((flat (fun b t (k : Fin 1024) => MD b ⟨2048 + k, by omega⟩ * dxF X Y MD W1 W2 CT b t k) n k : ℝ) : EReal) := by
  pointwise [val_main_v89, val_main_v88, val_main_v80, val_main_v79, val_main_v7, val_main_v2]
  simp only [r78 H, H.a2 _ _, ← EReal.coe_mul]
  rfl

end Cert.ReferenceIdeal.Bwd
-- ==== Proof.BwdClose.lean ====
/-
  The backward MLP call after its run: the sums of the last lines, the arguments lifted to reals, and the equation with
  the reference.
-/
module

public import proofs.«01_k».proof.Defs
public import proofs.«01_k».proof.Proof.BwdRef
public import proofs.«01_k».proof.Proof.Gen.ReferenceIdeal.Run
public import proofs.«01_k».proof.Proof.Gen.Pre_finite

@[expose] public section

set_option maxRecDepth 16384

noncomputable section

open Idealize.ShloMosaic Idealize.ShloMosaic.TcCoe Idealize.SL.Sem

namespace Cert.KernelIdeal.Bwd

open Cert.KernelIdeal Cert.KernelIdeal.Gen Rows

variable {m : (ℓ : Loc nD τ sig) → Buf (Elt Ideal) ℓ} {c : Dev nD} {X Y CT : Fin 2 → Fin 4096 → Fin 1024 → ℝ}
  {MD : Fin 2 → Fin 6144 → ℝ} {W1 : Fin 1024 → Fin 4096 → ℝ} {W2 : Fin 4096 → Fin 1024 → ℝ}

/-! ## The last lines -/

/-- What a buffer holds at the end. -/
abbrev after (m : (ℓ : Loc nD τ sig) → Buf (Elt Ideal) ℓ) (c : Dev nD) (b : Ref sig .tc) :=
  Pipeline.afterTail₀ cfgs (dats m) 0 (V0 m) [hostOps1] c b

/-- The sum of an accumulator's eight rows. -/
def rowSum (A : FVec Ideal S2x8x1024 .f32) : FVec Ideal S2x1024 .f32 :=
  Host.reduceAdd A (constant S_ .f32 0x00000000#32) reducesTo_S2x8x1024_S2x1024_d1 h_S_

theorem rowSum_at {A : FVec Ideal S2x8x1024 .f32} {F : Fin 2 → Fin 4096 → Fin 1024 → ℝ}
    (h : ∀ b q k, A (ix3 b q k) = ((∑ j ∈ Finset.range 8, part F (b.val * 8 + j) q k : ℝ) : EReal)) (b : Fin 2) (k : Fin 1024) :
    rowSum A (ix2 b k) = ((∑ t, F b t k : ℝ) : EReal) := by
  pointwise [rowSum]
  simp only [h, sum_coe]
  rw [sum_parts]

theorem after42 : after m c main_v42 = rowSum ((dats m 0 c).arrAt 11 cfg0.N) := by
  unfold after Pipeline.afterTail₀
  simp only [List.flatten_cons, List.flatten_nil, List.append_nil]
  after_region_results
  exact congrArg rowSum (Pipeline.withArrays_arr spec0 launch0.win.arr_inj c (V0 m c) (fun w => (dats m 0 c).arrAt w cfg0.N) 11)

theorem after43 : after m c main_v43 = rowSum ((dats m 0 c).arrAt 12 cfg0.N) := by
  unfold after Pipeline.afterTail₀
  simp only [List.flatten_cons, List.flatten_nil, List.append_nil]
  after_region_results
  exact congrArg rowSum (Pipeline.withArrays_arr spec0 launch0.win.arr_inj c (V0 m c) (fun w => (dats m 0 c).arrAt w cfg0.N) 12)

theorem after44 : after m c main_v44 = rowSum ((dats m 0 c).arrAt 13 cfg0.N) := by
  unfold after Pipeline.afterTail₀
  simp only [List.flatten_cons, List.flatten_nil, List.append_nil]
  after_region_results
  exact congrArg rowSum (Pipeline.withArrays_arr spec0 launch0.win.arr_inj c (V0 m c) (fun w => (dats m 0 c).arrAt w cfg0.N) 13)

/-! ## Finite arguments are reals -/

theorem args_real (hp : Cert.Pre_KernelIdeal_finite m) (c : Dev nD) : ∃ X Y MD W1 W2 CT, ArgsAre m c X Y MD W1 W2 CT := by
  obtain ⟨h0, h1, h2, h3, h4, h5⟩ := hp c
  choose X hX using real_of_lt _ _ h0
  choose Y hY using real_of_lt _ _ h1
  choose MD hMD using real_of_lt _ _ h2
  choose W1 hW1 using real_of_lt _ _ h3
  choose W2 hW2 using real_of_lt _ _ h4
  choose CT hCT using real_of_lt _ _ h5
  exact ⟨fun b t k => X (ix3 b t k), fun b t k => Y (ix3 b t k), fun b k => MD (ix2 b k), fun k f => W1 (ix2 k f), fun f k => W2 (ix2 f k),
    fun b t k => CT (ix3 b t k), ⟨fun _ _ _ => hX _, fun _ _ _ => hY _, fun _ _ => hMD _, fun _ _ => hW1 _, fun _ _ => hW2 _,
      fun _ _ _ => hCT _⟩⟩

/-! ## The equation -/

theorem held (H : ArgsAre m c X Y MD W1 W2 CT) : Cert.ReferenceIdeal.Bwd.Held (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5)) X Y MD W1 W2 CT :=
  ⟨H.a0, H.a1, H.a2, H.a3, H.a4, H.a5⟩

set_option maxHeartbeats 1600000 in
/-- The call and its reference end with equal results. -/
theorem equal : Cert.algebraic_KernelIdeal_ReferenceIdeal_pre_finite := fun m g m' g' hp hag => by
  refine ⟨fun c => (dats m 0 c).arrAt 8 cfg0.N, fun c => (dats m 0 c).arrAt 9 cfg0.N, fun c => (dats m 0 c).arrAt 10 cfg0.N,
    fun c => after m c main_v42, fun c => after m c main_v43, fun c => after m c main_v44, ?_, ?_⟩
  on_goal 1 =>
    exact (θ_run defs _ _).mono (fun r h c => ⟨(h.1 c).1 8, (h.1 c).1 9, (h.1 c).1 10, (h.1 c).2 main_v42 (by decide),
      (h.1 c).2 main_v43 (by decide), (h.1 c).2 main_v44 (by decide), h.2 c⟩) (θ_run_and (run_main m g) (unchanged m g))
  refine (θ_run Cert.ReferenceIdeal.defs _ _).mono (fun r h c => ?_) (Cert.ReferenceIdeal.Value.run m' g')
  obtain ⟨X, Y, MD, W1, W2, CT, H⟩ := args_real hp c
  obtain ⟨e0, e1, e2, e3, e4, e5⟩ := hag c
  obtain ⟨h0, h1, h2, h3, h4, h5, ha⟩ := h c
  refine ⟨h0.trans ?_, h1.trans ?_, h2.trans ?_, h3.trans ?_, h4.trans ?_, h5.trans ?_, ha⟩
  on_goal 1 =>
    rw [Cert.ReferenceIdeal.Read.val_main_v86_eq, e0, e1, e2, e3, e4, e5]
    exact ext2 (Cert.ReferenceIdeal.Bwd.r86 (held H)) (array8 H)
  on_goal 1 =>
    rw [Cert.ReferenceIdeal.Read.val_main_v87_eq, e0, e1, e2, e3, e4, e5]
    exact ext2 (Cert.ReferenceIdeal.Bwd.r87 (held H)) (array9 H)
  on_goal 1 =>
    rw [Cert.ReferenceIdeal.Read.val_main_v89_eq, e0, e1, e2, e3, e4, e5]
    exact ext2 (Cert.ReferenceIdeal.Bwd.r89 (held H)) (array10 H)
  on_goal 1 =>
    rw [Cert.ReferenceIdeal.Read.val_main_v57_eq, e0, e1, e2, e3, e4, e5]
    exact (ext2 (Cert.ReferenceIdeal.Bwd.r57 (held H)) (rowSum_at (array11 H))).trans after42.symm
  on_goal 1 =>
    rw [Cert.ReferenceIdeal.Read.val_main_v63_eq, e0, e1, e2, e3, e4, e5]
    exact (ext2 (Cert.ReferenceIdeal.Bwd.r63 (held H)) (rowSum_at (array12 H))).trans after43.symm
  rw [Cert.ReferenceIdeal.Read.val_main_v84_eq, e0, e1, e2, e3, e4, e5]
  exact (ext2 (Cert.ReferenceIdeal.Bwd.r84 (held H)) (rowSum_at (array13 H))).trans after44.symm

end Cert.KernelIdeal.Bwd
-- ==== Proof.FwdEntry.lean ====
/-
  The arrays that the forward MLP kernel is given, on finite arguments: the norm and the modulation before it.
-/
module

public import proofs.«01_k».proof.Proof.Gen.Kernel2Ideal.Frame
public import proofs.«01_k».proof.Proof.Blocks
public import Idealize.ShloMosaic.Lib.Tactic
public import Idealize.ShloMosaic.Lib.StableHlo.RunRead
public import proofs.«01_k».proof.Proof.Sums

@[expose] public section

set_option maxRecDepth 16384

noncomputable section

open Idealize.ShloMosaic Idealize.ShloMosaic.TcCoe Idealize.SL.Sem

namespace Cert.Kernel2Ideal.Fwd

open Cert.Kernel2Ideal Cert.Kernel2Ideal.Gen Rows

/-- The arguments hold these reals. -/
structure ArgsAre (m : (ℓ : Loc nD τ sig) → Buf (Elt Ideal) ℓ) (c : Dev nD) (X : Fin 2 → Fin 4096 → Fin 1024 → ℝ)
    (MD : Fin 2 → Fin 6144 → ℝ) (W1 : Fin 1024 → Fin 4096 → ℝ) (W2 : Fin 4096 → Fin 1024 → ℝ) (GF : Fin 1024 → ℝ)
    (TG : Fin 2 → Fin 4096 → Fin 1024 → ℝ) : Prop where
  a0 : ∀ b t k, (m (c, Proc.devRef .tc main_arg0) : FVec Ideal S2x4096x1024 .f32) (ix3 b t k) = ((X b t k : ℝ) : EReal)
  a1 : IsR (φ := .f32) (m (c, Proc.devRef .tc main_arg1)) MD
  a2 : IsR (φ := .f32) (m (c, Proc.devRef .tc main_arg2)) W1
  a3 : IsR (φ := .f32) (m (c, Proc.devRef .tc main_arg3)) W2
  a4 : ∀ k, (m (c, Proc.devRef .tc main_arg4) : FVec Ideal S1024 .f32) (ix1 k) = ((GF k : ℝ) : EReal)
  a5 : ∀ b t k, (m (c, Proc.devRef .tc main_arg5) : FVec Ideal S2x4096x1024 .f32) (ix3 b t k) = ((TG b t k : ℝ) : EReal)

variable {m : (ℓ : Loc nD τ sig) → Buf (Elt Ideal) ℓ} {c : Dev nD} {X TG : Fin 2 → Fin 4096 → Fin 1024 → ℝ}
  {MD : Fin 2 → Fin 6144 → ℝ} {W1 : Fin 1024 → Fin 4096 → ℝ} {W2 : Fin 4096 → Fin 1024 → ℝ} {GF : Fin 1024 → ℝ}

/-- The MLP's input. -/
def hF (X : Fin 2 → Fin 4096 → Fin 1024 → ℝ) (MD : Fin 2 → Fin 6144 → ℝ) (b : Fin 2) (t : Fin 4096) (k : Fin 1024) : ℝ :=
  X b t k * rs (X b t) * (1 + MD b ⟨4096 + k, by omega⟩) + MD b ⟨3072 + k, by omega⟩

variable (H : ArgsAre m c X MD W1 W2 GF TG)
include H

theorem v21_at : IsR (φ := .bf16) (V m c main_v21) (flat (hF X MD)) := fun n k => by
  unfold_abbrev_sides
  after_reads_simp
  pointwise
  simp only [H.a0, H.a1 _ _, ← EReal.coe_mul, ← EReal.coe_add, sum_coe, bits_1024, bits_eps, div_1024, rsqrt_ms, ← EReal.coe_one]
  rfl

theorem v22_at : IsR (φ := .f32) (V m c main_v22) (flat X) := fun n k => by
  unfold_abbrev_sides
  after_reads_simp
  pointwise
  exact H.a0 _ _ _

theorem v23_at : IsR (φ := .f32) (V m c main_v23) (flat TG) := fun n k => by
  unfold_abbrev_sides
  after_reads_simp
  pointwise
  exact H.a5 _ _ _

theorem v24_at (b : Fin 2) (k : Fin 6144) :
    (V m c main_v24 : FVec Ideal S2x1x6144 .f32) (ix3 b 0 k) = ((MD b k : ℝ) : EReal) := by
  unfold_abbrev_sides
  after_reads_simp
  pointwise
  exact H.a1 _ _

theorem v25_at : IsR (φ := .f32) (V m c main_v25) (fun (_ : Fin 1) => GF) := fun n k => by
  unfold_abbrev_sides
  after_reads_simp
  pointwise
  exact H.a4 _

theorem v26_at : IsR (φ := .bf16) (V m c main_v26) W1 := fun k f => by
  unfold_abbrev_sides
  after_reads_simp
  pointwise
  exact H.a2 _ _

theorem v27_at : IsR (φ := .bf16) (V m c main_v27) W2 := fun f k => by
  unfold_abbrev_sides
  after_reads_simp
  pointwise
  exact H.a3 _ _

end Cert.Kernel2Ideal.Fwd
-- ==== Proof.FwdPays.lean ====
/-
  What the forward MLP kernel computes from one half of a block, entry by entry, on finite operands: every value that
  the body names is stated as a real function of the real entries of what it reads.
-/
module

public import proofs.«01_k».proof.Proof.Gen.Kernel2Ideal.Skeleton
public import proofs.«01_k».proof.Proof.Sums
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel2Ideal.Fwd

open Cert.Kernel2Ideal Cert.Kernel2Ideal.Gen Rows

/-- Rows against columns. -/
def mul {n p q : ℕ} (A : Fin n → Fin q → ℝ) (W : Fin q → Fin p → ℝ) (r : Fin n) (f : Fin p) : ℝ := ∑ k, A r k * W k f

/-- The squared relu. -/
def sq {n p : ℕ} (Z : Fin n → Fin p → ℝ) (r : Fin n) (f : Fin p) : ℝ := max (Z r f) 0 * max (Z r f) 0

theorem sq_coe (z : ℝ) : max (z : EReal) 0 * max (z : EReal) 0 = ((max z 0 * max z 0 : ℝ) : EReal) := by
  rw [← EReal.coe_zero, max_coe, ← EReal.coe_mul]

/-- A row of the normed output less the target. -/
def offBy (g b t : Fin 1024 → ℝ) (k : Fin 1024) : ℝ := b k * rs b * g k - t k

section
variable {x : FVec Ideal S256x1024 .bf16} {a : Fin 256 → Fin 1024 → ℝ} {w w' w'' w3 : FVec Ideal S1024x1024 .bf16}
  {W W' W'' W3 : Fin 1024 → Fin 1024 → ℝ} {z : FVec Ideal S256x1024 .bf16} {Z : Fin 256 → Fin 1024 → ℝ}
  {b d t y u : FVec Ideal S256x1024 .f32} {B D T Y U : Fin 256 → Fin 1024 → ℝ} {s s' : FVec Ideal S1x1024 .f32}
  {S S' : Fin 1024 → ℝ} {c : FVec Ideal S256x1 .f32} {g : FVec Ideal S1x1x1024 .f32}

/-! ## What is read -/

theorem p5 (h : ∀ k, g (ix3 0 0 k) = ((S k : ℝ) : EReal)) : IsR (k0_pay5 g) (fun _ => S) := fun r k => by
  pointwise [k0_pay5]; exact h k
theorem p6 (h : IsR s (fun _ => S)) : IsR (k0_pay6 s) (fun _ => S) := fun r k => by pointwise [k0_pay6]; exact h r k
theorem p7 (h : IsR x a) : IsR (k0_pay7 x) a := fun r k => by pointwise [k0_pay7]; exact h r k
theorem p14 (h : IsR w W) : IsR (k0_pay14 w) W := fun r k => by pointwise [k0_pay14]; exact h r k
theorem p31 (h : IsR x a) : IsR (k0_pay31 x) a := fun r k => by pointwise [k0_pay31]; exact h r k

/-! ## The hidden layer -/

theorem p8 (h : IsR x a) (hw : IsR w W) : IsR (k0_pay8 x w) (mul a W) := fun r f => by
  pointwise [k0_pay8, k0_pay7]; simp only [h _ _, hw _ _, ← EReal.coe_mul, sum_coe]; rfl
theorem p9 (h : IsR x a) (hw : IsR w W) : IsR (k0_pay9 x w) (mul a W) := fun r f => by
  pointwise [k0_pay9]; exact p8 h hw r f
theorem p11 (h : IsR x a) (hw : IsR w W) : IsR (k0_pay11 x w) (mul a W) := fun r f => by
  pointwise [k0_pay11, k0_pay7]; simp only [h _ _, hw _ _, ← EReal.coe_mul, sum_coe]; rfl
theorem p12 (h : IsR x a) (hw : IsR w W) : IsR (k0_pay12 x w) (mul a W) := fun r f => by
  pointwise [k0_pay12]; exact p11 h hw r f
theorem p15 (h : IsR x a) (hw : IsR w W) : IsR (k0_pay15 x w) (mul a W) := fun r f => by
  pointwise [k0_pay15]; simp only [h _ _, hw _ _, ← EReal.coe_mul, sum_coe]; rfl
theorem p16 (h : IsR x a) (hw : IsR w W) : IsR (k0_pay16 x w) (mul a W) := fun r f => by
  pointwise [k0_pay16]; exact p15 h hw r f
theorem p17 (h : IsR x a) (hw : IsR w W) : IsR (k0_pay17 x w) (mul a W) := fun r f => by
  pointwise [k0_pay17]; simp only [h _ _, hw _ _, ← EReal.coe_mul, sum_coe]; rfl
theorem p18 (h : IsR x a) (hw : IsR w W) : IsR (k0_pay18 x w) (mul a W) := fun r f => by
  pointwise [k0_pay18]; exact p17 h hw r f
theorem p32 (h : IsR x a) (hw : IsR w W) : IsR (k0_pay32 x w) (mul a W) := fun r f => by
  pointwise [k0_pay32]; simp only [h _ _, hw _ _, ← EReal.coe_mul, sum_coe]; rfl
theorem p33 (h : IsR x a) (hw : IsR w W) : IsR (k0_pay33 x w) (mul a W) := fun r f => by
  pointwise [k0_pay33]; exact p32 h hw r f
theorem p34 (h : IsR x a) (hw : IsR w W) : IsR (k0_pay34 x w) (mul a W) := fun r f => by
  pointwise [k0_pay34]; simp only [h _ _, hw _ _, ← EReal.coe_mul, sum_coe]; rfl
theorem p35 (h : IsR x a) (hw : IsR w W) : IsR (k0_pay35 x w) (mul a W) := fun r f => by
  pointwise [k0_pay35]; exact p34 h hw r f
theorem p37 (h : IsR x a) (hw : IsR w W) : IsR (k0_pay37 x w) (mul a W) := fun r f => by
  pointwise [k0_pay37]; simp only [h _ _, hw _ _, ← EReal.coe_mul, sum_coe]; rfl
theorem p38 (h : IsR x a) (hw : IsR w W) : IsR (k0_pay38 x w) (mul a W) := fun r f => by
  pointwise [k0_pay38]; exact p37 h hw r f
theorem p40 (h : IsR x a) (hw : IsR w W) : IsR (k0_pay40 x w) (mul a W) := fun r f => by
  pointwise [k0_pay40]; simp only [h _ _, hw _ _, ← EReal.coe_mul, sum_coe]; rfl
theorem p41 (h : IsR x a) (hw : IsR w W) : IsR (k0_pay41 x w) (mul a W) := fun r f => by
  pointwise [k0_pay41]; exact p40 h hw r f

/-! ## The output projection -/

theorem p10 (h : IsR x a) (hw : IsR w W) (hw' : IsR w' W') : IsR (k0_pay10 x w w') (mul (sq (mul a W)) W') := fun r k => by
  pointwise [k0_pay10]
  simp only [p8 h hw _ _, sq_coe, hw' _ _, ← EReal.coe_mul, sum_coe]; rfl

theorem p13 (h : IsR x a) (hw : IsR w W) : IsR (k0_pay13 x w) (sq (mul a W)) := fun r f => by
  pointwise [k0_pay13]
  simp only [p11 h hw _ _, sq_coe]; rfl

theorem p19 (h : IsR x a) (hb : IsR b B) (hz : IsR z Z) (hw : IsR w W) {w4 w5 : FVec Ideal S1024x1024 .bf16}
    {W4 W5 : Fin 1024 → Fin 1024 → ℝ} (hw' : IsR w' W') (hw'' : IsR w'' W'') (hw4 : IsR w4 W4) (hw5 : IsR w5 W5) :
    IsR (k0_pay19 x b z w (constant S256x1024 FTy.f32 0#32) w' w'' w4 w5)
      (fun r k => B r k + mul Z W r k + mul (sq (mul a W')) W'' r k + mul (sq (mul a W4)) W5 r k) := fun r k => by
  pointwise [k0_pay19]
  simp only [p15 h hw' _ _, p17 h hw4 _ _, sq_coe, hb _ _, hz _ _, hw _ _, hw'' _ _, hw5 _ _, ← EReal.coe_mul, sum_coe, ← EReal.coe_add]; rfl

theorem p36 (h : IsR x a) (hw : IsR w W) (hw' : IsR w' W') (hw'' : IsR w'' W'') (hw3 : IsR w3 W3) :
    IsR (k0_pay36 x (Scalar.ofBits .f32 0#32) w w' w'' w3) (fun r k => mul (sq (mul a W)) W' r k + mul (sq (mul a W'')) W3 r k) :=
  fun r k => by
  pointwise [k0_pay36]
  simp only [p32 h hw _ _, p34 h hw'' _ _, sq_coe, hw' _ _, hw3 _ _, ← EReal.coe_mul, sum_coe, ← EReal.coe_add]; rfl

theorem p42 (h : IsR x a) (hb : IsR b B) (hy : IsR y Y) (hw : IsR w W) (hw' : IsR w' W') (hw'' : IsR w'' W'') :
    IsR (k0_pay42 x b y k0_pay39 w w' w'') (fun r k => B r k + mul (sq Y) W r k + mul (sq (mul a W')) W'' r k) := fun r k => by
  pointwise [k0_pay42, k0_pay39]
  simp only [p40 h hw' _ _, sq_coe, hb _ _, hy _ _, hw _ _, hw'' _ _, ← EReal.coe_mul, sum_coe, ← EReal.coe_add]; rfl

/-! ## The last norm and the loss, first half -/

section
variable {v30 v33 v42 v46 v55 : FVec Ideal S1024x1024 .bf16} {k0 : FVec Ideal S256x1024 .f32}

theorem p20 (hs : IsR s (fun _ => S)) (hy : IsR (k0_pay19 x b z v30 k0 v33 v42 v46 v55) Y) (hu : IsR u U) :
    IsR (k0_pay20 s x b z v30 k0 v33 v42 v46 v55 u) (fun r k => U r k + S k * Y r k) := fun r k => by
  pointwise [k0_pay20]
  simp only [hs _ _, hy _ _, hu _ _, ← EReal.coe_mul, ← EReal.coe_add]

theorem p21 (h : IsR (k0_pay20 s x b z v30 k0 v33 v42 v46 v55 u) B) :
    IsR (k0_pay21 s x b z v30 k0 v33 v42 v46 v55 u) (fun r _ => ∑ k, B r k * B r k) := fun r k => by
  pointwise [k0_pay21]
  simp only [h _ _, ← EReal.coe_mul, sum_coe]

end

section
variable {κ : Ideal .f32} (hκ : κ = ((1024 : ℝ) : EReal)) (hc : IsR c fun r _ => ∑ k, B r k * B r k)
include hκ hc

theorem p22 : IsR (k0_pay22 c κ) (fun r _ => rs (B r)) := fun r k => by
  pointwise [k0_pay22]
  simp only [hc _ _, hκ, bits_eps, div_1024, ← EReal.coe_add]
  exact rsqrt_real (ms_pos (B r))

variable (hb : IsR b B)
include hb

theorem p23 : IsR (k0_pay23 b c κ) (fun r k => B r k * rs (B r)) := fun r k => by
  pointwise [k0_pay23]
  simp only [p22 hκ hc _ _, hb _ _, ← EReal.coe_mul]

variable (hs : IsR s (fun _ => S)) (ht : IsR t T)
include hs ht

theorem p24 : IsR (k0_pay24 s b c κ t) (fun r => offBy S (B r) (T r)) := fun r k => by
  pointwise [k0_pay24]
  simp only [p23 hκ hc hb _ _, hs _ _, ht _ _, ← EReal.coe_mul, ← EReal.coe_sub]; rfl

theorem p25 : IsR (k0_pay25 s b c κ t) (fun r k => offBy S (B r) (T r) k * (1 / 1024)) :=
  fun r k => by
  pointwise [k0_pay25]
  simp only [p24 hκ hc hb hs ht _ _, bits_inv_1024, ← EReal.coe_mul]

theorem p26 : IsR (k0_pay26 s b c κ t)
    (fun r => rmsGrad (B r) (fun k => offBy S (B r) (T r) k * (1 / 1024) * S k)) := fun r k => by
  pointwise [k0_pay26]
  simp only [p22 hκ hc _ _, p23 hκ hc hb _ _, p25 hκ hc hb hs ht _ _, hs _ _, bits_1024, ← EReal.coe_mul, sum_coe, div_1024, ← EReal.coe_sub]; rfl

theorem p29 : IsR (k0_pay29 s b c κ t)
    (half8 fun r k => offBy S (B r) (T r) k * (1 / 1024) * (B r k * rs (B r))) := fun q k => by
  pointwise [k0_pay29]
  simp only [p23 hκ hc hb _ _, p25 hκ hc hb hs ht _ _, ← EReal.coe_mul, sum_coe]; rfl

theorem p30 : IsR (k0_pay30 s b c κ t)
    (half8 fun r k => offBy S (B r) (T r) k * offBy S (B r) (T r) k) := fun q k => by
  pointwise [k0_pay30]
  simp only [p24 hκ hc hb hs ht _ _, ← EReal.coe_mul, sum_coe]; rfl

theorem p27 (hs' : IsR s' (fun _ => S')) : IsR (k0_pay27 s' s b c κ t)
    (fun r k => S' k * rmsGrad (B r) (fun k => offBy S (B r) (T r) k * (1 / 1024) * S k) k) := fun r k => by
  pointwise [k0_pay27]
  simp only [p26 hκ hc hb hs ht _ _, hs' _ _, ← EReal.coe_mul]

theorem p28 (hy : IsR y Y) : IsR (k0_pay28 s y b c κ t)
    (half8 fun r k => rmsGrad (B r) (fun k => offBy S (B r) (T r) k * (1 / 1024) * S k) k * Y r k) := fun q k => by
  pointwise [k0_pay28]
  simp only [p26 hκ hc hb hs ht _ _, hy _ _, ← EReal.coe_mul, sum_coe]; rfl

end

/-! ## The last norm and the loss, second half -/

section
variable {k1 k2 k3 : FVec Ideal S256x1024 .f32} {v145 v149 v158 : FVec Ideal S1024x1024 .bf16}

theorem p43 (hs : IsR s (fun _ => S)) (hy : IsR (k0_pay42 x k1 k2 k3 v145 v149 v158) Y) (hu : IsR u U) :
    IsR (k0_pay43 s x k1 k2 k3 v145 v149 v158 u) (fun r k => U r k + S k * Y r k) := fun r k => by
  pointwise [k0_pay43]
  simp only [hs _ _, hy _ _, hu _ _, ← EReal.coe_mul, ← EReal.coe_add]

variable (h : IsR (k0_pay43 s x k1 k2 k3 v145 v149 v158 u) B)
include h

theorem p44 : IsR (k0_pay44 s x k1 k2 k3 v145 v149 v158 u) (fun r _ => rs (B r)) := fun r k => by
  pointwise [k0_pay44]
  simp only [h _ _, bits_1024, bits_eps, ← EReal.coe_mul, sum_coe, div_1024, ← EReal.coe_add]
  exact rsqrt_real (ms_pos (B r))

theorem p45 : IsR (k0_pay45 s x k1 k2 k3 v145 v149 v158 u) (fun r k => B r k * rs (B r)) := fun r k => by
  pointwise [k0_pay45]
  simp only [p44 h _ _, h _ _, ← EReal.coe_mul]

theorem p46 (hs' : IsR s' (fun _ => S')) (ht : IsR t T) :
    IsR (k0_pay46 s s' x k1 k2 k3 v145 v149 v158 u t) (fun r => offBy S' (B r) (T r)) := fun r k => by
  pointwise [k0_pay46]
  simp only [p45 h _ _, hs' _ _, ht _ _, ← EReal.coe_mul, ← EReal.coe_sub]; rfl

end

section
variable {n : FVec Ideal S256x1024 .f32} {v : FVec Ideal S8x1024 .f32} {V : Fin 8 → Fin 1024 → ℝ}

theorem p47 (hd : IsR d D) : IsR (k0_pay47 d) (fun r k => D r k * (1 / 1024)) := fun r k => by
  pointwise [k0_pay47]
  simp only [hd _ _, bits_inv_1024, ← EReal.coe_mul]

theorem p52 (hv : IsR v V) (hd : IsR d D) : IsR (k0_pay52 v d) (fun q k => V q k + half8 (fun r k => D r k * D r k) q k) :=
  fun q k => by
  pointwise [k0_pay52]
  simp only [hv _ _, hd _ _, ← EReal.coe_mul, sum_coe, ← EReal.coe_add]; rfl

theorem p51 (hv : IsR v V) (hn : IsR n fun r k => B r k * rs (B r)) (hd : IsR d D) :
    IsR (k0_pay51 v n d) (fun q k => V q k + half8 (fun r k => D r k * (1 / 1024) * (B r k * rs (B r))) q k) := fun q k => by
  pointwise [k0_pay51]
  simp only [hv _ _, hn _ _, p47 hd _ _, ← EReal.coe_mul, sum_coe, ← EReal.coe_add]; rfl

variable (hc : IsR c fun r _ => rs (B r)) (hn : IsR n fun r k => B r k * rs (B r)) (hd : IsR d D) (hs : IsR s (fun _ => S))
include hc hn hd hs

theorem p48 : IsR (k0_pay48 s c n d) (fun r => rmsGrad (B r) (fun k => D r k * (1 / 1024) * S k)) := fun r k => by
  pointwise [k0_pay48]
  simp only [hc _ _, hn _ _, p47 hd _ _, hs _ _, bits_1024, ← EReal.coe_mul, sum_coe, div_1024, ← EReal.coe_sub]; rfl

theorem p49 (hs' : IsR s' (fun _ => S')) :
    IsR (k0_pay49 s' s c n d) (fun r k => S' k * rmsGrad (B r) (fun k => D r k * (1 / 1024) * S k) k) := fun r k => by
  pointwise [k0_pay49]
  simp only [p48 hc hn hd hs _ _, hs' _ _, ← EReal.coe_mul]

theorem p50 (hv : IsR v V) (hy : IsR y Y) :
    IsR (k0_pay50 s v y c n d)
      (fun q k => V q k + half8 (fun r k => rmsGrad (B r) (fun k => D r k * (1 / 1024) * S k) k * Y r k) q k) := fun q k => by
  pointwise [k0_pay50]
  simp only [p48 hc hn hd hs _ _, hv _ _, hy _ _, ← EReal.coe_mul, sum_coe, ← EReal.coe_add]; rfl

end

/-! ## The sums over the points -/

section
variable {v : FVec Ideal S8x1024 .f32} {V V' : Fin 8 → Fin 1024 → ℝ} {o : FVec Ideal S1x8x1024 .f32}
  {o' : FVec Ideal S8x1024 .f32}

theorem p1 (hv : IsR v V) (q : Fin 8) (k : Fin 1024) : k0_pay1 v (ix3 0 q k) = ((V q k : ℝ) : EReal) := by
  pointwise [k0_pay1]; exact hv q k

theorem p2 (hv : IsR v V) (ho : ∀ q k, o (ix3 0 q k) = ((V' q k : ℝ) : EReal)) (q : Fin 8) (k : Fin 1024) :
    k0_pay2 v o (ix3 0 q k) = ((V' q k + V q k : ℝ) : EReal) := by
  pointwise [k0_pay2]
  simp only [hv _ _, ho _ _, ← EReal.coe_add]

theorem p3 (hv : IsR v V) (ho : IsR o' V') : IsR (k0_pay3 v o') (fun q k => V' q k + V q k) := fun q k => by
  pointwise [k0_pay3]
  simp only [hv _ _, ho _ _, ← EReal.coe_add]

theorem p4 (hv : IsR v V) (ho : IsR o' V') : IsR (k0_pay4 v o') (fun q k => V' q k + V q k) := fun q k => by
  pointwise [k0_pay4]
  simp only [hv _ _, ho _ _, ← EReal.coe_add]

end

end

end Cert.Kernel2Ideal.Fwd
-- ==== Proof.FwdHalf.lean ====
/-
  What the forward MLP kernel computes from one half of a block, in terms of its rows: the hidden layer, the output of
  the MLP, the residual stream after it, and the gradients of the loss.
-/
module

public import proofs.«01_k».proof.Proof.FwdPays

@[expose] public section

set_option maxRecDepth 16384

noncomputable section

open Idealize.ShloMosaic Idealize.ShloMosaic.TcCoe Idealize.SL.Sem

namespace Cert.Kernel2Ideal.Fwd

open Cert.Kernel2Ideal Cert.Kernel2Ideal.Gen Rows

/-! ## One row -/

/-- The hidden layer before its squared relu. -/
def zRow (h : Fin 1024 → ℝ) (w1 : Fin 1024 → Fin 4096 → ℝ) (f : Fin 4096) : ℝ := ∑ k, h k * w1 k f

/-- The output of the MLP. -/
def yRow (z : Fin 4096 → ℝ) (w2 : Fin 4096 → Fin 1024 → ℝ) (k : Fin 1024) : ℝ := ∑ f, max (z f) 0 * max (z f) 0 * w2 f k

/-- The residual stream after the MLP. -/
def endRow (x g y : Fin 1024 → ℝ) (k : Fin 1024) : ℝ := x k + g k * y k

/-- The gradient of the residual stream, from the normed output less the target. -/
def backRow (b e s : Fin 1024 → ℝ) : Fin 1024 → ℝ := rmsGrad b (fun k => e k * (1 / 1024) * s k)

section
variable {x : FVec Ideal S256x1024 .bf16} {a : Fin 256 → Fin 1024 → ℝ} {W2 : Fin 4096 → Fin 1024 → ℝ}
  {W1 : Fin 1024 → Fin 4096 → ℝ} {u0 u1 u2 u3 v0 v1 v2 v3 : FVec Ideal S1024x1024 .bf16} {b t : FVec Ideal S256x1024 .f32}
  {B T : Fin 256 → Fin 1024 → ℝ} {g : FVec Ideal S1x1x1024 .f32} {G S : Fin 1024 → ℝ} {s : FVec Ideal S1x1024 .f32}

/-- The four pieces of the hidden layer add up to the output of the MLP. -/
theorem y_sum (r : Fin 256) (k : Fin 1024) :
    mul (sq (mul a fun k (f : Fin 1024) => W1 k ⟨0 + f, by omega⟩)) (fun (f : Fin 1024) k => W2 ⟨0 + f, by omega⟩ k) r k
      + mul (sq (mul a fun k (f : Fin 1024) => W1 k ⟨1024 + f, by omega⟩)) (fun (f : Fin 1024) k => W2 ⟨1024 + f, by omega⟩ k) r k
      + mul (sq (mul a fun k (f : Fin 1024) => W1 k ⟨2048 + f, by omega⟩)) (fun (f : Fin 1024) k => W2 ⟨2048 + f, by omega⟩ k) r k
      + mul (sq (mul a fun k (f : Fin 1024) => W1 k ⟨3072 + f, by omega⟩)) (fun (f : Fin 1024) k => W2 ⟨3072 + f, by omega⟩ k) r k
      = yRow (zRow (a r) W1) W2 k := by
  unfold yRow
  rw [sum_four]
  rfl

variable (h : IsR x a)
  (hv0 : IsR v0 fun k f => W1 k ⟨0 + f, by omega⟩) (hu0 : IsR u0 fun f k => W2 ⟨0 + f, by omega⟩ k)
  (hv1 : IsR v1 fun k f => W1 k ⟨1024 + f, by omega⟩) (hu1 : IsR u1 fun f k => W2 ⟨1024 + f, by omega⟩ k)
  (hv2 : IsR v2 fun k f => W1 k ⟨2048 + f, by omega⟩) (hu2 : IsR u2 fun f k => W2 ⟨2048 + f, by omega⟩ k)
  (hv3 : IsR v3 fun k f => W1 k ⟨3072 + f, by omega⟩) (hu3 : IsR u3 fun f k => W2 ⟨3072 + f, by omega⟩ k)

include h hv0 hu0 hv1 hu1 hv2 hu2 hv3 hu3

theorem y_first : IsR (k0_pay19 (k0_pay7 x) (k0_pay10 x v0 u0) (k0_pay13 x v1) (k0_pay14 u1)
    (constant S256x1024 FTy.f32 0#32) v2 u2 v3 u3) (fun r => yRow (zRow (a r) W1) W2) :=
  fun r k => (p19 (p7 h) (p10 h hv0 hu0) (p13 h hv1) (p14 hu1) hv2 hu2 hv3 hu3 r k).trans (congrArg _ (y_sum r k))

theorem y_second : IsR (k0_pay42 (k0_pay31 x) (k0_pay36 (k0_pay31 x) (Scalar.ofBits .f32 0#32) v0 u0 v1 u1)
    (k0_pay37 (k0_pay31 x) v2) k0_pay39 u2 v3 u3) (fun r => yRow (zRow (a r) W1) W2) :=
  fun r k => (p42 (p31 h) (p36 (p31 h) hv0 hu0 hv1 hu1) (p37 (p31 h) hv2) hu2 hv3 hu3 r k).trans (congrArg _ (y_sum r k))

variable (hg : ∀ k, g (ix3 0 0 k) = ((G k : ℝ) : EReal)) (hb : IsR b B)
include hg hb

theorem end_first : IsR (k0_pay20 (k0_pay5 g) (k0_pay7 x) (k0_pay10 x v0 u0) (k0_pay13 x v1) (k0_pay14 u1)
    (constant S256x1024 FTy.f32 0#32) v2 u2 v3 u3 b) (fun r => endRow (B r) G (yRow (zRow (a r) W1) W2)) :=
  p20 (p5 hg) (y_first h hv0 hu0 hv1 hu1 hv2 hu2 hv3 hu3) hb

theorem end_second : IsR (k0_pay43 (k0_pay5 g) (k0_pay31 x) (k0_pay36 (k0_pay31 x) (Scalar.ofBits .f32 0#32) v0 u0 v1 u1)
    (k0_pay37 (k0_pay31 x) v2) k0_pay39 u2 v3 u3 b) (fun r => endRow (B r) G (yRow (zRow (a r) W1) W2)) :=
  p43 (p5 hg) (y_second h hv0 hu0 hv1 hu1 hv2 hu2 hv3 hu3) hb

end

/-! ## The gradients, from the residual stream after the MLP -/

section
variable {s s' : FVec Ideal S1x1024 .f32} {S S' : Fin 1024 → ℝ} {x z : FVec Ideal S256x1024 .bf16}
  {b k1 k2 k3 u t y y' : FVec Ideal S256x1024 .f32} {v30 v33 v42 v46 v55 : FVec Ideal S1024x1024 .bf16}
  {B B' T T' Y Y' : Fin 256 → Fin 1024 → ℝ} {v : FVec Ideal S8x1024 .f32} {V : Fin 8 → Fin 1024 → ℝ}

section
variable (he : IsR (k0_pay20 s' x b z v30 k1 v33 v42 v46 v55 u) B) (hs : IsR s fun _ => S) (ht : IsR t T)
include he hs ht

theorem dx_first : IsR (k0_pay26 s (k0_pay20 s' x b z v30 k1 v33 v42 v46 v55 u) (k0_pay21 s' x b z v30 k1 v33 v42 v46 v55 u)
    (Scalar.ofBits .f32 0x44800000#32) t) (fun r => backRow (B r) (offBy S (B r) (T r)) S) :=
  p26 bits_1024 (p21 he) he hs ht

theorem dy_first (hs' : IsR s' fun _ => S') :
    IsR (k0_pay27 s' s (k0_pay20 s' x b z v30 k1 v33 v42 v46 v55 u) (k0_pay21 s' x b z v30 k1 v33 v42 v46 v55 u)
      (Scalar.ofBits .f32 0x44800000#32) t) (fun r k => S' k * backRow (B r) (offBy S (B r) (T r)) S k) :=
  p27 bits_1024 (p21 he) he hs ht hs'

theorem dg_first (hy : IsR y Y) :
    IsR (k0_pay28 s y (k0_pay20 s' x b z v30 k1 v33 v42 v46 v55 u) (k0_pay21 s' x b z v30 k1 v33 v42 v46 v55 u)
      (Scalar.ofBits .f32 0x44800000#32) t) (half8 fun r k => backRow (B r) (offBy S (B r) (T r)) S k * Y r k) :=
  p28 bits_1024 (p21 he) he hs ht hy

theorem gf_first : IsR (k0_pay29 s (k0_pay20 s' x b z v30 k1 v33 v42 v46 v55 u) (k0_pay21 s' x b z v30 k1 v33 v42 v46 v55 u)
    (Scalar.ofBits .f32 0x44800000#32) t) (half8 fun r k => offBy S (B r) (T r) k * (1 / 1024) * (B r k * rs (B r))) :=
  p29 bits_1024 (p21 he) he hs ht

theorem loss_first : IsR (k0_pay30 s (k0_pay20 s' x b z v30 k1 v33 v42 v46 v55 u) (k0_pay21 s' x b z v30 k1 v33 v42 v46 v55 u)
    (Scalar.ofBits .f32 0x44800000#32) t) (half8 fun r k => offBy S (B r) (T r) k * offBy S (B r) (T r) k) :=
  p30 bits_1024 (p21 he) he hs ht

end

section
variable (he : IsR (k0_pay43 s' x k1 k2 k3 v33 v42 v46 u) B) (hs : IsR s fun _ => S) (ht : IsR t T)
include he hs ht

theorem dx_second : IsR (k0_pay48 s (k0_pay44 s' x k1 k2 k3 v33 v42 v46 u) (k0_pay45 s' x k1 k2 k3 v33 v42 v46 u)
    (k0_pay46 s' s x k1 k2 k3 v33 v42 v46 u t)) (fun r => backRow (B r) (offBy S (B r) (T r)) S) :=
  p48 (p44 he) (p45 he) (p46 he hs ht) hs

theorem dy_second (hs' : IsR s' fun _ => S') :
    IsR (k0_pay49 s' s (k0_pay44 s' x k1 k2 k3 v33 v42 v46 u) (k0_pay45 s' x k1 k2 k3 v33 v42 v46 u)
      (k0_pay46 s' s x k1 k2 k3 v33 v42 v46 u t)) (fun r k => S' k * backRow (B r) (offBy S (B r) (T r)) S k) :=
  p49 (p44 he) (p45 he) (p46 he hs ht) hs hs'

theorem dg_second (hv : IsR v V) (hy : IsR y Y) :
    IsR (k0_pay50 s v y (k0_pay44 s' x k1 k2 k3 v33 v42 v46 u) (k0_pay45 s' x k1 k2 k3 v33 v42 v46 u)
      (k0_pay46 s' s x k1 k2 k3 v33 v42 v46 u t))
      (fun q k => V q k + half8 (fun r k => backRow (B r) (offBy S (B r) (T r)) S k * Y r k) q k) :=
  p50 (p44 he) (p45 he) (p46 he hs ht) hs hv hy

theorem gf_second (hv : IsR v V) :
    IsR (k0_pay51 v (k0_pay45 s' x k1 k2 k3 v33 v42 v46 u) (k0_pay46 s' s x k1 k2 k3 v33 v42 v46 u t))
      (fun q k => V q k + half8 (fun r k => offBy S (B r) (T r) k * (1 / 1024) * (B r k * rs (B r))) q k) :=
  p51 hv (p45 he) (p46 he hs ht)

theorem loss_second (hv : IsR v V) : IsR (k0_pay52 v (k0_pay46 s' s x k1 k2 k3 v33 v42 v46 u t))
    (fun q k => V q k + half8 (fun r k => offBy S (B r) (T r) k * offBy S (B r) (T r) k) q k) :=
  p52 hv (p46 he hs ht)

end

end

end Cert.Kernel2Ideal.Fwd
-- ==== Proof.FwdBlock.lean ====
/-
  What the forward MLP kernel leaves at one grid point, on finite blocks: every row's hidden layer and gradients, and
  the three sums of every eighth row, alone where a sum begins and added to what the point before left at the others.
-/
module

public import proofs.«01_k».proof.Proof.Gen.Kernel2Ideal.Frame
public import proofs.«01_k».proof.Proof.FwdHalf

@[expose] public section

set_option maxRecDepth 16384

noncomputable section

open Idealize.ShloMosaic Idealize.ShloMosaic.TcCoe Idealize.SL.Sem

namespace Cert.Kernel2Ideal.Fwd

open Cert.Kernel2Ideal Cert.Kernel2Ideal.Gen Rows

/-- The blocks of point `t` hold these reals. -/
structure BlockIs (m : (ℓ : Loc nD τ sig) → Buf (Elt Ideal) ℓ) (c : Dev nD) (t : Fin cfg0.N)
    (h x tg : Fin 512 → Fin 1024 → ℝ) (md : Fin 6144 → ℝ) (gf : Fin 1024 → ℝ)
    (w1 : Fin 1024 → Fin 4096 → ℝ) (w2 : Fin 4096 → Fin 1024 → ℝ) : Prop where
  h0 : IsR (φ := .bf16) (iblk m c 0 t) h
  h1 : IsR (φ := .f32) (iblk m c 1 t) x
  h2 : IsR (φ := .f32) (iblk m c 2 t) tg
  h3 : ∀ k, (iblk m c 3 t : FVec Ideal S1x1x6144 .f32) (ix3 0 0 k) = ((md k : ℝ) : EReal)
  h4 : IsR (φ := .f32) (n := 1) (iblk m c 4 t) (fun _ => gf)
  h5 : IsR (φ := .bf16) (iblk m c 5 t) w1
  h6 : IsR (φ := .bf16) (iblk m c 6 t) w2

variable {m : (ℓ : Loc nD τ sig) → Buf (Elt Ideal) ℓ} {c : Dev nD} {t : Fin cfg0.N}
  {h x tg : Fin 512 → Fin 1024 → ℝ} {md : Fin 6144 → ℝ} {gf : Fin 1024 → ℝ}
  {w1 : Fin 1024 → Fin 4096 → ℝ} {w2 : Fin 4096 → Fin 1024 → ℝ}

/-! The reals of a point's output blocks. -/

def zB (h : Fin 512 → Fin 1024 → ℝ) (w1 : Fin 1024 → Fin 4096 → ℝ) (r : Fin 512) : Fin 4096 → ℝ := zRow (h r) w1

def yB (h : Fin 512 → Fin 1024 → ℝ) (w1 : Fin 1024 → Fin 4096 → ℝ) (w2 : Fin 4096 → Fin 1024 → ℝ) (r : Fin 512) :
    Fin 1024 → ℝ := yRow (zRow (h r) w1) w2

def endB (h x : Fin 512 → Fin 1024 → ℝ) (md : Fin 6144 → ℝ) (w1 : Fin 1024 → Fin 4096 → ℝ) (w2 : Fin 4096 → Fin 1024 → ℝ)
    (r : Fin 512) : Fin 1024 → ℝ := endRow (x r) (fun k => md ⟨5120 + k, by omega⟩) (yRow (zRow (h r) w1) w2)

def offB (h x tg : Fin 512 → Fin 1024 → ℝ) (md : Fin 6144 → ℝ) (gf : Fin 1024 → ℝ) (w1 : Fin 1024 → Fin 4096 → ℝ)
    (w2 : Fin 4096 → Fin 1024 → ℝ) (r : Fin 512) : Fin 1024 → ℝ := offBy gf (endB h x md w1 w2 r) (tg r)

def dxB (h x tg : Fin 512 → Fin 1024 → ℝ) (md : Fin 6144 → ℝ) (gf : Fin 1024 → ℝ) (w1 : Fin 1024 → Fin 4096 → ℝ)
    (w2 : Fin 4096 → Fin 1024 → ℝ) (r : Fin 512) : Fin 1024 → ℝ :=
  backRow (endB h x md w1 w2 r) (offB h x tg md gf w1 w2 r) gf

def dyB (h x tg : Fin 512 → Fin 1024 → ℝ) (md : Fin 6144 → ℝ) (gf : Fin 1024 → ℝ) (w1 : Fin 1024 → Fin 4096 → ℝ)
    (w2 : Fin 4096 → Fin 1024 → ℝ) (r : Fin 512) (k : Fin 1024) : ℝ := md ⟨5120 + k, by omega⟩ * dxB h x tg md gf w1 w2 r k

variable (H : BlockIs m c t h x tg md gf w1 w2)
include H

/-- The hidden layer. -/
theorem out7 (r : Fin 512) (f : Fin 4096) :
    (outsAt0 m c t.val t.isLt).1 (ix2 r f) = ((zB h w1 r f : ℝ) : EReal) := by
  let G := fun y : (⟨2, ![512, 4096]⟩ : Shape).Idx => ((zB h w1 (y 0) (y 1) : ℝ) : EReal)
  have hN : t.val < 16 := t.isLt
  by_cases e : t.val % 8 = 0
  on_goal 1 => by_cases e' : t.val % 16 = 0
  on_goal 1 =>
    rw [outsAt0_A m c t e (by omega) e' (by omega) e' (by omega)]
    dsimp only
    unfold out0_A_7
    rw [View.read_writes_eq_canon _ _ _ (fun y => cover0_A_7 (y := y) ..)]
    refine View.canon_apply_of_pieces (Val := Elt Ideal) G _ ?_ (ix2 r f) (cover0_A_7 ..)
    unfold kernelRun0_A
    dsimp only
    sl_unfold_words
  on_goal 2 =>
    rw [outsAt0_C m c t e (by omega) e' (by omega) e' (by omega)]
    dsimp only
    unfold out0_C_7
    rw [View.read_writes_eq_canon _ _ _ (fun y => cover0_C_7 (y := y) ..)]
    refine View.canon_apply_of_pieces (Val := Elt Ideal) G _ ?_ (ix2 r f) (cover0_C_7 ..)
    unfold kernelRun0_C
    dsimp only
    sl_unfold_words
  on_goal 3 =>
    rw [outsAt0_B m c t e e (by omega) (by omega) (by omega) (by omega)]
    dsimp only
    unfold out0_B_7
    rw [View.read_writes_eq_canon _ _ _ (fun y => cover0_B_7 (y := y) ..)]
    refine View.canon_apply_of_pieces (Val := Elt Ideal) G _ ?_ (ix2 r f) (cover0_B_7 ..)
    unfold kernelRun0_B
    dsimp only
    sl_unfold_words
  all_goals simp only [View.readAt_eq_ld, Memref.IsWhole.read_unread, List.forall_mem_cons]
  all_goals
    exact ⟨piece _ (p41 (p31 (ld_rows H.h0 _)) (ld_cols H.h5 _)), piece _ (p38 (p31 (ld_rows H.h0 _)) (ld_cols H.h5 _)),
      piece _ (p35 (p31 (ld_rows H.h0 _)) (ld_cols H.h5 _)), piece _ (p33 (p31 (ld_rows H.h0 _)) (ld_cols H.h5 _)),
      piece _ (p18 (p7 (ld_rows H.h0 _)) (ld_cols H.h5 _)), piece _ (p16 (p7 (ld_rows H.h0 _)) (ld_cols H.h5 _)),
      piece _ (p12 (ld_rows H.h0 _) (ld_cols H.h5 _)), piece _ (p9 (ld_rows H.h0 _) (ld_cols H.h5 _)), List.forall_mem_nil _⟩

/-- The gradient of the residual stream. -/
theorem out8 (r : Fin 512) (f : Fin 1024) :
    (outsAt0 m c t.val t.isLt).2.1 (ix2 r f) = ((dxB h x tg md gf w1 w2 r f : ℝ) : EReal) := by
  let G := fun y : (⟨2, ![512, 1024]⟩ : Shape).Idx => ((dxB h x tg md gf w1 w2 (y 0) (y 1) : ℝ) : EReal)
  have hN : t.val < 16 := t.isLt
  by_cases e : t.val % 8 = 0
  on_goal 1 => by_cases e' : t.val % 16 = 0
  on_goal 1 =>
    rw [outsAt0_A m c t e (by omega) e' (by omega) e' (by omega)]
    dsimp only
    unfold out0_A_8
    rw [View.read_writes_eq_canon _ _ _ (fun y => cover0_A_8 (y := y) ..)]
    refine View.canon_apply_of_pieces (Val := Elt Ideal) G _ ?_ (ix2 r f) (cover0_A_8 ..)
    unfold kernelRun0_A
    dsimp only
    sl_unfold_words
  on_goal 2 =>
    rw [outsAt0_C m c t e (by omega) e' (by omega) e' (by omega)]
    dsimp only
    unfold out0_C_8
    rw [View.read_writes_eq_canon _ _ _ (fun y => cover0_C_8 (y := y) ..)]
    refine View.canon_apply_of_pieces (Val := Elt Ideal) G _ ?_ (ix2 r f) (cover0_C_8 ..)
    unfold kernelRun0_C
    dsimp only
    sl_unfold_words
  on_goal 3 =>
    rw [outsAt0_B m c t e e (by omega) (by omega) (by omega) (by omega)]
    dsimp only
    unfold out0_B_8
    rw [View.read_writes_eq_canon _ _ _ (fun y => cover0_B_8 (y := y) ..)]
    refine View.canon_apply_of_pieces (Val := Elt Ideal) G _ ?_ (ix2 r f) (cover0_B_8 ..)
    unfold kernelRun0_B
    dsimp only
    sl_unfold_words
  all_goals simp only [View.readAt_eq_ld, Memref.IsWhole.read_unread, List.forall_mem_cons]
  all_goals
    exact ⟨piece_rows (G := dxB h x tg md gf w1 w2) _ (dx_second (end_second (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _)),
      piece_rows (G := dxB h x tg md gf w1 w2) _ (dx_first (end_first (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _)), List.forall_mem_nil _⟩

/-- The gradient of the MLP's output: the residual's, times the gate. -/
theorem out9 (r : Fin 512) (f : Fin 1024) :
    (outsAt0 m c t.val t.isLt).2.2.1 (ix2 r f) = ((dyB h x tg md gf w1 w2 r f : ℝ) : EReal) := by
  let G := fun y : (⟨2, ![512, 1024]⟩ : Shape).Idx => ((dyB h x tg md gf w1 w2 (y 0) (y 1) : ℝ) : EReal)
  have hN : t.val < 16 := t.isLt
  by_cases e : t.val % 8 = 0
  on_goal 1 => by_cases e' : t.val % 16 = 0
  on_goal 1 =>
    rw [outsAt0_A m c t e (by omega) e' (by omega) e' (by omega)]
    dsimp only
    unfold out0_A_9
    rw [View.read_writes_eq_canon _ _ _ (fun y => cover0_A_9 (y := y) ..)]
    refine View.canon_apply_of_pieces (Val := Elt Ideal) G _ ?_ (ix2 r f) (cover0_A_9 ..)
    unfold kernelRun0_A
    dsimp only
    sl_unfold_words
  on_goal 2 =>
    rw [outsAt0_C m c t e (by omega) e' (by omega) e' (by omega)]
    dsimp only
    unfold out0_C_9
    rw [View.read_writes_eq_canon _ _ _ (fun y => cover0_C_9 (y := y) ..)]
    refine View.canon_apply_of_pieces (Val := Elt Ideal) G _ ?_ (ix2 r f) (cover0_C_9 ..)
    unfold kernelRun0_C
    dsimp only
    sl_unfold_words
  on_goal 3 =>
    rw [outsAt0_B m c t e e (by omega) (by omega) (by omega) (by omega)]
    dsimp only
    unfold out0_B_9
    rw [View.read_writes_eq_canon _ _ _ (fun y => cover0_B_9 (y := y) ..)]
    refine View.canon_apply_of_pieces (Val := Elt Ideal) G _ ?_ (ix2 r f) (cover0_B_9 ..)
    unfold kernelRun0_B
    dsimp only
    sl_unfold_words
  all_goals simp only [View.readAt_eq_ld, Memref.IsWhole.read_unread, List.forall_mem_cons]
  all_goals
    exact ⟨piece_rows (G := dyB h x tg md gf w1 w2) _ (dy_second (end_second (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (p5 (ld_vec H.h3 _))),
      piece_rows (G := dyB h x tg md gf w1 w2) _ (dy_first (end_first (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (p5 (ld_vec H.h3 _))), List.forall_mem_nil _⟩

omit H in
theorem zero3 : (![0, 0, 0] : Fin 3 → ℕ) = fun _ => 0 := by decide
omit H in
theorem zero2 : (![0, 0] : Fin 2 → ℕ) = fun _ => 0 := by decide

omit H in
/-- A load of the whole of an accumulator. -/
theorem ld_whole3 {X : FVec Ideal S1x8x1024 .f32} {O : Fin 8 → Fin 1024 → ℝ} (ho : ∀ q k, X (ix3 0 q k) = ((O q k : ℝ) : EReal))
    (inb : ∀ a, ![0, 0, 0] a + ![1, 8, 1024] a ≤ S1x8x1024.size a) (q : Fin 8) (k : Fin 1024) :
    View.ld (Val := Elt Ideal) (e' := .f32) X (Rect.unit (s := S1x8x1024) ![0, 0, 0] ![1, 8, 1024] inb) (ix3 0 q k) = ((O q k : ℝ) : EReal) :=
  (congrFun (View.ld_unit_zero (Val := Elt Ideal) (e := .f32) (S := S1x8x1024) zero3 inb X) _).trans (ho q k)

omit H in
theorem ld_whole2 {X : FVec Ideal S8x1024 .f32} {O : Fin 8 → Fin 1024 → ℝ} (ho : IsR X O)
    (inb : ∀ a, ![0, 0] a + ![8, 1024] a ≤ S8x1024.size a) :
    IsR (φ := .f32) (View.ld (Val := Elt Ideal) (e' := .f32) X (Rect.unit (s := S8x1024) ![0, 0] ![8, 1024] inb)) O := fun q k =>
  (congrFun (View.ld_unit_zero (Val := Elt Ideal) (e := .f32) (S := S8x1024) zero2 inb X) _).trans (ho q k)

/-- The sums of the gradient of the gate start at a batch's first point. -/
theorem out10_A (e : t.val % 8 = 0) (q : Fin 8) (f : Fin 1024) :
    (outsAt0 m c t.val t.isLt).2.2.2.1 (ix3 0 q f) = ((block8 (fun r k => dxB h x tg md gf w1 w2 r k * yB h w1 w2 r k) q f : ℝ) : EReal) := by
  have hN : t.val < 16 := t.isLt
  by_cases e' : t.val % 16 = 0
  on_goal 1 =>
    rw [outsAt0_A m c t e (by omega) e' (by omega) e' (by omega)]
    dsimp only
    unfold out0_A_10
    rw [View.read_writes_eq_canon _ _ _ (fun y => cover0_A_10 (y := y) ..)]
    unfold kernelRun0_A
  on_goal 2 =>
    rw [outsAt0_C m c t e (by omega) e' (by omega) e' (by omega)]
    dsimp only
    unfold out0_C_10
    rw [View.read_writes_eq_canon _ _ _ (fun y => cover0_C_10 (y := y) ..)]
    unfold kernelRun0_C
  all_goals
    dsimp only
    sl_unfold_words
    simp only [View.readAt_eq_ld, Memref.IsWhole.read_unread]
    rw [View.canon_unit_zero zero3]
    exact (p1 (dg_second (end_second (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (dg_first (end_first (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (y_first (ld_rows H.h0 _) (ld_cols H.h5 _) (ld_rows H.h6 _) (ld_cols H.h5 _) (ld_rows H.h6 _)
        (ld_cols H.h5 _) (ld_rows H.h6 _) (ld_cols H.h5 _) (ld_rows H.h6 _))) (y_second (ld_rows H.h0 _) (ld_cols H.h5 _) (ld_rows H.h6 _) (ld_cols H.h5 _) (ld_rows H.h6 _)
        (ld_cols H.h5 _) (ld_rows H.h6 _) (ld_cols H.h5 _) (ld_rows H.h6 _))) q f).trans rfl

theorem out10_B (e : ¬t.val % 8 = 0) {O : Fin 8 → Fin 1024 → ℝ}
    (ho : ∀ q k, (outsAt0 m c (t.val - 1) (by omega)).2.2.2.1 (ix3 0 q k) = ((O q k : ℝ) : EReal)) (q : Fin 8) (f : Fin 1024) :
    (outsAt0 m c t.val t.isLt).2.2.2.1 (ix3 0 q f) = ((O q f + block8 (fun r k => dxB h x tg md gf w1 w2 r k * yB h w1 w2 r k) q f : ℝ) : EReal) := by
  have hN : t.val < 16 := t.isLt
  on_goal 1 =>
    rw [outsAt0_B m c t e e (by omega) (by omega) (by omega) (by omega)]
    dsimp only
    unfold out0_B_10
    rw [View.read_writes_eq_canon _ _ _ (fun y => cover0_B_10 (y := y) ..)]
    unfold kernelRun0_B
  all_goals
    dsimp only
    sl_unfold_words
    simp only [View.readAt_eq_ld, Memref.IsWhole.read_unread]
    rw [View.canon_unit_zero zero3]
    exact (p2 (dg_second (end_second (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (dg_first (end_first (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (y_first (ld_rows H.h0 _) (ld_cols H.h5 _) (ld_rows H.h6 _) (ld_cols H.h5 _) (ld_rows H.h6 _)
        (ld_cols H.h5 _) (ld_rows H.h6 _) (ld_cols H.h5 _) (ld_rows H.h6 _))) (y_second (ld_rows H.h0 _) (ld_cols H.h5 _) (ld_rows H.h6 _) (ld_cols H.h5 _) (ld_rows H.h6 _)
        (ld_cols H.h5 _) (ld_rows H.h6 _) (ld_cols H.h5 _) (ld_rows H.h6 _))) (ld_whole3 ho _) q f).trans rfl

/-- The sums of the gradient of the last norm's gain start at the first point. -/
theorem out11_A (e' : t.val % 16 = 0) (q : Fin 8) (f : Fin 1024) :
    (outsAt0 m c t.val t.isLt).2.2.2.2.1 (ix2 q f) = ((block8 (fun r k => offB h x tg md gf w1 w2 r k * (1 / 1024) * (endB h x md w1 w2 r k * rs (endB h x md w1 w2 r))) q f : ℝ) : EReal) := by
  have hN : t.val < 16 := t.isLt
  have e : t.val % 8 = 0 := by omega
  on_goal 1 =>
    rw [outsAt0_A m c t e (by omega) e' (by omega) e' (by omega)]
    dsimp only
    unfold out0_A_11
    rw [View.read_writes_eq_canon _ _ _ (fun y => cover0_A_11 (y := y) ..)]
    unfold kernelRun0_A
  all_goals
    dsimp only
    sl_unfold_words
    simp only [View.readAt_eq_ld, Memref.IsWhole.read_unread]
    rw [View.canon_unit_zero zero2]
    exact ((gf_second (end_second (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (gf_first (end_first (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _))) q f).trans rfl

theorem out11_B (e' : ¬t.val % 16 = 0) {O : Fin 8 → Fin 1024 → ℝ}
    (ho : ∀ q k, (outsAt0 m c (t.val - 1) (by omega)).2.2.2.2.1 (ix2 q k) = ((O q k : ℝ) : EReal)) (q : Fin 8) (f : Fin 1024) :
    (outsAt0 m c t.val t.isLt).2.2.2.2.1 (ix2 q f) = ((O q f + block8 (fun r k => offB h x tg md gf w1 w2 r k * (1 / 1024) * (endB h x md w1 w2 r k * rs (endB h x md w1 w2 r))) q f : ℝ) : EReal) := by
  have hN : t.val < 16 := t.isLt
  by_cases e : t.val % 8 = 0
  on_goal 1 =>
    rw [outsAt0_C m c t e (by omega) e' (by omega) e' (by omega)]
    dsimp only
    unfold out0_C_11
    rw [View.read_writes_eq_canon _ _ _ (fun y => cover0_C_11 (y := y) ..)]
    unfold kernelRun0_C
  on_goal 2 =>
    rw [outsAt0_B m c t e e (by omega) (by omega) (by omega) (by omega)]
    dsimp only
    unfold out0_B_11
    rw [View.read_writes_eq_canon _ _ _ (fun y => cover0_B_11 (y := y) ..)]
    unfold kernelRun0_B
  all_goals
    dsimp only
    sl_unfold_words
    simp only [View.readAt_eq_ld, Memref.IsWhole.read_unread]
    rw [View.canon_unit_zero zero2]
    exact (p3 (gf_second (end_second (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (gf_first (end_first (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _))) (ld_whole2 ho _) q f).trans rfl

/-- The sums of the squared errors start at the first point. -/
theorem out12_A (e' : t.val % 16 = 0) (q : Fin 8) (f : Fin 1024) :
    (outsAt0 m c t.val t.isLt).2.2.2.2.2 (ix2 q f) = ((block8 (fun r k => offB h x tg md gf w1 w2 r k * offB h x tg md gf w1 w2 r k) q f : ℝ) : EReal) := by
  have hN : t.val < 16 := t.isLt
  have e : t.val % 8 = 0 := by omega
  on_goal 1 =>
    rw [outsAt0_A m c t e (by omega) e' (by omega) e' (by omega)]
    dsimp only
    unfold out0_A_12
    rw [View.read_writes_eq_canon _ _ _ (fun y => cover0_A_12 (y := y) ..)]
    unfold kernelRun0_A
  all_goals
    dsimp only
    sl_unfold_words
    simp only [View.readAt_eq_ld, Memref.IsWhole.read_unread]
    rw [View.canon_unit_zero zero2]
    exact ((loss_second (end_second (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (loss_first (end_first (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _))) q f).trans rfl

theorem out12_B (e' : ¬t.val % 16 = 0) {O : Fin 8 → Fin 1024 → ℝ}
    (ho : ∀ q k, (outsAt0 m c (t.val - 1) (by omega)).2.2.2.2.2 (ix2 q k) = ((O q k : ℝ) : EReal)) (q : Fin 8) (f : Fin 1024) :
    (outsAt0 m c t.val t.isLt).2.2.2.2.2 (ix2 q f) = ((O q f + block8 (fun r k => offB h x tg md gf w1 w2 r k * offB h x tg md gf w1 w2 r k) q f : ℝ) : EReal) := by
  have hN : t.val < 16 := t.isLt
  by_cases e : t.val % 8 = 0
  on_goal 1 =>
    rw [outsAt0_C m c t e (by omega) e' (by omega) e' (by omega)]
    dsimp only
    unfold out0_C_12
    rw [View.read_writes_eq_canon _ _ _ (fun y => cover0_C_12 (y := y) ..)]
    unfold kernelRun0_C
  on_goal 2 =>
    rw [outsAt0_B m c t e e (by omega) (by omega) (by omega) (by omega)]
    dsimp only
    unfold out0_B_12
    rw [View.read_writes_eq_canon _ _ _ (fun y => cover0_B_12 (y := y) ..)]
    unfold kernelRun0_B
  all_goals
    dsimp only
    sl_unfold_words
    simp only [View.readAt_eq_ld, Memref.IsWhole.read_unread]
    rw [View.canon_unit_zero zero2]
    exact (p4 (loss_second (end_second (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _) (loss_first (end_first (ld_rows H.h0 _) (ld_cols H.h5 _) (ld_rows H.h6 _) (ld_cols H.h5 _) (ld_rows H.h6 _)
        (ld_cols H.h5 _) (ld_rows H.h6 _) (ld_cols H.h5 _) (ld_rows H.h6 _) (ld_vec H.h3 _) (ld_rows H.h1 _)) (p6 (ld_rows H.h4 _)) (ld_rows H.h2 _))) (ld_whole2 ho _) q f).trans rfl

end Cert.Kernel2Ideal.Fwd
-- ==== Proof.FwdArrays.lean ====
/-
  From blocks to arrays: the blocks that every point of the forward MLP kernel reads, the running sums of the three
  accumulated outputs, and what the six output arrays hold after the run.
-/
module

public import proofs.«01_k».proof.Proof.FwdEntry
public import proofs.«01_k».proof.Proof.FwdBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Fwd

open Cert.Kernel2Ideal Cert.Kernel2Ideal.Gen Rows

theorem lt16 (t : Fin cfg0.N) : t.val < 16 := lt_of_lt_of_eq t.isLt N_0

/-! ## Where the blocks lie -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val / 8, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val / 8, 0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)

/-- Row `r` of point `t`'s rows. -/
def row (t : Fin cfg0.N) (r : Fin 512) : Fin 8192 := ⟨t.val * 512 + r.val, by have := lt16 t; omega⟩

/-- The batch of point `t`'s rows. -/
def bat (t : Fin cfg0.N) : Fin 2 := ⟨t.val / 8, by have := lt16 t; omega⟩

variable {m : (ℓ : Loc nD τ sig) → Buf (Elt Ideal) ℓ} {c : Dev nD} {X TG : Fin 2 → Fin 4096 → Fin 1024 → ℝ}
  {MD : Fin 2 → Fin 6144 → ℝ} {W1 : Fin 1024 → Fin 4096 → ℝ} {W2 : Fin 4096 → Fin 1024 → ℝ} {GF : Fin 1024 → ℝ}

set_option maxHeartbeats 1600000 in
/-- What the point `t` reads. -/
theorem blocks (H : ArgsAre m c X MD W1 W2 GF TG) (t : Fin cfg0.N) :
    BlockIs m c t (fun r => flat (hF X MD) (row t r)) (fun r => flat X (row t r)) (fun r => flat TG (row t r)) (MD (bat t)) GF W1 W2 where
  h0 r k := by
    refine Eq.trans ?_ (v21_at H (row t r) k)
    blk_ext [iblk, index0, row]
  h1 r k := by
    refine Eq.trans ?_ (v22_at H (row t r) k)
    blk_ext [iblk, index1, row]
  h2 r k := by
    refine Eq.trans ?_ (v23_at H (row t r) k)
    blk_ext [iblk, index2, row]
  h3 k := by
    refine Eq.trans ?_ (v24_at H (bat t) k)
    blk_ext [iblk, index3, bat]
  h4 r k := by
    refine Eq.trans ?_ (v25_at H r k)
    blk_ext [iblk, index4]
  h5 r k := by
    refine Eq.trans ?_ (v26_at H r k)
    blk_ext [iblk, index5]
  h6 r k := by
    refine Eq.trans ?_ (v27_at H r k)
    blk_ext [iblk, index6]

/-! ## The reals of every row -/

def zF (X : Fin 2 → Fin 4096 → Fin 1024 → ℝ) (MD : Fin 2 → Fin 6144 → ℝ) (W1 : Fin 1024 → Fin 4096 → ℝ) (b : Fin 2)
    (t : Fin 4096) : Fin 4096 → ℝ := zRow (hF X MD b t) W1

def yF (X : Fin 2 → Fin 4096 → Fin 1024 → ℝ) (MD : Fin 2 → Fin 6144 → ℝ) (W1 : Fin 1024 → Fin 4096 → ℝ)
    (W2 : Fin 4096 → Fin 1024 → ℝ) (b : Fin 2) (t : Fin 4096) : Fin 1024 → ℝ := yRow (zF X MD W1 b t) W2

def endF (X : Fin 2 → Fin 4096 → Fin 1024 → ℝ) (MD : Fin 2 → Fin 6144 → ℝ) (W1 : Fin 1024 → Fin 4096 → ℝ)
    (W2 : Fin 4096 → Fin 1024 → ℝ) (b : Fin 2) (t : Fin 4096) : Fin 1024 → ℝ :=
  endRow (X b t) (fun k => MD b ⟨5120 + k, by omega⟩) (yF X MD W1 W2 b t)

def offF (X : Fin 2 → Fin 4096 → Fin 1024 → ℝ) (MD : Fin 2 → Fin 6144 → ℝ) (W1 : Fin 1024 → Fin 4096 → ℝ)
    (W2 : Fin 4096 → Fin 1024 → ℝ) (GF : Fin 1024 → ℝ) (TG : Fin 2 → Fin 4096 → Fin 1024 → ℝ) (b : Fin 2) (t : Fin 4096) :
    Fin 1024 → ℝ := offBy GF (endF X MD W1 W2 b t) (TG b t)

def dxF (X : Fin 2 → Fin 4096 → Fin 1024 → ℝ) (MD : Fin 2 → Fin 6144 → ℝ) (W1 : Fin 1024 → Fin 4096 → ℝ)
    (W2 : Fin 4096 → Fin 1024 → ℝ) (GF : Fin 1024 → ℝ) (TG : Fin 2 → Fin 4096 → Fin 1024 → ℝ) (b : Fin 2) (t : Fin 4096) :
    Fin 1024 → ℝ := backRow (endF X MD W1 W2 b t) (offF X MD W1 W2 GF TG b t) GF

theorem bat_row (t : Fin cfg0.N) (r : Fin 512) : (⟨(row t r).val / 4096, by omega⟩ : Fin 2) = bat t :=
  Fin.ext (by have := lt16 t; show (t.val * 512 + r.val) / 4096 = t.val / 8; omega)

theorem end_row (t : Fin cfg0.N) (r : Fin 512) :
    endB (fun r => flat (hF X MD) (row t r)) (fun r => flat X (row t r)) (MD (bat t)) W1 W2 r = flat (endF X MD W1 W2) (row t r) := by
  rw [← bat_row t r]
  rfl

theorem off_row (t : Fin cfg0.N) (r : Fin 512) :
    offB (fun r => flat (hF X MD) (row t r)) (fun r => flat X (row t r)) (fun r => flat TG (row t r)) (MD (bat t)) GF W1 W2 r
      = flat (offF X MD W1 W2 GF TG) (row t r) := congrArg (fun b => offBy GF b _) (end_row t r)

theorem dx_row (t : Fin cfg0.N) (r : Fin 512) :
    dxB (fun r => flat (hF X MD) (row t r)) (fun r => flat X (row t r)) (fun r => flat TG (row t r)) (MD (bat t)) GF W1 W2 r
      = flat (dxF X MD W1 W2 GF TG) (row t r) := congrArg₂ (fun b e => backRow b e GF) (end_row t r) (off_row t r)

/-! ## The three row-tiled outputs -/

variable (H : ArgsAre m c X MD W1 W2 GF TG)

section
include H

theorem array7 (n : Fin 8192) (f : Fin 4096) :
    ((dats m 0 c).arrAt 7 cfg0.N : FVec Ideal S8192x4096 .bf16) (ix2 n f) = ((flat (zF X MD W1) n f : ℝ) : EReal) := by
  refine (dats m 0 c).arrAt_forall_of_covers 7 (fun i v => v = ((flat (zF X MD W1) (i 0) (i 1) : ℝ) : EReal)) (by decide +kernel)
    (fun t hf y => ?_) (ix2 n f)
  obtain ⟨r, k, rfl⟩ : ∃ (r : Fin 512) (k : Fin 4096), y = ix2 r k := ⟨y 0, y 1, (ix2_eta y).symm⟩
  have e0 : (win0_7.blk t).view.emb (ix2 r k) 0 = row t r := Fin.ext (by blk_simp [index7, row])
  have e1 : (win0_7.blk t).view.emb (ix2 r k) 1 = k := Fin.ext (by blk_simp [index7])
  blk_simp
  rw [after0_7, e0, e1]
  exact (out7 (blocks H t) r k).trans (congrArg _ rfl)

theorem array8 (n : Fin 8192) (f : Fin 1024) :
    ((dats m 0 c).arrAt 8 cfg0.N : FVec Ideal S8192x1024 .f32) (ix2 n f) = ((flat (dxF X MD W1 W2 GF TG) n f : ℝ) : EReal) := by
  refine (dats m 0 c).arrAt_forall_of_covers 8 (fun i v => v = ((flat (dxF X MD W1 W2 GF TG) (i 0) (i 1) : ℝ) : EReal))
    (by decide +kernel) (fun t hf y => ?_) (ix2 n f)
  obtain ⟨r, k, rfl⟩ : ∃ (r : Fin 512) (k : Fin 1024), y = ix2 r k := ⟨y 0, y 1, (ix2_eta y).symm⟩
  have e0 : (win0_8.blk t).view.emb (ix2 r k) 0 = row t r := Fin.ext (by blk_simp [index8, row])
  have e1 : (win0_8.blk t).view.emb (ix2 r k) 1 = k := Fin.ext (by blk_simp [index8])
  blk_simp
  rw [after0_8, e0, e1]
  exact (out8 (blocks H t) r k).trans (congrArg _ (congrFun (dx_row t r) k))

theorem array9 (n : Fin 8192) (f : Fin 1024) :
    ((dats m 0 c).arrAt 9 cfg0.N : FVec Ideal S8192x1024 .bf16) (ix2 n f)
      = ((flat (fun b t (k : Fin 1024) => MD b ⟨5120 + k, by omega⟩ * dxF X MD W1 W2 GF TG b t k) n f : ℝ) : EReal) := by
  refine (dats m 0 c).arrAt_forall_of_covers 9
    (fun i v => v = ((flat (fun b t (k : Fin 1024) => MD b ⟨5120 + k, by omega⟩ * dxF X MD W1 W2 GF TG b t k) (i 0) (i 1) : ℝ) : EReal))
    (by decide +kernel) (fun t hf y => ?_) (ix2 n f)
  obtain ⟨r, k, rfl⟩ : ∃ (r : Fin 512) (k : Fin 1024), y = ix2 r k := ⟨y 0, y 1, (ix2_eta y).symm⟩
  have e0 : (win0_9.blk t).view.emb (ix2 r k) 0 = row t r := Fin.ext (by blk_simp [index9, row])
  have e1 : (win0_9.blk t).view.emb (ix2 r k) 1 = k := Fin.ext (by blk_simp [index9])
  blk_simp
  rw [after0_9, e0, e1]
  refine (out9 (blocks H t) r k).trans (congrArg _ ?_)
  rw [dyB, dx_row t r, ← bat_row t r]
  rfl

end

/-! ## The three running sums -/

theorem row_eq (t : Fin cfg0.N) (r : Fin 512) : row t r = rowN t.val r :=
  Fin.ext (Nat.mod_eq_of_lt (row t r).isLt).symm

theorem part_eq {F : Fin 2 → Fin 4096 → Fin 1024 → ℝ} {D : Fin 512 → Fin 1024 → ℝ} (t : Fin cfg0.N)
    (h : ∀ r k, D r k = flat F (row t r) k) (q : Fin 8) (k : Fin 1024) : block8 D q k = part F t.val q k := by
  have : D = fun r => flat F (rowN t.val r) := funext fun r => funext fun k => by rw [h, row_eq]
  rw [this]
  rfl

/-- What the gate's, the gain's and the loss's sums add up. -/
def dgF (X : Fin 2 → Fin 4096 → Fin 1024 → ℝ) (MD : Fin 2 → Fin 6144 → ℝ) (W1 : Fin 1024 → Fin 4096 → ℝ)
    (W2 : Fin 4096 → Fin 1024 → ℝ) (GF : Fin 1024 → ℝ) (TG : Fin 2 → Fin 4096 → Fin 1024 → ℝ) (b : Fin 2) (t : Fin 4096)
    (k : Fin 1024) : ℝ := dxF X MD W1 W2 GF TG b t k * yF X MD W1 W2 b t k

def gainF (X : Fin 2 → Fin 4096 → Fin 1024 → ℝ) (MD : Fin 2 → Fin 6144 → ℝ) (W1 : Fin 1024 → Fin 4096 → ℝ)
    (W2 : Fin 4096 → Fin 1024 → ℝ) (GF : Fin 1024 → ℝ) (TG : Fin 2 → Fin 4096 → Fin 1024 → ℝ) (b : Fin 2) (t : Fin 4096)
    (k : Fin 1024) : ℝ :=
  offF X MD W1 W2 GF TG b t k * (1 / 1024) * (endF X MD W1 W2 b t k * rs (endF X MD W1 W2 b t))

def errF (X : Fin 2 → Fin 4096 → Fin 1024 → ℝ) (MD : Fin 2 → Fin 6144 → ℝ) (W1 : Fin 1024 → Fin 4096 → ℝ)
    (W2 : Fin 4096 → Fin 1024 → ℝ) (GF : Fin 1024 → ℝ) (TG : Fin 2 → Fin 4096 → Fin 1024 → ℝ) (b : Fin 2) (t : Fin 4096)
    (k : Fin 1024) : ℝ := offF X MD W1 W2 GF TG b t k * offF X MD W1 W2 GF TG b t k

section
include H

theorem acc10 (t : ℕ) (h : t < cfg0.N) (q : Fin 8) (k : Fin 1024) :
    (outsAt0 m c t h).2.2.2.1 (ix3 0 q k)
      = ((∑ j ∈ Finset.range (t % 8 + 1), part (dgF X MD W1 W2 GF TG) (t / 8 * 8 + j) q k : ℝ) : EReal) :=
  running (fun t h q k => (outsAt0 m c t h).2.2.2.1 (ix3 0 q k)) _
    (fun t h h0 q k => (out10_A (blocks H ⟨t, h⟩) h0 q k).trans (congrArg _ (part_eq ⟨t, h⟩ (fun r k => by
      rw [dx_row ⟨t, h⟩ r]; rfl) q k)))
    (fun t h h0 O ho q k => (out10_B (blocks H ⟨t, h⟩) h0 ho q k).trans (congrArg (fun x : ℝ => ((O q k + x : ℝ) : EReal))
      (part_eq ⟨t, h⟩ (fun r k => by rw [dx_row ⟨t, h⟩ r]; rfl) q k))) t h q k

theorem acc11 (t : ℕ) (h : t < cfg0.N) (q : Fin 8) (k : Fin 1024) :
    (outsAt0 m c t h).2.2.2.2.1 (ix2 q k) = ((∑ j ∈ Finset.range (t + 1), part (gainF X MD W1 W2 GF TG) j q k : ℝ) : EReal) :=
  running_on (fun t h q k => (outsAt0 m c t h).2.2.2.2.1 (ix2 q k)) _
    (fun h q k => (out11_A (blocks H ⟨0, h⟩) rfl q k).trans (congrArg _ (part_eq ⟨0, h⟩ (fun r k => by
      rw [off_row ⟨0, h⟩ r, end_row ⟨0, h⟩ r]; rfl) q k)))
    (fun t h h0 O ho q k => (out11_B (blocks H ⟨t, h⟩) (by have := lt16 ⟨t, h⟩; dsimp only at this ⊢; omega) ho q k).trans
      (congrArg (fun x : ℝ => ((O q k + x : ℝ) : EReal))
      (part_eq ⟨t, h⟩ (fun r k => by rw [off_row ⟨t, h⟩ r, end_row ⟨t, h⟩ r]; rfl) q k))) t h q k

theorem acc12 (t : ℕ) (h : t < cfg0.N) (q : Fin 8) (k : Fin 1024) :
    (outsAt0 m c t h).2.2.2.2.2 (ix2 q k) = ((∑ j ∈ Finset.range (t + 1), part (errF X MD W1 W2 GF TG) j q k : ℝ) : EReal) :=
  running_on (fun t h q k => (outsAt0 m c t h).2.2.2.2.2 (ix2 q k)) _
    (fun h q k => (out12_A (blocks H ⟨0, h⟩) rfl q k).trans (congrArg _ (part_eq ⟨0, h⟩ (fun r k => by
      rw [off_row ⟨0, h⟩ r]; rfl) q k)))
    (fun t h h0 O ho q k => (out12_B (blocks H ⟨t, h⟩) (by have := lt16 ⟨t, h⟩; dsimp only at this ⊢; omega) ho q k).trans
      (congrArg (fun x : ℝ => ((O q k + x : ℝ) : EReal))
      (part_eq ⟨t, h⟩ (fun r k => by rw [off_row ⟨t, h⟩ r]; rfl) q k))) t h q k

theorem array10 (b : Fin 2) (q : Fin 8) (k : Fin 1024) :
    ((dats m 0 c).arrAt 10 cfg0.N : FVec Ideal S2x8x1024 .f32) (ix3 b q k)
      = ((∑ j ∈ Finset.range 8, part (dgF X MD W1 W2 GF TG) (b * 8 + j) q k : ℝ) : EReal) := by
  refine (dats m 0 c).arrAt_forall_of_covers 10 (fun i v => ∀ (b : ℕ) (q : Fin 8) (k : Fin 1024), (i 0).val = b → (i 1).val = q.val →
    (i 2).val = k.val → v = ((∑ j ∈ Finset.range 8, part (dgF X MD W1 W2 GF TG) (b * 8 + j) q k : ℝ) : EReal))
    (by decide +kernel) (fun t hf y => ?_) (ix3 b q k) (Memref.isWhole_whole _) b.val q k rfl rfl rfl
  obtain ⟨r, q', k', rfl⟩ : ∃ (r : Fin 1) (q : Fin 8) (k : Fin 1024), y = ix3 r q k := ⟨y 0, y 1, y 2, (ix3_eta y).symm⟩
  obtain rfl : r = 0 := Subsingleton.elim _ _
  intro b q k e0 e1 e2
  have h7 : t.val % 8 = 7 := (flush0_10 t).mp hf
  blk_simp [index10] at e0 e1 e2
  obtain rfl : q' = q := Fin.ext e1
  obtain rfl : k' = k := Fin.ext e2
  obtain rfl : t.val / 8 = b := e0
  blk_simp
  rw [after0_10]
  refine (acc10 H t.val t.isLt q' k').trans ?_
  rw [h7]

theorem array11 (q : Fin 8) (k : Fin 1024) :
    ((dats m 0 c).arrAt 11 cfg0.N : FVec Ideal S8x1024 .f32) (ix2 q k)
      = ((∑ j ∈ Finset.range 16, part (gainF X MD W1 W2 GF TG) j q k : ℝ) : EReal) := by
  refine (dats m 0 c).arrAt_forall_of_covers 11 (fun i v => v = ((∑ j ∈ Finset.range 16, part (gainF X MD W1 W2 GF TG) j (i 0) (i 1) : ℝ) : EReal))
    (by decide +kernel) (fun t hf y => ?_) (ix2 q k)
  obtain ⟨r, k', rfl⟩ : ∃ (r : Fin 8) (k : Fin 1024), y = ix2 r k := ⟨y 0, y 1, (ix2_eta y).symm⟩
  have h15 : t.val = 15 := by have := (flush0_11 t).mp hf; have := lt16 t; omega
  have e0 : (win0_11.blk t).view.emb (ix2 r k') 0 = r := Fin.ext (by blk_simp [index11])
  have e1 : (win0_11.blk t).view.emb (ix2 r k') 1 = k' := Fin.ext (by blk_simp [index11])
  blk_simp
  rw [after0_11, e0, e1]
  refine (acc11 H t.val t.isLt r k').trans ?_
  rw [h15]

theorem array12 (q : Fin 8) (k : Fin 1024) :
    ((dats m 0 c).arrAt 12 cfg0.N : FVec Ideal S8x1024 .f32) (ix2 q k)
      = ((∑ j ∈ Finset.range 16, part (errF X MD W1 W2 GF TG) j q k : ℝ) : EReal) := by
  refine (dats m 0 c).arrAt_forall_of_covers 12 (fun i v => v = ((∑ j ∈ Finset.range 16, part (errF X MD W1 W2 GF TG) j (i 0) (i 1) : ℝ) : EReal))
    (by decide +kernel) (fun t hf y => ?_) (ix2 q k)
  obtain ⟨r, k', rfl⟩ : ∃ (r : Fin 8) (k : Fin 1024), y = ix2 r k := ⟨y 0, y 1, (ix2_eta y).symm⟩
  have h15 : t.val = 15 := by have := (flush0_12 t).mp hf; have := lt16 t; omega
  have e0 : (win0_12.blk t).view.emb (ix2 r k') 0 = r := Fin.ext (by blk_simp [index12])
  have e1 : (win0_12.blk t).view.emb (ix2 r k') 1 = k' := Fin.ext (by blk_simp [index12])
  blk_simp
  rw [after0_12, e0, e1]
  refine (acc12 H t.val t.isLt r k').trans ?_
  rw [h15]

end

end Cert.Kernel2Ideal.Fwd
-- ==== Proof.FwdRef.lean ====
/-
  What the reference of the forward MLP call computes, stage by stage, on arguments that hold reals.
-/
module

public import proofs.«01_k».proof.Proof.FwdArrays
public import proofs.«01_k».proof.Proof.Gen.Reference2Ideal.Read
public import Idealize.ShloMosaic.Lib.Pointwise

@[expose] public section

set_option maxRecDepth 16384

noncomputable section

open Idealize.ShloMosaic Idealize.SL.Sem

namespace Cert.Reference2Ideal.Fwd

open Cert.Reference2Ideal Cert.Reference2Ideal.Gen Cert.Reference2Ideal.Read Rows Cert.Kernel2Ideal.Fwd

/-- The reference's arguments hold these reals. -/
structure Held (A0 : FVec Ideal S2x4096x1024 .f32) (A1 : FVec Ideal S2x6144 .f32) (A2 : FVec Ideal S1024x4096 .f32)
    (A3 : FVec Ideal S4096x1024 .f32) (A4 : FVec Ideal S1024 .f32) (A5 : FVec Ideal S2x4096x1024 .f32)
    (X : Fin 2 → Fin 4096 → Fin 1024 → ℝ) (MD : Fin 2 → Fin 6144 → ℝ) (W1 : Fin 1024 → Fin 4096 → ℝ)
    (W2 : Fin 4096 → Fin 1024 → ℝ) (GF : Fin 1024 → ℝ) (TG : Fin 2 → Fin 4096 → Fin 1024 → ℝ) : Prop where
  a0 : ∀ b t k, A0 (ix3 b t k) = ((X b t k : ℝ) : EReal)
  a1 : IsR (φ := .f32) A1 MD
  a2 : IsR (φ := .f32) A2 W1
  a3 : IsR (φ := .f32) A3 W2
  a4 : ∀ k, A4 (ix1 k) = ((GF k : ℝ) : EReal)
  a5 : ∀ b t k, A5 (ix3 b t k) = ((TG b t k : ℝ) : EReal)

variable {A0 A5 : FVec Ideal S2x4096x1024 .f32} {A1 : FVec Ideal S2x6144 .f32} {A2 : FVec Ideal S1024x4096 .f32}
  {A3 : FVec Ideal S4096x1024 .f32} {A4 : FVec Ideal S1024 .f32} {X TG : Fin 2 → Fin 4096 → Fin 1024 → ℝ}
  {MD : Fin 2 → Fin 6144 → ℝ} {W1 : Fin 1024 → Fin 4096 → ℝ} {W2 : Fin 4096 → Fin 1024 → ℝ} {GF : Fin 1024 → ℝ}

variable (H : Held A0 A1 A2 A3 A4 A5 X MD W1 W2 GF TG)
include H

/-! ## The hidden layer -/

theorem r23 (b : Fin 2) (t : Fin 4096) (k : Fin 1024) :
    val_main_v23 (F := Ideal) A0 A1 (ix3 b t k) = ((hF X MD b t k : ℝ) : EReal) := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v4, val_main_v3, val_main_cst, val_main_cst_0, val_main_cst_1, val_main_cst_2]
  simp only [H.a0, H.a1 _ _, ← EReal.coe_mul, ← EReal.coe_add, sum_coe, bits_1024, bits_eps, div_1024, rsqrt_ms, ← EReal.coe_one]
  rfl

theorem r24 (b : Fin 2) (t f : Fin 4096) :
    val_main_v24 (F := Ideal) A0 A1 A2 (ix3 b t f) = ((zF X MD W1 b t f : ℝ) : EReal) := by
  pointwise [val_main_v24]
  simp only [r23 H, H.a2 _ _, ← EReal.coe_mul, sum_coe]
  rfl

/-! ## The residual stream -/

theorem r30 (b : Fin 2) (t : Fin 4096) (k : Fin 1024) :
    val_main_v30 (F := Ideal) A0 A1 A2 A3 (ix3 b t k) = ((yF X MD W1 W2 b t k : ℝ) : EReal) := by
  pointwise [val_main_v30, val_main_v29, val_main_v28, val_main_v26, val_main_v25, val_main_call0_v0, val_main_call0_cst, val_main_cst_4]
  simp only [r24 H, H.a3 _ _, ← EReal.coe_zero, max_coe, ← EReal.coe_mul, sum_coe, ← EReal.coe_add, add_zero]
  rfl

theorem r35 (b : Fin 2) (t : Fin 4096) (k : Fin 1024) :
    val_main_v35 (F := Ideal) A0 A1 A2 A3 (ix3 b t k) = ((endF X MD W1 W2 b t k : ℝ) : EReal) := by
  pointwise [val_main_v35, val_main_v34, val_main_v33, val_main_v32, val_main_v31, val_main_v27, val_main_v5, val_main_cst_3]
  simp only [r30 H, H.a0, H.a1 _ _, ← EReal.coe_zero, ← EReal.coe_mul, ← EReal.coe_add, add_zero]
  rfl

theorem r42 (b : Fin 2) (t : Fin 4096) :
    val_main_v42 (F := Ideal) A0 A1 A2 A3 (ix3 b t 0) = ((ms (endF X MD W1 W2 b t) : ℝ) : EReal) := by
  pointwise [val_main_v42, val_main_v41, val_main_v40, val_main_v39, val_main_v38, val_main_v37, val_main_v36, val_main_cst_5,
    val_main_cst_6, val_main_cst_7]
  simp only [r35 H, ← EReal.coe_mul, sum_coe, bits_1024, bits_eps, div_1024, ← EReal.coe_add]
  rfl

theorem r43 (b : Fin 2) (t : Fin 4096) :
    val_main_v43 (F := Ideal) A0 A1 A2 A3 (ix3 b t 0) = ((rs (endF X MD W1 W2 b t) : ℝ) : EReal) := by
  pointwise [val_main_v43]
  rw [r42 H]
  exact rsqrt_real (ms_pos _)

/-! ## The loss -/

theorem r48 (b : Fin 2) (t : Fin 4096) (k : Fin 1024) :
    val_main_v48 (F := Ideal) A0 A1 A2 A3 (ix3 b t k) = ((endF X MD W1 W2 b t k * rs (endF X MD W1 W2 b t) : ℝ) : EReal) := by
  pointwise [val_main_v48, val_main_v47]
  simp only [r35 H, r43 H, ← EReal.coe_mul]

theorem r52 (b : Fin 2) (t : Fin 4096) (k : Fin 1024) :
    val_main_v52 (F := Ideal) A0 A1 A2 A3 A4 A5 (ix3 b t k) = ((offF X MD W1 W2 GF TG b t k : ℝ) : EReal) := by
  pointwise [val_main_v52, val_main_v51, val_main_v50, val_main_v49]
  simp only [r48 H, H.a4, H.a5, ← EReal.coe_mul, ← EReal.coe_sub]
  rfl

theorem r60 (i : S_.Idx) : val_main_v60 (F := Ideal) A0 A1 A2 A3 A4 A5 i
    = ((1 / 2048 * ∑ k, ∑ b, ∑ t, errF X MD W1 W2 GF TG b t k : ℝ) : EReal) := by
  pointwise [val_main_v60, val_main_v59, val_main_v58, val_main_v57, val_main_v56, val_main_v53, val_main_cst_10, val_main_cst_11,
    val_main_cst_12, val_main_cst_13]
  simp only [r52 H, ← EReal.coe_mul, sum_coe, bits_1024, div_1024, bits_half]
  refine congrArg _ ?_
  rw [Finset.sum_comm (s := Finset.univ (α := Fin 1024))]
  simp only [Finset.sum_comm (s := Finset.univ (α := Fin 1024)) (t := Finset.univ (α := Fin 4096)), ← Finset.sum_div, errF]
  ring

/-! ## The gradients -/

theorem r66 (b : Fin 2) (t : Fin 4096) (k : Fin 1024) :
    val_main_v66 (F := Ideal) A0 A1 A2 A3 A4 A5 (ix3 b t k) = ((offF X MD W1 W2 GF TG b t k * (1 / 1024) : ℝ) : EReal) := by
  pointwise [val_main_v66, val_main_v65, val_main_v64, val_main_v63, val_main_v62, val_main_v61, val_main_v55, val_main_v54,
    val_main_cst_9, val_main_cst_14, val_main_cst_15, val_main_cst_16]
  simp only [r52 H, bits_half, bits_two, bits_1024, ← EReal.coe_one, ← EReal.coe_mul, div_1024]
  refine congrArg _ ?_
  ring

theorem r72 (k : Fin 1024) : val_main_v72 (F := Ideal) A0 A1 A2 A3 A4 A5 (ix1 k)
    = ((∑ b, ∑ t, gainF X MD W1 W2 GF TG b t k : ℝ) : EReal) := by
  pointwise [val_main_v72, val_main_v69, val_main_v68, val_main_v67, val_main_cst_17, val_main_cst_18, leading_sum]
  simp only [r66 H, r48 H, ← EReal.coe_mul, sum_coe, Fin.sum_univ_one]
  refine congrArg _ (Finset.sum_congr rfl fun b _ => Finset.sum_congr rfl fun t _ => mul_comm _ _)

theorem r86 (b : Fin 2) (t : Fin 4096) (k : Fin 1024) :
    val_main_v86 (F := Ideal) A0 A1 A2 A3 A4 A5 (ix3 b t k) = ((dxF X MD W1 W2 GF TG b t k : ℝ) : EReal) := by
  pointwise [val_main_v86, val_main_v85, val_main_v84, val_main_v83, val_main_v82, val_main_v81, val_main_v80, val_main_v79,
    val_main_v78, val_main_v77, val_main_v76, val_main_v75, val_main_v74, val_main_v73, val_main_v71, val_main_v70, val_main_v49,
    val_main_v46, val_main_v45, val_main_v44, val_main_cst_8, val_main_cst_19, val_main_cst_20, val_main_cst_21]
  simp only [r66 H, r35 H, r42 H, r43 H, H.a4, ← EReal.coe_mul, sum_coe, bits_1024, div_1024, bits_neg_half, Fin.sum_univ_one,
    div_real (ms_pos (endF X MD W1 W2 b t)).ne', ← EReal.coe_add]
  exact congrArg _ ((add_assoc _ _ _).trans (rmsGrad_chain (endF X MD W1 W2 b t) (fun k => offF X MD W1 W2 GF TG b t k * (1 / 1024) * GF k) k))

theorem r92 (b : Fin 2) (k : Fin 1024) :
    val_main_v92 (F := Ideal) A0 A1 A2 A3 A4 A5 (ix2 b k) = ((∑ t, dgF X MD W1 W2 GF TG b t k : ℝ) : EReal) := by
  pointwise [val_main_v92, val_main_v91, val_main_v90, val_main_v89, val_main_cst_22, val_main_cst_23]
  simp only [r86 H, r30 H, ← EReal.coe_mul, sum_coe, Fin.sum_univ_one]
  rfl

theorem r94 (n : Fin 8192) (f : Fin 4096) :
    val_main_v94 (F := Ideal) A0 A1 A2 (ix2 n f) = ((flat (zF X MD W1) n f : ℝ) : EReal) := by
  pointwise [val_main_v94, val_main_v93]
  exact r24 H _ _ _

theorem r95 (n : Fin 8192) (k : Fin 1024) :
    val_main_v95 (F := Ideal) A0 A1 A2 A3 A4 A5 (ix2 n k) = ((flat (dxF X MD W1 W2 GF TG) n k : ℝ) : EReal) := by
  pointwise [val_main_v95]
  exact r86 H _ _ _

theorem r97 (n : Fin 8192) (k : Fin 1024) : val_main_v97 (F := Ideal) A0 A1 A2 A3 A4 A5 (ix2 n k)
    = ((flat (fun b t (k : Fin 1024) => MD b ⟨5120 + k, by omega⟩ * dxF X MD W1 W2 GF TG b t k) n k : ℝ) : EReal) := by
  pointwise [val_main_v97, val_main_v96, val_main_v88, val_main_v87, val_main_v31, val_main_v5]
  simp only [r86 H, H.a1 _ _, ← EReal.coe_mul]
  rfl

end Cert.Reference2Ideal.Fwd
-- ==== Proof.FwdClose.lean ====
/-
  The forward MLP call after its run: the sums of the last lines, the arguments lifted to reals, and the equation with
  the reference.
-/
module

public import proofs.«01_k».proof.Defs
public import proofs.«01_k».proof.Proof.FwdRef
public import proofs.«01_k».proof.Proof.Gen.Reference2Ideal.Run
public import proofs.«01_k».proof.Proof.Gen.Pre_finite2

@[expose] public section

set_option maxRecDepth 16384

noncomputable section

open Idealize.ShloMosaic Idealize.ShloMosaic.TcCoe Idealize.SL.Sem

namespace Cert.Kernel2Ideal.Fwd

open Cert.Kernel2Ideal Cert.Kernel2Ideal.Gen Rows

variable {m : (ℓ : Loc nD τ sig) → Buf (Elt Ideal) ℓ} {c : Dev nD} {X TG : Fin 2 → Fin 4096 → Fin 1024 → ℝ}
  {MD : Fin 2 → Fin 6144 → ℝ} {W1 : Fin 1024 → Fin 4096 → ℝ} {W2 : Fin 4096 → Fin 1024 → ℝ} {GF : Fin 1024 → ℝ}

/-! ## The last lines -/

/-- What a buffer holds at the end. -/
abbrev after (m : (ℓ : Loc nD τ sig) → Buf (Elt Ideal) ℓ) (c : Dev nD) (b : Ref sig .tc) :=
  Pipeline.afterTail₀ cfgs (dats m) 0 (V0 m) [hostOps1] c b

/-- The sum of an accumulator's eight rows. -/
def rowSum (A : FVec Ideal S2x8x1024 .f32) : FVec Ideal S2x1024 .f32 :=
  Host.reduceAdd A (constant S_ .f32 0x00000000#32) reducesTo_S2x8x1024_S2x1024_d1 h_S_

theorem rowSum_at {A : FVec Ideal S2x8x1024 .f32} {F : Fin 2 → Fin 4096 → Fin 1024 → ℝ}
    (h : ∀ b q k, A (ix3 b q k) = ((∑ j ∈ Finset.range 8, part F (b.val * 8 + j) q k : ℝ) : EReal)) (b : Fin 2) (k : Fin 1024) :
    rowSum A (ix2 b k) = ((∑ t, F b t k : ℝ) : EReal) := by
  pointwise [rowSum]
  simp only [h, sum_coe]
  rw [sum_parts]

/-- The sum of the final norm's accumulator's eight rows. -/
def gainSum (A : FVec Ideal S8x1024 .f32) : FVec Ideal S1024 .f32 :=
  Host.reduceAdd A (constant S_ .f32 0x00000000#32) reducesTo_S8x1024_S1024_d0 h_S_

theorem gainSum_at {A : FVec Ideal S8x1024 .f32} {F : Fin 2 → Fin 4096 → Fin 1024 → ℝ}
    (h : ∀ q k, A (ix2 q k) = ((∑ j ∈ Finset.range 16, part F j q k : ℝ) : EReal)) (k : Fin 1024) :
    gainSum A (ix1 k) = ((∑ b, ∑ t, F b t k : ℝ) : EReal) := by
  pointwise [gainSum]
  simp only [h, sum_coe]
  rw [sum_points]

/-- The mean of the errors' squares, halved, from their accumulator. -/
def meanSum (A : FVec Ideal S8x1024 .f32) : FVec Ideal S_ .f32 :=
  mulf (constant S_ .f32 0x3A000000#32) (Host.reduceAdd A (constant S_ .f32 0x00000000#32) reducesTo_S8x1024_S_d0_1 h_S_)

theorem meanSum_at {A : FVec Ideal S8x1024 .f32} {F : Fin 2 → Fin 4096 → Fin 1024 → ℝ}
    (h : ∀ q k, A (ix2 q k) = ((∑ j ∈ Finset.range 16, part F j q k : ℝ) : EReal)) (i : S_.Idx) :
    meanSum A i = ((1 / 2048 * ∑ k, ∑ b, ∑ t, F b t k : ℝ) : EReal) := by
  pointwise [meanSum]
  simp only [h, sum_coe, bits_inv_2048, ← EReal.coe_mul]
  rw [Finset.sum_comm]
  simp only [sum_points]

theorem after29 : after m c main_v29 = rowSum ((dats m 0 c).arrAt 10 cfg0.N) := by
  unfold after Pipeline.afterTail₀
  simp only [List.flatten_cons, List.flatten_nil, List.append_nil]
  after_region_results
  exact congrArg rowSum (Pipeline.withArrays_arr spec0 launch0.win.arr_inj c (V0 m c) (fun w => (dats m 0 c).arrAt w cfg0.N) 10)

theorem after30 : after m c main_v30 = gainSum ((dats m 0 c).arrAt 11 cfg0.N) := by
  unfold after Pipeline.afterTail₀
  simp only [List.flatten_cons, List.flatten_nil, List.append_nil]
  after_region_results
  exact congrArg gainSum (Pipeline.withArrays_arr spec0 launch0.win.arr_inj c (V0 m c) (fun w => (dats m 0 c).arrAt w cfg0.N) 11)

theorem after32 : after m c main_v32 = meanSum ((dats m 0 c).arrAt 12 cfg0.N) := by
  unfold after Pipeline.afterTail₀
  simp only [List.flatten_cons, List.flatten_nil, List.append_nil]
  after_region_results
  exact congrArg meanSum (Pipeline.withArrays_arr spec0 launch0.win.arr_inj c (V0 m c) (fun w => (dats m 0 c).arrAt w cfg0.N) 12)

/-! ## Finite arguments are reals -/

theorem args_real (hp : Cert.Pre_Kernel2Ideal_finite2 m) (c : Dev nD) : ∃ X MD W1 W2 GF TG, ArgsAre m c X MD W1 W2 GF TG := by
  obtain ⟨h0, h1, h2, h3, h4, h5⟩ := hp c
  choose X hX using real_of_lt _ _ h0
  choose MD hMD using real_of_lt _ _ h1
  choose W1 hW1 using real_of_lt _ _ h2
  choose W2 hW2 using real_of_lt _ _ h3
  choose GF hGF using real_of_lt _ _ h4
  choose TG hTG using real_of_lt _ _ h5
  exact ⟨fun b t k => X (ix3 b t k), fun b k => MD (ix2 b k), fun k f => W1 (ix2 k f), fun f k => W2 (ix2 f k), fun k => GF (ix1 k),
    fun b t k => TG (ix3 b t k), ⟨fun _ _ _ => hX _, fun _ _ => hMD _, fun _ _ => hW1 _, fun _ _ => hW2 _, fun _ => hGF _,
      fun _ _ _ => hTG _⟩⟩

/-! ## The equation -/

theorem held (H : ArgsAre m c X MD W1 W2 GF TG) : Cert.Reference2Ideal.Fwd.Held (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5)) X MD W1 W2 GF TG :=
  ⟨H.a0, H.a1, H.a2, H.a3, H.a4, H.a5⟩

theorem ext1 {n : ℕ} {A B : (⟨1, ![n]⟩ : Shape).Idx → EReal} {R : Fin n → ℝ}
    (ha : ∀ i, A (ix1 i) = ((R i : ℝ) : EReal)) (hb : ∀ i, B (ix1 i) = ((R i : ℝ) : EReal)) : A = B :=
  funext fun i => (congrArg A (ix1_eta i).symm).trans ((ha _).trans ((hb _).symm.trans (congrArg B (ix1_eta i))))

set_option maxHeartbeats 1600000 in
/-- The call and its reference end with equal results. -/
theorem equal : Cert.algebraic_Kernel2Ideal_Reference2Ideal_pre_finite2 := fun m g m' g' hp hag => by
  refine ⟨fun c => (dats m 0 c).arrAt 7 cfg0.N, fun c => (dats m 0 c).arrAt 8 cfg0.N, fun c => (dats m 0 c).arrAt 9 cfg0.N,
    fun c => after m c main_v29, fun c => after m c main_v30, fun c => after m c main_v32, ?_, ?_⟩
  on_goal 1 =>
    exact (θ_run defs _ _).mono (fun r h c => ⟨(h.1 c).1 7, (h.1 c).1 8, (h.1 c).1 9, (h.1 c).2 main_v29 (by decide),
      (h.1 c).2 main_v30 (by decide), (h.1 c).2 main_v32 (by decide), h.2 c⟩) (θ_run_and (run_main m g) (unchanged m g))
  refine (θ_run Cert.Reference2Ideal.defs _ _).mono (fun r h c => ?_) (Cert.Reference2Ideal.Value.run m' g')
  obtain ⟨X, MD, W1, W2, GF, TG, H⟩ := args_real hp c
  obtain ⟨e0, e1, e2, e3, e4, e5⟩ := hag c
  obtain ⟨h0, h1, h2, h3, h4, h5, ha⟩ := h c
  refine ⟨h0.trans ?_, h1.trans ?_, h2.trans ?_, h3.trans ?_, h4.trans ?_, h5.trans ?_, ha⟩
  on_goal 1 =>
    rw [Cert.Reference2Ideal.Read.val_main_v94_eq, e0, e1, e2]
    exact ext2 (Cert.Reference2Ideal.Fwd.r94 (held H)) (array7 H)
  on_goal 1 =>
    rw [Cert.Reference2Ideal.Read.val_main_v95_eq, e0, e1, e2, e3, e4, e5]
    exact ext2 (Cert.Reference2Ideal.Fwd.r95 (held H)) (array8 H)
  on_goal 1 =>
    rw [Cert.Reference2Ideal.Read.val_main_v97_eq, e0, e1, e2, e3, e4, e5]
    exact ext2 (Cert.Reference2Ideal.Fwd.r97 (held H)) (array9 H)
  on_goal 1 =>
    rw [Cert.Reference2Ideal.Read.val_main_v92_eq, e0, e1, e2, e3, e4, e5]
    exact (ext2 (Cert.Reference2Ideal.Fwd.r92 (held H)) (rowSum_at (array10 H))).trans after29.symm
  on_goal 1 =>
    rw [Cert.Reference2Ideal.Read.val_main_v72_eq, e0, e1, e2, e3, e4, e5]
    exact (ext1 (Cert.Reference2Ideal.Fwd.r72 (held H)) (gainSum_at (array11 H))).trans after30.symm
  rw [Cert.Reference2Ideal.Read.val_main_v60_eq, e0, e1, e2, e3, e4, e5]
  exact (funext fun i => (Cert.Reference2Ideal.Fwd.r60 (held H) i).trans (meanSum_at (array12 H) i).symm).trans after32.symm

end Cert.Kernel2Ideal.Fwd
-- ==== Proof.MixFns.lean ====
/- The mixer's backward call: what its block works out from what it has loaded. -/
module

public import proofs.«01_k».proof.Proof.Gen.Kernel3Ideal
public import Idealize.ShloMosaic.Lib.Tactic

@[expose] public section

noncomputable section

namespace Cert.Mix

open Idealize.ShloMosaic Idealize.ShloMosaic.TcCoe Idealize.SL.Sem
open Cert.Kernel3Ideal

variable {F : FTy → Type} [FloatOps F]

/-! ## The point's flags -/

/-- The row block the point works on is the last of a batch element: `16` divides what is left plus one. -/
def lastOf (n : BitVec 32) : BitVec 1 :=
  let d : BitVec 32 := Scalar.select (Scalar.cmpi .eq 16#32 0#32) 1#32 16#32
  let r : BitVec 32 := Scalar.remsi n d
  let e : BitVec 1 := Scalar.andi (Scalar.xori (Scalar.cmpi .slt r 0#32) (Scalar.cmpi .slt d 0#32)) (Scalar.cmpi .ne r 0#32)
  Scalar.cmpi .eq (Scalar.select e (Scalar.addi r d) r) 15#32

/-- The rows carried from the later block are kept (`1`) or dropped (`0`). -/
def keep (i : grid0.Coords) : F .f32 :=
  Scalar.select (lastOf (Scalar.subi 31#32 (BitVec.ofNat 32 (i 0).val))) (Scalar.ofBits .f32 0x00000000#32) (Scalar.ofBits .f32 0x3F800000#32)

/-- The shift's and scale's sums start over. -/
def fresh (i : grid0.Coords) : BitVec 1 :=
  Scalar.ori (Scalar.cmpi .sle (BitVec.ofNat 32 (i 0).val) 1#32) (lastOf (Scalar.subi 32#32 (BitVec.ofNat 32 (i 0).val)))

/-! ## Rows and columns -/

abbrev zero (S : Shape) : FVec F S .f32 := broadcast S (Scalar.ofBits .f32 0x00000000#32)
abbrev one (S : Shape) : FVec F S .f32 := broadcast S (Scalar.ofBits .f32 0x3F800000#32)
abbrev col (v : FVec F S256x1 .f32) : FVec F S256x512 .f32 := broadcastTo S256x512 v Gen.broadcasts_S256x1_S256x512
abbrev row (v : FVec F S1x512 .f32) : FVec F S256x512 .f32 := broadcastTo S256x512 v Gen.broadcasts_S1x512_S256x512
abbrev colW (v : FVec F S256x1 .f32) : FVec F S256x1024 .f32 := broadcastTo S256x1024 v Gen.broadcasts_S256x1_S256x1024
abbrev rowW (v : FVec F S1x1024 .f32) : FVec F S256x1024 .f32 := broadcastTo S256x1024 v Gen.broadcasts_S1x1024_S256x1024

/-- The mean of a row. -/
def mean (v : FVec F S256x512 .f32) : FVec F S256x1 .f32 :=
  divf (shapeCast S256x1 (multiReduction .add [1] S256 v 0x00000000#32 Gen.reduces_S256x512_S256 (.inl rfl) rfl) Gen.shapeCasts_S256_S256x1)
    (broadcast S256x1 (Scalar.ofBits .f32 0x44000000#32))
def meanW (v : FVec F S256x1024 .f32) : FVec F S256x1 .f32 :=
  divf (shapeCast S256x1 (multiReduction .add [1] S256 v 0x00000000#32 Gen.reduces_S256x1024_S256 (.inl rfl) rfl) Gen.shapeCasts_S256_S256x1)
    (broadcast S256x1 (Scalar.ofBits .f32 0x44800000#32))

/-- Eight rows, each the sum of the rows that leave its remainder by 8. -/
def rows8 (v : FVec F S256x512 .f32) : FVec F S8x512 .f32 :=
  multiReduction .add [0] S8x512 (shapeCast S32x8x512 v Gen.shapeCasts_S256x512_S32x8x512) 0x00000000#32 Gen.reduces_S32x8x512_S8x512 (.inl rfl) rfl
def rows8W (v : FVec F S256x1024 .f32) : FVec F S8x1024 .f32 :=
  multiReduction .add [0] S8x1024 (shapeCast S32x8x1024 v Gen.shapeCasts_S256x1024_S32x8x1024) 0x00000000#32 Gen.reduces_S32x8x1024_S8x1024 (.inl rfl) rfl
def rows8C (v : FVec F S32x128 .f32) : FVec F S8x128 .f32 :=
  multiReduction .add [0] S8x128 (shapeCast S4x8x128 v Gen.shapeCasts_S32x128_S4x8x128) 0x00000000#32 Gen.reduces_S4x8x128_S8x128 (.inl rfl) rfl

/-- The logistic function. -/
def sig (v : FVec F S256x512 .f32) : FVec F S256x512 .f32 := divf (one _) (addf (one _) (exp (subf (zero _) v)))

/-! ## The head: SiLU and LayerNorm -/

def invStd (a : FVec F S256x512 .f32) : FVec F S256x1 .f32 :=
  let x := subf a (col (mean a))
  rsqrt (addf (mean (mulf x x)) (broadcast S256x1 (Scalar.ofBits .f32 0x358637BD#32)))
def normed (a : FVec F S256x512 .f32) : FVec F S256x512 .f32 := mulf (subf a (col (mean a))) (col (invStd a))
/-- The gradient at the SiLU's argument. -/
def dSilu (a dm : FVec F S256x512 .f32) (g b : FVec F S1x512 .f32) : FVec F S256x512 .f32 :=
  let p := addf (mulf (normed a) (row g)) (row b)
  mulf dm (mulf (sig p) (addf (one _) (mulf p (subf (one _) (sig p)))))
/-- The gradient at the LayerNorm's argument, from the one at its result. -/
def dNorm (a d : FVec F S256x512 .f32) (g : FVec F S1x512 .f32) : FVec F S256x512 .f32 :=
  let t := mulf d (row g)
  mulf (col (invStd a)) (subf (subf t (col (mean t))) (mulf (normed a) (col (mean (mulf t (normed a))))))
def glu (p g : FVec F S256x512 .f32) : FVec F S256x512 .f32 := mulf p (sig g)

/-! ## The convolution -/

/-- The sum over the taps of a shifted row times the tap's weight. -/
def taps (ew : ℕ → FVec F S32x128 .f32 × Vec F S1x128 .f32) : ℕ → FVec F S32x128 .f32
  | 0 => zero _
  | n + 1 => addf (taps ew n) (mulf (ew n).1 (broadcastTo S32x128 (ew n).2 Gen.broadcasts_S1x128_S32x128))

/-! ## The tail: RMSNorm with its modulation -/

def invRms (x : FVec F S256x1024 .f32) : FVec F S256x1 .f32 :=
  rsqrt (addf (meanW (mulf x x)) (broadcast S256x1 (Scalar.ofBits .f32 0x358637BD#32)))
def rms (x : FVec F S256x1024 .f32) : FVec F S256x1024 .f32 := mulf x (colW (invRms x))
def dRms (x dh dx : FVec F S256x1024 .f32) (sc : FVec F S1x1024 .f32) : FVec F S256x1024 .f32 :=
  let t := mulf dh (rowW (addf (one _) sc))
  addf dx (mulf (colW (invRms x)) (subf t (mulf (rms x) (colW (meanW (mulf t (rms x)))))))

end Cert.Mix

end
-- ==== Proof.Steps.lean ====
module

public import Idealize.ShloMosaic.Lib.VecWindow
public import Idealize.ShloMosaic.Lib.Tactic

/-! A kernel body that only loads from and stores to the buffers it was given, as a program over named buffers,
    with its effect on their contents as a plain function, and the proof that the body has that effect. -/

@[expose] public section

noncomputable section

namespace Cert.Steps

open Idealize.ShloMosaic Idealize.SL Idealize.SL.BI Idealize.SL.RA
open scoped Idealize.SL.BI
open Idealize.SL.BI.BIBase Idealize.SL.BI.Laws Idealize.SL.Sem Idealize.SL.ProofMode

/-- The buffers a body is given, by name: shape, element type, and where each lies. -/
structure Bufs (sig : RefSig) where
  Name : Type
  shp : Name → Shape
  elt : Name → EltTy
  mem : (b : Name) → Memref sig .tc .vmem (shp b) (elt b)

variable {nD : Nat} {τ : Topo} {sig : RefSig} {Val : EltTy → Type} {Λ : Labels}

/-- One access to a named buffer, through a unit-stride rectangle. -/
inductive Act (M : Bufs sig) (Val : EltTy → Type) : Type → Type
  | load (b : M.Name) (off size : Fin (M.shp b).rank → ℕ) (inb : ∀ a, off a + size a ≤ (M.shp b).size a)
      (h : (M.mem b).view.LoadsAt (Rect.unit (s := M.shp b) off size inb).toLoadRect) :
      Act M Val ((Rect.unit (s := M.shp b) off size inb).toLoadRect.shape.Idx → Val (M.elt b))
  | store (b : M.Name) (off size : Fin (M.shp b).rank → ℕ) (inb : ∀ a, off a + size a ≤ (M.shp b).size a)
      (w : (Rect.unit (s := M.shp b) off size inb).shape.Idx → Val (M.elt b))
      (h : ((M.mem b).access (Rect.unit (s := M.shp b) off size inb)).Stores Finset.univ) : Act M Val PUnit

abbrev Code (M : Bufs sig) (Val : EltTy → Type) := Prog (Act M Val)

variable {M : Bufs sig}

/-- The access as the machine's. -/
def Act.denote {α : Type} : Act M Val α → TpuEff nD τ sig Val Λ .tc α
  | .load b off size inb h => .load (M.mem b) (Rect.unit off size inb).toLoadRect h
  | .store b off size inb w h => .store (M.mem b) (Rect.unit off size inb) w Finset.univ h (.inl rfl)

/-- The program as the machine's. -/
def denote {α : Type} : Code M Val α → Prog (TpuEff nD τ sig Val Λ .tc) α
  | .ret a => .ret a
  | .op e k => .op e.denote fun x => denote (k x)

/-- What every buffer holds. -/
abbrev State (M : Bufs sig) (Val : EltTy → Type) := (b : M.Name) → (M.shp b).Idx → Val (M.elt b)

variable [DecidableEq M.Name]

/-- What an access returns, and the contents after it. -/
def Act.run {α : Type} : Act M Val α → State M Val → α × State M Val
  | .load b off size inb _, s => (VecWindow.window (s b) off size inb, s)
  | .store b off size _ w _, s => (⟨⟩, Function.update s b (VecWindow.put (s b) off size w))

/-- What a program returns, and the contents after it. -/
def run {α : Type} : Code M Val α → State M Val → α × State M Val
  | .ret a, s => (a, s)
  | .op e k, s => run (k (e.run s).1) (e.run s).2

theorem run_bind {α β : Type} (p : Code M Val α) (k : α → Code M Val β) (s : State M Val) :
    run (p >>= k) s = run (k (run p s).1) (run p s).2 := by
  induction p generalizing s with
  | ret a => rfl
  | op e c ih => exact ih _ _

/-- A program stores into the buffers of `W` only. -/
def Within (W : M.Name → Bool) {α : Type} : Code M Val α → Prop
  | .ret _ => True
  | .op (.load ..) k => ∀ x, Within W (k x)
  | .op (.store b ..) k => W b = true ∧ Within W (k ⟨⟩)

theorem run_of_within {W : M.Name → Bool} {α : Type} (p : Code M Val α) (h : Within W p) (s : State M Val) (b : M.Name) (hb : W b = false) :
    (run p s).2 b = s b := by
  induction p generalizing s with
  | ret a => rfl
  | op e c ih =>
    cases e with
    | load b' off size inb hl => exact ih _ (h _) s
    | store b' off size inb w hs =>
      refine (ih _ h.2 _).trans (Function.update_of_ne (fun e => ?_) _ _)
      subst e; rw [h.1] at hb; exact Bool.noConfusion hb

variable [Fintype M.Name]
variable {Ix : Type} [DecidableEq Ix] {Nm : Type} [DecidableEq Nm] {U : Type} [URA U] {Lvl : Type} [Preorder Lvl]

/-- Every buffer owned, at its contents. -/
def Owned (M : Bufs sig) [Fintype M.Name] (c : Dev nD) (s : State M Val) : sProp (MT nD τ sig Ix Val Nm U Lvl) :=
  bigSep Finset.univ fun b => owns (c.tc : Thread nD τ) (M.mem b) fullShare (s b)

theorem Owned_split (c : Dev nD) (s : State M Val) (b : M.Name) :
    (Owned M c s : sProp (MT nD τ sig Ix Val Nm U Lvl)) = iprop(owns (c.tc : Thread nD τ) (M.mem b) fullShare (s b)
      ∗ bigSep (Finset.univ.erase b) fun b' => owns (c.tc : Thread nD τ) (M.mem b') fullShare (s b')) :=
  bigSep_univ_split b

theorem Owned_update (c : Dev nD) (s : State M Val) (b : M.Name) (x : (M.shp b).Idx → Val (M.elt b)) :
    (Owned M c (Function.update s b x) : sProp (MT nD τ sig Ix Val Nm U Lvl)) = iprop(owns (c.tc : Thread nD τ) (M.mem b) fullShare x
      ∗ bigSep (Finset.univ.erase b) fun b' => owns (c.tc : Thread nD τ) (M.mem b') fullShare (s b')) := by
  rw [Owned_split c _ b, Function.update_self]
  congr 1
  exact bigSep_congr fun b' hb => by rw [Function.update_of_ne (Finset.ne_of_mem_erase hb)]

variable {defs : Defs nD τ sig Val Λ} (𝒱 : Variants) (c : Dev nD) (bd : Option 𝒱.V) (E : Set Nm)

/-- The body run on owned buffers returns what `run` says, the buffers at the contents `run` says. -/
theorem sound {α : Type} (p : Code M Val α) (s : State M Val) (Q : α → sProp (MT nD τ sig Ix Val Nm U Lvl)) :
    (Owned M c s) ⊢ iprop((Owned M c (run p s).2 -∗ Q (run p s).1)
      -∗ wp frame (wpE defs 𝒱 (c.tc : Thread nD τ) bd) E (denote p) Q) := by
  induction p generalizing s with
  | ret a =>
    simp only [denote, run, wp_ret]
    iintro H HQ
    imodintro
    iapply HQ; iexact H
  | op e k ih =>
    cases e with
    | load b off size inb hl =>
      have hc := ih (VecWindow.window (s b) off size inb) s
      simp only [denote, run, Act.denote, Act.run]
      rw [Owned_split c s b] at hc ⊢
      unfold owns at hc ⊢
      iintro ⟨⟨%f, %hf, H⟩, Hr⟩ HQ
      iapply (wp_load 𝒱 (c.tc : Thread nD τ) bd E (m := M.mem b) (r := (Rect.unit (s := M.shp b) off size inb).toLoadRect) (hl := hl)
        (S := (M.mem b).view.set) (f := f) ((M.mem b).view.setOn_subset_set _)) $$ H
      iintro H
      have e : (M.mem b).view.readAt Val (Rect.unit (s := M.shp b) off size inb).toLoadRect f = VecWindow.window (s b) off size inb := by
        rw [← hf]; rfl
      rw [e]
      iapply hc $$ [H Hr]
      · isplitl [H]
        · iexists f; isplitr
          · ipureintro; exact hf
          · iexact H
        · iexact Hr
      · iexact HQ
    | store b off size inb w hs =>
      have hc := ih ⟨⟩ (Function.update s b (VecWindow.put (s b) off size w))
      simp only [denote, run, Act.denote, Act.run]
      rw [Owned_update] at hc
      rw [Owned_split c s b]
      unfold owns at hc ⊢
      iintro ⟨⟨%f, %hf, H⟩, Hr⟩ HQ
      iapply (wp_store_writes₀ 𝒱 (c.tc : Thread nD τ) bd E (m := M.mem b) (r := Rect.unit (s := M.shp b) off size inb) (w := w) (hx := hs) (hm := .inl rfl)
        (S := (M.mem b).view.set) (f := f) ((M.mem b).view.set_slice_subset _)) $$ H
      iintro H
      iapply hc $$ [H Hr]
      · isplitl [H]
        · iexists ((M.mem b).view.writes Val f [⟨Rect.unit off size inb, w⟩]); isplitr
          · ipureintro
            rw [View.read_writes_cons_put (M.mem b).view f inb w [] rfl]
            exact congrArg (fun x => VecWindow.put x off size w) hf
          · iexact H
        · iexact Hr
      · iexact HQ

end Cert.Steps
-- ==== Proof.MixCode.lean ====
/- The mixer's backward call: its block, as a program over named buffers. -/
module

public import proofs.«01_k».proof.Proof.MixFns
public import proofs.«01_k».proof.Proof.Steps

@[expose] public section

noncomputable section

namespace Cert.Mix

open Idealize.ShloMosaic Idealize.ShloMosaic.TcCoe Idealize.SL.Sem
open Cert.Kernel3Ideal Cert.Steps

/-! ## The buffers -/

/-- The block's buffers: the staged blocks of the arguments and the results, then the scratch. -/
inductive Name
  | dyl | dy | wo | a1 | q | proj | wb | lng | lnb | scw | wi | x | dx1 | mod | dproj | sg | gx | dsh | dsc
  | extd | ed | a0 | da0 | extq | dp | dh | dm | cda | cdq
  deriving DecidableEq

instance : Fintype Name where
  elems := {.dyl, .dy, .wo, .a1, .q, .proj, .wb, .lng, .lnb, .scw, .wi, .x, .dx1, .mod, .dproj, .sg, .gx, .dsh, .dsc,
    .extd, .ed, .a0, .da0, .extq, .dp, .dh, .dm, .cda, .cdq}
  complete b := by cases b <;> decide

@[reducible] def Name.shp : Name → Shape
  | dyl | dy | x | dx1 | gx | dh | dm => S256x1024
  | wo => S1024x1024
  | a1 | q | a0 | da0 => S256x512
  | proj | dproj | dp => S256x2560
  | wb => S31x512
  | lng | lnb => S1x512
  | scw => S3x512
  | wi => S1024x2560
  | mod => S1x1x6144
  | sg | extd => S296x512
  | dsh | dsc => S1x8x1024
  | ed => S4x8x296x128
  | extq => S264x512
  | cda => S32x512
  | cdq => S8x512

@[reducible] def Name.elt : Name → EltTy
  | dyl | dy | wo | wi | dproj | dp => .bf16
  | _ => .f32

/-- Where the buffers lie. -/
structure Args where
  mem : (b : Name) → Memref Kernel3Ideal.sig .tc .vmem b.shp b.elt
  whole : ∀ b, (mem b).IsWhole

@[reducible] def bufs (A : Args) : Bufs Kernel3Ideal.sig := ⟨Name, Name.shp, Name.elt, A.mem⟩

variable {F : FTy → Type} [FloatOps F] (A : Args)

abbrev C (A : Args) (F : FTy → Type) := Code (bufs A) (Elt F)

theorem in2 {m n a b s t : ℕ} (h : a + s ≤ m) (k : b + t ≤ n) :
    ∀ x, (![a, b] : Fin 2 → ℕ) x + (![s, t] : Fin 2 → ℕ) x ≤ (![m, n] : Fin 2 → ℕ) x := Fin.forall_fin_two.2 ⟨h, k⟩

theorem in4 {l m n o a b c d s t u v : ℕ} (h : a + s ≤ l) (k : b + t ≤ m) (i : c + u ≤ n) (j : d + v ≤ o) :
    ∀ x, (![a, b, c, d] : Fin 4 → ℕ) x + (![s, t, u, v] : Fin 4 → ℕ) x ≤ (![l, m, n, o] : Fin 4 → ℕ) x := by
  intro x; fin_cases x; exacts [h, k, i, j]

/-- Load a rectangle. -/
def ld (b : Name) (off size : Fin b.shp.rank → ℕ) (inb : ∀ a, off a + size a ≤ b.shp.size a) (pos : 0 < Shape.numel ⟨b.shp.rank, size⟩) :
    C A F (Shape.Idx ⟨b.shp.rank, size⟩ → Elt F b.elt) :=
  .op (.load b off size inb (View.loadsAt_vmem pos)) .ret

/-- Store a rectangle (after a load nobody reads), of words. -/
def st (b : Name) (off size : Fin b.shp.rank → ℕ) (inb : ∀ a, off a + size a ≤ b.shp.size a) (pos : 0 < Shape.numel ⟨b.shp.rank, size⟩)
    (he : b.elt.bits = 32) (w : Shape.Idx ⟨b.shp.rank, size⟩ → Elt F b.elt) : C A F PUnit :=
  .op (.load b off size inb (View.loadsAt_vmem pos)) fun _ =>
    .op (.store b off size inb w (View.stores_vmem_bits_univ pos he)) .ret

/-- The same of half words, through a rectangle of whole packed rows. -/
def sth (b : Name) (off size : Fin b.shp.rank → ℕ) (inb : ∀ a, off a + size a ≤ b.shp.size a) (pos : 0 < Shape.numel ⟨b.shp.rank, size⟩)
    (hp : (Rect.unit (s := b.shp) off size inb).PackedRows b.elt.packing) (w : Shape.Idx ⟨b.shp.rank, size⟩ → Elt F b.elt) : C A F PUnit :=
  .op (.load b off size inb (View.loadsAt_vmem pos)) fun _ =>
    .op (.store b off size inb w (View.stores_vmem pos ((A.whole b).storeExact_slice rfl _ hp) (fun _ => rfl))) .ret

/-- `f 0`, …, `f (n-1)` in order, their results as a sequence. -/
def each {N : ℕ} {α : Type} (junk : α) (f : Fin N → C A F α) : (n k : ℕ) → k + n = N → C A F (ℕ → α)
  | 0, _, _ => pure fun _ => junk
  | n + 1, k, h => do
    let a ← f ⟨k, by omega⟩
    let r ← each junk f n (k + 1) (by omega)
    pure fun j => Nat.casesOn j a r

/-- The same, the results dropped. -/
def loop {N : ℕ} (f : Fin N → C A F PUnit) : (n k : ℕ) → k + n = N → C A F PUnit
  | 0, _, _ => pure ⟨⟩
  | n + 1, k, h => do
    f ⟨k, by omega⟩
    loop f n (k + 1) (by omega)

/-! ## The parts of the block -/

/-- 256 columns of the mixers' gradient. -/
def dmChunk (b : Name) (hs : b = .dyl ∨ b = .dy) (j : Fin 4) : C A F PUnit := do
  let v : FVec F S256x1024 .bf16 ← (match b, hs with
    | .dyl, _ => ld A .dyl ![0, 0] S256x1024.size (in2 (by decide) (by decide)) Gen.h_S256x1024
    | _, _ => ld A .dy ![0, 0] S256x1024.size (in2 (by decide) (by decide)) Gen.h_S256x1024)
  let w : FVec F S256x1024 .bf16 ← ld A .wo ![256 * j.val, 0] S256x1024.size (in2 (by omega) (by decide)) Gen.h_S256x1024
  st A .dm ![0, 256 * j.val] S256x256.size (in2 (by decide) (by omega)) Gen.h_S256x256 rfl
    (shapeCast S256x256 (matmul dot_S256x1024_S256x1024_S256x256_1_1_0_0_n_n none
      (shapeCast S256x1024 v Gen.shapeCasts_S256x1024_S256x1024) (shapeCast S256x1024 w Gen.shapeCasts_S256x1024_S256x1024)
      (constant S256x256 .f32 0x00000000#32)) Gen.shapeCasts_S256x256_S256x256)

/-- 256 columns of the gradient at the projection's argument. -/
def dhChunk (j : Fin 4) : C A F PUnit := do
  let v : FVec F S256x2560 .bf16 ← ld A .dp ![0, 0] S256x2560.size (in2 (by decide) (by decide)) Gen.h_S256x2560
  let w : FVec F S256x2560 .bf16 ← ld A .wi ![256 * j.val, 0] S256x2560.size (in2 (by omega) (by decide)) Gen.h_S256x2560
  st A .dh ![0, 256 * j.val] S256x256.size (in2 (by decide) (by omega)) Gen.h_S256x256 rfl
    (shapeCast S256x256 (matmul dot_S256x2560_S256x2560_S256x256_1_1_0_0_n_n none
      v (shapeCast S256x2560 w Gen.shapeCasts_S256x2560_S256x2560)
      (constant S256x256 .f32 0x00000000#32)) Gen.shapeCasts_S256x256_S256x256)

/-- The scratch cleared and the first block's mixers' gradient. -/
def start : C A F PUnit := do
  st A .sg ![0, 0] S296x512.size (in2 (by decide) (by decide)) Gen.h_S296x512 rfl (zero S296x512)
  sth A .dp ![0, 0] S256x2560.size (in2 (by decide) (by decide)) Gen.h_S256x2560 Gen.packedbf16_S256x2560_S256x2560_0_0
    (shapeCast S256x2560 (broadcast S256x2560 (Scalar.ofBits .bf16 0x0000#16)) Gen.shapeCasts_S256x2560_S256x2560)
  st A .cda ![0, 0] S32x512.size (in2 (by decide) (by decide)) Gen.h_S32x512 rfl (shapeCast S32x512 (zero S32x512) Gen.shapeCasts_S32x512_S32x512)
  st A .cdq ![0, 0] S8x512.size (in2 (by decide) (by decide)) Gen.h_S8x512 rfl (shapeCast S8x512 (zero S8x512) Gen.shapeCasts_S8x512_S8x512)
  loop A (dmChunk A .dyl (.inl rfl)) 4 0 rfl

/-- Add eight rows to the small gradients' sums. -/
def addSg (r c w : ℕ) (hr : r + 8 ≤ 296) (hc : c + w ≤ 512) (pos : 0 < Shape.numel ⟨2, ![8, w]⟩) (hcast : Shape.ShapeCasts ⟨2, ![8, w]⟩ ⟨2, ![8, w]⟩)
    (v : FVec F ⟨2, ![8, w]⟩ .f32) : C A F PUnit := do
  let o : FVec F ⟨2, ![8, w]⟩ .f32 ← ld A .sg ![r, c] ![8, w] (in2 hr hc) pos
  st A .sg ![r, c] ![8, w] (in2 hr hc) pos rfl (addf (shapeCast ⟨2, ![8, w]⟩ o hcast) v)

/-- A column group of the projection. -/
def ldProj (c : ℕ) (hc : c + 512 ≤ 2560) : C A F (FVec F S256x512 .f32) := do
  let v : FVec F S256x512 .f32 ← ld A .proj ![0, c] S256x512.size (in2 (by decide) hc) Gen.h_S256x512
  pure (shapeCast S256x512 v Gen.shapeCasts_S256x512_S256x512)

def ldRow (b : Name) (hb : b = .lng ∨ b = .lnb) : C A F (FVec F S1x512 .f32) := do
  let v : FVec F S1x512 .f32 ← (match b, hb with
    | .lng, _ => ld A .lng ![0, 0] S1x512.size (in2 (by decide) (by decide)) Gen.h_S1x512
    | _, _ => ld A .lnb ![0, 0] S1x512.size (in2 (by decide) (by decide)) Gen.h_S1x512)
  pure (shapeCast S1x512 v Gen.shapeCasts_S1x512_S1x512)

/-- The gradients up to the convolution's result, its rows laid out with the later block's first ones after them. -/
def head (k : F .f32) : C A F PUnit := do
  let g ← ldRow A .lng (.inl rfl)
  let b ← ldRow A .lnb (.inr rfl)
  let a : FVec F S256x512 .f32 ← ld A .a1 ![0, 0] S256x512.size (in2 (by decide) (by decide)) Gen.h_S256x512
  let m : FVec F S256x512 .f32 ← ld A .dm ![0, 0] S256x512.size (in2 (by decide) (by decide)) Gen.h_S256x512
  let a' := shapeCast S256x512 a Gen.shapeCasts_S256x512_S256x512
  let d := dSilu a' m g b
  let e := dNorm a' d g
  addSg A 256 0 512 (by decide) (by decide) Gen.h_S8x512 Gen.shapeCasts_S8x512_S8x512 (rows8 (mulf d (normed a')))
  addSg A 264 0 512 (by decide) (by decide) Gen.h_S8x512 Gen.shapeCasts_S8x512_S8x512 (rows8 d)
  addSg A 248 0 512 (by decide) (by decide) Gen.h_S8x512 Gen.shapeCasts_S8x512_S8x512 (rows8 e)
  let p ← ldProj A 0 (by decide)
  let q ← ldProj A 512 (by decide)
  st A .a0 ![0, 0] S256x512.size (in2 (by decide) (by decide)) Gen.h_S256x512 rfl (shapeCast S256x512 (glu p q) Gen.shapeCasts_S256x512_S256x512)
  st A .extd ![0, 0] S256x512.size (in2 (by decide) (by decide)) Gen.h_S256x512 rfl (shapeCast S256x512 e Gen.shapeCasts_S256x512_S256x512)
  let c : FVec F S32x512 .f32 ← ld A .cda ![0, 0] S32x512.size (in2 (by decide) (by decide)) Gen.h_S32x512
  st A .extd ![256, 0] S32x512.size (in2 (by decide) (by decide)) Gen.h_S32x512 rfl
    (shapeCast S32x512 (mulf c (broadcast S32x512 k)) Gen.shapeCasts_S32x512_S32x512)
  st A .extd ![288, 0] S8x512.size (in2 (by decide) (by decide)) Gen.h_S8x512 rfl (shapeCast S8x512 (zero S8x512) Gen.shapeCasts_S8x512_S8x512)
  st A .cda ![0, 0] S32x512.size (in2 (by decide) (by decide)) Gen.h_S32x512 rfl
    (shapeCast S32x512 (extractStridedSlice S32x512 ![0, 0] e Gen.slices_S256x512_o0_0_S32x512) Gen.shapeCasts_S32x512_S32x512)
  let s : FVec F S256x512 .f32 ← ld A .dm ![0, 512] S256x512.size (in2 (by decide) (by decide)) Gen.h_S256x512
  let q : FVec F S256x512 .f32 ← ld A .q ![0, 0] S256x512.size (in2 (by decide) (by decide)) Gen.h_S256x512
  sth A .dproj ![0, 1024] S256x512.size (in2 (by decide) (by decide)) Gen.h_S256x512 Gen.packedbf16_S256x2560_S256x512_0_1024
    (truncf .bf16 (mulf s (shapeCast S256x512 q Gen.shapeCasts_S256x512_S256x512)) Gen.bitsLt_bf16_f32)
  let p2 ← ldProj A 1024 (by decide)
  let u := mulf s p2
  st A .extq ![0, 0] S256x512.size (in2 (by decide) (by decide)) Gen.h_S256x512 rfl (shapeCast S256x512 u Gen.shapeCasts_S256x512_S256x512)
  let c : FVec F S8x512 .f32 ← ld A .cdq ![0, 0] S8x512.size (in2 (by decide) (by decide)) Gen.h_S8x512
  st A .extq ![256, 0] S8x512.size (in2 (by decide) (by decide)) Gen.h_S8x512 rfl
    (shapeCast S8x512 (mulf c (broadcast S8x512 k)) Gen.shapeCasts_S8x512_S8x512)
  st A .cdq ![0, 0] S8x512.size (in2 (by decide) (by decide)) Gen.h_S8x512 rfl
    (shapeCast S8x512 (extractStridedSlice S8x512 ![0, 0] u Gen.slices_S256x512_o0_0_S8x512) Gen.shapeCasts_S8x512_S8x512)

/-- A column group's rows, shifted by 0, …, 7. -/
def shift (g : Fin 4) : C A F PUnit :=
  loop A (fun r : Fin 8 => do
    let v : FVec F S288x128 .f32 ← ld A .extd ![r.val, 128 * g.val] S288x128.size (in2 (by omega) (by omega)) Gen.h_S288x128
    st A .ed ![g.val, r.val, 0, 0] S1x1x288x128.size (in4 (by omega) (by omega) (by decide) (by decide)) Gen.h_S1x1x288x128 rfl
      (shapeCast S1x1x288x128 v Gen.shapeCasts_S288x128_S1x1x288x128)) 8 0 rfl

/-- 32 rows of a column group: the convolution's gradient at its argument, and each tap's part of the weight's. -/
def conv (g : Fin 4) (i : Fin 8) : C A F (ℕ → FVec F S8x128 .f32) := do
  let a : FVec F S32x128 .f32 ← ld A .a0 ![32 * i.val, 128 * g.val] S32x128.size (in2 (by omega) (by omega)) Gen.h_S32x128
  let ew ← each A (zero S32x128, zero S1x128) (fun s : Fin 31 => do
    let e : FVec F S1x1x32x128 .f32 ← ld A .ed ![g.val, s.val % 8, 32 * i.val + 8 * (s.val / 8), 0] S1x1x32x128.size
      (in4 (by omega) (by omega) (by omega) (by decide)) Gen.h_S1x1x32x128
    let w : FVec F S1x128 .f32 ← ld A .wb ![30 - s.val, 128 * g.val] S1x128.size (in2 (by omega) (by omega)) Gen.h_S1x128
    pure (shapeCast S32x128 e Gen.shapeCasts_S1x1x32x128_S32x128, w)) 31 0 rfl
  st A .da0 ![32 * i.val, 128 * g.val] S32x128.size (in2 (by omega) (by omega)) Gen.h_S32x128 rfl
    (shapeCast S32x128 (taps ew 31) Gen.shapeCasts_S32x128_S32x128)
  pure fun s => rows8C (mulf (ew s).1 a)

/-- The taps' parts into the small gradients' sums. -/
def flush (g : Fin 4) (p : ℕ → FVec F S8x128 .f32) : C A F PUnit :=
  loop A (fun s : Fin 31 => addSg A (8 * (30 - s.val)) (128 * g.val) 128 (by omega) (by omega) Gen.h_S8x128 Gen.shapeCasts_S8x128_S8x128 (p s.val)) 31 0 rfl

abbrev both (p q : ℕ → FVec F S8x128 .f32) : ℕ → FVec F S8x128 .f32 := fun s => addf (p s) (q s)

/-- The gradients at the gated unit's halves. -/
def emit : C A F PUnit := do
  let d : FVec F S256x512 .f32 ← ld A .da0 ![0, 0] S256x512.size (in2 (by decide) (by decide)) Gen.h_S256x512
  let q ← ldProj A 512 (by decide)
  sth A .dproj ![0, 0] S256x512.size (in2 (by decide) (by decide)) Gen.h_S256x512 Gen.packedbf16_S256x2560_S256x512_0_0
    (truncf .bf16 (mulf d (sig q)) Gen.bitsLt_bf16_f32)
  let a : FVec F S256x512 .f32 ← ld A .a0 ![0, 0] S256x512.size (in2 (by decide) (by decide)) Gen.h_S256x512
  sth A .dproj ![0, 512] S256x512.size (in2 (by decide) (by decide)) Gen.h_S256x512 Gen.packedbf16_S256x2560_S256x512_0_512
    (truncf .bf16 (mulf (mulf d a) (subf (one _) (sig q))) Gen.bitsLt_bf16_f32)

/-- One tap of the short convolution. -/
def shortTap (pv : FVec F S256x512 .f32) (k : Fin 3) : C A F (FVec F S256x512 .f32) := do
  let d : FVec F S256x512 .f32 ← ld A .extq ![2 - k.val, 0] S256x512.size (in2 (by omega) (by decide)) Gen.h_S256x512
  let w : FVec F S1x512 .f32 ← ld A .scw ![k.val, 0] S1x512.size (in2 (by omega) (by decide)) Gen.h_S1x512
  addSg A (272 + 8 * k.val) 0 512 (by omega) (by decide) Gen.h_S8x512 Gen.shapeCasts_S8x512_S8x512 (rows8 (mulf pv d))
  pure (mulf d (row w))

/-- The short convolution's gradients. -/
def short : C A F PUnit := do
  let c ← ldProj A 1536 (by decide)
  let h ← ldProj A 2048 (by decide)
  let t0 ← shortTap A (mulf c h) 0
  let t1 ← shortTap A (mulf c h) 1
  let t2 ← shortTap A (mulf c h) 2
  let d := addf (addf (addf (zero _) t0) t1) t2
  sth A .dproj ![0, 1536] S256x512.size (in2 (by decide) (by decide)) Gen.h_S256x512 Gen.packedbf16_S256x2560_S256x512_0_1536
    (truncf .bf16 (mulf d h) Gen.bitsLt_bf16_f32)
  sth A .dproj ![0, 2048] S256x512.size (in2 (by decide) (by decide)) Gen.h_S256x512 Gen.packedbf16_S256x2560_S256x512_0_2048
    (truncf .bf16 (mulf d c) Gen.bitsLt_bf16_f32)

theorem in3 {m n o a b c s t u : ℕ} (h : a + s ≤ m) (k : b + t ≤ n) (i : c + u ≤ o) :
    ∀ x, (![a, b, c] : Fin 3 → ℕ) x + (![s, t, u] : Fin 3 → ℕ) x ≤ (![m, n, o] : Fin 3 → ℕ) x := by
  intro x; fin_cases x; exacts [h, k, i]

/-- Eight rows into a sum that may start over. -/
def addMod (b : Name) (hb : b = .dsh ∨ b = .dsc) (f : BitVec 1) (v : FVec F S8x1024 .f32) : C A F PUnit :=
  match b, hb with
  | .dsh, _ => do
    let o : FVec F S1x8x1024 .f32 ← ld A .dsh ![0, 0, 0] S1x8x1024.size (in3 (by decide) (by decide) (by decide)) Gen.h_S1x8x1024
    st A .dsh ![0, 0, 0] S1x8x1024.size (in3 (by decide) (by decide) (by decide)) Gen.h_S1x8x1024 rfl
      (shapeCast S1x8x1024 (Scalar.select f v (addf (shapeCast S8x1024 o Gen.shapeCasts_S1x8x1024_S8x1024) v)) Gen.shapeCasts_S8x1024_S1x8x1024)
  | _, _ => do
    let o : FVec F S1x8x1024 .f32 ← ld A .dsc ![0, 0, 0] S1x8x1024.size (in3 (by decide) (by decide) (by decide)) Gen.h_S1x8x1024
    st A .dsc ![0, 0, 0] S1x8x1024.size (in3 (by decide) (by decide) (by decide)) Gen.h_S1x8x1024 rfl
      (shapeCast S1x8x1024 (Scalar.select f v (addf (shapeCast S8x1024 o Gen.shapeCasts_S1x8x1024_S8x1024) v)) Gen.shapeCasts_S8x1024_S1x8x1024)

/-- The modulation and the RMSNorm of the block before. -/
def tail (f : BitVec 1) : C A F PUnit := do
  let h : FVec F S256x1024 .f32 ← ld A .dh ![0, 0] S256x1024.size (in2 (by decide) (by decide)) Gen.h_S256x1024
  let x : FVec F S256x1024 .f32 ← ld A .x ![0, 0] S256x1024.size (in2 (by decide) (by decide)) Gen.h_S256x1024
  let x' := shapeCast S256x1024 x Gen.shapeCasts_S256x1024_S256x1024
  addMod A .dsh (.inl rfl) f (rows8W h)
  addMod A .dsc (.inr rfl) f (rows8W (mulf h (rms x')))
  let d : FVec F S256x1024 .f32 ← ld A .dx1 ![0, 0] S256x1024.size (in2 (by decide) (by decide)) Gen.h_S256x1024
  let s : FVec F S1x1x1024 .f32 ← ld A .mod ![0, 0, 1024] S1x1x1024.size (in3 (by decide) (by decide) (by decide)) Gen.h_S1x1x1024
  st A .gx ![0, 0] S256x1024.size (in2 (by decide) (by decide)) Gen.h_S256x1024 rfl
    (dRms x' h (shapeCast S256x1024 d Gen.shapeCasts_S256x1024_S256x1024) (shapeCast S1x1024 s Gen.shapeCasts_S1x1x1024_S1x1024))

/-- The block's projections' gradient, kept for the next point. -/
def carry : C A F PUnit := do
  let v : FVec F S256x2560 .bf16 ← ld A .dproj ![0, 0] S256x2560.size (in2 (by decide) (by decide)) Gen.h_S256x2560
  sth A .dp ![0, 0] S256x2560.size (in2 (by decide) (by decide)) Gen.h_S256x2560 Gen.packedbf16_S256x2560_S256x2560_0_0
    (shapeCast S256x2560 (shapeCast S256x2560 v Gen.shapeCasts_S256x2560_S256x2560) Gen.shapeCasts_S256x2560_S256x2560)

/-- A point with a block of its own: its mixers, and the block before's projection and norm between them. -/
def middle (k : F .f32) (f : BitVec 1) : C A F PUnit := do
  head A k
  dhChunk A 0
  dmChunk A .dy (.inr rfl) 0
  loop A (shift A) 4 0 rfl
  let p0 ← conv A 0 0
  let p1 ← conv A 0 1
  let p2 ← conv A 0 2
  let p3 ← conv A 0 3
  dhChunk A 1
  let p4 ← conv A 0 4
  let p5 ← conv A 0 5
  dmChunk A .dy (.inr rfl) 1
  let p6 ← conv A 0 6
  let p7 ← conv A 0 7
  flush A 0 (both (both (both (both (both (both (both p0 p1) p2) p3) p4) p5) p6) p7)
  let p0 ← conv A 1 0
  let p1 ← conv A 1 1
  let p2 ← conv A 1 2
  let p3 ← conv A 1 3
  dhChunk A 2
  let p4 ← conv A 1 4
  let p5 ← conv A 1 5
  let p6 ← conv A 1 6
  let p7 ← conv A 1 7
  dmChunk A .dy (.inr rfl) 2
  flush A 1 (both (both (both (both (both (both (both p0 p1) p2) p3) p4) p5) p6) p7)
  let p0 ← conv A 2 0
  let p1 ← conv A 2 1
  let p2 ← conv A 2 2
  dhChunk A 3
  let p3 ← conv A 2 3
  let p4 ← conv A 2 4
  let p5 ← conv A 2 5
  let p6 ← conv A 2 6
  let p7 ← conv A 2 7
  flush A 2 (both (both (both (both (both (both (both p0 p1) p2) p3) p4) p5) p6) p7)
  let p0 ← conv A 3 0
  dmChunk A .dy (.inr rfl) 3
  let p1 ← conv A 3 1
  let p2 ← conv A 3 2
  tail A f
  let p3 ← conv A 3 3
  let p4 ← conv A 3 4
  let p5 ← conv A 3 5
  let p6 ← conv A 3 6
  let p7 ← conv A 3 7
  flush A 3 (both (both (both (both (both (both (both p0 p1) p2) p3) p4) p5) p6) p7)
  emit A
  short A
  carry A

/-- The last point: the first block's projection and norm. -/
def last (f : BitVec 1) : C A F PUnit := do
  loop A (dhChunk A) 4 0 rfl
  tail A f

/-- The block. -/
def block (i : grid0.Coords) : C A F PUnit := do
  if k0_cond1 i = 1#1 then start A else pure ⟨⟩
  if k0_cond2 i = 1#1 then middle A (keep i) (fresh i) else pure ⟨⟩
  if k0_cond3 i = 1#1 then last A (fresh i) else pure ⟨⟩

end Cert.Mix

end
-- ==== Proof.MixBody.lean ====
/- The mixer's backward call: the printed block is the block over named buffers. -/
module

public import proofs.«01_k».proof.Proof.MixCode

@[expose] public section

set_option maxRecDepth 16384

noncomputable section

namespace Cert.Mix

open Idealize.ShloMosaic Idealize.ShloMosaic.TcCoe Idealize.SL.Sem
open Cert.Kernel3Ideal Cert.Steps

variable {F : FTy → Type} [FloatOps F] (A : Args)

/-- The block's three parts, each under its condition. -/
def blockProg (i : grid0.Coords) : Prog (TpuEff nD τ Kernel3Ideal.sig (Elt F) Λ₀ .tc) PUnit := do
  if _h : k0_cond1 i = 1#1 then denote (start A) else pure ⟨⟩
  if _h : k0_cond2 i = 1#1 then denote (middle A (keep i) (fresh i)) else pure ⟨⟩
  if _h : k0_cond3 i = 1#1 then denote (last A (fresh i)) else pure ⟨⟩
  pure ⟨⟩

theorem printed_eq (i : grid0.Coords) (dep : Memref Kernel3Ideal.sig .tc .hbm S512 .f32) (hdep : dep.IsWhole) :
    cc0_mix_in_bwd (F := F) i (A.mem .dyl) (A.whole .dyl) (A.mem .dy) (A.whole .dy) (A.mem .wo) (A.whole .wo) (A.mem .a1) (A.whole .a1) (A.mem .q) (A.whole .q) (A.mem .proj) (A.whole .proj) (A.mem .wb) (A.whole .wb) (A.mem .lng) (A.whole .lng) (A.mem .lnb) (A.whole .lnb) (A.mem .scw) (A.whole .scw) (A.mem .wi) (A.whole .wi) (A.mem .x) (A.whole .x) (A.mem .dx1) (A.whole .dx1) (A.mem .mod) (A.whole .mod)
      dep hdep (A.mem .dproj) (A.whole .dproj) (A.mem .sg) (A.whole .sg) (A.mem .gx) (A.whole .gx) (A.mem .dsh) (A.whole .dsh) (A.mem .dsc) (A.whole .dsc) (A.mem .extd) (A.whole .extd) (A.mem .ed) (A.whole .ed) (A.mem .a0) (A.whole .a0) (A.mem .da0) (A.whole .da0) (A.mem .extq) (A.whole .extq) (A.mem .dp) (A.whole .dp) (A.mem .dh) (A.whole .dh) (A.mem .dm) (A.whole .dm) (A.mem .cda) (A.whole .cda) (A.mem .cdq) (A.whole .cdq) = blockProg A i := by
  sl_kernel_rfl

end Cert.Mix

end
-- ==== Proof.MixLaunch.lean ====
/- The mixer's backward call: one grid point run on what its buffers hold, and the frame of the whole call over any
   arithmetic. -/
module

public import proofs.«01_k».proof.Proof.MixBody
public import proofs.«01_k».proof.Proof.Gen.Kernel3Ideal
public import proofs.«01_k».proof.Proof.Gen.Kernel3Ideal.Frame
public import proofs.«01_k».proof.Proof.Gen.Kernel3Ideal.Launch
public import proofs.«01_k».proof.Proof.Gen.Kernel3Ideal.Points
public import Idealize.ShloMosaic.Lib.Pipeline.BigSepL
public import Idealize.ShloMosaic.Lib.Pipeline.ValueKit
public import Idealize.ShloMosaic.Lib.Tactic

@[expose] public section

set_option maxRecDepth 16384

noncomputable section

namespace Cert.Mix

open Idealize.ShloMosaic Idealize.ShloMosaic.TcCoe Idealize.SL Idealize.SL.BI Idealize.SL.RA
open scoped Idealize.SL.BI
open Idealize.SL.BI.BIBase Idealize.SL.BI.Laws Idealize.SL.Sem Idealize.SL.ProofMode
open Cert.Kernel3Ideal Cert.Kernel3Ideal.Gen Cert.Steps

variable {F : FTy → Type} [FloatOps F]

/-- What every buffer of a block holds. -/
abbrev St (F : FTy → Type) := (b : Name) → b.shp.Idx → Elt F b.elt

/-- The contents after the block at a grid point. -/
def runBlock (A : Args) (i : grid0.Coords) (s : St F) : St F :=
  let s := if k0_cond1 i = 1#1 then (run (start A) s).2 else s
  let s := if k0_cond2 i = 1#1 then (run (middle A (keep i) (fresh i)) s).2 else s
  if k0_cond3 i = 1#1 then (run (last A (fresh i)) s).2 else s

/-- The model's resources. -/
local notation "𝕄" => MT nD τ Kernel3Ideal.sig Unit (Elt F) ℕ (UR Kernel3Ideal.sig nD τ) ℕ

theorem wp_part (A : Args) (c : Dev nD) (p : Prop) [Decidable p] (q : C A F PUnit) (s : St F) (Q : PUnit → sProp 𝕄) :
    (Owned (bufs A) c s) ⊢ iprop((Owned (bufs A) c (if p then (run q s).2 else s) -∗ Q ⟨⟩)
      -∗ wp frame (wpE (defs₀ (F := F)) Variants.none (c.tc : Thread nD τ) none) Set.univ (if _h : p then denote q else pure ⟨⟩) Q) := by
  by_cases h : p
  · simp only [dif_pos h, if_pos h]
    exact sound (M := bufs A) Variants.none c none Set.univ q s Q
  · simp only [dif_neg h, if_neg h]
    show _ ⊢ iprop(_ -∗ wp frame _ Set.univ (.ret ⟨⟩) Q)
    rw [wp_ret]
    iintro H HQ
    imodintro
    iapply HQ; iexact H

theorem blockProg_eq (A : Args) (i : grid0.Coords) : blockProg (F := F) A i
    = ((if _h : k0_cond1 i = 1#1 then denote (start A) else pure ⟨⟩) >>= fun _ =>
      (if _h : k0_cond2 i = 1#1 then denote (middle A (keep i) (fresh i)) else pure ⟨⟩) >>= fun _ =>
      (if _h : k0_cond3 i = 1#1 then denote (last A (fresh i)) else pure ⟨⟩)) := by
  unfold blockProg
  by_cases h1 : k0_cond1 i = 1#1 <;> by_cases h2 : k0_cond2 i = 1#1 <;> by_cases h3 : k0_cond3 i = 1#1
  all_goals simp only [h1, h2, h3, ↓reduceDIte]
  all_goals simp only [bind_assoc, pure_bind, bind_pure_unit]

theorem wp_block (A : Args) (c : Dev nD) (i : grid0.Coords) (s : St F) (Q : PUnit → sProp 𝕄) :
    (Owned (bufs A) c s) ⊢ iprop((Owned (bufs A) c (runBlock A i s) -∗ Q ⟨⟩)
      -∗ wp frame (wpE (defs₀ (F := F)) Variants.none (c.tc : Thread nD τ) none) Set.univ (blockProg A i) Q) := by
  rw [blockProg_eq]
  unfold runBlock
  simp only [wp_bind]
  iintro H HQ
  iapply (wp_part A c _ (start A) s _) $$ H
  iintro H
  iapply (wp_part A c _ (middle A (keep i) (fresh i)) _ _) $$ H
  iintro H
  iapply (wp_part A c _ (last A (fresh i)) _ _) $$ H
  iexact HQ

/-! ## The buffers of one grid point -/

/-- The staging buffers a point is given, and the scratch. -/
def argsAt (t : Fin cfg0.N) : Args where
  mem
    | .dyl => win0_0.stage (cfg0.slots t 0)
    | .dy => win0_1.stage (cfg0.slots t 1)
    | .wo => win0_2.stage (cfg0.slots t 2)
    | .a1 => win0_3.stage (cfg0.slots t 3)
    | .q => win0_4.stage (cfg0.slots t 4)
    | .proj => win0_5.stage (cfg0.slots t 5)
    | .wb => win0_6.stage (cfg0.slots t 6)
    | .lng => win0_7.stage (cfg0.slots t 7)
    | .lnb => win0_8.stage (cfg0.slots t 8)
    | .scw => win0_9.stage (cfg0.slots t 9)
    | .wi => win0_10.stage (cfg0.slots t 10)
    | .x => win0_11.stage (cfg0.slots t 11)
    | .dx1 => win0_12.stage (cfg0.slots t 12)
    | .mod => win0_13.stage (cfg0.slots t 13)
    | .dproj => win0_14.stage (cfg0.slots t 14)
    | .sg => win0_15.stage (cfg0.slots t 15)
    | .gx => win0_16.stage (cfg0.slots t 16)
    | .dsh => win0_17.stage (cfg0.slots t 17)
    | .dsc => win0_18.stage (cfg0.slots t 18)
    | .extd => Memref.whole cc0_scratch0
    | .ed => Memref.whole cc0_scratch1
    | .a0 => Memref.whole cc0_scratch2
    | .da0 => Memref.whole cc0_scratch3
    | .extq => Memref.whole cc0_scratch4
    | .dp => Memref.whole cc0_scratch5
    | .dh => Memref.whole cc0_scratch6
    | .dm => Memref.whole cc0_scratch7
    | .cda => Memref.whole cc0_scratch8
    | .cdq => Memref.whole cc0_scratch9
  whole
    | .dyl => hstage0_0 ((cfg0.slots t 0).cast nbuf0_0)
    | .dy => hstage0_1 ((cfg0.slots t 1).cast nbuf0_1)
    | .wo => hstage0_2 ((cfg0.slots t 2).cast nbuf0_2)
    | .a1 => hstage0_3 ((cfg0.slots t 3).cast nbuf0_3)
    | .q => hstage0_4 ((cfg0.slots t 4).cast nbuf0_4)
    | .proj => hstage0_5 ((cfg0.slots t 5).cast nbuf0_5)
    | .wb => hstage0_6 ((cfg0.slots t 6).cast nbuf0_6)
    | .lng => hstage0_7 ((cfg0.slots t 7).cast nbuf0_7)
    | .lnb => hstage0_8 ((cfg0.slots t 8).cast nbuf0_8)
    | .scw => hstage0_9 ((cfg0.slots t 9).cast nbuf0_9)
    | .wi => hstage0_10 ((cfg0.slots t 10).cast nbuf0_10)
    | .x => hstage0_11 ((cfg0.slots t 11).cast nbuf0_11)
    | .dx1 => hstage0_12 ((cfg0.slots t 12).cast nbuf0_12)
    | .mod => hstage0_13 ((cfg0.slots t 13).cast nbuf0_13)
    | .dproj => hstage0_14 ((cfg0.slots t 14).cast nbuf0_14)
    | .sg => hstage0_15 ((cfg0.slots t 15).cast nbuf0_15)
    | .gx => hstage0_16 ((cfg0.slots t 16).cast nbuf0_16)
    | .dsh => hstage0_17 ((cfg0.slots t 17).cast nbuf0_17)
    | .dsc => hstage0_18 ((cfg0.slots t 18).cast nbuf0_18)
    | .extd => Memref.isWhole_whole _
    | .ed => Memref.isWhole_whole _
    | .a0 => Memref.isWhole_whole _
    | .da0 => Memref.isWhole_whole _
    | .extq => Memref.isWhole_whole _
    | .dp => Memref.isWhole_whole _
    | .dh => Memref.isWhole_whole _
    | .dm => Memref.isWhole_whole _
    | .cda => Memref.isWhole_whole _
    | .cdq => Memref.isWhole_whole _

/-- What the scratch holds. -/
structure Scr (F : FTy → Type) where
  extd : Name.extd.shp.Idx → Elt F Name.extd.elt
  ed : Name.ed.shp.Idx → Elt F Name.ed.elt
  a0 : Name.a0.shp.Idx → Elt F Name.a0.elt
  da0 : Name.da0.shp.Idx → Elt F Name.da0.elt
  extq : Name.extq.shp.Idx → Elt F Name.extq.elt
  dp : Name.dp.shp.Idx → Elt F Name.dp.elt
  dh : Name.dh.shp.Idx → Elt F Name.dh.elt
  dm : Name.dm.shp.Idx → Elt F Name.dm.elt
  cda : Name.cda.shp.Idx → Elt F Name.cda.elt
  cdq : Name.cdq.shp.Idx → Elt F Name.cdq.elt

/-- The contents of the staging buffers, by window. -/
abbrev Win (F : FTy → Type) := (w : Fin 19) → (cfg0.win w).block.Idx → Elt F (cfg0.win w).elt

/-- Every buffer's contents, from the staging buffers' and the scratch's. -/
def join (Y : Win F) (σ : Scr F) : St F
  | .dyl => Y 0
  | .dy => Y 1
  | .wo => Y 2
  | .a1 => Y 3
  | .q => Y 4
  | .proj => Y 5
  | .wb => Y 6
  | .lng => Y 7
  | .lnb => Y 8
  | .scw => Y 9
  | .wi => Y 10
  | .x => Y 11
  | .dx1 => Y 12
  | .mod => Y 13
  | .dproj => Y 14
  | .sg => Y 15
  | .gx => Y 16
  | .dsh => Y 17
  | .dsc => Y 18
  | .extd => σ.extd
  | .ed => σ.ed
  | .a0 => σ.a0
  | .da0 => σ.da0
  | .extq => σ.extq
  | .dp => σ.dp
  | .dh => σ.dh
  | .dm => σ.dm
  | .cda => σ.cda
  | .cdq => σ.cdq

/-- The staging buffers' part. -/
def winOf (s : St F) : Win F
  | 0 => s .dyl
  | 1 => s .dy
  | 2 => s .wo
  | 3 => s .a1
  | 4 => s .q
  | 5 => s .proj
  | 6 => s .wb
  | 7 => s .lng
  | 8 => s .lnb
  | 9 => s .scw
  | 10 => s .wi
  | 11 => s .x
  | 12 => s .dx1
  | 13 => s .mod
  | 14 => s .dproj
  | 15 => s .sg
  | 16 => s .gx
  | 17 => s .dsh
  | 18 => s .dsc
  | ⟨n + 19, h⟩ => absurd h (by omega)

/-- The scratch's part. -/
def scrOf (s : St F) : Scr F := ⟨s .extd, s .ed, s .a0, s .da0, s .extq, s .dp, s .dh, s .dm, s .cda, s .cdq⟩

/-- The scratch owned, at its contents. -/
def Scratch (c : Dev nD) (σ : Scr F) : sProp 𝕄 :=
  iprop(owns (c.tc : Thread nD τ) (Memref.whole cc0_scratch0) fullShare σ.extd
    ∗ owns (c.tc : Thread nD τ) (Memref.whole cc0_scratch1) fullShare σ.ed
    ∗ owns (c.tc : Thread nD τ) (Memref.whole cc0_scratch2) fullShare σ.a0
    ∗ owns (c.tc : Thread nD τ) (Memref.whole cc0_scratch3) fullShare σ.da0
    ∗ owns (c.tc : Thread nD τ) (Memref.whole cc0_scratch4) fullShare σ.extq
    ∗ owns (c.tc : Thread nD τ) (Memref.whole cc0_scratch5) fullShare σ.dp
    ∗ owns (c.tc : Thread nD τ) (Memref.whole cc0_scratch6) fullShare σ.dh
    ∗ owns (c.tc : Thread nD τ) (Memref.whole cc0_scratch7) fullShare σ.dm
    ∗ owns (c.tc : Thread nD τ) (Memref.whole cc0_scratch8) fullShare σ.cda
    ∗ owns (c.tc : Thread nD τ) (Memref.whole cc0_scratch9) fullShare σ.cdq)

/-- The staging buffers owned, at their contents. -/
def Staged (c : Dev nD) (t : Fin cfg0.N) (Y : Win F) : sProp 𝕄 :=
  bigSep Finset.univ fun w => owns (c.tc : Thread nD τ) ((cfg0.win w).stage (cfg0.slots t w)) fullShare (Y w)

theorem names : (Finset.univ : Finset Name) = (([Name.dyl, .dy, .wo, .a1, .q, .proj, .wb, .lng, .lnb, .scw, .wi, .x, .dx1, .mod, .dproj, .sg, .gx, .dsh, .dsc]
    ++ [.extd, .ed, .a0, .da0, .extq, .dp, .dh, .dm, .cda, .cdq] : List Name)).toFinset := by decide

theorem owned_eq (c : Dev nD) (t : Fin cfg0.N) (s : St F) :
    (Owned (bufs (argsAt t)) c s : sProp 𝕄) = iprop(Staged c t (winOf s) ∗ Scratch c (scrOf s)) := by
  unfold Owned
  rw [bigSep_univ_eq_bigSepL _ names (by show List.Nodup (α := Name) _; decide), bigSepL_append]
  unfold Staged
  rw [bigSep_W0]
  rfl

theorem winOf_join (Y : Win F) (σ : Scr F) : winOf (join Y σ) = Y := by
  funext w; fin_cases w <;> rfl

/-- One grid point run. -/
theorem body (c : Dev nD) (t : Fin cfg0.N) (Y : Win F) (σ : Scr F) (Q : PUnit → sProp 𝕄) :
    iprop(Staged c t Y ∗ Scratch c σ)
      ⊢ iprop((iprop(Staged c t (winOf (runBlock (argsAt t) (grid0.coords t) (join Y σ)))
          ∗ Scratch c (scrOf (runBlock (argsAt t) (grid0.coords t) (join Y σ)))) -∗ Q ⟨⟩)
        -∗ wp frame (wpE (defs₀ (F := F)) Variants.none (c.tc : Thread nD τ) none) Set.univ (bodyAt0 t) Q) := by
  have e : bodyAt0 (F := F) t = blockProg (argsAt t) (grid0.coords t) := printed_eq (argsAt t) (grid0.coords t) _ _
  have h := wp_block (argsAt t) c (grid0.coords t) (join Y σ) Q
  rw [owned_eq, owned_eq, winOf_join] at h
  rw [e]
  exact h

/-! ## The frame -/

variable (m : (ℓ : Loc nD τ Kernel3Ideal.sig) → Buf (Elt F) ℓ)

/-- The region's data, nothing said of what a point leaves. -/
def rd (c : Dev nD) : Pipeline.RDat τ (Elt F) Unit ℕ (UR Kernel3Ideal.sig nD τ) ℕ cfg0 c where
  A w := V m c (Pipeline.arrRef spec0 w)
  after _ _ _ _ := True
  Φ _ := Pipeline.ΦA spec0 c
  q w := Pipeline.shareOf spec0 w
  owed _ := 0

theorem scratch_intro (c : Dev nD) : (Pipeline.scopedRest (Val := Elt F) spec0 c : sProp 𝕄) ⊢ iprop(∃ σ : Scr F, Scratch c σ) := by
  rw [scopedRest0_eq]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  iexists (⟨f0, f1, f2, f3, f4, f5, f6, f7, f8, f9⟩ : Scr F)
  simp only [Scratch, owns_whole]
  iframe

theorem scratch_elim (c : Dev nD) (σ : Scr F) : (Scratch c σ : sProp 𝕄) ⊢ (Pipeline.scopedRest (Val := Elt F) spec0 c : sProp 𝕄) := by
  rw [scopedRest0_eq]
  simp only [Scratch, owns_whole]
  iintro ⟨H0, H1, H2, H3, H4, H5, H6, H7, H8, H9⟩
  isplitl [H0]; · iexists σ.extd; iexact H0
  isplitl [H1]; · iexists σ.ed; iexact H1
  isplitl [H2]; · iexists σ.a0; iexact H2
  isplitl [H3]; · iexists σ.da0; iexact H3
  isplitl [H4]; · iexists σ.extq; iexact H4
  isplitl [H5]; · iexists σ.dp; iexact H5
  isplitl [H6]; · iexists σ.dh; iexact H6
  isplitl [H7]; · iexists σ.dm; iexact H7
  isplitl [H8]; · iexists σ.cda; iexact H8
  iexists σ.cdq; iexact H9

theorem inv_intro (c : Dev nD) (σ : Scr F) (t : Fin (cfg0.N + 1)) :
    iprop(Scratch c σ ∗ ∃ r, prngReg c r) ⊢ (rd (F := F) m c).Φ t := by
  show _ ⊢ iprop(Pipeline.scopedRest (Val := Elt F) spec0 c ∗ ∃ r, prngReg c r)
  exact sep_mono_left (scratch_elim c σ)

theorem staged_some (c : Dev nD) (t : Fin cfg0.N) (Y : Win F) (Z : Win F) :
    (Staged c t Y : sProp 𝕄) ⊢ bigSep Finset.univ fun w => iprop(∃ X, ⌜(rd (F := F) m c).after w t (Z w) X⌝
      ∗ owns (c.tc : Thread nD τ) ((cfg0.win w).stage (cfg0.slots t w)) fullShare X) := by
  refine bigSep_mono fun w _ => ?_
  show iprop(owns (c.tc : Thread nD τ) ((cfg0.win w).stage (cfg0.slots t w)) fullShare (Y w)) ⊢ iprop(∃ X, ⌜(rd (F := F) m c).after w t (Z w) X⌝
      ∗ owns (c.tc : Thread nD τ) ((cfg0.win w).stage (cfg0.slots t w)) fullShare X)
  iintro H
  iexists (Y w)
  isplitr
  · ipureintro; trivial
  · iexact H

theorem obligation (c : Dev nD) : (rd (F := F) m c).BodyObligation defs₀ Variants.none () Set.univ := by
  intro t Y _
  show iprop(Pipeline.ΦA spec0 c ∗ (rd m c).owesAt () t.castSucc ∗ Staged c t Y) ⊢ wp frame _ Set.univ (bodyAt0 t) _
  unfold Pipeline.ΦA
  iintro ⟨⟨Hs, Hr⟩, Ho, HB⟩
  ihave Hs := (scratch_intro (F := F) c) $$ Hs
  icases Hs with ⟨%σ, Hs⟩
  iapply (body c t Y σ _) $$ [HB Hs]
  · isplitl [HB]; · iexact HB
    iexact Hs
  iintro ⟨HB, Hs⟩
  isplitl [Hs Hr]
  · iapply (inv_intro m c _ t.succ) $$ [Hs Hr]
    isplitl [Hs]; · iexact Hs
    iexact Hr
  isplitl [Ho]
  · iexact Ho
  · iapply (staged_some m c t _ Y) $$ HB

/-- What the lines after the region write. -/
def hostTail : Finset (Ref Kernel3Ideal.sig .tc) :=
  {main_v84, main_cst_12, main_v85, main_v86, main_v87, main_v88, main_v89, main_v90, main_v91, main_v92, main_v93, main_cst_13, main_v94,
    main_cst_14, main_v95}

theorem tail_writes : ∀ ops ∈ ([hostOps1] : List (List (HloOp τ Kernel3Ideal.sig (Elt F)))), ∀ op ∈ ops, ∀ b : Ref Kernel3Ideal.sig .tc,
    Proc.devRef .tc b ∈ op.writes → b ∈ hostTail := by
  intro ops hops op hop b hb
  simp only [List.mem_singleton] at hops
  subst hops
  by_contra hn
  simp only [hostTail, Finset.mem_insert, Finset.mem_singleton, not_or] at hn
  simp only [hostOps1, List.mem_cons, List.mem_nil_iff, or_false] at hop
  rcases hop with rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton] at hb
    revert hb
    exact StableHlo.devRef_ne_of_ne (by simp only [ne_eq, hn, not_false_eq_true])

variable (ρ : Dev nD → PrngReg)

set_option backward.isDefEq.respectTransparency.types false in
theorem run_frame : θ_run defs (onTc (τ := τ) (main (F := F))) (s₀ m ρ)
    (fun r => Pipeline.RDat.FramePostR cfg0 (rd m) hostTail (V m) r ∧ r.2.sem = fun _ => 0) :=
  Pipeline.RDat.θ_run_frame_around_T_track_shared (Q' := _) cfgs 0 launch₀0 defs₀ Variants.none (rd m) hostTail m ρ main
    (hbody := obligation m) (hq := fun _ _ _ => rfl) (howed := fun _ _ => rfl) (V₀ := V0 m) (opss := [hostOps1])
    (hsub := sfx_sub) (hfresh := sfx_fresh) (hkeep := sfx_keeps) (hT := tail_writes) (hmain := hmain m Variants.none)
    (hA := fun _ _ => rfl) (hin := fun _ => .rfl) (hout := fun _ => .rfl)

/-- The call's arguments end as they were and every semaphore at zero. -/
theorem ends : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r h => ⟨fun c => ?_, h.2⟩) (run_frame m ρ)
  have rest : ∀ b : Ref Kernel3Ideal.sig .tc, b ∈ Pipeline.restRefs Kernel3Ideal.sig spec0 → b ∉ hostTail →
      r.2.mem ((c.tc : Thread nD τ).loc b) = V m c b := fun b h1 h2 => (h.1 c).2 b (Finset.mem_sdiff.mpr ⟨h1, h2⟩)
  exact ⟨(rest main_arg0 (Pipeline.mem_restRefs_of main_arg0 (by decide) (by decide)) (by decide)).trans (V_main_arg0 m c),
    (rest main_arg1 (Pipeline.mem_restRefs_of main_arg1 (by decide) (by decide)) (by decide)).trans (V_main_arg1 m c),
    (rest main_arg2 (Pipeline.mem_restRefs_of main_arg2 (by decide) (by decide)) (by decide)).trans (V_main_arg2 m c),
    (h.1.arr_in c 6 rfl).trans (V_main_arg3 m c),
    (rest main_arg4 (Pipeline.mem_restRefs_of main_arg4 (by decide) (by decide)) (by decide)).trans (V_main_arg4 m c),
    (rest main_arg5 (Pipeline.mem_restRefs_of main_arg5 (by decide) (by decide)) (by decide)).trans (V_main_arg5 m c),
    (rest main_arg6 (Pipeline.mem_restRefs_of main_arg6 (by decide) (by decide)) (by decide)).trans (V_main_arg6 m c),
    (h.1.arr_in c 9 rfl).trans (V_main_arg7 m c),
    (rest main_arg8 (Pipeline.mem_restRefs_of main_arg8 (by decide) (by decide)) (by decide)).trans (V_main_arg8 m c),
    (rest main_arg9 (Pipeline.mem_restRefs_of main_arg9 (by decide) (by decide)) (by decide)).trans (V_main_arg9 m c)⟩

end Cert.Mix

end
-- ==== Proof.MixSame.lean ====
/- The mixer's backward call: the frame of the program over the reals is the frame of the program over the bits, their
   texts being the same. -/
module

public import proofs.«01_k».proof.Defs
public import proofs.«01_k».proof.Proof.Gen.Kernel3
public import proofs.«01_k».proof.Proof.Gen.Kernel3Ideal
public import proofs.«01_k».proof.Proof.MixLaunch
public import Idealize.ShloMosaic.Lib.Tactic

@[expose] public section

noncomputable section

namespace Cert.MixFrame

open Idealize.ShloMosaic Idealize.SL.Sem

/-- The program printed for the bits runs, its arguments kept. -/
def Bitwise : Prop :=
  ∀ (m : (ℓ : Loc Cert.Kernel3.nD Cert.Kernel3.τ Cert.Kernel3.sig) → Buf (Elt Bits) ℓ) (g : Dev Cert.Kernel3.nD → PrngReg),
    θ_run (Cert.Kernel3.defs (F := Bits)) (onTc (τ := Cert.Kernel3.τ) (Cert.Kernel3.main (F := Bits))) ⟨m, fun _ => 0, g⟩
      (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

/-- The program printed for the reals does, over the bits. -/
def Real : Prop :=
  ∀ (m : (ℓ : Loc Cert.Kernel3Ideal.nD Cert.Kernel3Ideal.τ Cert.Kernel3Ideal.sig) → Buf (Elt Bits) ℓ) (g : Dev Cert.Kernel3Ideal.nD → PrngReg),
    θ_run (Cert.Kernel3Ideal.defs (F := Bits)) (onTc (τ := Cert.Kernel3Ideal.τ) (Cert.Kernel3Ideal.main (F := Bits))) ⟨m, fun _ => 0, g⟩
      (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

theorem same : Real = Bitwise := by sl_kernel_rfl

theorem bits : Bitwise := same ▸ fun m g => Cert.Mix.ends m g

end Cert.MixFrame

end
-- ==== Proof.MixReal.lean ====
/-
  The mixer's backward call over the reals: the row functions of its block, and the block's vector functions on
  blocks that hold reals.
-/
module

public import proofs.«01_k».proof.Proof.MixFns
public import proofs.«01_k».proof.Proof.Blocks
public import Idealize.ShloMosaic.Lib.Pipeline.ValueKit

@[expose] public section

noncomputable section

namespace Cert.Mix

open Idealize.ShloMosaic Idealize.ShloMosaic.TcCoe Idealize.SL.Sem
open Cert.Kernel3Ideal Rows

/-! ## Functions of one row of 512 entries -/

def rmean (f : ℕ → ℝ) : ℝ := (∑ k : Fin 512, f k.val) / 512
def rcen (a : ℕ → ℝ) (c : ℕ) : ℝ := a c - rmean a
def rvar (a : ℕ → ℝ) : ℝ := rmean (fun k => rcen a k * rcen a k)
def rinv (a : ℕ → ℝ) : ℝ := (Real.sqrt (rvar a + eps))⁻¹
def rnorm (a : ℕ → ℝ) (c : ℕ) : ℝ := rcen a c * rinv a
def rsig (x : ℝ) : ℝ := 1 / (1 + Real.exp (-x))
def rpre (a g b : ℕ → ℝ) (c : ℕ) : ℝ := rnorm a c * g c + b c
/-- The gradient through the SiLU. -/
def rdS (a d g b : ℕ → ℝ) (c : ℕ) : ℝ := d c * (rsig (rpre a g b c) * (1 + rpre a g b c * (1 - rsig (rpre a g b c))))
/-- The gradient through the LayerNorm. -/
def rdN (a d g : ℕ → ℝ) (c : ℕ) : ℝ :=
  rinv a * (d c * g c - rmean (fun k => d k * g k) - rnorm a c * rmean (fun k => d k * g k * rnorm a k))
def rE (a d g b : ℕ → ℝ) : ℕ → ℝ := rdN a (rdS a d g b) g

theorem rvar_pos (a : ℕ → ℝ) : 0 < rvar a + eps :=
  add_pos_of_nonneg_of_pos (div_nonneg (Finset.sum_nonneg fun _ _ => mul_self_nonneg _) (by norm_num)) eps_pos

theorem bits_zero : Ideal.ofBits .f32 0x00000000#32 = ((0 : ℝ) : EReal) := by
  simp [Ideal.ofBits, Ideal.ieee]
theorem bits_512 : Ideal.ofBits .f32 0x44000000#32 = ((512 : ℝ) : EReal) := by
  simp [Ideal.ofBits, Ideal.ieee, -EReal.coe_mul]; norm_num

/-! ## Blocks that hold reals -/

/-- The entries of `v` are the reals `R`, by row and column. -/
abbrev Is {m n : ℕ} (v : (⟨2, ![m, n]⟩ : Shape).Idx → EReal) (R : ℕ → ℕ → ℝ) : Prop :=
  ∀ (r : Fin m) (c : Fin n), v (ix2 r c) = ((R r.val c.val : ℝ) : EReal)

theorem is_mean {v : FVec Ideal S256x512 .f32} {R : ℕ → ℕ → ℝ} (h : Is v R) : Is (mean v) fun r _ => rmean (R r) := by
  intro r c
  pointwise [mean]
  simp only [h, bits_512, sum_coe, div_real (by norm_num : (512 : ℝ) ≠ 0), rmean]

theorem is_cen {v : FVec Ideal S256x512 .f32} {R : ℕ → ℕ → ℝ} (h : Is v R) : Is (subf v (col (mean v))) fun r => rcen (R r) := by
  intro r c
  have hm := is_mean h
  pointwise
  simp only [h, hm, ← EReal.coe_sub, rcen]

theorem is_inv {v : FVec Ideal S256x512 .f32} {R : ℕ → ℕ → ℝ} (h : Is v R) : Is (invStd v) fun r _ => rinv (R r) := by
  intro r c
  have hm := is_mean (v := mulf (subf v (col (mean v))) (subf v (col (mean v)))) (R := fun r k => rcen (R r) k * rcen (R r) k)
    (fun r c => by
      have hc := is_cen h r c
      show (subf v (col (mean v))) (ix2 r c) * (subf v (col (mean v))) (ix2 r c) = _
      rw [hc, ← EReal.coe_mul])
  unfold invStd
  pointwise
  simp only [hm, bits_eps, ← EReal.coe_add]
  exact rsqrt_real (rvar_pos _)

theorem is_norm {v : FVec Ideal S256x512 .f32} {R : ℕ → ℕ → ℝ} (h : Is v R) : Is (normed v) fun r => rnorm (R r) := by
  intro r c
  have hi := is_inv h
  have hc := is_cen h
  show (subf v (col (mean v))) (ix2 r c) * (col (invStd v)) (ix2 r c) = _
  rw [hc]
  pointwise
  simp only [hi, ← EReal.coe_mul, rnorm]

theorem exp_real (x : ℝ) : Ideal.exp (x : EReal) = ((Real.exp x : ℝ) : EReal) := rfl

theorem is_sig {v : FVec Ideal S256x512 .f32} {R : ℕ → ℕ → ℝ} (h : Is v R) : Is (sig v) fun r c => rsig (R r c) := by
  intro r c
  pointwise [sig]
  simp only [h, ← EReal.coe_one, ← EReal.coe_zero, ← EReal.coe_sub, exp_real, ← EReal.coe_add]
  rw [div_real (by positivity), zero_sub, rsig]

theorem is_dSilu {a d : FVec Ideal S256x512 .f32} {g b : FVec Ideal S1x512 .f32} {A D : ℕ → ℕ → ℝ} {G B : ℕ → ℝ} (ha : Is a A)
    (hd : Is d D) (hg : Is g fun _ => G) (hb : Is b fun _ => B) : Is (dSilu a d g b) fun r => rdS (A r) (D r) G B := by
  intro r c
  have hn := is_norm ha
  have hp : Is (addf (mulf (normed a) (row g)) (row b)) fun r => rpre (A r) G B := fun r c => by
    pointwise
    simp only [hn, hg, hb, ← EReal.coe_mul, ← EReal.coe_add, rpre]
  have hs := is_sig hp
  unfold dSilu
  simp only []
  generalize addf (mulf (normed a) (row g)) (row b) = p at hp hs
  pointwise
  simp only [hd, hs, hp, ← EReal.coe_one, ← EReal.coe_mul, ← EReal.coe_add, ← EReal.coe_sub, rdS]

theorem is_dNorm {a d : FVec Ideal S256x512 .f32} {g : FVec Ideal S1x512 .f32} {A D : ℕ → ℕ → ℝ} {G : ℕ → ℝ} (ha : Is a A)
    (hd : Is d D) (hg : Is g fun _ => G) : Is (dNorm a d g) fun r => rdN (A r) (D r) G := by
  intro r c
  have hn := is_norm ha
  have hi := is_inv ha
  have ht : Is (mulf d (row g)) fun r c => D r c * G c := fun r c => by
    pointwise
    simp only [hd, hg, ← EReal.coe_mul]
  unfold dNorm
  simp only []
  generalize mulf d (row g) = t at ht
  have hm := is_mean ht
  have hm' := is_mean (v := mulf t (normed a)) (R := fun r k => D r k * G k * rnorm (A r) k) fun r c => by
    pointwise
    simp only [ht, hn, ← EReal.coe_mul]
  generalize mean (mulf t (normed a)) = t' at hm'
  pointwise
  simp only [hi, ht, hm, hm', hn, ← EReal.coe_mul, ← EReal.coe_sub, rdN]

theorem is_glu {p q : FVec Ideal S256x512 .f32} {P Q : ℕ → ℕ → ℝ} (hp : Is p P) (hq : Is q Q) :
    Is (glu p q) fun r c => P r c * rsig (Q r c) := by
  intro r c
  have hs := is_sig hq
  pointwise [glu]
  simp only [hp, hs, ← EReal.coe_mul]

/-- The sum over the taps. -/
theorem is_taps {ew : ℕ → FVec Ideal S32x128 .f32 × Vec Ideal S1x128 .f32} {E : ℕ → ℕ → ℕ → ℝ} {W : ℕ → ℕ → ℝ} (n : ℕ)
    (he : ∀ s < n, Is (ew s).1 (E s)) (hw : ∀ s < n, Is (ew s).2 fun _ => W s) :
    Is (taps ew n) fun r c => ∑ s ∈ Finset.range n, E s r c * W s c := by
  induction n with
  | zero =>
    intro r c
    pointwise [taps]
    simp only [Finset.range_zero, Finset.sum_empty, EReal.coe_zero]
  | succ n ih =>
    intro r c
    have h := ih (fun s hs => he s (by omega)) (fun s hs => hw s (by omega))
    have h1 := he n (by omega)
    have h2 := hw n (by omega)
    simp only [Finset.sum_range_succ]
    pointwise [taps]
    simp only [h, h1, h2, ← EReal.coe_mul, ← EReal.coe_add]

/-- Rows against rows. -/
theorem is_dm {v w : FVec Ideal S256x1024 .bf16} {V W : ℕ → ℕ → ℝ} (hv : Is v V) (hw : Is w W) :
    Is (shapeCast S256x256 (matmul dot_S256x1024_S256x1024_S256x256_1_1_0_0_n_n none
      (shapeCast S256x1024 v Gen.shapeCasts_S256x1024_S256x1024) (shapeCast S256x1024 w Gen.shapeCasts_S256x1024_S256x1024)
      (constant S256x256 .f32 0x00000000#32)) Gen.shapeCasts_S256x256_S256x256)
      fun r c => ∑ k : Fin 1024, V r k.val * W c k.val := by
  intro r c
  pointwise
  simp only [hv, hw, ← EReal.coe_mul, sum_coe, zero_add]

end Cert.Mix

end
-- ==== Proof.MixHold.lean ====
/-
  The mixer's backward call over the reals: loads and stores of buffers that hold reals, and what one block's
  buffers are to hold.
-/
module

public import proofs.«01_k».proof.Proof.MixReal
public import proofs.«01_k».proof.Proof.MixCode

@[expose] public section

noncomputable section

namespace Cert.Mix

open Idealize.ShloMosaic Idealize.ShloMosaic.TcCoe Idealize.SL.Sem
open Cert.Kernel3Ideal Cert.Steps Rows

/-! ## Loads and stores -/

section
variable {m n p q : ℕ}

/-- The entries of `v` in `P` are the reals `R`. -/
def On (P : ℕ → ℕ → Prop) (v : (⟨2, ![m, n]⟩ : Shape).Idx → EReal) (R : ℕ → ℕ → ℝ) : Prop :=
  ∀ (r : Fin m) (c : Fin n), P r.val c.val → v (ix2 r c) = ((R r.val c.val : ℝ) : EReal)

theorem on_none (v : (⟨2, ![m, n]⟩ : Shape).Idx → EReal) (R : ℕ → ℕ → ℝ) : On (fun _ _ => False) v R := fun _ _ h => h.elim

theorem is_window {P : ℕ → ℕ → Prop} {v : (⟨2, ![m, n]⟩ : Shape).Idx → EReal} {R : ℕ → ℕ → ℝ} (h : On P v R) {a b : ℕ}
    (inb : ∀ x, (![a, b] : Fin 2 → ℕ) x + (![p, q] : Fin 2 → ℕ) x ≤ (⟨2, ![m, n]⟩ : Shape).size x)
    (hP : ∀ r < p, ∀ c < q, P (a + r) (b + c)) :
    Is (m := p) (n := q) (VecWindow.window v ![a, b] ![p, q] inb) fun r c => R (a + r) (b + c) := by
  intro r c
  have h0 : a + p ≤ m := inb 0
  have h1 : b + q ≤ n := inb 1
  refine (congrArg v (funext fun i => Fin.ext ?_)).trans (h ⟨a + r.val, by omega⟩ ⟨b + c.val, by omega⟩ (hP _ r.isLt _ c.isLt))
  match i with
  | 0 => exact congrArg (a + ·) (Nat.one_mul _)
  | 1 => exact congrArg (b + ·) (Nat.one_mul _)

theorem on_of_is {v : (⟨2, ![m, n]⟩ : Shape).Idx → EReal} {R : ℕ → ℕ → ℝ} (h : Is v R) : On (fun _ _ => True) v R := fun r c _ => h r c

/-- A load out of a block that holds reals. -/
theorem is_ld {v : (⟨2, ![m, n]⟩ : Shape).Idx → EReal} {R : ℕ → ℕ → ℝ} (h : Is v R) {a b : ℕ}
    (inb : ∀ x, (![a, b] : Fin 2 → ℕ) x + (![p, q] : Fin 2 → ℕ) x ≤ (⟨2, ![m, n]⟩ : Shape).size x) :
    Is (m := p) (n := q) (VecWindow.window v ![a, b] ![p, q] inb) fun r c => R (a + r) (b + c) :=
  is_window (on_of_is h) inb fun _ _ _ _ => trivial

/-- A load of a whole block. -/
theorem is_all {v : (⟨2, ![m, n]⟩ : Shape).Idx → EReal} {R : ℕ → ℕ → ℝ} (h : Is v R)
    (inb : ∀ x, (![0, 0] : Fin 2 → ℕ) x + (![m, n] : Fin 2 → ℕ) x ≤ (⟨2, ![m, n]⟩ : Shape).size x) :
    Is (m := m) (n := n) (VecWindow.window v ![0, 0] ![m, n] inb) R := fun r c =>
  (is_ld h inb r c).trans (by simp only [Nat.zero_add])

/-- A store of the reals that its part of the block is to hold. -/
theorem on_put {P P' : ℕ → ℕ → Prop} {v : (⟨2, ![m, n]⟩ : Shape).Idx → EReal} {w : (⟨2, ![p, q]⟩ : Shape).Idx → EReal} {R R' : ℕ → ℕ → ℝ}
    {a b : ℕ} (hv : On P v R') (hw : Is w fun r c => R (a + r) (b + c))
    (h : ∀ i j, i < m → j < n → P' i j → (a ≤ i ∧ i < a + p ∧ b ≤ j ∧ j < b + q) ∨ (P i j ∧ R' i j = R i j)) :
    On P' (VecWindow.put v ![a, b] ![p, q] w) R := by
  intro i j hij
  unfold VecWindow.put
  by_cases hin : ∀ x, (![a, b] : Fin 2 → ℕ) x ≤ ((ix2 i j : (⟨2, ![m, n]⟩ : Shape).Idx) x).val
      ∧ ((ix2 i j : (⟨2, ![m, n]⟩ : Shape).Idx) x).val < (![a, b] : Fin 2 → ℕ) x + (![p, q] : Fin 2 → ℕ) x
  · rw [dif_pos hin]
    have h0 : a ≤ i.val ∧ i.val < a + p := hin 0
    have h1 : b ≤ j.val ∧ j.val < b + q := hin 1
    refine (congrArg w (funext fun x => Fin.ext ?_)).trans ((hw ⟨i.val - a, by omega⟩ ⟨j.val - b, by omega⟩).trans ?_)
    · match x with
      | 0 => rfl
      | 1 => rfl
    · simp only [Nat.add_sub_cancel' h0.1, Nat.add_sub_cancel' h1.1]
  · rw [dif_neg hin]
    rcases h _ _ i.isLt j.isLt hij with h' | h'
    · exact absurd (Fin.forall_fin_two.2 ⟨⟨h'.1, h'.2.1⟩, h'.2.2⟩) hin
    · rw [hv i j h'.1, h'.2]

/-- A store of a whole block. -/
theorem is_put {v w : (⟨2, ![m, n]⟩ : Shape).Idx → EReal} {R : ℕ → ℕ → ℝ} (hw : Is w R) :
    Is (VecWindow.put v ![0, 0] ![m, n] w) R := fun i j =>
  on_put (P' := fun i j => i < m ∧ j < n) (on_none v R) (fun r c => (hw r c).trans (by simp only [Nat.zero_add]))
    (fun i j _ _ h => .inl (by omega)) i j ⟨i.isLt, j.isLt⟩

theorem is_of_on {P : ℕ → ℕ → Prop} {v : (⟨2, ![m, n]⟩ : Shape).Idx → EReal} {R : ℕ → ℕ → ℝ} (h : On P v R)
    (hP : ∀ i < m, ∀ j < n, P i j) : Is v R := fun r c => h r c (hP _ r.isLt _ c.isLt)

end

/-! ## One block -/

/-- What one block's point is handed: the mixers' gradient, the saved rows, the weights, the next block's incoming
    gradient, the rows carried from the later block, whether they count, and the small gradients' sums so far; then of the
    later block its result, the weights, the norm's argument, the gradient past the norm, the scale, the shift's and the
    scale's sums so far, and whether these start over. -/
structure Blk where
  d : ℕ → ℕ → ℝ
  a : ℕ → ℕ → ℝ
  q : ℕ → ℕ → ℝ
  p : ℕ → ℕ → ℝ
  w : ℕ → ℕ → ℝ
  g : ℕ → ℝ
  b : ℕ → ℝ
  sc : ℕ → ℕ → ℝ
  y : ℕ → ℕ → ℝ
  wo : ℕ → ℕ → ℝ
  ce : ℕ → ℕ → ℝ
  cu : ℕ → ℕ → ℝ
  k : ℝ
  sg : ℕ → ℕ → ℝ
  dp : ℕ → ℕ → ℝ
  wi : ℕ → ℕ → ℝ
  x : ℕ → ℕ → ℝ
  dx : ℕ → ℕ → ℝ
  sm : ℕ → ℝ
  ds : ℕ → ℕ → ℝ
  dc : ℕ → ℕ → ℝ
  fr : Bool

namespace Blk
variable (B : Blk)

/-- The gradient at the convolution's result. -/
def e (r c : ℕ) : ℝ := rE (B.a r) (B.d r) B.g B.b c
/-- The gradient at the short convolution's result. -/
def u (r c : ℕ) : ℝ := B.d r (512 + c) * B.p r (1024 + c)
/-- The same, followed by the carried rows. -/
def xe (r c : ℕ) : ℝ := if r < 256 then B.e r c else if r < 288 then B.ce (r - 256) c * B.k else 0
def xu (r c : ℕ) : ℝ := if r < 256 then B.u r c else B.cu (r - 256) c * B.k
def a0 (r c : ℕ) : ℝ := B.p r c * rsig (B.p r (512 + c))
/-- The gradients at the convolutions' arguments. -/
def da (r c : ℕ) : ℝ := ∑ s ∈ Finset.range 31, B.xe (r + s) c * B.w (30 - s) c
def dd (r c : ℕ) : ℝ := B.xu (2 + r) c * B.sc 0 c + B.xu (1 + r) c * B.sc 1 c + B.xu (0 + r) c * B.sc 2 c
/-- The gradient at the projection's result. -/
def out (r c : ℕ) : ℝ :=
  if c < 512 then B.da r c * rsig (B.p r (512 + c))
  else if c < 1024 then B.da r (c - 512) * B.a0 r (c - 512) * (1 - rsig (B.p r c))
  else if c < 1536 then B.d r (512 + (c - 1024)) * B.q r (c - 1024)
  else if c < 2048 then B.dd r (c - 1536) * B.p r (2048 + (c - 1536))
  else B.dd r (c - 2048) * B.p r (1536 + (c - 2048))
/-- The gradient at the SiLU's argument. -/
def dS (r c : ℕ) : ℝ := rdS (B.a r) (B.d r) B.g B.b c
/-- Row `r`'s part of the small gradient numbered `j`: the long convolution's taps, its bias, the LayerNorm's gain and
    bias, the short convolution's taps. -/
def term (j r c : ℕ) : ℝ :=
  if j < 31 then B.xe (r + (30 - j)) c * B.a0 r c
  else if j < 32 then B.e r c
  else if j < 33 then B.dS r c * rnorm (B.a r) c
  else if j < 34 then B.dS r c
  else B.p r (1536 + c) * B.p r (2048 + c) * B.xu (36 - j + r) c
/-- What the block adds to the small gradients' sums. -/
def add (r c : ℕ) : ℝ := ∑ i ∈ Finset.range 32, B.term (r / 8) (8 * i + r % 8) c
/-- The next block's mixers' gradient. -/
def nd (r c : ℕ) : ℝ := ∑ j : Fin 1024, B.y r j.val * B.wo c j.val

end Blk

/-- What every buffer holds. -/
abbrev StI := (b : Name) → b.shp.Idx → Elt Ideal b.elt

variable (B : Blk)

/-- The arguments' blocks hold what they are to. -/
structure Ins (s : StI) : Prop where
  a : Is (m := 256) (n := 512) (s .a1) B.a
  q : Is (m := 256) (n := 512) (s .q) B.q
  p : Is (m := 256) (n := 2560) (s .proj) B.p
  w : Is (m := 31) (n := 512) (s .wb) B.w
  g : Is (m := 1) (n := 512) (s .lng) fun _ => B.g
  b : Is (m := 1) (n := 512) (s .lnb) fun _ => B.b
  sc : Is (m := 3) (n := 512) (s .scw) B.sc
  y : Is (m := 256) (n := 1024) (s .dy) B.y
  wo : Is (m := 1024) (n := 1024) (s .wo) B.wo

/-- What a point finds. -/
structure Start (s : StI) : Prop extends Ins B s where
  d : Is (m := 256) (n := 1024) (s .dm) B.d
  ce : Is (m := 32) (n := 512) (s .cda) B.ce
  cu : Is (m := 8) (n := 512) (s .cdq) B.cu
  sg : Is (m := 296) (n := 512) (s .sg) B.sg

/-- What stays from the head on. -/
structure Fix (s : StI) : Prop extends Ins B s where
  a0 : Is (m := 256) (n := 512) (s .a0) B.a0
  xe : Is (m := 296) (n := 512) (s .extd) B.xe
  xu : Is (m := 264) (n := 512) (s .extq) B.xu
  ce : Is (m := 32) (n := 512) (s .cda) B.e
  cu : Is (m := 8) (n := 512) (s .cdq) B.u

/-- The shifted rows of the first `n` column groups. -/
def Ed (n : ℕ) (s : StI) : Prop := ∀ (g : Fin 4) (r : Fin 8) (i : Fin 296) (c : Fin 128), g.val < n → i.val < 288 →
  (s .ed : S4x8x296x128.Idx → EReal) (ix4 g r i c) = ((B.xe (r.val + i.val) (128 * g.val + c.val) : ℝ) : EReal)
/-- The convolution's gradient, its first `n` pieces. -/
def Da (n : ℕ) (s : StI) : Prop := On (m := 256) (n := 512) (fun r c => 8 * (c / 128) + r / 32 < n) (s .da0) B.da
/-- The next block's gradient, its first `n` column groups. -/
def Dm (n : ℕ) (s : StI) : Prop := On (m := 256) (n := 1024) (fun _ c => c < 256 * n) (s .dm) B.nd
/-- The result's columns from `l` to `h`. -/
def Dp (l h : ℕ) (s : StI) : Prop := On (m := 256) (n := 2560) (fun _ c => l ≤ c ∧ c < h) (s .dproj) B.out

open Classical in
/-- The sums, of which the entries in `P` have the block's part. -/
def Sg (P : ℕ → ℕ → Prop) (s : StI) : Prop :=
  Is (m := 296) (n := 512) (s .sg) fun r c => B.sg r c + if P r c then B.add r c else 0
/-- The taps' parts of a column group, from its first `n` strips of rows. -/
def Sofar (g n : ℕ) (p : ℕ → S8x128.Idx → EReal) : Prop := ∀ t < 31, Is (m := 8) (n := 128) (p t) fun r c =>
  ∑ j ∈ Finset.range (4 * n), B.xe (8 * j + r + t) (128 * g + c) * B.a0 (8 * j + r) (128 * g + c)

def isIn : Name → Bool
  | .a1 | .q | .proj | .wb | .lng | .lnb | .scw | .dy | .wo => true
  | _ => false
def isFix : Name → Bool
  | .a0 | .extd | .extq | .cda | .cdq => true
  | b => isIn b

variable {B}

theorem Ins.of_eq {s s' : StI} (h : Ins B s) (e : ∀ b, isIn b = true → s' b = s b) : Ins B s' where
  a := e .a1 rfl ▸ h.a
  q := e .q rfl ▸ h.q
  p := e .proj rfl ▸ h.p
  w := e .wb rfl ▸ h.w
  g := e .lng rfl ▸ h.g
  b := e .lnb rfl ▸ h.b
  sc := e .scw rfl ▸ h.sc
  y := e .dy rfl ▸ h.y
  wo := e .wo rfl ▸ h.wo

theorem Fix.of_eq {s s' : StI} (h : Fix B s) (e : ∀ b, isFix b = true → s' b = s b) : Fix B s' where
  toIns := h.toIns.of_eq fun b hb => e b (by cases b <;> first | rfl | exact hb)
  a0 := e .a0 rfl ▸ h.a0
  xe := e .extd rfl ▸ h.xe
  xu := e .extq rfl ▸ h.xu
  ce := e .cda rfl ▸ h.ce
  cu := e .cdq rfl ▸ h.cu

end Cert.Mix

end
-- ==== Proof.MixUnits.lean ====
/-
  The mixer's backward call over the reals: each part of one block's program.
-/
module

public import proofs.«01_k».proof.Proof.MixHold

@[expose] public section

set_option maxRecDepth 16384

noncomputable section

namespace Cert.Mix

open Idealize.ShloMosaic Idealize.ShloMosaic.TcCoe Idealize.SL.Sem
open Cert.Kernel3Ideal Cert.Steps Rows

variable {A : Args} {B : Blk}

/-! ## What a part stores into -/

section
variable {F : FTy → Type} [FloatOps F] {W : Name → Bool}

/-- The program stores into the buffers of `W` only. -/
structure In (W : Name → Bool) {α : Type} (p : C A F α) : Prop where
  within : Within (M := bufs A) W p

theorem in_pure {α : Type} (a : α) : In (A := A) (F := F) W (pure a) := ⟨trivial⟩

theorem within_bind {α β : Type} {p : C A F α} {k : α → C A F β} (hp : Within (M := bufs A) W p) (hk : ∀ x, Within (M := bufs A) W (k x)) :
    Within (M := bufs A) W (p >>= k) := by
  induction p with
  | ret a => exact hk a
  | op e c ih =>
    cases e with
    | load b off size inb hl => exact fun x => ih x (hp x)
    | store b off size inb w hs => exact ⟨hp.1, ih ⟨⟩ hp.2⟩

theorem in_bind {α β : Type} {p : C A F α} {k : α → C A F β} (hp : In W p) (hk : ∀ x, In W (k x)) : In W (p >>= k) :=
  ⟨within_bind hp.within fun x => (hk x).within⟩

theorem in_ld (b : Name) (off size : Fin b.shp.rank → ℕ) (inb : ∀ a, off a + size a ≤ b.shp.size a)
    (pos : 0 < Shape.numel ⟨b.shp.rank, size⟩) : In W (ld (F := F) A b off size inb pos) := ⟨fun _ => trivial⟩

theorem in_st {b : Name} (hb : W b = true) (off size : Fin b.shp.rank → ℕ) (inb : ∀ a, off a + size a ≤ b.shp.size a)
    (pos : 0 < Shape.numel ⟨b.shp.rank, size⟩) (he : b.elt.bits = 32) (w : Shape.Idx ⟨b.shp.rank, size⟩ → Elt F b.elt) :
    In W (st (F := F) A b off size inb pos he w) := ⟨fun _ => ⟨hb, trivial⟩⟩

theorem in_sth {b : Name} (hb : W b = true) (off size : Fin b.shp.rank → ℕ) (inb : ∀ a, off a + size a ≤ b.shp.size a)
    (pos : 0 < Shape.numel ⟨b.shp.rank, size⟩) (hp : (Rect.unit (s := b.shp) off size inb).PackedRows b.elt.packing)
    (w : Shape.Idx ⟨b.shp.rank, size⟩ → Elt F b.elt) :
    In W (sth (F := F) A b off size inb pos hp w) := ⟨fun _ => ⟨hb, trivial⟩⟩

theorem in_loop {N : ℕ} {f : Fin N → C A F PUnit} (hf : ∀ k, In W (f k)) : ∀ (n k : ℕ) (h : k + n = N), In W (loop A f n k h)
  | 0, _, _ => in_pure _
  | n + 1, _, _ => in_bind (hf _) fun _ => in_loop hf n _ _

theorem in_each {N : ℕ} {α : Type} (junk : α) {f : Fin N → C A F α} (hf : ∀ k, In W (f k)) :
    ∀ (n k : ℕ) (h : k + n = N), In W (each A junk f n k h)
  | 0, _, _ => in_pure _
  | n + 1, _, _ => in_bind (hf _) fun _ => in_bind (in_each junk hf n _ _) fun _ => in_pure _

end

def only (b : Name) : Name → Bool := fun b' => decide (b' = b)

theorem in_addSg {W : Name → Bool} (hW : W .sg = true) (r c w : ℕ) (hr : r + 8 ≤ 296) (hc : c + w ≤ 512) (pos : 0 < Shape.numel ⟨2, ![8, w]⟩)
    (hcast : Shape.ShapeCasts ⟨2, ![8, w]⟩ ⟨2, ![8, w]⟩) (v : FVec Ideal ⟨2, ![8, w]⟩ .f32) :
    In W (addSg A r c w hr hc pos hcast v) := in_bind (in_ld ..) fun _ => in_st hW ..

theorem in_dm (j : Fin 4) : In (only .dm) (dmChunk (F := Ideal) A .dy (.inr rfl) j) :=
  in_bind (in_ld ..) fun _ => in_bind (in_ld ..) fun _ => in_st rfl ..

/-- One row offset of `shift`. -/
def shiftRow (A : Args) (g : Fin 4) (r : Fin 8) : C A Ideal PUnit := do
  let v : FVec Ideal S288x128 .f32 ← ld A .extd ![r.val, 128 * g.val] S288x128.size (in2 (by omega) (by omega)) Gen.h_S288x128
  st A .ed ![g.val, r.val, 0, 0] S1x1x288x128.size (in4 (by omega) (by omega) (by decide) (by decide)) Gen.h_S1x1x288x128 rfl
    (shapeCast S1x1x288x128 v Gen.shapeCasts_S288x128_S1x1x288x128)

theorem shift_eq (g : Fin 4) : shift (F := Ideal) A g = loop A (shiftRow A g) 8 0 rfl := rfl

/-- What one tap of `conv` reads. -/
def tapRow (A : Args) (g : Fin 4) (i : Fin 8) (s : Fin 31) : C A Ideal (FVec Ideal S32x128 .f32 × FVec Ideal S1x128 .f32) := do
  let e : FVec Ideal S1x1x32x128 .f32 ← ld A .ed ![g.val, s.val % 8, 32 * i.val + 8 * (s.val / 8), 0] S1x1x32x128.size
    (in4 (by omega) (by omega) (by omega) (by decide)) Gen.h_S1x1x32x128
  let w : FVec Ideal S1x128 .f32 ← ld A .wb ![30 - s.val, 128 * g.val] S1x128.size (in2 (by omega) (by omega)) Gen.h_S1x128
  pure (shapeCast S32x128 e Gen.shapeCasts_S1x1x32x128_S32x128, w)

/-- What `conv` does with what the taps read. -/
def convEnd (A : Args) (g : Fin 4) (i : Fin 8) (a : FVec Ideal S32x128 .f32) (ew : ℕ → FVec Ideal S32x128 .f32 × FVec Ideal S1x128 .f32) :
    C A Ideal (ℕ → FVec Ideal S8x128 .f32) := do
  st A .da0 ![32 * i.val, 128 * g.val] S32x128.size (in2 (by omega) (by omega)) Gen.h_S32x128 rfl
    (shapeCast S32x128 (taps ew 31) Gen.shapeCasts_S32x128_S32x128)
  pure fun s => rows8C (mulf (ew s).1 a)

theorem conv_eq (g : Fin 4) (i : Fin 8) : conv (F := Ideal) A g i
    = (ld A .a0 ![32 * i.val, 128 * g.val] S32x128.size (in2 (by omega) (by omega)) Gen.h_S32x128 >>= fun a =>
      each A (zero S32x128, zero S1x128) (tapRow A g i) 31 0 rfl >>= fun ew => convEnd A g i a ew) := rfl

theorem in_shiftRow (g : Fin 4) (r : Fin 8) : In (only .ed) (shiftRow A g r) := in_bind (in_ld ..) fun _ => in_st rfl ..

theorem in_shift (g : Fin 4) : In (only .ed) (shift (F := Ideal) A g) := by
  rw [shift_eq]
  exact in_loop (in_shiftRow g) _ _ _

theorem in_tapRow {W : Name → Bool} (g : Fin 4) (i : Fin 8) (s : Fin 31) : In W (tapRow A g i s) :=
  in_bind (in_ld ..) fun _ => in_bind (in_ld ..) fun _ => in_pure _

theorem in_taps {W : Name → Bool} (g : Fin 4) (i : Fin 8) (n k : ℕ) (h : k + n = 31) :
    In W (each A (zero S32x128, zero S1x128) (tapRow A g i) n k h) := in_each _ (in_tapRow g i) _ _ _

theorem in_convEnd (g : Fin 4) (i : Fin 8) (a : FVec Ideal S32x128 .f32) (ew : ℕ → FVec Ideal S32x128 .f32 × FVec Ideal S1x128 .f32) :
    In (only .da0) (convEnd A g i a ew) := in_bind (in_st rfl ..) fun _ => in_pure _

theorem in_conv (g : Fin 4) (i : Fin 8) : In (only .da0) (conv (F := Ideal) A g i) := by
  rw [conv_eq]
  exact in_bind (in_ld ..) fun _ => in_bind (in_taps g i 31 0 rfl) fun _ => in_convEnd g i _ _

theorem in_emit : In (only .dproj) (emit (F := Ideal) A) := by
  unfold emit ldProj
  refine in_bind (in_ld ..) fun _ => in_bind (in_bind (in_ld ..) fun _ => in_pure _) fun _ => in_bind (in_sth rfl ..) fun _ => ?_
  exact in_bind (in_ld ..) fun _ => in_sth rfl ..

def projSum : Name → Bool
  | .sg | .dproj => true
  | _ => false

theorem in_tap (v : FVec Ideal S256x512 .f32) (k : Fin 3) : In projSum (shortTap A v k) := by
  unfold shortTap
  exact in_bind (in_ld ..) fun _ => in_bind (in_ld ..) fun _ => in_bind (in_addSg rfl ..) fun _ => in_pure _

theorem in_short : In projSum (short (F := Ideal) A) := by
  unfold short ldProj
  refine in_bind (in_bind (in_ld ..) fun _ => in_pure _) fun _ => in_bind (in_bind (in_ld ..) fun _ => in_pure _) fun _ => ?_
  refine in_bind (in_tap ..) fun _ => in_bind (in_tap ..) fun _ => in_bind (in_tap ..) fun _ => ?_
  exact in_bind (in_sth rfl ..) fun _ => in_sth rfl ..

theorem in_carry : In (only .dp) (carry (F := Ideal) A) := in_bind (in_ld ..) fun _ => in_sth rfl ..

/-- The buffers the head stores into. -/
def ofHead : Name → Bool
  | .sg | .a0 | .extd | .cda | .dproj | .extq | .cdq => true
  | _ => false

theorem in_head (k : EReal) : In ofHead (head (F := Ideal) A k) := by
  unfold head ldRow ldProj
  refine in_bind (in_bind (in_ld ..) fun _ => in_pure _) fun _ => in_bind (in_bind (in_ld ..) fun _ => in_pure _) fun _ => ?_
  refine in_bind (in_ld ..) fun _ => in_bind (in_ld ..) fun _ => ?_
  refine in_bind (in_addSg rfl ..) fun _ => in_bind (in_addSg rfl ..) fun _ => in_bind (in_addSg rfl ..) fun _ => ?_
  refine in_bind (in_bind (in_ld ..) fun _ => in_pure _) fun _ => in_bind (in_bind (in_ld ..) fun _ => in_pure _) fun _ => ?_
  refine in_bind (in_st rfl ..) fun _ => in_bind (in_st rfl ..) fun _ => in_bind (in_ld ..) fun _ => in_bind (in_st rfl ..) fun _ => ?_
  refine in_bind (in_st rfl ..) fun _ => in_bind (in_st rfl ..) fun _ => in_bind (in_ld ..) fun _ => in_bind (in_ld ..) fun _ => ?_
  refine in_bind (in_sth rfl ..) fun _ => in_bind (in_bind (in_ld ..) fun _ => in_pure _) fun _ => in_bind (in_st rfl ..) fun _ => ?_
  exact in_bind (in_ld ..) fun _ => in_bind (in_st rfl ..) fun _ => in_st rfl ..

theorem kept {W : Name → Bool} {α : Type} {p : C A Ideal α} (h : In W p) (s : StI) (b : Name) (hb : W b = false) : (run p s).2 b = s b :=
  run_of_within (M := bufs A) p h.within s b hb

theorem run_pure {α : Type} (a : α) (s : StI) : run (M := bufs A) (Val := Elt Ideal) (pure a) s = (a, s) := rfl

/-! ## The head -/

section
variable {k : EReal} {s : StI}

theorem is_e (h : Start B s) : Is (dNorm (F := Ideal) (VecWindow.window (s .a1) ![0, 0] ![256, 512] (in2 (by decide) (by decide)))
    (dSilu (F := Ideal) (VecWindow.window (s .a1) ![0, 0] ![256, 512] (in2 (by decide) (by decide)))
      (VecWindow.window (s .dm) ![0, 0] ![256, 512] (in2 (by decide) (by decide)))
      (VecWindow.window (s .lng) ![0, 0] ![1, 512] (in2 (by decide) (by decide)))
      (VecWindow.window (s .lnb) ![0, 0] ![1, 512] (in2 (by decide) (by decide))))
    (VecWindow.window (s .lng) ![0, 0] ![1, 512] (in2 (by decide) (by decide)))) B.e := by
  have ha := is_all h.a (in2 (by decide) (by decide))
  have hd : Is (m := 256) (n := 512) (VecWindow.window (s .dm) ![0, 0] ![256, 512] (in2 (by decide) (by decide))) B.d := fun r c =>
    (is_ld h.d (in2 (by decide) (by decide)) r c).trans (by simp only [Nat.zero_add])
  have hg := is_all h.g (in2 (by decide) (by decide))
  have hb := is_all h.b (in2 (by decide) (by decide))
  exact is_dNorm ha (is_dSilu ha hd hg hb) hg

theorem is_u (h : Start B s) : Is (mulf (F := Ideal) (φ := .f32) (VecWindow.window (s .dm) ![0, 512] ![256, 512] (in2 (by decide) (by decide)))
    (VecWindow.window (s .proj) ![0, 1024] ![256, 512] (in2 (by decide) (by decide)))) B.u := fun r c => by
  have hd := is_ld (a := 0) (b := 512) (p := 256) (q := 512) h.d (in2 (by decide) (by decide))
  have hp := is_ld (a := 0) (b := 1024) (p := 256) (q := 512) h.p (in2 (by decide) (by decide))
  refine (congrArg₂ (· * ·) (hd r c) (hp r c)).trans ?_
  simp only [← EReal.coe_mul, Nat.zero_add, Blk.u]

theorem head_fix (h : Start B s) (hk : k = ((B.k : ℝ) : EReal)) : Fix B (run (head (F := Ideal) A k) s).2 where
  toIns := h.toIns.of_eq fun b hb => kept (in_head k) s b (by cases b <;> first | rfl | exact absurd hb (by decide))
  a0 := by
    simp only [head, addSg, ldRow, ldProj, ld, st, sth, run_bind, run, run_pure, Act.run, Function.update_self, Function.update_of_ne, ne_eq,
      reduceCtorEq, not_false_eq_true, shapeCast_id]
    refine is_put (is_glu (fun r c => (is_ld h.p (in2 (by decide) (by decide)) r c).trans ?_)
      fun r c => (is_ld h.p (in2 (by decide) (by decide)) r c).trans ?_) <;> simp only [Nat.zero_add]
  xe := by
    simp only [head, addSg, ldRow, ldProj, ld, st, sth, run_bind, run, run_pure, Act.run, Function.update_self, Function.update_of_ne, ne_eq,
      reduceCtorEq, not_false_eq_true, shapeCast_id]
    have he := is_e h
    have hc := is_all h.ce (in2 (by decide) (by decide))
    generalize dNorm (F := Ideal) _ _ _ = e at he ⊢
    have h1 : On (fun i j => i < 256 ∧ j < 512) (VecWindow.put (s .extd) ![0, 0] ![256, 512] e) B.xe :=
      on_put (on_none _ B.xe) (fun r c => (he r c).trans (by simp only [Nat.zero_add, Blk.xe, if_pos r.isLt])) fun i j _ _ hij => .inl (by omega)
    have h2 := on_put (p := 32) (q := 512) (a := 256) (b := 0) (w := mulf (F := Ideal) (φ := .f32) (VecWindow.window (s .cda) ![0, 0] ![32, 512]
        (in2 (by decide) (by decide))) (broadcast S32x512 k)) (P' := fun i j => i < 288 ∧ j < 512) (R := B.xe) h1 (fun r c => by
        have hr : ¬ 256 + r.val < 256 := by omega
        have hr' : 256 + r.val < 288 := by omega
        pointwise
        rw [hc r c, hk]
        simp only [← EReal.coe_mul, Nat.zero_add, Blk.xe, if_neg hr, if_pos hr', Nat.add_sub_cancel_left])
      fun i j _ _ hij => by by_cases hi : i < 256; exacts [.inr ⟨⟨hi, hij.2⟩, rfl⟩, .inl (by omega)]
    refine is_of_on (P := fun i j => i < 296 ∧ j < 512) (on_put h2 (fun r c => ?_)
      fun i j _ _ hij => by by_cases hi : i < 288; exacts [.inr ⟨⟨hi, hij.2⟩, rfl⟩, .inl (by omega)]) fun i hi j hj => ⟨hi, hj⟩
    have hr : ¬ 288 + r.val < 256 := by omega
    have hr' : ¬ 288 + r.val < 288 := by omega
    pointwise
    simp only [Blk.xe, if_neg hr, if_neg hr', EReal.coe_zero]
  xu := by
    simp only [head, addSg, ldRow, ldProj, ld, st, sth, run_bind, run, run_pure, Act.run, Function.update_self, Function.update_of_ne, ne_eq,
      reduceCtorEq, not_false_eq_true, shapeCast_id]
    have he := is_u h
    have hc := is_all h.cu (in2 (by decide) (by decide))
    generalize mulf (F := Ideal) (φ := .f32) (VecWindow.window (s .dm) _ _ _) _ = e at he ⊢
    have h1 : On (fun i j => i < 256 ∧ j < 512) (VecWindow.put (s .extq) ![0, 0] ![256, 512] e) B.xu :=
      on_put (on_none _ B.xu) (fun r c => (he r c).trans (by simp only [Nat.zero_add, Blk.xu, if_pos r.isLt])) fun i j _ _ hij => .inl (by omega)
    refine is_of_on (P := fun i j => i < 264 ∧ j < 512) (on_put h1 (fun r c => ?_)
      fun i j _ _ hij => by by_cases hi : i < 256; exacts [.inr ⟨⟨hi, hij.2⟩, rfl⟩, .inl (by omega)]) fun i hi j hj => ⟨hi, hj⟩
    have hr : ¬ 256 + r.val < 256 := by omega
    pointwise
    rw [hc r c, hk]
    simp only [← EReal.coe_mul, Nat.zero_add, Blk.xu, if_neg hr, Nat.add_sub_cancel_left]
  ce := by
    simp only [head, addSg, ldRow, ldProj, ld, st, sth, run_bind, run, run_pure, Act.run, Function.update_self, Function.update_of_ne, ne_eq,
      reduceCtorEq, not_false_eq_true, shapeCast_id]
    have he := is_e h
    generalize dNorm (F := Ideal) _ _ _ = e at he ⊢
    refine is_put fun r c => ?_
    pointwise
    exact (he _ _).trans (by simp only [Nat.zero_add])
  cu := by
    simp only [head, addSg, ldRow, ldProj, ld, st, sth, run_bind, run, run_pure, Act.run, Function.update_self, Function.update_of_ne, ne_eq,
      reduceCtorEq, not_false_eq_true, shapeCast_id]
    have he := is_u h
    generalize mulf (F := Ideal) (φ := .f32) (VecWindow.window (s .dm) _ _ _) _ = e at he ⊢
    refine is_put fun r c => ?_
    pointwise
    exact (he _ _).trans (by simp only [Nat.zero_add])

theorem head_dp (h : Start B s) : Dp B 1024 1536 (run (head (F := Ideal) A k) s).2 := by
  unfold Dp
  simp only [head, addSg, ldRow, ldProj, ld, st, sth, run_bind, run, run_pure, Act.run, Function.update_self, Function.update_of_ne, ne_eq,
      reduceCtorEq, not_false_eq_true, shapeCast_id]
  refine on_put (on_none _ B.out) (fun r c => ?_) fun i j _ _ hij => .inl (by omega)
  · have hd := is_ld (a := 0) (b := 512) (p := 256) (q := 512) h.d (in2 (by decide) (by decide))
    have hq := is_all h.q (in2 (by decide) (by decide))
    have h1 : ¬ 1024 + c.val < 512 := by omega
    have h2 : ¬ 1024 + c.val < 1024 := by omega
    have h3 : 1024 + c.val < 1536 := by omega
    pointwise
    refine (congrArg₂ (· * ·) (hd r c) (hq r c)).trans ?_
    simp only [← EReal.coe_mul, Nat.zero_add, Blk.out, if_neg h1, if_neg h2, if_pos h3, Nat.add_sub_cancel_left]

/-! ## The gradients of the next block's mixers -/

theorem dm_step (h : Ins B s) (j : Fin 4) (hm : Dm B j.val s) : Dm B (j.val + 1) (run (dmChunk (F := Ideal) A .dy (.inr rfl) j) s).2 := by
  unfold Dm
  simp only [dmChunk, ldProj, ld, st, sth, run_bind, run, run_pure, Act.run, Function.update_self, Function.update_of_ne, ne_eq,
    reduceCtorEq, not_false_eq_true, shapeCast_id]
  have hy := is_all h.y (in2 (by decide) (by decide))
  have hw := is_ld (a := 256 * j.val) (b := 0) (p := 256) (q := 1024) h.wo (in2 (by omega) (by decide))
  have hd := is_dm hy hw
  simp only [shapeCast_id] at hd
  refine on_put hm (fun r c => (hd r c).trans ?_) fun i k hi _ hk => ?_
  · simp only [Blk.nd, Nat.zero_add]
  · by_cases hk' : k < 256 * j.val
    exacts [.inr ⟨hk', rfl⟩, .inl (by omega)]

/-! ## The shifted rows -/

/-- A store into the shifted rows. -/
theorem ed_put (x : S4x8x296x128.Idx → EReal) (g : Fin 4) (r : Fin 8) (w : S1x1x288x128.Idx → EReal) (g' : Fin 4) (r' : Fin 8) (i : Fin 296)
    (c : Fin 128) (hi : i.val < 288) : VecWindow.put x ![g.val, r.val, 0, 0] ![1, 1, 288, 128] w (ix4 g' r' i c)
      = if g' = g ∧ r' = r then w (ix4 0 0 ⟨i.val, hi⟩ c) else x (ix4 g' r' i c) := by
  unfold VecWindow.put
  by_cases hin : g' = g ∧ r' = r
  · obtain ⟨rfl, rfl⟩ := hin
    rw [if_pos ⟨rfl, rfl⟩, dif_pos (by intro a; fin_cases a <;> simp [ix4, hi])]
    congr 1
    funext a
    apply Fin.ext
    fin_cases a <;> simp [ix4, Rect.unitLocal]
  · rw [if_neg hin, dif_neg]
    intro h
    refine hin ⟨Fin.ext ?_, Fin.ext ?_⟩
    · have := h 0; simp [ix4] at this; omega
    · have := h 1; simp [ix4] at this; omega

/-- One row offset of them. -/
theorem ed_row (h : Fix B s) (g : Fin 4) (r : Fin 8) (g' : Fin 4) (r' : Fin 8) (i : Fin 296) (c : Fin 128) (hi : i.val < 288) :
    ((run (shiftRow A g r) s).2 .ed : S4x8x296x128.Idx → EReal) (ix4 g' r' i c)
      = if g' = g ∧ r' = r then ((B.xe (r.val + i.val) (128 * g.val + c.val) : ℝ) : EReal) else (s .ed : S4x8x296x128.Idx → EReal) (ix4 g' r' i c) := by
  simp only [shiftRow, ld, st, run_bind, run, Act.run, Function.update_self]
  refine (ed_put (s .ed) g r _ g' r' i c hi).trans ?_
  congr 1
  have hw := is_ld (a := r.val) (b := 128 * g.val) (p := 288) (q := 128) h.xe (in2 (by omega) (by omega))
  pointwise
  exact hw ⟨i.val, hi⟩ c

theorem ed_rows (h : Fix B s) (g : Fin 4) (n k : ℕ) (hn : k + n = 8)
    (hk : ∀ (r : Fin 8) (i : Fin 296) (c : Fin 128), r.val < k → i.val < 288 →
      (s .ed : S4x8x296x128.Idx → EReal) (ix4 g r i c) = ((B.xe (r.val + i.val) (128 * g.val + c.val) : ℝ) : EReal))
    (he : Ed B g.val s) : Ed B (g.val + 1) (run (loop A (shiftRow A g) n k hn) s).2 := by
  induction n generalizing k s with
  | zero =>
    intro g' r i c hg hi
    by_cases e : g' = g
    · subst e; exact hk r i c (by omega) hi
    · exact he g' r i c (by have := Fin.val_ne_of_ne e; omega) hi
  | succ n ih =>
    show Ed B (g.val + 1) (run (shiftRow A g ⟨k, by omega⟩ >>= fun _ => loop A (shiftRow A g) n (k + 1) (by omega)) s).2
    rw [run_bind (M := bufs A)]
    refine ih (h.of_eq fun b hb => ?_) (k + 1) (by omega) (fun r i c hr hi => ?_) fun g' r i c hg hi => ?_
    · exact kept (in_shiftRow g _) s b (by cases b <;> first | rfl | exact absurd hb (by decide))
    · rw [ed_row h g ⟨k, by omega⟩ g r i c hi]
      by_cases e : r = ⟨k, by omega⟩
      · rw [if_pos ⟨rfl, e⟩, e]
      · rw [if_neg fun h => e h.2]
        exact hk r i c (by have := Fin.val_ne_of_ne e; simp only at this; omega) hi
    · rw [ed_row h g ⟨k, by omega⟩ g' r i c hi, if_neg fun h => by have := congrArg Fin.val h.1; omega]
      exact he g' r i c hg hi

theorem ed_step (h : Fix B s) (g : Fin 4) (he : Ed B g.val s) : Ed B (g.val + 1) (run (shift (F := Ideal) A g) s).2 := by
  rw [shift_eq]
  exact ed_rows h g 8 0 rfl (fun _ _ _ hr => absurd hr (Nat.not_lt_zero _)) he

/-! ## The convolution -/

theorem run_each {N : ℕ} {α : Type} (junk : α) {f : Fin N → C A Ideal α} (hf : ∀ k, (run (f k) s).2 = s) : ∀ (n k : ℕ) (h : k + n = N),
    (run (each A junk f n k h) s).2 = s ∧ ∀ (j : ℕ) (hj : j < n), (run (each A junk f n k h) s).1 j = (run (f ⟨k + j, by omega⟩) s).1
  | 0, _, _ => ⟨rfl, fun _ hj => absurd hj (Nat.not_lt_zero _)⟩
  | n + 1, k, h => by
    obtain ⟨i1, i2⟩ := run_each junk hf n (k + 1) (by omega)
    have e : each A junk f (n + 1) k h = f ⟨k, by omega⟩ >>= fun a => each A junk f n (k + 1) (by omega) >>= fun r =>
      pure fun j => Nat.casesOn j a r := rfl
    rw [e, run_bind (M := bufs A), hf, run_bind (M := bufs A), run_pure, i1]
    refine ⟨rfl, fun j hj => ?_⟩
    cases j with
    | zero => rfl
    | succ j => exact (i2 j (by omega)).trans (by simp only [Nat.add_right_comm, Nat.add_assoc])

/-- What one tap reads. -/
theorem is_tap (h : Fix B s) (g : Fin 4) (i : Fin 8) (he : Ed B (g.val + 1) s) (t : Fin 31) :
    Is (m := 32) (n := 128) (run (tapRow A g i t) s).1.1 (fun r c => B.xe (32 * i.val + r + t.val) (128 * g.val + c))
    ∧ Is (m := 1) (n := 128) (run (tapRow A g i t) s).1.2 fun _ c => B.w (30 - t.val) (128 * g.val + c) := by
  constructor
  · intro r c
    simp only [tapRow, ld, run_bind, run, run_pure, Act.run]
    pointwise
    refine Eq.trans (congrArg (s .ed) (funext fun a => Fin.ext ?_)) ((he g ⟨t.val % 8, by omega⟩ ⟨32 * i.val + 8 * (t.val / 8) + r.val, by omega⟩ c
      (by omega) (by simp only; omega)).trans ?_)
    · match a with
      | 0 => exact Nat.add_zero _
      | 1 => exact Nat.add_zero _
      | 2 => exact congrArg (32 * i.val + 8 * (t.val / 8) + ·) (Nat.one_mul _)
      | 3 => exact (Nat.zero_add _).trans (Nat.one_mul _)
    · exact congrArg (fun x => ((B.xe x (128 * g.val + c.val) : ℝ) : EReal)) (by simp only; omega)
  · exact fun r c => (is_ld (a := 30 - t.val) (b := 128 * g.val) (p := 1) (q := 128) h.w (in2 (by omega) (by omega)) r c).trans
      (by have := r.isLt; simp only [show r.val = 0 by omega, Nat.add_zero])

theorem da_step (h : Fix B s) (g : Fin 4) (i : Fin 8) (he : Ed B (g.val + 1) s) (hd : Da B (8 * g.val + i.val) s) :
    Da B (8 * g.val + i.val + 1) (run (conv (F := Ideal) A g i) s).2 := by
  rw [conv_eq]
  simp only [run_bind (M := bufs A)]
  have e0 : (run (ld (F := Ideal) A .a0 ![32 * i.val, 128 * g.val] S32x128.size (in2 (by omega) (by omega)) Gen.h_S32x128) s).2 = s := rfl
  rw [e0]
  obtain ⟨e1, e2⟩ := run_each (A := A) (s := s) (zero (F := Ideal) S32x128, zero (F := Ideal) S1x128) (f := tapRow A g i) (fun _ => rfl) 31 0 rfl
  rw [e1]
  generalize (run (each A (zero (F := Ideal) S32x128, zero (F := Ideal) S1x128) (tapRow A g i) 31 0 rfl) s).1 = ew at e2 ⊢
  have ht := is_taps (ew := ew) (E := fun t r c => B.xe (32 * i.val + r + t) (128 * g.val + c)) (W := fun t c => B.w (30 - t) (128 * g.val + c)) 31
    (fun t ht => by rw [e2 t ht]; have := (is_tap (A := A) h g i he ⟨0 + t, by omega⟩).1; simpa only [Nat.zero_add] using this)
    (fun t ht => by rw [e2 t ht]; have := (is_tap (A := A) h g i he ⟨0 + t, by omega⟩).2; simpa only [Nat.zero_add] using this)
  unfold Da
  simp only [convEnd, ldProj, ld, st, sth, run_bind, run, run_pure, Act.run, Function.update_self, Function.update_of_ne, ne_eq,
    reduceCtorEq, not_false_eq_true, shapeCast_id]
  refine on_put hd (fun r c => (ht r c).trans ?_) fun r c hr hc hrc => ?_
  · simp only [Blk.da]
  · by_cases h' : 8 * (c / 128) + r / 32 < 8 * g.val + i.val
    exacts [.inr ⟨h', rfl⟩, .inl (by omega)]

/-! ## The result's other columns -/

theorem emit_step (h : Fix B s) (hd : Da B 32 s) (hp : Dp B 1024 1536 s) : Dp B 0 1536 (run (emit (F := Ideal) A) s).2 := by
  unfold Dp
  simp only [emit, ldProj, ld, st, sth, run_bind, run, run_pure, Act.run, Function.update_self, Function.update_of_ne, ne_eq,
    reduceCtorEq, not_false_eq_true, shapeCast_id]
  have ha := is_all h.a0 (in2 (by decide) (by decide))
  have hd : Is (m := 256) (n := 512) (VecWindow.window (s .da0) ![0, 0] ![256, 512] (in2 (by decide) (by decide))) B.da := fun r c =>
    (is_window hd (in2 (by decide) (by decide)) (fun r hr c hc => by omega) r c).trans (by simp only [Nat.zero_add])
  have hq := is_sig (is_ld (a := 0) (b := 512) (p := 256) (q := 512) h.p (in2 (by decide) (by decide)))
  generalize VecWindow.window (s .da0) _ _ _ = d at hd ⊢
  generalize VecWindow.window (s .a0) _ _ _ = a at ha ⊢
  generalize sig (F := Ideal) _ = q at hq ⊢
  refine on_put (on_put (P' := fun _ c => c < 512 ∨ 1024 ≤ c ∧ c < 1536) (R := B.out) hp (fun r c => ?_) fun r c hr hc hrc => ?_)
    (fun r c => ?_) fun r c hr hc hrc => ?_
  · pointwise
    rw [hd r c, hq r c]
    simp only [← EReal.coe_mul, Nat.zero_add, Blk.out, if_pos c.isLt]
  · by_cases h' : c < 512
    exacts [.inl (by omega), .inr ⟨by omega, rfl⟩]
  · have h1 : ¬ 512 + c.val < 512 := by omega
    have h2 : 512 + c.val < 1024 := by omega
    pointwise
    rw [hd r c, ha r c, hq r c]
    simp only [← EReal.coe_one, ← EReal.coe_sub, ← EReal.coe_mul, Nat.zero_add, Blk.out, if_neg h1, if_pos h2, Nat.add_sub_cancel_left]
  · by_cases h' : 512 ≤ c ∧ c < 1024
    exacts [.inl (by omega), .inr ⟨by omega, rfl⟩]

theorem is_cut {v w : FVec Ideal S256x512 .f32} {V W : ℕ → ℕ → ℝ} (hv : Is v V) (hw : Is w W) :
    Is (truncf (F := Ideal) .bf16 (mulf v w) Gen.bitsLt_bf16_f32) fun r c => V r c * W r c := fun r c => by
  pointwise
  rw [hv r c, hw r c, ← EReal.coe_mul]

theorem is_short {x y z : FVec Ideal S256x512 .f32} {u v w : FVec Ideal S1x512 .f32} {X Y Z U V W : ℕ → ℕ → ℝ} (hx : Is x X) (hy : Is y Y)
    (hz : Is z Z) (hu : Is u U) (hv : Is v V) (hw : Is w W) :
    Is (addf (F := Ideal) (addf (addf (zero S256x512) (mulf x (row u))) (mulf y (row v))) (mulf z (row w)))
      fun r c => X r c * U 0 c + Y r c * V 0 c + Z r c * W 0 c := fun r c => by
  pointwise
  simp only [hx, hy, hz, hu, hv, hw, ← EReal.coe_mul, ← EReal.coe_add, zero_add]
  rfl

theorem short_step (h : Fix B s) (hp : Dp B 0 1536 s) : Dp B 0 2560 (run (short (F := Ideal) A) s).2 := by
  unfold Dp
  simp only [short, shortTap, addSg, ldProj, ld, st, sth, run_bind, run, run_pure, Act.run, Function.update_self, Function.update_of_ne, ne_eq,
    reduceCtorEq, not_false_eq_true, shapeCast_id]
  have hc := is_ld (a := 0) (b := 1536) (p := 256) (q := 512) h.p (in2 (by decide) (by decide))
  have hh := is_ld (a := 0) (b := 2048) (p := 256) (q := 512) h.p (in2 (by decide) (by decide))
  have hx := fun (t : ℕ) (ht : t + 256 ≤ 264) => is_ld (a := t) (b := 0) (p := 256) (q := 512) h.xu (in2 ht (by decide))
  have hs := fun (t : ℕ) (ht : t + 1 ≤ 3) => is_ld (a := t) (b := 0) (p := 1) (q := 512) h.sc (in2 ht (by decide))
  have hd := is_short (hx 2 (by decide)) (hx 1 (by decide)) (hx 0 (by decide)) (hs 0 (by decide)) (hs 1 (by decide)) (hs 2 (by decide))
  refine on_put (on_put (P' := fun _ c => c < 2048) (R := B.out) hp (fun r c => (is_cut hd hh r c).trans ?_) fun r c hr hc hrc => ?_)
    (fun r c => (is_cut hd hc r c).trans ?_) fun r c hr hc hrc => ?_
  · have h1 : ¬ 1536 + c.val < 512 := by omega
    have h2 : ¬ 1536 + c.val < 1024 := by omega
    have h3 : ¬ 1536 + c.val < 1536 := by omega
    have h4 : 1536 + c.val < 2048 := by omega
    simp only [Nat.zero_add, Nat.add_zero, Blk.out, if_neg h1, if_neg h2, if_neg h3, if_pos h4, Nat.add_sub_cancel_left, Blk.dd]
  · by_cases h' : c < 1536
    exacts [.inr ⟨by omega, rfl⟩, .inl (by omega)]
  · have h1 : ¬ 2048 + c.val < 512 := by omega
    have h2 : ¬ 2048 + c.val < 1024 := by omega
    have h3 : ¬ 2048 + c.val < 1536 := by omega
    have h4 : ¬ 2048 + c.val < 2048 := by omega
    simp only [Nat.zero_add, Nat.add_zero, Blk.out, if_neg h1, if_neg h2, if_neg h3, if_neg h4, Nat.add_sub_cancel_left, Blk.dd]
  · by_cases h' : c < 2048
    exacts [.inr ⟨by omega, rfl⟩, .inl (by omega)]

end

end Cert.Mix

end
-- ==== Proof.MixSums.lean ====
/-
  The mixer's backward call over the reals: what a block adds to the sums of the small gradients.
-/
module

public import proofs.«01_k».proof.Proof.MixUnits

@[expose] public section

set_option maxRecDepth 16384

noncomputable section

namespace Cert.Mix

open Idealize.ShloMosaic Idealize.ShloMosaic.TcCoe Idealize.SL.Sem
open Cert.Kernel3Ideal Cert.Steps Rows

variable {A : Args} {B : Blk} {s : StI}

/-! ## Eight rows -/

theorem is_rows8 {v : FVec Ideal S256x512 .f32} {V : ℕ → ℕ → ℝ} (h : Is v V) :
    Is (rows8 v) fun r c => ∑ i ∈ Finset.range 32, V (8 * i + r) c := fun r c => by
  have e : ∀ i : Fin 32, i.val * 8 + r.val = 8 * i.val + r.val := fun i => by omega
  pointwise [rows8]
  simp only [h, sum_coe, e, Finset.sum_range]

theorem is_rows8C {v : FVec Ideal S32x128 .f32} {V : ℕ → ℕ → ℝ} (h : Is v V) :
    Is (rows8C v) fun r c => ∑ i ∈ Finset.range 4, V (8 * i + r) c := fun r c => by
  have e : ∀ i : Fin 4, i.val * 8 + r.val = 8 * i.val + r.val := fun i => by omega
  pointwise [rows8C]
  simp only [h, sum_coe, e, Finset.sum_range]

/-! ## One addition -/

section
variable {r c w : ℕ} (hr : r + 8 ≤ 296) (hc : c + w ≤ 512) (pos : 0 < Shape.numel ⟨2, ![8, w]⟩)
  (hcast : Shape.ShapeCasts ⟨2, ![8, w]⟩ ⟨2, ![8, w]⟩) {v : FVec Ideal ⟨2, ![8, w]⟩ .f32}

theorem addSg_other (b : Name) (hb : b ≠ .sg) : (run (addSg A r c w hr hc pos hcast v) s).2 b = s b :=
  kept (in_addSg (W := only .sg) rfl ..) s b (decide_eq_false hb)

open Classical in
theorem sg_add {P P' : ℕ → ℕ → Prop} (h : Sg B P s) (hv : Is v fun i j => B.add (r + i) (c + j))
    (hn : ∀ i < 8, ∀ j < w, ¬ P (r + i) (c + j))
    (hP : ∀ i j, j < 512 → (P' i j ↔ P i j ∨ (r ≤ i ∧ i < r + 8 ∧ c ≤ j ∧ j < c + w))) :
    Sg B P' (run (addSg A r c w hr hc pos hcast v) s).2 := by
  have h' : On (m := 296) (n := 512) (fun _ _ => True) (s .sg) fun r c => B.sg r c + if P r c then B.add r c else 0 := fun i j _ => h i j
  have hl := is_window h' (a := r) (b := c) (p := 8) (q := w) (in2 hr hc) fun _ _ _ _ => trivial
  unfold Sg
  simp only [addSg, ld, st, run_bind, run, Act.run, Function.update_self, shapeCast_id]
  refine is_of_on (P := fun _ _ => True) (on_put h' (fun i j => ?_) fun i j _ hj _ => ?_) fun _ _ _ _ => trivial
  · refine ((congrArg₂ (· + ·) (hl i j) (hv i j)).trans (EReal.coe_add _ _).symm).trans ?_
    simp only [if_neg (hn i.val i.isLt j.val j.isLt), if_pos ((hP (r + i.val) (c + j.val) (by omega)).2 (.inr (by omega))), add_zero]
  · by_cases hin : r ≤ i ∧ i < r + 8 ∧ c ≤ j ∧ j < c + w
    · exact .inl hin
    · refine .inr ⟨trivial, ?_⟩
      have e : P' i j ↔ P i j := (hP i j hj).trans ⟨fun h => h.resolve_right hin, .inl⟩
      simp only [e]

end

/-- The part of one of the gradients: eight rows. -/
theorem add_rows (j i c : ℕ) (hi : i < 8) : B.add (8 * j + i) c = ∑ l ∈ Finset.range 32, B.term j (8 * l + i) c := by
  rw [Blk.add, show (8 * j + i) / 8 = j by omega, show (8 * j + i) % 8 = i by omega]

theorem is_part {w j r c : ℕ} {v : FVec Ideal ⟨2, ![8, w]⟩ .f32} (hj : r = 8 * j)
    (h : Is v fun i k => ∑ l ∈ Finset.range 32, B.term j (8 * l + i) (c + k)) : Is v fun i k => B.add (r + i) (c + k) := fun i k =>
  (h i k).trans (by subst hj; simp only [add_rows j i.val _ i.isLt])

theorem is_times {m n : ℕ} {v w : FVec Ideal ⟨2, ![m, n]⟩ .f32} {V W : ℕ → ℕ → ℝ} (hv : Is v V) (hw : Is w W) :
    Is (mulf v w) fun r c => V r c * W r c := fun r c => (congrArg₂ (· * ·) (hv r c) (hw r c)).trans (EReal.coe_mul _ _).symm

theorem is_plus {m n : ℕ} {v w : FVec Ideal ⟨2, ![m, n]⟩ .f32} {V W : ℕ → ℕ → ℝ} (hv : Is v V) (hw : Is w W) :
    Is (addf v w) fun r c => V r c + W r c := fun r c => (congrArg₂ (· + ·) (hv r c) (hw r c)).trans (EReal.coe_add _ _).symm

theorem Sg.of_eq {P : ℕ → ℕ → Prop} {s' : StI} (h : Sg B P s) (e : s' .sg = s .sg) : Sg B P s' := by unfold Sg; rw [e]; exact h

/-! ## The parts' additions -/

/-- The entries that have their part once `g` column groups of the taps have theirs. -/
def upto (g r c : ℕ) : Prop := (248 ≤ r ∧ r < 272) ∨ (r < 248 ∧ c < 128 * g)

theorem head_sg {k : EReal} (h : Start B s) : Sg B (upto 0) (run (head (F := Ideal) A k) s).2 := by
  have ha := is_all h.a (in2 (by decide) (by decide))
  have hd : Is (m := 256) (n := 512) (VecWindow.window (s .dm) ![0, 0] ![256, 512] (in2 (by decide) (by decide))) B.d := fun r c =>
    (is_ld h.d (in2 (by decide) (by decide)) r c).trans (by simp only [Nat.zero_add])
  have hg := is_all h.g (in2 (by decide) (by decide))
  have hb := is_all h.b (in2 (by decide) (by decide))
  have he := is_e h
  have hs := is_dSilu ha hd hg hb
  have h0 : Sg B (fun _ _ => False) s := fun r c => (h.sg r c).trans (by simp only [if_false, add_zero])
  unfold Sg
  simp only [head, ldRow, ldProj, ld, st, sth, run_bind, run, run_pure, Act.run, Function.update_of_ne, ne_eq,
    reduceCtorEq, not_false_eq_true, shapeCast_id]
  refine sg_add (P := fun i _ => 256 ≤ i ∧ i < 272) (r := 248) (c := 0) (w := 512) _ _ _ _
    (sg_add (P := fun i _ => 256 ≤ i ∧ i < 264) (r := 264) (c := 0) (w := 512) _ _ _ _
      (sg_add (r := 256) (c := 0) (w := 512) _ _ _ _ h0
        (is_part (j := 32) rfl fun r c => (is_rows8 (is_times hs (is_norm ha)) r c).trans ?_)
        (fun _ _ _ _ => id) fun i j hj => ?_)
      (is_part (j := 33) rfl fun r c => (is_rows8 hs r c).trans ?_) (fun i hi j hj => ?_) fun i j hj => ?_)
    (is_part (j := 31) rfl fun r c => (is_rows8 he r c).trans ?_) (fun i hi j hj => ?_) fun i j hj => ?_
  all_goals first | (simp only [Nat.zero_add]; rfl) | (simp only [false_or]; omega) | omega | (unfold upto; omega)

/-- One group's taps. -/
theorem flush_sg {g : Fin 4} {p : ℕ → FVec Ideal S8x128 .f32} (hp : Sofar B g.val 8 p) (h : Sg B (upto g.val) s) :
    Sg B (upto (g.val + 1)) (run (flush (F := Ideal) A g p) s).2 := by
  have H : ∀ (n k : ℕ) (hn : k + n = 31) (s : StI),
      Sg B (fun i j => upto g.val i j ∨ (8 * (31 - k) ≤ i ∧ i < 248 ∧ 128 * g.val ≤ j ∧ j < 128 * g.val + 128)) s →
      Sg B (upto (g.val + 1)) (run (loop A (fun s : Fin 31 => addSg (F := Ideal) A (8 * (30 - s.val)) (128 * g.val) 128 (by omega) (by omega)
        Gen.h_S8x128 Gen.shapeCasts_S8x128_S8x128 (p s.val)) n k hn) s).2 := by
    intro n
    induction n with
    | zero =>
      intro k hn s h
      obtain rfl : k = 31 := hn
      refine cast (congrArg (fun P => Sg B P s) (funext fun i => funext fun j => propext ?_)) h
      unfold upto; omega
    | succ n ih =>
      intro k hn s h
      show Sg B _ (run (addSg (F := Ideal) A (8 * (30 - k)) (128 * g.val) 128 (by omega) (by omega)
        Gen.h_S8x128 Gen.shapeCasts_S8x128_S8x128 (p k) >>= fun _ => loop A _ n (k + 1) (by omega)) s).2
      rw [run_bind (M := bufs A)]
      refine ih (k + 1) (by omega) _ (sg_add _ _ _ _ h (is_part (j := 30 - k) rfl fun i c => (hp k (by omega) i c).trans ?_)
        (fun i hi j hj => by unfold upto; omega) fun i j hj => by unfold upto; omega)
      refine congrArg _ (Finset.sum_congr rfl fun l _ => ?_)
      simp only [Blk.term, if_pos (show 30 - k < 31 by omega), show 30 - (30 - k) = k by omega]
  refine H 31 0 rfl s (cast (congrArg (fun P => Sg B P s) (funext fun i => funext fun j => propext ?_)) h)
  unfold upto; omega

/-- The taps' parts of 32 rows. -/
theorem conv_parts (h : Fix B s) (g : Fin 4) (i : Fin 8) (he : Ed B (g.val + 1) s) : ∀ t < 31,
    Is (m := 8) (n := 128) ((run (conv (F := Ideal) A g i) s).1 t) fun r c =>
      ∑ l ∈ Finset.range 4, B.xe (32 * i.val + (8 * l + r) + t) (128 * g.val + c) * B.a0 (32 * i.val + (8 * l + r)) (128 * g.val + c) := fun t ht => by
  have ha := is_ld (a := 32 * i.val) (b := 128 * g.val) (p := 32) (q := 128) h.a0 (in2 (by omega) (by omega))
  rw [conv_eq]
  simp only [run_bind (M := bufs A)]
  have e0 : (run (ld (F := Ideal) A .a0 ![32 * i.val, 128 * g.val] S32x128.size (in2 (by omega) (by omega)) Gen.h_S32x128) s).2 = s := rfl
  rw [e0]
  have e2 := (run_each (A := A) (s := s) (zero (F := Ideal) S32x128, zero (F := Ideal) S1x128) (f := tapRow A g i) (fun _ => rfl) 31 0 rfl).2 t ht
  have h1 := (is_tap (A := A) h g i he ⟨0 + t, by omega⟩).1
  rw [← e2] at h1
  simp only [convEnd, ld, st, run_bind, run, run_pure, Act.run]
  exact fun r c => (is_rows8C (is_times h1 ha) r c).trans (by simp only [Nat.zero_add])

theorem sofar_first {g : Fin 4} {x : ℕ → FVec Ideal S8x128 .f32} (hx : ∀ t < 31, Is (m := 8) (n := 128) (x t) fun r c =>
      ∑ l ∈ Finset.range 4, B.xe (32 * 0 + (8 * l + r) + t) (128 * g.val + c) * B.a0 (32 * 0 + (8 * l + r)) (128 * g.val + c)) :
    Sofar B g.val 1 x := fun t ht r c => (hx t ht r c).trans (by simp only [Nat.mul_zero, Nat.zero_add, Nat.mul_one])

theorem sofar_next {g : Fin 4} {n : ℕ} {p x : ℕ → FVec Ideal S8x128 .f32} (hp : Sofar B g.val n p) (hx : ∀ t < 31, Is (m := 8) (n := 128) (x t) fun r c =>
      ∑ l ∈ Finset.range 4, B.xe (32 * n + (8 * l + r) + t) (128 * g.val + c) * B.a0 (32 * n + (8 * l + r)) (128 * g.val + c)) :
    Sofar B g.val (n + 1) (both p x) := fun t ht r c => (is_plus (hp t ht) (hx t ht) r c).trans (by
  simp only [Nat.mul_add, Nat.mul_one, Finset.sum_range_add]
  simp only [← Nat.mul_assoc, ← Nat.add_assoc, Nat.reduceMul])

/-- One tap of the short convolution. -/
theorem tap_sg {P P' : ℕ → ℕ → Prop} (h : Fix B s) (hs : Sg B P s) {v : FVec Ideal S256x512 .f32} (hv : Is v fun r c => B.p r (1536 + c) * B.p r (2048 + c))
    (k : Fin 3) (hn : ∀ i < 8, ∀ j < 512, ¬ P (272 + 8 * k.val + i) (0 + j))
    (hP : ∀ i j, j < 512 → (P' i j ↔ P i j ∨ (272 + 8 * k.val ≤ i ∧ i < 272 + 8 * k.val + 8 ∧ 0 ≤ j ∧ j < 0 + 512))) :
    Sg B P' (run (shortTap (F := Ideal) A v k) s).2 := by
  have hx := is_ld (a := 2 - k.val) (b := 0) (p := 256) (q := 512) h.xu (in2 (by omega) (by decide))
  refine sg_add (by omega) (by decide) Gen.h_S8x512 Gen.shapeCasts_S8x512_S8x512 hs
    (is_part (j := 34 + k.val) (by omega) fun i c => (is_rows8 (is_times hv hx) i c).trans ?_) hn hP
  refine congrArg _ (Finset.sum_congr rfl fun l _ => ?_)
  have e : 36 - (34 + k.val) = 2 - k.val := by omega
  simp only [Blk.term, if_neg (show ¬ 34 + k.val < 31 by omega), if_neg (show ¬ 34 + k.val < 32 by omega), if_neg (show ¬ 34 + k.val < 33 by omega),
    if_neg (show ¬ 34 + k.val < 34 by omega), e, Nat.zero_add]

theorem short_sg (h : Fix B s) (hs : Sg B (upto 4) s) : Sg B (fun i j => i < 296 ∧ j < 512) (run (short (F := Ideal) A) s).2 := by
  have hc := is_ld (a := 0) (b := 1536) (p := 256) (q := 512) h.p (in2 (by decide) (by decide))
  have hh := is_ld (a := 0) (b := 2048) (p := 256) (q := 512) h.p (in2 (by decide) (by decide))
  have hv := is_times hc hh
  simp only [Nat.zero_add] at hv
  have next : ∀ (s : StI) (v : FVec Ideal S256x512 .f32) (k : Fin 3), Fix B s → Fix B (run (shortTap (F := Ideal) A v k) s).2 := fun s v k h =>
    h.of_eq fun b hb => kept (in_tap v k) s b (by cases b <;> first | rfl | exact absurd hb (by decide))
  refine Sg.of_eq (tap_sg (A := A) (P := fun i j => upto 4 i j ∨ (272 ≤ i ∧ i < 288)) (next _ _ 1 (next _ _ 0 h))
    (tap_sg (P := fun i j => upto 4 i j ∨ (272 ≤ i ∧ i < 280)) (next _ _ 0 h) (tap_sg h hs hv 0 ?_ ?_) hv 1 ?_ ?_) hv 2 ?_ ?_) ?_
  on_goal 7 => simp only [short, ldProj, ld, sth, run_bind, run, run_pure, Act.run, Function.update_of_ne, ne_eq, reduceCtorEq,
    not_false_eq_true, shapeCast_id]
  all_goals
    intro i hi j <;> unfold upto <;> simp only [Fin.val_zero, Fin.val_one, Fin.val_two] <;> omega

end Cert.Mix

end
-- ==== Proof.MixBack.lean ====
/-
  The mixer's backward call over the reals: through the projection and the norm, for the block before.
-/
module

public import proofs.«01_k».proof.Proof.MixUnits

@[expose] public section

set_option maxRecDepth 16384

noncomputable section

namespace Cert.Mix

open Idealize.ShloMosaic Idealize.ShloMosaic.TcCoe Idealize.SL.Sem
open Cert.Kernel3Ideal Cert.Steps Rows

/-! ## What the block computes -/

/-- A row's entries on their own. -/
abbrev wide (f : ℕ → ℝ) : Fin 1024 → ℝ := fun k => f k.val

namespace Blk
variable (B : Blk)

/-- The gradient at the projection's argument. -/
def dh (r c : ℕ) : ℝ := ∑ j : Fin 2560, B.dp r j.val * B.wi c j.val
/-- The norm's result. -/
def xn (r c : ℕ) : ℝ := B.x r c * rs (wide (B.x r))
/-- The gradient at the norm's result. -/
def dn (r c : ℕ) : ℝ := B.dh r c * (1 + B.sm c)
def gx (r c : ℕ) : ℝ :=
  B.dx r c + rs (wide (B.x r)) * (B.dn r c - B.xn r c * ((∑ k : Fin 1024, B.dn r k.val * B.xn r k.val) / 1024))
/-- The shift's and scale's sums. -/
def sh (r c : ℕ) : ℝ := (if B.fr then 0 else B.ds r c) + ∑ i ∈ Finset.range 32, B.dh (8 * i + r) c
def sl (r c : ℕ) : ℝ := (if B.fr then 0 else B.dc r c) + ∑ i ∈ Finset.range 32, B.dh (8 * i + r) c * B.xn (8 * i + r) c

end Blk

/-- Eight rows of a batch element's sums. -/
abbrev Is3 (v : (⟨3, ![1, 8, 1024]⟩ : Shape).Idx → EReal) (R : ℕ → ℕ → ℝ) : Prop :=
  ∀ (r : Fin 8) (c : Fin 1024), v (ix3 0 r c) = ((R r.val c.val : ℝ) : EReal)

variable (B : Blk)

/-- The arguments that this half of a point reads. -/
structure Half (s : StI) : Prop where
  wi : Is (m := 1024) (n := 2560) (s .wi) B.wi
  x : Is (m := 256) (n := 1024) (s .x) B.x
  dx : Is (m := 256) (n := 1024) (s .dx1) B.dx
  sm : ∀ c : Fin 1024, (s .mod : (⟨3, ![1, 1, 6144]⟩ : Shape).Idx → EReal) (ix3 0 0 ⟨1024 + c.val, by omega⟩) = ((B.sm c.val : ℝ) : EReal)

/-- All that it reads. -/
structure Back (s : StI) : Prop extends Half B s where
  dp : Is (m := 256) (n := 2560) (s .dp) B.dp

/-- The sums that it adds to. -/
structure Sums (s : StI) : Prop where
  ds : B.fr = false → Is3 (s .dsh) B.ds
  dc : B.fr = false → Is3 (s .dsc) B.dc

/-- What it leaves. -/
structure Left (s : StI) : Prop where
  gx : Is (m := 256) (n := 1024) (s .gx) B.gx
  sh : Is3 (s .dsh) B.sh
  sl : Is3 (s .dsc) B.sl

/-- The sums before the norm's turn (`false`), and what it leaves (`true`). -/
def Tl (z : Bool) (s : StI) : Prop := match z with
  | false => Sums B s
  | true => Left B s

/-- The first `n` column groups at the projection's argument. -/
def Dh (n : ℕ) (s : StI) : Prop := On (m := 256) (n := 1024) (fun _ c => c < 256 * n) (s .dh) B.dh

def isHalf : Name → Bool
  | .wi | .x | .dx1 | .mod => true
  | _ => false
def isBack : Name → Bool
  | .dp => true
  | b => isHalf b

variable {B} {A : Args} {s s' : StI}

theorem Half.of_eq (h : Half B s) (e : ∀ b, isHalf b = true → s' b = s b) : Half B s' where
  wi := e .wi rfl ▸ h.wi
  x := e .x rfl ▸ h.x
  dx := e .dx1 rfl ▸ h.dx
  sm := e .mod rfl ▸ h.sm

theorem Back.of_eq (h : Back B s) (e : ∀ b, isBack b = true → s' b = s b) : Back B s' where
  toHalf := h.toHalf.of_eq fun b hb => e b (by cases b <;> first | rfl | exact hb)
  dp := e .dp rfl ▸ h.dp

theorem Tl.of_eq {z : Bool} (h : Tl B z s) (e1 : s' .gx = s .gx) (e2 : s' .dsh = s .dsh) (e3 : s' .dsc = s .dsc) : Tl B z s' := by
  cases z
  · exact ⟨fun f => e2 ▸ Sums.ds h f, fun f => e3 ▸ Sums.dc h f⟩
  · exact ⟨e1 ▸ Left.gx h, e2 ▸ Left.sh h, e3 ▸ Left.sl h⟩

theorem Dh.of_eq {n : ℕ} (h : Dh B n s) (e : s' .dh = s .dh) : Dh B n s' := by unfold Dh; rw [e]; exact h

/-! ## Its pieces over the reals -/

theorem is_dh {v w : FVec Ideal S256x2560 .bf16} {V W : ℕ → ℕ → ℝ} (hv : Is v V) (hw : Is w W) :
    Is (shapeCast S256x256 (matmul dot_S256x2560_S256x2560_S256x256_1_1_0_0_n_n none
      v (shapeCast S256x2560 w Gen.shapeCasts_S256x2560_S256x2560)
      (constant S256x256 .f32 0x00000000#32)) Gen.shapeCasts_S256x256_S256x256)
      fun r c => ∑ k : Fin 2560, V r k.val * W c k.val := by
  intro r c
  pointwise
  simp only [hv, hw, ← EReal.coe_mul, sum_coe, zero_add]

theorem is_rows8W {v : FVec Ideal S256x1024 .f32} {V : ℕ → ℕ → ℝ} (h : Is v V) :
    Is (rows8W v) fun r c => ∑ i ∈ Finset.range 32, V (8 * i + r) c := fun r c => by
  have e : ∀ i : Fin 32, i.val * 8 + r.val = 8 * i.val + r.val := fun i => by omega
  pointwise [rows8W]
  simp only [h, sum_coe, e, Finset.sum_range]

theorem is_meanW {v : FVec Ideal S256x1024 .f32} {R : ℕ → ℕ → ℝ} (h : Is v R) :
    Is (meanW v) fun r _ => (∑ k : Fin 1024, R r k.val) / 1024 := by
  intro r c
  pointwise [meanW]
  simp only [h, bits_1024, sum_coe, div_1024]

theorem is_invRms {v : FVec Ideal S256x1024 .f32} {R : ℕ → ℕ → ℝ} (h : Is v R) : Is (invRms v) fun r _ => rs (wide (R r)) := by
  intro r c
  have hm := is_meanW (v := mulf v v) (R := fun r k => R r k * R r k) (fun i k => by pointwise; simp only [h, ← EReal.coe_mul])
  pointwise [invRms]
  rw [hm r c, bits_eps, ← EReal.coe_add]
  exact rsqrt_ms (wide (R r.val))

theorem is_rms {v : FVec Ideal S256x1024 .f32} {R : ℕ → ℕ → ℝ} (h : Is v R) : Is (rms v) fun r c => R r c * rs (wide (R r)) := by
  intro r c
  have hi := is_invRms h
  pointwise [rms]
  rw [h, hi, ← EReal.coe_mul]

theorem is_dRms {x d e : FVec Ideal S256x1024 .f32} {g : FVec Ideal S1x1024 .f32} {X D E : ℕ → ℕ → ℝ} {G : ℕ → ℝ}
    (hx : Is x X) (hd : Is d D) (he : Is e E) (hg : Is g fun _ => G) :
    Is (dRms x d e g) fun r c => E r c + rs (wide (X r)) * (D r c * (1 + G c)
      - X r c * rs (wide (X r)) * ((∑ k : Fin 1024, D r k.val * (1 + G k.val) * (X r k.val * rs (wide (X r)))) / 1024)) := by
  have hi := is_invRms hx
  have hn := is_rms hx
  have ht : Is (mulf d (rowW (addf (one _) g))) fun r c => D r c * (1 + G c) := fun r c => by
    pointwise
    rw [hd, hg]
    rw [← EReal.coe_one, ← EReal.coe_add, ← EReal.coe_mul]
  have hm := is_meanW (v := mulf (mulf d (rowW (addf (one _) g))) (rms x)) (R := fun r k => D r k * (1 + G k) * (X r k * rs (wide (X r))))
    (fun r k => by
      show mulf d (rowW (addf (one _) g)) (ix2 r k) * rms x (ix2 r k) = _
      rw [ht, hn, ← EReal.coe_mul])
  intro r c
  show e (ix2 r c) + colW (invRms x) (ix2 r c) * (mulf d (rowW (addf (one _) g)) (ix2 r c)
    - rms x (ix2 r c) * colW (meanW (mulf (mulf d (rowW (addf (one _) g))) (rms x))) (ix2 r c)) = _
  have c1 : ∀ v : FVec Ideal S256x1 .f32, colW v (ix2 r c) = v (ix2 r 0) := fun v => by pointwise
  rw [c1, c1, he, ht, hn, hi, hm, ← EReal.coe_mul, ← EReal.coe_sub, ← EReal.coe_mul, ← EReal.coe_add]

/-! ## Loads and stores of the sums -/

theorem all3 {v : (⟨3, ![1, 8, 1024]⟩ : Shape).Idx → EReal} {R : ℕ → ℕ → ℝ} (h : Is3 v R)
    (inb : ∀ x, (![0, 0, 0] : Fin 3 → ℕ) x + (![1, 8, 1024] : Fin 3 → ℕ) x ≤ (⟨3, ![1, 8, 1024]⟩ : Shape).size x) :
    Is3 (VecWindow.window v ![0, 0, 0] ![1, 8, 1024] inb) R := fun r c => by
  refine (congrArg v (funext fun i => Fin.ext ?_)).trans (h r c)
  match i with
  | 0 => rfl
  | 1 => exact (Nat.zero_add _).trans (Nat.one_mul _)
  | 2 => exact (Nat.zero_add _).trans (Nat.one_mul _)

theorem put3 {v w : (⟨3, ![1, 8, 1024]⟩ : Shape).Idx → EReal} {R : ℕ → ℕ → ℝ} (h : Is3 w R) :
    Is3 (VecWindow.put v ![0, 0, 0] ![1, 8, 1024] w) R := fun r c => by
  unfold VecWindow.put
  have hin : ∀ x, (![0, 0, 0] : Fin 3 → ℕ) x ≤ ((ix3 0 r c : (⟨3, ![1, 8, 1024]⟩ : Shape).Idx) x).val
      ∧ ((ix3 0 r c : (⟨3, ![1, 8, 1024]⟩ : Shape).Idx) x).val < (![0, 0, 0] : Fin 3 → ℕ) x + (![1, 8, 1024] : Fin 3 → ℕ) x := fun x => by
    match x with
    | 0 => exact ⟨Nat.le_refl _, Nat.one_pos⟩
    | 1 => exact ⟨Nat.zero_le _, (Nat.zero_add 8).symm ▸ r.isLt⟩
    | 2 => exact ⟨Nat.zero_le _, (Nat.zero_add 1024).symm ▸ c.isLt⟩
  rw [dif_pos hin]
  refine (congrArg w (funext fun x => Fin.ext ?_)).trans (h r c)
  match x with
  | 0 => rfl
  | 1 => rfl
  | 2 => rfl

/-! ## Its steps -/

theorem in_dh (j : Fin 4) : In (only .dh) (dhChunk (F := Ideal) A j) :=
  in_bind (in_ld ..) fun _ => in_bind (in_ld ..) fun _ => in_st rfl ..

theorem dh_step (h : Back B s) (j : Fin 4) (hm : Dh B j.val s) : Dh B (j.val + 1) (run (dhChunk (F := Ideal) A j) s).2 := by
  unfold Dh
  simp only [dhChunk, ld, st, run_bind, run, Act.run, Function.update_self]
  have hy := is_all h.dp (in2 (by decide) (by decide))
  have hw := is_ld (a := 256 * j.val) (b := 0) (p := 256) (q := 2560) h.wi (in2 (by omega) (by decide))
  have hd := is_dh hy hw
  refine on_put hm (fun r c => (hd r c).trans ?_) fun i k hi _ hk => ?_
  · simp only [Blk.dh, Nat.zero_add]
  · by_cases hk' : k < 256 * j.val
    exacts [.inr ⟨hk', rfl⟩, .inl (by omega)]

/-- The buffers the norm's turn stores into. -/
def ofTail : Name → Bool
  | .gx | .dsh | .dsc => true
  | _ => false

theorem in_tail (f : BitVec 1) : In ofTail (tail (F := Ideal) A f) := by
  unfold tail
  refine in_bind (in_ld ..) fun _ => in_bind (in_ld ..) fun _ => ?_
  refine in_bind (in_bind (in_ld ..) fun _ => in_st rfl ..) fun _ => in_bind (in_bind (in_ld ..) fun _ => in_st rfl ..) fun _ => ?_
  exact in_bind (in_ld ..) fun _ => in_bind (in_ld ..) fun _ => in_st rfl ..

/-- Eight rows added to a batch element's sums, or put in their place. -/
theorem is_addMod {o : FVec Ideal S1x8x1024 .f32} {v : FVec Ideal S8x1024 .f32} {O V : ℕ → ℕ → ℝ} {z : Bool} {f : BitVec 1}
    (hf : f = if z then 1#1 else 0#1) (ho : z = false → Is3 o O) (hv : Is v V) :
    Is3 (shapeCast S1x8x1024 (Scalar.select f v (addf (shapeCast S8x1024 o Gen.shapeCasts_S1x8x1024_S8x1024) v)) Gen.shapeCasts_S8x1024_S1x8x1024)
      fun r c => (if z then 0 else O r c) + V r c := by
  intro r c
  cases z
  · have e : Scalar.select f v (addf (shapeCast S8x1024 o Gen.shapeCasts_S1x8x1024_S8x1024) v) = addf (shapeCast S8x1024 o Gen.shapeCasts_S1x8x1024_S8x1024) v := by
      subst hf; rfl
    rw [e]
    pointwise
    have h := ho rfl r c
    rw [hv, h, ← EReal.coe_add]
    rfl
  · have e : Scalar.select f v (addf (shapeCast S8x1024 o Gen.shapeCasts_S1x8x1024_S8x1024) v) = v := by
      subst hf; rfl
    rw [e]
    pointwise
    rw [hv]

theorem tail_step (h : Back B s) {f : BitVec 1} (hf : f = if B.fr then 1#1 else 0#1) (hd : Dh B 4 s) (ht : Sums B s) :
    Left B (run (tail (F := Ideal) A f) s).2 := by
  have hh : Is (m := 256) (n := 1024) (s .dh) B.dh := is_of_on hd fun _ _ _ h => h
  have hx := is_all h.x (in2 (by decide) (by decide))
  have hd := is_all hh (in2 (by decide) (by decide))
  have he := is_all h.dx (in2 (by decide) (by decide))
  have hn := is_rms hx
  refine ⟨?_, ?_, ?_⟩ <;>
    simp only [tail, addMod, ld, st, run_bind, run, Act.run, Function.update_self, Function.update_of_ne, ne_eq, reduceCtorEq,
      not_false_eq_true, shapeCast_id]
  · refine is_put (is_dRms (G := B.sm) hx hd he fun r c => ?_)
    pointwise
    have e : (⟨1024 + c.val, by omega⟩ : Fin 6144) = ⟨1024 + 1 * c.val, by omega⟩ := Fin.ext (by simp)
    have hs := h.sm c
    rw [e] at hs
    refine (congrArg (s .mod : (⟨3, ![1, 1, 6144]⟩ : Shape).Idx → EReal) (funext fun i => Fin.ext ?_)).trans hs
    match i with
    | 0 => exact (Nat.zero_add _).trans (Nat.one_mul _)
    | 1 => exact (Nat.zero_add _).trans ((Nat.one_mul _).trans rfl)
    | 2 => rfl
  · refine put3 (is_addMod hf (fun z => all3 (ht.ds z) _) (is_rows8W hd))
  · refine put3 (is_addMod hf (fun z => all3 (ht.dc z) _) (is_rows8W (V := fun r c => B.dh r c * B.xn r c) fun r c => ?_))
    exact (congrArg₂ (· * ·) (hd r c) (hn r c)).trans (EReal.coe_mul _ _).symm

end Cert.Mix

end
-- ==== Proof.MixWhole.lean ====
/-
  The mixer's backward call over the reals: one whole point.
-/
module

public import proofs.«01_k».proof.Proof.MixSums
public import proofs.«01_k».proof.Proof.MixBack

@[expose] public section

set_option maxRecDepth 16384

noncomputable section

namespace Cert.Mix

open Idealize.ShloMosaic Idealize.ShloMosaic.TcCoe Idealize.SL.Sem
open Cert.Kernel3Ideal Cert.Steps Rows

variable {A : Args} {B : Blk}

/-! ## The whole point -/

/-- What is known in the middle of a point. -/
structure Inv (B : Blk) (e n m q l : ℕ) (z : Bool) (s : StI) : Prop where
  fix : Fix B s
  sg : Sg B (upto q) s
  ed : Ed B e s
  da : Da B n s
  dm : Dm B m s
  dp : Dp B 1024 1536 s
  back : Back B s
  dh : Dh B l s
  tl : Tl B z s

/-- What a point leaves. -/
structure Done (B : Blk) (s : StI) : Prop where
  out : Is (m := 256) (n := 2560) (s .dproj) B.out
  dm : Is (m := 256) (n := 1024) (s .dm) B.nd
  ce : Is (m := 32) (n := 512) (s .cda) B.e
  cu : Is (m := 8) (n := 512) (s .cdq) B.u
  sg : Is (m := 296) (n := 512) (s .sg) fun r c => B.sg r c + B.add r c
  dp : Is (m := 256) (n := 2560) (s .dp) B.out
  left : Left B s

theorem Ed.of_eq {n : ℕ} {s s' : StI} (h : Ed B n s) (e : s' .ed = s .ed) : Ed B n s' := by unfold Ed; rw [e]; exact h
theorem Da.of_eq {n : ℕ} {s s' : StI} (h : Da B n s) (e : s' .da0 = s .da0) : Da B n s' := by unfold Da; rw [e]; exact h
theorem Dm.of_eq {n : ℕ} {s s' : StI} (h : Dm B n s) (e : s' .dm = s .dm) : Dm B n s' := by unfold Dm; rw [e]; exact h
theorem Dp.of_eq {l n : ℕ} {s s' : StI} (h : Dp B l n s) (e : s' .dproj = s .dproj) : Dp B l n s' := by unfold Dp; rw [e]; exact h

theorem in_flush (g : Fin 4) (p : ℕ → FVec Ideal S8x128 .f32) : In (only .sg) (flush A g p) :=
  in_loop (fun _ => in_addSg rfl ..) _ _ _

section
variable {α : Type} {p : C A Ideal α} {k : α → C A Ideal PUnit} {s : StI} {e n m q l : ℕ} {z : Bool}

theorem by_dh {j : Fin 4} {k : PUnit → C A Ideal PUnit} (hj : l = j.val) (h : Inv B e n m q l z s)
    (hk : ∀ x s', Inv B e n m q (l + 1) z s' → Done B (run (k x) s').2) : Done B (run (dhChunk (F := Ideal) A j >>= k) s).2 := by
  subst hj
  rw [run_bind (M := bufs A)]
  have hs := kept (A := A) (in_dh j) s
  exact hk _ _ ⟨h.fix.of_eq fun b hb => hs b (by cases b <;> first | rfl | exact absurd hb (by decide)),
    h.sg.of_eq (hs .sg rfl), h.ed.of_eq (hs .ed rfl), h.da.of_eq (hs .da0 rfl),
    h.dm.of_eq (hs .dm rfl), h.dp.of_eq (hs .dproj rfl),
    h.back.of_eq fun b hb => hs b (by cases b <;> first | rfl | exact absurd hb (by decide)),
    dh_step h.back j h.dh, h.tl.of_eq (hs .gx rfl) (hs .dsh rfl) (hs .dsc rfl)⟩

theorem by_tail {f : BitVec 1} {k : PUnit → C A Ideal PUnit} (hf : f = if B.fr then 1#1 else 0#1) (h : Inv B e n m q 4 false s)
    (hk : ∀ x s', Inv B e n m q 4 true s' → Done B (run (k x) s').2) : Done B (run (tail (F := Ideal) A f >>= k) s).2 := by
  rw [run_bind (M := bufs A)]
  have hs := kept (A := A) (in_tail f) s
  exact hk _ _ ⟨h.fix.of_eq fun b hb => hs b (by cases b <;> first | rfl | exact absurd hb (by decide)),
    h.sg.of_eq (hs .sg rfl), h.ed.of_eq (hs .ed rfl), h.da.of_eq (hs .da0 rfl),
    h.dm.of_eq (hs .dm rfl), h.dp.of_eq (hs .dproj rfl),
    h.back.of_eq fun b hb => hs b (by cases b <;> first | rfl | exact absurd hb (by decide)),
    h.dh.of_eq (hs .dh rfl), tail_step h.back hf h.dh h.tl⟩

theorem by_dm {j : Fin 4} {k : PUnit → C A Ideal PUnit} (hj : m = j.val) (h : Inv B e n m q l z s)
    (hk : ∀ x s', Inv B e n (m + 1) q l z s' → Done B (run (k x) s').2) : Done B (run (dmChunk (F := Ideal) A .dy (.inr rfl) j >>= k) s).2 := by
  subst hj
  rw [run_bind (M := bufs A)]
  have hs := kept (A := A) (in_dm j) s
  exact hk _ _ ⟨h.fix.of_eq fun b hb => hs b (by cases b <;> first | rfl | exact absurd hb (by decide)),
    h.sg.of_eq (hs .sg rfl), h.ed.of_eq (hs .ed rfl), h.da.of_eq (hs .da0 rfl),
    dm_step h.fix.toIns j h.dm, h.dp.of_eq (hs .dproj rfl),
    h.back.of_eq fun b hb => hs b (by cases b <;> first | rfl | exact absurd hb (by decide)),
    h.dh.of_eq (hs .dh rfl), h.tl.of_eq (hs .gx rfl) (hs .dsh rfl) (hs .dsc rfl)⟩

theorem conv_inv {g : Fin 4} {i : Fin 8} (h : Inv B 4 (8 * g.val + i.val) m q l z s) :
    Inv B 4 (8 * g.val + i.val + 1) m q l z (run (conv (F := Ideal) A g i) s).2 := by
  have hs := kept (A := A) (in_conv g i) s
  exact ⟨h.fix.of_eq fun b hb => hs b (by cases b <;> first | rfl | exact absurd hb (by decide)),
    h.sg.of_eq (hs .sg rfl), h.ed.of_eq (hs .ed rfl), da_step h.fix g i (fun g' r i c hg => h.ed g' r i c (by omega)) h.da,
    h.dm.of_eq (hs .dm rfl), h.dp.of_eq (hs .dproj rfl),
    h.back.of_eq fun b hb => hs b (by cases b <;> first | rfl | exact absurd hb (by decide)),
    h.dh.of_eq (hs .dh rfl), h.tl.of_eq (hs .gx rfl) (hs .dsh rfl) (hs .dsc rfl)⟩

/-- A group's first rows. -/
theorem by_conv0 {g : Fin 4} {k : (ℕ → FVec Ideal S8x128 .f32) → C A Ideal PUnit} (hn : n = 8 * g.val) (h : Inv B 4 n m q l z s)
    (hk : ∀ x s', Sofar B g.val 1 x → Inv B 4 (n + 1) m q l z s' → Done B (run (k x) s').2) : Done B (run (conv (F := Ideal) A g 0 >>= k) s).2 := by
  subst hn
  rw [run_bind (M := bufs A)]
  exact hk _ _ (sofar_first (conv_parts h.fix g 0 fun g' r i c hg => h.ed g' r i c (by omega))) (conv_inv (i := 0) h)

/-- The others. -/
theorem by_conv {g : Fin 4} {i : Fin 8} {p : ℕ → FVec Ideal S8x128 .f32} {k : (ℕ → FVec Ideal S8x128 .f32) → C A Ideal PUnit}
    (hn : n = 8 * g.val + i.val) (hp : Sofar B g.val i.val p) (h : Inv B 4 n m q l z s)
    (hk : ∀ x s', Sofar B g.val (i.val + 1) (both p x) → Inv B 4 (n + 1) m q l z s' → Done B (run (k x) s').2) :
    Done B (run (conv (F := Ideal) A g i >>= k) s).2 := by
  subst hn
  rw [run_bind (M := bufs A)]
  exact hk _ _ (sofar_next hp (conv_parts h.fix g i fun g' r i c hg => h.ed g' r i c (by omega))) (conv_inv h)

theorem by_flush {g : Fin 4} {p : ℕ → FVec Ideal S8x128 .f32} {k : PUnit → C A Ideal PUnit} (hq : q = g.val) (hp : Sofar B g.val 8 p)
    (h : Inv B e n m q l z s) (hk : ∀ x s', Inv B e n m (q + 1) l z s' → Done B (run (k x) s').2) : Done B (run (flush (F := Ideal) A g p >>= k) s).2 := by
  subst hq
  rw [run_bind (M := bufs A)]
  have hs := kept (A := A) (in_flush g p) s
  exact hk _ _ ⟨h.fix.of_eq fun b hb => hs b (by cases b <;> first | rfl | exact absurd hb (by decide)),
    flush_sg hp h.sg, h.ed.of_eq (hs .ed rfl), h.da.of_eq (hs .da0 rfl),
    h.dm.of_eq (hs .dm rfl), h.dp.of_eq (hs .dproj rfl),
    h.back.of_eq fun b hb => hs b (by cases b <;> first | rfl | exact absurd hb (by decide)),
    h.dh.of_eq (hs .dh rfl), h.tl.of_eq (hs .gx rfl) (hs .dsh rfl) (hs .dsc rfl)⟩

theorem shifts (h : Inv B 0 n m q l z s) : Inv B 4 n m q l z (run (loop A (shift (F := Ideal) A) 4 0 rfl) s).2 := by
  suffices H : ∀ (j g : ℕ) (hl : g + j = 4) (s : StI), Inv B g n m q l z s → Inv B 4 n m q l z (run (loop A (shift (F := Ideal) A) j g hl) s).2 from H 4 0 rfl s h
  intro j
  induction j with
  | zero => intro g hl s h; obtain rfl : g = 4 := hl; exact h
  | succ j ih =>
    intro g hl s h
    show Inv B 4 n m q l z (run (shift (F := Ideal) A ⟨g, by omega⟩ >>= fun _ => loop A (shift (F := Ideal) A) j (g + 1) (by omega)) s).2
    rw [run_bind (M := bufs A)]
    have hs := kept (A := A) (in_shift ⟨g, by omega⟩) s
    exact ih (g + 1) _ _ ⟨h.fix.of_eq fun b hb => hs b (by cases b <;> first | rfl | exact absurd hb (by decide)),
    h.sg.of_eq (hs .sg rfl), ed_step h.fix ⟨g, by omega⟩ h.ed, h.da.of_eq (hs .da0 rfl),
    h.dm.of_eq (hs .dm rfl), h.dp.of_eq (hs .dproj rfl),
    h.back.of_eq fun b hb => hs b (by cases b <;> first | rfl | exact absurd hb (by decide)),
    h.dh.of_eq (hs .dh rfl), h.tl.of_eq (hs .gx rfl) (hs .dsh rfl) (hs .dsc rfl)⟩

theorem by_shifts {k : PUnit → C A Ideal PUnit} (h : Inv B 0 n m q l z s)
    (hk : ∀ x s', Inv B 4 n m q l z s' → Done B (run (k x) s').2) : Done B (run (loop A (shift (F := Ideal) A) 4 0 rfl >>= k) s).2 := by
  rw [run_bind (M := bufs A)]
  exact hk _ _ (shifts h)

theorem by_head {k : PUnit → C A Ideal PUnit} {κ : EReal} (h : Start B s) (hb : Back B s) (ht : Sums B s) (hκ : κ = ((B.k : ℝ) : EReal))
    (hk : ∀ x s', Inv B 0 0 0 0 0 false s' → Done B (run (k x) s').2) : Done B (run (head (F := Ideal) A κ >>= k) s).2 := by
  rw [run_bind (M := bufs A)]
  have hs := kept (A := A) (in_head κ) s
  exact hk _ _ ⟨head_fix h hκ, head_sg h, fun _ _ _ _ hg => absurd hg (Nat.not_lt_zero _), fun _ _ hr => absurd hr (Nat.not_lt_zero _),
    fun _ _ hr => absurd hr (Nat.not_lt_zero _), head_dp h,
    hb.of_eq fun b hb => hs b (by cases b <;> first | rfl | exact absurd hb (by decide)),
    fun _ _ hr => absurd hr (Nat.not_lt_zero _), Tl.of_eq (z := false) ht (hs .gx rfl) (hs .dsh rfl) (hs .dsc rfl)⟩

theorem carry_step (h : Is (m := 256) (n := 2560) (s .dproj) B.out) : Is (m := 256) (n := 2560) ((run (carry (F := Ideal) A) s).2 .dp) B.out := by
  simp only [carry, ld, sth, run_bind, run, Act.run, Function.update_self, shapeCast_id]
  exact is_put (is_all h _)

/-- The gated unit's halves, the short convolution and the copy for the next point. -/
theorem by_end (h : Inv B 4 32 4 4 l true s) : Done B (run (emit (F := Ideal) A >>= fun _ => short (F := Ideal) A >>= fun _ => carry (F := Ideal) A) s).2 := by
  rw [run_bind (M := bufs A), run_bind (M := bufs A)]
  have h1 := emit_step (A := A) h.fix h.da h.dp
  have e1 := kept (A := A) in_emit s
  generalize (run (emit (F := Ideal) A) s).2 = s1 at h1 e1 ⊢
  have f1 : Fix B s1 := h.fix.of_eq fun b hb => e1 b (by cases b <;> first | rfl | exact absurd hb (by decide))
  have h2 := short_step (A := A) f1 h1
  have h3 := short_sg (A := A) f1 (h.sg.of_eq (e1 .sg rfl))
  have e2 := kept (A := A) in_short s1
  generalize (run (short (F := Ideal) A) s1).2 = s2 at h2 h3 e2 ⊢
  have h4 : Is (m := 256) (n := 2560) (s2 .dproj) B.out := is_of_on h2 fun i _ j hj => ⟨Nat.zero_le _, hj⟩
  have h5 := carry_step (A := A) h4
  have e3 := kept (A := A) in_carry s2
  generalize (run (carry (F := Ideal) A) s2).2 = s3 at e3 h5 ⊢
  have e : ∀ b, only .dp b = false → projSum b = false → only .dproj b = false → s3 b = s b := fun b a1 a2 a3 =>
    (e3 b a1).trans ((e2 b a2).trans (e1 b a3))
  refine ⟨?_, ?_, ?_, ?_, ?_, h5, Tl.of_eq (z := true) h.tl (e .gx rfl rfl rfl) (e .dsh rfl rfl rfl) (e .dsc rfl rfl rfl)⟩
  · rw [e3 .dproj rfl]; exact h4
  · rw [e .dm rfl rfl rfl]; exact is_of_on h.dm fun i _ j hj => hj
  · rw [e .cda rfl rfl rfl]; exact h.fix.ce
  · rw [e .cdq rfl rfl rfl]; exact h.fix.cu
  · rw [e3 .sg rfl]; exact fun r c => (h3 r c).trans (by simp only [if_pos (And.intro r.isLt c.isLt)])

theorem middle_done {κ : EReal} {f : BitVec 1} (h : Start B s) (hb : Back B s) (ht : Sums B s) (hκ : κ = ((B.k : ℝ) : EReal))
    (hf : f = if B.fr then 1#1 else 0#1) : Done B (run (middle (F := Ideal) A κ f) s).2 := by
  unfold middle
  refine by_head h hb ht hκ fun _ s h => ?_
  refine by_dh rfl h fun _ s h => ?_
  refine by_dm rfl h fun _ s h => ?_
  refine by_shifts h fun _ s h => ?_
  refine by_conv0 rfl h fun _ s p h => ?_
  iterate 3 refine by_conv rfl p h fun _ s p h => ?_
  refine by_dh rfl h fun _ s h => ?_
  iterate 2 refine by_conv rfl p h fun _ s p h => ?_
  refine by_dm rfl h fun _ s h => ?_
  iterate 2 refine by_conv rfl p h fun _ s p h => ?_
  refine by_flush rfl p h fun _ s h => ?_
  refine by_conv0 rfl h fun _ s p h => ?_
  iterate 3 refine by_conv rfl p h fun _ s p h => ?_
  refine by_dh rfl h fun _ s h => ?_
  iterate 4 refine by_conv rfl p h fun _ s p h => ?_
  refine by_dm rfl h fun _ s h => ?_
  refine by_flush rfl p h fun _ s h => ?_
  refine by_conv0 rfl h fun _ s p h => ?_
  iterate 2 refine by_conv rfl p h fun _ s p h => ?_
  refine by_dh rfl h fun _ s h => ?_
  iterate 5 refine by_conv rfl p h fun _ s p h => ?_
  refine by_flush rfl p h fun _ s h => ?_
  refine by_conv0 rfl h fun _ s p h => ?_
  refine by_dm rfl h fun _ s h => ?_
  iterate 2 refine by_conv rfl p h fun _ s p h => ?_
  refine by_tail hf h fun _ s h => ?_
  iterate 5 refine by_conv rfl p h fun _ s p h => ?_
  refine by_flush rfl p h fun _ s h => ?_
  exact by_end h

/-- The last point has this half alone. -/
theorem last_left {f : BitVec 1} (hb : Back B s) (ht : Sums B s) (hf : f = if B.fr then 1#1 else 0#1) :
    Left B (run (last (F := Ideal) A f) s).2 := by
  suffices H : ∀ (n k : ℕ) (hl : k + n = 4) (s : StI), Back B s → Sums B s → Dh B k s →
      Left B (run (loop A (dhChunk (F := Ideal) A) n k hl >>= fun _ => tail (F := Ideal) A f) s).2 from
    H 4 0 rfl s hb ht fun _ _ hr => absurd hr (Nat.not_lt_zero _)
  intro n
  induction n with
  | zero => intro k hl s hb ht hd; obtain rfl : k = 4 := hl; exact tail_step hb hf hd ht
  | succ n ih =>
    intro k hl s hb ht hd
    show Left B (run (dhChunk (F := Ideal) A ⟨k, by omega⟩ >>= fun _ => loop A (dhChunk (F := Ideal) A) n (k + 1) (by omega) >>= fun _ => tail (F := Ideal) A f) s).2
    rw [run_bind (M := bufs A)]
    have hs := kept (A := A) (in_dh ⟨k, by omega⟩) s
    exact ih (k + 1) _ _ (hb.of_eq fun b hb => hs b (by cases b <;> first | rfl | exact absurd hb (by decide)))
      (Tl.of_eq (z := false) ht (hs .gx rfl) (hs .dsh rfl) (hs .dsc rfl)) (dh_step hb ⟨k, by omega⟩ hd)

end

end Cert.Mix

end
-- ==== Proof.MixPoints.lean ====
/-
  The mixer's backward call over the reals: what every grid point computes, and its blocks' results as rows of one array.
-/
module

public import proofs.«01_k».proof.Proof.MixWhole
public import proofs.«01_k».proof.Proof.MixLaunch

@[expose] public section

set_option maxRecDepth 16384

noncomputable section

namespace Cert.Mix

open Idealize.ShloMosaic Idealize.ShloMosaic.TcCoe Idealize.SL.Sem
open Cert.Kernel3Ideal Cert.Steps Rows

/-! ## The arrays -/

/-- What the call's arrays hold, row by row. -/
structure Arr where
  a : ℕ → ℕ → ℝ
  q : ℕ → ℕ → ℝ
  p : ℕ → ℕ → ℝ
  w : ℕ → ℕ → ℝ
  g : ℕ → ℝ
  b : ℕ → ℝ
  sc : ℕ → ℕ → ℝ
  y : ℕ → ℕ → ℝ
  wo : ℕ → ℕ → ℝ
  wi : ℕ → ℕ → ℝ
  x : ℕ → ℕ → ℝ
  dx : ℕ → ℕ → ℝ
  md : ℕ → ℕ → ℝ

/-- The sum of a batch element's blocks' parts `f`, from its last block to the one before point `t`. -/
def since (f : ℕ → ℝ) (t : ℕ) : ℝ := if t = 0 then 0 else ∑ u ∈ Finset.range ((t - 1) % 16 + 1), f (31 - 16 * ((t - 1) / 16) - u)

theorem since_next (f : ℕ → ℝ) {t : ℕ} (ht : t ≤ 32) :
    (if decide (t = 0 ∨ t % 16 = 1) = true then 0 else since f (t - 1)) + (if t = 0 then 0 else f (32 - t)) = since f t := by
  unfold since
  by_cases h0 : t = 0
  · subst h0; simp
  · rw [if_neg h0, if_neg h0]
    by_cases h1 : t % 16 = 1
    · rw [if_pos (decide_eq_true (.inr h1)), zero_add, show (t - 1) % 16 = 0 by omega, Finset.sum_range_one]
      exact congrArg f (by omega)
    · rw [if_neg (by simp [h0, h1]), if_neg (by omega), show (t - 1) % 16 = (t - 1 - 1) % 16 + 1 by omega, Finset.sum_range_succ _ ((t - 1 - 1) % 16 + 1),
        show (t - 1) / 16 = (t - 1 - 1) / 16 by omega]
      refine congrArg₂ (· + ·) rfl (congrArg f ?_)
      omega

namespace Arr
variable (Z : Arr)

/-- The gradient at the mixers' results, and at the two convolutions'. -/
def dm (n c : ℕ) : ℝ := ∑ j : Fin 1024, Z.y n j.val * Z.wo c j.val
def e (n c : ℕ) : ℝ := rE (Z.a n) (Z.dm n) Z.g Z.b c
def u (n c : ℕ) : ℝ := Z.dm n (512 + c) * Z.p n (1024 + c)
/-- `s` rows on, within the batch element. -/
def on (f : ℕ → ℕ → ℝ) (n s c : ℕ) : ℝ := if n % 4096 + s < 4096 then f (n + s) c else 0
def a0 (n c : ℕ) : ℝ := Z.p n c * rsig (Z.p n (512 + c))
def da (n c : ℕ) : ℝ := ∑ s ∈ Finset.range 31, on Z.e n s c * Z.w (30 - s) c
def dd (n c : ℕ) : ℝ := on Z.u n 2 c * Z.sc 0 c + on Z.u n 1 c * Z.sc 1 c + on Z.u n 0 c * Z.sc 2 c
/-- The gradient at the projection's result. -/
def out (n c : ℕ) : ℝ :=
  if c < 512 then Z.da n c * rsig (Z.p n (512 + c))
  else if c < 1024 then Z.da n (c - 512) * Z.a0 n (c - 512) * (1 - rsig (Z.p n c))
  else if c < 1536 then Z.dm n (512 + (c - 1024)) * Z.q n (c - 1024)
  else if c < 2048 then Z.dd n (c - 1536) * Z.p n (2048 + (c - 1536))
  else Z.dd n (c - 2048) * Z.p n (1536 + (c - 2048))

/-- The gradient at the SiLU's argument. -/
def dS (n c : ℕ) : ℝ := rdS (Z.a n) (Z.dm n) Z.g Z.b c
/-- Row `n`'s part of the small gradient numbered `j`. -/
def term (j n c : ℕ) : ℝ :=
  if j < 31 then on Z.e n (30 - j) c * Z.a0 n c
  else if j < 32 then Z.e n c
  else if j < 33 then Z.dS n c * rnorm (Z.a n) c
  else if j < 34 then Z.dS n c
  else Z.p n (1536 + c) * Z.p n (2048 + c) * on Z.u n (36 - j) c
/-- The small gradients' sums after the first `t` blocks, each of eight rows' parts. -/
def sgs (t r c : ℕ) : ℝ := ∑ t' ∈ Finset.range t, ∑ i ∈ Finset.range 32, Z.term (r / 8) (256 * (31 - t') + (8 * i + r % 8)) c

/-- The gradients at the projection's argument and, through the norm, at the layer's. -/
def dh (n c : ℕ) : ℝ := ∑ j : Fin 2560, Z.out n j.val * Z.wi c j.val
def xn (n c : ℕ) : ℝ := Z.x n c * rs (wide (Z.x n))
def dn (n c : ℕ) : ℝ := Z.dh n c * (1 + Z.md (n / 4096) (1024 + c))
def gx (n c : ℕ) : ℝ :=
  Z.dx n c + rs (wide (Z.x n)) * (Z.dn n c - Z.xn n c * ((∑ k : Fin 1024, Z.dn n k.val * Z.xn n k.val) / 1024))
/-- The shift's and the scale's sums after point `t`. -/
def shs (t r c : ℕ) : ℝ := since (fun i => ∑ j ∈ Finset.range 32, Z.dh (256 * i + (8 * j + r)) c) t
def sls (t r c : ℕ) : ℝ := since (fun i => ∑ j ∈ Finset.range 32, Z.dh (256 * i + (8 * j + r)) c * Z.xn (256 * i + (8 * j + r)) c) t

/-- What point `t` is handed: the blocks go from the last rows to the first. -/
def blk (t : ℕ) : Blk where
  d r := Z.dm (256 * (31 - t) + r)
  a r := Z.a (256 * (31 - t) + r)
  q r := Z.q (256 * (31 - t) + r)
  p r := Z.p (256 * (31 - t) + r)
  w := Z.w
  g := Z.g
  b := Z.b
  sc := Z.sc
  y r := Z.y (256 * (30 - t) + r)
  wo := Z.wo
  ce r c := if t = 0 then 0 else Z.e (256 * (32 - t) + r) c
  cu r c := if t = 0 then 0 else Z.u (256 * (32 - t) + r) c
  k := if t % 16 = 0 then 0 else 1
  sg := Z.sgs t
  dp r c := if t = 0 then 0 else Z.out (256 * (32 - t) + r) c
  wi := Z.wi
  x r := Z.x (256 * min (32 - t) 31 + r)
  dx r := Z.dx (256 * min (32 - t) 31 + r)
  sm c := Z.md (min (32 - t) 31 / 16) (1024 + c)
  ds := Z.shs (t - 1)
  dc := Z.sls (t - 1)
  fr := decide (t = 0 ∨ t % 16 = 1)

theorem blk_e (t r c : ℕ) : (Z.blk t).e r c = Z.e (256 * (31 - t) + r) c := rfl
theorem blk_u (t r c : ℕ) : (Z.blk t).u r c = Z.u (256 * (31 - t) + r) c := rfl

/-- The carried rows are the array's next ones. -/
theorem carried (f : ℕ → ℕ → ℝ) {t r s : ℕ} (ht : t < 32) (hr : r < 256) (hs : ¬ r + s < 256) (hs' : s < 256) (c : ℕ) :
    (if t = 0 then 0 else f (256 * (32 - t) + (r + s - 256)) c) * (if t % 16 = 0 then 0 else 1) = on f (256 * (31 - t) + r) s c := by
  by_cases h : t % 16 = 0
  · rw [if_pos h, mul_zero, on, if_neg (by omega)]
  · rw [if_neg h, mul_one, on, if_neg (by omega), if_pos (by omega)]
    congr 1; omega

theorem own (f : ℕ → ℕ → ℝ) {t r s : ℕ} (ht : t < 32) (hs : r + s < 256) (c : ℕ) :
    f (256 * (31 - t) + (r + s)) c = on f (256 * (31 - t) + r) s c := by
  rw [on, if_pos (by omega)]
  congr 1; omega

theorem xe_at {t r s : ℕ} (ht : t < 32) (hr : r < 256) (hs : s < 31) (c : ℕ) : (Z.blk t).xe (r + s) c = on Z.e (256 * (31 - t) + r) s c := by
  unfold Blk.xe
  by_cases h : r + s < 256
  · rw [if_pos h]; exact own Z.e ht h c
  · rw [if_neg h, if_pos (by omega)]; exact carried Z.e ht hr h (by omega) c

theorem xu_at {t r s : ℕ} (ht : t < 32) (hr : r < 256) (hs : s < 3) (c : ℕ) : (Z.blk t).xu (s + r) c = on Z.u (256 * (31 - t) + r) s c := by
  rw [Nat.add_comm s r]
  unfold Blk.xu
  by_cases h : r + s < 256
  · rw [if_pos h]; exact own Z.u ht h c
  · rw [if_neg h]; exact carried Z.u ht hr h (by omega) c

theorem out_at {t r : ℕ} (ht : t < 32) (hr : r < 256) (c : ℕ) : (Z.blk t).out r c = Z.out (256 * (31 - t) + r) c := by
  have hda : ∀ c, (Z.blk t).da r c = Z.da (256 * (31 - t) + r) c := fun c =>
    Finset.sum_congr rfl fun s hs => congrArg (· * _) (Z.xe_at ht hr (Finset.mem_range.1 hs) c)
  have hdd : ∀ c, (Z.blk t).dd r c = Z.dd (256 * (31 - t) + r) c := fun c => by
    unfold Blk.dd dd
    rw [Z.xu_at ht hr (by omega), Z.xu_at ht hr (by omega), Z.xu_at ht hr (by omega)]
    rfl
  unfold Blk.out out
  rw [hda, hda, hdd, hdd]
  rfl

theorem term_at {t r : ℕ} (ht : t < 32) (hr : r < 256) (j c : ℕ) : (Z.blk t).term j r c = Z.term j (256 * (31 - t) + r) c := by
  unfold Blk.term term
  by_cases h1 : j < 31
  · rw [if_pos h1, if_pos h1, Z.xe_at ht hr (by omega)]; rfl
  · rw [if_neg h1, if_neg h1]
    by_cases h2 : j < 34
    · repeat' split
      all_goals first | rfl | omega
    · rw [Nat.add_comm (36 - j) r, Nat.add_comm r (36 - j), Z.xu_at ht hr (by omega)]; rfl

theorem sgs_next {t : ℕ} (ht : t < 32) (r c : ℕ) : (Z.blk t).sg r c + (Z.blk t).add r c = Z.sgs (t + 1) r c := by
  unfold sgs
  rw [Finset.sum_range_succ]
  refine congrArg (Z.sgs t r c + ·) (Finset.sum_congr rfl fun i hi => ?_)
  have := Finset.mem_range.1 hi
  exact Z.term_at ht (by omega) _ _

/-! The block before's half. -/

theorem dh_at {t : ℕ} (h0 : t ≠ 0) (r c : ℕ) : (Z.blk t).dh r c = Z.dh (256 * (32 - t) + r) c := by
  unfold Blk.dh dh
  simp only [blk, if_neg h0]

theorem dh_zero (r c : ℕ) : (Z.blk 0).dh r c = 0 := by
  unfold Blk.dh
  simp only [blk, if_true, zero_mul, Finset.sum_const_zero]

theorem xn_at {t : ℕ} (h0 : t ≠ 0) (r c : ℕ) : (Z.blk t).xn r c = Z.xn (256 * (32 - t) + r) c := by
  have e : min (32 - t) 31 = 32 - t := by omega
  unfold Blk.xn xn
  simp only [blk, e]

theorem gx_at {t r : ℕ} (h0 : t ≠ 0) (hr : r < 256) (c : ℕ) : (Z.blk t).gx r c = Z.gx (256 * (32 - t) + r) c := by
  have e : min (32 - t) 31 = 32 - t := by omega
  have hb : (256 * (32 - t) + r) / 4096 = (32 - t) / 16 := by omega
  have hd : ∀ c, (Z.blk t).dn r c = Z.dn (256 * (32 - t) + r) c := fun c => by
    unfold Blk.dn dn
    rw [Z.dh_at h0, hb]
    simp only [blk, e]
  unfold Blk.gx gx
  simp only [hd, Z.xn_at h0]
  simp only [blk, e]

theorem sh_at {t : ℕ} (ht : t ≤ 32) (r c : ℕ) : (Z.blk t).sh r c = Z.shs t r c := by
  unfold shs
  rw [← since_next _ ht]
  refine congrArg₂ (· + ·) rfl ?_
  by_cases h0 : t = 0
  · subst h0; simp only [Z.dh_zero, Finset.sum_const_zero, if_true]
  · simp only [Z.dh_at h0, if_neg h0]

theorem sl_at {t : ℕ} (ht : t ≤ 32) (r c : ℕ) : (Z.blk t).sl r c = Z.sls t r c := by
  unfold sls
  rw [← since_next _ ht]
  refine congrArg₂ (· + ·) rfl ?_
  by_cases h0 : t = 0
  · subst h0; simp only [Z.dh_zero, zero_mul, Finset.sum_const_zero, if_true]
  · simp only [Z.dh_at h0, Z.xn_at h0, if_neg h0]

/-- What a point finds in the scratch. -/
structure Held (t : ℕ) (s : StI) : Prop where
  d : Is (m := 256) (n := 1024) (s .dm) (Z.blk t).d
  ce : Is (m := 32) (n := 512) (s .cda) (Z.blk t).ce
  cu : Is (m := 8) (n := 512) (s .cdq) (Z.blk t).cu
  dp : Is (m := 256) (n := 2560) (s .dp) (Z.blk t).dp

theorem next (t : ℕ) : (Z.blk t).nd = (Z.blk (t + 1)).d ∧ (Z.blk t).e = (Z.blk (t + 1)).ce ∧ (Z.blk t).u = (Z.blk (t + 1)).cu := by
  have h1 : 31 - (t + 1) = 30 - t := by omega
  have h2 : 32 - (t + 1) = 31 - t := by omega
  refine ⟨?_, ?_, ?_⟩ <;> funext r c
  · show _ = Z.dm (256 * (31 - (t + 1)) + r) c
    rw [h1]; rfl
  · show _ = if t + 1 = 0 then 0 else Z.e (256 * (32 - (t + 1)) + r) c
    rw [h2, if_neg (by omega)]; rfl
  · show _ = if t + 1 = 0 then 0 else Z.u (256 * (32 - (t + 1)) + r) c
    rw [h2, if_neg (by omega)]; rfl

variable {Z}

theorem Held.of_done {t : ℕ} (ht : t < 32) {s : StI} (h : Done (Z.blk t) s) : Z.Held (t + 1) s :=
  ⟨(Z.next t).1 ▸ h.dm, (Z.next t).2.1 ▸ h.ce, (Z.next t).2.2 ▸ h.cu, fun r c => (h.dp r c).trans (congrArg _ (by
    rw [Z.out_at ht r.isLt]
    have e : 32 - (t + 1) = 31 - t := by omega
    simp only [blk, e, if_neg (Nat.succ_ne_zero t)]))⟩

end Arr

/-! ## What a point leaves alone -/

/-- The staged arguments. -/
def isArg : Name → Bool
  | .dyl | .dy | .wo | .a1 | .q | .proj | .wb | .lng | .lnb | .scw | .wi | .x | .dx1 | .mod => true
  | _ => false
def notArg (b : Name) : Bool := !isArg b

variable {A : Args}

theorem within_mono {W W' : Name → Bool} (hW : ∀ b, W b = true → W' b = true) {α : Type} {p : C A Ideal α} (h : Within (M := bufs A) W p) :
    Within (M := bufs A) W' p := by
  induction p with
  | ret a => trivial
  | op e c ih =>
    cases e with
    | load b off size inb hl => exact fun x => ih x (h x)
    | store b off size inb w hs => exact ⟨hW _ h.1, ih ⟨⟩ h.2⟩

theorem In.any {W : Name → Bool} {α : Type} {p : C A Ideal α} (h : In W p) (hW : ∀ b, W b = true → notArg b = true := by
    intro b; cases b <;> decide) : In notArg p := ⟨within_mono hW h.within⟩

theorem in_first (j : Fin 4) : In (only .dm) (dmChunk (F := Ideal) A .dyl (.inl rfl) j) :=
  in_bind (in_ld ..) fun _ => in_bind (in_ld ..) fun _ => in_st rfl ..

theorem in_start : In notArg (start (F := Ideal) A) := by
  unfold start
  exact in_bind (in_st rfl ..) fun _ => in_bind (in_sth rfl ..) fun _ => in_bind (in_st rfl ..) fun _ => in_bind (in_st rfl ..) fun _ =>
    in_loop (fun j => (in_first j).any) _ _ _

/-- The buffers the half for the block before stores into. -/
def other : Name → Bool
  | .gx | .dsh | .dsc | .dh => true
  | _ => false

theorem in_last (f : BitVec 1) : In other (last (F := Ideal) A f) :=
  in_bind (in_loop (fun j => ⟨within_mono (by intro b; cases b <;> decide) (in_dh j).within⟩) _ _ _) fun _ =>
    ⟨within_mono (by intro b; cases b <;> decide) (in_tail f).within⟩

theorem in_middle (κ : EReal) (f : BitVec 1) : In notArg (middle (F := Ideal) A κ f) := by
  unfold middle
  refine in_bind (in_head κ).any fun _ => ?_
  repeat' first
    | refine in_bind (in_conv _ _).any fun _ => ?_
    | refine in_bind (in_dh _).any fun _ => ?_
    | refine in_bind (in_dm _).any fun _ => ?_
    | refine in_bind (in_flush _ _).any fun _ => ?_
    | refine in_bind (in_tail _).any fun _ => ?_
    | refine in_bind (in_loop in_shift _ _ _).any fun _ => ?_
    | refine in_bind in_emit.any fun _ => ?_
    | refine in_bind in_short.any fun _ => ?_
    | exact in_carry.any

/-- A point leaves the staged arguments as they were. -/
theorem arg_kept (i : grid0.Coords) (s : StI) (b : Name) (hb : isArg b = true) : runBlock (F := Ideal) A i s b = s b := by
  have hb' : notArg b = false := by simp [notArg, hb]
  unfold runBlock
  have h1 : ∀ s : StI, (if k0_cond1 i = 1#1 then (run (start A) s).2 else s) b = s b := fun s => by
    split; exacts [kept in_start s b hb', rfl]
  have h2 : ∀ s : StI, (if k0_cond2 i = 1#1 then (run (middle A (keep i) (fresh i)) s).2 else s) b = s b := fun s => by
    split; exacts [kept (in_middle _ _) s b hb', rfl]
  have h3 : ∀ s : StI, (if k0_cond3 i = 1#1 then (run (last A (fresh i)) s).2 else s) b = s b := fun s => by
    split; exacts [kept (in_last _).any s b hb', rfl]
  exact (h3 _).trans ((h2 _).trans (h1 _))

/-! ## The first point's start -/

theorem first_step {s : StI} {Y WO R : ℕ → ℕ → ℝ} (hR : ∀ r c, R r c = ∑ k : Fin 1024, Y r k.val * WO c k.val)
    (hy : Is (m := 256) (n := 1024) (s .dyl) Y) (hw : Is (m := 1024) (n := 1024) (s .wo) WO) (j : Fin 4)
    (hm : On (m := 256) (n := 1024) (fun _ c => c < 256 * j.val) (s .dm) R) :
    On (m := 256) (n := 1024) (fun _ c => c < 256 * (j.val + 1)) ((run (dmChunk (F := Ideal) A .dyl (.inl rfl) j) s).2 .dm) R := by
  simp only [dmChunk, ld, st, run_bind, run, Act.run, Function.update_self, shapeCast_id]
  have hd := is_dm (is_all hy (in2 (by decide) (by decide))) (is_ld (a := 256 * j.val) (b := 0) (p := 256) (q := 1024) hw (in2 (by omega) (by decide)))
  simp only [shapeCast_id] at hd
  refine on_put hm (fun r c => (hd r c).trans ?_) fun i k hi _ hk => ?_
  · simp only [hR, Nat.zero_add]
  · by_cases hk' : k < 256 * j.val
    exacts [.inr ⟨hk', rfl⟩, .inl (by omega)]

theorem first_steps {Y WO R : ℕ → ℕ → ℝ} (hR : ∀ r c, R r c = ∑ k : Fin 1024, Y r k.val * WO c k.val) (n k : ℕ) (hn : k + n = 4) (s : StI)
    (hy : Is (m := 256) (n := 1024) (s .dyl) Y) (hw : Is (m := 1024) (n := 1024) (s .wo) WO)
    (hm : On (m := 256) (n := 1024) (fun _ c => c < 256 * k) (s .dm) R) :
    Is (m := 256) (n := 1024) ((run (loop A (dmChunk (F := Ideal) A .dyl (.inl rfl)) n k hn) s).2 .dm) R := by
  induction n generalizing k s with
  | zero =>
    obtain rfl : k = 4 := hn
    exact is_of_on hm fun _ _ _ h => h
  | succ n ih =>
    show Is (m := 256) (n := 1024) ((run (dmChunk (F := Ideal) A .dyl (.inl rfl) ⟨k, by omega⟩ >>= fun _ =>
      loop A (dmChunk (F := Ideal) A .dyl (.inl rfl)) n (k + 1) (by omega)) s).2 .dm) R
    rw [run_bind (M := bufs A)]
    have hs := kept (A := A) (in_first ⟨k, by omega⟩) s
    refine ih (k + 1) _ _ ?_ ?_ (first_step hR hy hw ⟨k, by omega⟩ hm)
    · have := hs .dyl rfl; rw [this]; exact hy
    · have := hs .wo rfl; rw [this]; exact hw

theorem start_held {Z : Arr} {s : StI} (hy : Is (m := 256) (n := 1024) (s .dyl) fun r => Z.y (256 * 31 + r))
    (hw : Is (m := 1024) (n := 1024) (s .wo) Z.wo) : Z.Held 0 (run (start (F := Ideal) A) s).2 := by
  have e : start (F := Ideal) A = (st A .sg ![0, 0] S296x512.size (in2 (by decide) (by decide)) Gen.h_S296x512 rfl (zero S296x512) >>= fun _ =>
      sth A .dp ![0, 0] S256x2560.size (in2 (by decide) (by decide)) Gen.h_S256x2560 Gen.packedbf16_S256x2560_S256x2560_0_0
        (shapeCast S256x2560 (broadcast S256x2560 (Scalar.ofBits .bf16 0x0000#16)) Gen.shapeCasts_S256x2560_S256x2560) >>= fun _ =>
      st A .cda ![0, 0] S32x512.size (in2 (by decide) (by decide)) Gen.h_S32x512 rfl (shapeCast S32x512 (zero S32x512) Gen.shapeCasts_S32x512_S32x512) >>= fun _ =>
      st A .cdq ![0, 0] S8x512.size (in2 (by decide) (by decide)) Gen.h_S8x512 rfl (shapeCast S8x512 (zero S8x512) Gen.shapeCasts_S8x512_S8x512) >>= fun _ =>
      loop A (dmChunk A .dyl (.inl rfl)) 4 0 rfl) := rfl
  rw [e]
  rw [run_bind (M := bufs A), run_bind (M := bufs A), run_bind (M := bufs A), run_bind (M := bufs A)]
  have hs := fun s => kept (A := A) (in_loop (W := only .dm) in_first 4 0 rfl) s
  have hf := fun (s : StI) hy hw => first_steps (A := A) (Y := fun r => Z.y (256 * 31 + r)) (R := (Z.blk 0).d) (WO := Z.wo) (fun r c => rfl) 4 0 rfl s hy hw
    (fun _ _ h => absurd h (Nat.not_lt_zero _))
  refine ⟨?_, ?_, ?_, ?_⟩
  · refine hf _ ?_ ?_ <;> simp only [st, sth, run, Act.run, Function.update_of_ne, ne_eq, reduceCtorEq, not_false_eq_true]
    exacts [hy, hw]
  · rw [hs _ .cda rfl]
    simp only [st, sth, run, Act.run, Function.update_of_ne, Function.update_self, ne_eq, reduceCtorEq, not_false_eq_true, shapeCast_id]
    refine is_put fun r c => ?_
    pointwise
    rfl
  · rw [hs _ .cdq rfl]
    simp only [st, sth, run, Act.run, Function.update_of_ne, Function.update_self, ne_eq, reduceCtorEq, not_false_eq_true, shapeCast_id]
    refine is_put fun r c => ?_
    pointwise
    rfl
  · rw [hs _ .dp rfl]
    simp only [st, sth, run, Act.run, Function.update_of_ne, Function.update_self, ne_eq, reduceCtorEq, not_false_eq_true, shapeCast_id]
    refine is_put fun r c => ?_
    pointwise
    rfl

/-- It clears the sums. -/
theorem start_sg {Z : Arr} {s : StI} : Is (m := 296) (n := 512) ((run (start (F := Ideal) A) s).2 .sg) (Z.sgs 0) := by
  unfold start
  simp only [run_bind (M := bufs A)]
  rw [kept (A := A) (in_loop (W := only .dm) in_first 4 0 rfl) _ .sg rfl]
  simp only [st, sth, run, Act.run, Function.update_of_ne, Function.update_self, ne_eq, reduceCtorEq, not_false_eq_true]
  refine is_put fun r c => ?_
  pointwise
  rfl

/-! ## One point -/

theorem cond1_at : ∀ t : Fin grid0.N, (k0_cond1 (grid0.coords t) = 1#1 ↔ t.val = 0) := by decide +kernel
theorem cond2_at : ∀ t : Fin grid0.N, (k0_cond2 (grid0.coords t) = 1#1 ↔ t.val < 32) := by decide +kernel
theorem cond3_at : ∀ t : Fin grid0.N, (k0_cond3 (grid0.coords t) = 1#1 ↔ t.val = 32) := by decide +kernel
theorem last_at : ∀ t : Fin grid0.N, t.val < 32 →
    lastOf (Scalar.subi 31#32 (BitVec.ofNat 32 (grid0.coords t 0).val)) = if t.val % 16 = 0 then 1#1 else 0#1 := by decide +kernel

theorem fresh_at : ∀ t : Fin grid0.N, fresh (grid0.coords t) = if decide (t.val = 0 ∨ t.val % 16 = 1) = true then 1#1 else 0#1 := by decide +kernel

theorem keep_at (Z : Arr) (t : Fin grid0.N) (ht : t.val < 32) : keep (F := Ideal) (grid0.coords t) = (((Z.blk t.val).k : ℝ) : EReal) := by
  unfold keep
  rw [last_at t ht]
  by_cases h : t.val % 16 = 0
  · rw [if_pos h]
    simp only [Arr.blk, if_pos h]
    exact bits_zero
  · rw [if_neg h]
    simp only [Arr.blk, if_neg h]
    exact bits_one

theorem point {Z : Arr} (t : Fin grid0.N) (ht : t.val < 32) {s : StI} (hi : Ins (Z.blk t.val) s)
    (hy : t.val = 0 → Is (m := 256) (n := 1024) (s .dyl) fun r => Z.y (256 * 31 + r)) (hs : t.val ≠ 0 → Z.Held t.val s)
    (hg : t.val ≠ 0 → Is (m := 296) (n := 512) (s .sg) (Z.sgs t.val)) (hh : Half (Z.blk t.val) s) (hu : Sums (Z.blk t.val) s) :
    Done (Z.blk t.val) (runBlock (F := Ideal) A (grid0.coords t) s) := by
  unfold runBlock
  have c2 := (cond2_at t).2 ht
  have c3 : ¬ k0_cond3 (grid0.coords t) = 1#1 := fun h => by have := (cond3_at t).1 h; omega
  simp only [if_pos c2, if_neg c3]
  by_cases h0 : t.val = 0
  · rw [if_pos ((cond1_at t).2 h0)]
    have h := start_held (A := A) (Z := Z) (hy h0) hi.wo
    have h' : Z.Held t.val (run (start (F := Ideal) A) s).2 := by rw [h0]; exact h
    have hfr : (Z.blk t.val).fr = true := decide_eq_true (.inl h0)
    refine middle_done
      { toIns := hi.of_eq fun b hb => kept in_start s b (by cases b <;> first | rfl | exact absurd hb (by decide)), d := h'.d, ce := h'.ce, cu := h'.cu,
        sg := by simp only [Arr.blk, h0]; exact start_sg }
      { toHalf := hh.of_eq fun b hb => kept in_start s b (by cases b <;> first | rfl | exact absurd hb (by decide)), dp := h'.dp }
      ⟨fun h => absurd (hfr.symm.trans h) (by decide), fun h => absurd (hfr.symm.trans h) (by decide)⟩ (keep_at Z t ht) (fresh_at t)
  · rw [if_neg fun h => h0 ((cond1_at t).1 h)]
    exact middle_done { toIns := hi, d := (hs h0).d, ce := (hs h0).ce, cu := (hs h0).cu, sg := hg h0 } { toHalf := hh, dp := (hs h0).dp } hu
      (keep_at Z t ht) (fresh_at t)

/-- The last point's results. -/
theorem point_end {Z : Arr} (t : Fin grid0.N) (ht : ¬ t.val < 32) {s : StI} (hb : Back (Z.blk t.val) s) (hu : Sums (Z.blk t.val) s) :
    Left (Z.blk t.val) (runBlock (F := Ideal) A (grid0.coords t) s) := by
  unfold runBlock
  have c1 : ¬ k0_cond1 (grid0.coords t) = 1#1 := fun h => by have := (cond1_at t).1 h; omega
  have c2 : ¬ k0_cond2 (grid0.coords t) = 1#1 := fun h => ht ((cond2_at t).1 h)
  have c3 : k0_cond3 (grid0.coords t) = 1#1 := (cond3_at t).2 (by have : t.val < 33 := lt_of_lt_of_eq t.isLt Gen.N_0; omega)
  simp only [if_neg c1, if_neg c2, if_pos c3]
  exact last_left hb hu (fresh_at t)

/-- The last point leaves the result and the sums as they were. -/
theorem point_last (t : Fin grid0.N) (ht : ¬ t.val < 32) (s : StI) (b : Name) (hb : other b = false) :
    runBlock (F := Ideal) A (grid0.coords t) s b = s b := by
  unfold runBlock
  have c1 : ¬ k0_cond1 (grid0.coords t) = 1#1 := fun h => by have := (cond1_at t).1 h; omega
  have c2 : ¬ k0_cond2 (grid0.coords t) = 1#1 := fun h => ht ((cond2_at t).1 h)
  simp only [if_neg c1, if_neg c2]
  split
  · exact kept (in_last _) s b hb
  · rfl

end Cert.Mix

end
-- ==== Proof.MixMath.lean ====
/-
  The mixer's forward lines over the reals, and the sums in which its two programs differ.
-/
module

public import proofs.«01_k».proof.Proof.MixPoints

@[expose] public section

noncomputable section

namespace Cert.Mix

open Idealize.ShloMosaic Rows

/-! ## The lines of the forward pass -/

/-- The reals that the arguments hold. -/
structure Real10 where
  x : ℕ → ℕ → ℕ → ℝ
  md : ℕ → ℕ → ℝ
  wi : ℕ → ℕ → ℝ
  wc : ℕ → ℕ → ℝ
  bc : ℕ → ℝ
  g : ℕ → ℝ
  b : ℕ → ℝ
  ws : ℕ → ℕ → ℝ
  wo : ℕ → ℕ → ℝ
  ct : ℕ → ℕ → ℕ → ℝ

namespace Real10

variable (A : Real10)

/-- The modulated input of the mixer. -/
def h (b t k : ℕ) : ℝ := A.x b t k * rs (fun j : Fin 1024 => A.x b t j.val) * (1 + A.md b (1024 + k)) + A.md b k
/-- Its projection onto the five branches. -/
def proj (b t f : ℕ) : ℝ := ∑ k : Fin 1024, A.h b t k.val * A.wi k.val f
/-- The gated value. -/
def glu (b t c : ℕ) : ℝ := A.proj b t c * rsig (A.proj b t (512 + c))
end Real10

/-- A causal convolution over `n` taps. -/
def causal (n : ℕ) (W : ℕ → ℕ → ℝ) (f : ℕ → ℕ → ℝ) (t c : ℕ) : ℝ :=
  ∑ k : Fin n, W k.val c * ∑ s : Fin 4096, if t + k.val = s.val + (n - 1) then f s.val c else 0

namespace Real10

variable (A : Real10)

/-- The long convolution with its bias. -/
def a1 (b t c : ℕ) : ℝ := causal 31 A.wc (A.glu b) t c + A.bc c
/-- The short convolution of the gated branch. -/
def q (b t c : ℕ) : ℝ := causal 3 A.ws (fun s c => A.proj b s (1536 + c) * A.proj b s (2048 + c)) t c
/-- The gradient of the mixer's result. -/
def y (b t k : ℕ) : ℝ := A.md b (2048 + k) * A.ct b t k

/-- The gradient of the two branches side by side. -/
def dm (b t c : ℕ) : ℝ := ∑ j : Fin 1024, A.y b t j.val * A.wo c j.val
/-- The gradient before the long convolution. -/
def e (b t c : ℕ) : ℝ := rE (A.a1 b t) (A.dm b t) A.g A.b c
/-- The gradient before the short convolution. -/
def u (b t c : ℕ) : ℝ := A.proj b t (1024 + c) * A.dm b t (512 + c)
/-- The gradient of a causal convolution's input. -/
def back (n : ℕ) (W : ℕ → ℕ → ℝ) (f : ℕ → ℕ → ℝ) (s c : ℕ) : ℝ :=
  ∑ k : Fin n, ∑ t : Fin 4096, if t.val + k.val = s + (n - 1) then W k.val c * f t.val c else 0
def da (b : ℕ) : ℕ → ℕ → ℝ := back 31 A.wc (A.e b)
def dd (b : ℕ) : ℕ → ℕ → ℝ := back 3 A.ws (A.u b)

/-- The arrays that the mixer's backward call is given. -/
def arr : Arr where
  a n c := A.a1 (n / 4096) (n % 4096) c
  q n c := A.q (n / 4096) (n % 4096) c
  p n c := A.proj (n / 4096) (n % 4096) c
  w := A.wc
  g := A.g
  b := A.b
  sc := A.ws
  y n k := A.y (n / 4096) (n % 4096) k
  wo := A.wo
  wi := A.wi
  x n c := A.x (n / 4096) (n % 4096) c
  dx n c := A.ct (n / 4096) (n % 4096) c
  md := A.md

end Real10

/-! ## The two programs' forms of these lines -/

theorem sig_real (x : ℝ) : Ideal.div ((1 : ℝ) : EReal) ((1 : ℝ) + Ideal.exp (-(x : EReal))) = ((rsig x : ℝ) : EReal) := by
  rw [← EReal.coe_neg, exp_real, ← EReal.coe_add, div_real (by positivity), rsig]

/-- The mask of a tap: row `t` takes row `s` where `t + k = s + d`. -/
theorem masked (t k s d : ℕ) (ht : t < 4096) (hk : k < 32) (hs : s < 4096) (hd : d < 32) (x : ℝ) {z : EReal}
    (hz : z = ((0 : ℝ) : EReal)) : Scalar.select (IntOp.cmpi .eq (IntOp.addi (BitVec.ofNat 32 t) (BitVec.ofNat 32 k))
      (IntOp.addi (BitVec.ofNat 32 s) (BitVec.ofNat 32 d))) (x : EReal) z
      = ((if t + k = s + d then x else 0 : ℝ) : EReal) := by
  have e : (IntOp.addi (BitVec.ofNat 32 t) (BitVec.ofNat 32 k) = IntOp.addi (BitVec.ofNat 32 s) (BitVec.ofNat 32 d)) ↔ t + k = s + d := by
    simp only [IntOp.addi, ← BitVec.ofNat_add, ← BitVec.toNat_inj, BitVec.toNat_ofNat]
    rw [Nat.mod_eq_of_lt (by omega), Nat.mod_eq_of_lt (by omega)]
  rw [hz]
  by_cases h : t + k = s + d
  · rw [if_pos h, e.2 h]
    simp [Scalar.select, IntOp.cmpi]
  · rw [if_neg h]
    have h' := beq_eq_false_iff_ne.2 (mt e.1 h)
    simp [Scalar.select, IntOp.cmpi, h']

/-! ## The convolution's gradient -/

/-- The gradient of a convolution sums over taps and rows; only one row of each tap counts. -/
theorem taps_sum (n : ℕ) (W : ℕ → ℝ) (f : ℕ → ℝ) (s : Fin 4096) :
    ∑ k : Fin n, ∑ t : Fin 4096, (if t.val + k.val = s.val + (n - 1) then W k.val * f t.val else 0)
      = ∑ j ∈ Finset.range n, (if s.val + j < 4096 then f (s.val + j) else 0) * W (n - 1 - j) := by
  rw [Fin.sum_univ_eq_sum_range (fun k => ∑ t : Fin 4096, if t.val + k = s.val + (n - 1) then W k * f t.val else 0),
    ← Finset.sum_range_reflect]
  refine Finset.sum_congr rfl fun j hj => ?_
  have hj := Finset.mem_range.1 hj
  by_cases h : s.val + j < 4096
  · rw [if_pos h, Finset.sum_eq_single ⟨s.val + j, h⟩, if_pos (by show s.val + j + _ = _; omega), mul_comm]
    · exact fun t _ ht => if_neg fun e => ht (Fin.ext (by show t.val = s.val + j; omega))
    · exact fun hn => (hn (Finset.mem_univ _)).elim
  · rw [if_neg h, zero_mul]
    exact Finset.sum_eq_zero fun t _ => if_neg fun e => h (by have := t.isLt; omega)

/-- A row further on is a later row of the same batch. -/
theorem on_rows (F : ℕ → ℕ → ℕ → ℝ) (f : ℕ → ℕ → ℝ) (hf : ∀ n c, f n c = F (n / 4096) (n % 4096) c) (n s c : ℕ) :
    Arr.on f n s c = if n % 4096 + s < 4096 then F (n / 4096) (n % 4096 + s) c else 0 := by
  unfold Arr.on
  by_cases h : n % 4096 + s < 4096
  · rw [if_pos h, if_pos h, hf, show (n + s) / 4096 = n / 4096 by omega, show (n + s) % 4096 = n % 4096 + s by omega]
  · rw [if_neg h, if_neg h]

namespace Real10

variable (A : Real10)

theorem back_eq (n : ℕ) (W f : ℕ → ℕ → ℝ) (s c : ℕ) (hs : s < 4096) :
    back n W f s c = ∑ j ∈ Finset.range n, (if s + j < 4096 then f (s + j) c else 0) * W (n - 1 - j) c :=
  taps_sum n (fun k => W k c) (fun t => f t c) ⟨s, hs⟩

theorem arr_da (n c : ℕ) : A.arr.da n c = A.da (n / 4096) (n % 4096) c := by
  rw [da, back_eq _ _ _ _ _ (Nat.mod_lt _ (by norm_num))]
  exact Finset.sum_congr rfl fun s _ => congrArg (· * _) (on_rows A.e _ (fun _ _ => rfl) n s c)

theorem arr_dd (n c : ℕ) : A.arr.dd n c = A.dd (n / 4096) (n % 4096) c := by
  have h := on_rows A.u A.arr.u (fun _ _ => mul_comm _ _) n
  rw [dd, back_eq _ _ _ _ _ (Nat.mod_lt _ (by norm_num)), Arr.dd, h, h, h, Finset.sum_range_succ, Finset.sum_range_succ,
    Finset.sum_range_one]
  show _ * A.ws 0 c + _ * A.ws 1 c + _ * A.ws 2 c = _ * A.ws 2 c + _ * A.ws 1 c + _
  ring

end Real10

/-! ## The LayerNorm's gradient -/

theorem rcen_sum (a : ℕ → ℝ) : ∑ k : Fin 512, rcen a k.val = 0 := by
  simp only [rcen, rmean, Finset.sum_sub_distrib, Finset.sum_const, Finset.card_univ, Fintype.card_fin, nsmul_eq_mul]
  push_cast
  ring

/-- The LayerNorm's gradient as the chain rule gives it, line by line. -/
def chainN (a n : ℕ → ℝ) (c : ℕ) : ℝ :=
  let v := ((∑ k : Fin 512, rcen a k.val * n k.val) * (-(1 / 2) * (rinv a / (rvar a + eps)))) / 512
  n c * rinv a + v * (2 * rcen a c)
    + ((∑ k : Fin 512, -(n k.val * rinv a)) + ∑ k : Fin 512, -(v * (2 * rcen a k.val))) / 512

theorem rinv_sq (a : ℕ → ℝ) : rinv a / (rvar a + eps) = rinv a * (rinv a * rinv a) := by
  have h := Real.mul_self_sqrt (rvar_pos a).le
  have h0 := (Real.sqrt_pos.2 (rvar_pos a)).ne'
  rw [rinv, ← mul_inv, h, div_eq_mul_inv]

theorem chainN_eq (a d g : ℕ → ℝ) (c : ℕ) : chainN a (fun k => d k * g k) c = rdN a d g c := by
  have h1 : ∀ v : ℝ, ∑ k : Fin 512, -(v * (2 * rcen a k.val)) = 0 := fun v => by
    have e : ∀ k : Fin 512, -(v * (2 * rcen a k.val)) = -(v * 2) * rcen a k.val := fun k => by ring
    rw [Finset.sum_congr rfl fun k _ => e k, ← Finset.mul_sum, rcen_sum, mul_zero]
  have h2 : ∑ k : Fin 512, -(d k.val * g k.val * rinv a) = -(rinv a) * ∑ k : Fin 512, d k.val * g k.val := by
    rw [Finset.mul_sum]
    exact Finset.sum_congr rfl fun k _ => by ring
  have h3 : ∑ k : Fin 512, d k.val * g k.val * rnorm a k.val = rinv a * ∑ k : Fin 512, rcen a k.val * (d k.val * g k.val) := by
    rw [Finset.mul_sum]
    exact Finset.sum_congr rfl fun k _ => by rw [rnorm]; ring
  simp only [chainN, h1, h2, rdN, rmean, h3, rinv_sq]
  simp only [rnorm]
  ring

/-- The SiLU's gradient as the chain rule gives it. -/
theorem dS_eq (a d g b : ℕ → ℝ) (c : ℕ) :
    d c * rsig (rpre a g b c) + rpre a g b c * d c * (rsig (rpre a g b c) * (1 - rsig (rpre a g b c))) = rdS a d g b c := by
  rw [rdS]
  ring

/-! ## A sum over taps and rows -/

/-- The indices of a rank-5 array that drop to given coordinates when its first and third axes go. -/
theorem taps_fiber {a b n s k : ℕ} (h : (⟨5, ![a, b, n, s, k]⟩ : Shape).ReducesTo [0, 2] ⟨3, ![b, s, k]⟩) (x : Fin b) (y : Fin s)
    (z : Fin k) (i : (⟨5, ![a, b, n, s, k]⟩ : Shape).Idx) :
    h.drop i = ix3 x y z ↔ ∃ p : Fin a × Fin n, ix5 p.1 x p.2 y z = i := by
  constructor
  · intro e
    refine ⟨(i 0, i 2), funext fun x => Fin.ext ?_⟩
    match x with
    | ⟨0, _⟩ => rfl
    | ⟨1, _⟩ => exact (congrArg Fin.val (congrFun e 0)).symm
    | ⟨2, _⟩ => rfl
    | ⟨3, _⟩ => exact (congrArg Fin.val (congrFun e 1)).symm
    | ⟨4, _⟩ => exact (congrArg Fin.val (congrFun e 2)).symm
  · rintro ⟨p, rfl⟩
    funext x
    apply Fin.ext
    match x with
    | ⟨0, _⟩ => rfl
    | ⟨1, _⟩ => rfl
    | ⟨2, _⟩ => rfl

/-- The host's sum of a rank-5 array over its first and third axes. -/
theorem host_taps {a b n s k : ℕ} (h : (⟨5, ![a, b, n, s, k]⟩ : Shape).ReducesTo [0, 2] ⟨3, ![b, s, k]⟩)
    (v : (⟨5, ![a, b, n, s, k]⟩ : Shape).Idx → EReal) (o : EReal) (x : Fin b) (y : Fin s) (z : Fin k) :
    Ideal.hostReduceAdd h v o (ix3 x y z) = o + ∑ i : Fin a, ∑ j : Fin n, v (ix5 i x j y z) := by
  refine congrArg (o + ·) ((Finset.sum_filter_eq_sum_of_fiber _ (fun p : Fin a × Fin n => ix5 p.1 x p.2 y z)
    (fun _ _ e => Prod.ext (congrFun e 0) (congrFun e 2)) (taps_fiber h x y z) v).trans ?_)
  simp only [Fintype.sum_prod_type]

/-- The indices of a rank-4 array that drop to given coordinates when its middle axes go. -/
theorem middle_fiber {a b d n : ℕ} (h : (⟨4, ![a, b, d, n]⟩ : Shape).ReducesTo [1, 2] ⟨2, ![a, n]⟩) (x : Fin a) (y : Fin n)
    (i : (⟨4, ![a, b, d, n]⟩ : Shape).Idx) : h.drop i = ix2 x y ↔ ∃ p : Fin b × Fin d, ix4 x p.1 p.2 y = i := by
  constructor
  · intro e
    refine ⟨(i 1, i 2), funext fun x => Fin.ext ?_⟩
    match x with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨p, rfl⟩
    funext x
    apply Fin.ext
    match x with
    | ⟨0, _⟩ => rfl
    | ⟨1, _⟩ => rfl

/-- The host's sum of a rank-4 array over its middle axes. -/
theorem host_middle {a b d n : ℕ} (h : (⟨4, ![a, b, d, n]⟩ : Shape).ReducesTo [1, 2] ⟨2, ![a, n]⟩)
    (v : (⟨4, ![a, b, d, n]⟩ : Shape).Idx → EReal) (o : EReal) (x : Fin a) (y : Fin n) :
    Ideal.hostReduceAdd h v o (ix2 x y) = o + ∑ i : Fin b, ∑ j : Fin d, v (ix4 x i j y) := by
  refine congrArg (o + ·) ((Finset.sum_filter_eq_sum_of_fiber _ (fun p : Fin b × Fin d => ix4 x p.1 p.2 y)
    (fun _ _ e => Prod.ext (congrFun e 1) (congrFun e 2)) (middle_fiber h x y) v).trans ?_)
  simp only [Fintype.sum_prod_type]

/-- A causal convolution's gradient at its taps. -/
def tapGrad (n : ℕ) (E F : ℕ → ℕ → ℕ → ℝ) (k c : ℕ) : ℝ :=
  ∑ b : Fin 2, ∑ t : Fin 4096, E b.val t.val c * ∑ s : Fin 4096, if t.val + k = s.val + (n - 1) then F b.val s.val c else 0

end Cert.Mix
-- ==== Proof.MixEntry.lean ====
/-
  The arrays that the mixer's backward call is given, on finite arguments: the lines of the forward pass before it.
-/
module

public import proofs.«01_k».proof.Proof.Gen.Kernel3Ideal.Frame
public import proofs.«01_k».proof.Proof.MixMath
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem

namespace Cert.Mix

open Cert.Kernel3Ideal Cert.Kernel3Ideal.Gen Rows

/-- The arguments hold these reals. -/
structure Holds (m : (ℓ : Loc nD τ Cert.Kernel3Ideal.sig) → Buf (Elt Ideal) ℓ) (c : Dev nD) (A : Real10) : Prop where
  x : ∀ b t k, (m (c, Proc.devRef .tc main_arg0) : FVec Ideal S2x4096x1024 .f32) (ix3 b t k) = ((A.x b.val t.val k.val : ℝ) : EReal)
  md : Is (m := 2) (n := 6144) (m (c, Proc.devRef .tc main_arg1)) A.md
  wi : Is (m := 1024) (n := 2560) (m (c, Proc.devRef .tc main_arg2)) A.wi
  wc : Is (m := 31) (n := 512) (m (c, Proc.devRef .tc main_arg3)) A.wc
  bc : ∀ k, (m (c, Proc.devRef .tc main_arg4) : FVec Ideal S512 .f32) (ix1 k) = ((A.bc k.val : ℝ) : EReal)
  g : ∀ k, (m (c, Proc.devRef .tc main_arg5) : FVec Ideal S512 .f32) (ix1 k) = ((A.g k.val : ℝ) : EReal)
  b : ∀ k, (m (c, Proc.devRef .tc main_arg6) : FVec Ideal S512 .f32) (ix1 k) = ((A.b k.val : ℝ) : EReal)
  ws : Is (m := 3) (n := 512) (m (c, Proc.devRef .tc main_arg7)) A.ws
  wo : Is (m := 1024) (n := 1024) (m (c, Proc.devRef .tc main_arg8)) A.wo
  ct : ∀ b t k, (m (c, Proc.devRef .tc main_arg9) : FVec Ideal S2x4096x1024 .f32) (ix3 b t k) = ((A.ct b.val t.val k.val : ℝ) : EReal)

variable {m : (ℓ : Loc nD τ Cert.Kernel3Ideal.sig) → Buf (Elt Ideal) ℓ} {c : Dev nD} {A : Real10}

theorem v72_at (H : Holds m c A) : Is (m := 8192) (n := 1024) (V m c main_v72) A.arr.y := fun n k => by
  unfold_abbrev_sides
  after_reads_simp
  pointwise
  simp only [H.md _ _, H.ct, ← EReal.coe_mul]
  rfl

theorem v73_at (H : Holds m c A) : Is (m := 1024) (n := 1024) (V m c main_v73) A.arr.wo := fun n k => by
  unfold_abbrev_sides
  after_reads_simp
  pointwise
  exact H.wo _ _

theorem v74_at (H : Holds m c A) : Is (m := 8192) (n := 512) (V m c main_v74) A.arr.a := fun n f => by
  unfold_abbrev_sides
  after_reads_simp
  simp only [StableHlo.TRef.toBuf, StableHlo.TRef.ofBuf, cast_cast, cast_eq]
  pointwise
  simp only [H.x, H.md _ _, H.wi _ _, ← EReal.coe_mul, ← EReal.coe_add, sum_coe, bits_1024, bits_eps, div_1024,
    rsqrt_ms, ← EReal.coe_one, sig_real]
  have e := fun (k : Fin 31) (s : Fin 4096) (x : ℝ) =>
    masked (n.val % 4096) k.val s.val 30 (by omega) (by omega) (by omega) (by omega) x
    (z := (id (constant S_ .f32 0x00000000#32) : FVec Ideal S_ .f32) ix0) bits_zero
  simp only [e, sum_coe, H.wc _ _, H.bc, ← EReal.coe_mul, ← EReal.coe_add]
  rfl

theorem v75_at (H : Holds m c A) : Is (m := 8192) (n := 512) (V m c main_v75) A.arr.q := fun n f => by
  unfold_abbrev_sides
  after_reads_simp
  simp only [StableHlo.TRef.toBuf, StableHlo.TRef.ofBuf, cast_cast, cast_eq]
  pointwise
  simp only [H.x, H.md _ _, H.wi _ _, ← EReal.coe_mul, ← EReal.coe_add, sum_coe, bits_1024, bits_eps, div_1024,
    rsqrt_ms, ← EReal.coe_one, sig_real]
  have e := fun (k : Fin 3) (s : Fin 4096) (x : ℝ) =>
    masked (n.val % 4096) k.val s.val 2 (by omega) (by omega) (by omega) (by omega) x
    (z := (id (constant S_ .f32 0x00000000#32) : FVec Ideal S_ .f32) ix0) bits_zero
  simp only [e, sum_coe, H.ws _ _, ← EReal.coe_mul, ← EReal.coe_add]
  rfl

theorem v76_at (H : Holds m c A) : Is (m := 8192) (n := 2560) (V m c main_v76) A.arr.p := fun n f => by
  unfold_abbrev_sides
  after_reads_simp
  pointwise
  simp only [H.x, H.md _ _, H.wi _ _, ← EReal.coe_mul, ← EReal.coe_add, sum_coe, bits_1024, bits_eps, div_1024,
    rsqrt_ms, ← EReal.coe_one]
  rfl

theorem v77_at (H : Holds m c A) : Is (m := 1) (n := 512) (V m c main_v77) fun _ => A.arr.g := fun r k => by
  unfold_abbrev_sides
  after_reads_simp
  pointwise
  exact H.g _

theorem v78_at (H : Holds m c A) : Is (m := 1) (n := 512) (V m c main_v78) fun _ => A.arr.b := fun r k => by
  unfold_abbrev_sides
  after_reads_simp
  pointwise
  exact H.b _

theorem v79_at (H : Holds m c A) : Is (m := 1024) (n := 2560) (V m c main_v79) A.arr.wi := fun n k => by
  unfold_abbrev_sides
  after_reads_simp
  pointwise
  exact H.wi _ _

theorem v80_at (H : Holds m c A) : Is (m := 8192) (n := 1024) (V m c main_v80) A.arr.x := fun n k => by
  unfold_abbrev_sides
  after_reads_simp
  pointwise
  exact H.x _ _ _

theorem v81_at (H : Holds m c A) : Is (m := 8192) (n := 1024) (V m c main_v81) A.arr.dx := fun n k => by
  unfold_abbrev_sides
  after_reads_simp
  pointwise
  exact H.ct _ _ _

theorem v82_at (H : Holds m c A) (b : Fin 2) (k : Fin 6144) :
    (V m c main_v82 : FVec Ideal S2x1x6144 .f32) (ix3 b 0 k) = ((A.md b.val k.val : ℝ) : EReal) := by
  unfold_abbrev_sides
  after_reads_simp
  pointwise
  exact H.md _ _

theorem arg3_at (H : Holds m c A) : Is (m := 31) (n := 512) (V m c main_arg3) A.arr.w := fun r k => by
  unfold_abbrev_sides
  after_reads_simp
  exact H.wc _ _

theorem arg7_at (H : Holds m c A) : Is (m := 3) (n := 512) (V m c main_arg7) A.arr.sc := fun r k => by
  unfold_abbrev_sides
  after_reads_simp
  exact H.ws _ _

end Cert.Mix
-- ==== Proof.MixRun.lean ====
/-
  The mixer's backward call over the reals: the whole run, and what the array of the projection's gradient holds after it.
-/
module

public import proofs.«01_k».proof.Proof.MixPoints
public import Idealize.ShloMosaic.Lib.Pipeline.TableIdle

@[expose] public section

set_option maxRecDepth 16384

noncomputable section

namespace Cert.Mix

open Idealize.ShloMosaic Idealize.ShloMosaic.TcCoe Idealize.SL Idealize.SL.BI Idealize.SL.RA
open scoped Idealize.SL.BI
open Idealize.SL.BI.BIBase Idealize.SL.BI.Laws Idealize.SL.Sem Idealize.SL.ProofMode
open Cert.Kernel3Ideal Cert.Kernel3Ideal.Gen Cert.Steps Rows
open Idealize.ShloMosaic.Pipeline (Dat)

/-- The model's resources. -/
local notation "𝕄" => MT nD τ Kernel3Ideal.sig Unit (Elt Ideal) ℕ (UR Kernel3Ideal.sig nD τ) ℕ

variable (m : (ℓ : Loc nD τ Kernel3Ideal.sig) → Buf (Elt Ideal) ℓ) (c : Dev nD) (Z : Arr)

/-- The blocks that the points read. -/
structure Reads : Prop where
  first t : Is (m := 256) (n := 1024) (iblk m c 0 t) fun r => Z.y (256 * 31 + r)
  y t : Is (m := 256) (n := 1024) (iblk m c 1 t) (Z.blk t.val).y
  wo t : Is (m := 1024) (n := 1024) (iblk m c 2 t) Z.wo
  a t : Is (m := 256) (n := 512) (iblk m c 3 t) (Z.blk t.val).a
  q t : Is (m := 256) (n := 512) (iblk m c 4 t) (Z.blk t.val).q
  p t : Is (m := 256) (n := 2560) (iblk m c 5 t) (Z.blk t.val).p
  w t : Is (m := 31) (n := 512) (iblk m c 6 t) Z.w
  g t : Is (m := 1) (n := 512) (iblk m c 7 t) fun _ => Z.g
  b t : Is (m := 1) (n := 512) (iblk m c 8 t) fun _ => Z.b
  sc t : Is (m := 3) (n := 512) (iblk m c 9 t) Z.sc
  wi t : Is (m := 1024) (n := 2560) (iblk m c 10 t) Z.wi
  x t : Is (m := 256) (n := 1024) (iblk m c 11 t) (Z.blk t.val).x
  dx t : Is (m := 256) (n := 1024) (iblk m c 12 t) (Z.blk t.val).dx
  sm t : ∀ k : Fin 1024, (iblk m c 13 t : (⟨3, ![1, 1, 6144]⟩ : Shape).Idx → EReal) (ix3 0 0 ⟨1024 + k.val, by omega⟩) = (((Z.blk t.val).sm k.val : ℝ) : EReal)

/-- What the result's block holds after a point (the last point has none of its own). -/
def outBlk (t : Fin cfg0.N) : S256x2560.Idx → EReal := fun y => (((Z.blk (min t.val 31)).out (y 0).val (y 1).val : ℝ) : EReal)

/-- What the sums' block holds after a point. -/
def sgBlk (t : Fin cfg0.N) : S296x512.Idx → EReal := fun y => ((Z.sgs (min t.val 31 + 1) (y 0).val (y 1).val : ℝ) : EReal)

/-- What the block before's results hold after a point. -/
def gxBlk (t : Fin cfg0.N) : S256x1024.Idx → EReal := fun y => (((Z.blk t.val).gx (y 0).val (y 1).val : ℝ) : EReal)
def shBlk (t : Fin cfg0.N) : S1x8x1024.Idx → EReal := fun y => ((Z.shs t.val (y 1).val (y 2).val : ℝ) : EReal)
def slBlk (t : Fin cfg0.N) : S1x8x1024.Idx → EReal := fun y => ((Z.sls t.val (y 1).val (y 2).val : ℝ) : EReal)

/-- What a point leaves in the staging buffers. -/
def afterAt (w : Fin cfg0.W) (t : Fin cfg0.N) : (cfg0.win w).block.Idx → Elt Ideal (cfg0.win w).elt :=
  match w with
  | 0 => iblk m c 0 t
  | 1 => iblk m c 1 t
  | 2 => iblk m c 2 t
  | 3 => iblk m c 3 t
  | 4 => iblk m c 4 t
  | 5 => iblk m c 5 t
  | 6 => iblk m c 6 t
  | 7 => iblk m c 7 t
  | 8 => iblk m c 8 t
  | 9 => iblk m c 9 t
  | 10 => iblk m c 10 t
  | 11 => iblk m c 11 t
  | 12 => iblk m c 12 t
  | 13 => iblk m c 13 t
  | 14 => outBlk Z t
  | 15 => sgBlk Z t
  | 16 => gxBlk Z t
  | 17 => shBlk Z t
  | 18 => slBlk Z t
  | ⟨n + 19, h⟩ => absurd h (by change ¬ n + 19 < 19; omega)

/-- What is known of the scratch before point `t`. -/
def HeldS (t : ℕ) (σ : Scr Ideal) : Prop := t ≠ 0 → t < 33 → ∀ Y : Win Ideal, Z.Held t (join Y σ)

/-- The region's data. -/
def dat : Dat τ (Elt Ideal) Unit ℕ (UR Kernel3Ideal.sig nD τ) ℕ cfg0 c where
  A w := V m c (Pipeline.arrRef spec0 w)
  after := afterAt m c Z
  Φ t := iprop((∃ σ, ⌜HeldS Z t.val σ⌝ ∗ Scratch c σ) ∗ ∃ r, prngReg c r)
  q w := Pipeline.shareOf spec0 w
  owed _ := 0

/-- What a point may find in the staging buffers. -/
def Found (t : Fin cfg0.N) (Y : Win Ideal) : Prop := ∀ w, ∃ d, Y w = (dat m c Z).before w t d

theorem A_eq (w : Fin cfg0.W) : (dat m c Z).A w = V m c (Pipeline.arrRef spec0 w) := rfl
theorem after_eq (w : Fin cfg0.W) (t : Fin cfg0.N) : (dat m c Z).after w t = afterAt m c Z w t := rfl

theorem args_before (t : Fin cfg0.N) : (w : Fin 19) → w.val < 14 → ∀ d, (dat m c Z).before w t d = afterAt m c Z w t
  | 0, _ => before0_0_of m (dat m c Z) (A_eq m c Z 0) (after_eq m c Z 0) t
  | 1, _ => before0_1_of m (dat m c Z) (A_eq m c Z 1) (after_eq m c Z 1) t
  | 2, _ => before0_2_of m (dat m c Z) (A_eq m c Z 2) (after_eq m c Z 2) t
  | 3, _ => before0_3_of m (dat m c Z) (A_eq m c Z 3) (after_eq m c Z 3) t
  | 4, _ => before0_4_of m (dat m c Z) (A_eq m c Z 4) (after_eq m c Z 4) t
  | 5, _ => before0_5_of m (dat m c Z) (A_eq m c Z 5) (after_eq m c Z 5) t
  | 6, _ => before0_6_of m (dat m c Z) (A_eq m c Z 6) (after_eq m c Z 6) t
  | 7, _ => before0_7_of m (dat m c Z) (A_eq m c Z 7) (after_eq m c Z 7) t
  | 8, _ => before0_8_of m (dat m c Z) (A_eq m c Z 8) (after_eq m c Z 8) t
  | 9, _ => before0_9_of m (dat m c Z) (A_eq m c Z 9) (after_eq m c Z 9) t
  | 10, _ => before0_10_of m (dat m c Z) (A_eq m c Z 10) (after_eq m c Z 10) t
  | 11, _ => before0_11_of m (dat m c Z) (A_eq m c Z 11) (after_eq m c Z 11) t
  | 12, _ => before0_12_of m (dat m c Z) (A_eq m c Z 12) (after_eq m c Z 12) t
  | 13, _ => before0_13_of m (dat m c Z) (A_eq m c Z 13) (after_eq m c Z 13) t
  | ⟨n + 14, _⟩, h => absurd h (by change ¬ n + 14 < 14; omega)

theorem args_found (t : Fin cfg0.N) (Y : Win Ideal) (hY : Found m c Z t Y) (w : Fin cfg0.W) (hw : w.val < 14) :
    Y w = afterAt m c Z w t := by
  obtain ⟨d, hd⟩ := hY w
  exact hd.trans (args_before m c Z t w hw d)

theorem out_found (t : Fin cfg0.N) (ht : ¬ t.val < 32) (Y : Win Ideal) (hY : Found m c Z t Y) :
    Y 14 = outBlk Z t := by
  obtain ⟨d, hd⟩ := hY 14
  have hN : cfg0.N = 33 := N_0
  have h32 : t.val = 32 := by have := t.isLt; omega
  have hf : ∀ t : Fin grid0.N, t.val = 32 → cfg0.fresh 14 t.val = false := by decide +kernel
  have hi : ∀ t : Fin grid0.N, t.val ≠ 0 → cfg0.idle 14 (grid0.coords t) = true → t.val = 32 := by decide +kernel
  have hc : ∀ t : Fin cfg0.N, t.val = 32 → outBlk Z t = outBlk Z ⟨t.val - 1, by omega⟩ := fun t h => by
    unfold outBlk
    have h' : min t.val 31 = min (t.val - 1) 31 := by omega
    simp only [h']
  have hb := (dat m c Z).before_out_traj 14 rfl (fun _ _ => rfl) (fun t h0 h1 _ => hc t (hi t h0 h1)) t.val t rfl d
  rw [hf t h32, if_neg Bool.false_ne_true] at hb
  exact hd.trans (hb.trans (hc t h32).symm)

theorem sums_found (t : Fin cfg0.N) (ht : t.val ≠ 0) (Y : Win Ideal) (hY : Found m c Z t Y) :
    Y 15 = sgBlk Z ⟨t.val - 1, by omega⟩ := by
  obtain ⟨d, hd⟩ := hY 15
  have hf : ∀ t : Fin grid0.N, t.val ≠ 0 → cfg0.fresh 15 t.val = false := by decide +kernel
  have hi : ∀ t : Fin grid0.N, t.val ≠ 0 → cfg0.idle 15 (grid0.coords t) = true → t.val = 32 := by decide +kernel
  have hc : ∀ t : Fin cfg0.N, t.val = 32 → sgBlk Z t = sgBlk Z ⟨t.val - 1, by omega⟩ := fun t h => by
    unfold sgBlk
    have h' : min t.val 31 = min (t.val - 1) 31 := by omega
    simp only [h']
  have hb := (dat m c Z).before_out_traj 15 rfl (fun _ _ => rfl) (fun t h0 h1 _ => hc t (hi t h0 h1)) t.val t rfl d
  rw [hf t ht, if_neg Bool.false_ne_true] at hb
  exact hd.trans hb

theorem mod_found (t : Fin cfg0.N) (ht : (Z.blk t.val).fr = false) (Y : Win Ideal) (hY : Found m c Z t Y) :
    Y 17 = shBlk Z ⟨t.val - 1, by omega⟩ ∧ Y 18 = slBlk Z ⟨t.val - 1, by omega⟩ := by
  obtain ⟨d, hd⟩ := hY 17
  obtain ⟨d', hd'⟩ := hY 18
  have hf : ∀ t : Fin grid0.N, decide (t.val = 0 ∨ t.val % 16 = 1) = false → cfg0.fresh 17 t.val = false ∧ cfg0.fresh 18 t.val = false := by decide +kernel
  have hi : ∀ t : Fin grid0.N, cfg0.idle 17 (grid0.coords t) = false ∧ cfg0.idle 18 (grid0.coords t) = false := by decide +kernel
  have hb := (dat m c Z).before_out_traj 17 rfl (fun _ _ => rfl) (fun t h0 h1 _ => absurd ((hi t).1.symm.trans h1) Bool.false_ne_true) t.val t rfl d
  have hb' := (dat m c Z).before_out_traj 18 rfl (fun _ _ => rfl) (fun t h0 h1 _ => absurd ((hi t).2.symm.trans h1) Bool.false_ne_true) t.val t rfl d'
  rw [(hf t ht).1, if_neg Bool.false_ne_true] at hb
  rw [(hf t ht).2, if_neg Bool.false_ne_true] at hb'
  exact ⟨hd.trans hb, hd'.trans hb'⟩

variable {m c Z}

theorem half (R : Reads m c Z) (t : Fin cfg0.N) (Y : Win Ideal) (σ : Scr Ideal) (hY : ∀ w : Fin cfg0.W, w.val < 14 → Y w = afterAt m c Z w t) :
    Half (Z.blk t.val) (join Y σ) where
  wi := (congrArg (Is (m := 1024) (n := 2560) · _) (hY 10 (by decide))).mpr (R.wi t)
  x := (congrArg (Is (m := 256) (n := 1024) · _) (hY 11 (by decide))).mpr (R.x t)
  dx := (congrArg (Is (m := 256) (n := 1024) · _) (hY 12 (by decide))).mpr (R.dx t)
  sm k := (congrFun (hY 13 (by decide)) _).trans (R.sm t k)

theorem sums (t : Fin cfg0.N) (Y : Win Ideal) (σ : Scr Ideal) (hY : Found m c Z t Y) : Sums (Z.blk t.val) (join Y σ) where
  ds h r k := congrFun (mod_found m c Z t h Y hY).1 (ix3 0 r k)
  dc h r k := congrFun (mod_found m c Z t h Y hY).2 (ix3 0 r k)

theorem ins (R : Reads m c Z) (t : Fin cfg0.N) (Y : Win Ideal) (σ : Scr Ideal) (hY : ∀ w : Fin cfg0.W, w.val < 14 → Y w = afterAt m c Z w t) :
    Ins (Z.blk t.val) (join Y σ) where
  y := (congrArg (Is (m := 256) (n := 1024) · _) (hY 1 (by decide))).mpr (R.y t)
  wo := (congrArg (Is (m := 1024) (n := 1024) · _) (hY 2 (by decide))).mpr (R.wo t)
  a := (congrArg (Is (m := 256) (n := 512) · _) (hY 3 (by decide))).mpr (R.a t)
  q := (congrArg (Is (m := 256) (n := 512) · _) (hY 4 (by decide))).mpr (R.q t)
  p := (congrArg (Is (m := 256) (n := 2560) · _) (hY 5 (by decide))).mpr (R.p t)
  w := (congrArg (Is (m := 31) (n := 512) · _) (hY 6 (by decide))).mpr (R.w t)
  g := (congrArg (Is (m := 1) (n := 512) · _) (hY 7 (by decide))).mpr (R.g t)
  b := (congrArg (Is (m := 1) (n := 512) · _) (hY 8 (by decide))).mpr (R.b t)
  sc := (congrArg (Is (m := 3) (n := 512) · _) (hY 9 (by decide))).mpr (R.sc t)

theorem ix3_eta0 (y : S1x8x1024.Idx) : y = ix3 0 (y 1) (y 2) := by
  have h : @Eq (Fin 1) (y 0) 0 := Subsingleton.elim (α := Fin 1) _ _
  funext i
  match i with
  | 0 => exact h
  | 1 => rfl
  | 2 => rfl

/-- One point: what it leaves in the named buffers and in the scratch. -/
theorem step (R : Reads m c Z) (t : Fin cfg0.N) (Y : Win Ideal) (σ : Scr Ideal) (hY : Found m c Z t Y)
    (hσ : HeldS Z t.val σ) :
    (∀ w : Fin cfg0.W, winOf (runBlock (argsAt t) (grid0.coords t) (join Y σ)) w = afterAt m c Z w t)
      ∧ HeldS Z (t.val + 1) (scrOf (runBlock (argsAt t) (grid0.coords t) (join Y σ))) := by
  have hargs := args_found m c Z t Y hY
  have hN : t.val < 33 := lt_of_lt_of_eq t.isLt N_0
  have hout : t.val < 32 → Done (Z.blk t.val) (runBlock (F := Ideal) (argsAt t) (grid0.coords t) (join Y σ)) := fun ht =>
    point t ht (ins R t Y σ hargs) (fun _ => (congrArg (Is (m := 256) (n := 1024) · _) (hargs 0 (by decide))).mpr (R.first t))
      (fun h => hσ h hN Y) (fun h r k => by
        have e : min (t.val - 1) 31 + 1 = t.val := by omega
        refine (congrFun (sums_found m c Z t h Y hY) (ix2 r k)).trans ?_
        unfold sgBlk
        simp only [e]
        rfl) (half R t Y σ hargs) (sums t Y σ hY)
  have hleft : Left (Z.blk t.val) (runBlock (F := Ideal) (argsAt t) (grid0.coords t) (join Y σ)) := by
    by_cases ht : t.val < 32
    · exact (hout ht).left
    · exact point_end t ht { toHalf := half R t Y σ hargs, dp := (hσ (by omega) hN Y).dp } (sums t Y σ hY)
  refine ⟨fun w => ?_, fun _ h1 Y' => ?_⟩
  · obtain ⟨w, h⟩ := w
    replace h : w < 19 := h
    interval_cases w
    · exact (arg_kept _ _ .dyl rfl).trans (hargs 0 (by decide))
    · exact (arg_kept _ _ .dy rfl).trans (hargs 1 (by decide))
    · exact (arg_kept _ _ .wo rfl).trans (hargs 2 (by decide))
    · exact (arg_kept _ _ .a1 rfl).trans (hargs 3 (by decide))
    · exact (arg_kept _ _ .q rfl).trans (hargs 4 (by decide))
    · exact (arg_kept _ _ .proj rfl).trans (hargs 5 (by decide))
    · exact (arg_kept _ _ .wb rfl).trans (hargs 6 (by decide))
    · exact (arg_kept _ _ .lng rfl).trans (hargs 7 (by decide))
    · exact (arg_kept _ _ .lnb rfl).trans (hargs 8 (by decide))
    · exact (arg_kept _ _ .scw rfl).trans (hargs 9 (by decide))
    · exact (arg_kept _ _ .wi rfl).trans (hargs 10 (by decide))
    · exact (arg_kept _ _ .x rfl).trans (hargs 11 (by decide))
    · exact (arg_kept _ _ .dx1 rfl).trans (hargs 12 (by decide))
    · exact (arg_kept _ _ .mod rfl).trans (hargs 13 (by decide))
    · by_cases ht : t.val < 32
      · have h := (hout ht).out
        have e : min t.val 31 = t.val := by omega
        funext y
        show runBlock (F := Ideal) (argsAt t) (grid0.coords t) (join Y σ) .dproj y = outBlk Z t y
        unfold outBlk
        rw [e]
        exact (congrArg _ (ix2_eta y).symm).trans (h (y 0) (y 1))
      · exact (point_last t ht _ .dproj rfl).trans (out_found m c Z t ht Y hY)
    · by_cases ht : t.val < 32
      · have h := (hout ht).sg
        have e : min t.val 31 = t.val := by omega
        funext y
        show runBlock (F := Ideal) (argsAt t) (grid0.coords t) (join Y σ) .sg y = sgBlk Z t y
        unfold sgBlk
        rw [e, ← Z.sgs_next ht]
        exact (congrArg _ (ix2_eta y).symm).trans (h (y 0) (y 1))
      · refine (point_last t ht _ .sg rfl).trans ((sums_found m c Z t (by omega) Y hY).trans ?_)
        have e : min (t.val - 1) 31 = min t.val 31 := by omega
        show sgBlk Z _ = sgBlk Z _
        unfold sgBlk
        simp only [e]
    · funext y
      exact (congrArg _ (ix2_eta y).symm).trans (hleft.gx (y 0) (y 1))
    · funext y
      obtain ⟨r, k, rfl⟩ : ∃ (r : Fin 8) (k : Fin 1024), y = ix3 0 r k := ⟨y 1, y 2, ix3_eta0 y⟩
      exact (hleft.sh r k).trans (congrArg _ (Z.sh_at (by omega) _ _))
    · funext y
      obtain ⟨r, k, rfl⟩ : ∃ (r : Fin 8) (k : Fin 1024), y = ix3 0 r k := ⟨y 1, y 2, ix3_eta0 y⟩
      exact (hleft.sl r k).trans (congrArg _ (Z.sl_at (by omega) _ _))
  · have h := Arr.Held.of_done (by omega) (hout (by omega))
    exact ⟨h.d, h.ce, h.cu, h.dp⟩

theorem staged_told (t : Fin cfg0.N) (X : Win Ideal) (h : ∀ w : Fin cfg0.W, X w = afterAt m c Z w t) :
    (Staged c t X : sProp 𝕄) ⊢ bigSep Finset.univ fun w => (dat m c Z).leavesExact w t := by
  refine bigSep_mono fun w _ => ?_
  have hl : ∀ (w : Fin 19) (t : Fin grid0.N), cfg0.idle w (grid0.coords t) = false ∨ (cfg0.win w).flush t = true := by decide +kernel
  show iprop(owns (c.tc : Thread nD τ) ((cfg0.win w).stage (cfg0.slots t w)) fullShare (X w)) ⊢ (dat m c Z).leavesExact w t
  unfold Dat.leavesExact
  rw [h w]
  rcases hl w t with e | e
  · rw [e]; exact .rfl
  · cases cfg0.idle w (cfg0.grid.coords t)
    · exact .rfl
    · rw [e]; exact .rfl

theorem staged_found (t : Fin cfg0.N) : (bigSep Finset.univ fun w => iprop(∃ d, owns (c.tc : Thread nD τ) ((cfg0.win w).stage (cfg0.slots t w)) fullShare
    ((dat m c Z).before w t d)) : sProp 𝕄) ⊢ iprop(∃ Y, ⌜Found m c Z t Y⌝ ∗ Staged c t Y) := by
  refine (bigSep_exists_pi Finset.univ fun (w : Fin cfg0.W) d =>
    owns (c.tc : Thread nD τ) ((cfg0.win w).stage (cfg0.slots t w)) fullShare ((dat m c Z).before w t d)).trans ?_
  refine exists_elim fun d => ?_
  show Staged c t (fun w => (dat m c Z).before w t (d w)) ⊢ _
  iintro H
  iexists (fun w => (dat m c Z).before w t (d w))
  isplitr
  · ipureintro; exact fun w => ⟨d w, rfl⟩
  · iexact H

theorem held_intro (t : Fin cfg0.N) (σ : Scr Ideal) (h : HeldS Z (t.val + 1) σ) :
    iprop(Scratch c σ ∗ ∃ r, prngReg c r) ⊢ ((dat m c Z).Φ t.succ : sProp 𝕄) := by
  show _ ⊢ iprop((∃ σ, ⌜HeldS Z (t.val + 1) σ⌝ ∗ Scratch c σ) ∗ ∃ r, prngReg c r)
  iintro ⟨H, Hr⟩
  isplitl [H]
  · iexists σ
    isplitr
    · ipureintro; exact h
    · iexact H
  · iexact Hr

theorem whole_obligation (R : Reads m c Z) : Pipeline.BodyObligation (dat m c Z) defs₀ Variants.none () Set.univ := by
  intro t
  show iprop(((∃ σ, ⌜HeldS Z t.val σ⌝ ∗ Scratch c σ) ∗ ∃ r, prngReg c r) ∗ (dat m c Z).owesAt () t.castSucc
    ∗ bigSep Finset.univ fun w => iprop(∃ d, owns (c.tc : Thread nD τ) ((cfg0.win w).stage (cfg0.slots t w)) fullShare ((dat m c Z).before w t d)))
    ⊢ wp frame _ Set.univ (bodyAt0 t) fun _ => iprop((dat m c Z).Φ t.succ ∗ (dat m c Z).owesAt () t.succ ∗ bigSep Finset.univ fun w => (dat m c Z).leavesExact w t)
  iintro ⟨⟨⟨%σ, %hσ, Hs⟩, Hr⟩, Ho, HB⟩
  ihave HB := (staged_found t) $$ HB
  icases HB with ⟨%Y, %hY, HB⟩
  have hs := step R t Y σ hY hσ
  iapply (body c t Y σ _) $$ [HB Hs]
  · isplitl [HB]; · iexact HB
    iexact Hs
  iintro ⟨HB, Hs⟩
  isplitl [Hs Hr]
  · iapply (held_intro t _ hs.2) $$ [Hs Hr]
    isplitl [Hs]; · iexact Hs
    iexact Hr
  isplitl [Ho]
  · iexact Ho
  · iapply (staged_told t _ hs.1) $$ HB

theorem inv_in : (Pipeline.ΦA spec0 c : sProp 𝕄) ⊢ (dat m c Z).Φ 0 := by
  show _ ⊢ iprop((∃ σ, ⌜HeldS Z 0 σ⌝ ∗ Scratch c σ) ∗ ∃ r, prngReg c r)
  unfold Pipeline.ΦA
  iintro ⟨Hs, Hr⟩
  ihave Hs := (scratch_intro (F := Ideal) c) $$ Hs
  icases Hs with ⟨%σ, Hs⟩
  isplitl [Hs]
  · iexists σ
    isplitr
    · ipureintro; exact fun h => absurd rfl h
    · iexact Hs
  · iexact Hr

theorem inv_out : ((dat m c Z).Φ (Fin.last cfg0.N) : sProp 𝕄) ⊢ Pipeline.ΦA spec0 c := by
  show iprop((∃ σ, ⌜HeldS Z _ σ⌝ ∗ Scratch c σ) ∗ ∃ r, prngReg c r) ⊢ iprop(Pipeline.scopedRest (Val := Elt Ideal) spec0 c ∗ ∃ r, prngReg c r)
  iintro ⟨⟨%σ, -, Hs⟩, Hr⟩
  isplitl [Hs]
  · iapply (scratch_elim c σ) $$ Hs
  · iexact Hr

/-- The call's data. -/
def dats (m : (ℓ : Loc nD τ Kernel3Ideal.sig) → Buf (Elt Ideal) ℓ) (Zs : Dev nD → Arr) : (p : Fin 1) → (c : Dev nD) →
    Dat τ (Elt Ideal) Unit ℕ (UR Kernel3Ideal.sig nD τ) ℕ (cfgs p) c
  | 0, c => dat m c (Zs c)

set_option maxHeartbeats 1600000 in
set_option backward.isDefEq.respectTransparency.types false in
/-- The whole run. -/
theorem run_real (Zs : Dev nD → Arr) (R : ∀ c, Reads m c (Zs c)) (ρ : Dev nD → PrngReg) :
    θ_run defs (onTc (τ := τ) (main (F := Ideal))) (s₀ m ρ)
      (Pipeline.FramePost cfgs (dats m Zs) 0 (Pipeline.afterTail₀ cfgs (dats m Zs) 0 (V0 m) [hostOps1])) :=
  Pipeline.θ_run_frame_around_track_shared (Q' := _) cfgs (dats m Zs) 0 launch₀0 defs₀ Variants.none m ρ main
    (hbody := fun c => (whole_obligation (R c)).loose) (hq := fun _ _ _ => rfl) (howed := fun _ _ => rfl) (V₀ := V0 m) (opss := [hostOps1])
    (hsub := sfx_sub) (hfresh := sfx_fresh) (hkeep := sfx_keeps) (hmain := hmain m Variants.none)
    (hA := fun _ _ => rfl) (hin := fun c => inv_in (m := m) (Z := Zs c)) (hout := fun c => inv_out (m := m) (Z := Zs c))

theorem index14 : ∀ t : Fin cfg0.N, win0_14.index t = ![31 - t.val, 0] := (by decide +kernel : ∀ t : Fin grid0.N, _)

/-- The result's array. -/
theorem out_array (n : Fin 8192) (k : Fin 2560) :
    ((dat m c Z).arrAt 14 cfg0.N : FVec Ideal S8192x2560 .bf16) (ix2 n k) = ((Z.out n.val k.val : ℝ) : EReal) := by
  refine (dat m c Z).arrAt_forall_of_covers 14 (fun i v => v = ((Z.out (i 0).val (i 1).val : ℝ) : EReal)) (by decide +kernel)
    (fun t hf y => ?_) (ix2 n k)
  obtain ⟨r, k, rfl⟩ : ∃ (r : Fin 256) (k : Fin 2560), y = ix2 r k := ⟨y 0, y 1, (ix2_eta y).symm⟩
  have e0 : win0_14.index t 0 = 31 - t.val := congrFun (index14 t) 0
  have e1 : win0_14.index t 1 = 0 := congrFun (index14 t) 1
  have e2 : 256 * (31 - min t.val 31) + r.val = (31 - t.val) * 256 + r.val := by omega
  blk_simp
  rw [e0, e1, Nat.zero_mul, Nat.zero_add, ← e2, ← Z.out_at (by omega) r.isLt]
  rfl

/-- The sums' array. -/
theorem sums_array (r : Fin 296) (k : Fin 512) :
    ((dat m c Z).arrAt 15 cfg0.N : FVec Ideal S296x512 .f32) (ix2 r k) = ((Z.sgs 32 r.val k.val : ℝ) : EReal) := by
  refine (dat m c Z).arrAt_forall_of_covers 15 (fun i v => v = ((Z.sgs 32 (i 0).val (i 1).val : ℝ) : EReal)) (by decide +kernel)
    (fun t hf y => ?_) (ix2 r k)
  obtain ⟨r, k, rfl⟩ : ∃ (r : Fin 296) (k : Fin 512), y = ix2 r k := ⟨y 0, y 1, (ix2_eta y).symm⟩
  have hl : ∀ t : Fin grid0.N, (cfg0.win 15).flush t = true → t.val = 32 := by decide +kernel
  have ht : min t.val 31 + 1 = 32 := by have := hl t hf; omega
  have hi : ∀ t : Fin grid0.N, win0_15.index t = ![0, 0] := by decide +kernel
  have e0 : win0_15.index t 0 = 0 := congrFun (hi t) 0
  have e1 : win0_15.index t 1 = 0 := congrFun (hi t) 1
  blk_simp
  rw [e0, e1, Nat.zero_mul, Nat.zero_add, Nat.zero_add, ← ht]
  rfl

/-- The layer's gradient's array. -/
theorem gx_array (n : Fin 8192) (k : Fin 1024) :
    ((dat m c Z).arrAt 16 cfg0.N : FVec Ideal S8192x1024 .f32) (ix2 n k) = ((Z.gx n.val k.val : ℝ) : EReal) := by
  refine (dat m c Z).arrAt_forall_of_covers 16 (fun i v => v = ((Z.gx (i 0).val (i 1).val : ℝ) : EReal)) (by decide +kernel)
    (fun t hf y => ?_) (ix2 n k)
  obtain ⟨r, k, rfl⟩ : ∃ (r : Fin 256) (k : Fin 1024), y = ix2 r k := ⟨y 0, y 1, (ix2_eta y).symm⟩
  have hl : ∀ t : Fin grid0.N, (cfg0.win 16).flush t = true → t.val ≠ 0 := by decide +kernel
  have hi : ∀ t : Fin grid0.N, win0_16.index t = ![min (32 - t.val) 31, 0] := by decide +kernel
  have h0 := hl t hf
  have e0 : win0_16.index t 0 = min (32 - t.val) 31 := congrFun (hi t) 0
  have e1 : win0_16.index t 1 = 0 := congrFun (hi t) 1
  have e2 : 256 * (32 - t.val) + r.val = min (32 - t.val) 31 * 256 + r.val := by omega
  blk_simp
  rw [e0, e1, Nat.zero_mul, Nat.zero_add, ← e2, ← Z.gx_at h0 r.isLt]
  rfl

/-- The shift's and scale's sums' arrays. -/
theorem sh_array (b : Fin 2) (r : Fin 8) (k : Fin 1024) :
    ((dat m c Z).arrAt 17 cfg0.N : FVec Ideal S2x8x1024 .f32) (ix3 b r k) = ((Z.shs (16 * (2 - b.val)) r.val k.val : ℝ) : EReal) := by
  refine (dat m c Z).arrAt_forall_of_covers 17 (fun i v => v = ((Z.shs (16 * (2 - (i 0).val)) (i 1).val (i 2).val : ℝ) : EReal)) (by decide +kernel)
    (fun t hf y => ?_) (ix3 b r k)
  obtain ⟨r, k, rfl⟩ : ∃ (r : Fin 8) (k : Fin 1024), y = ix3 0 r k := ⟨y 1, y 2, ix3_eta0 y⟩
  have hl : ∀ t : Fin grid0.N, (cfg0.win 17).flush t = true → t.val = 16 * (2 - win0_17.index t 0) ∧ win0_17.index t 1 = 0 ∧ win0_17.index t 2 = 0 := by
    decide +kernel
  obtain ⟨h0, h1, h2⟩ := hl t hf
  blk_simp
  rw [h1, h2]
  have hz : (0 : Fin 1).val = 0 := rfl
  simp only [Nat.zero_mul, Nat.zero_add, hz, Nat.add_zero, Nat.mul_one]
  rw [← h0]
  rfl

theorem sl_array (b : Fin 2) (r : Fin 8) (k : Fin 1024) :
    ((dat m c Z).arrAt 18 cfg0.N : FVec Ideal S2x8x1024 .f32) (ix3 b r k) = ((Z.sls (16 * (2 - b.val)) r.val k.val : ℝ) : EReal) := by
  refine (dat m c Z).arrAt_forall_of_covers 18 (fun i v => v = ((Z.sls (16 * (2 - (i 0).val)) (i 1).val (i 2).val : ℝ) : EReal)) (by decide +kernel)
    (fun t hf y => ?_) (ix3 b r k)
  obtain ⟨r, k, rfl⟩ : ∃ (r : Fin 8) (k : Fin 1024), y = ix3 0 r k := ⟨y 1, y 2, ix3_eta0 y⟩
  have hl : ∀ t : Fin grid0.N, (cfg0.win 18).flush t = true → t.val = 16 * (2 - win0_18.index t 0) ∧ win0_18.index t 1 = 0 ∧ win0_18.index t 2 = 0 := by
    decide +kernel
  obtain ⟨h0, h1, h2⟩ := hl t hf
  blk_simp
  rw [h1, h2]
  have hz : (0 : Fin 1).val = 0 := rfl
  simp only [Nat.zero_mul, Nat.zero_add, hz, Nat.add_zero, Nat.mul_one]
  rw [← h0]
  rfl

end Cert.Mix

end
-- ==== Proof.MixReads.lean ====
/-
  The blocks that the mixer's backward call fetches, and its result, on finite arguments.
-/
module

public import proofs.«01_k».proof.Proof.MixEntry
public import proofs.«01_k».proof.Proof.MixRun

@[expose] public section

set_option maxRecDepth 16384

noncomputable section

open Idealize.ShloMosaic Idealize.ShloMosaic.TcCoe Idealize.SL.Sem

namespace Cert.Mix

open Cert.Kernel3Ideal Cert.Kernel3Ideal.Gen Rows

theorem index0 : ∀ t : Fin cfg0.N, win0_0.index t = ![31, 0] := (by decide +kernel : ∀ t : Fin grid0.N, _)
theorem index1 : ∀ t : Fin cfg0.N, win0_1.index t = ![30 - t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![31 - t.val, 0] := (by decide +kernel : ∀ t : Fin grid0.N, _)
theorem index4 : ∀ t : Fin cfg0.N, win0_4.index t = ![31 - t.val, 0] := (by decide +kernel : ∀ t : Fin grid0.N, _)
theorem index5 : ∀ t : Fin cfg0.N, win0_5.index t = ![31 - t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![min (32 - t.val) 31, 0] := (by decide +kernel : ∀ t : Fin grid0.N, _)
theorem index12 : ∀ t : Fin cfg0.N, win0_12.index t = ![min (32 - t.val) 31, 0] := (by decide +kernel : ∀ t : Fin grid0.N, _)
theorem index13 : ∀ t : Fin cfg0.N, win0_13.index t = ![min (32 - t.val) 31 / 16, 0, 0] := (by decide +kernel : ∀ t : Fin grid0.N, _)

/-- Row `r` of the block numbered `i`. -/
def rowOf (i : ℕ) (r : Fin 256) : Fin 8192 := ⟨(256 * i + r.val) % 8192, by omega⟩

theorem rowOf_val (i : ℕ) (hi : i < 32) (r : Fin 256) : (rowOf i r).val = 256 * i + r.val :=
  Nat.mod_eq_of_lt (by omega)

/-! ## Where an entry of a block lies in its array -/

theorem emb0 (t : Fin cfg0.N) (r : Fin 256) (k : Fin 1024) : ((cfg0.win 0).blk t).view.emb (ix2 r k) = (ix2 (rowOf 31 r) k : (⟨2, ![8192, 1024]⟩ : Shape).Idx) := by
  blk_ext [index0, rowOf]
theorem emb1 (t : Fin cfg0.N) (r : Fin 256) (k : Fin 1024) : ((cfg0.win 1).blk t).view.emb (ix2 r k) = (ix2 (rowOf (30 - t.val) r) k : (⟨2, ![8192, 1024]⟩ : Shape).Idx) := by
  blk_ext [index1, rowOf]
theorem emb2 (t : Fin cfg0.N) (r : Fin 1024) (k : Fin 1024) : ((cfg0.win 2).blk t).view.emb (ix2 r k) = (ix2 r k : (⟨2, ![1024, 1024]⟩ : Shape).Idx) := by
  blk_ext [index2]
theorem emb3 (t : Fin cfg0.N) (r : Fin 256) (k : Fin 512) : ((cfg0.win 3).blk t).view.emb (ix2 r k) = (ix2 (rowOf (31 - t.val) r) k : (⟨2, ![8192, 512]⟩ : Shape).Idx) := by
  blk_ext [index3, rowOf]
theorem emb4 (t : Fin cfg0.N) (r : Fin 256) (k : Fin 512) : ((cfg0.win 4).blk t).view.emb (ix2 r k) = (ix2 (rowOf (31 - t.val) r) k : (⟨2, ![8192, 512]⟩ : Shape).Idx) := by
  blk_ext [index4, rowOf]
theorem emb5 (t : Fin cfg0.N) (r : Fin 256) (k : Fin 2560) : ((cfg0.win 5).blk t).view.emb (ix2 r k) = (ix2 (rowOf (31 - t.val) r) k : (⟨2, ![8192, 2560]⟩ : Shape).Idx) := by
  blk_ext [index5, rowOf]
theorem emb6 (t : Fin cfg0.N) (r : Fin 31) (k : Fin 512) : ((cfg0.win 6).blk t).view.emb (ix2 r k) = (ix2 r k : (⟨2, ![31, 512]⟩ : Shape).Idx) := by
  blk_ext [index6]
theorem emb7 (t : Fin cfg0.N) (r : Fin 1) (k : Fin 512) : ((cfg0.win 7).blk t).view.emb (ix2 r k) = (ix2 r k : (⟨2, ![1, 512]⟩ : Shape).Idx) := by
  blk_ext [index7]
theorem emb8 (t : Fin cfg0.N) (r : Fin 1) (k : Fin 512) : ((cfg0.win 8).blk t).view.emb (ix2 r k) = (ix2 r k : (⟨2, ![1, 512]⟩ : Shape).Idx) := by
  blk_ext [index8]
theorem emb9 (t : Fin cfg0.N) (r : Fin 3) (k : Fin 512) : ((cfg0.win 9).blk t).view.emb (ix2 r k) = (ix2 r k : (⟨2, ![3, 512]⟩ : Shape).Idx) := by
  blk_ext [index9]
theorem emb10 (t : Fin cfg0.N) (r : Fin 1024) (k : Fin 2560) : ((cfg0.win 10).blk t).view.emb (ix2 r k) = (ix2 r k : (⟨2, ![1024, 2560]⟩ : Shape).Idx) := by
  blk_ext [index10]
theorem emb11 (t : Fin cfg0.N) (r : Fin 256) (k : Fin 1024) : ((cfg0.win 11).blk t).view.emb (ix2 r k) = (ix2 (rowOf (min (32 - t.val) 31) r) k : (⟨2, ![8192, 1024]⟩ : Shape).Idx) := by
  blk_ext [index11, rowOf]
theorem emb12 (t : Fin cfg0.N) (r : Fin 256) (k : Fin 1024) : ((cfg0.win 12).blk t).view.emb (ix2 r k) = (ix2 (rowOf (min (32 - t.val) 31) r) k : (⟨2, ![8192, 1024]⟩ : Shape).Idx) := by
  blk_ext [index12, rowOf]
theorem emb13 (t : Fin cfg0.N) (k : Fin 6144) : ((cfg0.win 13).blk t).view.emb (ix3 (0 : Fin 1) (0 : Fin 1) k) = (ix3 ⟨min (32 - t.val) 31 / 16, by omega⟩ 0 k : (⟨3, ![2, 1, 6144]⟩ : Shape).Idx) := by
  blk_ext [index13]

variable {m : (ℓ : Loc nD τ Cert.Kernel3Ideal.sig) → Buf (Elt Ideal) ℓ} {c : Dev nD} {A : Real10}

theorem block0 (H : Holds m c A) (t : Fin cfg0.N) : Is (m := 256) (n := 1024) (iblk m c 0 t) (fun r => A.arr.y (256 * 31 + r)) := fun r k => by
  refine Eq.trans ?_ ((v72_at H (rowOf 31 r) k).trans (by rw [rowOf_val _ (by omega)]))
  unfold iblk
  refine congrArg (V m c main_v72) ?_
  exact emb0 t r k

theorem block1 (H : Holds m c A) (t : Fin cfg0.N) : Is (m := 256) (n := 1024) (iblk m c 1 t) ((A.arr.blk t.val).y) := fun r k => by
  refine Eq.trans ?_ ((v72_at H (rowOf (30 - t.val) r) k).trans (by rw [rowOf_val _ (by omega)]; rfl))
  unfold iblk
  refine congrArg (V m c main_v72) ?_
  exact emb1 t r k

theorem block2 (H : Holds m c A) (t : Fin cfg0.N) : Is (m := 1024) (n := 1024) (iblk m c 2 t) (A.arr.wo) := fun r k => by
  refine Eq.trans ?_ (v73_at H r k)
  unfold iblk
  refine congrArg (V m c main_v73) ?_
  exact emb2 t r k

theorem block3 (H : Holds m c A) (t : Fin cfg0.N) : Is (m := 256) (n := 512) (iblk m c 3 t) ((A.arr.blk t.val).a) := fun r k => by
  refine Eq.trans ?_ ((v74_at H (rowOf (31 - t.val) r) k).trans (by rw [rowOf_val _ (by omega)]; rfl))
  unfold iblk
  refine congrArg (V m c main_v74) ?_
  exact emb3 t r k

theorem block4 (H : Holds m c A) (t : Fin cfg0.N) : Is (m := 256) (n := 512) (iblk m c 4 t) ((A.arr.blk t.val).q) := fun r k => by
  refine Eq.trans ?_ ((v75_at H (rowOf (31 - t.val) r) k).trans (by rw [rowOf_val _ (by omega)]; rfl))
  unfold iblk
  refine congrArg (V m c main_v75) ?_
  exact emb4 t r k

theorem block5 (H : Holds m c A) (t : Fin cfg0.N) : Is (m := 256) (n := 2560) (iblk m c 5 t) ((A.arr.blk t.val).p) := fun r k => by
  refine Eq.trans ?_ ((v76_at H (rowOf (31 - t.val) r) k).trans (by rw [rowOf_val _ (by omega)]; rfl))
  unfold iblk
  refine congrArg (V m c main_v76) ?_
  exact emb5 t r k

theorem block6 (H : Holds m c A) (t : Fin cfg0.N) : Is (m := 31) (n := 512) (iblk m c 6 t) (A.arr.w) := fun r k => by
  refine Eq.trans ?_ (arg3_at H r k)
  unfold iblk
  refine congrArg (V m c main_arg3) ?_
  exact emb6 t r k

theorem block7 (H : Holds m c A) (t : Fin cfg0.N) : Is (m := 1) (n := 512) (iblk m c 7 t) (fun _ => A.arr.g) := fun r k => by
  refine Eq.trans ?_ (v77_at H r k)
  unfold iblk
  refine congrArg (V m c main_v77) ?_
  exact emb7 t r k

theorem block8 (H : Holds m c A) (t : Fin cfg0.N) : Is (m := 1) (n := 512) (iblk m c 8 t) (fun _ => A.arr.b) := fun r k => by
  refine Eq.trans ?_ (v78_at H r k)
  unfold iblk
  refine congrArg (V m c main_v78) ?_
  exact emb8 t r k

theorem block9 (H : Holds m c A) (t : Fin cfg0.N) : Is (m := 3) (n := 512) (iblk m c 9 t) (A.arr.sc) := fun r k => by
  refine Eq.trans ?_ (arg7_at H r k)
  unfold iblk
  refine congrArg (V m c main_arg7) ?_
  exact emb9 t r k

theorem block10 (H : Holds m c A) (t : Fin cfg0.N) : Is (m := 1024) (n := 2560) (iblk m c 10 t) (A.arr.wi) := fun r k => by
  refine Eq.trans ?_ (v79_at H r k)
  unfold iblk
  refine congrArg (V m c main_v79) ?_
  exact emb10 t r k

theorem block11 (H : Holds m c A) (t : Fin cfg0.N) : Is (m := 256) (n := 1024) (iblk m c 11 t) ((A.arr.blk t.val).x) := fun r k => by
  refine Eq.trans ?_ ((v80_at H (rowOf (min (32 - t.val) 31) r) k).trans (by rw [rowOf_val _ (by omega)]; rfl))
  unfold iblk
  refine congrArg (V m c main_v80) ?_
  exact emb11 t r k

theorem block12 (H : Holds m c A) (t : Fin cfg0.N) : Is (m := 256) (n := 1024) (iblk m c 12 t) ((A.arr.blk t.val).dx) := fun r k => by
  refine Eq.trans ?_ ((v81_at H (rowOf (min (32 - t.val) 31) r) k).trans (by rw [rowOf_val _ (by omega)]; rfl))
  unfold iblk
  refine congrArg (V m c main_v81) ?_
  exact emb12 t r k

theorem block13 (H : Holds m c A) (t : Fin cfg0.N) (k : Fin 1024) :
    (iblk m c 13 t : (⟨3, ![1, 1, 6144]⟩ : Shape).Idx → EReal) (ix3 0 0 ⟨1024 + k.val, by omega⟩) = (((A.arr.blk t.val).sm k.val : ℝ) : EReal) := by
  refine Eq.trans ?_ (v82_at H ⟨min (32 - t.val) 31 / 16, by omega⟩ ⟨1024 + k.val, by omega⟩)
  unfold iblk
  refine congrArg (V m c main_v82) ?_
  exact emb13 t _

theorem reads (H : Holds m c A) : Reads m c A.arr where
  first := block0 H
  y := block1 H
  wo := block2 H
  a := block3 H
  q := block4 H
  p := block5 H
  w := block6 H
  g := block7 H
  b := block8 H
  sc := block9 H
  wi := block10 H
  x := block11 H
  dx := block12 H
  sm := block13 H

end Cert.Mix
-- ==== Proof.MixRef.lean ====
/-
  What the reference of the mixer's backward call computes, stage by stage, on arguments that hold reals.
-/
module

public import proofs.«01_k».proof.Proof.MixMath
public import proofs.«01_k».proof.Proof.Sums
public import proofs.«01_k».proof.Proof.Gen.Reference3Ideal.Read
public import Idealize.ShloMosaic.Lib.Pointwise

@[expose] public section

set_option maxRecDepth 16384

noncomputable section

open Idealize.ShloMosaic Idealize.SL.Sem

namespace Cert.Reference3Ideal.Mix

open Cert.Reference3Ideal Cert.Reference3Ideal.Gen Cert.Reference3Ideal.Read Rows Cert.Mix

/-- The reference's arguments hold these reals. -/
structure Held (A0 : FVec Ideal S2x4096x1024 .f32) (A1 : FVec Ideal S2x6144 .f32) (A2 : FVec Ideal S1024x2560 .f32)
    (A3 : FVec Ideal S31x512 .f32) (A4 A5 A6 : FVec Ideal S512 .f32) (A7 : FVec Ideal S3x512 .f32)
    (A8 : FVec Ideal S1024x1024 .f32) (A9 : FVec Ideal S2x4096x1024 .f32) (A : Real10) : Prop where
  x : ∀ b t k, A0 (ix3 b t k) = ((A.x b.val t.val k.val : ℝ) : EReal)
  md : Is A1 A.md
  wi : Is A2 A.wi
  wc : Is A3 A.wc
  bc : ∀ k, A4 (ix1 k) = ((A.bc k.val : ℝ) : EReal)
  g : ∀ k, A5 (ix1 k) = ((A.g k.val : ℝ) : EReal)
  b : ∀ k, A6 (ix1 k) = ((A.b k.val : ℝ) : EReal)
  ws : Is A7 A.ws
  wo : Is A8 A.wo
  ct : ∀ b t k, A9 (ix3 b t k) = ((A.ct b.val t.val k.val : ℝ) : EReal)

variable {A0 A9 : FVec Ideal S2x4096x1024 .f32} {A1 : FVec Ideal S2x6144 .f32} {A2 : FVec Ideal S1024x2560 .f32}
  {A3 : FVec Ideal S31x512 .f32} {A4 A5 A6 : FVec Ideal S512 .f32} {A7 : FVec Ideal S3x512 .f32}
  {A8 : FVec Ideal S1024x1024 .f32} {A : Real10}

section
variable (H : Held A0 A1 A2 A3 A4 A5 A6 A7 A8 A9 A) (b : Fin 2) (t : Fin 4096)
include H

theorem r29 (f : Fin 2560) : val_main_v29 (F := Ideal) A0 A1 A2 (ix3 b t f) = ((A.proj b.val t.val f.val : ℝ) : EReal) := by
  pointwise [val_main_v29, val_main_v28, val_main_v27, val_main_v26, val_main_v25, val_main_v24, val_main_v23, val_main_v22,
    val_main_v21, val_main_v20, val_main_v19, val_main_v18, val_main_v14, val_main_v13, val_main_v12, val_main_v78,
    val_main_v11, val_main_v10, val_main_v9, val_main_v8, val_main_v7, val_main_v6, val_main_v1, val_main_v0, val_main_cst,
    val_main_cst_0, val_main_cst_8, val_main_call0_cst, val_main_cst_9, val_main_cst_10, val_main_cst_11, val_main_cst_14,
    val_main_cst_19, val_main_call2_cst, val_main_cst_20, val_main_cst_21, val_main_cst_22, val_main_cst_23,
    val_main_call3_cst, val_main_call3_cst_0, val_main_cst_24, val_main_cst_25, val_main_cst_26, val_main_cst_27,
    val_main_cst_28, val_main_cst_29, val_main_cst_30, val_main_cst_32, val_main_cst_33, val_main_cst_35, val_main_cst_36,
    val_main_cst_37, val_main_cst_38, val_main_cst_39, val_main_call5_cst, val_main_call5_cst_0, val_main_cst_40,
    val_main_cst_1, val_main_cst_2, val_main_cst_16, val_main_cst_4, val_main_cst_5, val_main_cst_6, val_main_cst_7,
    val_main_call1_cst, val_main_call1_cst_0, val_main_call1_cst_1]
  simp only [H.x, H.md _ _, H.wi _ _, ← EReal.coe_mul, ← EReal.coe_add, sum_coe, bits_1024, bits_eps, div_1024,
    rsqrt_ms, ← EReal.coe_one]
  rfl

theorem r40 (c : Fin 512) : val_main_v40 (F := Ideal) A0 A1 A2 (ix3 b t c) = ((rsig (A.proj b.val t.val (512 + c.val)) : ℝ) : EReal) := by
  pointwise [val_main_v40, val_main_v37, val_main_v39, val_main_v41, val_main_call1_v2, val_main_call1_v4, val_main_call1_v6,
    val_main_v38, val_main_v36, val_main_v35, val_main_v31, val_main_cst_4, val_main_cst_5, val_main_cst_6, val_main_cst_7,
    val_main_call1_cst, val_main_call1_cst_0, val_main_call1_cst_1]
  simp only [r29 H, ← EReal.coe_one, sig_real]

theorem r44 (c : Fin 512) : val_main_v44 (F := Ideal) A0 A1 A2 (ix3 b t c) = ((A.glu b.val t.val c.val : ℝ) : EReal) := by
  pointwise [val_main_v44, val_main_v30]
  simp only [r29 H, r40 H, ← EReal.coe_mul]
  rfl

theorem r62 (c : Fin 512) : val_main_v62 (F := Ideal) A0 A1 A2 A3 A4 (ix3 b t c) = ((A.a1 b.val t.val c.val : ℝ) : EReal) := by
  pointwise [val_main_v62, val_main_v61, val_main_v60, val_main_v59, val_main_v58, val_main_v57, val_main_v174, val_main_v56,
    val_main_v55, val_main_v54_0, val_main_v54_1, val_main_v53, val_main_v52, val_main_v51, val_main_v50, val_main_v49,
    val_main_v48, val_main_v47, val_main_v46, val_main_v45, val_main_call0_v3, val_main_call0_v2, val_main_call0_v0,
    val_main_call2_v0, val_main_cst, val_main_cst_0, val_main_cst_8, val_main_call0_cst, val_main_cst_9, val_main_cst_10,
    val_main_cst_11, val_main_cst_14, val_main_cst_19, val_main_call2_cst, val_main_cst_20, val_main_cst_21, val_main_cst_22,
    val_main_cst_23, val_main_call3_cst, val_main_call3_cst_0, val_main_cst_24, val_main_cst_25, val_main_cst_26,
    val_main_cst_27, val_main_cst_28, val_main_cst_29, val_main_cst_30, val_main_cst_32, val_main_cst_33, val_main_cst_35,
    val_main_cst_36, val_main_cst_37, val_main_cst_38, val_main_cst_39, val_main_call5_cst, val_main_call5_cst_0,
    val_main_cst_40, val_main_c]
  have e := fun (k : Fin 31) (s : Fin 4096) (x : ℝ) => masked t.val k.val s.val 30 (by omega) (by omega) (by omega) (by omega) x
    (z := (id (constant S_ .f32 0x00000000#32) : FVec Ideal S_ .f32) ix0) bits_zero
  simp only [r44 H, e, sum_coe, H.wc _ _, H.bc, ← EReal.coe_mul, ← EReal.coe_add]
  rfl

theorem r108 (c : Fin 512) : val_main_v108 (F := Ideal) A0 A1 A2 A7 (ix3 b t c) = ((A.q b.val t.val c.val : ℝ) : EReal) := by
  pointwise [val_main_v108, val_main_v107, val_main_v106, val_main_v125, val_main_v105, val_main_v104, val_main_v103_0,
    val_main_v103_1, val_main_v102, val_main_v101, val_main_v100, val_main_v99, val_main_v98, val_main_v97, val_main_v96,
    val_main_v95, val_main_v94, val_main_v93, val_main_v33, val_main_v34, val_main_call2_v3, val_main_call2_v2,
    val_main_call0_v0, val_main_call2_v0, val_main_cst, val_main_cst_0, val_main_cst_8, val_main_call0_cst, val_main_cst_9,
    val_main_cst_10, val_main_cst_11, val_main_cst_14, val_main_cst_19, val_main_call2_cst, val_main_cst_20, val_main_cst_21,
    val_main_cst_22, val_main_cst_23, val_main_call3_cst, val_main_call3_cst_0, val_main_cst_24, val_main_cst_25,
    val_main_cst_26, val_main_cst_27, val_main_cst_28, val_main_cst_29, val_main_cst_30, val_main_cst_32, val_main_cst_33,
    val_main_cst_35, val_main_cst_36, val_main_cst_37, val_main_cst_38, val_main_cst_39, val_main_call5_cst,
    val_main_call5_cst_0, val_main_cst_40, val_main_c_18]
  have e := fun (k : Fin 3) (s : Fin 4096) (x : ℝ) => masked t.val k.val s.val 2 (by omega) (by omega) (by omega) (by omega) x
    (z := (id (constant S_ .f32 0x00000000#32) : FVec Ideal S_ .f32) ix0) bits_zero
  simp only [r29 H, e, sum_coe, H.ws _ _, ← EReal.coe_mul]
  rfl

theorem r119 (c : Fin 1024) : val_main_v119 (F := Ideal) A1 A8 A9 (ix3 b t c)
    = ((A.dm b.val t.val c.val : ℝ) : EReal) := by
  pointwise [val_main_v119, val_main_v118, val_main_v116, val_main_v117, val_main_v112, val_main_v2]
  simp only [H.md _ _, H.ct, H.wo _ _, ← EReal.coe_mul, sum_coe]
  rfl

theorem r68 (c : Fin 512) : val_main_v68 (F := Ideal) A0 A1 A2 A3 A4 (ix3 b t c) = ((rcen (A.a1 b.val t.val) c.val : ℝ) : EReal) := by
  pointwise [val_main_v68, val_main_v77, val_main_v67, val_main_v76, val_main_v66, val_main_v65, val_main_v74, val_main_v155,
    val_main_v165, val_main_v64, val_main_v63, val_main_cst, val_main_cst_0, val_main_cst_8, val_main_call0_cst,
    val_main_cst_9, val_main_cst_10, val_main_cst_11, val_main_cst_14, val_main_cst_19, val_main_call2_cst, val_main_cst_20,
    val_main_cst_21, val_main_cst_22, val_main_cst_23, val_main_call3_cst, val_main_call3_cst_0, val_main_cst_24,
    val_main_cst_25, val_main_cst_26, val_main_cst_27, val_main_cst_28, val_main_cst_29, val_main_cst_30, val_main_cst_32,
    val_main_cst_33, val_main_cst_35, val_main_cst_36, val_main_cst_37, val_main_cst_38, val_main_cst_39, val_main_call5_cst,
    val_main_call5_cst_0, val_main_cst_40, val_main_cst_12, val_main_cst_15, val_main_cst_31, val_main_cst_34]
  simp only [r62 H, sum_coe, bits_512, div_real (by norm_num : (512 : ℝ) ≠ 0), ← EReal.coe_sub]
  rfl

theorem r77 (c : Fin 512) : val_main_v77 (F := Ideal) A0 A1 A2 A3 A4 (ix3 b t c) = ((rcen (A.a1 b.val t.val) c.val : ℝ) : EReal) :=
  r68 H b t c

theorem r79 : val_main_v79 (F := Ideal) A0 A1 A2 A3 A4 (ix3 b t 0) = ((rvar (A.a1 b.val t.val) + eps : ℝ) : EReal) := by
  pointwise [val_main_v79, val_main_v12, val_main_v78, val_main_v75, val_main_v65, val_main_v74, val_main_v155, val_main_v165,
    val_main_v73, val_main_v72, val_main_v69, val_main_cst, val_main_cst_0, val_main_cst_8, val_main_call0_cst, val_main_cst_9,
    val_main_cst_10, val_main_cst_11, val_main_cst_14, val_main_cst_19, val_main_call2_cst, val_main_cst_20, val_main_cst_21,
    val_main_cst_22, val_main_cst_23, val_main_call3_cst, val_main_call3_cst_0, val_main_cst_24, val_main_cst_25,
    val_main_cst_26, val_main_cst_27, val_main_cst_28, val_main_cst_29, val_main_cst_30, val_main_cst_32, val_main_cst_33,
    val_main_cst_35, val_main_cst_36, val_main_cst_37, val_main_cst_38, val_main_cst_39, val_main_call5_cst,
    val_main_call5_cst_0, val_main_cst_40, val_main_cst_12, val_main_cst_15, val_main_cst_31, val_main_cst_34, val_main_cst_2,
    val_main_cst_16]
  simp only [r68 H, ← EReal.coe_mul, sum_coe, bits_512, bits_eps, div_real (by norm_num : (512 : ℝ) ≠ 0), ← EReal.coe_add]
  rfl

theorem r80 : val_main_v80 (F := Ideal) A0 A1 A2 A3 A4 (ix3 b t 0) = ((rinv (A.a1 b.val t.val) : ℝ) : EReal) := by
  pointwise [val_main_v80]
  rw [r79 H]
  exact rsqrt_real (rvar_pos _)

theorem r83 : val_main_v83 (F := Ideal) A0 A1 A2 A3 A4 (ix3 b t 0)
    = ((-(1 / 2) * (rinv (A.a1 b.val t.val) / (rvar (A.a1 b.val t.val) + eps)) : ℝ) : EReal) := by
  pointwise [val_main_v83, val_main_v82, val_main_v81, val_main_cst_17]
  simp only [r79 H, r80 H, bits_neg_half, div_real (rvar_pos (A.a1 b.val t.val)).ne', ← EReal.coe_mul]

theorem r91 (c : Fin 512) : val_main_v91 (F := Ideal) A0 A1 A2 A3 A4 A5 A6 (ix3 b t c)
    = ((rpre (A.a1 b.val t.val) A.g A.b c.val : ℝ) : EReal) := by
  pointwise [val_main_v91, val_main_v90, val_main_v89, val_main_v88, val_main_v87, val_main_v143, val_main_v86, val_main_v85,
    val_main_v84, val_main_v149]
  simp only [r77 H, r80 H, H.g, H.b, ← EReal.coe_mul, ← EReal.coe_add]
  rfl

theorem r92 (c : Fin 512) : val_main_v92_2 (F := Ideal) A0 A1 A2 A3 A4 A5 A6 (ix3 b t c)
    = ((rsig (rpre (A.a1 b.val t.val) A.g A.b c.val) : ℝ) : EReal) := by
  pointwise [val_main_v92_2, val_main_v37, val_main_v39, val_main_v41, val_main_call1_v2, val_main_call1_v4, val_main_call1_v6,
    val_main_call1_v3, val_main_call1_v1, val_main_call1_v0, val_main_cst_4, val_main_cst_5, val_main_cst_6, val_main_cst_7,
    val_main_call1_cst, val_main_call1_cst_0, val_main_call1_cst_1]
  simp only [r91 H, ← EReal.coe_one, sig_real]

theorem r136 (c : Fin 512) : val_main_v136 (F := Ideal) A0 A1 A2 A3 A4 A5 A6 A8 A9 (ix3 b t c)
    = ((rdS (A.a1 b.val t.val) (A.dm b.val t.val) A.g A.b c.val : ℝ) : EReal) := by
  pointwise [val_main_v136, val_main_call4_v2, val_main_call4_v1, val_main_call4_v0, val_main_v120, val_main_v92_1,
    val_main_call1_v7, val_main_v37, val_main_v39, val_main_v41, val_main_call1_v2, val_main_call1_v4, val_main_call1_v6,
    val_main_cst_4, val_main_cst_5, val_main_cst_6, val_main_cst_7, val_main_call1_cst, val_main_call1_cst_0,
    val_main_call1_cst_1]
  simp only [r91 H, r92 H, r119 H, ← EReal.coe_one, ← EReal.coe_sub, ← EReal.coe_mul, ← EReal.coe_add]
  exact congrArg _ (dS_eq _ _ _ _ _)

theorem r144 (c : Fin 512) : val_main_v144 (F := Ideal) A0 A1 A2 A3 A4 A5 A6 A8 A9 (ix3 b t c)
    = ((rdS (A.a1 b.val t.val) (A.dm b.val t.val) A.g A.b c.val * A.g c.val : ℝ) : EReal) := by
  pointwise [val_main_v144, val_main_v87, val_main_v143, val_main_v86]
  simp only [r136 H, H.g, ← EReal.coe_mul]

theorem r159 (c : Fin 512) : val_main_v159 (F := Ideal) A0 A1 A2 A3 A4 A5 A6 A8 A9 (ix3 b t c)
    = ((((∑ k : Fin 512, rcen (A.a1 b.val t.val) k.val * (rdS (A.a1 b.val t.val) (A.dm b.val t.val) A.g A.b k.val * A.g k.val))
        * (-(1 / 2) * (rinv (A.a1 b.val t.val) / (rvar (A.a1 b.val t.val) + eps)))) / 512 * (2 * rcen (A.a1 b.val t.val) c.val) : ℝ) : EReal) := by
  pointwise [val_main_v159, val_main_v158, val_main_v157, val_main_v156, val_main_v65, val_main_v74, val_main_v155,
    val_main_v165, val_main_v151, val_main_v148, val_main_v147, val_main_v146, val_main_v71, val_main_v70, val_main_cst_13,
    val_main_cst, val_main_cst_0, val_main_cst_8, val_main_call0_cst, val_main_cst_9, val_main_cst_10, val_main_cst_11,
    val_main_cst_14, val_main_cst_19, val_main_call2_cst, val_main_cst_20, val_main_cst_21, val_main_cst_22, val_main_cst_23,
    val_main_call3_cst, val_main_call3_cst_0, val_main_cst_24, val_main_cst_25, val_main_cst_26, val_main_cst_27,
    val_main_cst_28, val_main_cst_29, val_main_cst_30, val_main_cst_32, val_main_cst_33, val_main_cst_35, val_main_cst_36,
    val_main_cst_37, val_main_cst_38, val_main_cst_39, val_main_call5_cst, val_main_call5_cst_0, val_main_cst_40,
    val_main_cst_12, val_main_cst_15, val_main_cst_31, val_main_cst_34]
  simp only [r77 H, r68 H, r83 H, r144 H, bits_two, bits_512, ← EReal.coe_mul, sum_coe, Fin.sum_univ_one,
    div_real (by norm_num : (512 : ℝ) ≠ 0)]

theorem r169 (c : Fin 512) : val_main_v169 (F := Ideal) A0 A1 A2 A3 A4 A5 A6 A8 A9 (ix3 b t c)
    = ((A.e b.val t.val c.val : ℝ) : EReal) := by
  pointwise [val_main_v169, val_main_v168, val_main_v167, val_main_v166, val_main_v65, val_main_v74, val_main_v155,
    val_main_v165, val_main_v164, val_main_v163, val_main_v162, val_main_v161, val_main_v160, val_main_v154, val_main_v153,
    val_main_v152, val_main_v150, val_main_v84, val_main_v149, val_main_cst, val_main_cst_0, val_main_cst_8,
    val_main_call0_cst, val_main_cst_9, val_main_cst_10, val_main_cst_11, val_main_cst_14, val_main_cst_19, val_main_call2_cst,
    val_main_cst_20, val_main_cst_21, val_main_cst_22, val_main_cst_23, val_main_call3_cst, val_main_call3_cst_0,
    val_main_cst_24, val_main_cst_25, val_main_cst_26, val_main_cst_27, val_main_cst_28, val_main_cst_29, val_main_cst_30,
    val_main_cst_32, val_main_cst_33, val_main_cst_35, val_main_cst_36, val_main_cst_37, val_main_cst_38, val_main_cst_39,
    val_main_call5_cst, val_main_call5_cst_0, val_main_cst_40, val_main_cst_12, val_main_cst_15, val_main_cst_31,
    val_main_cst_34]
  simp only [r144 H, r159 H, r80 H, bits_512, ← EReal.coe_mul, ← EReal.coe_neg, sum_coe, Fin.sum_univ_one, ← EReal.coe_add,
    div_real (by norm_num : (512 : ℝ) ≠ 0)]
  exact congrArg _ (chainN_eq _ _ _ _)

theorem r182 (c : Fin 512) : val_main_v182 (F := Ideal) A0 A1 A2 A3 A4 A5 A6 A8 A9 (ix3 b t c)
    = ((A.da b.val t.val c.val : ℝ) : EReal) := by
  pointwise [val_main_v182, host_taps, val_main_v181, val_main_call5_v2, val_main_call5_v1, val_main_v54_2, val_main_call5_v0,
    val_main_v180, val_main_v175, val_main_v57, val_main_v174, val_main_v173, val_main_v56, val_main_v54_1, val_main_v52,
    val_main_v51, val_main_v50, val_main_v49, val_main_v48, val_main_v47, val_main_v46, val_main_v45, val_main_c, val_main_cst,
    val_main_cst_0, val_main_cst_8, val_main_call0_cst, val_main_cst_9, val_main_cst_10, val_main_cst_11, val_main_cst_14,
    val_main_cst_19, val_main_call2_cst, val_main_cst_20, val_main_cst_21, val_main_cst_22, val_main_cst_23,
    val_main_call3_cst, val_main_call3_cst_0, val_main_cst_24, val_main_cst_25, val_main_cst_26, val_main_cst_27,
    val_main_cst_28, val_main_cst_29, val_main_cst_30, val_main_cst_32, val_main_cst_33, val_main_cst_35, val_main_cst_36,
    val_main_cst_37, val_main_cst_38, val_main_cst_39, val_main_call5_cst, val_main_call5_cst_0, val_main_cst_40]
  have e := fun (k : Fin 31) (s : Fin 4096) (x : ℝ) => masked s.val k.val t.val 30 (by omega) (by omega) (by omega) (by omega) x
    (z := 0) EReal.coe_zero.symm
  simp only [r169 H, H.wc _ _, ← EReal.coe_mul, e, sum_coe, Fin.sum_univ_one]
  rfl

theorem r133 (c : Fin 512) : val_main_v133 (F := Ideal) A0 A1 A2 A7 A8 A9 (ix3 b t c)
    = ((A.dd b.val t.val c.val : ℝ) : EReal) := by
  pointwise [val_main_v133, host_taps, val_main_v132, val_main_call3_v2, val_main_call3_v1, val_main_v103_2, val_main_call3_v0,
    val_main_v131, val_main_v126, val_main_v106, val_main_v125, val_main_v124, val_main_v122, val_main_v121, val_main_v32,
    val_main_v105, val_main_v103_1, val_main_v101, val_main_v100, val_main_v99, val_main_v98, val_main_v97, val_main_v96,
    val_main_v95, val_main_v94, val_main_c_18, val_main_cst, val_main_cst_0, val_main_cst_8, val_main_call0_cst,
    val_main_cst_9, val_main_cst_10, val_main_cst_11, val_main_cst_14, val_main_cst_19, val_main_call2_cst, val_main_cst_20,
    val_main_cst_21, val_main_cst_22, val_main_cst_23, val_main_call3_cst, val_main_call3_cst_0, val_main_cst_24,
    val_main_cst_25, val_main_cst_26, val_main_cst_27, val_main_cst_28, val_main_cst_29, val_main_cst_30, val_main_cst_32,
    val_main_cst_33, val_main_cst_35, val_main_cst_36, val_main_cst_37, val_main_cst_38, val_main_cst_39, val_main_call5_cst,
    val_main_call5_cst_0, val_main_cst_40]
  have e := fun (k : Fin 3) (s : Fin 4096) (x : ℝ) => masked s.val k.val t.val 2 (by omega) (by omega) (by omega) (by omega) x
    (z := 0) EReal.coe_zero.symm
  simp only [r29 H, r119 H, H.ws _ _, ← EReal.coe_mul, e, sum_coe, Fin.sum_univ_one]
  rfl

/-- The gradient at the projection's result. -/
theorem r186 {n : ℕ} (hb : b.val = n / 4096) (ht : t.val = n % 4096) (k : Fin 2560) :
    val_main_v186 (F := Ideal) A0 A1 A2 A3 A4 A5 A6 A7 A8 A9 (ix3 b t k) = ((A.arr.out n k.val : ℝ) : EReal) := by
  pointwise [val_main_v186, val_main_v185, val_main_v184, val_main_v183, val_main_v135,
    val_main_v134, val_main_v123, val_main_v121, val_main_v43, val_main_v42, val_main_v37, val_main_v39, val_main_v41,
    val_main_call1_v2, val_main_call1_v4, val_main_call1_v6, val_main_v30, val_main_v33, val_main_v34, val_main_cst_4,
    val_main_cst_5, val_main_cst_6, val_main_cst_7, val_main_call1_cst, val_main_call1_cst_0, val_main_call1_cst_1]
  simp only [r29 H, r40 H, r108 H, r119 H, r133 H, r182 H, ← EReal.coe_one, ← EReal.coe_sub, ← EReal.coe_mul, hb, ht]
  have e1 : k.val - 512 - 512 = k.val - 1024 := by omega
  have e2 : k.val - 1024 - 512 = k.val - 1536 := by omega
  have e3 : k.val - 1536 - 512 = k.val - 2048 := by omega
  have c1 : k.val - 512 < 512 ↔ k.val < 1024 := by omega
  have c2 : k.val - 1024 < 512 ↔ k.val < 1536 := by omega
  have c3 : k.val - 1536 < 512 ↔ k.val < 2048 := by omega
  unfold Arr.out
  simp only [dite_eq_ite, e1, e2, e3, c1, c2, c3, Real10.arr_da, Real10.arr_dd]
  split_ifs
  · rfl
  · rw [show 512 + (k.val - 512) = k.val by omega]
    refine congrArg _ ?_
    show _ = _ * (_ * rsig (A.arr.p n (512 + (k.val - 512)))) * _
    rw [show 512 + (k.val - 512) = k.val by omega]
    show A.arr.p n (k.val - 512) * _ * (rsig (A.arr.p n k.val) * (1 - rsig (A.arr.p n k.val))) = _
    ring
  · rfl
  · rfl
  · exact congrArg _ (mul_comm _ _)

theorem r187 {n : ℕ} (hb : b.val = n / 4096) (ht : t.val = n % 4096) (k : Fin 1024) :
    val_main_v187 (F := Ideal) A0 A1 A2 A3 A4 A5 A6 A7 A8 A9 (ix3 b t k) = ((A.arr.dh n k.val : ℝ) : EReal) := by
  pointwise [val_main_v187]
  simp only [r186 H b t hb ht, H.wi _ _, ← EReal.coe_mul, sum_coe]
  rfl

omit b t in
theorem r22 (b : Fin 2) (k : Fin 1024) : val_main_v22 (F := Ideal) A1 (ix3 b 0 k) = ((1 + A.md b.val (1024 + k.val) : ℝ) : EReal) := by
  pointwise [val_main_v22, val_main_v21, val_main_v20, val_main_v1, val_main_cst_4]
  simp only [H.md _ _, ← EReal.coe_one, ← EReal.coe_add]

theorem r13 {n : ℕ} (hb : b.val = n / 4096) (ht : t.val = n % 4096) :
    val_main_v13 (F := Ideal) A0 (ix3 b t 0) = ((ms (wide (A.arr.x n)) : ℝ) : EReal) := by
  pointwise [val_main_v13, val_main_v12, val_main_v11, val_main_v10, val_main_v9, val_main_v8, val_main_v7, val_main_cst_0,
    val_main_cst_1, val_main_cst_2]
  simp only [H.x, ← EReal.coe_mul, sum_coe, bits_1024, bits_eps, div_1024, ← EReal.coe_add, hb, ht]
  rfl

theorem r14 {n : ℕ} (hb : b.val = n / 4096) (ht : t.val = n % 4096) :
    val_main_v14 (F := Ideal) A0 (ix3 b t 0) = ((rs (wide (A.arr.x n)) : ℝ) : EReal) := by
  pointwise [val_main_v14]
  rw [r13 H b t hb ht]
  exact rsqrt_real (ms_pos _)

theorem r19 {n : ℕ} (hb : b.val = n / 4096) (ht : t.val = n % 4096) (k : Fin 1024) :
    val_main_v19 (F := Ideal) A0 (ix3 b t k) = ((A.arr.xn n k.val : ℝ) : EReal) := by
  pointwise [val_main_v19, val_main_v18]
  simp only [r14 H b t hb ht, H.x, ← EReal.coe_mul, hb, ht]
  rfl

theorem r195 {n : ℕ} (hb : b.val = n / 4096) (ht : t.val = n % 4096) (k : Fin 1024) :
    val_main_v195 (F := Ideal) A0 A1 A2 A3 A4 A5 A6 A7 A8 A9 (ix3 b t k) = ((A.arr.dn n k.val : ℝ) : EReal) := by
  pointwise [val_main_v195, val_main_v194]
  simp only [r187 H b t hb ht, r22 H, ← EReal.coe_mul, hb]
  rfl

theorem r211 {n : ℕ} (hb : b.val = n / 4096) (ht : t.val = n % 4096) (k : Fin 1024) :
    val_main_v211 (F := Ideal) A0 A1 A2 A3 A4 A5 A6 A7 A8 A9 (ix3 b t k) = ((A.arr.gx n k.val : ℝ) : EReal) := by
  pointwise [val_main_v211, val_main_v210, val_main_v209, val_main_v208, val_main_v207, val_main_v206, val_main_v205,
    val_main_v204, val_main_v203, val_main_v202, val_main_v201, val_main_v200, val_main_v199, val_main_v198, val_main_v197,
    val_main_v17, val_main_v16, val_main_v15, val_main_cst_3, val_main_cst_45, val_main_cst_46, val_main_cst_47]
  simp only [r195 H b t hb ht, r13 H b t hb ht, r14 H b t hb ht, H.x, H.ct, ← EReal.coe_mul, sum_coe, bits_1024, div_1024,
    bits_neg_half, Fin.sum_univ_one, div_real (ms_pos (wide (A.arr.x n))).ne', ← EReal.coe_add]
  simp only [hb, ht]
  refine congrArg _ ((add_assoc _ _ _).trans ((add_assoc _ _ _).trans ?_))
  exact congrArg (A.arr.dx n k.val + ·) (rmsGrad_chain (wide (A.arr.x n)) (wide (A.arr.dn n)) k)

omit b t in
theorem r190 (b : Fin 2) (k : Fin 1024) :
    val_main_v190 (F := Ideal) A0 A1 A2 A3 A4 A5 A6 A7 A8 A9 (ix2 b k)
      = ((∑ t : Fin 4096, A.arr.dh (4096 * b.val + t.val) k.val : ℝ) : EReal) := by
  pointwise [val_main_v190, val_main_v189, val_main_v188, val_main_cst_41, val_main_cst_42]
  have e := fun t : Fin 4096 => r187 H b t (n := 4096 * b.val + t.val) (by omega) (by omega) k
  simp only [e, sum_coe, Fin.sum_univ_one]

omit b t in
theorem r196 (b : Fin 2) (k : Fin 1024) :
    val_main_v196 (F := Ideal) A0 A1 A2 A3 A4 A5 A6 A7 A8 A9 (ix2 b k)
      = ((∑ t : Fin 4096, A.arr.dh (4096 * b.val + t.val) k.val * A.arr.xn (4096 * b.val + t.val) k.val : ℝ) : EReal) := by
  pointwise [val_main_v196, val_main_v193, val_main_v192, val_main_v191, val_main_cst_43, val_main_cst_44]
  have e := fun t : Fin 4096 => r187 H b t (n := 4096 * b.val + t.val) (by omega) (by omega) k
  have e' := fun t : Fin 4096 => r19 H b t (n := 4096 * b.val + t.val) (by omega) (by omega) k
  simp only [e, e', ← EReal.coe_mul, sum_coe, Fin.sum_univ_one]
  exact congrArg _ (Finset.sum_congr rfl fun t _ => mul_comm _ _)

/-! ## The small gradients -/

omit b t in
theorem r172 (c : Fin 512) : val_main_v172 (F := Ideal) A0 A1 A2 A3 A4 A5 A6 A8 A9 (ix1 c)
    = ((∑ b : Fin 2, ∑ t : Fin 4096, A.e b.val t.val c.val : ℝ) : EReal) := by
  pointwise [val_main_v172, val_main_v171, val_main_v170, val_main_cst_36, val_main_cst_37, leading_sum]
  simp only [r169 H, sum_coe, Fin.sum_univ_one]

omit b t in
theorem r139 (c : Fin 512) : val_main_v139 (F := Ideal) A0 A1 A2 A3 A4 A5 A6 A8 A9 (ix1 c)
    = ((∑ b : Fin 2, ∑ t : Fin 4096, rdS (A.a1 b.val t.val) (A.dm b.val t.val) A.g A.b c.val : ℝ) : EReal) := by
  pointwise [val_main_v139, val_main_v138, val_main_v137, val_main_cst_25, val_main_cst_26, leading_sum]
  simp only [r136 H, sum_coe, Fin.sum_univ_one]

omit b t in
theorem r145 (c : Fin 512) : val_main_v145 (F := Ideal) A0 A1 A2 A3 A4 A5 A6 A8 A9 (ix1 c)
    = ((∑ b : Fin 2, ∑ t : Fin 4096, rdS (A.a1 b.val t.val) (A.dm b.val t.val) A.g A.b c.val * rnorm (A.a1 b.val t.val) c.val : ℝ) : EReal) := by
  pointwise [val_main_v145, val_main_v142, val_main_v141, val_main_v140, val_main_v85, val_main_v84, val_main_cst_27,
    val_main_cst_28, leading_sum]
  simp only [r136 H, r77 H, r80 H, ← EReal.coe_mul, sum_coe, Fin.sum_univ_one]
  refine congrArg Real.toEReal (Finset.sum_congr rfl fun b _ => Finset.sum_congr rfl fun t _ => ?_)
  exact mul_comm _ _

omit b t in
theorem r179 (k : Fin 31) (c : Fin 512) : val_main_v179 (F := Ideal) A0 A1 A2 A3 A4 A5 A6 A8 A9 (ix2 k c)
    = ((tapGrad 31 A.e A.glu k.val c.val : ℝ) : EReal) := by
  pointwise [val_main_v179, host_middle, val_main_v178, val_main_v177, val_main_v176, val_main_v173, val_main_v55,
    val_main_v54_0, val_main_v54_1, val_main_v53, val_main_v52, val_main_v51, val_main_v50, val_main_v49, val_main_v48,
    val_main_v47, val_main_v46, val_main_v45, val_main_call0_v3, val_main_call0_v2, val_main_call0_v0, val_main_call0_cst,
    val_main_cst_8, val_main_cst_9, val_main_cst_38, val_main_cst_39, val_main_c]
  have e := fun (t : Fin 4096) (s : Fin 4096) (x : ℝ) => masked t.val k.val s.val 30 (by omega) (by omega) (by omega) (by omega) x
    (z := (id (constant S_ .f32 0x00000000#32) : FVec Ideal S_ .f32) ix0) bits_zero
  simp only [r44 H, r169 H, e, sum_coe, Fin.sum_univ_one, ← EReal.coe_mul]
  rfl

omit b t in
theorem r130 (k : Fin 3) (c : Fin 512) : val_main_v130 (F := Ideal) A0 A1 A2 A8 A9 (ix2 k c)
    = ((tapGrad 3 A.u (fun b s c => A.proj b s (1536 + c) * A.proj b s (2048 + c)) k.val c.val : ℝ) : EReal) := by
  pointwise [val_main_v130, host_middle, val_main_v129, val_main_v128, val_main_v127, val_main_v124, val_main_v122,
    val_main_v121, val_main_v32, val_main_v104, val_main_v103_0, val_main_v103_1, val_main_v102, val_main_v101, val_main_v100,
    val_main_v99, val_main_v98, val_main_v97, val_main_v96, val_main_v95, val_main_v94, val_main_v93, val_main_v33,
    val_main_v34, val_main_call2_v3, val_main_call2_v2, val_main_call2_v0, val_main_call2_cst, val_main_cst_19,
    val_main_cst_20, val_main_cst_22, val_main_cst_23, val_main_c_18]
  have e := fun (t : Fin 4096) (s : Fin 4096) (x : ℝ) => masked t.val k.val s.val 2 (by omega) (by omega) (by omega) (by omega) x
    (z := (id (constant S_ .f32 0x00000000#32) : FVec Ideal S_ .f32) ix0) bits_zero
  simp only [r29 H, r119 H, e, sum_coe, Fin.sum_univ_one, ← EReal.coe_mul]
  rfl

/-! ## The two large results, row after row -/

omit b t in
theorem r213 (n : Fin 8192) (k : Fin 2560) :
    val_main_v213 (F := Ideal) A0 A1 A2 A3 A4 A5 A6 A7 A8 A9 (ix2 n k) = ((A.arr.out n.val k.val : ℝ) : EReal) := by
  pointwise [val_main_v213, val_main_v212]
  exact r186 H _ _ rfl rfl _

omit b t in
theorem r214 (n : Fin 8192) (k : Fin 1024) :
    val_main_v214 (F := Ideal) A0 A1 A2 A3 A4 A5 A6 A7 A8 A9 (ix2 n k) = ((A.arr.gx n.val k.val : ℝ) : EReal) := by
  pointwise [val_main_v214]
  exact r211 H _ _ rfl rfl _

end

end Cert.Reference3Ideal.Mix
-- ==== Proof.MixSmall.lean ====
/-
  The sums over rows of the mixer's small gradients: the order in which the call adds them does not matter.
-/
module

public import proofs.«01_k».proof.Proof.MixMath
public import proofs.«01_k».proof.Proof.Sums

@[expose] public section

noncomputable section

namespace Cert.Mix

open Idealize.ShloMosaic Rows

/-- The rows of a block, eight rows' parts together. -/
theorem block_rows (f : ℕ → ℝ) (s : ℕ) :
    ∑ q : Fin 8, ∑ i ∈ Finset.range 32, f (s + (8 * i + q.val)) = ∑ x ∈ Finset.range 256, f (s + x) := by
  rw [show 256 = 32 * 8 from rfl, sum_pieces 32 8 (fun x => f (s + x)), Finset.sum_comm]
  refine Finset.sum_congr rfl fun i _ => ?_
  rw [Fin.sum_univ_eq_sum_range (fun q => f (s + (8 * i + q)))]
  exact Finset.sum_congr rfl fun q _ => by rw [Nat.mul_comm 8 i]

/-- The blocks of a batch element, from its last to its first. -/
theorem batch_rows (f : ℕ → ℝ) (s : ℕ) :
    ∑ q : Fin 8, ∑ u ∈ Finset.range 16, ∑ i ∈ Finset.range 32, f (s + 256 * (15 - u) + (8 * i + q.val))
      = ∑ t : Fin 4096, f (s + t.val) := by
  rw [Finset.sum_comm, Fin.sum_univ_eq_sum_range (fun t => f (s + t)), show 4096 = 16 * 256 from rfl,
    sum_pieces 16 256 (fun t => f (s + t)), ← Finset.sum_range_reflect]
  refine Finset.sum_congr rfl fun u hu => ?_
  have hu := Finset.mem_range.1 hu
  rw [block_rows]
  refine Finset.sum_congr rfl fun x _ => congrArg f ?_
  omega

/-- All blocks, from the last to the first. -/
theorem all_rows (f : ℕ → ℝ) :
    ∑ q : Fin 8, ∑ t ∈ Finset.range 32, ∑ i ∈ Finset.range 32, f (256 * (31 - t) + (8 * i + q.val))
      = ∑ b : Fin 2, ∑ t : Fin 4096, f (4096 * b.val + t.val) := by
  have h : ∀ q : Fin 8, ∑ t ∈ Finset.range 32, ∑ i ∈ Finset.range 32, f (256 * (31 - t) + (8 * i + q.val))
      = ∑ u ∈ Finset.range 16, ∑ i ∈ Finset.range 32, f (4096 + 256 * (15 - u) + (8 * i + q.val))
        + ∑ u ∈ Finset.range 16, ∑ i ∈ Finset.range 32, f (0 + 256 * (15 - u) + (8 * i + q.val)) := fun q => by
    rw [show 32 = 16 + 16 from rfl, Finset.sum_range_add]
    refine congrArg₂ (· + ·) (Finset.sum_congr rfl fun u hu => Finset.sum_congr rfl fun i _ => congrArg f ?_)
      (Finset.sum_congr rfl fun u hu => Finset.sum_congr rfl fun i _ => congrArg f ?_)
    all_goals
      have hu := Finset.mem_range.1 hu
      omega
  rw [Finset.sum_congr rfl fun q _ => h q, Finset.sum_add_distrib, batch_rows, batch_rows, Fin.sum_univ_two, add_comm]
  rfl

/-- A tap's gradient, row by row of the convolution's argument. -/
theorem tap_rows (n j : ℕ) (hj : j < n) (e f : ℕ → ℝ) :
    ∑ t : Fin 4096, (if t.val + (n - 1 - j) < 4096 then e (t.val + (n - 1 - j)) else 0) * f t.val
      = ∑ t : Fin 4096, e t.val * ∑ s : Fin 4096, if t.val + j = s.val + (n - 1) then f s.val else 0 := by
  simp only [Finset.mul_sum]
  rw [Finset.sum_comm]
  refine Finset.sum_congr rfl fun s _ => ?_
  by_cases h : s.val + (n - 1 - j) < 4096
  · rw [if_pos h, Finset.sum_eq_single ⟨s.val + (n - 1 - j), h⟩, if_pos (by show s.val + _ + j = _; omega)]
    · exact fun t _ ht => by rw [if_neg fun e => ht (Fin.ext (by show t.val = s.val + _; omega)), mul_zero]
    · exact fun hn => (hn (Finset.mem_univ _)).elim
  · rw [if_neg h, zero_mul]
    refine (Finset.sum_eq_zero fun t _ => ?_).symm
    rw [if_neg fun e => h (by have := t.isLt; omega), mul_zero]

theorem row_div (b : Fin 2) (t : Fin 4096) : (4096 * b.val + t.val) / 4096 = b.val := by omega
theorem row_mod (b : Fin 2) (t : Fin 4096) : (4096 * b.val + t.val) % 4096 = t.val := by omega

namespace Arr

variable (Z : Arr)

/-- A small gradient's eight rows of sums are the sum over all rows. -/
theorem sgs_total (j c : ℕ) :
    ∑ q : Fin 8, Z.sgs 32 (8 * j + q.val) c = ∑ b : Fin 2, ∑ t : Fin 4096, Z.term j (4096 * b.val + t.val) c := by
  rw [← all_rows fun n => Z.term j n c]
  refine Finset.sum_congr rfl fun q _ => ?_
  have h1 : (8 * j + q.val) / 8 = j := by omega
  have h2 : (8 * j + q.val) % 8 = q.val := by omega
  rw [sgs, h1, h2]

/-- A batch element's eight rows of sums are the sum over its rows. -/
theorem since_total (f : ℕ → ℝ) (b : Fin 2) :
    ∑ q : Fin 8, since (fun i => ∑ j ∈ Finset.range 32, f (256 * i + (8 * j + q.val))) (16 * (2 - b.val))
      = ∑ t : Fin 4096, f (4096 * b.val + t.val) := by
  rw [← batch_rows]
  refine Finset.sum_congr rfl fun q _ => ?_
  have h0 : ¬16 * (2 - b.val) = 0 := by omega
  have h1 : (16 * (2 - b.val) - 1) % 16 + 1 = 16 := by omega
  rw [since, if_neg h0, h1]
  refine Finset.sum_congr rfl fun u hu => Finset.sum_congr rfl fun i _ => congrArg f ?_
  have hu := Finset.mem_range.1 hu
  omega

end Arr

namespace Real10

variable (A : Real10)

theorem long_tap (k c : ℕ) (hk : k < 31) :
    ∑ b : Fin 2, ∑ t : Fin 4096, A.arr.term k (4096 * b.val + t.val) c = tapGrad 31 A.e A.glu k c := by
  refine Finset.sum_congr rfl fun b _ => ?_
  refine Eq.trans (Finset.sum_congr rfl fun t _ => ?_)
    (tap_rows 31 k hk (fun t => A.e b.val t c) (fun t => A.glu b.val t c))
  rw [Arr.term, if_pos hk, on_rows A.e A.arr.e (fun _ _ => rfl), row_div, row_mod]
  refine congrArg _ ?_
  show A.proj ((4096 * b.val + t.val) / 4096) ((4096 * b.val + t.val) % 4096) c
    * rsig (A.proj ((4096 * b.val + t.val) / 4096) ((4096 * b.val + t.val) % 4096) (512 + c)) = _
  rw [row_div, row_mod]
  rfl

theorem short_tap (k c : ℕ) (hk : k < 3) :
    ∑ b : Fin 2, ∑ t : Fin 4096, A.arr.term (34 + k) (4096 * b.val + t.val) c
      = tapGrad 3 A.u (fun b s c => A.proj b s (1536 + c) * A.proj b s (2048 + c)) k c := by
  refine Finset.sum_congr rfl fun b _ => ?_
  refine Eq.trans (Finset.sum_congr rfl fun t _ => ?_)
    (tap_rows 3 k hk (fun t => A.u b.val t c) (fun t => A.proj b.val t (1536 + c) * A.proj b.val t (2048 + c)))
  rw [Arr.term, if_neg (by omega), if_neg (by omega), if_neg (by omega), if_neg (by omega),
    on_rows A.u A.arr.u (fun _ _ => mul_comm _ _), row_div, row_mod, show 36 - (34 + k) = 3 - 1 - k by omega, mul_comm]
  refine congrArg _ ?_
  show A.proj ((4096 * b.val + t.val) / 4096) ((4096 * b.val + t.val) % 4096) (1536 + c)
    * A.proj ((4096 * b.val + t.val) / 4096) ((4096 * b.val + t.val) % 4096) (2048 + c) = _
  rw [row_div, row_mod]

theorem term_b (b : Fin 2) (t : Fin 4096) (c : ℕ) : A.arr.term 31 (4096 * b.val + t.val) c = A.e b.val t.val c := by
  show A.e ((4096 * b.val + t.val) / 4096) ((4096 * b.val + t.val) % 4096) c = _
  rw [row_div, row_mod]

theorem term_g (b : Fin 2) (t : Fin 4096) (c : ℕ) : A.arr.term 32 (4096 * b.val + t.val) c
    = rdS (A.a1 b.val t.val) (A.dm b.val t.val) A.g A.b c * rnorm (A.a1 b.val t.val) c := by
  show rdS (A.a1 ((4096 * b.val + t.val) / 4096) ((4096 * b.val + t.val) % 4096))
      (A.dm ((4096 * b.val + t.val) / 4096) ((4096 * b.val + t.val) % 4096)) A.g A.b c
    * rnorm (A.a1 ((4096 * b.val + t.val) / 4096) ((4096 * b.val + t.val) % 4096)) c = _
  rw [row_div, row_mod]

theorem term_s (b : Fin 2) (t : Fin 4096) (c : ℕ) : A.arr.term 33 (4096 * b.val + t.val) c
    = rdS (A.a1 b.val t.val) (A.dm b.val t.val) A.g A.b c := by
  show rdS (A.a1 ((4096 * b.val + t.val) / 4096) ((4096 * b.val + t.val) % 4096))
      (A.dm ((4096 * b.val + t.val) / 4096) ((4096 * b.val + t.val) % 4096)) A.g A.b c = _
  rw [row_div, row_mod]

end Real10

end Cert.Mix
-- ==== Proof.MixClose.lean ====
/-
  The mixer's backward call and the derivative of the forward lines end with equal results.
-/
module

public import proofs.«01_k».proof.Defs
public import proofs.«01_k».proof.Proof.MixReads
public import proofs.«01_k».proof.Proof.MixRef
public import proofs.«01_k».proof.Proof.MixSmall
public import proofs.«01_k».proof.Proof.MixLaunch
public import proofs.«01_k».proof.Proof.Sums
public import proofs.«01_k».proof.Proof.Gen.Reference3Ideal.Run
public import proofs.«01_k».proof.Proof.Gen.Pre_finite3
public import Idealize.ShloMosaic.Lib.Quiescent

@[expose] public section

set_option maxRecDepth 16384

noncomputable section

open Idealize.ShloMosaic Idealize.ShloMosaic.TcCoe Idealize.SL.Sem

namespace Cert.Mix

open Cert.Kernel3Ideal Cert.Kernel3Ideal.Gen Rows

variable {m : (ℓ : Loc nD τ Cert.Kernel3Ideal.sig) → Buf (Elt Ideal) ℓ} {c : Dev nD} {A : Real10}

/-! ## Finite arguments are reals -/

def nat1 {a : ℕ} (f : (⟨1, ![a]⟩ : Shape).Idx → ℝ) (i : ℕ) : ℝ := if h : i < a then f (ix1 ⟨i, h⟩) else 0
def nat2 {a b : ℕ} (f : (⟨2, ![a, b]⟩ : Shape).Idx → ℝ) (i j : ℕ) : ℝ :=
  if h : i < a ∧ j < b then f (ix2 ⟨i, h.1⟩ ⟨j, h.2⟩) else 0
def nat3 {a b d : ℕ} (f : (⟨3, ![a, b, d]⟩ : Shape).Idx → ℝ) (i j k : ℕ) : ℝ :=
  if h : i < a ∧ j < b ∧ k < d then f (ix3 ⟨i, h.1⟩ ⟨j, h.2.1⟩ ⟨k, h.2.2⟩) else 0

theorem nat1_at {a : ℕ} (f : (⟨1, ![a]⟩ : Shape).Idx → ℝ) (i : Fin a) : nat1 f i.val = f (ix1 i) := dif_pos i.isLt
theorem nat2_at {a b : ℕ} (f : (⟨2, ![a, b]⟩ : Shape).Idx → ℝ) (i : Fin a) (j : Fin b) : nat2 f i.val j.val = f (ix2 i j) :=
  dif_pos ⟨i.isLt, j.isLt⟩
theorem nat3_at {a b d : ℕ} (f : (⟨3, ![a, b, d]⟩ : Shape).Idx → ℝ) (i : Fin a) (j : Fin b) (k : Fin d) :
    nat3 f i.val j.val k.val = f (ix3 i j k) := dif_pos ⟨i.isLt, j.isLt, k.isLt⟩

theorem args_real (hp : Cert.Pre_Kernel3Ideal_finite3 m) (c : Dev nD) : ∃ A : Real10, Holds m c A := by
  obtain ⟨h0, h1, h2, h3, h4, h5, h6, h7, h8, h9⟩ := hp c
  choose X hX using real_of_lt _ _ h0
  choose MD hMD using real_of_lt _ _ h1
  choose WI hWI using real_of_lt _ _ h2
  choose WC hWC using real_of_lt _ _ h3
  choose BC hBC using real_of_lt _ _ h4
  choose G hG using real_of_lt _ _ h5
  choose B hB using real_of_lt _ _ h6
  choose WS hWS using real_of_lt _ _ h7
  choose WO hWO using real_of_lt _ _ h8
  choose CT hCT using real_of_lt _ _ h9
  exact ⟨⟨nat3 X, nat2 MD, nat2 WI, nat2 WC, nat1 BC, nat1 G, nat1 B, nat2 WS, nat2 WO, nat3 CT⟩,
    ⟨fun _ _ _ => (hX _).trans (congrArg _ (nat3_at X _ _ _).symm), fun _ _ => (hMD _).trans (congrArg _ (nat2_at MD _ _).symm),
      fun _ _ => (hWI _).trans (congrArg _ (nat2_at WI _ _).symm), fun _ _ => (hWC _).trans (congrArg _ (nat2_at WC _ _).symm),
      fun _ => (hBC _).trans (congrArg _ (nat1_at BC _).symm), fun _ => (hG _).trans (congrArg _ (nat1_at G _).symm),
      fun _ => (hB _).trans (congrArg _ (nat1_at B _).symm), fun _ _ => (hWS _).trans (congrArg _ (nat2_at WS _ _).symm),
      fun _ _ => (hWO _).trans (congrArg _ (nat2_at WO _ _).symm), fun _ _ _ => (hCT _).trans (congrArg _ (nat3_at CT _ _ _).symm)⟩⟩

/-! ## The last lines -/

/-- What a buffer holds at the end. -/
abbrev after (m : (ℓ : Loc nD τ Cert.Kernel3Ideal.sig) → Buf (Elt Ideal) ℓ) (Zs : Dev nD → Arr) (c : Dev nD)
    (b : Ref Cert.Kernel3Ideal.sig .tc) :=
  Pipeline.afterTail₀ cfgs (dats m Zs) 0 (V0 m) [hostOps1] c b

/-- The sum of an accumulator's eight rows. -/
def eight (S : FVec Ideal S2x8x1024 .f32) : FVec Ideal S2x1024 .f32 :=
  Host.reduceAdd S (constant S_ .f32 0x00000000#32) reducesTo_S2x8x1024_S2x1024_d1 h_S_

/-- The small gradients: the sum of each one's eight rows. -/
def small (S : FVec Ideal S296x512 .f32) : FVec Ideal S37x512 .f32 :=
  Host.reduceAdd (shapeCast _ S shapeCasts_S296x512_S37x8x512) (constant S_ .f32 0x00000000#32) reducesTo_S37x8x512_S37x512_d1 h_S_

/-- One of them. -/
def smallAt (j : ℕ) (h : S37x512.Slices ![j, 0] S1x512) (S : FVec Ideal S296x512 .f32) : FVec Ideal S512 .f32 :=
  shapeCast _ (extractStridedSlice S1x512 ![j, 0] (small S) h) shapeCasts_S1x512_S512

/-- The long and the short convolution's. -/
def longAt (S : FVec Ideal S296x512 .f32) : FVec Ideal S31x512 .f32 := extractStridedSlice S31x512 ![0, 0] (small S) slices_S37x512_S31x512_0_0
def shortAt (S : FVec Ideal S296x512 .f32) : FVec Ideal S3x512 .f32 := extractStridedSlice S3x512 ![34, 0] (small S) slices_S37x512_S3x512_34_0

variable {Zs : Dev nD → Arr}

theorem eight_at {S : FVec Ideal S2x8x1024 .f32} {f : ℕ → ℕ → ℝ}
    (h : ∀ (b : Fin 2) (r : Fin 8) (k : Fin 1024), S (ix3 b r k)
      = ((since (fun i => ∑ j ∈ Finset.range 32, f (256 * i + (8 * j + r.val)) k.val) (16 * (2 - b.val)) : ℝ) : EReal))
    (b : Fin 2) (k : Fin 1024) : eight S (ix2 b k) = ((∑ t : Fin 4096, f (4096 * b.val + t.val) k.val : ℝ) : EReal) := by
  pointwise [eight]
  simp only [h, sum_coe]
  rw [Arr.since_total fun n => f n k.val]

theorem small_at {S : FVec Ideal S296x512 .f32} {Z : Arr}
    (h : ∀ (r : Fin 296) (k : Fin 512), S (ix2 r k) = ((Z.sgs 32 r.val k.val : ℝ) : EReal)) (j : Fin 37) (k : Fin 512) :
    small S (ix2 j k) = ((∑ b : Fin 2, ∑ t : Fin 4096, Z.term j.val (4096 * b.val + t.val) k.val : ℝ) : EReal) := by
  pointwise [small]
  simp only [h, sum_coe]
  rw [← Z.sgs_total]
  refine congrArg _ (Finset.sum_congr rfl fun q _ => congrArg (fun n => Z.sgs 32 n k.val) ?_)
  have := k.isLt; omega

theorem smallAt_at {S : FVec Ideal S296x512 .f32} {Z : Arr}
    (h : ∀ (r : Fin 296) (k : Fin 512), S (ix2 r k) = ((Z.sgs 32 r.val k.val : ℝ) : EReal)) (j : ℕ) (hj : S37x512.Slices ![j, 0] S1x512)
    (hl : j < 37) (k : Fin 512) :
    smallAt j hj S (ix1 k) = ((∑ b : Fin 2, ∑ t : Fin 4096, Z.term j (4096 * b.val + t.val) k.val : ℝ) : EReal) := by
  pointwise [smallAt]
  exact small_at h ⟨j, hl⟩ k

/-- What the lines after the call find in one of its arrays. -/
theorem found (w : Fin cfg0.W) : Pipeline.withArrays cfg0.spec c (V0 m c) (fun w => (dats m Zs 0 c).arrAt w cfg0.N)
    (Proc.devRef .tc (Pipeline.arrRef cfg0.spec w)) = (dats m Zs 0 c).arrAt w cfg0.N :=
  (dats m Zs 0 c).withArrays_arrAt launch₀0.sharedIn (V0 m c) (fun _ => rfl) w

theorem after94 : after m Zs c main_v94 = eight ((dats m Zs 0 c).arrAt 17 cfg0.N) := by
  unfold after Pipeline.afterTail₀
  simp only [List.flatten_cons, List.flatten_nil, List.append_nil]
  after_region_results
  exact congrArg eight (found 17)

theorem after95 : after m Zs c main_v95 = eight ((dats m Zs 0 c).arrAt 18 cfg0.N) := by
  unfold after Pipeline.afterTail₀
  simp only [List.flatten_cons, List.flatten_nil, List.append_nil]
  after_region_results
  exact congrArg eight (found 18)

theorem after86 : after m Zs c main_v86 = longAt ((dats m Zs 0 c).arrAt 15 cfg0.N) := by
  unfold after Pipeline.afterTail₀
  simp only [List.flatten_cons, List.flatten_nil, List.append_nil]
  after_region_results
  exact congrArg longAt (found 15)

theorem after93 : after m Zs c main_v93 = shortAt ((dats m Zs 0 c).arrAt 15 cfg0.N) := by
  unfold after Pipeline.afterTail₀
  simp only [List.flatten_cons, List.flatten_nil, List.append_nil]
  after_region_results
  exact congrArg shortAt (found 15)

theorem after88 : after m Zs c main_v88 = smallAt 31 slices_S37x512_S1x512_31_0 ((dats m Zs 0 c).arrAt 15 cfg0.N) := by
  unfold after Pipeline.afterTail₀
  simp only [List.flatten_cons, List.flatten_nil, List.append_nil]
  after_region_results
  exact congrArg (smallAt 31 slices_S37x512_S1x512_31_0) (found 15)

theorem after90 : after m Zs c main_v90 = smallAt 32 slices_S37x512_S1x512_32_0 ((dats m Zs 0 c).arrAt 15 cfg0.N) := by
  unfold after Pipeline.afterTail₀
  simp only [List.flatten_cons, List.flatten_nil, List.append_nil]
  after_region_results
  exact congrArg (smallAt 32 slices_S37x512_S1x512_32_0) (found 15)

theorem after92 : after m Zs c main_v92 = smallAt 33 slices_S37x512_S1x512_33_0 ((dats m Zs 0 c).arrAt 15 cfg0.N) := by
  unfold after Pipeline.afterTail₀
  simp only [List.flatten_cons, List.flatten_nil, List.append_nil]
  after_region_results
  exact congrArg (smallAt 33 slices_S37x512_S1x512_33_0) (found 15)

/-! ## The equation -/

theorem held (H : Holds m c A) : Cert.Reference3Ideal.Mix.Held (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5)) (m (c, Proc.devRef .tc main_arg6)) (m (c, Proc.devRef .tc main_arg7))
    (m (c, Proc.devRef .tc main_arg8)) (m (c, Proc.devRef .tc main_arg9)) A :=
  ⟨H.x, H.md, H.wi, H.wc, H.bc, H.g, H.b, H.ws, H.wo, H.ct⟩

/-- Two vectors that hold the same reals are equal. -/
theorem ext1 {n : ℕ} {x y : (⟨1, ![n]⟩ : Shape).Idx → EReal} {R : Fin n → ℝ} (hx : ∀ k, x (ix1 k) = ((R k : ℝ) : EReal))
    (hy : ∀ k, y (ix1 k) = ((R k : ℝ) : EReal)) : x = y := by
  funext i
  obtain ⟨k, rfl⟩ : ∃ k : Fin n, i = ix1 k := ⟨i 0, funext fun j => by match j with | 0 => rfl⟩
  exact (hx k).trans (hy k).symm

set_option maxHeartbeats 1600000 in
/-- The call and its reference end with equal results. -/
theorem equal : Cert.algebraic_Kernel3Ideal_Reference3Ideal_pre_finite3 := fun m g m' g' hp hag => by
  choose As H using args_real hp
  let Zs := fun c => (As c).arr
  refine ⟨fun c => (dats m Zs 0 c).arrAt 14 cfg0.N, fun c => after m Zs c main_v86, fun c => after m Zs c main_v88,
    fun c => after m Zs c main_v90, fun c => after m Zs c main_v92, fun c => after m Zs c main_v93,
    fun c => (dats m Zs 0 c).arrAt 16 cfg0.N, fun c => after m Zs c main_v94, fun c => after m Zs c main_v95, ?_, ?_⟩
  on_goal 1 =>
    exact (θ_run defs _ _).mono (fun r h c => ⟨(h.1 c).1 14, (h.1 c).2 main_v86 (by decide), (h.1 c).2 main_v88 (by decide),
      (h.1 c).2 main_v90 (by decide), (h.1 c).2 main_v92 (by decide), (h.1 c).2 main_v93 (by decide), (h.1 c).1 16,
      (h.1 c).2 main_v94 (by decide), (h.1 c).2 main_v95 (by decide), h.2.1 c⟩)
      (θ_run_and (run_real Zs (fun c => reads (H c)) g) (ends m g))
  refine (θ_run Cert.Reference3Ideal.defs _ _).mono (fun r h c => ?_) (Cert.Reference3Ideal.Value.run m' g')
  obtain ⟨e0, e1, e2, e3, e4, e5, e6, e7, e8, e9⟩ := hag c
  obtain ⟨h0, h1, h2, h3, h4, h5, h6, h7, h8, ha⟩ := h c
  have K := held (H c)
  have S : ∀ (r : Fin 296) (k : Fin 512), ((dats m Zs 0 c).arrAt 15 cfg0.N : FVec Ideal S296x512 .f32) (ix2 r k)
      = (((Zs c).sgs 32 r.val k.val : ℝ) : EReal) := sums_array
  refine ⟨h0.trans ?_, h1.trans ?_, h2.trans ?_, h3.trans ?_, h4.trans ?_, h5.trans ?_, h6.trans ?_, h7.trans ?_, h8.trans ?_, ha⟩
  on_goal 1 =>
    rw [Cert.Reference3Ideal.Read.val_main_v213_eq]
    simp only [StableHlo.launchContents, e0, e1, e2, e3, e4, e5, e6, e7, e8, e9]
    exact ext2 (R := fun n k => (Zs c).out n.val k.val) (Cert.Reference3Ideal.Mix.r213 K) out_array
  on_goal 1 =>
    rw [Cert.Reference3Ideal.Read.val_main_v179_eq]
    simp only [StableHlo.launchContents, e0, e1, e2, e3, e4, e5, e6, e7, e8, e9]
    refine (ext2 (Cert.Reference3Ideal.Mix.r179 K) fun k f => ?_).trans after86.symm
    rw [← (As c).long_tap k.val f.val k.isLt]
    refine Eq.trans ?_ (small_at S ⟨k.val, by omega⟩ f)
    pointwise [longAt]
  on_goal 1 =>
    rw [Cert.Reference3Ideal.Read.val_main_v172_eq]
    simp only [StableHlo.launchContents, e0, e1, e2, e3, e4, e5, e6, e7, e8, e9]
    refine (ext1 (Cert.Reference3Ideal.Mix.r172 K) fun f => ?_).trans after88.symm
    simp only [← (As c).term_b]
    exact smallAt_at S 31 _ (by norm_num) f
  on_goal 1 =>
    rw [Cert.Reference3Ideal.Read.val_main_v145_eq]
    simp only [StableHlo.launchContents, e0, e1, e2, e3, e4, e5, e6, e7, e8, e9]
    refine (ext1 (Cert.Reference3Ideal.Mix.r145 K) fun f => ?_).trans after90.symm
    simp only [← (As c).term_g]
    exact smallAt_at S 32 _ (by norm_num) f
  on_goal 1 =>
    rw [Cert.Reference3Ideal.Read.val_main_v139_eq]
    simp only [StableHlo.launchContents, e0, e1, e2, e3, e4, e5, e6, e7, e8, e9]
    refine (ext1 (Cert.Reference3Ideal.Mix.r139 K) fun f => ?_).trans after92.symm
    simp only [← (As c).term_s]
    exact smallAt_at S 33 _ (by norm_num) f
  on_goal 1 =>
    rw [Cert.Reference3Ideal.Read.val_main_v130_eq]
    simp only [StableHlo.launchContents, e0, e1, e2, e3, e4, e5, e6, e7, e8, e9]
    refine (ext2 (Cert.Reference3Ideal.Mix.r130 K) fun k f => ?_).trans after93.symm
    rw [← (As c).short_tap k.val f.val k.isLt]
    refine Eq.trans ?_ (small_at S ⟨34 + k.val, by omega⟩ f)
    pointwise [shortAt]
  on_goal 1 =>
    rw [Cert.Reference3Ideal.Read.val_main_v214_eq]
    simp only [StableHlo.launchContents, e0, e1, e2, e3, e4, e5, e6, e7, e8, e9]
    exact ext2 (R := fun n k => (Zs c).gx n.val k.val) (Cert.Reference3Ideal.Mix.r214 K) gx_array
  on_goal 1 =>
    rw [Cert.Reference3Ideal.Read.val_main_v190_eq]
    simp only [StableHlo.launchContents, e0, e1, e2, e3, e4, e5, e6, e7, e8, e9]
    exact (ext2 (Cert.Reference3Ideal.Mix.r190 K) (eight_at (f := fun n k => (Zs c).dh n k) sh_array)).trans after94.symm
  rw [Cert.Reference3Ideal.Read.val_main_v196_eq]
  simp only [StableHlo.launchContents, e0, e1, e2, e3, e4, e5, e6, e7, e8, e9]
  exact (ext2 (Cert.Reference3Ideal.Mix.r196 K)
    (eight_at (f := fun n k => (Zs c).dh n k * (Zs c).xn n k) sl_array)).trans after95.symm

end Cert.Mix
-- ==== Proof.WgClose.lean ====
/-
  The gradient of the channel mixer's second weight: what each point leaves, the array after the run, and the equation
  with the derivative of the forward lines. No argument has to be finite here: both sides are the same sums of products.
-/
module

public import proofs.«01_k».proof.Defs
public import proofs.«01_k».proof.Proof.Blocks
public import proofs.«01_k».proof.Proof.Sums
public import proofs.«01_k».proof.Proof.Gen.Kernel4Ideal.Frame
public import proofs.«01_k».proof.Proof.Gen.Reference4Ideal.Read
public import proofs.«01_k».proof.Proof.Gen.Reference4Ideal.Run
public import Idealize.ShloMosaic.Lib.Tactic
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Wg

open Cert.Kernel4Ideal Cert.Kernel4Ideal.Gen Rows

/-- The sum over a batch's rows of squared relu times cotangent. -/
def cross (a b : Fin 4096 → EReal) : EReal := ∑ r, max (a r) 0 * max (a r) 0 * b r

/-! ## One point -/

section
variable {x y : FVec Ideal S4096x1024 .bf16} {s : FVec Ideal S1024x1024 .f32}

theorem first (f k : Fin 1024) : k0_pay1 (F := Ideal) x y (ix2 f k) = cross (fun r => x (ix2 r f)) (fun r => y (ix2 r k)) := by
  pointwise [k0_pay1]
  rfl

theorem next (f k : Fin 1024) : k0_pay2 (F := Ideal) x y s (ix2 f k) = s (ix2 f k) + cross (fun r => x (ix2 r f)) (fun r => y (ix2 r k)) := by
  pointwise [k0_pay2]
  rw [first]

end

/-- A load of a whole block. -/
theorem ld_whole {e : EltTy} {n p : ℕ} (X : (⟨2, ![n, p]⟩ : Shape).Idx → Elt Ideal e)
    (inb : ∀ i, ![0, 0] i + ![n, p] i ≤ (⟨2, ![n, p]⟩ : Shape).size i) :
    View.ld X (Rect.unit (s := ⟨2, ![n, p]⟩) ![0, 0] ![n, p] inb) = X :=
  funext fun y => congrArg X (funext fun i => Fin.ext (by match i with
    | 0 => exact (Nat.zero_add _).trans (Nat.one_mul _)
    | 1 => exact (Nat.zero_add _).trans (Nat.one_mul _)))

/-- The place of an entry of a whole block is that entry's. -/
theorem emb_whole {n p : ℕ} (inb : ∀ i, ![0, 0] i + ![n, p] i ≤ (⟨2, ![n, p]⟩ : Shape).size i)
    (y : (⟨2, ![n, p]⟩ : Shape).Idx) : (Rect.unit (s := ⟨2, ![n, p]⟩) ![0, 0] ![n, p] inb).emb y = y :=
  funext fun i => Fin.ext (by match i with
    | 0 => exact (Nat.zero_add _).trans (Nat.one_mul _)
    | 1 => exact (Nat.zero_add _).trans (Nat.one_mul _))

variable {m : (ℓ : Loc nD τ sig) → Buf (Elt Ideal) ℓ} {c : Dev nD}

/-- The block of squared relus and the block of cotangents of a point. -/
def blkZ (m : (ℓ : Loc nD τ sig) → Buf (Elt Ideal) ℓ) (c : Dev nD) (t : Fin cfg0.N) : FVec Ideal S4096x1024 .bf16 := iblk m c 0 t
def blkD (m : (ℓ : Loc nD τ sig) → Buf (Elt Ideal) ℓ) (c : Dev nD) (t : Fin cfg0.N) : FVec Ideal S4096x1024 .bf16 := iblk m c 1 t

/-- An even point starts a block of the result. -/
theorem at_even (t : Fin cfg0.N) (h : t.val % 2 = 0) (y : S1024x1024.Idx) :
    outsAt0 m c t.val t.isLt y = k0_pay1 (F := Ideal) (blkZ m c t) (blkD m c t) y := by
  rw [outsAt0_A m c t h (by omega)]
  unfold out0_A_2
  rw [View.read_writes_eq_canon _ _ _ (fun y => cover0_A_2 (y := y) ..)]
  refine View.canon_apply_of_pieces (Val := Elt Ideal) (k0_pay1 (F := Ideal) (blkZ m c t) (blkD m c t)) _ ?_ y (cover0_A_2 ..)
  unfold kernelRun0_A
  dsimp only
  sl_unfold_words
  simp only [View.readAt_eq_ld, Memref.IsWhole.read_unread, List.forall_mem_cons]
  refine ⟨fun x => ?_, List.forall_mem_nil _⟩
  rw [ld_whole, ld_whole]
  exact congrArg _ (emb_whole _ x).symm

/-- An odd point adds to what the point before left. -/
theorem at_odd (t : Fin cfg0.N) (h : t.val % 2 = 1) (y : S1024x1024.Idx) :
    outsAt0 m c t.val t.isLt y = k0_pay2 (F := Ideal) (blkZ m c t) (blkD m c t)
      (outsAt0 m c (t.val - 1) (Nat.lt_of_le_of_lt (Nat.sub_le _ _) t.isLt)) y := by
  rw [outsAt0_B m c t (by omega) h]
  unfold out0_B_2
  rw [View.read_writes_eq_canon _ _ _ (fun y => cover0_B_2 (y := y) ..)]
  refine View.canon_apply_of_pieces (Val := Elt Ideal) (k0_pay2 (F := Ideal) (blkZ m c t) (blkD m c t)
      (outsAt0 m c (t.val - 1) (Nat.lt_of_le_of_lt (Nat.sub_le _ _) t.isLt))) _ ?_ y (cover0_B_2 ..)
  unfold kernelRun0_B
  dsimp only
  sl_unfold_words
  simp only [View.readAt_eq_ld, Memref.IsWhole.read_unread, List.forall_mem_cons]
  refine ⟨fun x => ?_, List.forall_mem_nil _⟩
  rw [ld_whole, ld_whole, ld_whole]
  exact congrArg _ (emb_whole _ x).symm

/-! ## The blocks' entries -/

theorem lt8 (t : Fin cfg0.N) : t.val < 8 := lt_of_lt_of_eq t.isLt N_0

theorem index0 : ∀ t : Fin cfg0.N, win0_0.index t = ![t.val % 2, t.val / 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)

/-- Row `r` of a point's batch, and column `f` of its block of the hidden layer. -/
def row (t : Fin cfg0.N) (r : Fin 4096) : Fin 8192 := ⟨t.val % 2 * 4096 + r.val, by omega⟩
def col (t : Fin cfg0.N) (f : Fin 1024) : Fin 4096 := ⟨t.val / 2 * 1024 + f.val, by have := lt8 t; omega⟩

theorem blkZ_at (t : Fin cfg0.N) (r : Fin 4096) (f : Fin 1024) :
    blkZ m c t (ix2 r f) = (V m c main_v26 : FVec Ideal S8192x4096 .bf16) (ix2 (row t r) (col t f)) := by
  blk_ext [blkZ, iblk, index0, row, col]

theorem blkD_at (t : Fin cfg0.N) (r : Fin 4096) (k : Fin 1024) :
    blkD m c t (ix2 r k) = (V m c main_v28 : FVec Ideal S8192x1024 .bf16) (ix2 (row t r) k) := by
  blk_ext [blkD, iblk, index1, row]

/-! ## The arrays of the kernel are the reference's -/

open Cert.Reference4Ideal.Read

/-- The hidden layer and the cotangent of the output projection. -/
def zR (m : (ℓ : Loc nD τ sig) → Buf (Elt Ideal) ℓ) (c : Dev nD) : FVec Ideal S2x4096x4096 .f32 :=
  val_main_v24 (F := Ideal) (m (c, Proc.devRef .tc main_arg0)) (m (c, Proc.devRef .tc main_arg1)) (m (c, Proc.devRef .tc main_arg2))
def dR (m : (ℓ : Loc nD τ sig) → Buf (Elt Ideal) ℓ) (c : Dev nD) : FVec Ideal S2x4096x1024 .f32 :=
  val_main_v33 (F := Ideal) (m (c, Proc.devRef .tc main_arg1)) (m (c, Proc.devRef .tc main_arg4))

theorem host_z (n : Fin 8192) (f : Fin 4096) :
    (V m c main_v26 : FVec Ideal S8192x4096 .bf16) (ix2 n f) = flat (fun b t => zR m c (ix3 b t f)) n := by
  unfold_abbrev_sides
  after_reads_simp
  pointwise
  symm
  unfold flat zR
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_cst_2, val_main_v17, val_main_v18, val_main_v19, val_main_v20, val_main_v21, val_main_v22, val_main_v23, val_main_v24]

theorem host_d (n : Fin 8192) (k : Fin 1024) :
    (V m c main_v28 : FVec Ideal S8192x1024 .bf16) (ix2 n k) = flat (fun b t => dR m c (ix3 b t k)) n := by
  unfold_abbrev_sides
  after_reads_simp
  pointwise
  symm
  unfold flat dR
  pointwise [val_main_v33, val_main_v32, val_main_v28, val_main_v5]

/-! ## The result -/

/-- What a batch adds to an entry. -/
def share (m : (ℓ : Loc nD τ sig) → Buf (Elt Ideal) ℓ) (c : Dev nD) (b : Fin 2) (f : Fin 4096) (k : Fin 1024) : EReal :=
  cross (fun r => zR m c (ix3 b r f)) (fun r => dR m c (ix3 b r k))

theorem flat_row {F : Fin 2 → Fin 4096 → EReal} {b : Fin 2} (t : Fin cfg0.N) (h : t.val % 2 = b.val) (r : Fin 4096) :
    flat F (row t r) = F b r := by
  have hb : (⟨(row t r).val / 4096, by omega⟩ : Fin 2) = b := Fin.ext (by show (t.val % 2 * 4096 + r.val) / 4096 = b.val; omega)
  have hr : (⟨(row t r).val % 4096, by omega⟩ : Fin 4096) = r := Fin.ext (by show (t.val % 2 * 4096 + r.val) % 4096 = r.val; omega)
  unfold flat
  rw [hb, hr]

theorem cross_at (t : Fin cfg0.N) {b : Fin 2} (h : t.val % 2 = b.val) (f k : Fin 1024) :
    cross (fun r => blkZ m c t (ix2 r f)) (fun r => blkD m c t (ix2 r k)) = share m c b (col t f) k := by
  refine congrArg₂ cross (funext fun r => ?_) (funext fun r => ?_)
  · exact (blkZ_at t r f).trans ((host_z _ _).trans (flat_row (F := fun b r => zR m c (ix3 b r (col t f))) t h r))
  · exact (blkD_at t r k).trans ((host_d _ _).trans (flat_row (F := fun b r => dR m c (ix3 b r k)) t h r))

/-- What an odd point leaves: both batches' shares. -/
theorem left_odd (t : Fin cfg0.N) (h : t.val % 2 = 1) (r k : Fin 1024) :
    outsAt0 m c t.val t.isLt (ix2 r k) = share m c 0 (col t r) k + share m c 1 (col t r) k := by
  have hN := lt8 t
  let t' : Fin cfg0.N := ⟨t.val - 1, Nat.lt_of_le_of_lt (Nat.sub_le _ _) t.isLt⟩
  have hc : col t' r = col t r := Fin.ext (by show (t.val - 1) / 2 * 1024 + r.val = t.val / 2 * 1024 + r.val; omega)
  have h' : t'.val % 2 = 0 := by show (t.val - 1) % 2 = 0; omega
  have e : outsAt0 m c t'.val t'.isLt (ix2 r k) = share m c 0 (col t r) k :=
    (at_even t' h' _).trans ((first r k).trans ((cross_at t' (b := 0) h' r k).trans (by rw [hc])))
  exact (at_odd t h _).trans ((next r k).trans (congrArg₂ (· + ·) e (cross_at t (b := 1) h r k)))

/-- The array after the run. -/
theorem array2 (f : Fin 4096) (k : Fin 1024) :
    ((dats m 0 c).arrAt 2 cfg0.N : FVec Ideal S4096x1024 .f32) (ix2 f k) = share m c 0 f k + share m c 1 f k := by
  refine (dats m 0 c).arrAt_forall_of_covers 2 (fun i v => v = share m c 0 (i 0) (i 1) + share m c 1 (i 0) (i 1))
    (by decide +kernel) (fun t hf y => ?_) (ix2 f k)
  obtain ⟨r, k, rfl⟩ : ∃ (r : Fin 1024) (k : Fin 1024), y = ix2 r k := ⟨y 0, y 1, (ix2_eta y).symm⟩
  have hN := lt8 t
  have ht : t.val % 2 = 1 := (flush0_2 t).mp hf
  have e0 : (win0_2.blk t).view.emb (ix2 r k) 0 = col t r := Fin.ext (by blk_simp [index2, col])
  have e1 : (win0_2.blk t).view.emb (ix2 r k) 1 = k := Fin.ext (by blk_simp [index2])
  blk_simp
  rw [after0_2, e0, e1]
  exact left_odd t ht r k

/-- The reference's result. -/
theorem ref_at (f : Fin 4096) (k : Fin 1024) :
    (val_main_v35 (F := Ideal) (m (c, Proc.devRef .tc main_arg0)) (m (c, Proc.devRef .tc main_arg1)) (m (c, Proc.devRef .tc main_arg2))
      (m (c, Proc.devRef .tc main_arg4)) : FVec Ideal S4096x1024 .f32) (ix2 f k) = share m c 0 f k + share m c 1 f k := by
  pointwise [val_main_v35, val_main_v34, val_main_v26, val_main_v25, val_main_call0_v0, val_main_call0_cst]
  rw [Fin.sum_univ_two]
  refine congrArg₂ (· + ·) ?_ ?_ <;> exact Finset.sum_congr rfl fun r _ => mul_comm _ _

/-- The call and its reference end with equal results. -/
theorem equal : Cert.algebraic_Kernel4Ideal_Reference4Ideal := fun m g m' g' _ hag => by
  refine ⟨fun c => (dats m 0 c).arrAt 2 cfg0.N, ?_, ?_⟩
  on_goal 1 =>
    exact (θ_run defs _ _).mono (fun r h c => ⟨(h.1 c).1 2, h.2 c⟩) (θ_run_and (run_main m g) (unchanged m g))
  refine (θ_run Cert.Reference4Ideal.defs _ _).mono (fun r h c => ?_) (Cert.Reference4Ideal.Value.run m' g')
  obtain ⟨e0, e1, e2, e3, e4⟩ := hag c
  obtain ⟨h0, ha⟩ := h c
  refine ⟨h0.trans ?_, ha⟩
  rw [val_main_v35_eq, e0, e1, e2, e4]
  refine funext fun i => ?_
  rw [← ix2_eta i]
  exact (ref_at (m := m) (c := c) _ _).trans (array2 _ _).symm

end Cert.Kernel4Ideal.Wg
-- ==== Proof.InCode.lean ====
/- The mixers' forward call: its block, as a program over named buffers. -/
module

public import proofs.«01_k».proof.Proof.MixFns
public import proofs.«01_k».proof.Proof.Steps
public import proofs.«01_k».proof.Proof.Gen.Kernel5Ideal

@[expose] public section

noncomputable section

namespace Cert.InMix

open Idealize.ShloMosaic Idealize.ShloMosaic.TcCoe Idealize.SL.Sem
open Cert.Kernel5Ideal Cert.Steps

/-! ## The buffers -/

/-- The block's buffers: the staged blocks of the arguments and the results, then the scratch. -/
inductive Name
  | x0 | xa | xb | m0 | ma | mb | wi | wb | dwb | lng | lnb | scw | proj | h1 | mixed | a1 | q
  | p0 | p1 | h0 | hh | ext | ed | exq | acc
  deriving DecidableEq

instance : Fintype Name where
  elems := {.x0, .xa, .xb, .m0, .ma, .mb, .wi, .wb, .dwb, .lng, .lnb, .scw, .proj, .h1, .mixed, .a1, .q, .p0, .p1, .h0, .hh,
    .ext, .ed, .exq, .acc}
  complete b := by cases b <;> decide

@[reducible] def Name.shp : Name → Shape
  | x0 | xa | xb | h0 | hh => S256x1024
  | m0 | ma | mb => S1x1x6144
  | wi => S1024x2560
  | wb => S31x512
  | dwb | lng | lnb => S1x512
  | scw => S3x512
  | proj => S512x2560
  | h1 | mixed => S512x1024
  | a1 | q => S512x512
  | p0 | p1 => S256x2560
  | ext => S296x512
  | ed => S4x8x296x128
  | exq => S264x512
  | acc => S256x512

@[reducible] def Name.elt : Name → EltTy
  | wi | h1 | mixed | h0 | hh => .bf16
  | _ => .f32

/-- Where the buffers lie. -/
structure Args where
  mem : (b : Name) → Memref Kernel5Ideal.sig .tc .vmem b.shp b.elt
  whole : ∀ b, (mem b).IsWhole

@[reducible] def bufs (A : Args) : Bufs Kernel5Ideal.sig := ⟨Name, Name.shp, Name.elt, A.mem⟩

variable {F : FTy → Type} [FloatOps F] (A : Args)

abbrev C (A : Args) (F : FTy → Type) := Code (bufs A) (Elt F)

theorem in2 {m n a b s t : ℕ} (h : a + s ≤ m) (k : b + t ≤ n) :
    ∀ x, (![a, b] : Fin 2 → ℕ) x + (![s, t] : Fin 2 → ℕ) x ≤ (![m, n] : Fin 2 → ℕ) x := Fin.forall_fin_two.2 ⟨h, k⟩

theorem in3 {l m n a b c s t u : ℕ} (h : a + s ≤ l) (k : b + t ≤ m) (i : c + u ≤ n) :
    ∀ x, (![a, b, c] : Fin 3 → ℕ) x + (![s, t, u] : Fin 3 → ℕ) x ≤ (![l, m, n] : Fin 3 → ℕ) x := by
  intro x; fin_cases x; exacts [h, k, i]

theorem in4 {l m n o a b c d s t u v : ℕ} (h : a + s ≤ l) (k : b + t ≤ m) (i : c + u ≤ n) (j : d + v ≤ o) :
    ∀ x, (![a, b, c, d] : Fin 4 → ℕ) x + (![s, t, u, v] : Fin 4 → ℕ) x ≤ (![l, m, n, o] : Fin 4 → ℕ) x := by
  intro x; fin_cases x; exacts [h, k, i, j]

/-- Load a rectangle. -/
def ld (b : Name) (off size : Fin b.shp.rank → ℕ) (inb : ∀ a, off a + size a ≤ b.shp.size a) (pos : 0 < Shape.numel ⟨b.shp.rank, size⟩) :
    C A F (Shape.Idx ⟨b.shp.rank, size⟩ → Elt F b.elt) :=
  .op (.load b off size inb (View.loadsAt_vmem pos)) .ret

/-- Store a rectangle of words (after a load nobody reads). -/
def st (b : Name) (off size : Fin b.shp.rank → ℕ) (inb : ∀ a, off a + size a ≤ b.shp.size a) (pos : 0 < Shape.numel ⟨b.shp.rank, size⟩)
    (he : b.elt.bits = 32) (w : Shape.Idx ⟨b.shp.rank, size⟩ → Elt F b.elt) : C A F PUnit :=
  .op (.load b off size inb (View.loadsAt_vmem pos)) fun _ =>
    .op (.store b off size inb w (View.stores_vmem_bits_univ pos he)) .ret

/-- The same of half words, through a rectangle of whole packed rows. -/
def sth (b : Name) (off size : Fin b.shp.rank → ℕ) (inb : ∀ a, off a + size a ≤ b.shp.size a) (pos : 0 < Shape.numel ⟨b.shp.rank, size⟩)
    (hp : (Rect.unit (s := b.shp) off size inb).PackedRows b.elt.packing) (w : Shape.Idx ⟨b.shp.rank, size⟩ → Elt F b.elt) : C A F PUnit :=
  .op (.load b off size inb (View.loadsAt_vmem pos)) fun _ =>
    .op (.store b off size inb w (View.stores_vmem pos ((A.whole b).storeExact_slice rfl _ hp) (fun _ => rfl))) .ret

/-- `f 0`, …, `f (n-1)` in order, their results as a sequence. -/
def each {N : ℕ} {α : Type} (junk : α) (f : Fin N → C A F α) : (n k : ℕ) → k + n = N → C A F (ℕ → α)
  | 0, _, _ => pure fun _ => junk
  | n + 1, k, h => do
    let a ← f ⟨k, by omega⟩
    let r ← each junk f n (k + 1) (by omega)
    pure fun j => Nat.casesOn j a r

/-- The same, the results dropped. -/
def loop {N : ℕ} (f : Fin N → C A F PUnit) : (n k : ℕ) → k + n = N → C A F PUnit
  | 0, _, _ => pure ⟨⟩
  | n + 1, k, h => do
    f ⟨k, by omega⟩
    loop f n (k + 1) (by omega)

/-! ## The two sides -/

/-- The block of rows a projection starts from: the very first, the point's second, the next point's first. -/
inductive Src
  | z | a | b
  deriving DecidableEq

def Src.side : Src → Bool
  | .a => true
  | _ => false
@[reducible] def Src.x : Src → Name
  | .z => .x0
  | .a => .xa
  | .b => .xb
@[reducible] def Src.m : Src → Name
  | .z => .m0
  | .a => .ma
  | .b => .mb
@[reducible] def pOf : Bool → Name
  | false => .p0
  | true => .p1
@[reducible] def hOf : Bool → Name
  | false => .h0
  | true => .hh
/-- The first row of the results a side writes. -/
def top : Bool → ℕ
  | false => 0
  | true => 256
theorem top_le (s : Bool) : top s + 256 ≤ 512 := by cases s <;> decide

def ldX (k : Src) : C A F (FVec F S256x1024 .f32) :=
  match k with
  | .z => ld A .x0 ![0, 0] S256x1024.size (in2 (by decide) (by decide)) Gen.h_S256x1024
  | .a => ld A .xa ![0, 0] S256x1024.size (in2 (by decide) (by decide)) Gen.h_S256x1024
  | .b => ld A .xb ![0, 0] S256x1024.size (in2 (by decide) (by decide)) Gen.h_S256x1024
def ldM (k : Src) (c : ℕ) (hc : c + 1024 ≤ 6144) : C A F (FVec F S1x1x1024 .f32) :=
  match k with
  | .z => ld A .m0 ![0, 0, c] S1x1x1024.size (in3 (by decide) (by decide) hc) Gen.h_S1x1x1024
  | .a => ld A .ma ![0, 0, c] S1x1x1024.size (in3 (by decide) (by decide) hc) Gen.h_S1x1x1024
  | .b => ld A .mb ![0, 0, c] S1x1x1024.size (in3 (by decide) (by decide) hc) Gen.h_S1x1x1024
/-- 512 columns of the projection. -/
def ldP (s : Bool) (c : ℕ) (hc : c + 512 ≤ 2560) : C A F (FVec F S256x512 .f32) :=
  match s with
  | false => ld A .p0 ![0, c] S256x512.size (in2 (by decide) hc) Gen.h_S256x512
  | true => ld A .p1 ![0, c] S256x512.size (in2 (by decide) hc) Gen.h_S256x512
def ldH (s : Bool) : C A F (FVec F S256x1024 .bf16) :=
  match s with
  | false => ld A .h0 ![0, 0] S256x1024.size (in2 (by decide) (by decide)) Gen.h_S256x1024
  | true => ld A .hh ![0, 0] S256x1024.size (in2 (by decide) (by decide)) Gen.h_S256x1024
def stH (s : Bool) (v : FVec F S256x1024 .bf16) : C A F PUnit :=
  match s with
  | false => sth A .h0 ![0, 0] S256x1024.size (in2 (by decide) (by decide)) Gen.h_S256x1024 Gen.packedbf16_S256x1024_S256x1024_0_0 v
  | true => sth A .hh ![0, 0] S256x1024.size (in2 (by decide) (by decide)) Gen.h_S256x1024 Gen.packedbf16_S256x1024_S256x1024_0_0 v
def stP (s : Bool) (c : ℕ) (hc : c + 256 ≤ 2560) (v : FVec F S256x256 .f32) : C A F PUnit :=
  match s with
  | false => st A .p0 ![0, c] S256x256.size (in2 (by decide) hc) Gen.h_S256x256 rfl v
  | true => st A .p1 ![0, c] S256x256.size (in2 (by decide) hc) Gen.h_S256x256 rfl v
/-- The first columns of the mixers' result, or the last. -/
def stMix (s hi : Bool) (v : FVec F S256x512 .bf16) : C A F PUnit :=
  match s, hi with
  | false, false => sth A .mixed ![0, 0] S256x512.size (in2 (by decide) (by decide)) Gen.h_S256x512 Gen.packedbf16_S512x1024_S256x512_0_0 v
  | false, true => sth A .mixed ![0, 512] S256x512.size (in2 (by decide) (by decide)) Gen.h_S256x512 Gen.packedbf16_S512x1024_S256x512_0_512 v
  | true, false => sth A .mixed ![256, 0] S256x512.size (in2 (by decide) (by decide)) Gen.h_S256x512 Gen.packedbf16_S512x1024_S256x512_256_0 v
  | true, true => sth A .mixed ![256, 512] S256x512.size (in2 (by decide) (by decide)) Gen.h_S256x512 Gen.packedbf16_S512x1024_S256x512_256_512 v
/-- The projection and its argument into the results. -/
def keep (s : Bool) : C A F PUnit :=
  match s with
  | false => do
    let v ← ld A .p0 ![0, 0] S256x2560.size (in2 (by decide) (by decide)) Gen.h_S256x2560
    st A .proj ![0, 0] S256x2560.size (in2 (by decide) (by decide)) Gen.h_S256x2560 rfl v
    let h ← ld A .h0 ![0, 0] S256x1024.size (in2 (by decide) (by decide)) Gen.h_S256x1024
    sth A .h1 ![0, 0] S256x1024.size (in2 (by decide) (by decide)) Gen.h_S256x1024 Gen.packedbf16_S512x1024_S256x1024_0_0 h
  | true => do
    let v ← ld A .p1 ![0, 0] S256x2560.size (in2 (by decide) (by decide)) Gen.h_S256x2560
    st A .proj ![256, 0] S256x2560.size (in2 (by decide) (by decide)) Gen.h_S256x2560 rfl v
    let h ← ld A .hh ![0, 0] S256x1024.size (in2 (by decide) (by decide)) Gen.h_S256x1024
    sth A .h1 ![256, 0] S256x1024.size (in2 (by decide) (by decide)) Gen.h_S256x1024 Gen.packedbf16_S512x1024_S256x1024_256_0 h

/-! ## The parts of the block -/

/-- The projection's argument: RMSNorm with its modulation. -/
def modulated (x : FVec F S256x1024 .f32) (sc sh : FVec F S1x1x1024 .f32) : FVec F S256x1024 .bf16 :=
  truncf .bf16 (addf (mulf (Mix.rms (shapeCast S256x1024 x Gen.shapeCasts_S256x1024_S256x1024))
    (Mix.rowW (addf (Mix.one _) (shapeCast S1x1024 sc Gen.shapeCasts_S1x1x1024_S1x1024))))
    (Mix.rowW (shapeCast S1x1024 sh Gen.shapeCasts_S1x1x1024_S1x1024)))

def projHead (k : Src) : C A F PUnit := do
  let x ← ldX A k
  let sc ← ldM A k 1024 (by decide)
  let sh ← ldM A k 0 (by decide)
  stH A k.side (shapeCast S256x1024 (modulated x sc sh) Gen.shapeCasts_S256x1024_S256x1024)

/-- 256 columns of the projection. -/
def product (v : FVec F S256x1024 .bf16) (w : FVec F S1024x256 .bf16) : FVec F S256x256 .f32 :=
  shapeCast S256x256 (matmul dot_S256x1024_S1024x256_S256x256_1_0_0_1_n_n none v
    (shapeCast S1024x256 w Gen.shapeCasts_S1024x256_S1024x256) (constant S256x256 .f32 0x00000000#32)) Gen.shapeCasts_S256x256_S256x256

def chunk (s : Bool) (j : Fin 10) : C A F PUnit := do
  let v ← ldH A s
  let w : FVec F S1024x256 .bf16 ← ld A .wi ![0, 256 * j.val] S1024x256.size (in2 (by decide) (by omega)) Gen.h_S1024x256
  stP A s (256 * j.val) (by omega) (product v w)

/-- The scratch cleared and the first block's projection. -/
def start : C A F PUnit := do
  st A .ext ![0, 0] S296x512.size (in2 (by decide) (by decide)) Gen.h_S296x512 rfl (shapeCast S296x512 (Mix.zero S296x512) Gen.shapeCasts_S296x512_S296x512)
  st A .exq ![0, 0] S264x512.size (in2 (by decide) (by decide)) Gen.h_S264x512 rfl (shapeCast S264x512 (Mix.zero S264x512) Gen.shapeCasts_S264x512_S264x512)
  projHead A .z
  loop A (chunk A false) 10 0 rfl

/-- The long convolution's argument, after the rows of the block before. -/
def glu (s : Bool) (f : BitVec 1) : C A F PUnit := do
  let h : FVec F S32x512 .f32 ← ld A .ext ![256, 0] S32x512.size (in2 (by decide) (by decide)) Gen.h_S32x512
  st A .ext ![0, 0] S32x512.size (in2 (by decide) (by decide)) Gen.h_S32x512 rfl
    (shapeCast S32x512 (Scalar.select f (Mix.zero S32x512) h) Gen.shapeCasts_S32x512_S32x512)
  let v ← ldP A s 0 (by decide)
  let g ← ldP A s 512 (by decide)
  st A .ext ![32, 0] S256x512.size (in2 (by decide) (by decide)) Gen.h_S256x512 rfl (shapeCast S256x512 (Mix.glu v g) Gen.shapeCasts_S256x512_S256x512)

/-- A column group's rows at the eight offsets. -/
def shiftRow (g : Fin 4) (r : Fin 8) : C A F PUnit := do
  let v : FVec F S288x128 .f32 ← ld A .ext ![r.val, 128 * g.val] S288x128.size (in2 (by omega) (by omega)) Gen.h_S288x128
  st A .ed ![g.val, r.val, 0, 0] S1x1x288x128.size (in4 (by omega) (by omega) (by decide) (by decide)) Gen.h_S1x1x288x128 rfl
    (shapeCast S1x1x288x128 v Gen.shapeCasts_S288x128_S1x1x288x128)
def shift (g : Fin 4) : C A F PUnit := loop A (shiftRow A g) 8 0 rfl

/-- 32 rows of a column group of the long convolution. -/
def tapRow (n : Fin 32) (s : Fin 31) : C A F (FVec F S32x128 .f32 × FVec F S1x128 .f32) := do
  let e : FVec F S1x1x32x128 .f32 ← ld A .ed ![n.val / 8, (s.val + 2) % 8, 32 * (n.val % 8) + 8 * ((s.val + 2) / 8), 0] S1x1x32x128.size
    (in4 (by omega) (by omega) (by omega) (by decide)) Gen.h_S1x1x32x128
  let w : FVec F S1x128 .f32 ← ld A .wb ![s.val, 128 * (n.val / 8)] S1x128.size (in2 (by omega) (by omega)) Gen.h_S1x128
  pure (shapeCast S32x128 e Gen.shapeCasts_S1x1x32x128_S32x128, w)
def convEnd (n : Fin 32) (ew : ℕ → FVec F S32x128 .f32 × FVec F S1x128 .f32) : C A F PUnit := do
  let b : FVec F S1x128 .f32 ← ld A .dwb ![0, 128 * (n.val / 8)] S1x128.size (in2 (by decide) (by omega)) Gen.h_S1x128
  st A .acc ![32 * (n.val % 8), 128 * (n.val / 8)] S32x128.size (in2 (by omega) (by omega)) Gen.h_S32x128 rfl
    (shapeCast S32x128 (addf (Mix.taps ew 31) (broadcastTo S32x128 (shapeCast S1x128 b Gen.shapeCasts_S1x128_S1x128) Gen.broadcasts_S1x128_S32x128))
      Gen.shapeCasts_S32x128_S32x128)
def conv (n : Fin 32) : C A F PUnit := do
  let ew ← each A (Mix.zero S32x128, Mix.zero S1x128) (tapRow A n) 31 0 rfl
  convEnd A n ew

/-- What is left of the long mixer: LayerNorm and SiLU. -/
def activated (a : FVec F S256x512 .f32) (g b : FVec F S1x512 .f32) : FVec F S256x512 .bf16 :=
  let p := addf (mulf (Mix.normed a) (Mix.row (shapeCast S1x512 g Gen.shapeCasts_S1x512_S1x512))) (Mix.row (shapeCast S1x512 b Gen.shapeCasts_S1x512_S1x512))
  truncf .bf16 (mulf p (Mix.sig p))
def norm (s : Bool) : C A F PUnit := do
  let a : FVec F S256x512 .f32 ← ld A .acc ![0, 0] S256x512.size (in2 (by decide) (by decide)) Gen.h_S256x512
  st A .a1 ![top s, 0] S256x512.size (in2 (top_le s) (by decide)) Gen.h_S256x512 rfl a
  let g ← ld A .lng ![0, 0] S1x512.size (in2 (by decide) (by decide)) Gen.h_S1x512
  let b ← ld A .lnb ![0, 0] S1x512.size (in2 (by decide) (by decide)) Gen.h_S1x512
  stMix A s false (activated a g b)

/-- The short mixer. -/
def shortTap (k : Fin 3) : C A F (FVec F S256x512 .f32 × FVec F S1x512 .f32) := do
  let d : FVec F S256x512 .f32 ← ld A .exq ![6 + k.val, 0] S256x512.size (in2 (by omega) (by decide)) Gen.h_S256x512
  let w : FVec F S1x512 .f32 ← ld A .scw ![k.val, 0] S1x512.size (in2 (by omega) (by decide)) Gen.h_S1x512
  pure (d, w)
def sum3 (a b c : FVec F S256x512 .f32 × FVec F S1x512 .f32) : FVec F S256x512 .f32 :=
  addf (addf (addf (Mix.zero _) (mulf a.1 (Mix.row a.2))) (mulf b.1 (Mix.row b.2))) (mulf c.1 (Mix.row c.2))
def fill (s : Bool) (f : BitVec 1) : C A F PUnit := do
  let h : FVec F S8x512 .f32 ← ld A .exq ![256, 0] S8x512.size (in2 (by decide) (by decide)) Gen.h_S8x512
  st A .exq ![0, 0] S8x512.size (in2 (by decide) (by decide)) Gen.h_S8x512 rfl
    (shapeCast S8x512 (Scalar.select f (Mix.zero S8x512) h) Gen.shapeCasts_S8x512_S8x512)
  let u ← ldP A s 1536 (by decide)
  let v ← ldP A s 2048 (by decide)
  st A .exq ![8, 0] S256x512.size (in2 (by decide) (by decide)) Gen.h_S256x512 rfl (shapeCast S256x512 (mulf u v) Gen.shapeCasts_S256x512_S256x512)
def short (s : Bool) : C A F PUnit := do
  let a ← shortTap A 0
  let b ← shortTap A 1
  let c ← shortTap A 2
  st A .q ![top s, 0] S256x512.size (in2 (top_le s) (by decide)) Gen.h_S256x512 rfl (sum3 a b c)
  let v ← ldP A s 1024 (by decide)
  stMix A s true (truncf .bf16 (mulf v (sum3 a b c)))

/-! ## The order -/

/-- The pieces done in turn: the mixing of one block, the next block's projection among it. -/
inductive Piece
  | shift (g : Fin 4)
  | conv (n : Fin 32)
  | chunk (j : Fin 10)

def Piece.code (s : Bool) : Piece → C A F PUnit
  | .shift g => InMix.shift A g
  | .conv n => InMix.conv A n
  | .chunk j => InMix.chunk A s j

def turn (s : Bool) : List Piece → C A F PUnit
  | [] => pure ⟨⟩
  | u :: l => do
    u.code A s
    turn s l

def order : List Piece :=
  [.shift 0, .shift 1, .shift 2, .chunk 0, .shift 3, .conv 0, .conv 1, .conv 2, .chunk 1, .conv 3, .conv 4, .conv 5, .chunk 2, .conv 6,
    .conv 7, .conv 8, .conv 9, .chunk 3, .conv 10, .conv 11, .conv 12, .conv 13, .chunk 4, .conv 14, .conv 15, .conv 16, .chunk 5, .conv 17,
    .conv 18, .conv 19, .conv 20, .chunk 6, .conv 21, .conv 22, .conv 23, .conv 24, .chunk 7, .conv 25, .conv 26, .conv 27, .chunk 8,
    .conv 28, .conv 29, .conv 30, .conv 31, .chunk 9]

/-- Mix the block a side holds while the other side's is projected. -/
def mix (f : BitVec 1) (k : Src) : C A F PUnit := do
  glu A (!k.side) f
  projHead A k
  turn A k.side order
  norm A (!k.side)
  fill A (!k.side) f
  short A (!k.side)
  keep A (!k.side)

/-- The row block is the first of a batch element. -/
def first (i : grid0.Coords) : BitVec 1 :=
  let n : BitVec 32 := Scalar.muli 2#32 (BitVec.ofNat 32 (i 0).val)
  let d : BitVec 32 := Scalar.select (Scalar.cmpi .eq 16#32 0#32) 1#32 16#32
  let r : BitVec 32 := Scalar.remsi n d
  let e : BitVec 1 := Scalar.andi (Scalar.xori (Scalar.cmpi .slt r 0#32) (Scalar.cmpi .slt d 0#32)) (Scalar.cmpi .ne r 0#32)
  Scalar.cmpi .eq (Scalar.select e (Scalar.addi r d) r) 0#32

def atStart (i : grid0.Coords) : BitVec 1 :=
  Scalar.cmpi .ne (Scalar.extui (Scalar.cmpi .eq (BitVec.ofNat 32 (i 0).val) 0#32) : BitVec 32) 0#32

def rest (f : BitVec 1) : C A F PUnit := do
  mix A f .a
  mix A 0#1 .b

end Cert.InMix

end
-- ==== Proof.InBody.lean ====
/- The mixers' forward call: the printed block is the block over named buffers. -/
module

public import proofs.«01_k».proof.Proof.InCode

@[expose] public section

set_option maxRecDepth 16384

noncomputable section

namespace Cert.InMix

open Idealize.ShloMosaic Idealize.ShloMosaic.TcCoe Idealize.SL.Sem
open Cert.Kernel5Ideal Cert.Steps

variable {F : FTy → Type} [FloatOps F] (A : Args)

/-- The block, its start under its condition. -/
def blockProg (i : grid0.Coords) : Prog (TpuEff nD τ Kernel5Ideal.sig (Elt F) Λ₀ .tc) PUnit := do
  if _h : atStart i = 1#1 then denote (start A) else pure ⟨⟩
  denote (rest A (first i))

theorem printed_eq (i : grid0.Coords) (dep : Memref Kernel5Ideal.sig .tc .hbm S512 .f32) (hdep : dep.IsWhole) :
    cc0_in_mix_fwd (F := F) i (A.mem .x0) (A.whole .x0) (A.mem .xa) (A.whole .xa) (A.mem .xb) (A.whole .xb) (A.mem .m0) (A.whole .m0) (A.mem .ma) (A.whole .ma) (A.mem .mb) (A.whole .mb) (A.mem .wi) (A.whole .wi) (A.mem .wb) (A.whole .wb) (A.mem .dwb) (A.whole .dwb) (A.mem .lng) (A.whole .lng) (A.mem .lnb) (A.whole .lnb) (A.mem .scw) (A.whole .scw)
      dep hdep (A.mem .proj) (A.whole .proj) (A.mem .h1) (A.whole .h1) (A.mem .mixed) (A.whole .mixed) (A.mem .a1) (A.whole .a1) (A.mem .q) (A.whole .q) (A.mem .p0) (A.whole .p0) (A.mem .p1) (A.whole .p1) (A.mem .h0) (A.whole .h0) (A.mem .hh) (A.whole .hh) (A.mem .ext) (A.whole .ext) (A.mem .ed) (A.whole .ed) (A.mem .exq) (A.whole .exq) (A.mem .acc) (A.whole .acc) = blockProg A i := by
  unfold blockProg cc0_in_mix_fwd k0_part439 k0_part4
  by_cases h : atStart i = 1#1
  · have h' := h
    unfold atStart at h'
    simp only [dif_pos h, dif_pos h']
    clear h h'
    sl_kernel_rfl
  · have h' := h
    unfold atStart at h'
    simp only [dif_neg h, dif_neg h']
    clear h h'
    sl_kernel_rfl

end Cert.InMix

end
-- ==== Proof.InHold.lean ====
/-
  The mixers' forward call over the extended reals: the functions it computes, row by row, and what its block's vector
  functions and its loads and stores do to blocks whose entries are given by row and column.
-/
module

public import proofs.«01_k».proof.Proof.InCode
public import Idealize.ShloMosaic.Lib.Pipeline.ValueKit

@[expose] public section

noncomputable section

namespace Cert.InMix

open Idealize.ShloMosaic Idealize.ShloMosaic.TcCoe Idealize.SL.Sem
open Cert.Kernel5Ideal

/-! ## Functions of one row -/

def eps : EReal := Ideal.ofBits .f32 0x358637BD#32
def mean5 (f : ℕ → EReal) : EReal := Ideal.div (∑ k : Fin 512, f k.val) (Ideal.ofBits .f32 0x44000000#32)
def mean10 (f : ℕ → EReal) : EReal := Ideal.div (∑ k : Fin 1024, f k.val) (Ideal.ofBits .f32 0x44800000#32)
def sg (x : EReal) : EReal := Ideal.div 1 (1 + Ideal.exp (-x))
def cen (a : ℕ → EReal) (c : ℕ) : EReal := a c - mean5 a
def inv (a : ℕ → EReal) : EReal := Ideal.rsqrt (mean5 (fun k => cen a k * cen a k) + eps)
def pre (a g b : ℕ → EReal) (c : ℕ) : EReal := cen a c * inv a * g c + b c
def act (a g b : ℕ → EReal) (c : ℕ) : EReal := pre a g b c * sg (pre a g b c)
/-- RMSNorm with its modulation. -/
def mdl (x sh sc : ℕ → EReal) (k : ℕ) : EReal :=
  x k * Ideal.rsqrt (mean10 (fun j => x j * x j) + eps) * (1 + sc k) + sh k

/-! ## Blocks -/

section
variable {m n p q : ℕ}

/-- The entries of `v` are those of `R`, by row and column. -/
abbrev Is (v : (⟨2, ![m, n]⟩ : Shape).Idx → EReal) (R : ℕ → ℕ → EReal) : Prop :=
  ∀ (r : Fin m) (c : Fin n), v (ix2 r c) = R r.val c.val

/-- The same of the entries in `P`. -/
def On (P : ℕ → ℕ → Prop) (v : (⟨2, ![m, n]⟩ : Shape).Idx → EReal) (R : ℕ → ℕ → EReal) : Prop :=
  ∀ (r : Fin m) (c : Fin n), P r.val c.val → v (ix2 r c) = R r.val c.val

theorem on_none (v : (⟨2, ![m, n]⟩ : Shape).Idx → EReal) (R : ℕ → ℕ → EReal) : On (fun _ _ => False) v R := fun _ _ h => h.elim

theorem On.mono {P P' : ℕ → ℕ → Prop} {v : (⟨2, ![m, n]⟩ : Shape).Idx → EReal} {R : ℕ → ℕ → EReal} (h : On P v R)
    (hP : ∀ i j, i < m → j < n → P' i j → P i j) : On P' v R := fun r c h' => h r c (hP _ _ r.isLt c.isLt h')

/-- A load of entries in `P`. -/
theorem is_window {P : ℕ → ℕ → Prop} {v : (⟨2, ![m, n]⟩ : Shape).Idx → EReal} {R : ℕ → ℕ → EReal} (h : On P v R) {a b : ℕ}
    (inb : ∀ x, (![a, b] : Fin 2 → ℕ) x + (![p, q] : Fin 2 → ℕ) x ≤ (⟨2, ![m, n]⟩ : Shape).size x)
    (hP : ∀ r < p, ∀ c < q, P (a + r) (b + c)) :
    Is (m := p) (n := q) (VecWindow.window v ![a, b] ![p, q] inb) fun r c => R (a + r) (b + c) := by
  intro r c
  have h0 : a + p ≤ m := inb 0
  have h1 : b + q ≤ n := inb 1
  refine (congrArg v (funext fun i => Fin.ext ?_)).trans (h ⟨a + r.val, by omega⟩ ⟨b + c.val, by omega⟩ (hP _ r.isLt _ c.isLt))
  match i with
  | 0 => exact congrArg (a + ·) (Nat.one_mul _)
  | 1 => exact congrArg (b + ·) (Nat.one_mul _)

theorem is_ld {v : (⟨2, ![m, n]⟩ : Shape).Idx → EReal} {R : ℕ → ℕ → EReal} (h : Is v R) {a b : ℕ}
    (inb : ∀ x, (![a, b] : Fin 2 → ℕ) x + (![p, q] : Fin 2 → ℕ) x ≤ (⟨2, ![m, n]⟩ : Shape).size x) :
    Is (m := p) (n := q) (VecWindow.window v ![a, b] ![p, q] inb) fun r c => R (a + r) (b + c) :=
  is_window (P := fun _ _ => True) (fun r c _ => h r c) inb fun _ _ _ _ => trivial

theorem is_all {v : (⟨2, ![m, n]⟩ : Shape).Idx → EReal} {R : ℕ → ℕ → EReal} (h : Is v R)
    (inb : ∀ x, (![0, 0] : Fin 2 → ℕ) x + (![m, n] : Fin 2 → ℕ) x ≤ (⟨2, ![m, n]⟩ : Shape).size x) :
    Is (m := m) (n := n) (VecWindow.window v ![0, 0] ![m, n] inb) R := fun r c =>
  (is_ld h inb r c).trans (by simp only [Nat.zero_add])

/-- A store of what its part of the block is to hold. -/
theorem on_put {P P' : ℕ → ℕ → Prop} {v : (⟨2, ![m, n]⟩ : Shape).Idx → EReal} {w : (⟨2, ![p, q]⟩ : Shape).Idx → EReal} {R R' : ℕ → ℕ → EReal}
    {a b : ℕ} (hv : On P v R') (hw : Is w fun r c => R (a + r) (b + c))
    (h : ∀ i j, i < m → j < n → P' i j → (a ≤ i ∧ i < a + p ∧ b ≤ j ∧ j < b + q) ∨ (P i j ∧ R' i j = R i j)) :
    On P' (VecWindow.put v ![a, b] ![p, q] w) R := by
  intro i j hij
  unfold VecWindow.put
  by_cases hin : ∀ x, (![a, b] : Fin 2 → ℕ) x ≤ ((ix2 i j : (⟨2, ![m, n]⟩ : Shape).Idx) x).val
      ∧ ((ix2 i j : (⟨2, ![m, n]⟩ : Shape).Idx) x).val < (![a, b] : Fin 2 → ℕ) x + (![p, q] : Fin 2 → ℕ) x
  · rw [dif_pos hin]
    have h0 : a ≤ i.val ∧ i.val < a + p := hin 0
    have h1 : b ≤ j.val ∧ j.val < b + q := hin 1
    refine (congrArg w (funext fun x => Fin.ext ?_)).trans ((hw ⟨i.val - a, by omega⟩ ⟨j.val - b, by omega⟩).trans ?_)
    · match x with
      | 0 => rfl
      | 1 => rfl
    · simp only [Nat.add_sub_cancel' h0.1, Nat.add_sub_cancel' h1.1]
  · rw [dif_neg hin]
    rcases h _ _ i.isLt j.isLt hij with h' | h'
    · exact absurd (Fin.forall_fin_two.2 ⟨⟨h'.1, h'.2.1⟩, h'.2.2⟩) hin
    · rw [hv i j h'.1, h'.2]

theorem is_put {v w : (⟨2, ![m, n]⟩ : Shape).Idx → EReal} {R : ℕ → ℕ → EReal} (hw : Is w R) :
    Is (VecWindow.put v ![0, 0] ![m, n] w) R := fun i j =>
  on_put (P' := fun i j => i < m ∧ j < n) (on_none v R) (fun r c => (hw r c).trans (by simp only [Nat.zero_add]))
    (fun i j _ _ h => .inl (by omega)) i j ⟨i.isLt, j.isLt⟩

theorem is_of_on {P : ℕ → ℕ → Prop} {v : (⟨2, ![m, n]⟩ : Shape).Idx → EReal} {R : ℕ → ℕ → EReal} (h : On P v R)
    (hP : ∀ i < m, ∀ j < n, P i j) : Is v R := fun r c => h r c (hP _ r.isLt _ c.isLt)

theorem Is.on {P : ℕ → ℕ → Prop} {v : (⟨2, ![m, n]⟩ : Shape).Idx → EReal} {R : ℕ → ℕ → EReal} (h : Is v R) : On P v R := fun r c _ => h r c

end

/-! ## The block's vector functions -/

theorem is_mean {v : FVec Ideal S256x512 .f32} {R : ℕ → ℕ → EReal} (h : Is v R) : Is (m := 256) (n := 1) (Mix.mean v) fun r _ => mean5 (R r) := by
  intro r c
  pointwise [Mix.mean]
  simp only [h, mean5]

theorem is_norm {v : FVec Ideal S256x512 .f32} {R : ℕ → ℕ → EReal} (h : Is v R) :
    Is (m := 256) (n := 512) (Mix.normed v) fun r c => cen (R r) c * inv (R r) := by
  have hc : Is (m := 256) (n := 512) (subf (F := Ideal) (φ := .f32) v (Mix.col (Mix.mean v))) fun r => cen (R r) := fun r c => by
    have hm := is_mean h
    pointwise
    simp only [h, hm, cen]
  have hm := is_mean (v := mulf (subf v (Mix.col (Mix.mean v))) (subf v (Mix.col (Mix.mean v)))) (R := fun r k => cen (R r) k * cen (R r) k)
    fun r c => congrArg₂ (· * ·) (hc r c) (hc r c)
  have hi : Is (m := 256) (n := 1) (Mix.invStd v) fun r _ => inv (R r) := fun r c => by
    unfold Mix.invStd
    pointwise
    simp only [hm, inv, eps]
  intro r c
  show (subf (F := Ideal) (φ := .f32) v (Mix.col (Mix.mean v))) (ix2 r c) * (Mix.col (Mix.invStd v)) (ix2 r c) = _
  rw [hc]
  pointwise
  simp only [hi]

theorem is_sig {v : FVec Ideal S256x512 .f32} {R : ℕ → ℕ → EReal} (h : Is v R) : Is (m := 256) (n := 512) (Mix.sig v) fun r c => sg (R r c) := by
  intro r c
  pointwise [Mix.sig]
  simp only [h, sg, zero_sub]

theorem is_glu {p q : FVec Ideal S256x512 .f32} {P Q : ℕ → ℕ → EReal} (hp : Is p P) (hq : Is q Q) :
    Is (m := 256) (n := 512) (Mix.glu p q) fun r c => P r c * sg (Q r c) := by
  intro r c
  have hs := is_sig hq
  pointwise [Mix.glu]
  simp only [hp, hs]

theorem is_act {a : FVec Ideal S256x512 .f32} {g b : FVec Ideal S1x512 .f32} {X : ℕ → ℕ → EReal} {G B : ℕ → EReal} (ha : Is a X)
    (hg : Is g fun _ => G) (hb : Is b fun _ => B) : Is (m := 256) (n := 512) (activated a g b) fun r => act (X r) G B := by
  intro r c
  have hn := is_norm ha
  have hp : Is (m := 256) (n := 512) (addf (F := Ideal) (φ := .f32) (mulf (Mix.normed a) (Mix.row (shapeCast S1x512 g Gen.shapeCasts_S1x512_S1x512)))
      (Mix.row (shapeCast S1x512 b Gen.shapeCasts_S1x512_S1x512))) fun r => pre (X r) G B := fun r c => by
    pointwise
    simp only [hn, hg, hb, pre]
  have hs := is_sig hp
  unfold activated
  simp only []
  generalize addf (F := Ideal) (φ := .f32) (mulf (Mix.normed a) _) _ = p at hp hs ⊢
  pointwise
  simp only [hs, hp, act]

theorem is_modulated {x : FVec Ideal S256x1024 .f32} {sc sh : FVec Ideal S1x1x1024 .f32} {X : ℕ → ℕ → EReal} {U V : ℕ → EReal} (hx : Is x X)
    (hs : ∀ k : Fin 1024, sc (ix3 0 0 k) = U k.val) (ht : ∀ k : Fin 1024, sh (ix3 0 0 k) = V k.val) :
    Is (m := 256) (n := 1024) (modulated x sc sh) fun r => mdl (X r) V U := by
  intro r c
  pointwise [modulated, Mix.rms, Mix.invRms, Mix.meanW]
  simp only [hx, hs, ht, mdl, mean10, eps]

theorem is_product {v : FVec Ideal S256x1024 .bf16} {w : FVec Ideal S1024x256 .bf16} {V W : ℕ → ℕ → EReal} (hv : Is v V) (hw : Is w W) :
    Is (m := 256) (n := 256) (product v w) fun r c => ∑ k : Fin 1024, V r k.val * W k.val c := by
  intro r c
  pointwise [product]
  simp only [hv, hw, zero_add]

/-- The sum over the taps. -/
theorem is_taps {ew : ℕ → FVec Ideal S32x128 .f32 × Vec Ideal S1x128 .f32} {E : ℕ → ℕ → ℕ → EReal} {W : ℕ → ℕ → EReal} (n : ℕ)
    (he : ∀ s < n, Is (m := 32) (n := 128) (ew s).1 (E s)) (hw : ∀ s < n, Is (m := 1) (n := 128) (ew s).2 fun _ => W s) :
    Is (m := 32) (n := 128) (Mix.taps ew n) fun r c => ∑ s ∈ Finset.range n, E s r c * W s c := by
  induction n with
  | zero =>
    intro r c
    pointwise [Mix.taps]
    simp only [Finset.range_zero, Finset.sum_empty]
  | succ n ih =>
    intro r c
    have h := ih (fun s hs => he s (by omega)) (fun s hs => hw s (by omega))
    have h1 := he n (by omega)
    have h2 := hw n (by omega)
    simp only [Finset.sum_range_succ]
    pointwise [Mix.taps]
    simp only [h, h1, h2]

theorem is_sum3 {x y z : FVec Ideal S256x512 .f32 × FVec Ideal S1x512 .f32} {D : ℕ → ℕ → ℕ → EReal} {W : ℕ → ℕ → EReal}
    (hx : Is x.1 (D 0)) (hy : Is y.1 (D 1)) (hz : Is z.1 (D 2)) (ux : Is x.2 fun _ => W 0) (uy : Is y.2 fun _ => W 1)
    (uz : Is z.2 fun _ => W 2) :
    Is (m := 256) (n := 512) (sum3 x y z) fun r c => ∑ k ∈ Finset.range 3, D k r c * W k c := by
  intro r c
  pointwise [sum3]
  simp only [hx, hy, hz, ux, uy, uz, Finset.sum_range_succ, Finset.range_zero, Finset.sum_empty, zero_add]

end Cert.InMix

end
-- ==== Proof.InUnits.lean ====
/- The mixers' forward call: what every part of its block does to the buffers' contents. -/
module

public import proofs.«01_k».proof.Proof.InHold

@[expose] public section

set_option maxRecDepth 16384

noncomputable section

namespace Cert.InMix

open Idealize.ShloMosaic Idealize.ShloMosaic.TcCoe Idealize.SL.Sem
open Cert.Kernel5Ideal Cert.Steps

/-! ## The arrays -/

/-- The call's arguments, the activations by row of the flattened batch. -/
structure Args8 where
  x : ℕ → ℕ → EReal
  md : ℕ → ℕ → EReal
  wi : ℕ → ℕ → EReal
  wc : ℕ → ℕ → EReal
  bc : ℕ → EReal
  g : ℕ → EReal
  b : ℕ → EReal
  ws : ℕ → ℕ → EReal

namespace Args8
variable (E : Args8)

def h (n : ℕ) : ℕ → EReal := mdl (E.x n) (E.md (n / 4096)) fun k => E.md (n / 4096) (1024 + k)
def proj (n f : ℕ) : EReal := ∑ k : Fin 1024, E.h n k.val * E.wi k.val f
def gl (n c : ℕ) : EReal := E.proj n c * sg (E.proj n (512 + c))
def u (n c : ℕ) : EReal := E.proj n (1536 + c) * E.proj n (2048 + c)
def a1 (n c : ℕ) : EReal := ∑ s ∈ Finset.range 31, (if 30 ≤ n % 4096 + s then E.gl (n + s - 30) c else 0) * E.wc s c + E.bc c
def q (n c : ℕ) : EReal := ∑ s ∈ Finset.range 3, (if 2 ≤ n % 4096 + s then E.u (n + s - 2) c else 0) * E.ws s c
def mixed (n c : ℕ) : EReal := if c < 512 then act (E.a1 n) E.g E.b c else E.proj n (1024 + (c - 512)) * E.q n (c - 512)
/-- The convolutions' arguments of the block at row `N`, after the rows before it. -/
def long (N i c : ℕ) : EReal := if 32 ≤ N % 4096 + i then E.gl (N + i - 32) c else 0
def brief (N i c : ℕ) : EReal := if 8 ≤ N % 4096 + i then E.u (N + i - 8) c else 0

variable {N : ℕ} (hN : N % 256 = 0)
include hN

theorem long_at {r : ℕ} (hr : r < 256) (s c : ℕ) :
    E.long N (r + s + 2) c = if 30 ≤ (N + r) % 4096 + s then E.gl (N + r + s - 30) c else 0 := by
  have e : (N + r) % 4096 = N % 4096 + r := by omega
  unfold long
  rw [e]
  by_cases h : 30 ≤ N % 4096 + r + s
  · rw [if_pos h, if_pos (by omega), show N + (r + s + 2) - 32 = N + r + s - 30 by omega]
  · rw [if_neg h, if_neg (by omega)]

theorem brief_at {r : ℕ} (hr : r < 256) (s c : ℕ) :
    E.brief N (6 + s + r) c = if 2 ≤ (N + r) % 4096 + s then E.u (N + r + s - 2) c else 0 := by
  have e : (N + r) % 4096 = N % 4096 + r := by omega
  unfold brief
  rw [e]
  by_cases h : 2 ≤ N % 4096 + r + s
  · rw [if_pos h, if_pos (by omega), show N + (6 + s + r) - 8 = N + r + s - 2 by omega]
  · rw [if_neg h, if_neg (by omega)]

end Args8

/-- What every buffer holds. -/
abbrev StI := (b : Name) → b.shp.Idx → Elt Ideal b.elt

variable {A : Args} {E : Args8} {src : Src → ℕ} {s : StI}

/-- The arguments' blocks hold the arrays' rows and the weights; `src` is where each block of rows starts. -/
structure Ins (E : Args8) (src : Src → ℕ) (s : StI) : Prop where
  x0 : Is (m := 256) (n := 1024) (s .x0) fun r => E.x (src .z + r)
  xa : Is (m := 256) (n := 1024) (s .xa) fun r => E.x (src .a + r)
  xb : Is (m := 256) (n := 1024) (s .xb) fun r => E.x (src .b + r)
  m0 : ∀ k : Fin 6144, (s .m0 : S1x1x6144.Idx → EReal) (ix3 0 0 k) = E.md (src .z / 4096) k.val
  ma : ∀ k : Fin 6144, (s .ma : S1x1x6144.Idx → EReal) (ix3 0 0 k) = E.md (src .a / 4096) k.val
  mb : ∀ k : Fin 6144, (s .mb : S1x1x6144.Idx → EReal) (ix3 0 0 k) = E.md (src .b / 4096) k.val
  wi : Is (m := 1024) (n := 2560) (s .wi) E.wi
  wc : Is (m := 31) (n := 512) (s .wb) E.wc
  bc : Is (m := 1) (n := 512) (s .dwb) fun _ => E.bc
  g : Is (m := 1) (n := 512) (s .lng) fun _ => E.g
  b : Is (m := 1) (n := 512) (s .lnb) fun _ => E.b
  ws : Is (m := 3) (n := 512) (s .scw) E.ws

def isArg : Name → Bool
  | .x0 | .xa | .xb | .m0 | .ma | .mb | .wi | .wb | .dwb | .lng | .lnb | .scw => true
  | _ => false

theorem Ins.of_eq (h : Ins E src s) {s' : StI} (e : ∀ b, isArg b = true → s' b = s b) : Ins E src s' where
  x0 := by rw [e _ rfl]; exact h.x0
  xa := by rw [e _ rfl]; exact h.xa
  xb := by rw [e _ rfl]; exact h.xb
  m0 := by rw [e _ rfl]; exact h.m0
  ma := by rw [e _ rfl]; exact h.ma
  mb := by rw [e _ rfl]; exact h.mb
  wi := by rw [e _ rfl]; exact h.wi
  wc := by rw [e _ rfl]; exact h.wc
  bc := by rw [e _ rfl]; exact h.bc
  g := by rw [e _ rfl]; exact h.g
  b := by rw [e _ rfl]; exact h.b
  ws := by rw [e _ rfl]; exact h.ws

/-! ## What a part stores into -/

section
variable {W : Name → Bool}

/-- The program stores into the buffers of `W` only. -/
structure In (W : Name → Bool) {α : Type} (p : C A Ideal α) : Prop where
  within : Within (M := bufs A) W p

theorem in_pure {α : Type} (a : α) : In (A := A) W (pure a) := ⟨trivial⟩

theorem within_bind {α β : Type} {p : C A Ideal α} {k : α → C A Ideal β} (hp : Within (M := bufs A) W p)
    (hk : ∀ x, Within (M := bufs A) W (k x)) : Within (M := bufs A) W (p >>= k) := by
  induction p with
  | ret a => exact hk a
  | op e c ih =>
    cases e with
    | load b off size inb hl => exact fun x => ih x (hp x)
    | store b off size inb w hs => exact ⟨hp.1, ih ⟨⟩ hp.2⟩

theorem in_bind {α β : Type} {p : C A Ideal α} {k : α → C A Ideal β} (hp : In W p) (hk : ∀ x, In W (k x)) : In W (p >>= k) :=
  ⟨within_bind hp.within fun x => (hk x).within⟩

theorem in_ld (b : Name) (off size : Fin b.shp.rank → ℕ) (inb : ∀ a, off a + size a ≤ b.shp.size a)
    (pos : 0 < Shape.numel ⟨b.shp.rank, size⟩) : In W (ld (F := Ideal) A b off size inb pos) := ⟨fun _ => trivial⟩

theorem in_st {b : Name} (hb : W b = true) (off size : Fin b.shp.rank → ℕ) (inb : ∀ a, off a + size a ≤ b.shp.size a)
    (pos : 0 < Shape.numel ⟨b.shp.rank, size⟩) (he : b.elt.bits = 32) (w : Shape.Idx ⟨b.shp.rank, size⟩ → Elt Ideal b.elt) :
    In W (st (F := Ideal) A b off size inb pos he w) := ⟨fun _ => ⟨hb, trivial⟩⟩

theorem in_sth {b : Name} (hb : W b = true) (off size : Fin b.shp.rank → ℕ) (inb : ∀ a, off a + size a ≤ b.shp.size a)
    (pos : 0 < Shape.numel ⟨b.shp.rank, size⟩) (hp : (Rect.unit (s := b.shp) off size inb).PackedRows b.elt.packing)
    (w : Shape.Idx ⟨b.shp.rank, size⟩ → Elt Ideal b.elt) : In W (sth (F := Ideal) A b off size inb pos hp w) := ⟨fun _ => ⟨hb, trivial⟩⟩

theorem in_loop {N : ℕ} {f : Fin N → C A Ideal PUnit} (hf : ∀ k, In W (f k)) : ∀ (n k : ℕ) (h : k + n = N), In W (loop A f n k h)
  | 0, _, _ => in_pure _
  | n + 1, _, _ => in_bind (hf _) fun _ => in_loop hf n _ _

theorem in_each {N : ℕ} {α : Type} (junk : α) {f : Fin N → C A Ideal α} (hf : ∀ k, In W (f k)) :
    ∀ (n k : ℕ) (h : k + n = N), In W (each A junk f n k h)
  | 0, _, _ => in_pure _
  | n + 1, _, _ => in_bind (hf _) fun _ => in_bind (in_each junk hf n _ _) fun _ => in_pure _

theorem in_ldX (k : Src) : In W (ldX (F := Ideal) A k) := by cases k <;> exact ⟨fun _ => trivial⟩
theorem in_ldM (k : Src) (c : ℕ) (hc : c + 1024 ≤ 6144) : In W (ldM (F := Ideal) A k c hc) := by cases k <;> exact ⟨fun _ => trivial⟩
theorem in_ldP (d : Bool) (c : ℕ) (hc : c + 512 ≤ 2560) : In W (ldP (F := Ideal) A d c hc) := by cases d <;> exact ⟨fun _ => trivial⟩
theorem in_ldH (d : Bool) : In W (ldH (F := Ideal) A d) := by cases d <;> exact ⟨fun _ => trivial⟩
theorem in_stMix (hW : W .mixed = true) (d hi : Bool) (v : FVec Ideal S256x512 .bf16) : In W (stMix (F := Ideal) A d hi v) := by
  cases d <;> cases hi <;> exact ⟨fun _ => ⟨hW, trivial⟩⟩

end

def only (b : Name) : Name → Bool := fun b' => decide (b' = b)
def either (b c : Name) : Name → Bool := fun b' => decide (b' = b) || decide (b' = c)

theorem in_head (k : Src) : In (only (hOf k.side)) (projHead (F := Ideal) A k) :=
  in_bind (in_ldX k) fun _ => in_bind (in_ldM k ..) fun _ => in_bind (in_ldM k ..) fun _ => by cases k <;> exact ⟨fun _ => ⟨rfl, trivial⟩⟩

theorem in_chunk (d : Bool) (j : Fin 10) : In (only (pOf d)) (chunk (F := Ideal) A d j) :=
  in_bind (in_ldH d) fun _ => in_bind (in_ld ..) fun _ => by cases d <;> exact ⟨fun _ => ⟨rfl, trivial⟩⟩

theorem in_glu (d : Bool) (f : BitVec 1) : In (only .ext) (glu (F := Ideal) A d f) :=
  in_bind (in_ld ..) fun _ => in_bind (in_st rfl ..) fun _ => in_bind (in_ldP ..) fun _ => in_bind (in_ldP ..) fun _ => in_st rfl ..

theorem in_shiftRow (g : Fin 4) (r : Fin 8) : In (only .ed) (shiftRow (F := Ideal) A g r) := in_bind (in_ld ..) fun _ => in_st rfl ..

theorem in_shift (g : Fin 4) : In (only .ed) (shift (F := Ideal) A g) := in_loop (in_shiftRow g) _ _ _

theorem in_conv (n : Fin 32) : In (only .acc) (conv (F := Ideal) A n) :=
  in_bind (in_each _ (fun _ => in_bind (in_ld ..) fun _ => in_bind (in_ld ..) fun _ => in_pure _) _ _ _) fun _ =>
    in_bind (in_ld ..) fun _ => in_st rfl ..

theorem in_norm (d : Bool) : In (either .a1 .mixed) (norm (F := Ideal) A d) :=
  in_bind (in_ld ..) fun _ => in_bind (in_st rfl ..) fun _ => in_bind (in_ld ..) fun _ => in_bind (in_ld ..) fun _ => in_stMix rfl ..

theorem in_fill (d : Bool) (f : BitVec 1) : In (only .exq) (fill (F := Ideal) A d f) :=
  in_bind (in_ld ..) fun _ => in_bind (in_st rfl ..) fun _ => in_bind (in_ldP ..) fun _ => in_bind (in_ldP ..) fun _ => in_st rfl ..

theorem in_short (d : Bool) : In (either .q .mixed) (short (F := Ideal) A d) :=
  in_bind (in_bind (in_ld ..) fun _ => in_bind (in_ld ..) fun _ => in_pure _) fun _ =>
    in_bind (in_bind (in_ld ..) fun _ => in_bind (in_ld ..) fun _ => in_pure _) fun _ =>
    in_bind (in_bind (in_ld ..) fun _ => in_bind (in_ld ..) fun _ => in_pure _) fun _ =>
    in_bind (in_st rfl ..) fun _ => in_bind (in_ldP ..) fun _ => in_stMix rfl ..

theorem in_keep (d : Bool) : In (either .proj .h1) (keep (F := Ideal) A d) := by
  cases d <;> exact in_bind (in_ld ..) fun _ => in_bind (in_st rfl ..) fun _ => in_bind (in_ld ..) fun _ => in_sth rfl ..

theorem kept {W : Name → Bool} {α : Type} {p : C A Ideal α} (h : In W p) (s : StI) (b : Name) (hb : W b = false) : (run p s).2 b = s b :=
  run_of_within (M := bufs A) p h.within s b hb

theorem ins_kept {W : Name → Bool} {α : Type} {p : C A Ideal α} (hp : In W p) (hW : ∀ b, isArg b = true → W b = false)
    (h : Ins E src s) : Ins E src (run p s).2 := h.of_eq fun b hb => kept hp s b (hW b hb)

theorem run_pure {α : Type} (a : α) (s : StI) : run (M := bufs A) (Val := Elt Ideal) (pure a) s = (a, s) := rfl

/-! ## The projection -/

/-- A side's rows hold the projection's argument from row `M`. -/
def HeldH (E : Args8) (d : Bool) (M : ℕ) (s : StI) : Prop :=
  match d with
  | false => Is (m := 256) (n := 1024) (s .h0) fun r => E.h (M + r)
  | true => Is (m := 256) (n := 1024) (s .hh) fun r => E.h (M + r)

/-- A side's first `w` columns hold the projection from row `M`. -/
def HeldP (E : Args8) (d : Bool) (M w : ℕ) (s : StI) : Prop :=
  match d with
  | false => On (m := 256) (n := 2560) (fun _ c => c < w) (s .p0) fun r => E.proj (M + r)
  | true => On (m := 256) (n := 2560) (fun _ c => c < w) (s .p1) fun r => E.proj (M + r)

theorem HeldH.of_eq {d : Bool} {M : ℕ} (h : HeldH E d M s) {s' : StI} (e : s' (hOf d) = s (hOf d)) : HeldH E d M s' := by
  cases d <;> (simp only [HeldH] at h ⊢; rw [e]; exact h)
theorem HeldP.of_eq {d : Bool} {M w : ℕ} (h : HeldP E d M w s) {s' : StI} (e : s' (pOf d) = s (pOf d)) : HeldP E d M w s' := by
  cases d <;> (simp only [HeldP] at h ⊢; rw [e]; exact h)

theorem mod_at {v : S1x1x6144.Idx → EReal} {R : ℕ → EReal} (h : ∀ k : Fin 6144, v (ix3 0 0 k) = R k.val) (o : ℕ)
    (inb : ∀ x, (![0, 0, o] : Fin 3 → ℕ) x + (![1, 1, 1024] : Fin 3 → ℕ) x ≤ (![1, 1, 6144] : Fin 3 → ℕ) x) (k : Fin 1024) :
    (VecWindow.window (s := S1x1x6144) v ![0, 0, o] ![1, 1, 1024] inb) (ix3 0 0 k) = R (o + k.val) := by
  have h2 : o + 1024 ≤ 6144 := inb 2
  refine (congrArg v (funext fun a => Fin.ext ?_)).trans (h ⟨o + k.val, by omega⟩)
  match a with
  | 0 => rfl
  | 1 => rfl
  | 2 => exact congrArg (o + ·) (Nat.one_mul _)

theorem head_h (h : Ins E src s) (k : Src) (hM : src k % 256 = 0) : HeldH E k.side (src k) (run (projHead (F := Ideal) A k) s).2 := by
  have fin : ∀ {x : FVec Ideal S256x1024 .f32} {sc sh : FVec Ideal S1x1x1024 .f32}, Is x (fun r => E.x (src k + r)) →
      (∀ j : Fin 1024, sc (ix3 0 0 j) = E.md (src k / 4096) (1024 + j.val)) → (∀ j : Fin 1024, sh (ix3 0 0 j) = E.md (src k / 4096) (0 + j.val)) →
      Is (m := 256) (n := 1024) (modulated x sc sh) fun r => E.h (src k + r) := fun hx hs ht r c => by
    refine (is_modulated hx (U := fun j => E.md (src k / 4096) (1024 + j)) (V := fun j => E.md (src k / 4096) (0 + j)) hs ht r c).trans ?_
    simp only [Args8.h, Nat.zero_add, show (src k + r.val) / 4096 = src k / 4096 by omega]
  cases k <;>
    simp only [HeldH, Src.side, projHead, ldX, ldM, stH, ld, st, sth, run_bind, run, run_pure, Act.run, Function.update_self,
      Function.update_of_ne, ne_eq, reduceCtorEq, not_false_eq_true, shapeCast_id]
  · exact is_put (fin (is_all h.x0 _) (mod_at h.m0 1024 _) (mod_at h.m0 0 _))
  · exact is_put (fin (is_all h.xa _) (mod_at h.ma 1024 _) (mod_at h.ma 0 _))
  · exact is_put (fin (is_all h.xb _) (mod_at h.mb 1024 _) (mod_at h.mb 0 _))

theorem chunk_p (h : Ins E src s) (d : Bool) (M : ℕ) (j : Fin 10) (hh : HeldH E d M s) (hp : HeldP E d M (256 * j.val) s) :
    HeldP E d M (256 * (j.val + 1)) (run (chunk (F := Ideal) A d j) s).2 := by
  cases d <;>
    simp only [HeldP, HeldH, chunk, ldH, stP, ld, st, sth, run_bind, run, run_pure, Act.run, Function.update_self,
      Function.update_of_ne, ne_eq, reduceCtorEq, not_false_eq_true] at hh hp ⊢ <;>
    refine on_put hp (fun r c => (is_product (is_all hh _) (is_ld (a := 0) (b := 256 * j.val) (p := 1024) (q := 256) h.wi _) r c).trans ?_)
      fun i c _ _ hc => ?_
  all_goals first
    | (simp only [Args8.proj, Nat.zero_add]; done)
    | (by_cases h' : c < 256 * j.val; exacts [.inr ⟨h', rfl⟩, .inl (by omega)])

/-! ## The convolutions' arguments -/

/-- The last rows of the block before row `N` lie where the next block looks for them, where it does. -/
structure Carry (E : Args8) (N : ℕ) (s : StI) : Prop where
  long : On (m := 296) (n := 512) (fun i _ => 256 ≤ i ∧ i < 288 ∧ N % 4096 ≠ 0) (s .ext) fun i => E.gl (N + i - 288)
  brief : On (m := 264) (n := 512) (fun i _ => 256 ≤ i ∧ i < 264 ∧ N % 4096 ≠ 0) (s .exq) fun i => E.u (N + i - 264)

/-- Whether the block at row `N` starts a batch element. -/
def flag (N : ℕ) : BitVec 1 := if N % 4096 = 0 then 1#1 else 0#1

theorem is_ldP {d : Bool} {N : ℕ} (hp : HeldP E d N 2560 s) (c : ℕ) (hc : c + 512 ≤ 2560) :
    Is (m := 256) (n := 512) (run (ldP (F := Ideal) A d c hc) s).1 fun r k => E.proj (N + r) (c + k) := by
  cases d <;> simp only [HeldP] at hp <;>
    exact fun r k => (is_window (a := 0) (b := c) (p := 256) (q := 512) hp (in2 (by decide) hc) (fun r _ k hk => by omega) r k).trans
      (by simp only [Nat.zero_add])

theorem run_ldP (d : Bool) (c : ℕ) (hc : c + 512 ≤ 2560) (s : StI) : (run (ldP (F := Ideal) A d c hc) s).2 = s := by cases d <;> rfl

/-- Rows kept from the block before, or zeros at a batch element's start. -/
theorem is_front {p n : ℕ} {N : ℕ} {v : FVec Ideal ⟨2, ![p, 512]⟩ .f32} {R : ℕ → ℕ → EReal} (hn : N % 256 = 0) (hp : p = n)
    (h : N % 4096 ≠ 0 → Is v R) {L : ℕ → ℕ → EReal} (h0 : N % 4096 = 0 → ∀ i < p, ∀ c, L i c = 0) (h1 : N % 4096 ≠ 0 → ∀ i < p, ∀ c, L i c = R i c) :
    Is (m := p) (n := 512) (Scalar.select (flag N) (Mix.zero (F := Ideal) ⟨2, ![p, 512]⟩) v) L := by
  intro r c
  unfold flag
  by_cases e : N % 4096 = 0
  · rw [if_pos e, h0 e r.val r.isLt]
    show (Mix.zero (F := Ideal) ⟨2, ![p, 512]⟩) (ix2 r c) = _
    pointwise
  · rw [if_neg e, h1 e r.val r.isLt]
    exact h e r c

theorem glu_ext {d : Bool} {N : ℕ} (hN : N % 256 = 0) (hp : HeldP E d N 2560 s) (hc : Carry E N s) :
    On (m := 296) (n := 512) (fun i _ => i < 288) ((run (glu (F := Ideal) A d (flag N)) s).2 .ext) (E.long N) := by
  simp only [glu, run_bind (M := bufs A), run_ldP]
  simp only [ld, st, run_bind, run, run_pure, Act.run, Function.update_self, shapeCast_id]
  refine on_put (P := fun i _ => i < 32) (R' := E.long N) ?_ (fun r c => (is_glu (is_ldP (E := E) (N := N) ?_ 0 (by decide)) (is_ldP (E := E) (N := N) ?_ 512 (by decide)) r c).trans ?_)
    fun i c _ _ hi => ?_
  · refine on_put (on_none _ (E.long N)) (fun r c => (is_front hN rfl (R := fun i => E.gl (N + (256 + i) - 288))
      (L := E.long N) (fun e => fun r c => ?_) (fun e i hi c => ?_) (fun e i hi c => ?_) r c).trans ?_) fun i c _ _ hi => .inl (by omega)
    · exact (is_window (a := 256) (b := 0) (p := 32) (q := 512) hc.long (in2 (by decide) (by decide)) (fun r hr _ _ => ⟨by omega, by omega, e⟩) r c).trans
        (by simp only [Nat.zero_add])
    · rw [Args8.long, if_neg (by omega)]
    · rw [Args8.long, if_pos (by omega), show N + i - 32 = N + (256 + i) - 288 by omega]
    · simp only [Nat.zero_add]
  · exact hp.of_eq (by cases d <;> rfl)
  · exact hp.of_eq (by cases d <;> rfl)
  · simp only [Nat.zero_add]
    rw [Args8.long, if_pos (by omega), show N + (32 + r.val) - 32 = N + r.val by omega, Args8.gl]
  · by_cases h' : i < 32
    exacts [.inr ⟨h', rfl⟩, .inl (by omega)]

theorem fill_exq {d : Bool} {N : ℕ} (hN : N % 256 = 0) (hp : HeldP E d N 2560 s)
    (hc : On (m := 264) (n := 512) (fun i _ => 256 ≤ i ∧ i < 264 ∧ N % 4096 ≠ 0) (s .exq) fun i => E.u (N + i - 264)) :
    Is (m := 264) (n := 512) ((run (fill (F := Ideal) A d (flag N)) s).2 .exq) (E.brief N) := by
  simp only [fill, run_bind (M := bufs A), run_ldP]
  simp only [ld, st, run_bind, run, run_pure, Act.run, Function.update_self, shapeCast_id]
  refine is_of_on (P := fun i _ => i < 264) (on_put (P := fun i _ => i < 8) (R' := E.brief N) ?_ (fun r c => (congrArg₂ (· * ·)
      (is_ldP (A := A) (E := E) (N := N) ?_ 1536 (by decide) r c) (is_ldP (A := A) (E := E) (N := N) ?_ 2048 (by decide) r c)).trans ?_) fun i c _ _ hi => ?_) fun i hi _ _ => hi
  · refine on_put (on_none _ (E.brief N)) (fun r c => (is_front hN rfl (R := fun i => E.u (N + (256 + i) - 264))
      (L := E.brief N) (fun e => fun r c => ?_) (fun e i hi c => ?_) (fun e i hi c => ?_) r c).trans ?_) fun i c _ _ hi => .inl (by omega)
    · exact (is_window (a := 256) (b := 0) (p := 8) (q := 512) hc (in2 (by decide) (by decide)) (fun r hr _ _ => ⟨by omega, by omega, e⟩) r c).trans
        (by simp only [Nat.zero_add])
    · rw [Args8.brief, if_neg (by omega)]
    · rw [Args8.brief, if_pos (by omega), show N + i - 8 = N + (256 + i) - 264 by omega]
    · simp only [Nat.zero_add]
  · exact hp.of_eq (by cases d <;> rfl)
  · exact hp.of_eq (by cases d <;> rfl)
  · simp only [Nat.zero_add]
    rw [Args8.brief, if_pos (by omega), show N + (8 + r.val) - 8 = N + r.val by omega, Args8.u]
  · by_cases h' : i < 8
    exacts [.inr ⟨h', rfl⟩, .inl (by omega)]

end Cert.InMix

end
-- ==== Proof.InWhole.lean ====
/- The mixers' forward call: the block run whole, part by part. -/
module

public import proofs.«01_k».proof.Proof.InUnits
public import proofs.«01_k».proof.Proof.MixUnits

@[expose] public section

set_option maxRecDepth 16384

noncomputable section

namespace Cert.InMix

open Idealize.ShloMosaic Idealize.ShloMosaic.TcCoe Idealize.SL.Sem
open Cert.Kernel5Ideal Cert.Steps

variable {A : Args} {E : Args8} {src : Src → ℕ} {s : StI} {N : ℕ}

/-! ## The long convolution's shifted rows -/

/-- The shifted rows of the first `n` column groups. -/
def Ed (E : Args8) (N n : ℕ) (s : StI) : Prop := ∀ (g : Fin 4) (r : Fin 8) (i : Fin 296) (c : Fin 128), g.val < n → i.val < 288 → r.val + i.val < 288 →
  (s .ed : S4x8x296x128.Idx → EReal) (ix4 g r i c) = E.long N (r.val + i.val) (128 * g.val + c.val)

/-- Its argument's rows. -/
abbrev Ext (E : Args8) (N : ℕ) (s : StI) : Prop := On (m := 296) (n := 512) (fun i _ => i < 288) (s .ext) (E.long N)

theorem shift_row (h : Ext E N s) (g : Fin 4) (r : Fin 8) (g' : Fin 4) (r' : Fin 8) (i : Fin 296) (c : Fin 128) (hi : i.val < 288)
    (hr : r.val + i.val < 288) : ((run (shiftRow A g r) s).2 .ed : S4x8x296x128.Idx → EReal) (ix4 g' r' i c)
      = if g' = g ∧ r' = r then E.long N (r.val + i.val) (128 * g.val + c.val) else (s .ed : S4x8x296x128.Idx → EReal) (ix4 g' r' i c) := by
  simp only [shiftRow, ld, st, run_bind, run, Act.run, Function.update_self]
  refine (Mix.ed_put (s .ed) g r _ g' r' i c hi).trans ?_
  congr 1
  pointwise
  refine (congrArg (s .ext) (funext fun a => Fin.ext ?_)).trans (h ⟨r.val + i.val, by omega⟩ ⟨128 * g.val + c.val, by omega⟩ hr)
  match a with
  | 0 => exact congrArg (r.val + ·) (Nat.one_mul _)
  | 1 => exact congrArg (128 * g.val + ·) (Nat.one_mul _)

theorem shift_rows (h : Ext E N s) (g : Fin 4) (n k : ℕ) (hn : k + n = 8)
    (hk : ∀ (r : Fin 8) (i : Fin 296) (c : Fin 128), r.val < k → i.val < 288 → r.val + i.val < 288 →
      (s .ed : S4x8x296x128.Idx → EReal) (ix4 g r i c) = E.long N (r.val + i.val) (128 * g.val + c.val))
    (he : Ed E N g.val s) : Ed E N (g.val + 1) (run (loop A (shiftRow A g) n k hn) s).2 := by
  induction n generalizing k s with
  | zero =>
    intro g' r i c hg hi hr
    by_cases e : g' = g
    · subst e; exact hk r i c (by omega) hi hr
    · exact he g' r i c (by have := Fin.val_ne_of_ne e; omega) hi hr
  | succ n ih =>
    show Ed E N (g.val + 1) (run (shiftRow A g ⟨k, by omega⟩ >>= fun _ => loop A (shiftRow A g) n (k + 1) (by omega)) s).2
    rw [run_bind (M := bufs A)]
    refine ih ?_ (k + 1) (by omega) (fun r i c hr hi h' => ?_) fun g' r i c hg hi h' => ?_
    · have e := kept (in_shiftRow (A := A) g ⟨k, by omega⟩) s .ext rfl
      unfold Ext; rw [e]; exact h
    · by_cases e : r = ⟨k, by omega⟩
      · rw [shift_row h g ⟨k, by omega⟩ g r i c hi (by rw [e] at h'; exact h'), if_pos ⟨rfl, e⟩, e]
      · exact (shift_kept g ⟨k, by omega⟩ g r i c hi (fun h => e h.2)).trans
          (hk r i c (by have := Fin.val_ne_of_ne e; simp only at this; omega) hi h')
    · exact (shift_kept g ⟨k, by omega⟩ g' r i c hi (fun h => by have := congrArg Fin.val h.1; omega)).trans (he g' r i c hg hi h')
where
  shift_kept {s : StI} (g : Fin 4) (r : Fin 8) (g' : Fin 4) (r' : Fin 8) (i : Fin 296) (c : Fin 128) (hi : i.val < 288) (hne : ¬ (g' = g ∧ r' = r)) :
      ((run (shiftRow A g r) s).2 .ed : S4x8x296x128.Idx → EReal) (ix4 g' r' i c) = (s .ed : S4x8x296x128.Idx → EReal) (ix4 g' r' i c) := by
    simp only [shiftRow, ld, st, run_bind, run, Act.run, Function.update_self]
    exact (Mix.ed_put (s .ed) g r _ g' r' i c hi).trans (if_neg hne)

theorem shift_step (h : Ext E N s) (g : Fin 4) (he : Ed E N g.val s) : Ed E N (g.val + 1) (run (shift (F := Ideal) A g) s).2 :=
  shift_rows h g 8 0 rfl (fun _ _ _ hr => absurd hr (Nat.not_lt_zero _)) he

/-! ## The long convolution -/

/-- Its first `n` pieces: 32 rows of 128 columns each. -/
def Acc (E : Args8) (N n : ℕ) (s : StI) : Prop :=
  On (m := 256) (n := 512) (fun r c => 8 * (c / 128) + r / 32 < n) (s .acc) fun r => E.a1 (N + r)

theorem run_each {N : ℕ} {α : Type} (junk : α) {f : Fin N → C A Ideal α} (hf : ∀ k, (run (f k) s).2 = s) : ∀ (n k : ℕ) (h : k + n = N),
    (run (each A junk f n k h) s).2 = s ∧ ∀ (j : ℕ) (hj : j < n), (run (each A junk f n k h) s).1 j = (run (f ⟨k + j, by omega⟩) s).1
  | 0, _, _ => ⟨rfl, fun _ hj => absurd hj (Nat.not_lt_zero _)⟩
  | n + 1, k, h => by
    obtain ⟨i1, i2⟩ := run_each junk hf n (k + 1) (by omega)
    have e : each A junk f (n + 1) k h = f ⟨k, by omega⟩ >>= fun a => each A junk f n (k + 1) (by omega) >>= fun r =>
      pure fun j => Nat.casesOn j a r := rfl
    rw [e, run_bind (M := bufs A), hf, run_bind (M := bufs A), run_pure, i1]
    refine ⟨rfl, fun j hj => ?_⟩
    cases j with
    | zero => rfl
    | succ j => exact (i2 j (by omega)).trans (by simp only [Nat.add_right_comm, Nat.add_assoc])

/-- What one tap reads. -/
theorem is_tap (h : Ins E src s) (n : Fin 32) (he : Ed E N (n.val / 8 + 1) s) (t : Fin 31) :
    Is (m := 32) (n := 128) (run (tapRow A n t) s).1.1 (fun r c => E.long N (32 * (n.val % 8) + r + t.val + 2) (128 * (n.val / 8) + c))
    ∧ Is (m := 1) (n := 128) (run (tapRow A n t) s).1.2 fun _ c => E.wc t.val (128 * (n.val / 8) + c) := by
  constructor
  · intro r c
    simp only [tapRow, ld, run_bind, run, run_pure, Act.run]
    pointwise
    refine Eq.trans (congrArg (s .ed) (funext fun a => Fin.ext ?_)) ((he ⟨n.val / 8, by omega⟩ ⟨(t.val + 2) % 8, by omega⟩
      ⟨32 * (n.val % 8) + 8 * ((t.val + 2) / 8) + r.val, by omega⟩ c (by simp only; omega) (by simp only; omega) (by simp only; omega)).trans ?_)
    · match a with
      | 0 => exact Nat.add_zero _
      | 1 => exact Nat.add_zero _
      | 2 => exact congrArg (32 * (n.val % 8) + 8 * ((t.val + 2) / 8) + ·) (Nat.one_mul _)
      | 3 => exact (Nat.zero_add _).trans (Nat.one_mul _)
    · exact congrArg (fun x => E.long N x (128 * (n.val / 8) + c.val)) (by simp only; omega)
  · exact fun r c => (is_ld (a := t.val) (b := 128 * (n.val / 8)) (p := 1) (q := 128) h.wc (in2 (by omega) (by omega)) r c).trans
      (by have := r.isLt; simp only [show r.val = 0 by omega, Nat.add_zero])

theorem conv_step (hN : N % 256 = 0) (h : Ins E src s) (n : Fin 32) (he : Ed E N (n.val / 8 + 1) s) (hd : Acc E N n.val s) :
    Acc E N (n.val + 1) (run (conv (F := Ideal) A n) s).2 := by
  simp only [conv, run_bind (M := bufs A)]
  obtain ⟨e1, e2⟩ := run_each (A := A) (s := s) (Mix.zero (F := Ideal) S32x128, Mix.zero (F := Ideal) S1x128) (f := tapRow A n) (fun _ => rfl) 31 0 rfl
  rw [e1]
  generalize (run (each A (Mix.zero (F := Ideal) S32x128, Mix.zero (F := Ideal) S1x128) (tapRow A n) 31 0 rfl) s).1 = ew at e2 ⊢
  have ht := is_taps (ew := ew) (E := fun t r c => E.long N (32 * (n.val % 8) + r + t + 2) (128 * (n.val / 8) + c))
    (W := fun t c => E.wc t (128 * (n.val / 8) + c)) 31
    (fun t ht => by rw [e2 t ht]; have := (is_tap (A := A) h n he ⟨0 + t, by omega⟩).1; simpa only [Nat.zero_add] using this)
    (fun t ht => by rw [e2 t ht]; have := (is_tap (A := A) h n he ⟨0 + t, by omega⟩).2; simpa only [Nat.zero_add] using this)
  unfold Acc
  simp only [convEnd, ld, st, sth, run_bind, run, run_pure, Act.run, Function.update_self, Function.update_of_ne, ne_eq,
    reduceCtorEq, not_false_eq_true, shapeCast_id]
  have hb := is_ld (a := 0) (b := 128 * (n.val / 8)) (p := 1) (q := 128) h.bc (in2 (by decide) (by omega))
  generalize VecWindow.window (s .dwb) _ _ _ = bb at hb ⊢
  refine on_put hd (fun r c => ?_) fun r c hr hc hrc => ?_
  · have h1 := ht r c
    have h2 : broadcastTo S32x128 bb Gen.broadcasts_S1x128_S32x128 (ix2 r c) = E.bc (128 * (n.val / 8) + c.val) := by
      pointwise
      exact hb 0 c
    refine (congrArg₂ (· + ·) h1 h2).trans ?_
    simp only [Args8.a1]
    refine congrArg (· + _) (Finset.sum_congr rfl fun t _ => congrArg (· * _) ?_)
    exact E.long_at hN (by omega) t _
  · by_cases h' : 8 * (c / 128) + r / 32 < n.val
    exacts [.inr ⟨h', rfl⟩, .inl (by omega)]

/-! ## The turn -/

theorem In.mono {W W' : Name → Bool} {α : Type} {p : C A Ideal α} (h : In W p) (hW : ∀ b, W b = true → W' b = true) : In W' p := by
  have go : ∀ p : C A Ideal α, Within (M := bufs A) W p → Within (M := bufs A) W' p := fun p => by
    induction p with
    | ret a => exact fun _ => trivial
    | op e c ih =>
      cases e with
      | load b off size inb hl => exact fun h x => ih x (h x)
      | store b off size inb w hs => exact fun h => ⟨hW _ h.1, ih ⟨⟩ h.2⟩
  exact ⟨go p h.within⟩

/-- The buffers a turn stores into. -/
def turns (d : Bool) : Name → Bool := fun b => decide (b = .ed) || decide (b = .acc) || decide (b = pOf d)

theorem in_piece (d : Bool) (u : Piece) : In (turns d) (u.code (F := Ideal) A d) := by
  cases u with
  | shift g => exact (in_shift g).mono fun b h => by cases d <;> revert b <;> decide
  | conv n => exact (in_conv n).mono fun b h => by cases d <;> revert b <;> decide
  | chunk j => exact (in_chunk d j).mono fun b h => by cases d <;> revert b <;> decide

theorem in_turn (d : Bool) : ∀ l, In (turns d) (turn (F := Ideal) A d l)
  | [] => in_pure _
  | u :: l => in_bind (in_piece d u) fun _ => in_turn d l

/-- Each piece of an order finds done what it needs, and all is done at the end. -/
def goes : List Piece → ℕ → ℕ → ℕ → Bool
  | [], a, b, c => a == 4 && b == 32 && c == 10
  | .shift g :: l, a, b, c => g.val == a && goes l (a + 1) b c
  | .conv n :: l, a, b, c => n.val == b && decide (n.val / 8 < a) && goes l a (b + 1) c
  | .chunk j :: l, a, b, c => j.val == c && goes l a b (c + 1)

theorem order_goes : goes order 0 0 0 = true := by decide

/-- How far a turn has come. -/
structure Going (E : Args8) (src : Src → ℕ) (N M : ℕ) (d : Bool) (a b c : ℕ) (s : StI) : Prop where
  ins : Ins E src s
  ext : Ext E N s
  ed : Ed E N a s
  acc : Acc E N b s
  h : HeldH E d M s
  p : HeldP E d M (256 * c) s

theorem going_next {M : ℕ} {d : Bool} {a b c a' b' c' : ℕ} (g : Going E src N M d a b c s) (u : Piece)
    (he : Ed E N a' (run (u.code (F := Ideal) A d) s).2) (ha : Acc E N b' (run (u.code (F := Ideal) A d) s).2)
    (hp : HeldP E d M (256 * c') (run (u.code (F := Ideal) A d) s).2) : Going E src N M d a' b' c' (run (u.code (F := Ideal) A d) s).2 where
  ins := ins_kept (in_piece d u) (fun b hb => by cases d <;> revert b <;> decide) g.ins
  ext := by unfold Ext; rw [kept (in_piece d u) s .ext (by cases d <;> rfl)]; exact g.ext
  ed := he
  acc := ha
  h := g.h.of_eq (kept (in_piece d u) s (hOf d) (by cases d <;> rfl))
  p := hp

theorem shift_going {M : ℕ} {d : Bool} {b c : ℕ} (j : Fin 4) (g : Going E src N M d j.val b c s) :
    Going E src N M d (j.val + 1) b c (run ((Piece.shift j).code (F := Ideal) A d) s).2 := by
  refine going_next g (.shift j) (shift_step g.ext j g.ed) ?_ ?_
  · unfold Acc; rw [Piece.code, kept (in_shift j) s .acc rfl]; exact g.acc
  · exact g.p.of_eq (kept (in_shift j) s (pOf d) (by cases d <;> rfl))

theorem conv_going {M : ℕ} {d : Bool} {a c : ℕ} (hN : N % 256 = 0) (n : Fin 32) (ha : n.val / 8 < a) (g : Going E src N M d a n.val c s) :
    Going E src N M d a (n.val + 1) c (run ((Piece.conv n).code (F := Ideal) A d) s).2 := by
  refine going_next g (.conv n) ?_ (conv_step hN g.ins n (fun j r i k h => g.ed j r i k (by omega)) g.acc) ?_
  · intro j r i k h1 h2 h3
    rw [Piece.code, kept (in_conv n) s .ed rfl]; exact g.ed j r i k h1 h2 h3
  · have e := kept (in_conv (A := A) n) s (pOf d) (by cases d <;> rfl)
    rw [Piece.code]; exact g.p.of_eq e

theorem chunk_going {M : ℕ} {d : Bool} {a b : ℕ} (j : Fin 10) (g : Going E src N M d a b j.val s) :
    Going E src N M d a b (j.val + 1) (run ((Piece.chunk j).code (F := Ideal) A d) s).2 := by
  have hp := chunk_p (A := A) g.ins d M j g.h g.p
  refine going_next g (.chunk j) (a' := a) (b' := b) (c' := j.val + 1) ?_ ?_ (by rw [Piece.code]; exact hp)
  · intro k r i q h1 h2 h3
    rw [Piece.code, kept (in_chunk d j) s .ed (by cases d <;> rfl)]; exact g.ed k r i q h1 h2 h3
  · unfold Acc; rw [Piece.code, kept (in_chunk d j) s .acc (by cases d <;> rfl)]; exact g.acc

theorem turn_run {M : ℕ} {d : Bool} (hN : N % 256 = 0) (l : List Piece) : ∀ (a b c : ℕ) (s : StI), goes l a b c = true →
    Going E src N M d a b c s → Going E src N M d 4 32 10 (run (turn (F := Ideal) A d l) s).2 := by
  induction l with
  | nil =>
    intro a b c s hg g
    simp only [goes, Bool.and_eq_true, beq_iff_eq] at hg
    obtain ⟨⟨h1, h2⟩, h3⟩ := hg
    rw [h1, h2, h3] at g
    exact g
  | cons u l ih =>
    intro a b c s hg g
    rw [turn, run_bind (M := bufs A)]
    cases u with
    | shift j =>
      simp only [goes, Bool.and_eq_true, beq_iff_eq] at hg
      obtain ⟨h1, hg⟩ := hg; rw [← h1] at hg g
      exact ih _ _ _ _ hg (shift_going j g)
    | conv n =>
      simp only [goes, Bool.and_eq_true, beq_iff_eq, decide_eq_true_eq] at hg
      obtain ⟨⟨h1, h2⟩, hg⟩ := hg; rw [← h1] at hg g
      exact ih _ _ _ _ hg (conv_going hN n h2 g)
    | chunk j =>
      simp only [goes, Bool.and_eq_true, beq_iff_eq] at hg
      obtain ⟨h1, hg⟩ := hg; rw [← h1] at hg g
      exact ih _ _ _ _ hg (chunk_going j g)

/-! ## The results' rows -/

/-- The results' first `n` rows, of the rows from `B`. -/
structure Out (E : Args8) (B n : ℕ) (s : StI) : Prop where
  proj : On (m := 512) (n := 2560) (fun r _ => r < n) (s .proj) fun r => E.proj (B + r)
  h1 : On (m := 512) (n := 1024) (fun r _ => r < n) (s .h1) fun r => E.h (B + r)
  mixed : On (m := 512) (n := 1024) (fun r _ => r < n) (s .mixed) fun r => E.mixed (B + r)
  a1 : On (m := 512) (n := 512) (fun r _ => r < n) (s .a1) fun r => E.a1 (B + r)
  q : On (m := 512) (n := 512) (fun r _ => r < n) (s .q) fun r => E.q (B + r)

theorem norm_out (h : Ins E src s) {d : Bool} {B : ℕ} (ha : Acc E (B + top d) 32 s)
    (h1 : On (m := 512) (n := 512) (fun r _ => r < top d) (s .a1) fun r => E.a1 (B + r))
    (h2 : On (m := 512) (n := 1024) (fun r _ => r < top d) (s .mixed) fun r => E.mixed (B + r)) :
    On (m := 512) (n := 512) (fun r _ => r < top d + 256) ((run (norm (F := Ideal) A d) s).2 .a1) (fun r => E.a1 (B + r))
    ∧ On (m := 512) (n := 1024) (fun r c => r < top d ∨ (r < top d + 256 ∧ c < 512)) ((run (norm (F := Ideal) A d) s).2 .mixed)
      fun r => E.mixed (B + r) := by
  have ha : Is (m := 256) (n := 512) (VecWindow.window (s .acc) ![0, 0] ![256, 512] (in2 (by decide) (by decide))) fun r => E.a1 (B + top d + r) :=
    fun r c => (is_window ha (in2 (by decide) (by decide)) (fun r hr c hc => by omega) r c).trans (by simp only [Nat.zero_add])
  have hx := is_act ha (is_all h.g (in2 (by decide) (by decide))) (is_all h.b (in2 (by decide) (by decide)))
  cases d <;>
    simp only [norm, stMix, top, ld, st, sth, run_bind, run, run_pure, Act.run, Function.update_self, Function.update_of_ne, ne_eq,
      reduceCtorEq, not_false_eq_true] at h1 h2 ha hx ⊢
  all_goals
    refine ⟨on_put h1 (fun r c => (ha r c).trans ?_) fun i c _ _ hi => ?_, on_put h2 (fun r c => (hx r c).trans ?_) fun i c _ hc hi => ?_⟩
  all_goals first
    | omega
    | (simp only [Nat.zero_add, Nat.add_assoc, Nat.add_zero]; done)
    | (simp only [Nat.zero_add, Nat.add_assoc, Nat.add_zero, Args8.mixed, if_pos c.isLt]; done)
    | (by_cases h' : i < 256
       · exact .inr ⟨h', rfl⟩
       · exact .inl (by omega))

theorem short_out (h : Ins E src s) {d : Bool} {B : ℕ} (hN : (B + top d) % 256 = 0)
    (he : Is (m := 264) (n := 512) (s .exq) (E.brief (B + top d))) (hp : HeldP E d (B + top d) 2560 s)
    (h1 : On (m := 512) (n := 512) (fun r _ => r < top d) (s .q) fun r => E.q (B + r))
    (h2 : On (m := 512) (n := 1024) (fun r c => r < top d ∨ (r < top d + 256 ∧ c < 512)) (s .mixed) fun r => E.mixed (B + r)) :
    On (m := 512) (n := 512) (fun r _ => r < top d + 256) ((run (short (F := Ideal) A d) s).2 .q) (fun r => E.q (B + r))
    ∧ On (m := 512) (n := 1024) (fun r _ => r < top d + 256) ((run (short (F := Ideal) A d) s).2 .mixed) fun r => E.mixed (B + r) := by
  have tap : ∀ k : Fin 3, Is (m := 256) (n := 512) (run (shortTap A k) s).1.1 (fun r c => E.brief (B + top d) (6 + k.val + r) c)
      ∧ Is (m := 1) (n := 512) (run (shortTap A k) s).1.2 fun _ c => E.ws k.val c := fun k =>
    ⟨fun r c => (is_ld (a := 6 + k.val) (b := 0) (p := 256) (q := 512) he (in2 (by omega) (by decide)) r c).trans (by simp only [Nat.zero_add]),
      fun r c => (is_ld (a := k.val) (b := 0) (p := 1) (q := 512) h.ws (in2 (by omega) (by decide)) r c).trans
        (by have := r.isLt; simp only [show r.val = 0 by omega, Nat.zero_add, Nat.add_zero])⟩
  have hs := is_sum3 (D := fun k r c => E.brief (B + top d) (6 + k + r) c) (W := E.ws) (tap 0).1 (tap 1).1 (tap 2).1 (tap 0).2 (tap 1).2 (tap 2).2
  have hq : Is (m := 256) (n := 512) (sum3 (run (shortTap A 0) s).1 (run (shortTap A 1) s).1 (run (shortTap A 2) s).1) fun r => E.q (B + top d + r) :=
    fun r c => (hs r c).trans (by
      simp only [Args8.q]
      exact Finset.sum_congr rfl fun k _ => congrArg (· * _) (E.brief_at hN r.isLt k c.val))
  have er : ∀ k, (run (shortTap (F := Ideal) A k) s).2 = s := fun _ => rfl
  have hv := fun s' (e : s' (pOf d) = s (pOf d)) => is_ldP (A := A) (E := E) (N := B + top d) (hp.of_eq (s' := s') e) 1024 (by decide)
  simp only [short, run_bind (M := bufs A), er]
  generalize sum3 (run (shortTap A 0) s).1 (run (shortTap A 1) s).1 (run (shortTap A 2) s).1 = w at hq ⊢
  have hv := hv (run (st (F := Ideal) A .q ![top d, 0] S256x512.size (in2 (top_le d) (by decide)) Gen.h_S256x512 rfl w) s).2 (by cases d <;> rfl)
  simp only [run_ldP]
  generalize (run (ldP (F := Ideal) A d 1024 _) _).1 = v at hv ⊢
  have hm : Is (m := 256) (n := 512) (truncf (F := Ideal) .bf16 (mulf (F := Ideal) (φ := .f32) v w) : FVec Ideal S256x512 .bf16)
      fun r c => E.proj (B + top d + r) (1024 + c) * E.q (B + top d + r) c := fun r c => congrArg₂ (· * ·) (hv r c) (hq r c)
  cases d <;>
    simp only [stMix, top, ld, st, sth, run_bind, run, run_pure, Act.run, Function.update_self, Function.update_of_ne, ne_eq,
      reduceCtorEq, not_false_eq_true] at h1 h2 hq hm ⊢
  all_goals
    refine ⟨on_put h1 (fun r c => (hq r c).trans ?_) fun i c _ _ hi => ?_, on_put h2 (fun r c => (hm r c).trans ?_) fun i c _ hc hi => ?_⟩
  all_goals first
    | omega
    | (simp only [Nat.zero_add, Nat.add_assoc, Nat.add_zero]; done)
    | (simp only [Args8.mixed, if_neg (show ¬ 512 + c.val < 512 by omega), Nat.add_sub_cancel_left, Nat.zero_add, Nat.add_assoc, Nat.add_zero]; done)
    | (by_cases h' : i < 256
       · exact .inr ⟨h', rfl⟩
       · exact .inl (by omega))
    | (by_cases h' : i < 256
       · exact .inr ⟨.inl h', rfl⟩
       · by_cases h'' : c < 512
         · exact .inr ⟨.inr ⟨by omega, h''⟩, rfl⟩
         · exact .inl (by omega))
    | (by_cases h'' : c < 512
       · exact .inr ⟨.inr ⟨by omega, h''⟩, rfl⟩
       · exact .inl (by omega))

theorem keep_out {d : Bool} {B : ℕ} (hp : HeldP E d (B + top d) 2560 s) (hh : HeldH E d (B + top d) s)
    (h1 : On (m := 512) (n := 2560) (fun r _ => r < top d) (s .proj) fun r => E.proj (B + r))
    (h2 : On (m := 512) (n := 1024) (fun r _ => r < top d) (s .h1) fun r => E.h (B + r)) :
    On (m := 512) (n := 2560) (fun r _ => r < top d + 256) ((run (keep (F := Ideal) A d) s).2 .proj) (fun r => E.proj (B + r))
    ∧ On (m := 512) (n := 1024) (fun r _ => r < top d + 256) ((run (keep (F := Ideal) A d) s).2 .h1) fun r => E.h (B + r) := by
  cases d <;>
    simp only [keep, HeldP, HeldH, top, ld, st, sth, run_bind, run, run_pure, Act.run, Function.update_self, Function.update_of_ne, ne_eq,
      reduceCtorEq, not_false_eq_true] at h1 h2 hp hh ⊢
  all_goals
    refine ⟨on_put h1 (fun r c => (is_window hp (a := 0) (b := 0) (p := 256) (q := 2560) (in2 (by decide) (by decide)) (fun _ _ c hc => by omega) r c).trans ?_)
        fun i c _ _ hi => ?_,
      on_put h2 (fun r c => (is_all hh (in2 (by decide) (by decide)) r c).trans ?_) fun i c _ hc hi => ?_⟩
  all_goals first
    | omega
    | (simp only [Nat.zero_add, Nat.add_assoc, Nat.add_zero]; done)
    | (by_cases h' : i < 256
       · exact .inr ⟨h', rfl⟩
       · exact .inl (by omega))

/-! ## One block of 256 rows -/

/-- What the next block needs of the one before. -/
structure Ready (E : Args8) (d : Bool) (N : ℕ) (s : StI) : Prop where
  p : HeldP E d N 2560 s
  h : HeldH E d N s

theorem mix_run (h : Ins E src s) (k : Src) (hM : src k % 256 = 0) {B : ℕ} (hN : (B + top (!k.side)) % 256 = 0)
    (hr : Ready E (!k.side) (B + top (!k.side)) s) (hc : Carry E (B + top (!k.side)) s) (ho : Out E B (top (!k.side)) s) :
    Ins E src (run (mix (F := Ideal) A (flag (B + top (!k.side))) k) s).2
    ∧ Ready E k.side (src k) (run (mix (F := Ideal) A (flag (B + top (!k.side))) k) s).2
    ∧ Carry E (B + top (!k.side) + 256) (run (mix (F := Ideal) A (flag (B + top (!k.side))) k) s).2
    ∧ Out E B (top (!k.side) + 256) (run (mix (F := Ideal) A (flag (B + top (!k.side))) k) s).2 := by
  simp only [mix, run_bind (M := bufs A)]
  have x1 := glu_ext (A := A) hN hr.p hc
  have k1 := kept (in_glu (A := A) (!k.side) (flag (B + top (!k.side)))) s
  have i1 := ins_kept (in_glu (A := A) (!k.side) (flag (B + top (!k.side)))) (by decide) h
  generalize (run (glu (F := Ideal) A (!k.side) (flag (B + top (!k.side)))) s).2 = s1 at x1 k1 i1 ⊢
  have k2 := kept (in_head (A := A) k) s1
  have i2 := ins_kept (in_head (A := A) k) (by cases k <;> decide) i1
  have h2 := head_h (A := A) i1 k hM
  generalize (run (projHead (F := Ideal) A k) s1).2 = s2 at k2 i2 h2 ⊢
  have g := turn_run (A := A) (N := B + top (!k.side)) (M := src k) (d := k.side) hN order 0 0 0 s2 order_goes
    { ins := i2
      ext := by unfold Ext; rw [k2 .ext (by cases k <;> rfl)]; exact x1
      ed := fun _ _ _ _ h => absurd h (Nat.not_lt_zero _)
      acc := fun _ _ h => absurd h (Nat.not_lt_zero _)
      h := h2
      p := by cases k <;> exact fun _ _ h => absurd h (Nat.not_lt_zero _) }
  have k3 := kept (in_turn (A := A) k.side order) s2
  generalize (run (turn (F := Ideal) A k.side order) s2).2 = s3 at g k3 ⊢
  have e3 : ∀ b, isArg b = false → b ≠ .ext → b ≠ hOf k.side → b ≠ .ed → b ≠ .acc → b ≠ pOf k.side → s3 b = s b := fun b _ n1 n2 n3 n4 n5 =>
    (k3 b (by simp [turns, n3, n4, n5])).trans ((k2 b (by simp [only, n2])).trans (k1 b (by simp [only, n1])))
  have p3 : HeldP E (!k.side) (B + top (!k.side)) 2560 s3 := hr.p.of_eq (e3 _ (by cases k <;> rfl) (by cases k <;> decide) (by cases k <;> decide)
    (by cases k <;> decide) (by cases k <;> decide) (by cases k <;> decide))
  have h3 : HeldH E (!k.side) (B + top (!k.side)) s3 := hr.h.of_eq (e3 _ (by cases k <;> rfl) (by cases k <;> decide) (by cases k <;> decide)
    (by cases k <;> decide) (by cases k <;> decide) (by cases k <;> decide))
  have o3 : ∀ b, b = .proj ∨ b = .h1 ∨ b = .mixed ∨ b = .a1 ∨ b = .q ∨ b = .exq → s3 b = s b := fun b hb => by
    rcases hb with rfl | rfl | rfl | rfl | rfl | rfl <;>
      exact e3 _ rfl (by decide) (by cases k <;> decide) (by decide) (by decide) (by cases k <;> decide)
  have n4 := norm_out (A := A) g.ins g.acc (by rw [o3 .a1 (by simp)]; exact ho.a1) (by rw [o3 .mixed (by simp)]; exact ho.mixed)
  have k4 := kept (in_norm (A := A) (!k.side)) s3
  have i4 := ins_kept (in_norm (A := A) (!k.side)) (by decide) g.ins
  generalize (run (norm (F := Ideal) A (!k.side)) s3).2 = s4 at n4 k4 i4 ⊢
  have p4 := p3.of_eq (k4 _ (by cases k <;> rfl))
  have x5 : Is (m := 264) (n := 512) ((run (fill (F := Ideal) A (!k.side) (flag (B + top (!k.side)))) s4).2 .exq) (E.brief (B + top (!k.side))) :=
    fill_exq hN p4 (by rw [k4 .exq rfl, o3 .exq (by simp)]; exact hc.brief)
  have k5 := kept (in_fill (A := A) (!k.side) (flag (B + top (!k.side)))) s4
  have i5 := ins_kept (in_fill (A := A) (!k.side) (flag (B + top (!k.side)))) (by decide) i4
  generalize (run (fill (F := Ideal) A (!k.side) (flag (B + top (!k.side)))) s4).2 = s5 at x5 k5 i5 ⊢
  have p5 := p4.of_eq (k5 _ (by cases k <;> rfl))
  have n6 := short_out (A := A) i5 hN x5 p5 (by rw [k5 .q rfl, k4 .q rfl, o3 .q (by simp)]; exact ho.q) (by rw [k5 .mixed rfl]; exact n4.2)
  have k6 := kept (in_short (A := A) (!k.side)) s5
  have i6 := ins_kept (in_short (A := A) (!k.side)) (by decide) i5
  generalize (run (short (F := Ideal) A (!k.side)) s5).2 = s6 at n6 k6 i6 ⊢
  have e6 : ∀ b, b ≠ .exq → b ≠ .q → b ≠ .mixed → b ≠ .a1 → s6 b = s3 b := fun b m1 m2 m3 m4 =>
    (k6 b (by simp [either, m2, m3])).trans ((k5 b (by simp [only, m1])).trans (k4 b (by simp [either, m3, m4])))
  have n7 := keep_out (A := A) (p5.of_eq (k6 _ (by cases k <;> rfl)))
    (h3.of_eq (e6 _ (by cases k <;> simp [Src.side]) (by cases k <;> simp [Src.side]) (by cases k <;> simp [Src.side]) (by cases k <;> simp [Src.side])))
    (by rw [e6 .proj (by simp) (by simp) (by simp) (by simp), o3 .proj (by simp)]; exact ho.proj)
    (by rw [e6 .h1 (by simp) (by simp) (by simp) (by simp), o3 .h1 (by simp)]; exact ho.h1)
  have k7 := kept (in_keep (A := A) (!k.side)) s6
  have i7 := ins_kept (in_keep (A := A) (!k.side)) (by decide) i6
  generalize (run (keep (F := Ideal) A (!k.side)) s6).2 = s7 at n7 k7 i7 ⊢
  have e7 : ∀ b, b ≠ .exq → b ≠ .q → b ≠ .mixed → b ≠ .a1 → b ≠ .proj → b ≠ .h1 → s7 b = s3 b := fun b m1 m2 m3 m4 m5 m6 =>
    (k7 b (by simp [either, m5, m6])).trans (e6 b m1 m2 m3 m4)
  refine ⟨i7, ⟨g.p.of_eq (e7 _ ?_ ?_ ?_ ?_ ?_ ?_), g.h.of_eq (e7 _ ?_ ?_ ?_ ?_ ?_ ?_)⟩, ⟨?_, ?_⟩, ⟨n7.1, n7.2, ?_, ?_, ?_⟩⟩
  on_goal 13 =>
    rw [e7 .ext (by simp) (by simp) (by simp) (by simp) (by simp) (by simp)]
    intro i c hi
    refine (g.ext i c hi.2.1).trans ?_
    rw [Args8.long, if_pos (by omega)]
    exact congrArg (E.gl · c.val) (by omega)
  on_goal 13 =>
    rw [k7 .exq rfl, k6 .exq rfl]
    intro i c hi
    refine (x5 i c).trans ?_
    rw [Args8.brief, if_pos (by omega)]
    exact congrArg (E.u · c.val) (by omega)
  on_goal 13 => rw [k7 .mixed rfl]; exact n6.2
  on_goal 13 => rw [k7 .a1 rfl, k6 .a1 rfl, k5 .a1 rfl]; exact n4.1
  on_goal 13 => rw [k7 .q rfl]; exact n6.1
  all_goals cases k <;> simp [Src.side]

/-! ## The grid point -/

theorem in_start : In (fun b => !isArg b) (start (F := Ideal) A) :=
  in_bind (in_st rfl ..) fun _ => in_bind (in_st rfl ..) fun _ =>
    in_bind ((in_head .z).mono (by decide)) fun _ => in_loop (fun k => (in_chunk false k).mono (by decide)) _ _ _

theorem chunks_run {d : Bool} {M : ℕ} (n k : ℕ) (hn : k + n = 10) (h : Ins E src s) (hh : HeldH E d M s) (hp : HeldP E d M (256 * k) s) :
    HeldP E d M 2560 (run (loop (F := Ideal) A (chunk A d) n k hn) s).2 ∧ HeldH E d M (run (loop (F := Ideal) A (chunk A d) n k hn) s).2 := by
  induction n generalizing k s with
  | zero =>
    have e : 256 * k = 2560 := by omega
    rw [e] at hp
    exact ⟨hp, hh⟩
  | succ n ih =>
    show HeldP E d M 2560 (run (chunk A d ⟨k, by omega⟩ >>= fun _ => loop A (chunk A d) n (k + 1) (by omega)) s).2
      ∧ HeldH E d M (run (chunk A d ⟨k, by omega⟩ >>= fun _ => loop A (chunk A d) n (k + 1) (by omega)) s).2
    rw [run_bind (M := bufs A)]
    have e := kept (in_chunk (A := A) d ⟨k, by omega⟩) s (hOf d) (by cases d <;> rfl)
    exact ih (k + 1) (by omega) (ins_kept (in_chunk d _) (by cases d <;> decide) h) (hh.of_eq e) (chunk_p h d M ⟨k, by omega⟩ hh hp)

/-- The scratch cleared. -/
def clear (A : Args) : C A Ideal PUnit := do
  st A .ext ![0, 0] S296x512.size (in2 (by decide) (by decide)) Gen.h_S296x512 rfl (shapeCast S296x512 (Mix.zero (F := Ideal) S296x512) Gen.shapeCasts_S296x512_S296x512)
  st A .exq ![0, 0] S264x512.size (in2 (by decide) (by decide)) Gen.h_S264x512 rfl (shapeCast S264x512 (Mix.zero (F := Ideal) S264x512) Gen.shapeCasts_S264x512_S264x512)

theorem start_run (h : Ins E src s) (hz : src .z = 0) : Ready E false 0 (run (start (F := Ideal) A) s).2 := by
  have e : start (F := Ideal) A = clear A >>= fun _ => projHead A .z >>= fun _ => loop A (chunk A false) 10 0 rfl := rfl
  rw [e]
  simp only [run_bind (M := bufs A)]
  have hc : In (either .ext .exq) (clear A) := in_bind (in_st rfl ..) fun _ => in_st rfl ..
  have i2 := ins_kept hc (by decide) h
  generalize (run (clear A) s).2 = s2 at i2 ⊢
  have h3 := head_h (A := A) i2 .z (by rw [hz])
  rw [hz] at h3
  have i3 := ins_kept (in_head (A := A) .z) (by decide) i2
  have := chunks_run (A := A) (d := false) (M := 0) 10 0 rfl i3 h3 fun _ _ h => absurd h (Nat.not_lt_zero _)
  exact ⟨this.1, this.2⟩

/-- What the next grid point needs of the one before. -/
structure Handed (E : Args8) (N : ℕ) (s : StI) : Prop extends Ready E false N s where
  carry : Carry E N s

theorem rest_run {B : ℕ} (hB : B % 512 = 0) (h : Ins E src s) (ha : src .a = B + 256) (hb : src .b % 256 = 0) (hh : Handed E B s) :
    Ins E src (run (rest (F := Ideal) A (flag B)) s).2 ∧ Out E B 512 (run (rest (F := Ideal) A (flag B)) s).2
    ∧ (src .b = B + 512 → Handed E (B + 512) (run (rest (F := Ideal) A (flag B)) s).2) := by
  have e : rest (F := Ideal) A (flag B) = mix A (flag B) .a >>= fun _ => mix A 0#1 .b := rfl
  rw [e, run_bind (M := bufs A)]
  obtain ⟨i1, r1, c1, o1⟩ := mix_run (A := A) h .a (by omega) (B := B) (by show (B + 0) % 256 = 0; omega) hh.toReady hh.carry
    ⟨fun _ _ h => absurd h (Nat.not_lt_zero _), fun _ _ h => absurd h (Nat.not_lt_zero _), fun _ _ h => absurd h (Nat.not_lt_zero _),
      fun _ _ h => absurd h (Nat.not_lt_zero _), fun _ _ h => absurd h (Nat.not_lt_zero _)⟩
  change Ins E src (run (mix A (flag B) .a) s).2 at i1
  change Ready E true (src .a) (run (mix A (flag B) .a) s).2 at r1
  change Carry E (B + 256) (run (mix A (flag B) .a) s).2 at c1
  change Out E B 256 (run (mix A (flag B) .a) s).2 at o1
  generalize (run (mix (F := Ideal) A (flag B) .a) s).2 = s1 at i1 r1 c1 o1 ⊢
  rw [ha] at r1
  have e : flag (B + 256) = 0#1 := by unfold flag; rw [if_neg (by omega)]
  obtain ⟨i2, r2, c2, o2⟩ := mix_run (A := A) i1 .b hb (B := B) (by show (B + 256) % 256 = 0; omega) r1 c1 o1
  change Ins E src (run (mix A (flag (B + 256)) .b) s1).2 at i2
  change Ready E false (src .b) (run (mix A (flag (B + 256)) .b) s1).2 at r2
  change Carry E (B + 512) (run (mix A (flag (B + 256)) .b) s1).2 at c2
  change Out E B 512 (run (mix A (flag (B + 256)) .b) s1).2 at o2
  rw [e] at i2 r2 c2 o2
  exact ⟨i2, o2, fun hs => ⟨by rw [hs] at r2; exact r2, c2⟩⟩

end Cert.InMix

end
-- ==== Proof.InLaunch.lean ====
/- The mixers' forward call: one grid point run on what its buffers hold. -/
module

public import proofs.«01_k».proof.Proof.InBody
public import proofs.«01_k».proof.Proof.InWhole
public import proofs.«01_k».proof.Proof.Gen.Kernel5Ideal
public import proofs.«01_k».proof.Proof.Gen.Kernel5Ideal.Frame.Runs
public import proofs.«01_k».proof.Proof.Gen.Kernel5Ideal.Launch
public import proofs.«01_k».proof.Proof.Gen.Kernel5Ideal.Points
public import Idealize.ShloMosaic.Lib.Pipeline.BigSepL
public import Idealize.ShloMosaic.Lib.Pipeline.ValueKit
public import Idealize.ShloMosaic.Lib.Tactic

@[expose] public section

set_option maxRecDepth 16384

noncomputable section

namespace Cert.InMix

open Idealize.ShloMosaic Idealize.ShloMosaic.TcCoe Idealize.SL Idealize.SL.BI Idealize.SL.RA
open scoped Idealize.SL.BI
open Idealize.SL.BI.BIBase Idealize.SL.BI.Laws Idealize.SL.Sem Idealize.SL.ProofMode
open Cert.Kernel5Ideal Cert.Kernel5Ideal.Gen Cert.Steps

/-- The contents after the block at a grid point. -/
def runBlock (A : Args) (i : grid0.Coords) (s : StI) : StI :=
  (run (rest (F := Ideal) A (first i)) (if atStart i = 1#1 then (run (start A) s).2 else s)).2

/-- The model's resources. -/
local notation "𝕄" => MT nD τ Kernel5Ideal.sig Unit (Elt Ideal) ℕ (UR Kernel5Ideal.sig nD τ) ℕ

theorem wp_two (A : Args) (c : Dev nD) (p q : C A Ideal PUnit) (s : StI) (Q : PUnit → sProp 𝕄) :
    (Owned (bufs A) c s) ⊢ iprop((Owned (bufs A) c (run q (run p s).2).2 -∗ Q ⟨⟩)
      -∗ wp frame (wpE (defs₀ (F := Ideal)) Variants.none (c.tc : Thread nD τ) none) Set.univ (denote p >>= fun _ => denote q) Q) := by
  simp only [wp_bind]
  iintro H HQ
  iapply (sound (M := bufs A) Variants.none c none Set.univ p s _) $$ H
  iintro H
  iapply (sound (M := bufs A) Variants.none c none Set.univ q _ _) $$ H
  iexact HQ

theorem blockProg_eq (A : Args) (i : grid0.Coords) : blockProg (F := Ideal) A i
    = (if _h : atStart i = 1#1 then denote (start A) else pure ⟨⟩) >>= fun _ => denote (rest A (first i)) := by
  unfold blockProg
  by_cases h : atStart i = 1#1
  · simp only [dif_pos h]
  · simp only [dif_neg h, pure_bind]

theorem wp_block (A : Args) (c : Dev nD) (i : grid0.Coords) (s : StI) (Q : PUnit → sProp 𝕄) :
    (Owned (bufs A) c s) ⊢ iprop((Owned (bufs A) c (runBlock A i s) -∗ Q ⟨⟩)
      -∗ wp frame (wpE (defs₀ (F := Ideal)) Variants.none (c.tc : Thread nD τ) none) Set.univ (blockProg A i) Q) := by
  rw [blockProg_eq]
  unfold runBlock
  generalize rest (F := Ideal) A (first i) = q
  generalize start (F := Ideal) A = p
  by_cases h : atStart i = 1#1
  · rw [dif_pos h, if_pos h]
    exact wp_two A c p q s Q
  · rw [dif_neg h, if_neg h, pure_bind]
    exact sound (M := bufs A) Variants.none c none Set.univ q s Q

/-! ## The buffers of one grid point -/

/-- The staging buffers a point is given, and the scratch. -/
def argsAt (t : Fin cfg0.N) : Args where
  mem
    | .x0 => win0_0.stage (cfg0.slots t 0)
    | .xa => win0_1.stage (cfg0.slots t 1)
    | .xb => win0_2.stage (cfg0.slots t 2)
    | .m0 => win0_3.stage (cfg0.slots t 3)
    | .ma => win0_4.stage (cfg0.slots t 4)
    | .mb => win0_5.stage (cfg0.slots t 5)
    | .wi => win0_6.stage (cfg0.slots t 6)
    | .wb => win0_7.stage (cfg0.slots t 7)
    | .dwb => win0_8.stage (cfg0.slots t 8)
    | .lng => win0_9.stage (cfg0.slots t 9)
    | .lnb => win0_10.stage (cfg0.slots t 10)
    | .scw => win0_11.stage (cfg0.slots t 11)
    | .proj => win0_12.stage (cfg0.slots t 12)
    | .h1 => win0_13.stage (cfg0.slots t 13)
    | .mixed => win0_14.stage (cfg0.slots t 14)
    | .a1 => win0_15.stage (cfg0.slots t 15)
    | .q => win0_16.stage (cfg0.slots t 16)
    | .p0 => Memref.whole cc0_scratch0
    | .p1 => Memref.whole cc0_scratch1
    | .h0 => Memref.whole cc0_scratch2
    | .hh => Memref.whole cc0_scratch3
    | .ext => Memref.whole cc0_scratch4
    | .ed => Memref.whole cc0_scratch5
    | .exq => Memref.whole cc0_scratch6
    | .acc => Memref.whole cc0_scratch7
  whole
    | .x0 => hstage0_0 ((cfg0.slots t 0).cast nbuf0_0)
    | .xa => hstage0_1 ((cfg0.slots t 1).cast nbuf0_1)
    | .xb => hstage0_2 ((cfg0.slots t 2).cast nbuf0_2)
    | .m0 => hstage0_3 ((cfg0.slots t 3).cast nbuf0_3)
    | .ma => hstage0_4 ((cfg0.slots t 4).cast nbuf0_4)
    | .mb => hstage0_5 ((cfg0.slots t 5).cast nbuf0_5)
    | .wi => hstage0_6 ((cfg0.slots t 6).cast nbuf0_6)
    | .wb => hstage0_7 ((cfg0.slots t 7).cast nbuf0_7)
    | .dwb => hstage0_8 ((cfg0.slots t 8).cast nbuf0_8)
    | .lng => hstage0_9 ((cfg0.slots t 9).cast nbuf0_9)
    | .lnb => hstage0_10 ((cfg0.slots t 10).cast nbuf0_10)
    | .scw => hstage0_11 ((cfg0.slots t 11).cast nbuf0_11)
    | .proj => hstage0_12 ((cfg0.slots t 12).cast nbuf0_12)
    | .h1 => hstage0_13 ((cfg0.slots t 13).cast nbuf0_13)
    | .mixed => hstage0_14 ((cfg0.slots t 14).cast nbuf0_14)
    | .a1 => hstage0_15 ((cfg0.slots t 15).cast nbuf0_15)
    | .q => hstage0_16 ((cfg0.slots t 16).cast nbuf0_16)
    | .p0 | .p1 | .h0 | .hh | .ext | .ed | .exq | .acc => Memref.isWhole_whole _

/-- What the scratch holds. -/
structure Scr where
  p0 : Name.p0.shp.Idx → Elt Ideal Name.p0.elt
  p1 : Name.p1.shp.Idx → Elt Ideal Name.p1.elt
  h0 : Name.h0.shp.Idx → Elt Ideal Name.h0.elt
  hh : Name.hh.shp.Idx → Elt Ideal Name.hh.elt
  ext : Name.ext.shp.Idx → Elt Ideal Name.ext.elt
  ed : Name.ed.shp.Idx → Elt Ideal Name.ed.elt
  exq : Name.exq.shp.Idx → Elt Ideal Name.exq.elt
  acc : Name.acc.shp.Idx → Elt Ideal Name.acc.elt

/-- The contents of the staging buffers, by window. -/
abbrev Win := (w : Fin 17) → (cfg0.win w).block.Idx → Elt Ideal (cfg0.win w).elt

/-- Every buffer's contents, from the staging buffers' and the scratch's. -/
def join (Y : Win) (σ : Scr) : StI
  | .x0 => Y 0
  | .xa => Y 1
  | .xb => Y 2
  | .m0 => Y 3
  | .ma => Y 4
  | .mb => Y 5
  | .wi => Y 6
  | .wb => Y 7
  | .dwb => Y 8
  | .lng => Y 9
  | .lnb => Y 10
  | .scw => Y 11
  | .proj => Y 12
  | .h1 => Y 13
  | .mixed => Y 14
  | .a1 => Y 15
  | .q => Y 16
  | .p0 => σ.p0
  | .p1 => σ.p1
  | .h0 => σ.h0
  | .hh => σ.hh
  | .ext => σ.ext
  | .ed => σ.ed
  | .exq => σ.exq
  | .acc => σ.acc

/-- The staging buffers' part. -/
def winOf (s : StI) : Win
  | 0 => s .x0
  | 1 => s .xa
  | 2 => s .xb
  | 3 => s .m0
  | 4 => s .ma
  | 5 => s .mb
  | 6 => s .wi
  | 7 => s .wb
  | 8 => s .dwb
  | 9 => s .lng
  | 10 => s .lnb
  | 11 => s .scw
  | 12 => s .proj
  | 13 => s .h1
  | 14 => s .mixed
  | 15 => s .a1
  | 16 => s .q
  | ⟨n + 17, h⟩ => absurd h (by omega)

/-- The scratch's part. -/
def scrOf (s : StI) : Scr := ⟨s .p0, s .p1, s .h0, s .hh, s .ext, s .ed, s .exq, s .acc⟩

/-- The scratch owned, at its contents. -/
def Scratch (c : Dev nD) (σ : Scr) : sProp 𝕄 :=
  iprop(owns (c.tc : Thread nD τ) (Memref.whole cc0_scratch0) fullShare σ.p0
    ∗ owns (c.tc : Thread nD τ) (Memref.whole cc0_scratch1) fullShare σ.p1
    ∗ owns (c.tc : Thread nD τ) (Memref.whole cc0_scratch2) fullShare σ.h0
    ∗ owns (c.tc : Thread nD τ) (Memref.whole cc0_scratch3) fullShare σ.hh
    ∗ owns (c.tc : Thread nD τ) (Memref.whole cc0_scratch4) fullShare σ.ext
    ∗ owns (c.tc : Thread nD τ) (Memref.whole cc0_scratch5) fullShare σ.ed
    ∗ owns (c.tc : Thread nD τ) (Memref.whole cc0_scratch6) fullShare σ.exq
    ∗ owns (c.tc : Thread nD τ) (Memref.whole cc0_scratch7) fullShare σ.acc)

/-- The staging buffers owned, at their contents. -/
def Staged (c : Dev nD) (t : Fin cfg0.N) (Y : Win) : sProp 𝕄 :=
  bigSep Finset.univ fun w => owns (c.tc : Thread nD τ) ((cfg0.win w).stage (cfg0.slots t w)) fullShare (Y w)

theorem names : (Finset.univ : Finset Name) = (([Name.x0, .xa, .xb, .m0, .ma, .mb, .wi, .wb, .dwb, .lng, .lnb, .scw, .proj, .h1, .mixed, .a1, .q]
    ++ [.p0, .p1, .h0, .hh, .ext, .ed, .exq, .acc] : List Name)).toFinset := by decide

theorem owned_eq (c : Dev nD) (t : Fin cfg0.N) (s : StI) :
    (Owned (bufs (argsAt t)) c s : sProp 𝕄) = iprop(Staged c t (winOf s) ∗ Scratch c (scrOf s)) := by
  unfold Owned
  rw [bigSep_univ_eq_bigSepL _ names (by show List.Nodup (α := Name) _; decide), bigSepL_append]
  unfold Staged
  rw [bigSep_W0]
  rfl

theorem winOf_join (Y : Win) (σ : Scr) : winOf (join Y σ) = Y := by
  funext w; fin_cases w <;> rfl

/-- One grid point run. -/
theorem body (c : Dev nD) (t : Fin cfg0.N) (Y : Win) (σ : Scr) (Q : PUnit → sProp 𝕄) :
    iprop(Staged c t Y ∗ Scratch c σ)
      ⊢ iprop((iprop(Staged c t (winOf (runBlock (argsAt t) (grid0.coords t) (join Y σ)))
          ∗ Scratch c (scrOf (runBlock (argsAt t) (grid0.coords t) (join Y σ)))) -∗ Q ⟨⟩)
        -∗ wp frame (wpE (defs₀ (F := Ideal)) Variants.none (c.tc : Thread nD τ) none) Set.univ (bodyAt0 t) Q) := by
  have e : bodyAt0 (F := Ideal) t = blockProg (argsAt t) (grid0.coords t) := printed_eq (argsAt t) (grid0.coords t) _ _
  have h := wp_block (argsAt t) c (grid0.coords t) (join Y σ) Q
  rw [owned_eq, owned_eq, winOf_join] at h
  rw [e]
  exact h

theorem scratch_intro (c : Dev nD) : (Pipeline.scopedRest (Val := Elt Ideal) spec0 c : sProp 𝕄) ⊢ iprop(∃ σ : Scr, Scratch c σ) := by
  rw [scopedRest0_eq]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists (⟨f0, f1, f2, f3, f4, f5, f6, f7⟩ : Scr)
  simp only [Scratch, owns_whole]
  iframe

theorem scratch_elim (c : Dev nD) (σ : Scr) : (Scratch c σ : sProp 𝕄) ⊢ (Pipeline.scopedRest (Val := Elt Ideal) spec0 c : sProp 𝕄) := by
  rw [scopedRest0_eq]
  simp only [Scratch, owns_whole]
  iintro ⟨H0, H1, H2, H3, H4, H5, H6, H7⟩
  isplitl [H0]; · iexists σ.p0; iexact H0
  isplitl [H1]; · iexists σ.p1; iexact H1
  isplitl [H2]; · iexists σ.h0; iexact H2
  isplitl [H3]; · iexists σ.hh; iexact H3
  isplitl [H4]; · iexists σ.ext; iexact H4
  isplitl [H5]; · iexists σ.ed; iexact H5
  isplitl [H6]; · iexists σ.exq; iexact H6
  iexists σ.acc; iexact H7

end Cert.InMix

end
-- ==== Proof.InRun.lean ====
/- The mixers' forward call: every grid point run, and the arrays the call ends with. -/
module

public import proofs.«01_k».proof.Proof.InLaunch

@[expose] public section

set_option maxRecDepth 16384

noncomputable section

namespace Cert.InMix

open Idealize.ShloMosaic Idealize.ShloMosaic.TcCoe Idealize.SL Idealize.SL.BI Idealize.SL.RA
open scoped Idealize.SL.BI
open Idealize.SL.BI.BIBase Idealize.SL.BI.Laws Idealize.SL.Sem Idealize.SL.ProofMode
open Cert.Kernel5Ideal Cert.Kernel5Ideal.Gen Cert.Steps
open Idealize.ShloMosaic.Pipeline (Dat)

/-- The model's resources. -/
local notation "𝕄" => MT nD τ Kernel5Ideal.sig Unit (Elt Ideal) ℕ (UR Kernel5Ideal.sig nD τ) ℕ

variable (m : (ℓ : Loc nD τ Kernel5Ideal.sig) → Buf (Elt Ideal) ℓ) (c : Dev nD) (E : Args8)

/-- Where the three blocks of rows start at a point. -/
def srcAt (t : ℕ) : Src → ℕ
  | .z => 0
  | .a => 256 * (2 * t + 1)
  | .b => 256 * min (2 * t + 2) 31

/-- What a result's block holds after a point. -/
def rowsAt {n : ℕ} (R : ℕ → ℕ → EReal) (t : ℕ) : (⟨2, ![512, n]⟩ : Shape).Idx → EReal := fun y => R (512 * t + (y 0).val) (y 1).val

/-- What a point leaves in the staging buffers. -/
def afterAt (w : Fin cfg0.W) (t : Fin cfg0.N) : (cfg0.win w).block.Idx → Elt Ideal (cfg0.win w).elt :=
  match w with
  | 0 => iblk m c 0 t
  | 1 => iblk m c 1 t
  | 2 => iblk m c 2 t
  | 3 => iblk m c 3 t
  | 4 => iblk m c 4 t
  | 5 => iblk m c 5 t
  | 6 => iblk m c 6 t
  | 7 => iblk m c 7 t
  | 8 => iblk m c 8 t
  | 9 => iblk m c 9 t
  | 10 => iblk m c 10 t
  | 11 => iblk m c 11 t
  | 12 => rowsAt (n := 2560) E.proj t
  | 13 => rowsAt (n := 1024) E.h t
  | 14 => rowsAt (n := 1024) E.mixed t
  | 15 => rowsAt (n := 512) E.a1 t
  | 16 => rowsAt (n := 512) E.q t
  | ⟨n + 17, h⟩ => absurd h (by change ¬ n + 17 < 17; omega)

/-- The points read the arrays' rows. -/
def Reads : Prop := ∀ (t : Fin cfg0.N) (σ : Scr), Ins E (srcAt t) (join (fun w => afterAt m c E w t) σ)

/-- What is known of the scratch before point `t`. -/
def HeldS (t : ℕ) (σ : Scr) : Prop := t ≠ 0 → t < 16 → ∀ Y : Win, Handed E (512 * t) (join Y σ)

/-- The region's data. -/
def dat : Dat τ (Elt Ideal) Unit ℕ (UR Kernel5Ideal.sig nD τ) ℕ cfg0 c where
  A w := V m c (Pipeline.arrRef spec0 w)
  after := afterAt m c E
  Φ t := iprop((∃ σ, ⌜HeldS E t.val σ⌝ ∗ Scratch c σ) ∗ ∃ r, prngReg c r)
  q w := Pipeline.shareOf spec0 w
  owed _ := 0

/-- What a point may find in the staging buffers. -/
def Found (t : Fin cfg0.N) (Y : Win) : Prop := ∀ w, ∃ d, Y w = (dat m c E).before w t d

theorem A_eq (w : Fin cfg0.W) : (dat m c E).A w = V m c (Pipeline.arrRef spec0 w) := rfl
theorem after_eq (w : Fin cfg0.W) (t : Fin cfg0.N) : (dat m c E).after w t = afterAt m c E w t := rfl

theorem args_before (t : Fin cfg0.N) : (w : Fin 17) → w.val < 12 → ∀ d, (dat m c E).before w t d = afterAt m c E w t
  | 0, _ => before0_0_of m (dat m c E) (A_eq m c E 0) (after_eq m c E 0) t
  | 1, _ => before0_1_of m (dat m c E) (A_eq m c E 1) (after_eq m c E 1) t
  | 2, _ => before0_2_of m (dat m c E) (A_eq m c E 2) (after_eq m c E 2) t
  | 3, _ => before0_3_of m (dat m c E) (A_eq m c E 3) (after_eq m c E 3) t
  | 4, _ => before0_4_of m (dat m c E) (A_eq m c E 4) (after_eq m c E 4) t
  | 5, _ => before0_5_of m (dat m c E) (A_eq m c E 5) (after_eq m c E 5) t
  | 6, _ => before0_6_of m (dat m c E) (A_eq m c E 6) (after_eq m c E 6) t
  | 7, _ => before0_7_of m (dat m c E) (A_eq m c E 7) (after_eq m c E 7) t
  | 8, _ => before0_8_of m (dat m c E) (A_eq m c E 8) (after_eq m c E 8) t
  | 9, _ => before0_9_of m (dat m c E) (A_eq m c E 9) (after_eq m c E 9) t
  | 10, _ => before0_10_of m (dat m c E) (A_eq m c E 10) (after_eq m c E 10) t
  | 11, _ => before0_11_of m (dat m c E) (A_eq m c E 11) (after_eq m c E 11) t
  | ⟨n + 12, _⟩, h => absurd h (by change ¬ n + 12 < 12; omega)

variable {m c E}

theorem args_found (t : Fin cfg0.N) (Y : Win) (hY : Found m c E t Y) (w : Fin cfg0.W) (hw : w.val < 12) :
    Y w = afterAt m c E w t := by
  obtain ⟨d, hd⟩ := hY w
  exact hd.trans (args_before m c E t w hw d)

theorem ins_at (R : Reads m c E) (t : Fin cfg0.N) (Y : Win) (σ : Scr) (hY : ∀ w : Fin cfg0.W, w.val < 12 → Y w = afterAt m c E w t) :
    Ins E (srcAt t) (join Y σ) := (R t σ).of_eq fun b hb => by
  cases b <;> first
    | exact absurd hb (by decide)
    | exact hY _ (by decide)

theorem first_at : ∀ t : Fin cfg0.N, first (grid0.coords t) = flag (512 * t.val) := (by decide +kernel : ∀ t : Fin grid0.N, _)
theorem start_at : ∀ t : Fin cfg0.N, atStart (grid0.coords t) = 1#1 ↔ t.val = 0 := (by decide +kernel : ∀ t : Fin grid0.N, _)

theorem arg_kept (A : Args) (i : grid0.Coords) (s : StI) (b : Name) (hb : isArg b = true) : runBlock A i s b = s b := by
  have hm : ∀ f k, In (fun b => !isArg b) (mix (F := Ideal) A f k) := fun f k =>
    in_bind ((in_glu (!k.side) f).mono (by decide)) fun _ => in_bind ((in_head k).mono (by cases k <;> decide)) fun _ =>
      in_bind ((in_turn k.side order).mono (by cases k <;> decide)) fun _ => in_bind ((in_norm (!k.side)).mono (by decide)) fun _ =>
      in_bind ((in_fill (!k.side) f).mono (by decide)) fun _ => in_bind ((in_short (!k.side)).mono (by decide)) fun _ =>
      (in_keep (!k.side)).mono (by decide)
  have hr : In (fun b => !isArg b) (rest (F := Ideal) A (first i)) := by
    have e : rest (F := Ideal) A (first i) = mix A (first i) .a >>= fun _ => mix A 0#1 .b := rfl
    rw [e]
    exact in_bind (hm _ _) fun _ => hm _ _
  have hs : In (fun b => !isArg b) (start (F := Ideal) A) := in_start
  have hb' : (fun b => !isArg b) b = false := by simp [hb]
  unfold runBlock
  generalize rest (F := Ideal) A (first i) = q at hr ⊢
  generalize start (F := Ideal) A = p at hs ⊢
  refine (kept hr _ b hb').trans ?_
  by_cases h : atStart i = 1#1
  · rw [if_pos h]; exact kept hs s b hb'
  · rw [if_neg h]

/-- One point: what it leaves in the results' blocks and in the scratch. -/
theorem point (R : Reads m c E) (t : Fin cfg0.N) (Y : Win) (σ : Scr) (hY : ∀ w : Fin cfg0.W, w.val < 12 → Y w = afterAt m c E w t)
    (hσ : HeldS E t.val σ) :
    Out E (512 * t.val) 512 (runBlock (argsAt t) (grid0.coords t) (join Y σ))
    ∧ (t.val + 1 < 16 → Handed E (512 * (t.val + 1)) (runBlock (argsAt t) (grid0.coords t) (join Y σ))) := by
  have hi := ins_at R t Y σ hY
  have hN : t.val < 16 := lt_of_lt_of_eq t.isLt N_0
  have key : ∀ s : StI, Ins E (srcAt t) s → Handed E (512 * t.val) s →
      Out E (512 * t.val) 512 (run (rest (F := Ideal) (argsAt t) (flag (512 * t.val))) s).2
      ∧ (t.val + 1 < 16 → Handed E (512 * (t.val + 1)) (run (rest (F := Ideal) (argsAt t) (flag (512 * t.val))) s).2) := fun s is hs => by
    have h := rest_run (A := argsAt t) (B := 512 * t.val) (by omega) is (by simp only [srcAt]; omega) (by simp only [srcAt]; omega) hs
    refine ⟨h.2.1, fun hl => ?_⟩
    have := h.2.2 (by simp only [srcAt]; omega)
    rw [show 512 * (t.val + 1) = 512 * t.val + 512 by omega]
    exact this
  unfold runBlock
  rw [first_at t]
  by_cases h0 : t.val = 0
  · rw [if_pos ((start_at t).2 h0)]
    have hr := start_run (A := argsAt t) hi rfl
    refine key _ (ins_kept in_start (by decide) hi) ?_
    rw [h0]
    exact ⟨hr, ⟨fun _ _ h => absurd rfl h.2.2, fun _ _ h => absurd rfl h.2.2⟩⟩
  · rw [if_neg (fun h => h0 ((start_at t).1 h))]
    exact key _ hi (hσ h0 hN Y)

theorem rows_eq {n : ℕ} {v : (⟨2, ![512, n]⟩ : Shape).Idx → EReal} {R : ℕ → ℕ → EReal} {B : ℕ}
    (h : On (m := 512) (n := n) (fun r _ => r < 512) v fun r => R (B + r)) : v = fun y => R (B + (y 0).val) (y 1).val := by
  funext y
  obtain ⟨r, k, rfl⟩ : ∃ (r : Fin 512) (k : Fin n), y = ix2 r k := ⟨y 0, y 1, (ix2_eta y).symm⟩
  exact h r k r.isLt

theorem step (R : Reads m c E) (t : Fin cfg0.N) (Y : Win) (σ : Scr) (hY : Found m c E t Y) (hσ : HeldS E t.val σ) :
    (∀ w : Fin cfg0.W, winOf (runBlock (argsAt t) (grid0.coords t) (join Y σ)) w = afterAt m c E w t)
      ∧ HeldS E (t.val + 1) (scrOf (runBlock (argsAt t) (grid0.coords t) (join Y σ))) := by
  have hargs := args_found t Y hY
  obtain ⟨ho, hs⟩ := point R t Y σ hargs hσ
  refine ⟨fun w => ?_, fun _ h1 Y' => ?_⟩
  · obtain ⟨w, h⟩ := w
    replace h : w < 17 := h
    interval_cases w
    · exact (arg_kept _ _ _ .x0 rfl).trans (hargs 0 (by decide))
    · exact (arg_kept _ _ _ .xa rfl).trans (hargs 1 (by decide))
    · exact (arg_kept _ _ _ .xb rfl).trans (hargs 2 (by decide))
    · exact (arg_kept _ _ _ .m0 rfl).trans (hargs 3 (by decide))
    · exact (arg_kept _ _ _ .ma rfl).trans (hargs 4 (by decide))
    · exact (arg_kept _ _ _ .mb rfl).trans (hargs 5 (by decide))
    · exact (arg_kept _ _ _ .wi rfl).trans (hargs 6 (by decide))
    · exact (arg_kept _ _ _ .wb rfl).trans (hargs 7 (by decide))
    · exact (arg_kept _ _ _ .dwb rfl).trans (hargs 8 (by decide))
    · exact (arg_kept _ _ _ .lng rfl).trans (hargs 9 (by decide))
    · exact (arg_kept _ _ _ .lnb rfl).trans (hargs 10 (by decide))
    · exact (arg_kept _ _ _ .scw rfl).trans (hargs 11 (by decide))
    · exact rows_eq ho.proj
    · exact rows_eq ho.h1
    · exact rows_eq ho.mixed
    · exact rows_eq ho.a1
    · exact rows_eq ho.q
  · have h := hs h1
    generalize runBlock (argsAt t) (grid0.coords t) (join Y σ) = s' at h ⊢
    exact ⟨⟨h.p, h.h⟩, ⟨h.carry.long, h.carry.brief⟩⟩

theorem staged_told (t : Fin cfg0.N) (X : Win) (h : ∀ w : Fin cfg0.W, X w = afterAt m c E w t) :
    (Staged c t X : sProp 𝕄) ⊢ bigSep Finset.univ fun w => (dat m c E).leavesExact w t := by
  refine bigSep_mono fun w _ => ?_
  have hl : ∀ (w : Fin 17) (t : Fin grid0.N), cfg0.idle w (grid0.coords t) = false ∨ (cfg0.win w).flush t = true := by decide +kernel
  show iprop(owns (c.tc : Thread nD τ) ((cfg0.win w).stage (cfg0.slots t w)) fullShare (X w)) ⊢ (dat m c E).leavesExact w t
  unfold Dat.leavesExact
  rw [h w]
  rcases hl w t with e | e
  · rw [e]; exact .rfl
  · cases cfg0.idle w (cfg0.grid.coords t)
    · exact .rfl
    · rw [e]; exact .rfl

theorem staged_found (t : Fin cfg0.N) : (bigSep Finset.univ fun w => iprop(∃ d, owns (c.tc : Thread nD τ) ((cfg0.win w).stage (cfg0.slots t w)) fullShare
    ((dat m c E).before w t d)) : sProp 𝕄) ⊢ iprop(∃ Y, ⌜Found m c E t Y⌝ ∗ Staged c t Y) := by
  refine (bigSep_exists_pi Finset.univ fun (w : Fin cfg0.W) d =>
    owns (c.tc : Thread nD τ) ((cfg0.win w).stage (cfg0.slots t w)) fullShare ((dat m c E).before w t d)).trans ?_
  refine exists_elim fun d => ?_
  show Staged c t (fun w => (dat m c E).before w t (d w)) ⊢ _
  iintro H
  iexists (fun w => (dat m c E).before w t (d w))
  isplitr
  · ipureintro; exact fun w => ⟨d w, rfl⟩
  · iexact H

theorem held_intro (t : Fin cfg0.N) (σ : Scr) (h : HeldS E (t.val + 1) σ) :
    iprop(Scratch c σ ∗ ∃ r, prngReg c r) ⊢ ((dat m c E).Φ t.succ : sProp 𝕄) := by
  show _ ⊢ iprop((∃ σ, ⌜HeldS E (t.val + 1) σ⌝ ∗ Scratch c σ) ∗ ∃ r, prngReg c r)
  iintro ⟨H, Hr⟩
  isplitl [H]
  · iexists σ
    isplitr
    · ipureintro; exact h
    · iexact H
  · iexact Hr

theorem whole_obligation (R : Reads m c E) : Pipeline.BodyObligation (dat m c E) defs₀ Variants.none () Set.univ := by
  intro t
  show iprop(((∃ σ, ⌜HeldS E t.val σ⌝ ∗ Scratch c σ) ∗ ∃ r, prngReg c r) ∗ (dat m c E).owesAt () t.castSucc
    ∗ bigSep Finset.univ fun w => iprop(∃ d, owns (c.tc : Thread nD τ) ((cfg0.win w).stage (cfg0.slots t w)) fullShare ((dat m c E).before w t d)))
    ⊢ wp frame _ Set.univ (bodyAt0 t) fun _ => iprop((dat m c E).Φ t.succ ∗ (dat m c E).owesAt () t.succ ∗ bigSep Finset.univ fun w => (dat m c E).leavesExact w t)
  iintro ⟨⟨⟨%σ, %hσ, Hs⟩, Hr⟩, Ho, HB⟩
  ihave HB := (staged_found t) $$ HB
  icases HB with ⟨%Y, %hY, HB⟩
  have hs := step R t Y σ hY hσ
  iapply (body c t Y σ _) $$ [HB Hs]
  · isplitl [HB]; · iexact HB
    iexact Hs
  iintro ⟨HB, Hs⟩
  isplitl [Hs Hr]
  · iapply (held_intro t _ hs.2) $$ [Hs Hr]
    isplitl [Hs]; · iexact Hs
    iexact Hr
  isplitl [Ho]
  · iexact Ho
  · iapply (staged_told t _ hs.1) $$ HB

theorem inv_in : (Pipeline.ΦA spec0 c : sProp 𝕄) ⊢ (dat m c E).Φ 0 := by
  show _ ⊢ iprop((∃ σ, ⌜HeldS E 0 σ⌝ ∗ Scratch c σ) ∗ ∃ r, prngReg c r)
  unfold Pipeline.ΦA
  iintro ⟨Hs, Hr⟩
  ihave Hs := (scratch_intro c) $$ Hs
  icases Hs with ⟨%σ, Hs⟩
  isplitl [Hs]
  · iexists σ
    isplitr
    · ipureintro; exact fun h => absurd rfl h
    · iexact Hs
  · iexact Hr

theorem inv_out : ((dat m c E).Φ (Fin.last cfg0.N) : sProp 𝕄) ⊢ Pipeline.ΦA spec0 c := by
  show iprop((∃ σ, ⌜HeldS E _ σ⌝ ∗ Scratch c σ) ∗ ∃ r, prngReg c r) ⊢ iprop(Pipeline.scopedRest (Val := Elt Ideal) spec0 c ∗ ∃ r, prngReg c r)
  iintro ⟨⟨%σ, -, Hs⟩, Hr⟩
  isplitl [Hs]
  · iapply (scratch_elim c σ) $$ Hs
  · iexact Hr

/-- The call's data. -/
def dats (m : (ℓ : Loc nD τ Kernel5Ideal.sig) → Buf (Elt Ideal) ℓ) (Es : Dev nD → Args8) : (p : Fin 1) → (c : Dev nD) →
    Dat τ (Elt Ideal) Unit ℕ (UR Kernel5Ideal.sig nD τ) ℕ (cfgs p) c
  | 0, c => dat m c (Es c)

set_option maxHeartbeats 1600000 in
set_option backward.isDefEq.respectTransparency.types false in
/-- The whole run. -/
theorem run_whole (Es : Dev nD → Args8) (R : ∀ c, Reads m c (Es c)) (ρ : Dev nD → PrngReg) :
    θ_run defs (onTc (τ := τ) (main (F := Ideal))) (s₀ m ρ)
      (fun r => Pipeline.FramePost cfgs (dats m Es) 0 (V m) r ∧ r.2.sem = fun _ => 0) :=
  Pipeline.θ_run_frame_track_shared (Q' := _) cfgs (dats m Es) (0 : Fin 1) launch₀0 defs₀ Variants.none m ρ main
    (hbody := fun c => (whole_obligation (R c)).loose) (hq := fun _ _ _ => rfl) (howed := fun _ _ => rfl) (V := V m)
    (hmain := hmain m Variants.none) (hA := fun _ _ => rfl) (hin := fun c => inv_in (m := m) (E := Es c))
    (hout := fun c => inv_out (m := m) (E := Es c))

/-! ## The results' arrays -/

theorem out_index : ∀ t : Fin cfg0.N, win0_12.index t = ![t.val, 0] ∧ win0_13.index t = ![t.val, 0] ∧ win0_14.index t = ![t.val, 0]
    ∧ win0_15.index t = ![t.val, 0] ∧ win0_16.index t = ![t.val, 0] := (by decide +kernel : ∀ t : Fin grid0.N, _)

theorem proj_array (n : Fin 8192) (k : Fin 2560) :
    ((dat m c E).arrAt 12 cfg0.N : FVec Ideal S8192x2560 .f32) (ix2 n k) = E.proj n.val k.val := by
  refine (dat m c E).arrAt_forall_of_covers 12 (fun i v => v = E.proj (i 0).val (i 1).val) (by decide +kernel) (fun t hf y => ?_) (ix2 n k)
  obtain ⟨r, k, rfl⟩ : ∃ (r : Fin 512) (k : Fin 2560), y = ix2 r k := ⟨y 0, y 1, (ix2_eta y).symm⟩
  have e0 : win0_12.index t 0 = t.val := congrFun (out_index t).1 0
  have e1 : win0_12.index t 1 = 0 := congrFun (out_index t).1 1
  blk_simp
  rw [e0, e1, Nat.zero_mul, Nat.zero_add, Nat.mul_comm]
  rfl

theorem h_array (n : Fin 8192) (k : Fin 1024) :
    ((dat m c E).arrAt 13 cfg0.N : FVec Ideal S8192x1024 .bf16) (ix2 n k) = E.h n.val k.val := by
  refine (dat m c E).arrAt_forall_of_covers 13 (fun i v => v = E.h (i 0).val (i 1).val) (by decide +kernel) (fun t hf y => ?_) (ix2 n k)
  obtain ⟨r, k, rfl⟩ : ∃ (r : Fin 512) (k : Fin 1024), y = ix2 r k := ⟨y 0, y 1, (ix2_eta y).symm⟩
  have e0 : win0_13.index t 0 = t.val := congrFun (out_index t).2.1 0
  have e1 : win0_13.index t 1 = 0 := congrFun (out_index t).2.1 1
  blk_simp
  rw [e0, e1, Nat.zero_mul, Nat.zero_add, Nat.mul_comm]
  rfl

theorem mixed_array (n : Fin 8192) (k : Fin 1024) :
    ((dat m c E).arrAt 14 cfg0.N : FVec Ideal S8192x1024 .bf16) (ix2 n k) = E.mixed n.val k.val := by
  refine (dat m c E).arrAt_forall_of_covers 14 (fun i v => v = E.mixed (i 0).val (i 1).val) (by decide +kernel) (fun t hf y => ?_) (ix2 n k)
  obtain ⟨r, k, rfl⟩ : ∃ (r : Fin 512) (k : Fin 1024), y = ix2 r k := ⟨y 0, y 1, (ix2_eta y).symm⟩
  have e0 : win0_14.index t 0 = t.val := congrFun (out_index t).2.2.1 0
  have e1 : win0_14.index t 1 = 0 := congrFun (out_index t).2.2.1 1
  blk_simp
  rw [e0, e1, Nat.zero_mul, Nat.zero_add, Nat.mul_comm]
  rfl

theorem a1_array (n : Fin 8192) (k : Fin 512) :
    ((dat m c E).arrAt 15 cfg0.N : FVec Ideal S8192x512 .f32) (ix2 n k) = E.a1 n.val k.val := by
  refine (dat m c E).arrAt_forall_of_covers 15 (fun i v => v = E.a1 (i 0).val (i 1).val) (by decide +kernel) (fun t hf y => ?_) (ix2 n k)
  obtain ⟨r, k, rfl⟩ : ∃ (r : Fin 512) (k : Fin 512), y = ix2 r k := ⟨y 0, y 1, (ix2_eta y).symm⟩
  have e0 : win0_15.index t 0 = t.val := congrFun (out_index t).2.2.2.1 0
  have e1 : win0_15.index t 1 = 0 := congrFun (out_index t).2.2.2.1 1
  blk_simp
  rw [e0, e1, Nat.zero_mul, Nat.zero_add, Nat.mul_comm]
  rfl

theorem q_array (n : Fin 8192) (k : Fin 512) :
    ((dat m c E).arrAt 16 cfg0.N : FVec Ideal S8192x512 .f32) (ix2 n k) = E.q n.val k.val := by
  refine (dat m c E).arrAt_forall_of_covers 16 (fun i v => v = E.q (i 0).val (i 1).val) (by decide +kernel) (fun t hf y => ?_) (ix2 n k)
  obtain ⟨r, k, rfl⟩ : ∃ (r : Fin 512) (k : Fin 512), y = ix2 r k := ⟨y 0, y 1, (ix2_eta y).symm⟩
  have e0 : win0_16.index t 0 = t.val := congrFun (out_index t).2.2.2.2 0
  have e1 : win0_16.index t 1 = 0 := congrFun (out_index t).2.2.2.2 1
  blk_simp
  rw [e0, e1, Nat.zero_mul, Nat.zero_add, Nat.mul_comm]
  rfl

end Cert.InMix

end
-- ==== Proof.InEntry.lean ====
/-
  The arrays that the mixers' forward call is given and the blocks that it fetches.
-/
module

public import proofs.«01_k».proof.Proof.InRun
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem

namespace Cert.InMix

open Cert.Kernel5Ideal Cert.Kernel5Ideal.Gen

/-- The arguments hold these arrays. -/
structure Holds (m : (ℓ : Loc nD τ Cert.Kernel5Ideal.sig) → Buf (Elt Ideal) ℓ) (c : Dev nD) (E : Args8) : Prop where
  x : ∀ (b : Fin 2) (t : Fin 4096) (k : Fin 1024),
    (m (c, Proc.devRef .tc main_arg0) : FVec Ideal S2x4096x1024 .f32) (ix3 b t k) = E.x (4096 * b.val + t.val) k.val
  md : Is (m := 2) (n := 6144) (m (c, Proc.devRef .tc main_arg1)) E.md
  wi : Is (m := 1024) (n := 2560) (m (c, Proc.devRef .tc main_arg2)) E.wi
  wc : Is (m := 31) (n := 512) (m (c, Proc.devRef .tc main_arg3)) E.wc
  bc : ∀ k : Fin 512, (m (c, Proc.devRef .tc main_arg4) : FVec Ideal S512 .f32) (ix1 k) = E.bc k.val
  g : ∀ k : Fin 512, (m (c, Proc.devRef .tc main_arg5) : FVec Ideal S512 .f32) (ix1 k) = E.g k.val
  b : ∀ k : Fin 512, (m (c, Proc.devRef .tc main_arg6) : FVec Ideal S512 .f32) (ix1 k) = E.b k.val
  ws : Is (m := 3) (n := 512) (m (c, Proc.devRef .tc main_arg7)) E.ws

/-! ## Arrays read by numbers -/

def nat1 {a : ℕ} (f : (⟨1, ![a]⟩ : Shape).Idx → EReal) (i : ℕ) : EReal := if h : i < a then f (ix1 ⟨i, h⟩) else 0
def nat2 {a b : ℕ} (f : (⟨2, ![a, b]⟩ : Shape).Idx → EReal) (i j : ℕ) : EReal :=
  if h : i < a ∧ j < b then f (ix2 ⟨i, h.1⟩ ⟨j, h.2⟩) else 0
/-- The rows of all sequences, one after the other. -/
def rows (f : (⟨3, ![2, 4096, 1024]⟩ : Shape).Idx → EReal) (n k : ℕ) : EReal :=
  if h : n < 8192 ∧ k < 1024 then f (ix3 ⟨n / 4096, by omega⟩ ⟨n % 4096, Nat.mod_lt _ (by norm_num)⟩ ⟨k, h.2⟩) else 0

theorem nat1_at {a : ℕ} (f : (⟨1, ![a]⟩ : Shape).Idx → EReal) (i : Fin a) : nat1 f i.val = f (ix1 i) := dif_pos i.isLt
theorem nat2_at {a b : ℕ} (f : (⟨2, ![a, b]⟩ : Shape).Idx → EReal) (i : Fin a) (j : Fin b) : nat2 f i.val j.val = f (ix2 i j) :=
  dif_pos ⟨i.isLt, j.isLt⟩
theorem rows_at (f : (⟨3, ![2, 4096, 1024]⟩ : Shape).Idx → EReal) (b : Fin 2) (t : Fin 4096) (k : Fin 1024) :
    rows f (4096 * b.val + t.val) k.val = f (ix3 b t k) := by
  have hb := b.isLt; have ht := t.isLt
  unfold rows
  rw [dif_pos ⟨by omega, k.isLt⟩]
  have e1 : (⟨(4096 * b.val + t.val) / 4096, by omega⟩ : Fin 2) = b := Fin.ext (by simp only; omega)
  have e2 : (⟨(4096 * b.val + t.val) % 4096, Nat.mod_lt _ (by norm_num)⟩ : Fin 4096) = t := Fin.ext (by simp only; omega)
  rw [e1, e2]

theorem args_held (m : (ℓ : Loc nD τ Cert.Kernel5Ideal.sig) → Buf (Elt Ideal) ℓ) (c : Dev nD) : ∃ E : Args8, Holds m c E :=
  ⟨⟨rows (m (c, Proc.devRef .tc main_arg0)), nat2 (a := 2) (b := 6144) (m (c, Proc.devRef .tc main_arg1)),
    nat2 (a := 1024) (b := 2560) (m (c, Proc.devRef .tc main_arg2)), nat2 (a := 31) (b := 512) (m (c, Proc.devRef .tc main_arg3)),
    nat1 (a := 512) (m (c, Proc.devRef .tc main_arg4)), nat1 (a := 512) (m (c, Proc.devRef .tc main_arg5)),
    nat1 (a := 512) (m (c, Proc.devRef .tc main_arg6)), nat2 (a := 3) (b := 512) (m (c, Proc.devRef .tc main_arg7))⟩,
   ⟨fun _ _ _ => (rows_at _ _ _ _).symm, fun _ _ => (nat2_at _ _ _).symm, fun _ _ => (nat2_at _ _ _).symm,
    fun _ _ => (nat2_at _ _ _).symm, fun _ => (nat1_at _ _).symm, fun _ => (nat1_at _ _).symm, fun _ => (nat1_at _ _).symm,
    fun _ _ => (nat2_at _ _ _).symm⟩⟩

variable {m : (ℓ : Loc nD τ Cert.Kernel5Ideal.sig) → Buf (Elt Ideal) ℓ} {c : Dev nD} {E : Args8}

/-! ## The arrays before the call -/

theorem v0_at (H : Holds m c E) : Is (m := 8192) (n := 1024) (V m c main_v0) E.x := fun n k => by
  unfold_abbrev_sides
  after_reads_simp
  pointwise
  exact (H.x _ _ _).trans (congrArg (fun j => E.x j k.val) (by simp only; omega))

theorem v1_at (H : Holds m c E) (b : Fin 2) (k : Fin 6144) : (V m c main_v1 : FVec Ideal S2x1x6144 .f32) (ix3 b 0 k) = E.md b.val k.val := by
  unfold_abbrev_sides
  after_reads_simp
  pointwise
  exact H.md _ _

theorem v2_at (H : Holds m c E) : Is (m := 1024) (n := 2560) (V m c main_v2) E.wi := fun n k => by
  unfold_abbrev_sides
  after_reads_simp
  pointwise
  exact H.wi _ _

theorem v3_at (H : Holds m c E) : Is (m := 1) (n := 512) (V m c main_v3) fun _ => E.bc := fun n k => by
  unfold_abbrev_sides
  after_reads_simp
  pointwise
  exact H.bc _

theorem v4_at (H : Holds m c E) : Is (m := 1) (n := 512) (V m c main_v4) fun _ => E.g := fun n k => by
  unfold_abbrev_sides
  after_reads_simp
  pointwise
  exact H.g _

theorem v5_at (H : Holds m c E) : Is (m := 1) (n := 512) (V m c main_v5) fun _ => E.b := fun n k => by
  unfold_abbrev_sides
  after_reads_simp
  pointwise
  exact H.b _

theorem arg3_at (H : Holds m c E) : Is (m := 31) (n := 512) (V m c main_arg3) E.wc := fun r k => by
  unfold_abbrev_sides
  after_reads_simp
  exact H.wc _ _

theorem arg7_at (H : Holds m c E) : Is (m := 3) (n := 512) (V m c main_arg7) E.ws := fun r k => by
  unfold_abbrev_sides
  after_reads_simp
  exact H.ws _ _

/-! ## Where an entry of a block lies in its array -/

theorem index0 : ∀ t : Fin cfg0.N, win0_0.index t = ![0, 0] := (by decide +kernel : ∀ t : Fin grid0.N, _)
theorem index1 : ∀ t : Fin cfg0.N, win0_1.index t = ![2 * t.val + 1, 0] := (by decide +kernel : ∀ t : Fin grid0.N, _)
theorem index2 : ∀ t : Fin cfg0.N, win0_2.index t = ![min (2 * t.val + 2) 31, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![(2 * t.val + 1) / 16, 0, 0] := (by decide +kernel : ∀ t : Fin grid0.N, _)
theorem index5 : ∀ t : Fin cfg0.N, win0_5.index t = ![min (2 * t.val + 2) 31 / 16, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)

theorem under (t : Fin cfg0.N) : t.val < 16 := lt_of_lt_of_eq t.isLt N_0

/-- Row `r` of the block numbered `i`. -/
def rowOf (i : ℕ) (r : Fin 256) : Fin 8192 := ⟨(256 * i + r.val) % 8192, by omega⟩

theorem rowOf_val (i : ℕ) (hi : i < 32) (r : Fin 256) : (rowOf i r).val = 256 * i + r.val := Nat.mod_eq_of_lt (by omega)

theorem emb0 (t : Fin cfg0.N) (r : Fin 256) (k : Fin 1024) : ((cfg0.win 0).blk t).view.emb (ix2 r k) = (ix2 (rowOf 0 r) k : (⟨2, ![8192, 1024]⟩ : Shape).Idx) := by
  blk_ext [index0, rowOf]
theorem emb1 (t : Fin cfg0.N) (r : Fin 256) (k : Fin 1024) : ((cfg0.win 1).blk t).view.emb (ix2 r k) = (ix2 (rowOf (2 * t.val + 1) r) k : (⟨2, ![8192, 1024]⟩ : Shape).Idx) := by
  have ht := under t
  blk_ext [index1, rowOf]
theorem emb2 (t : Fin cfg0.N) (r : Fin 256) (k : Fin 1024) : ((cfg0.win 2).blk t).view.emb (ix2 r k) = (ix2 (rowOf (min (2 * t.val + 2) 31) r) k : (⟨2, ![8192, 1024]⟩ : Shape).Idx) := by
  blk_ext [index2, rowOf]
theorem emb3 (t : Fin cfg0.N) (k : Fin 6144) : ((cfg0.win 3).blk t).view.emb (ix3 (0 : Fin 1) (0 : Fin 1) k) = (ix3 0 0 k : (⟨3, ![2, 1, 6144]⟩ : Shape).Idx) := by
  blk_ext [index3]
theorem emb4 (t : Fin cfg0.N) (k : Fin 6144) : ((cfg0.win 4).blk t).view.emb (ix3 (0 : Fin 1) (0 : Fin 1) k) = (ix3 ⟨(2 * t.val + 1) / 16, by have := under t; omega⟩ 0 k : (⟨3, ![2, 1, 6144]⟩ : Shape).Idx) := by
  blk_ext [index4]
theorem emb5 (t : Fin cfg0.N) (k : Fin 6144) : ((cfg0.win 5).blk t).view.emb (ix3 (0 : Fin 1) (0 : Fin 1) k) = (ix3 ⟨min (2 * t.val + 2) 31 / 16, by omega⟩ 0 k : (⟨3, ![2, 1, 6144]⟩ : Shape).Idx) := by
  blk_ext [index5]
theorem emb6 (t : Fin cfg0.N) (r : Fin 1024) (k : Fin 2560) : ((cfg0.win 6).blk t).view.emb (ix2 r k) = (ix2 r k : (⟨2, ![1024, 2560]⟩ : Shape).Idx) := by
  blk_ext [index6]
theorem emb7 (t : Fin cfg0.N) (r : Fin 31) (k : Fin 512) : ((cfg0.win 7).blk t).view.emb (ix2 r k) = (ix2 r k : (⟨2, ![31, 512]⟩ : Shape).Idx) := by
  blk_ext [index7]
theorem emb8 (t : Fin cfg0.N) (r : Fin 1) (k : Fin 512) : ((cfg0.win 8).blk t).view.emb (ix2 r k) = (ix2 r k : (⟨2, ![1, 512]⟩ : Shape).Idx) := by
  blk_ext [index8]
theorem emb9 (t : Fin cfg0.N) (r : Fin 1) (k : Fin 512) : ((cfg0.win 9).blk t).view.emb (ix2 r k) = (ix2 r k : (⟨2, ![1, 512]⟩ : Shape).Idx) := by
  blk_ext [index9]
theorem emb10 (t : Fin cfg0.N) (r : Fin 1) (k : Fin 512) : ((cfg0.win 10).blk t).view.emb (ix2 r k) = (ix2 r k : (⟨2, ![1, 512]⟩ : Shape).Idx) := by
  blk_ext [index10]
theorem emb11 (t : Fin cfg0.N) (r : Fin 3) (k : Fin 512) : ((cfg0.win 11).blk t).view.emb (ix2 r k) = (ix2 r k : (⟨2, ![3, 512]⟩ : Shape).Idx) := by
  blk_ext [index11]

theorem reads (H : Holds m c E) : Reads m c E := fun t σ => by
  have ht := under t
  exact {
    x0 := fun r k => (congrArg (V m c main_v0) (emb0 t r k)).trans ((v0_at H (rowOf 0 r) k).trans (by rw [rowOf_val _ (by omega)]; rfl))
    xa := fun r k => (congrArg (V m c main_v0) (emb1 t r k)).trans ((v0_at H (rowOf _ r) k).trans (by rw [rowOf_val _ (by omega)]; rfl))
    xb := fun r k => (congrArg (V m c main_v0) (emb2 t r k)).trans ((v0_at H (rowOf _ r) k).trans (by rw [rowOf_val _ (by omega)]; rfl))
    m0 := fun k => (congrArg (V m c main_v1) (emb3 t k)).trans ((v1_at H 0 k).trans (congrArg (fun j => E.md j k.val) (by simp [srcAt])))
    ma := fun k => (congrArg (V m c main_v1) (emb4 t k)).trans ((v1_at H _ k).trans (congrArg (fun j => E.md j k.val) (by simp only [srcAt]; omega)))
    mb := fun k => (congrArg (V m c main_v1) (emb5 t k)).trans ((v1_at H _ k).trans (congrArg (fun j => E.md j k.val) (by simp only [srcAt]; omega)))
    wi := fun r k => (congrArg (V m c main_v2) (emb6 t r k)).trans (v2_at H r k)
    wc := fun r k => (congrArg (V m c main_arg3) (emb7 t r k)).trans (arg3_at H r k)
    bc := fun r k => (congrArg (V m c main_v3) (emb8 t r k)).trans (v3_at H r k)
    g := fun r k => (congrArg (V m c main_v4) (emb9 t r k)).trans (v4_at H r k)
    b := fun r k => (congrArg (V m c main_v5) (emb10 t r k)).trans (v5_at H r k)
    ws := fun r k => (congrArg (V m c main_arg7) (emb11 t r k)).trans (arg7_at H r k) }

end Cert.InMix
-- ==== Proof.InRef.lean ====
/-
  What the reference of the mixers' forward call computes, stage by stage.
-/
module

public import proofs.«01_k».proof.Proof.InUnits
public import proofs.«01_k».proof.Proof.MixReal
public import proofs.«01_k».proof.Proof.Gen.Reference5Ideal.Read
public import Idealize.ShloMosaic.Lib.Pointwise

@[expose] public section

set_option maxRecDepth 16384

noncomputable section

open Idealize.ShloMosaic Idealize.SL.Sem

namespace Cert.Reference5Ideal.InMix

open Cert.Reference5Ideal Cert.Reference5Ideal.Gen Cert.Reference5Ideal.Read Cert.InMix

/-- The reference's arguments hold these arrays. -/
structure Held (A0 : FVec Ideal S2x4096x1024 .f32) (A1 : FVec Ideal S2x6144 .f32) (A2 : FVec Ideal S1024x2560 .f32)
    (A3 : FVec Ideal S31x512 .f32) (A4 A5 A6 : FVec Ideal S512 .f32) (A7 : FVec Ideal S3x512 .f32) (E : Args8) : Prop where
  x : ∀ (b : Fin 2) (t : Fin 4096) (k : Fin 1024), A0 (ix3 b t k) = E.x (4096 * b.val + t.val) k.val
  md : Is (m := 2) (n := 6144) A1 E.md
  wi : Is (m := 1024) (n := 2560) A2 E.wi
  wc : Is (m := 31) (n := 512) A3 E.wc
  bc : ∀ k : Fin 512, A4 (ix1 k) = E.bc k.val
  g : ∀ k : Fin 512, A5 (ix1 k) = E.g k.val
  b : ∀ k : Fin 512, A6 (ix1 k) = E.b k.val
  ws : Is (m := 3) (n := 512) A7 E.ws

/-! ## A causal convolution as a sum over rows -/

/-- The mask of a tap: row `t` takes row `s` where `t + k = s + d`. -/
theorem masked (t k s d : ℕ) (ht : t < 4096) (hk : k < 32) (hs : s < 4096) (hd : d < 32) (x : EReal) {z : EReal} (hz : z = 0) :
    Scalar.select (IntOp.cmpi .eq (IntOp.addi (BitVec.ofNat 32 t) (BitVec.ofNat 32 k))
      (IntOp.addi (BitVec.ofNat 32 s) (BitVec.ofNat 32 d))) x z = if t + k = s + d then x else 0 := by
  rw [hz]
  have e : (IntOp.addi (BitVec.ofNat 32 t) (BitVec.ofNat 32 k) = IntOp.addi (BitVec.ofNat 32 s) (BitVec.ofNat 32 d)) ↔ t + k = s + d := by
    simp only [IntOp.addi, ← BitVec.ofNat_add, ← BitVec.toNat_inj, BitVec.toNat_ofNat]
    rw [Nat.mod_eq_of_lt (by omega), Nat.mod_eq_of_lt (by omega)]
  by_cases h : t + k = s + d
  · rw [if_pos h, e.2 h]
    simp [Scalar.select, IntOp.cmpi]
  · rw [if_neg h]
    have h' := beq_eq_false_iff_ne.2 (mt e.1 h)
    simp [Scalar.select, IntOp.cmpi, h']

/-- Of all rows one tap takes one, or none before the first row. -/
theorem tap (f : ℕ → EReal) (t k d : ℕ) (ht : t < 4096) (hk : k ≤ d) :
    ∑ s : Fin 4096, (if t + k = s.val + d then f s.val else 0) = if d ≤ t + k then f (t + k - d) else 0 := by
  by_cases h : d ≤ t + k
  · rw [if_pos h, Finset.sum_eq_single ⟨t + k - d, by omega⟩, if_pos (by show t + k = t + k - d + d; omega)]
    · exact fun s _ hs => if_neg fun e => hs (Fin.ext (by show s.val = t + k - d; omega))
    · exact fun hn => (hn (Finset.mem_univ _)).elim
  · rw [if_neg h]
    exact Finset.sum_eq_zero fun s _ => if_neg (by omega)

/-- All taps of row `t` of sequence `b`. -/
theorem taps (f W : ℕ → EReal) (b t d : ℕ) (ht : t < 4096) :
    ∑ k : Fin (d + 1), W k.val * ∑ s : Fin 4096, (if t + k.val = s.val + d then f (4096 * b + s.val) else 0)
      = ∑ s ∈ Finset.range (d + 1), (if d ≤ (4096 * b + t) % 4096 + s then f (4096 * b + t + s - d) else 0) * W s := by
  rw [← Fin.sum_univ_eq_sum_range (fun s => (if d ≤ (4096 * b + t) % 4096 + s then f (4096 * b + t + s - d) else 0) * W s)]
  refine Finset.sum_congr rfl fun k _ => ?_
  have hk := k.isLt
  rw [tap (fun s => f (4096 * b + s)) t k.val d ht (by omega), mul_comm, show (4096 * b + t) % 4096 = t by omega]
  by_cases h : d ≤ t + k.val
  · rw [if_pos h, if_pos h, show 4096 * b + t + k.val - d = 4096 * b + (t + k.val - d) by omega]
  · rw [if_neg h, if_neg h]

/-! ## The stages -/

variable {A0 : FVec Ideal S2x4096x1024 .f32} {A1 : FVec Ideal S2x6144 .f32} {A2 : FVec Ideal S1024x2560 .f32}
  {A3 : FVec Ideal S31x512 .f32} {A4 A5 A6 : FVec Ideal S512 .f32} {A7 : FVec Ideal S3x512 .f32} {E : Args8}

section
variable (H : Held A0 A1 A2 A3 A4 A5 A6 A7 E) (b : Fin 2) (t : Fin 4096)
include H

theorem r23 (k : Fin 1024) : val_main_v23 (F := Ideal) A0 A1 (ix3 b t k) = E.h (4096 * b.val + t.val) k.val := by
  have e : (4096 * b.val + t.val) / 4096 = b.val := by omega
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v1, val_main_v0, val_main_cst, val_main_cst_0, val_main_cst_1, val_main_cst_2]
  simp only [H.x, H.md _ _, Args8.h, mdl, mean10, eps, e]

theorem r24 (f : Fin 2560) : val_main_v24 (F := Ideal) A0 A1 A2 (ix3 b t f) = E.proj (4096 * b.val + t.val) f.val := by
  pointwise [val_main_v24]
  simp only [r23 H, H.wi _ _, Args8.proj]

theorem r36 (c : Fin 512) : val_main_v36 (F := Ideal) A0 A1 A2 (ix3 b t c) = E.gl (4096 * b.val + t.val) c.val := by
  pointwise [val_main_v36, val_main_v35, val_main_v34, val_main_v33, val_main_v32, val_main_v31, val_main_v30, val_main_v26,
    val_main_v25, val_main_cst_3, val_main_cst_4]
  simp only [r24 H, Args8.gl, sg]

theorem r54 (c : Fin 512) : val_main_v54 (F := Ideal) A0 A1 A2 A3 A4 (ix3 b t c) = E.a1 (4096 * b.val + t.val) c.val := by
  pointwise [val_main_v54, val_main_v53, val_main_v52, val_main_v51, val_main_v50, val_main_v49, val_main_v48, val_main_v47,
    val_main_v46, val_main_v45, val_main_v44, val_main_v43, val_main_v42, val_main_v41, val_main_v40, val_main_v39, val_main_v38,
    val_main_v37, val_main_call0_v3, val_main_call0_v2, val_main_call0_v1, val_main_call0_v0, val_main_c, val_main_cst_5,
    val_main_cst_6, val_main_cst_7]
  have e := fun (k : Fin 31) (s : Fin 4096) (x : EReal) =>
    masked t.val k.val s.val 30 (by omega) (by omega) (by omega) (by omega) x
    (z := (id (constant S_ .f32 0x00000000#32) : FVec Ideal S_ .f32) ix0) (Cert.Mix.bits_zero.trans EReal.coe_zero)
  simp only [r36 H, e, H.wc _ _, H.bc]
  exact congrArg (· + E.bc c.val) (taps (fun n => E.gl n c.val) (fun s => E.wc s c.val) b.val t.val 30 t.isLt)

theorem r80 (c : Fin 512) : val_main_v80 (F := Ideal) A0 A1 A2 (ix3 b t c) = E.u (4096 * b.val + t.val) c.val := by
  pointwise [val_main_v80, val_main_v28, val_main_v29]
  simp only [r24 H, Args8.u]

theorem r95 (c : Fin 512) : val_main_v95 (F := Ideal) A0 A1 A2 A7 (ix3 b t c) = E.q (4096 * b.val + t.val) c.val := by
  pointwise [val_main_v95, val_main_v94, val_main_v93, val_main_v92, val_main_v91, val_main_v90, val_main_v89, val_main_v88,
    val_main_v87, val_main_v86, val_main_v85, val_main_v84, val_main_v83, val_main_v82, val_main_v81, val_main_call2_v3,
    val_main_call2_v2, val_main_call2_v1, val_main_call2_v0, val_main_c_13, val_main_cst_14, val_main_cst_15, val_main_cst_16]
  have e := fun (k : Fin 3) (s : Fin 4096) (x : EReal) =>
    masked t.val k.val s.val 2 (by omega) (by omega) (by omega) (by omega) x
    (z := (id (constant S_ .f32 0x00000000#32) : FVec Ideal S_ .f32) ix0) (Cert.Mix.bits_zero.trans EReal.coe_zero)
  simp only [r80 H, e, H.ws _ _]
  exact taps (fun n => E.u n c.val) (fun s => E.ws s c.val) b.val t.val 2 t.isLt

theorem r60 (c : Fin 512) : val_main_v60 (F := Ideal) A0 A1 A2 A3 A4 (ix3 b t c) = cen (E.a1 (4096 * b.val + t.val)) c.val := by
  pointwise [val_main_v60, val_main_v59, val_main_v58, val_main_v57, val_main_v56, val_main_v55, val_main_cst_8, val_main_cst_9]
  simp only [r54 H, cen, mean5]

theorem r67 (c : Fin 512) : val_main_v67 (F := Ideal) A0 A1 A2 A3 A4 (ix3 b t c) = cen (E.a1 (4096 * b.val + t.val)) c.val := by
  pointwise [val_main_v67, val_main_v66, val_main_v58, val_main_v57, val_main_v56, val_main_v55, val_main_cst_8, val_main_cst_9]
  simp only [r54 H, cen, mean5]

theorem r70 (z : Fin 1) : val_main_v70 (F := Ideal) A0 A1 A2 A3 A4 (ix3 b t z) = Cert.InMix.inv (E.a1 (4096 * b.val + t.val)) := by
  pointwise [val_main_v70, val_main_v69, val_main_v68, val_main_v65, val_main_v64, val_main_v63, val_main_v62, val_main_v61,
    val_main_cst_10, val_main_cst_11, val_main_cst_12]
  simp only [r60 H, Cert.InMix.inv, mean5, eps]

theorem r78 (c : Fin 512) :
    val_main_v78 (F := Ideal) A0 A1 A2 A3 A4 A5 A6 (ix3 b t c) = pre (E.a1 (4096 * b.val + t.val)) E.g E.b c.val := by
  pointwise [val_main_v78, val_main_v77, val_main_v76, val_main_v75, val_main_v74, val_main_v73, val_main_v72, val_main_v71]
  simp only [r67 H, r70 H, H.g, H.b, pre]

theorem r79 (c : Fin 512) :
    val_main_v79 (F := Ideal) A0 A1 A2 A3 A4 A5 A6 (ix3 b t c) = act (E.a1 (4096 * b.val + t.val)) E.g E.b c.val := by
  pointwise [val_main_v79, val_main_call1_v5, val_main_call1_v4, val_main_call1_v3, val_main_call1_v2, val_main_call1_v1,
    val_main_call1_v0, val_main_call1_cst, val_main_call1_cst_0]
  simp only [r78 H, act, sg]

theorem r97 (c : Fin 1024) :
    val_main_v97 (F := Ideal) A0 A1 A2 A3 A4 A5 A6 A7 (ix3 b t c) = E.mixed (4096 * b.val + t.val) c.val := by
  unfold Args8.mixed
  by_cases h : c.val < 512
  · rw [if_pos h]
    refine Eq.trans ?_ (r79 H b t ⟨c.val, h⟩)
    pointwise [val_main_v97]
    exact dif_pos h
  · rw [if_neg h]
    refine Eq.trans (b := val_main_v96 (F := Ideal) A0 A1 A2 A7 (ix3 b t ⟨c.val - 512, by omega⟩)) ?_ ?_
    · pointwise [val_main_v97]
      exact dif_neg h
    · pointwise [val_main_v96, val_main_v27]
      simp only [r24 H, r95 H]

end

/-! ## The results -/

section
variable (H : Held A0 A1 A2 A3 A4 A5 A6 A7 E) (n : Fin 8192)
include H

theorem r98 (f : Fin 2560) : val_main_v98 (F := Ideal) A0 A1 A2 (ix2 n f) = E.proj n.val f.val := by
  pointwise [val_main_v98]
  exact (r24 H _ _ _).trans (congrArg (E.proj · f.val) (by simp only; omega))

theorem r100 (k : Fin 1024) : val_main_v100 (F := Ideal) A0 A1 (ix2 n k) = E.h n.val k.val := by
  pointwise [val_main_v100, val_main_v99]
  exact (r23 H _ _ _).trans (congrArg (E.h · k.val) (by simp only; omega))

theorem r102 (c : Fin 1024) : val_main_v102 (F := Ideal) A0 A1 A2 A3 A4 A5 A6 A7 (ix2 n c) = E.mixed n.val c.val := by
  pointwise [val_main_v102, val_main_v101]
  exact (r97 H _ _ _).trans (congrArg (E.mixed · c.val) (by simp only; omega))

theorem r103 (c : Fin 512) : val_main_v103 (F := Ideal) A0 A1 A2 A3 A4 (ix2 n c) = E.a1 n.val c.val := by
  pointwise [val_main_v103]
  exact (r54 H _ _ _).trans (congrArg (E.a1 · c.val) (by simp only; omega))

theorem r104 (c : Fin 512) : val_main_v104 (F := Ideal) A0 A1 A2 A7 (ix2 n c) = E.q n.val c.val := by
  pointwise [val_main_v104]
  exact (r95 H _ _ _).trans (congrArg (E.q · c.val) (by simp only; omega))

end

end Cert.Reference5Ideal.InMix
-- ==== Proof.InClose.lean ====
/-
  The mixers' forward call and the forward lines end with equal results.
-/
module

public import proofs.«01_k».proof.Defs
public import proofs.«01_k».proof.Proof.InEntry
public import proofs.«01_k».proof.Proof.InRef
public import proofs.«01_k».proof.Proof.Gen.Kernel5Ideal.Frame
public import proofs.«01_k».proof.Proof.Gen.Reference5Ideal.Run
public import Idealize.ShloMosaic.Lib.Quiescent

@[expose] public section

set_option maxRecDepth 16384

noncomputable section

open Idealize.ShloMosaic Idealize.ShloMosaic.TcCoe Idealize.SL.Sem

namespace Cert.InMix

open Cert.Kernel5Ideal Cert.Kernel5Ideal.Gen

variable {m : (ℓ : Loc nD τ Cert.Kernel5Ideal.sig) → Buf (Elt Ideal) ℓ} {c : Dev nD} {E : Args8}

theorem held (H : Holds m c E) : Cert.Reference5Ideal.InMix.Held (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5)) (m (c, Proc.devRef .tc main_arg6)) (m (c, Proc.devRef .tc main_arg7)) E :=
  ⟨H.x, H.md, H.wi, H.wc, H.bc, H.g, H.b, H.ws⟩

/-- Two arrays with the same entries are equal. -/
theorem same {n k : ℕ} {X Y : (⟨2, ![n, k]⟩ : Shape).Idx → EReal} {R : ℕ → ℕ → EReal} (hx : ∀ (i : Fin n) (j : Fin k), X (ix2 i j) = R i.val j.val)
    (hy : ∀ (i : Fin n) (j : Fin k), Y (ix2 i j) = R i.val j.val) : X = Y :=
  funext fun i => (congrArg X (ix2_eta i).symm).trans ((hx _ _).trans ((hy _ _).symm.trans (congrArg Y (ix2_eta i))))

set_option maxHeartbeats 1600000 in
/-- The call and its reference end with equal results. -/
theorem equal : Cert.algebraic_Kernel5Ideal_Reference5Ideal := fun m g m' g' _ hag => by
  choose Es H using args_held m
  refine ⟨fun c => (dats m Es 0 c).arrAt 12 cfg0.N, fun c => (dats m Es 0 c).arrAt 13 cfg0.N, fun c => (dats m Es 0 c).arrAt 14 cfg0.N,
    fun c => (dats m Es 0 c).arrAt 15 cfg0.N, fun c => (dats m Es 0 c).arrAt 16 cfg0.N, ?_, ?_⟩
  on_goal 1 =>
    exact (θ_run defs _ _).mono (fun r h c => ⟨(h.1.1 c).1 12, (h.1.1 c).1 13, (h.1.1 c).1 14, (h.1.1 c).1 15, (h.1.1 c).1 16, h.2 c⟩)
      (θ_run_and (run_whole Es (fun c => reads (H c)) g) (unchanged m g))
  refine (θ_run Cert.Reference5Ideal.defs _ _).mono (fun r h c => ?_) (Cert.Reference5Ideal.Value.run m' g')
  obtain ⟨e0, e1, e2, e3, e4, e5, e6, e7⟩ := hag c
  obtain ⟨h0, h1, h2, h3, h4, ha⟩ := h c
  have K := held (H c)
  refine ⟨h0.trans ?_, h1.trans ?_, h2.trans ?_, h3.trans ?_, h4.trans ?_, ha⟩
  on_goal 1 =>
    rw [Cert.Reference5Ideal.Read.val_main_v98_eq]
    simp only [e0, e1, e2]
    exact same (R := (Es c).proj) (Cert.Reference5Ideal.InMix.r98 K) proj_array
  on_goal 1 =>
    rw [Cert.Reference5Ideal.Read.val_main_v100_eq]
    simp only [e0, e1]
    exact same (R := (Es c).h) (Cert.Reference5Ideal.InMix.r100 K) h_array
  on_goal 1 =>
    rw [Cert.Reference5Ideal.Read.val_main_v102_eq]
    simp only [e0, e1, e2, e3, e4, e5, e6, e7]
    exact same (R := (Es c).mixed) (Cert.Reference5Ideal.InMix.r102 K) mixed_array
  on_goal 1 =>
    rw [Cert.Reference5Ideal.Read.val_main_v103_eq]
    simp only [e0, e1, e2, e3, e4]
    exact same (R := (Es c).a1) (Cert.Reference5Ideal.InMix.r103 K) a1_array
  rw [Cert.Reference5Ideal.Read.val_main_v104_eq]
  simp only [e0, e1, e2, e7]
  exact same (R := (Es c).q) (Cert.Reference5Ideal.InMix.r104 K) q_array

end Cert.InMix
-- ==== Proof.AdaClose.lean ====
/-
  The conditioning vectors: the call that computes the silu of `c` and its product with the adaptive weights, plus the
  bias, ends with the same arrays as the forward lines. No argument has to be finite.
-/
module

public import proofs.«01_k».proof.Defs
public import proofs.«01_k».proof.Proof.Gen.Kernel6Ideal.Value
public import proofs.«01_k».proof.Proof.Gen.Reference6Ideal.Read
public import proofs.«01_k».proof.Proof.Gen.Reference6Ideal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Ada

open Cert.Kernel6Ideal.Gen Cert.Reference6Ideal.Read

variable (x : FVec Ideal Cert.Kernel6Ideal.S16x1024 .f32) (w : FVec Ideal Cert.Kernel6Ideal.S1024x1536 .f32)
  (b : FVec Ideal Cert.Kernel6Ideal.S1x1536 .f32)

/-- The silu, entry by entry: the kernel's zero minus the entry is the reference's negation. -/
theorem act_at (r : Fin 16) (k : Fin 1024) : k0_pay1 (F := Ideal) x (ix2 r k) = (val_main_v0 (F := Ideal) x : FVec Ideal Cert.Kernel6Ideal.S16x1024 .f32) (ix2 r k) := by
  pointwise [k0_pay1, val_main_v0, val_main_call0_v5, val_main_call0_v4, val_main_call0_v3, val_main_call0_v2, val_main_call0_v1,
    val_main_call0_v0, val_main_call0_cst, val_main_call0_cst_0]
  rw [zero_sub]

/-- The product and the bias, entry by entry. -/
theorem mod_at (r : Fin 16) (k : Fin 1536) :
    k0_pay2 (F := Ideal) x w b (ix2 r k) = (val_main_v3 (F := Ideal) x w b : FVec Ideal Cert.Kernel6Ideal.S16x1536 .f32) (ix2 r k) := by
  pointwise [k0_pay2, val_main_v3, val_main_v2, val_main_v1]
  simp only [act_at]

/-- The call and its reference end with equal results. -/
theorem equal : Cert.algebraic_Kernel6Ideal_Reference6Ideal := fun m g m' g' _ hag => by
  refine ⟨fun c => _, fun c => _, Cert.Kernel6Ideal.Value.run m g, ?_⟩
  refine (θ_run Cert.Reference6Ideal.defs _ _).mono (fun r h c => ?_) (Cert.Reference6Ideal.Value.run m' g')
  obtain ⟨e0, e1, e2⟩ := hag c
  obtain ⟨h0, h1, ha⟩ := h c
  refine ⟨h0.trans ?_, h1.trans ?_, ha⟩
  on_goal 1 =>
    rw [val_main_v0_eq, e0]
    exact funext fun i => by rw [← ix2_eta i]; exact (act_at _ _ _).symm
  rw [val_main_v3_eq, e0, e1, e2]
  exact funext fun i => by rw [← ix2_eta i]; exact (mod_at _ _ _ _ _).symm

end Cert.Ada
-- ==== Proof.lean ====
/-
  The proof of `Cert.Claim`: the programs' frames, the references' frames, and the equations of the backward MLP call
  (Proof/BwdClose.lean), of the forward MLP call with the loss (Proof/FwdClose.lean), of the mixer's backward call
  (Proof/MixClose.lean) and of the second weight's gradient (Proof/WgClose.lean) with the derivatives of the forward lines, and
  of the mixers' forward call (Proof/InClose.lean) and of the conditioning vectors (Proof/AdaClose.lean) with the forward
  lines.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.BwdClose
public import proofs.«01_k».proof.Proof.FwdClose
public import proofs.«01_k».proof.Proof.MixSame
public import proofs.«01_k».proof.Proof.MixClose
public import proofs.«01_k».proof.Proof.WgClose
public import proofs.«01_k».proof.Proof.InClose
public import proofs.«01_k».proof.Proof.AdaClose
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run m ρ)

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run m ρ)

theorem frame_kernel3 : Cert.quiescent_Kernel3 := fun m ρ _ => Cert.MixFrame.bits m ρ

theorem frame_ideal3 : Cert.quiescent_Kernel3Ideal := fun m ρ _ => Cert.Mix.ends m ρ

theorem frame_reference3 : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Value.run m ρ)

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run m ρ)

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite2.Gen.facts, Cert.Pre_finite3.Gen.facts,
  frame_kernel, frame_ideal, fun m ρ _ => frame_ideal m ρ trivial, frame_reference, fun m ρ _ => frame_reference m ρ trivial,
  frame_kernel2, frame_ideal2, fun m ρ _ => frame_ideal2 m ρ trivial, frame_reference2, fun m ρ _ => frame_reference2 m ρ trivial,
  frame_kernel3, frame_ideal3, fun m ρ _ => frame_ideal3 m ρ trivial, frame_reference3, fun m ρ _ => frame_reference3 m ρ trivial,
  frame_kernel4, frame_ideal4, frame_reference4, frame_kernel5, frame_ideal5, frame_reference5,
  frame_kernel6, frame_ideal6, frame_reference6,
  trivial, Cert.KernelIdeal.Bwd.equal, trivial, Cert.Kernel2Ideal.Fwd.equal, trivial, Cert.Mix.equal,
  trivial, Cert.Kernel4Ideal.Wg.equal, trivial, Cert.InMix.equal, trivial, Cert.Ada.equal⟩

end Cert.Proof

end
